-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXReferenceIdeal (m : (ℓ : Loc Cert.DownXReferenceIdeal.nD Cert.DownXReferenceIdeal.τ Cert.DownXReferenceIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWReferenceIdeal (m : (ℓ : Loc Cert.UpWReferenceIdeal.nD Cert.UpWReferenceIdeal.τ Cert.UpWReferenceIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXReferenceIdeal (m : (ℓ : Loc Cert.UpXReferenceIdeal.nD Cert.UpXReferenceIdeal.τ Cert.UpXReferenceIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXReferenceIdeal (m : (ℓ : Loc Cert.OutXReferenceIdeal.nD Cert.OutXReferenceIdeal.τ Cert.OutXReferenceIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXReferenceIdeal (m : (ℓ : Loc Cert.InXReferenceIdeal.nD Cert.InXReferenceIdeal.τ Cert.InXReferenceIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWReferenceIdeal (m : (ℓ : Loc Cert.GateWReferenceIdeal.nD Cert.GateWReferenceIdeal.τ Cert.GateWReferenceIdeal.sig) → Buf (Elt Ideal) ℓ) : Prop :=
  True

def Pre_GateX (m : (ℓ : Loc Cert.GateX.nD Cert.GateX.τ Cert.GateX.sig) → Buf (Elt Bits) ℓ) : Prop :=
  True

def Pre_GateXIdeal (m : (ℓ : Loc Cert.GateXIdeal.nD Cert.GateXIdeal.τ Cert.GateXIdeal.sig) → Buf (Elt Ideal) ℓ) : Prop :=
  True

def Pre_GateXReferenceIdeal (m : (ℓ : Loc Cert.GateXReferenceIdeal.nD Cert.GateXReferenceIdeal.τ Cert.GateXReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_PleW (m : (ℓ : Loc Cert.PleW.nD Cert.PleW.τ Cert.PleW.sig) → Buf (Elt Bits) ℓ) : Prop :=
  True

def Pre_PleWIdeal (m : (ℓ : Loc Cert.PleWIdeal.nD Cert.PleWIdeal.τ Cert.PleWIdeal.sig) → Buf (Elt Ideal) ℓ) : Prop :=
  True

def Pre_PleWReferenceIdeal (m : (ℓ : Loc Cert.PleWReferenceIdeal.nD Cert.PleWReferenceIdeal.τ Cert.PleWReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_PoolX (m : (ℓ : Loc Cert.PoolX.nD Cert.PoolX.τ Cert.PoolX.sig) → Buf (Elt Bits) ℓ) : Prop :=
  True

def Pre_PoolXIdeal (m : (ℓ : Loc Cert.PoolXIdeal.nD Cert.PoolXIdeal.τ Cert.PoolXIdeal.sig) → Buf (Elt Ideal) ℓ) : Prop :=
  True

def Pre_PoolXReferenceIdeal (m : (ℓ : Loc Cert.PoolXReferenceIdeal.nD Cert.PoolXReferenceIdeal.τ Cert.PoolXReferenceIdeal.sig) → Buf (Elt Ideal) ℓ) : Prop :=
  True

def Pre_PoolW (m : (ℓ : Loc Cert.PoolW.nD Cert.PoolW.τ Cert.PoolW.sig) → Buf (Elt Bits) ℓ) : Prop :=
  True

def Pre_PoolWIdeal (m : (ℓ : Loc Cert.PoolWIdeal.nD Cert.PoolWIdeal.τ Cert.PoolWIdeal.sig) → Buf (Elt Ideal) ℓ) : Prop :=
  True

def Pre_PoolWReferenceIdeal (m : (ℓ : Loc Cert.PoolWReferenceIdeal.nD Cert.PoolWReferenceIdeal.τ Cert.PoolWReferenceIdeal.sig) → Buf (Elt Ideal) ℓ) : Prop :=
  True

def Pre_MeansX (m : (ℓ : Loc Cert.MeansX.nD Cert.MeansX.τ Cert.MeansX.sig) → Buf (Elt Bits) ℓ) : Prop :=
  True

def Pre_MeansXIdeal (m : (ℓ : Loc Cert.MeansXIdeal.nD Cert.MeansXIdeal.τ Cert.MeansXIdeal.sig) → Buf (Elt Ideal) ℓ) : Prop :=
  True

def Pre_MeansXIdeal_numbers [hPre_numbers : Cert.Pre_numbers.Facts] (m : (ℓ : Loc Cert.MeansXIdeal.nD Cert.MeansXIdeal.τ Cert.MeansXIdeal.sig) → Buf (Elt Ideal) ℓ) : Prop :=
  ∀ c : Dev Cert.MeansXIdeal.nD,
    (Cert.Pre_numbers.fn (F := Ideal) (m ((c.tc : Thread Cert.MeansXIdeal.nD Cert.MeansXIdeal.τ).loc Cert.MeansXIdeal.main_arg0)) (m ((c.tc : Thread Cert.MeansXIdeal.nD Cert.MeansXIdeal.τ).loc Cert.MeansXIdeal.main_arg1))) = (fun _ => 1#1)

def Pre_MeansXReferenceIdeal (m : (ℓ : Loc Cert.MeansXReferenceIdeal.nD Cert.MeansXReferenceIdeal.τ Cert.MeansXReferenceIdeal.sig) → Buf (Elt Ideal) ℓ) : Prop :=
  True

def Pre_MeansXReferenceIdeal_numbers [hPre_numbers : Cert.Pre_numbers.Facts] (m : (ℓ : Loc Cert.MeansXReferenceIdeal.nD Cert.MeansXReferenceIdeal.τ Cert.MeansXReferenceIdeal.sig) → Buf (Elt Ideal) ℓ) : Prop :=
  ∀ c : Dev Cert.MeansXReferenceIdeal.nD,
    (Cert.Pre_numbers.fn (F := Ideal) (m ((c.tc : Thread Cert.MeansXReferenceIdeal.nD Cert.MeansXReferenceIdeal.τ).loc Cert.MeansXReferenceIdeal.main_arg0)) (m ((c.tc : Thread Cert.MeansXReferenceIdeal.nD Cert.MeansXReferenceIdeal.τ).loc Cert.MeansXReferenceIdeal.main_arg1))) = (fun _ => 1#1)

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolReferenceIdeal (m : (ℓ : Loc Cert.AdamPoolReferenceIdeal.nD Cert.AdamPoolReferenceIdeal.τ Cert.AdamPoolReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleReferenceIdeal (m : (ℓ : Loc Cert.AdamPleReferenceIdeal.nD Cert.AdamPleReferenceIdeal.τ Cert.AdamPleReferenceIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXReferenceIdeal [hDownXReferenceIdeal : Cert.DownXReferenceIdeal.Facts] : Prop :=
  ∀ (m : (ℓ : Loc Cert.DownXReferenceIdeal.nD Cert.DownXReferenceIdeal.τ Cert.DownXReferenceIdeal.sig) → Buf (Elt Ideal) ℓ) (g : Dev Cert.DownXReferenceIdeal.nD → PrngReg), Pre_DownXReferenceIdeal m →
    θ_run (Cert.DownXReferenceIdeal.defs (F := Ideal)) (onTc (τ := Cert.DownXReferenceIdeal.τ) (Cert.DownXReferenceIdeal.main (F := Ideal))) ⟨m, fun _ => 0, g⟩ (fun r => (∀ c : Dev Cert.DownXReferenceIdeal.nD,
      r.2.mem ((c.tc : Thread Cert.DownXReferenceIdeal.nD Cert.DownXReferenceIdeal.τ).loc Cert.DownXReferenceIdeal.main_arg0) = m ((c.tc : Thread Cert.DownXReferenceIdeal.nD Cert.DownXReferenceIdeal.τ).loc Cert.DownXReferenceIdeal.main_arg0)
      ∧ r.2.mem ((c.tc : Thread Cert.DownXReferenceIdeal.nD Cert.DownXReferenceIdeal.τ).loc Cert.DownXReferenceIdeal.main_arg1) = m ((c.tc : Thread Cert.DownXReferenceIdeal.nD Cert.DownXReferenceIdeal.τ).loc Cert.DownXReferenceIdeal.main_arg1)
      ∧ r.2.mem ((c.tc : Thread Cert.DownXReferenceIdeal.nD Cert.DownXReferenceIdeal.τ).loc Cert.DownXReferenceIdeal.main_arg2) = m ((c.tc : Thread Cert.DownXReferenceIdeal.nD Cert.DownXReferenceIdeal.τ).loc Cert.DownXReferenceIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWReferenceIdeal [hUpWReferenceIdeal : Cert.UpWReferenceIdeal.Facts] : Prop :=
  ∀ (m : (ℓ : Loc Cert.UpWReferenceIdeal.nD Cert.UpWReferenceIdeal.τ Cert.UpWReferenceIdeal.sig) → Buf (Elt Ideal) ℓ) (g : Dev Cert.UpWReferenceIdeal.nD → PrngReg), Pre_UpWReferenceIdeal m →
    θ_run (Cert.UpWReferenceIdeal.defs (F := Ideal)) (onTc (τ := Cert.UpWReferenceIdeal.τ) (Cert.UpWReferenceIdeal.main (F := Ideal))) ⟨m, fun _ => 0, g⟩ (fun r => (∀ c : Dev Cert.UpWReferenceIdeal.nD,
      r.2.mem ((c.tc : Thread Cert.UpWReferenceIdeal.nD Cert.UpWReferenceIdeal.τ).loc Cert.UpWReferenceIdeal.main_arg0) = m ((c.tc : Thread Cert.UpWReferenceIdeal.nD Cert.UpWReferenceIdeal.τ).loc Cert.UpWReferenceIdeal.main_arg0)
      ∧ r.2.mem ((c.tc : Thread Cert.UpWReferenceIdeal.nD Cert.UpWReferenceIdeal.τ).loc Cert.UpWReferenceIdeal.main_arg1) = m ((c.tc : Thread Cert.UpWReferenceIdeal.nD Cert.UpWReferenceIdeal.τ).loc Cert.UpWReferenceIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ r.2.sem = fun _ => 0)

def quiescent_UpXReferenceIdeal [hUpXReferenceIdeal : Cert.UpXReferenceIdeal.Facts] : Prop :=
  ∀ (m : (ℓ : Loc Cert.UpXReferenceIdeal.nD Cert.UpXReferenceIdeal.τ Cert.UpXReferenceIdeal.sig) → Buf (Elt Ideal) ℓ) (g : Dev Cert.UpXReferenceIdeal.nD → PrngReg), Pre_UpXReferenceIdeal m →
    θ_run (Cert.UpXReferenceIdeal.defs (F := Ideal)) (onTc (τ := Cert.UpXReferenceIdeal.τ) (Cert.UpXReferenceIdeal.main (F := Ideal))) ⟨m, fun _ => 0, g⟩ (fun r => (∀ c : Dev Cert.UpXReferenceIdeal.nD,
      r.2.mem ((c.tc : Thread Cert.UpXReferenceIdeal.nD Cert.UpXReferenceIdeal.τ).loc Cert.UpXReferenceIdeal.main_arg0) = m ((c.tc : Thread Cert.UpXReferenceIdeal.nD Cert.UpXReferenceIdeal.τ).loc Cert.UpXReferenceIdeal.main_arg0)
      ∧ r.2.mem ((c.tc : Thread Cert.UpXReferenceIdeal.nD Cert.UpXReferenceIdeal.τ).loc Cert.UpXReferenceIdeal.main_arg1) = m ((c.tc : Thread Cert.UpXReferenceIdeal.nD Cert.UpXReferenceIdeal.τ).loc Cert.UpXReferenceIdeal.main_arg1)
      ∧ r.2.mem ((c.tc : Thread Cert.UpXReferenceIdeal.nD Cert.UpXReferenceIdeal.τ).loc Cert.UpXReferenceIdeal.main_arg2) = m ((c.tc : Thread Cert.UpXReferenceIdeal.nD Cert.UpXReferenceIdeal.τ).loc Cert.UpXReferenceIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXReferenceIdeal [hOutXReferenceIdeal : Cert.OutXReferenceIdeal.Facts] : Prop :=
  ∀ (m : (ℓ : Loc Cert.OutXReferenceIdeal.nD Cert.OutXReferenceIdeal.τ Cert.OutXReferenceIdeal.sig) → Buf (Elt Ideal) ℓ) (g : Dev Cert.OutXReferenceIdeal.nD → PrngReg), Pre_OutXReferenceIdeal m →
    θ_run (Cert.OutXReferenceIdeal.defs (F := Ideal)) (onTc (τ := Cert.OutXReferenceIdeal.τ) (Cert.OutXReferenceIdeal.main (F := Ideal))) ⟨m, fun _ => 0, g⟩ (fun r => (∀ c : Dev Cert.OutXReferenceIdeal.nD,
      r.2.mem ((c.tc : Thread Cert.OutXReferenceIdeal.nD Cert.OutXReferenceIdeal.τ).loc Cert.OutXReferenceIdeal.main_arg0) = m ((c.tc : Thread Cert.OutXReferenceIdeal.nD Cert.OutXReferenceIdeal.τ).loc Cert.OutXReferenceIdeal.main_arg0)
      ∧ r.2.mem ((c.tc : Thread Cert.OutXReferenceIdeal.nD Cert.OutXReferenceIdeal.τ).loc Cert.OutXReferenceIdeal.main_arg1) = m ((c.tc : Thread Cert.OutXReferenceIdeal.nD Cert.OutXReferenceIdeal.τ).loc Cert.OutXReferenceIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ r.2.sem = fun _ => 0)

def quiescent_InXReferenceIdeal [hInXReferenceIdeal : Cert.InXReferenceIdeal.Facts] : Prop :=
  ∀ (m : (ℓ : Loc Cert.InXReferenceIdeal.nD Cert.InXReferenceIdeal.τ Cert.InXReferenceIdeal.sig) → Buf (Elt Ideal) ℓ) (g : Dev Cert.InXReferenceIdeal.nD → PrngReg), Pre_InXReferenceIdeal m →
    θ_run (Cert.InXReferenceIdeal.defs (F := Ideal)) (onTc (τ := Cert.InXReferenceIdeal.τ) (Cert.InXReferenceIdeal.main (F := Ideal))) ⟨m, fun _ => 0, g⟩ (fun r => (∀ c : Dev Cert.InXReferenceIdeal.nD,
      r.2.mem ((c.tc : Thread Cert.InXReferenceIdeal.nD Cert.InXReferenceIdeal.τ).loc Cert.InXReferenceIdeal.main_arg0) = m ((c.tc : Thread Cert.InXReferenceIdeal.nD Cert.InXReferenceIdeal.τ).loc Cert.InXReferenceIdeal.main_arg0)
      ∧ r.2.mem ((c.tc : Thread Cert.InXReferenceIdeal.nD Cert.InXReferenceIdeal.τ).loc Cert.InXReferenceIdeal.main_arg1) = m ((c.tc : Thread Cert.InXReferenceIdeal.nD Cert.InXReferenceIdeal.τ).loc Cert.InXReferenceIdeal.main_arg1)
      ∧ r.2.mem ((c.tc : Thread Cert.InXReferenceIdeal.nD Cert.InXReferenceIdeal.τ).loc Cert.InXReferenceIdeal.main_arg2) = m ((c.tc : Thread Cert.InXReferenceIdeal.nD Cert.InXReferenceIdeal.τ).loc Cert.InXReferenceIdeal.main_arg2))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWReferenceIdeal [hGateWReferenceIdeal : Cert.GateWReferenceIdeal.Facts] : Prop :=
  ∀ (m : (ℓ : Loc Cert.GateWReferenceIdeal.nD Cert.GateWReferenceIdeal.τ Cert.GateWReferenceIdeal.sig) → Buf (Elt Ideal) ℓ) (g : Dev Cert.GateWReferenceIdeal.nD → PrngReg), Pre_GateWReferenceIdeal m →
    θ_run (Cert.GateWReferenceIdeal.defs (F := Ideal)) (onTc (τ := Cert.GateWReferenceIdeal.τ) (Cert.GateWReferenceIdeal.main (F := Ideal))) ⟨m, fun _ => 0, g⟩ (fun r => (∀ c : Dev Cert.GateWReferenceIdeal.nD,
      r.2.mem ((c.tc : Thread Cert.GateWReferenceIdeal.nD Cert.GateWReferenceIdeal.τ).loc Cert.GateWReferenceIdeal.main_arg0) = m ((c.tc : Thread Cert.GateWReferenceIdeal.nD Cert.GateWReferenceIdeal.τ).loc Cert.GateWReferenceIdeal.main_arg0)
      ∧ r.2.mem ((c.tc : Thread Cert.GateWReferenceIdeal.nD Cert.GateWReferenceIdeal.τ).loc Cert.GateWReferenceIdeal.main_arg1) = m ((c.tc : Thread Cert.GateWReferenceIdeal.nD Cert.GateWReferenceIdeal.τ).loc Cert.GateWReferenceIdeal.main_arg1))
      ∧ r.2.sem = fun _ => 0)

def quiescent_GateX [hGateX : Cert.GateX.Facts] : Prop :=
  ∀ (m : (ℓ : Loc Cert.GateX.nD Cert.GateX.τ Cert.GateX.sig) → Buf (Elt Bits) ℓ) (g : Dev Cert.GateX.nD → PrngReg), Pre_GateX m →
    θ_run (Cert.GateX.defs (F := Bits)) (onTc (τ := Cert.GateX.τ) (Cert.GateX.main (F := Bits))) ⟨m, fun _ => 0, g⟩ (fun r => (∀ c : Dev Cert.GateX.nD,
      r.2.mem ((c.tc : Thread Cert.GateX.nD Cert.GateX.τ).loc Cert.GateX.main_arg0) = m ((c.tc : Thread Cert.GateX.nD Cert.GateX.τ).loc Cert.GateX.main_arg0)
      ∧ r.2.mem ((c.tc : Thread Cert.GateX.nD Cert.GateX.τ).loc Cert.GateX.main_arg1) = m ((c.tc : Thread Cert.GateX.nD Cert.GateX.τ).loc Cert.GateX.main_arg1)
      ∧ r.2.mem ((c.tc : Thread Cert.GateX.nD Cert.GateX.τ).loc Cert.GateX.main_arg2) = m ((c.tc : Thread Cert.GateX.nD Cert.GateX.τ).loc Cert.GateX.main_arg2))
      ∧ r.2.sem = fun _ => 0)

def quiescent_GateXIdeal [hGateXIdeal : Cert.GateXIdeal.Facts] : Prop :=
  ∀ (m : (ℓ : Loc Cert.GateXIdeal.nD Cert.GateXIdeal.τ Cert.GateXIdeal.sig) → Buf (Elt Ideal) ℓ) (g : Dev Cert.GateXIdeal.nD → PrngReg), Pre_GateXIdeal m →
    θ_run (Cert.GateXIdeal.defs (F := Ideal)) (onTc (τ := Cert.GateXIdeal.τ) (Cert.GateXIdeal.main (F := Ideal))) ⟨m, fun _ => 0, g⟩ (fun r => (∀ c : Dev Cert.GateXIdeal.nD,
      r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
      ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
      ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2))
      ∧ r.2.sem = fun _ => 0)

def quiescent_GateXReferenceIdeal [hGateXReferenceIdeal : Cert.GateXReferenceIdeal.Facts] : Prop :=
  ∀ (m : (ℓ : Loc Cert.GateXReferenceIdeal.nD Cert.GateXReferenceIdeal.τ Cert.GateXReferenceIdeal.sig) → Buf (Elt Ideal) ℓ) (g : Dev Cert.GateXReferenceIdeal.nD → PrngReg), Pre_GateXReferenceIdeal m →
    θ_run (Cert.GateXReferenceIdeal.defs (F := Ideal)) (onTc (τ := Cert.GateXReferenceIdeal.τ) (Cert.GateXReferenceIdeal.main (F := Ideal))) ⟨m, fun _ => 0, g⟩ (fun r => (∀ c : Dev Cert.GateXReferenceIdeal.nD,
      r.2.mem ((c.tc : Thread Cert.GateXReferenceIdeal.nD Cert.GateXReferenceIdeal.τ).loc Cert.GateXReferenceIdeal.main_arg0) = m ((c.tc : Thread Cert.GateXReferenceIdeal.nD Cert.GateXReferenceIdeal.τ).loc Cert.GateXReferenceIdeal.main_arg0)
      ∧ r.2.mem ((c.tc : Thread Cert.GateXReferenceIdeal.nD Cert.GateXReferenceIdeal.τ).loc Cert.GateXReferenceIdeal.main_arg1) = m ((c.tc : Thread Cert.GateXReferenceIdeal.nD Cert.GateXReferenceIdeal.τ).loc Cert.GateXReferenceIdeal.main_arg1)
      ∧ r.2.mem ((c.tc : Thread Cert.GateXReferenceIdeal.nD Cert.GateXReferenceIdeal.τ).loc Cert.GateXReferenceIdeal.main_arg2) = m ((c.tc : Thread Cert.GateXReferenceIdeal.nD Cert.GateXReferenceIdeal.τ).loc Cert.GateXReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1))
      ∧ r.2.sem = fun _ => 0)

def quiescent_PleW [hPleW : Cert.PleW.Facts] : Prop :=
  ∀ (m : (ℓ : Loc Cert.PleW.nD Cert.PleW.τ Cert.PleW.sig) → Buf (Elt Bits) ℓ) (g : Dev Cert.PleW.nD → PrngReg), Pre_PleW m →
    θ_run (Cert.PleW.defs (F := Bits)) (onTc (τ := Cert.PleW.τ) (Cert.PleW.main (F := Bits))) ⟨m, fun _ => 0, g⟩ (fun r => (∀ c : Dev Cert.PleW.nD,
      r.2.mem ((c.tc : Thread Cert.PleW.nD Cert.PleW.τ).loc Cert.PleW.main_arg0) = m ((c.tc : Thread Cert.PleW.nD Cert.PleW.τ).loc Cert.PleW.main_arg0)
      ∧ r.2.mem ((c.tc : Thread Cert.PleW.nD Cert.PleW.τ).loc Cert.PleW.main_arg1) = m ((c.tc : Thread Cert.PleW.nD Cert.PleW.τ).loc Cert.PleW.main_arg1))
      ∧ r.2.sem = fun _ => 0)

def quiescent_PleWIdeal [hPleWIdeal : Cert.PleWIdeal.Facts] : Prop :=
  ∀ (m : (ℓ : Loc Cert.PleWIdeal.nD Cert.PleWIdeal.τ Cert.PleWIdeal.sig) → Buf (Elt Ideal) ℓ) (g : Dev Cert.PleWIdeal.nD → PrngReg), Pre_PleWIdeal m →
    θ_run (Cert.PleWIdeal.defs (F := Ideal)) (onTc (τ := Cert.PleWIdeal.τ) (Cert.PleWIdeal.main (F := Ideal))) ⟨m, fun _ => 0, g⟩ (fun r => (∀ c : Dev Cert.PleWIdeal.nD,
      r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
      ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ r.2.sem = fun _ => 0)

def quiescent_PleWReferenceIdeal [hPleWReferenceIdeal : Cert.PleWReferenceIdeal.Facts] : Prop :=
  ∀ (m : (ℓ : Loc Cert.PleWReferenceIdeal.nD Cert.PleWReferenceIdeal.τ Cert.PleWReferenceIdeal.sig) → Buf (Elt Ideal) ℓ) (g : Dev Cert.PleWReferenceIdeal.nD → PrngReg), Pre_PleWReferenceIdeal m →
    θ_run (Cert.PleWReferenceIdeal.defs (F := Ideal)) (onTc (τ := Cert.PleWReferenceIdeal.τ) (Cert.PleWReferenceIdeal.main (F := Ideal))) ⟨m, fun _ => 0, g⟩ (fun r => (∀ c : Dev Cert.PleWReferenceIdeal.nD,
      r.2.mem ((c.tc : Thread Cert.PleWReferenceIdeal.nD Cert.PleWReferenceIdeal.τ).loc Cert.PleWReferenceIdeal.main_arg0) = m ((c.tc : Thread Cert.PleWReferenceIdeal.nD Cert.PleWReferenceIdeal.τ).loc Cert.PleWReferenceIdeal.main_arg0)
      ∧ r.2.mem ((c.tc : Thread Cert.PleWReferenceIdeal.nD Cert.PleWReferenceIdeal.τ).loc Cert.PleWReferenceIdeal.main_arg1) = m ((c.tc : Thread Cert.PleWReferenceIdeal.nD Cert.PleWReferenceIdeal.τ).loc Cert.PleWReferenceIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolX [hPoolX : Cert.PoolX.Facts] : Prop :=
  ∀ (m : (ℓ : Loc Cert.PoolX.nD Cert.PoolX.τ Cert.PoolX.sig) → Buf (Elt Bits) ℓ) (g : Dev Cert.PoolX.nD → PrngReg), Pre_PoolX m →
    θ_run (Cert.PoolX.defs (F := Bits)) (onTc (τ := Cert.PoolX.τ) (Cert.PoolX.main (F := Bits))) ⟨m, fun _ => 0, g⟩ (fun r => (∀ c : Dev Cert.PoolX.nD,
      r.2.mem ((c.tc : Thread Cert.PoolX.nD Cert.PoolX.τ).loc Cert.PoolX.main_arg0) = m ((c.tc : Thread Cert.PoolX.nD Cert.PoolX.τ).loc Cert.PoolX.main_arg0)
      ∧ r.2.mem ((c.tc : Thread Cert.PoolX.nD Cert.PoolX.τ).loc Cert.PoolX.main_arg1) = m ((c.tc : Thread Cert.PoolX.nD Cert.PoolX.τ).loc Cert.PoolX.main_arg1)
      ∧ r.2.mem ((c.tc : Thread Cert.PoolX.nD Cert.PoolX.τ).loc Cert.PoolX.main_arg2) = m ((c.tc : Thread Cert.PoolX.nD Cert.PoolX.τ).loc Cert.PoolX.main_arg2)
      ∧ r.2.mem ((c.tc : Thread Cert.PoolX.nD Cert.PoolX.τ).loc Cert.PoolX.main_arg3) = m ((c.tc : Thread Cert.PoolX.nD Cert.PoolX.τ).loc Cert.PoolX.main_arg3))
      ∧ r.2.sem = fun _ => 0)

def quiescent_PoolXIdeal [hPoolXIdeal : Cert.PoolXIdeal.Facts] : Prop :=
  ∀ (m : (ℓ : Loc Cert.PoolXIdeal.nD Cert.PoolXIdeal.τ Cert.PoolXIdeal.sig) → Buf (Elt Ideal) ℓ) (g : Dev Cert.PoolXIdeal.nD → PrngReg), Pre_PoolXIdeal m →
    θ_run (Cert.PoolXIdeal.defs (F := Ideal)) (onTc (τ := Cert.PoolXIdeal.τ) (Cert.PoolXIdeal.main (F := Ideal))) ⟨m, fun _ => 0, g⟩ (fun r => (∀ c : Dev Cert.PoolXIdeal.nD,
      r.2.mem ((c.tc : Thread Cert.PoolXIdeal.nD Cert.PoolXIdeal.τ).loc Cert.PoolXIdeal.main_arg0) = m ((c.tc : Thread Cert.PoolXIdeal.nD Cert.PoolXIdeal.τ).loc Cert.PoolXIdeal.main_arg0)
      ∧ r.2.mem ((c.tc : Thread Cert.PoolXIdeal.nD Cert.PoolXIdeal.τ).loc Cert.PoolXIdeal.main_arg1) = m ((c.tc : Thread Cert.PoolXIdeal.nD Cert.PoolXIdeal.τ).loc Cert.PoolXIdeal.main_arg1)
      ∧ r.2.mem ((c.tc : Thread Cert.PoolXIdeal.nD Cert.PoolXIdeal.τ).loc Cert.PoolXIdeal.main_arg2) = m ((c.tc : Thread Cert.PoolXIdeal.nD Cert.PoolXIdeal.τ).loc Cert.PoolXIdeal.main_arg2)
      ∧ r.2.mem ((c.tc : Thread Cert.PoolXIdeal.nD Cert.PoolXIdeal.τ).loc Cert.PoolXIdeal.main_arg3) = m ((c.tc : Thread Cert.PoolXIdeal.nD Cert.PoolXIdeal.τ).loc Cert.PoolXIdeal.main_arg3))
      ∧ r.2.sem = fun _ => 0)

def quiescent_PoolXReferenceIdeal [hPoolXReferenceIdeal : Cert.PoolXReferenceIdeal.Facts] : Prop :=
  ∀ (m : (ℓ : Loc Cert.PoolXReferenceIdeal.nD Cert.PoolXReferenceIdeal.τ Cert.PoolXReferenceIdeal.sig) → Buf (Elt Ideal) ℓ) (g : Dev Cert.PoolXReferenceIdeal.nD → PrngReg), Pre_PoolXReferenceIdeal m →
    θ_run (Cert.PoolXReferenceIdeal.defs (F := Ideal)) (onTc (τ := Cert.PoolXReferenceIdeal.τ) (Cert.PoolXReferenceIdeal.main (F := Ideal))) ⟨m, fun _ => 0, g⟩ (fun r => (∀ c : Dev Cert.PoolXReferenceIdeal.nD,
      r.2.mem ((c.tc : Thread Cert.PoolXReferenceIdeal.nD Cert.PoolXReferenceIdeal.τ).loc Cert.PoolXReferenceIdeal.main_arg0) = m ((c.tc : Thread Cert.PoolXReferenceIdeal.nD Cert.PoolXReferenceIdeal.τ).loc Cert.PoolXReferenceIdeal.main_arg0)
      ∧ r.2.mem ((c.tc : Thread Cert.PoolXReferenceIdeal.nD Cert.PoolXReferenceIdeal.τ).loc Cert.PoolXReferenceIdeal.main_arg1) = m ((c.tc : Thread Cert.PoolXReferenceIdeal.nD Cert.PoolXReferenceIdeal.τ).loc Cert.PoolXReferenceIdeal.main_arg1)
      ∧ r.2.mem ((c.tc : Thread Cert.PoolXReferenceIdeal.nD Cert.PoolXReferenceIdeal.τ).loc Cert.PoolXReferenceIdeal.main_arg2) = m ((c.tc : Thread Cert.PoolXReferenceIdeal.nD Cert.PoolXReferenceIdeal.τ).loc Cert.PoolXReferenceIdeal.main_arg2)
      ∧ r.2.mem ((c.tc : Thread Cert.PoolXReferenceIdeal.nD Cert.PoolXReferenceIdeal.τ).loc Cert.PoolXReferenceIdeal.main_arg3) = m ((c.tc : Thread Cert.PoolXReferenceIdeal.nD Cert.PoolXReferenceIdeal.τ).loc Cert.PoolXReferenceIdeal.main_arg3))
      ∧ r.2.sem = fun _ => 0)

def quiescent_PoolW [hPoolW : Cert.PoolW.Facts] : Prop :=
  ∀ (m : (ℓ : Loc Cert.PoolW.nD Cert.PoolW.τ Cert.PoolW.sig) → Buf (Elt Bits) ℓ) (g : Dev Cert.PoolW.nD → PrngReg), Pre_PoolW m →
    θ_run (Cert.PoolW.defs (F := Bits)) (onTc (τ := Cert.PoolW.τ) (Cert.PoolW.main (F := Bits))) ⟨m, fun _ => 0, g⟩ (fun r => (∀ c : Dev Cert.PoolW.nD,
      r.2.mem ((c.tc : Thread Cert.PoolW.nD Cert.PoolW.τ).loc Cert.PoolW.main_arg0) = m ((c.tc : Thread Cert.PoolW.nD Cert.PoolW.τ).loc Cert.PoolW.main_arg0)
      ∧ r.2.mem ((c.tc : Thread Cert.PoolW.nD Cert.PoolW.τ).loc Cert.PoolW.main_arg1) = m ((c.tc : Thread Cert.PoolW.nD Cert.PoolW.τ).loc Cert.PoolW.main_arg1))
      ∧ r.2.sem = fun _ => 0)

def quiescent_PoolWIdeal [hPoolWIdeal : Cert.PoolWIdeal.Facts] : Prop :=
  ∀ (m : (ℓ : Loc Cert.PoolWIdeal.nD Cert.PoolWIdeal.τ Cert.PoolWIdeal.sig) → Buf (Elt Ideal) ℓ) (g : Dev Cert.PoolWIdeal.nD → PrngReg), Pre_PoolWIdeal m →
    θ_run (Cert.PoolWIdeal.defs (F := Ideal)) (onTc (τ := Cert.PoolWIdeal.τ) (Cert.PoolWIdeal.main (F := Ideal))) ⟨m, fun _ => 0, g⟩ (fun r => (∀ c : Dev Cert.PoolWIdeal.nD,
      r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
      ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1))
      ∧ r.2.sem = fun _ => 0)

def quiescent_PoolWReferenceIdeal [hPoolWReferenceIdeal : Cert.PoolWReferenceIdeal.Facts] : Prop :=
  ∀ (m : (ℓ : Loc Cert.PoolWReferenceIdeal.nD Cert.PoolWReferenceIdeal.τ Cert.PoolWReferenceIdeal.sig) → Buf (Elt Ideal) ℓ) (g : Dev Cert.PoolWReferenceIdeal.nD → PrngReg), Pre_PoolWReferenceIdeal m →
    θ_run (Cert.PoolWReferenceIdeal.defs (F := Ideal)) (onTc (τ := Cert.PoolWReferenceIdeal.τ) (Cert.PoolWReferenceIdeal.main (F := Ideal))) ⟨m, fun _ => 0, g⟩ (fun r => (∀ c : Dev Cert.PoolWReferenceIdeal.nD,
      r.2.mem ((c.tc : Thread Cert.PoolWReferenceIdeal.nD Cert.PoolWReferenceIdeal.τ).loc Cert.PoolWReferenceIdeal.main_arg0) = m ((c.tc : Thread Cert.PoolWReferenceIdeal.nD Cert.PoolWReferenceIdeal.τ).loc Cert.PoolWReferenceIdeal.main_arg0)
      ∧ r.2.mem ((c.tc : Thread Cert.PoolWReferenceIdeal.nD Cert.PoolWReferenceIdeal.τ).loc Cert.PoolWReferenceIdeal.main_arg1) = m ((c.tc : Thread Cert.PoolWReferenceIdeal.nD Cert.PoolWReferenceIdeal.τ).loc Cert.PoolWReferenceIdeal.main_arg1))
      ∧ r.2.sem = fun _ => 0)

def quiescent_MeansX [hMeansX : Cert.MeansX.Facts] : Prop :=
  ∀ (m : (ℓ : Loc Cert.MeansX.nD Cert.MeansX.τ Cert.MeansX.sig) → Buf (Elt Bits) ℓ) (g : Dev Cert.MeansX.nD → PrngReg), Pre_MeansX m →
    θ_run (Cert.MeansX.defs (F := Bits)) (onTc (τ := Cert.MeansX.τ) (Cert.MeansX.main (F := Bits))) ⟨m, fun _ => 0, g⟩ (fun r => (∀ c : Dev Cert.MeansX.nD,
      r.2.mem ((c.tc : Thread Cert.MeansX.nD Cert.MeansX.τ).loc Cert.MeansX.main_arg0) = m ((c.tc : Thread Cert.MeansX.nD Cert.MeansX.τ).loc Cert.MeansX.main_arg0)
      ∧ r.2.mem ((c.tc : Thread Cert.MeansX.nD Cert.MeansX.τ).loc Cert.MeansX.main_arg1) = m ((c.tc : Thread Cert.MeansX.nD Cert.MeansX.τ).loc Cert.MeansX.main_arg1))
      ∧ r.2.sem = fun _ => 0)

def quiescent_MeansXIdeal [hMeansXIdeal : Cert.MeansXIdeal.Facts] : Prop :=
  ∀ (m : (ℓ : Loc Cert.MeansXIdeal.nD Cert.MeansXIdeal.τ Cert.MeansXIdeal.sig) → Buf (Elt Ideal) ℓ) (g : Dev Cert.MeansXIdeal.nD → PrngReg), Pre_MeansXIdeal m →
    θ_run (Cert.MeansXIdeal.defs (F := Ideal)) (onTc (τ := Cert.MeansXIdeal.τ) (Cert.MeansXIdeal.main (F := Ideal))) ⟨m, fun _ => 0, g⟩ (fun r => (∀ c : Dev Cert.MeansXIdeal.nD,
      r.2.mem ((c.tc : Thread Cert.MeansXIdeal.nD Cert.MeansXIdeal.τ).loc Cert.MeansXIdeal.main_arg0) = m ((c.tc : Thread Cert.MeansXIdeal.nD Cert.MeansXIdeal.τ).loc Cert.MeansXIdeal.main_arg0)
      ∧ r.2.mem ((c.tc : Thread Cert.MeansXIdeal.nD Cert.MeansXIdeal.τ).loc Cert.MeansXIdeal.main_arg1) = m ((c.tc : Thread Cert.MeansXIdeal.nD Cert.MeansXIdeal.τ).loc Cert.MeansXIdeal.main_arg1))
      ∧ r.2.sem = fun _ => 0)

def quiescent_MeansXIdeal_pre_numbers [hMeansXIdeal : Cert.MeansXIdeal.Facts] [hPre_numbers : Cert.Pre_numbers.Facts] : Prop :=
  ∀ (m : (ℓ : Loc Cert.MeansXIdeal.nD Cert.MeansXIdeal.τ Cert.MeansXIdeal.sig) → Buf (Elt Ideal) ℓ) (g : Dev Cert.MeansXIdeal.nD → PrngReg), Pre_MeansXIdeal_numbers m →
    θ_run (Cert.MeansXIdeal.defs (F := Ideal)) (onTc (τ := Cert.MeansXIdeal.τ) (Cert.MeansXIdeal.main (F := Ideal))) ⟨m, fun _ => 0, g⟩ (fun r => (∀ c : Dev Cert.MeansXIdeal.nD,
      r.2.mem ((c.tc : Thread Cert.MeansXIdeal.nD Cert.MeansXIdeal.τ).loc Cert.MeansXIdeal.main_arg0) = m ((c.tc : Thread Cert.MeansXIdeal.nD Cert.MeansXIdeal.τ).loc Cert.MeansXIdeal.main_arg0)
      ∧ r.2.mem ((c.tc : Thread Cert.MeansXIdeal.nD Cert.MeansXIdeal.τ).loc Cert.MeansXIdeal.main_arg1) = m ((c.tc : Thread Cert.MeansXIdeal.nD Cert.MeansXIdeal.τ).loc Cert.MeansXIdeal.main_arg1))
      ∧ r.2.sem = fun _ => 0)

def quiescent_MeansXReferenceIdeal [hMeansXReferenceIdeal : Cert.MeansXReferenceIdeal.Facts] : Prop :=
  ∀ (m : (ℓ : Loc Cert.MeansXReferenceIdeal.nD Cert.MeansXReferenceIdeal.τ Cert.MeansXReferenceIdeal.sig) → Buf (Elt Ideal) ℓ) (g : Dev Cert.MeansXReferenceIdeal.nD → PrngReg), Pre_MeansXReferenceIdeal m →
    θ_run (Cert.MeansXReferenceIdeal.defs (F := Ideal)) (onTc (τ := Cert.MeansXReferenceIdeal.τ) (Cert.MeansXReferenceIdeal.main (F := Ideal))) ⟨m, fun _ => 0, g⟩ (fun r => (∀ c : Dev Cert.MeansXReferenceIdeal.nD,
      r.2.mem ((c.tc : Thread Cert.MeansXReferenceIdeal.nD Cert.MeansXReferenceIdeal.τ).loc Cert.MeansXReferenceIdeal.main_arg0) = m ((c.tc : Thread Cert.MeansXReferenceIdeal.nD Cert.MeansXReferenceIdeal.τ).loc Cert.MeansXReferenceIdeal.main_arg0)
      ∧ r.2.mem ((c.tc : Thread Cert.MeansXReferenceIdeal.nD Cert.MeansXReferenceIdeal.τ).loc Cert.MeansXReferenceIdeal.main_arg1) = m ((c.tc : Thread Cert.MeansXReferenceIdeal.nD Cert.MeansXReferenceIdeal.τ).loc Cert.MeansXReferenceIdeal.main_arg1))
      ∧ r.2.sem = fun _ => 0)

def quiescent_MeansXReferenceIdeal_pre_numbers [hMeansXReferenceIdeal : Cert.MeansXReferenceIdeal.Facts] [hPre_numbers : Cert.Pre_numbers.Facts] : Prop :=
  ∀ (m : (ℓ : Loc Cert.MeansXReferenceIdeal.nD Cert.MeansXReferenceIdeal.τ Cert.MeansXReferenceIdeal.sig) → Buf (Elt Ideal) ℓ) (g : Dev Cert.MeansXReferenceIdeal.nD → PrngReg), Pre_MeansXReferenceIdeal_numbers m →
    θ_run (Cert.MeansXReferenceIdeal.defs (F := Ideal)) (onTc (τ := Cert.MeansXReferenceIdeal.τ) (Cert.MeansXReferenceIdeal.main (F := Ideal))) ⟨m, fun _ => 0, g⟩ (fun r => (∀ c : Dev Cert.MeansXReferenceIdeal.nD,
      r.2.mem ((c.tc : Thread Cert.MeansXReferenceIdeal.nD Cert.MeansXReferenceIdeal.τ).loc Cert.MeansXReferenceIdeal.main_arg0) = m ((c.tc : Thread Cert.MeansXReferenceIdeal.nD Cert.MeansXReferenceIdeal.τ).loc Cert.MeansXReferenceIdeal.main_arg0)
      ∧ r.2.mem ((c.tc : Thread Cert.MeansXReferenceIdeal.nD Cert.MeansXReferenceIdeal.τ).loc Cert.MeansXReferenceIdeal.main_arg1) = m ((c.tc : Thread Cert.MeansXReferenceIdeal.nD Cert.MeansXReferenceIdeal.τ).loc Cert.MeansXReferenceIdeal.main_arg1))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ r.2.sem = fun _ => 0)

def quiescent_AdamPoolReferenceIdeal [hAdamPoolReferenceIdeal : Cert.AdamPoolReferenceIdeal.Facts] : Prop :=
  ∀ (m : (ℓ : Loc Cert.AdamPoolReferenceIdeal.nD Cert.AdamPoolReferenceIdeal.τ Cert.AdamPoolReferenceIdeal.sig) → Buf (Elt Ideal) ℓ) (g : Dev Cert.AdamPoolReferenceIdeal.nD → PrngReg), Pre_AdamPoolReferenceIdeal m →
    θ_run (Cert.AdamPoolReferenceIdeal.defs (F := Ideal)) (onTc (τ := Cert.AdamPoolReferenceIdeal.τ) (Cert.AdamPoolReferenceIdeal.main (F := Ideal))) ⟨m, fun _ => 0, g⟩ (fun r => (∀ c : Dev Cert.AdamPoolReferenceIdeal.nD,
      r.2.mem ((c.tc : Thread Cert.AdamPoolReferenceIdeal.nD Cert.AdamPoolReferenceIdeal.τ).loc Cert.AdamPoolReferenceIdeal.main_arg0) = m ((c.tc : Thread Cert.AdamPoolReferenceIdeal.nD Cert.AdamPoolReferenceIdeal.τ).loc Cert.AdamPoolReferenceIdeal.main_arg0)
      ∧ r.2.mem ((c.tc : Thread Cert.AdamPoolReferenceIdeal.nD Cert.AdamPoolReferenceIdeal.τ).loc Cert.AdamPoolReferenceIdeal.main_arg1) = m ((c.tc : Thread Cert.AdamPoolReferenceIdeal.nD Cert.AdamPoolReferenceIdeal.τ).loc Cert.AdamPoolReferenceIdeal.main_arg1)
      ∧ r.2.mem ((c.tc : Thread Cert.AdamPoolReferenceIdeal.nD Cert.AdamPoolReferenceIdeal.τ).loc Cert.AdamPoolReferenceIdeal.main_arg2) = m ((c.tc : Thread Cert.AdamPoolReferenceIdeal.nD Cert.AdamPoolReferenceIdeal.τ).loc Cert.AdamPoolReferenceIdeal.main_arg2)
      ∧ r.2.mem ((c.tc : Thread Cert.AdamPoolReferenceIdeal.nD Cert.AdamPoolReferenceIdeal.τ).loc Cert.AdamPoolReferenceIdeal.main_arg3) = m ((c.tc : Thread Cert.AdamPoolReferenceIdeal.nD Cert.AdamPoolReferenceIdeal.τ).loc Cert.AdamPoolReferenceIdeal.main_arg3)
      ∧ r.2.mem ((c.tc : Thread Cert.AdamPoolReferenceIdeal.nD Cert.AdamPoolReferenceIdeal.τ).loc Cert.AdamPoolReferenceIdeal.main_arg4) = m ((c.tc : Thread Cert.AdamPoolReferenceIdeal.nD Cert.AdamPoolReferenceIdeal.τ).loc Cert.AdamPoolReferenceIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6)
      ∧ r.2.mem ((c.tc : Thread Cert.AdamUp.nD Cert.AdamUp.τ).loc Cert.AdamUp.main_arg7) = m ((c.tc : Thread Cert.AdamUp.nD Cert.AdamUp.τ).loc Cert.AdamUp.main_arg7)
      ∧ r.2.mem ((c.tc : Thread Cert.AdamUp.nD Cert.AdamUp.τ).loc Cert.AdamUp.main_arg8) = m ((c.tc : Thread Cert.AdamUp.nD Cert.AdamUp.τ).loc Cert.AdamUp.main_arg8))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
      ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7)
      ∧ r.2.mem ((c.tc : Thread Cert.AdamUpIdeal.nD Cert.AdamUpIdeal.τ).loc Cert.AdamUpIdeal.main_arg8) = m ((c.tc : Thread Cert.AdamUpIdeal.nD Cert.AdamUpIdeal.τ).loc Cert.AdamUpIdeal.main_arg8))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4)
      ∧ r.2.mem ((c.tc : Thread Cert.AdamUpReferenceIdeal.nD Cert.AdamUpReferenceIdeal.τ).loc Cert.AdamUpReferenceIdeal.main_arg5) = m ((c.tc : Thread Cert.AdamUpReferenceIdeal.nD Cert.AdamUpReferenceIdeal.τ).loc Cert.AdamUpReferenceIdeal.main_arg5)
      ∧ r.2.mem ((c.tc : Thread Cert.AdamUpReferenceIdeal.nD Cert.AdamUpReferenceIdeal.τ).loc Cert.AdamUpReferenceIdeal.main_arg6) = m ((c.tc : Thread Cert.AdamUpReferenceIdeal.nD Cert.AdamUpReferenceIdeal.τ).loc Cert.AdamUpReferenceIdeal.main_arg6)
      ∧ r.2.mem ((c.tc : Thread Cert.AdamUpReferenceIdeal.nD Cert.AdamUpReferenceIdeal.τ).loc Cert.AdamUpReferenceIdeal.main_arg7) = m ((c.tc : Thread Cert.AdamUpReferenceIdeal.nD Cert.AdamUpReferenceIdeal.τ).loc Cert.AdamUpReferenceIdeal.main_arg7)
      ∧ r.2.mem ((c.tc : Thread Cert.AdamUpReferenceIdeal.nD Cert.AdamUpReferenceIdeal.τ).loc Cert.AdamUpReferenceIdeal.main_arg8) = m ((c.tc : Thread Cert.AdamUpReferenceIdeal.nD Cert.AdamUpReferenceIdeal.τ).loc Cert.AdamUpReferenceIdeal.main_arg8))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6)
      ∧ r.2.mem ((c.tc : Thread Cert.AdamDown.nD Cert.AdamDown.τ).loc Cert.AdamDown.main_arg7) = m ((c.tc : Thread Cert.AdamDown.nD Cert.AdamDown.τ).loc Cert.AdamDown.main_arg7)
      ∧ r.2.mem ((c.tc : Thread Cert.AdamDown.nD Cert.AdamDown.τ).loc Cert.AdamDown.main_arg8) = m ((c.tc : Thread Cert.AdamDown.nD Cert.AdamDown.τ).loc Cert.AdamDown.main_arg8))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
      ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7)
      ∧ r.2.mem ((c.tc : Thread Cert.AdamDownIdeal.nD Cert.AdamDownIdeal.τ).loc Cert.AdamDownIdeal.main_arg8) = m ((c.tc : Thread Cert.AdamDownIdeal.nD Cert.AdamDownIdeal.τ).loc Cert.AdamDownIdeal.main_arg8))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4)
      ∧ r.2.mem ((c.tc : Thread Cert.AdamDownReferenceIdeal.nD Cert.AdamDownReferenceIdeal.τ).loc Cert.AdamDownReferenceIdeal.main_arg5) = m ((c.tc : Thread Cert.AdamDownReferenceIdeal.nD Cert.AdamDownReferenceIdeal.τ).loc Cert.AdamDownReferenceIdeal.main_arg5)
      ∧ r.2.mem ((c.tc : Thread Cert.AdamDownReferenceIdeal.nD Cert.AdamDownReferenceIdeal.τ).loc Cert.AdamDownReferenceIdeal.main_arg6) = m ((c.tc : Thread Cert.AdamDownReferenceIdeal.nD Cert.AdamDownReferenceIdeal.τ).loc Cert.AdamDownReferenceIdeal.main_arg6)
      ∧ r.2.mem ((c.tc : Thread Cert.AdamDownReferenceIdeal.nD Cert.AdamDownReferenceIdeal.τ).loc Cert.AdamDownReferenceIdeal.main_arg7) = m ((c.tc : Thread Cert.AdamDownReferenceIdeal.nD Cert.AdamDownReferenceIdeal.τ).loc Cert.AdamDownReferenceIdeal.main_arg7)
      ∧ r.2.mem ((c.tc : Thread Cert.AdamDownReferenceIdeal.nD Cert.AdamDownReferenceIdeal.τ).loc Cert.AdamDownReferenceIdeal.main_arg8) = m ((c.tc : Thread Cert.AdamDownReferenceIdeal.nD Cert.AdamDownReferenceIdeal.τ).loc Cert.AdamDownReferenceIdeal.main_arg8))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3)
      ∧ r.2.mem ((c.tc : Thread Cert.AdamPle.nD Cert.AdamPle.τ).loc Cert.AdamPle.main_arg4) = m ((c.tc : Thread Cert.AdamPle.nD Cert.AdamPle.τ).loc Cert.AdamPle.main_arg4)
      ∧ r.2.mem ((c.tc : Thread Cert.AdamPle.nD Cert.AdamPle.τ).loc Cert.AdamPle.main_arg5) = m ((c.tc : Thread Cert.AdamPle.nD Cert.AdamPle.τ).loc Cert.AdamPle.main_arg5)
      ∧ r.2.mem ((c.tc : Thread Cert.AdamPle.nD Cert.AdamPle.τ).loc Cert.AdamPle.main_arg6) = m ((c.tc : Thread Cert.AdamPle.nD Cert.AdamPle.τ).loc Cert.AdamPle.main_arg6)
      ∧ r.2.mem ((c.tc : Thread Cert.AdamPle.nD Cert.AdamPle.τ).loc Cert.AdamPle.main_arg7) = m ((c.tc : Thread Cert.AdamPle.nD Cert.AdamPle.τ).loc Cert.AdamPle.main_arg7)
      ∧ r.2.mem ((c.tc : Thread Cert.AdamPle.nD Cert.AdamPle.τ).loc Cert.AdamPle.main_arg8) = m ((c.tc : Thread Cert.AdamPle.nD Cert.AdamPle.τ).loc Cert.AdamPle.main_arg8))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3)
      ∧ r.2.mem ((c.tc : Thread Cert.AdamPleIdeal.nD Cert.AdamPleIdeal.τ).loc Cert.AdamPleIdeal.main_arg4) = m ((c.tc : Thread Cert.AdamPleIdeal.nD Cert.AdamPleIdeal.τ).loc Cert.AdamPleIdeal.main_arg4)
      ∧ r.2.mem ((c.tc : Thread Cert.AdamPleIdeal.nD Cert.AdamPleIdeal.τ).loc Cert.AdamPleIdeal.main_arg5) = m ((c.tc : Thread Cert.AdamPleIdeal.nD Cert.AdamPleIdeal.τ).loc Cert.AdamPleIdeal.main_arg5)
      ∧ r.2.mem ((c.tc : Thread Cert.AdamPleIdeal.nD Cert.AdamPleIdeal.τ).loc Cert.AdamPleIdeal.main_arg6) = m ((c.tc : Thread Cert.AdamPleIdeal.nD Cert.AdamPleIdeal.τ).loc Cert.AdamPleIdeal.main_arg6)
      ∧ r.2.mem ((c.tc : Thread Cert.AdamPleIdeal.nD Cert.AdamPleIdeal.τ).loc Cert.AdamPleIdeal.main_arg7) = m ((c.tc : Thread Cert.AdamPleIdeal.nD Cert.AdamPleIdeal.τ).loc Cert.AdamPleIdeal.main_arg7)
      ∧ r.2.mem ((c.tc : Thread Cert.AdamPleIdeal.nD Cert.AdamPleIdeal.τ).loc Cert.AdamPleIdeal.main_arg8) = m ((c.tc : Thread Cert.AdamPleIdeal.nD Cert.AdamPleIdeal.τ).loc Cert.AdamPleIdeal.main_arg8))
      ∧ r.2.sem = fun _ => 0)

def quiescent_AdamPleReferenceIdeal [hAdamPleReferenceIdeal : Cert.AdamPleReferenceIdeal.Facts] : Prop :=
  ∀ (m : (ℓ : Loc Cert.AdamPleReferenceIdeal.nD Cert.AdamPleReferenceIdeal.τ Cert.AdamPleReferenceIdeal.sig) → Buf (Elt Ideal) ℓ) (g : Dev Cert.AdamPleReferenceIdeal.nD → PrngReg), Pre_AdamPleReferenceIdeal m →
    θ_run (Cert.AdamPleReferenceIdeal.defs (F := Ideal)) (onTc (τ := Cert.AdamPleReferenceIdeal.τ) (Cert.AdamPleReferenceIdeal.main (F := Ideal))) ⟨m, fun _ => 0, g⟩ (fun r => (∀ c : Dev Cert.AdamPleReferenceIdeal.nD,
      r.2.mem ((c.tc : Thread Cert.AdamPleReferenceIdeal.nD Cert.AdamPleReferenceIdeal.τ).loc Cert.AdamPleReferenceIdeal.main_arg0) = m ((c.tc : Thread Cert.AdamPleReferenceIdeal.nD Cert.AdamPleReferenceIdeal.τ).loc Cert.AdamPleReferenceIdeal.main_arg0)
      ∧ r.2.mem ((c.tc : Thread Cert.AdamPleReferenceIdeal.nD Cert.AdamPleReferenceIdeal.τ).loc Cert.AdamPleReferenceIdeal.main_arg1) = m ((c.tc : Thread Cert.AdamPleReferenceIdeal.nD Cert.AdamPleReferenceIdeal.τ).loc Cert.AdamPleReferenceIdeal.main_arg1)
      ∧ r.2.mem ((c.tc : Thread Cert.AdamPleReferenceIdeal.nD Cert.AdamPleReferenceIdeal.τ).loc Cert.AdamPleReferenceIdeal.main_arg2) = m ((c.tc : Thread Cert.AdamPleReferenceIdeal.nD Cert.AdamPleReferenceIdeal.τ).loc Cert.AdamPleReferenceIdeal.main_arg2)
      ∧ r.2.mem ((c.tc : Thread Cert.AdamPleReferenceIdeal.nD Cert.AdamPleReferenceIdeal.τ).loc Cert.AdamPleReferenceIdeal.main_arg3) = m ((c.tc : Thread Cert.AdamPleReferenceIdeal.nD Cert.AdamPleReferenceIdeal.τ).loc Cert.AdamPleReferenceIdeal.main_arg3)
      ∧ r.2.mem ((c.tc : Thread Cert.AdamPleReferenceIdeal.nD Cert.AdamPleReferenceIdeal.τ).loc Cert.AdamPleReferenceIdeal.main_arg4) = m ((c.tc : Thread Cert.AdamPleReferenceIdeal.nD Cert.AdamPleReferenceIdeal.τ).loc Cert.AdamPleReferenceIdeal.main_arg4)
      ∧ r.2.mem ((c.tc : Thread Cert.AdamPleReferenceIdeal.nD Cert.AdamPleReferenceIdeal.τ).loc Cert.AdamPleReferenceIdeal.main_arg5) = m ((c.tc : Thread Cert.AdamPleReferenceIdeal.nD Cert.AdamPleReferenceIdeal.τ).loc Cert.AdamPleReferenceIdeal.main_arg5)
      ∧ r.2.mem ((c.tc : Thread Cert.AdamPleReferenceIdeal.nD Cert.AdamPleReferenceIdeal.τ).loc Cert.AdamPleReferenceIdeal.main_arg6) = m ((c.tc : Thread Cert.AdamPleReferenceIdeal.nD Cert.AdamPleReferenceIdeal.τ).loc Cert.AdamPleReferenceIdeal.main_arg6)
      ∧ r.2.mem ((c.tc : Thread Cert.AdamPleReferenceIdeal.nD Cert.AdamPleReferenceIdeal.τ).loc Cert.AdamPleReferenceIdeal.main_arg7) = m ((c.tc : Thread Cert.AdamPleReferenceIdeal.nD Cert.AdamPleReferenceIdeal.τ).loc Cert.AdamPleReferenceIdeal.main_arg7)
      ∧ r.2.mem ((c.tc : Thread Cert.AdamPleReferenceIdeal.nD Cert.AdamPleReferenceIdeal.τ).loc Cert.AdamPleReferenceIdeal.main_arg8) = m ((c.tc : Thread Cert.AdamPleReferenceIdeal.nD Cert.AdamPleReferenceIdeal.τ).loc Cert.AdamPleReferenceIdeal.main_arg8))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4)
      ∧ r.2.mem ((c.tc : Thread Cert.AdamGate.nD Cert.AdamGate.τ).loc Cert.AdamGate.main_arg5) = m ((c.tc : Thread Cert.AdamGate.nD Cert.AdamGate.τ).loc Cert.AdamGate.main_arg5)
      ∧ r.2.mem ((c.tc : Thread Cert.AdamGate.nD Cert.AdamGate.τ).loc Cert.AdamGate.main_arg6) = m ((c.tc : Thread Cert.AdamGate.nD Cert.AdamGate.τ).loc Cert.AdamGate.main_arg6)
      ∧ r.2.mem ((c.tc : Thread Cert.AdamGate.nD Cert.AdamGate.τ).loc Cert.AdamGate.main_arg7) = m ((c.tc : Thread Cert.AdamGate.nD Cert.AdamGate.τ).loc Cert.AdamGate.main_arg7)
      ∧ r.2.mem ((c.tc : Thread Cert.AdamGate.nD Cert.AdamGate.τ).loc Cert.AdamGate.main_arg8) = m ((c.tc : Thread Cert.AdamGate.nD Cert.AdamGate.τ).loc Cert.AdamGate.main_arg8))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
      ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
      ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
      ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7)
      ∧ r.2.mem ((c.tc : Thread Cert.AdamGateIdeal.nD Cert.AdamGateIdeal.τ).loc Cert.AdamGateIdeal.main_arg8) = m ((c.tc : Thread Cert.AdamGateIdeal.nD Cert.AdamGateIdeal.τ).loc Cert.AdamGateIdeal.main_arg8))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3)
      ∧ r.2.mem ((c.tc : Thread Cert.AdamGateReferenceIdeal.nD Cert.AdamGateReferenceIdeal.τ).loc Cert.AdamGateReferenceIdeal.main_arg4) = m ((c.tc : Thread Cert.AdamGateReferenceIdeal.nD Cert.AdamGateReferenceIdeal.τ).loc Cert.AdamGateReferenceIdeal.main_arg4)
      ∧ r.2.mem ((c.tc : Thread Cert.AdamGateReferenceIdeal.nD Cert.AdamGateReferenceIdeal.τ).loc Cert.AdamGateReferenceIdeal.main_arg5) = m ((c.tc : Thread Cert.AdamGateReferenceIdeal.nD Cert.AdamGateReferenceIdeal.τ).loc Cert.AdamGateReferenceIdeal.main_arg5)
      ∧ r.2.mem ((c.tc : Thread Cert.AdamGateReferenceIdeal.nD Cert.AdamGateReferenceIdeal.τ).loc Cert.AdamGateReferenceIdeal.main_arg6) = m ((c.tc : Thread Cert.AdamGateReferenceIdeal.nD Cert.AdamGateReferenceIdeal.τ).loc Cert.AdamGateReferenceIdeal.main_arg6)
      ∧ r.2.mem ((c.tc : Thread Cert.AdamGateReferenceIdeal.nD Cert.AdamGateReferenceIdeal.τ).loc Cert.AdamGateReferenceIdeal.main_arg7) = m ((c.tc : Thread Cert.AdamGateReferenceIdeal.nD Cert.AdamGateReferenceIdeal.τ).loc Cert.AdamGateReferenceIdeal.main_arg7)
      ∧ r.2.mem ((c.tc : Thread Cert.AdamGateReferenceIdeal.nD Cert.AdamGateReferenceIdeal.τ).loc Cert.AdamGateReferenceIdeal.main_arg8) = m ((c.tc : Thread Cert.AdamGateReferenceIdeal.nD Cert.AdamGateReferenceIdeal.τ).loc Cert.AdamGateReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v191_0)) (v1 : (c : Dev Cert.KernelIdeal.nD) → Buf (Elt Ideal) ((c.tc : Thread Cert.KernelIdeal.nD Cert.KernelIdeal.τ).loc Cert.KernelIdeal.main_v191_1)) (v2 : (c : Dev Cert.KernelIdeal.nD) → Buf (Elt Ideal) ((c.tc : Thread Cert.KernelIdeal.nD Cert.KernelIdeal.τ).loc Cert.KernelIdeal.main_v191_2)) (v3 : (c : Dev Cert.KernelIdeal.nD) → Buf (Elt Ideal) ((c.tc : Thread Cert.KernelIdeal.nD Cert.KernelIdeal.τ).loc Cert.KernelIdeal.main_v191_3)) (v4 : (c : Dev Cert.KernelIdeal.nD) → Buf (Elt Ideal) ((c.tc : Thread Cert.KernelIdeal.nD Cert.KernelIdeal.τ).loc Cert.KernelIdeal.main_v191_4)) (v5 : (c : Dev Cert.KernelIdeal.nD) → Buf (Elt Ideal) ((c.tc : Thread Cert.KernelIdeal.nD Cert.KernelIdeal.τ).loc Cert.KernelIdeal.main_v191_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191_0) = v0 c
          ∧ r.2.mem ((c.tc : Thread Cert.KernelIdeal.nD Cert.KernelIdeal.τ).loc Cert.KernelIdeal.main_v191_1) = v1 c
          ∧ r.2.mem ((c.tc : Thread Cert.KernelIdeal.nD Cert.KernelIdeal.τ).loc Cert.KernelIdeal.main_v191_2) = v2 c
          ∧ r.2.mem ((c.tc : Thread Cert.KernelIdeal.nD Cert.KernelIdeal.τ).loc Cert.KernelIdeal.main_v191_3) = v3 c
          ∧ r.2.mem ((c.tc : Thread Cert.KernelIdeal.nD Cert.KernelIdeal.τ).loc Cert.KernelIdeal.main_v191_4) = v4 c
          ∧ r.2.mem ((c.tc : Thread Cert.KernelIdeal.nD Cert.KernelIdeal.τ).loc Cert.KernelIdeal.main_v191_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v510) = v0 c
          ∧ r.2.mem ((c.tc : Thread Cert.ReferenceIdeal.nD Cert.ReferenceIdeal.τ).loc Cert.ReferenceIdeal.main_v509) = v1 c
          ∧ r.2.mem ((c.tc : Thread Cert.ReferenceIdeal.nD Cert.ReferenceIdeal.τ).loc Cert.ReferenceIdeal.main_v508) = v2 c
          ∧ r.2.mem ((c.tc : Thread Cert.ReferenceIdeal.nD Cert.ReferenceIdeal.τ).loc Cert.ReferenceIdeal.main_v512) = v3 c
          ∧ r.2.mem ((c.tc : Thread Cert.ReferenceIdeal.nD Cert.ReferenceIdeal.τ).loc Cert.ReferenceIdeal.main_v514) = v4 c
          ∧ r.2.mem ((c.tc : Thread Cert.ReferenceIdeal.nD Cert.ReferenceIdeal.τ).loc Cert.ReferenceIdeal.main_v515) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownW_DownWIdeal : Prop :=
  True

def algebraic_DownWIdeal_DownWReferenceIdeal [hDownWIdeal : Cert.DownWIdeal.Facts] [hDownWReferenceIdeal : Cert.DownWReferenceIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWIdeal m →
    (∀ c : Dev Cert.DownWIdeal.nD,
      m' ((c.tc : Thread Cert.DownWReferenceIdeal.nD Cert.DownWReferenceIdeal.τ).loc Cert.DownWReferenceIdeal.main_arg0) = m ((c.tc : Thread Cert.DownWIdeal.nD Cert.DownWIdeal.τ).loc Cert.DownWIdeal.main_arg0)
      ∧ m' ((c.tc : Thread Cert.DownWReferenceIdeal.nD Cert.DownWReferenceIdeal.τ).loc Cert.DownWReferenceIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v2)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v2) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v6) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1))

def preserves_DownX_DownXIdeal : Prop :=
  True

def algebraic_DownXIdeal_DownXReferenceIdeal [hDownXIdeal : Cert.DownXIdeal.Facts] [hDownXReferenceIdeal : Cert.DownXReferenceIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXReferenceIdeal.nD Cert.DownXReferenceIdeal.τ Cert.DownXReferenceIdeal.sig) → Buf (Elt Ideal) ℓ) (g' : Dev Cert.DownXReferenceIdeal.nD → PrngReg), Pre_DownXIdeal m →
    (∀ c : Dev Cert.DownXIdeal.nD,
      m' ((c.tc : Thread Cert.DownXReferenceIdeal.nD Cert.DownXReferenceIdeal.τ).loc Cert.DownXReferenceIdeal.main_arg0) = m ((c.tc : Thread Cert.DownXIdeal.nD Cert.DownXIdeal.τ).loc Cert.DownXIdeal.main_arg0)
      ∧ m' ((c.tc : Thread Cert.DownXReferenceIdeal.nD Cert.DownXReferenceIdeal.τ).loc Cert.DownXReferenceIdeal.main_arg1) = m ((c.tc : Thread Cert.DownXIdeal.nD Cert.DownXIdeal.τ).loc Cert.DownXIdeal.main_arg1)
      ∧ m' ((c.tc : Thread Cert.DownXReferenceIdeal.nD Cert.DownXReferenceIdeal.τ).loc Cert.DownXReferenceIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v5)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v5) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXReferenceIdeal.defs (F := Ideal)) (onTc (τ := Cert.DownXReferenceIdeal.τ) (Cert.DownXReferenceIdeal.main (F := Ideal))) ⟨m', fun _ => 0, g'⟩ (fun r => ∀ c : Dev Cert.DownXReferenceIdeal.nD,
          r.2.mem ((c.tc : Thread Cert.DownXReferenceIdeal.nD Cert.DownXReferenceIdeal.τ).loc Cert.DownXReferenceIdeal.main_v12) = v0 c
          ∧ r.2.mem ((c.tc : Thread Cert.DownXReferenceIdeal.nD Cert.DownXReferenceIdeal.τ).loc Cert.DownXReferenceIdeal.main_arg0) = m' ((c.tc : Thread Cert.DownXReferenceIdeal.nD Cert.DownXReferenceIdeal.τ).loc Cert.DownXReferenceIdeal.main_arg0)
          ∧ r.2.mem ((c.tc : Thread Cert.DownXReferenceIdeal.nD Cert.DownXReferenceIdeal.τ).loc Cert.DownXReferenceIdeal.main_arg1) = m' ((c.tc : Thread Cert.DownXReferenceIdeal.nD Cert.DownXReferenceIdeal.τ).loc Cert.DownXReferenceIdeal.main_arg1)
          ∧ r.2.mem ((c.tc : Thread Cert.DownXReferenceIdeal.nD Cert.DownXReferenceIdeal.τ).loc Cert.DownXReferenceIdeal.main_arg2) = m' ((c.tc : Thread Cert.DownXReferenceIdeal.nD Cert.DownXReferenceIdeal.τ).loc Cert.DownXReferenceIdeal.main_arg2))

def preserves_UpW_UpWIdeal : Prop :=
  True

def algebraic_UpWIdeal_UpWReferenceIdeal [hUpWIdeal : Cert.UpWIdeal.Facts] [hUpWReferenceIdeal : Cert.UpWReferenceIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWReferenceIdeal.nD Cert.UpWReferenceIdeal.τ Cert.UpWReferenceIdeal.sig) → Buf (Elt Ideal) ℓ) (g' : Dev Cert.UpWReferenceIdeal.nD → PrngReg), Pre_UpWIdeal m →
    (∀ c : Dev Cert.UpWIdeal.nD,
      m' ((c.tc : Thread Cert.UpWReferenceIdeal.nD Cert.UpWReferenceIdeal.τ).loc Cert.UpWReferenceIdeal.main_arg0) = m ((c.tc : Thread Cert.UpWIdeal.nD Cert.UpWIdeal.τ).loc Cert.UpWIdeal.main_arg0)
      ∧ m' ((c.tc : Thread Cert.UpWReferenceIdeal.nD Cert.UpWReferenceIdeal.τ).loc Cert.UpWReferenceIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v2)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v2) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWReferenceIdeal.defs (F := Ideal)) (onTc (τ := Cert.UpWReferenceIdeal.τ) (Cert.UpWReferenceIdeal.main (F := Ideal))) ⟨m', fun _ => 0, g'⟩ (fun r => ∀ c : Dev Cert.UpWReferenceIdeal.nD,
          r.2.mem ((c.tc : Thread Cert.UpWReferenceIdeal.nD Cert.UpWReferenceIdeal.τ).loc Cert.UpWReferenceIdeal.main_v6) = v0 c
          ∧ r.2.mem ((c.tc : Thread Cert.UpWReferenceIdeal.nD Cert.UpWReferenceIdeal.τ).loc Cert.UpWReferenceIdeal.main_arg0) = m' ((c.tc : Thread Cert.UpWReferenceIdeal.nD Cert.UpWReferenceIdeal.τ).loc Cert.UpWReferenceIdeal.main_arg0)
          ∧ r.2.mem ((c.tc : Thread Cert.UpWReferenceIdeal.nD Cert.UpWReferenceIdeal.τ).loc Cert.UpWReferenceIdeal.main_arg1) = m' ((c.tc : Thread Cert.UpWReferenceIdeal.nD Cert.UpWReferenceIdeal.τ).loc Cert.UpWReferenceIdeal.main_arg1))

def preserves_UpX_UpXIdeal : Prop :=
  True

def algebraic_UpXIdeal_UpXReferenceIdeal [hUpXIdeal : Cert.UpXIdeal.Facts] [hUpXReferenceIdeal : Cert.UpXReferenceIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXReferenceIdeal.nD Cert.UpXReferenceIdeal.τ Cert.UpXReferenceIdeal.sig) → Buf (Elt Ideal) ℓ) (g' : Dev Cert.UpXReferenceIdeal.nD → PrngReg), Pre_UpXIdeal m →
    (∀ c : Dev Cert.UpXIdeal.nD,
      m' ((c.tc : Thread Cert.UpXReferenceIdeal.nD Cert.UpXReferenceIdeal.τ).loc Cert.UpXReferenceIdeal.main_arg0) = m ((c.tc : Thread Cert.UpXIdeal.nD Cert.UpXIdeal.τ).loc Cert.UpXIdeal.main_arg0)
      ∧ m' ((c.tc : Thread Cert.UpXReferenceIdeal.nD Cert.UpXReferenceIdeal.τ).loc Cert.UpXReferenceIdeal.main_arg1) = m ((c.tc : Thread Cert.UpXIdeal.nD Cert.UpXIdeal.τ).loc Cert.UpXIdeal.main_arg1)
      ∧ m' ((c.tc : Thread Cert.UpXReferenceIdeal.nD Cert.UpXReferenceIdeal.τ).loc Cert.UpXReferenceIdeal.main_arg2) = m ((c.tc : Thread Cert.UpXIdeal.nD Cert.UpXIdeal.τ).loc Cert.UpXIdeal.main_arg2)) →
    ∃ (v0 : (c : Dev Cert.UpXIdeal.nD) → Buf (Elt Ideal) ((c.tc : Thread Cert.UpXIdeal.nD Cert.UpXIdeal.τ).loc Cert.UpXIdeal.main_v4)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v4) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ θ_run (Cert.UpXReferenceIdeal.defs (F := Ideal)) (onTc (τ := Cert.UpXReferenceIdeal.τ) (Cert.UpXReferenceIdeal.main (F := Ideal))) ⟨m', fun _ => 0, g'⟩ (fun r => ∀ c : Dev Cert.UpXReferenceIdeal.nD,
          r.2.mem ((c.tc : Thread Cert.UpXReferenceIdeal.nD Cert.UpXReferenceIdeal.τ).loc Cert.UpXReferenceIdeal.main_v7) = v0 c
          ∧ r.2.mem ((c.tc : Thread Cert.UpXReferenceIdeal.nD Cert.UpXReferenceIdeal.τ).loc Cert.UpXReferenceIdeal.main_arg0) = m' ((c.tc : Thread Cert.UpXReferenceIdeal.nD Cert.UpXReferenceIdeal.τ).loc Cert.UpXReferenceIdeal.main_arg0)
          ∧ r.2.mem ((c.tc : Thread Cert.UpXReferenceIdeal.nD Cert.UpXReferenceIdeal.τ).loc Cert.UpXReferenceIdeal.main_arg1) = m' ((c.tc : Thread Cert.UpXReferenceIdeal.nD Cert.UpXReferenceIdeal.τ).loc Cert.UpXReferenceIdeal.main_arg1)
          ∧ r.2.mem ((c.tc : Thread Cert.UpXReferenceIdeal.nD Cert.UpXReferenceIdeal.τ).loc Cert.UpXReferenceIdeal.main_arg2) = m' ((c.tc : Thread Cert.UpXReferenceIdeal.nD Cert.UpXReferenceIdeal.τ).loc Cert.UpXReferenceIdeal.main_arg2))

def preserves_OutW_OutWIdeal : Prop :=
  True

def algebraic_OutWIdeal_OutWReferenceIdeal [hOutWIdeal : Cert.OutWIdeal.Facts] [hOutWReferenceIdeal : Cert.OutWReferenceIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWIdeal m →
    (∀ c : Dev Cert.OutWIdeal.nD,
      m' ((c.tc : Thread Cert.OutWReferenceIdeal.nD Cert.OutWReferenceIdeal.τ).loc Cert.OutWReferenceIdeal.main_arg0) = m ((c.tc : Thread Cert.OutWIdeal.nD Cert.OutWIdeal.τ).loc Cert.OutWIdeal.main_arg0)
      ∧ m' ((c.tc : Thread Cert.OutWReferenceIdeal.nD Cert.OutWReferenceIdeal.τ).loc Cert.OutWReferenceIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v2)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v2) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v4) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1))

def preserves_OutX_OutXIdeal : Prop :=
  True

def algebraic_OutXIdeal_OutXReferenceIdeal [hOutXIdeal : Cert.OutXIdeal.Facts] [hOutXReferenceIdeal : Cert.OutXReferenceIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXReferenceIdeal.nD Cert.OutXReferenceIdeal.τ Cert.OutXReferenceIdeal.sig) → Buf (Elt Ideal) ℓ) (g' : Dev Cert.OutXReferenceIdeal.nD → PrngReg), Pre_OutXIdeal m →
    (∀ c : Dev Cert.OutXIdeal.nD,
      m' ((c.tc : Thread Cert.OutXReferenceIdeal.nD Cert.OutXReferenceIdeal.τ).loc Cert.OutXReferenceIdeal.main_arg0) = m ((c.tc : Thread Cert.OutXIdeal.nD Cert.OutXIdeal.τ).loc Cert.OutXIdeal.main_arg0)
      ∧ m' ((c.tc : Thread Cert.OutXReferenceIdeal.nD Cert.OutXReferenceIdeal.τ).loc Cert.OutXReferenceIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v4)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v4) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXReferenceIdeal.defs (F := Ideal)) (onTc (τ := Cert.OutXReferenceIdeal.τ) (Cert.OutXReferenceIdeal.main (F := Ideal))) ⟨m', fun _ => 0, g'⟩ (fun r => ∀ c : Dev Cert.OutXReferenceIdeal.nD,
          r.2.mem ((c.tc : Thread Cert.OutXReferenceIdeal.nD Cert.OutXReferenceIdeal.τ).loc Cert.OutXReferenceIdeal.main_v2) = v0 c
          ∧ r.2.mem ((c.tc : Thread Cert.OutXReferenceIdeal.nD Cert.OutXReferenceIdeal.τ).loc Cert.OutXReferenceIdeal.main_arg0) = m' ((c.tc : Thread Cert.OutXReferenceIdeal.nD Cert.OutXReferenceIdeal.τ).loc Cert.OutXReferenceIdeal.main_arg0)
          ∧ r.2.mem ((c.tc : Thread Cert.OutXReferenceIdeal.nD Cert.OutXReferenceIdeal.τ).loc Cert.OutXReferenceIdeal.main_arg1) = m' ((c.tc : Thread Cert.OutXReferenceIdeal.nD Cert.OutXReferenceIdeal.τ).loc Cert.OutXReferenceIdeal.main_arg1))

def preserves_InX_InXIdeal : Prop :=
  True

def algebraic_InXIdeal_InXReferenceIdeal [hInXIdeal : Cert.InXIdeal.Facts] [hInXReferenceIdeal : Cert.InXReferenceIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXReferenceIdeal.nD Cert.InXReferenceIdeal.τ Cert.InXReferenceIdeal.sig) → Buf (Elt Ideal) ℓ) (g' : Dev Cert.InXReferenceIdeal.nD → PrngReg), Pre_InXIdeal m →
    (∀ c : Dev Cert.InXIdeal.nD,
      m' ((c.tc : Thread Cert.InXReferenceIdeal.nD Cert.InXReferenceIdeal.τ).loc Cert.InXReferenceIdeal.main_arg0) = m ((c.tc : Thread Cert.InXIdeal.nD Cert.InXIdeal.τ).loc Cert.InXIdeal.main_arg0)
      ∧ m' ((c.tc : Thread Cert.InXReferenceIdeal.nD Cert.InXReferenceIdeal.τ).loc Cert.InXReferenceIdeal.main_arg1) = m ((c.tc : Thread Cert.InXIdeal.nD Cert.InXIdeal.τ).loc Cert.InXIdeal.main_arg1)
      ∧ m' ((c.tc : Thread Cert.InXReferenceIdeal.nD Cert.InXReferenceIdeal.τ).loc Cert.InXReferenceIdeal.main_arg2) = m ((c.tc : Thread Cert.InXIdeal.nD Cert.InXIdeal.τ).loc Cert.InXIdeal.main_arg2)) →
    ∃ (v0 : (c : Dev Cert.InXIdeal.nD) → Buf (Elt Ideal) ((c.tc : Thread Cert.InXIdeal.nD Cert.InXIdeal.τ).loc Cert.InXIdeal.main_v3)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v3) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ θ_run (Cert.InXReferenceIdeal.defs (F := Ideal)) (onTc (τ := Cert.InXReferenceIdeal.τ) (Cert.InXReferenceIdeal.main (F := Ideal))) ⟨m', fun _ => 0, g'⟩ (fun r => ∀ c : Dev Cert.InXReferenceIdeal.nD,
          r.2.mem ((c.tc : Thread Cert.InXReferenceIdeal.nD Cert.InXReferenceIdeal.τ).loc Cert.InXReferenceIdeal.main_v4) = v0 c
          ∧ r.2.mem ((c.tc : Thread Cert.InXReferenceIdeal.nD Cert.InXReferenceIdeal.τ).loc Cert.InXReferenceIdeal.main_arg0) = m' ((c.tc : Thread Cert.InXReferenceIdeal.nD Cert.InXReferenceIdeal.τ).loc Cert.InXReferenceIdeal.main_arg0)
          ∧ r.2.mem ((c.tc : Thread Cert.InXReferenceIdeal.nD Cert.InXReferenceIdeal.τ).loc Cert.InXReferenceIdeal.main_arg1) = m' ((c.tc : Thread Cert.InXReferenceIdeal.nD Cert.InXReferenceIdeal.τ).loc Cert.InXReferenceIdeal.main_arg1)
          ∧ r.2.mem ((c.tc : Thread Cert.InXReferenceIdeal.nD Cert.InXReferenceIdeal.τ).loc Cert.InXReferenceIdeal.main_arg2) = m' ((c.tc : Thread Cert.InXReferenceIdeal.nD Cert.InXReferenceIdeal.τ).loc Cert.InXReferenceIdeal.main_arg2))

def preserves_GateW_GateWIdeal : Prop :=
  True

def algebraic_GateWIdeal_GateWReferenceIdeal [hGateWIdeal : Cert.GateWIdeal.Facts] [hGateWReferenceIdeal : Cert.GateWReferenceIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWReferenceIdeal.nD Cert.GateWReferenceIdeal.τ Cert.GateWReferenceIdeal.sig) → Buf (Elt Ideal) ℓ) (g' : Dev Cert.GateWReferenceIdeal.nD → PrngReg), Pre_GateWIdeal m →
    (∀ c : Dev Cert.GateWIdeal.nD,
      m' ((c.tc : Thread Cert.GateWReferenceIdeal.nD Cert.GateWReferenceIdeal.τ).loc Cert.GateWReferenceIdeal.main_arg0) = m ((c.tc : Thread Cert.GateWIdeal.nD Cert.GateWIdeal.τ).loc Cert.GateWIdeal.main_arg0)
      ∧ m' ((c.tc : Thread Cert.GateWReferenceIdeal.nD Cert.GateWReferenceIdeal.τ).loc Cert.GateWReferenceIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v2)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v2) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWReferenceIdeal.defs (F := Ideal)) (onTc (τ := Cert.GateWReferenceIdeal.τ) (Cert.GateWReferenceIdeal.main (F := Ideal))) ⟨m', fun _ => 0, g'⟩ (fun r => ∀ c : Dev Cert.GateWReferenceIdeal.nD,
          r.2.mem ((c.tc : Thread Cert.GateWReferenceIdeal.nD Cert.GateWReferenceIdeal.τ).loc Cert.GateWReferenceIdeal.main_v4) = v0 c
          ∧ r.2.mem ((c.tc : Thread Cert.GateWReferenceIdeal.nD Cert.GateWReferenceIdeal.τ).loc Cert.GateWReferenceIdeal.main_arg0) = m' ((c.tc : Thread Cert.GateWReferenceIdeal.nD Cert.GateWReferenceIdeal.τ).loc Cert.GateWReferenceIdeal.main_arg0)
          ∧ r.2.mem ((c.tc : Thread Cert.GateWReferenceIdeal.nD Cert.GateWReferenceIdeal.τ).loc Cert.GateWReferenceIdeal.main_arg1) = m' ((c.tc : Thread Cert.GateWReferenceIdeal.nD Cert.GateWReferenceIdeal.τ).loc Cert.GateWReferenceIdeal.main_arg1))

def preserves_GateX_GateXIdeal : Prop :=
  True

def algebraic_GateXIdeal_GateXReferenceIdeal [hGateXIdeal : Cert.GateXIdeal.Facts] [hGateXReferenceIdeal : Cert.GateXReferenceIdeal.Facts] : Prop :=
  ∀ (m : (ℓ : Loc Cert.GateXIdeal.nD Cert.GateXIdeal.τ Cert.GateXIdeal.sig) → Buf (Elt Ideal) ℓ) (g : Dev Cert.GateXIdeal.nD → PrngReg)
    (m' : (ℓ : Loc Cert.GateXReferenceIdeal.nD Cert.GateXReferenceIdeal.τ Cert.GateXReferenceIdeal.sig) → Buf (Elt Ideal) ℓ) (g' : Dev Cert.GateXReferenceIdeal.nD → PrngReg), Pre_GateXIdeal m →
    (∀ c : Dev Cert.GateXIdeal.nD,
      m' ((c.tc : Thread Cert.GateXReferenceIdeal.nD Cert.GateXReferenceIdeal.τ).loc Cert.GateXReferenceIdeal.main_arg0) = m ((c.tc : Thread Cert.GateXIdeal.nD Cert.GateXIdeal.τ).loc Cert.GateXIdeal.main_arg0)
      ∧ m' ((c.tc : Thread Cert.GateXReferenceIdeal.nD Cert.GateXReferenceIdeal.τ).loc Cert.GateXReferenceIdeal.main_arg1) = m ((c.tc : Thread Cert.GateXIdeal.nD Cert.GateXIdeal.τ).loc Cert.GateXIdeal.main_arg1)
      ∧ m' ((c.tc : Thread Cert.GateXReferenceIdeal.nD Cert.GateXReferenceIdeal.τ).loc Cert.GateXReferenceIdeal.main_arg2) = m ((c.tc : Thread Cert.GateXIdeal.nD Cert.GateXIdeal.τ).loc Cert.GateXIdeal.main_arg2)) →
    ∃ (v0 : (c : Dev Cert.GateXIdeal.nD) → Buf (Elt Ideal) ((c.tc : Thread Cert.GateXIdeal.nD Cert.GateXIdeal.τ).loc Cert.GateXIdeal.main_v4)),
      θ_run (Cert.GateXIdeal.defs (F := Ideal)) (onTc (τ := Cert.GateXIdeal.τ) (Cert.GateXIdeal.main (F := Ideal))) ⟨m, fun _ => 0, g⟩ (fun r => ∀ c : Dev Cert.GateXIdeal.nD,
          r.2.mem ((c.tc : Thread Cert.GateXIdeal.nD Cert.GateXIdeal.τ).loc Cert.GateXIdeal.main_v4) = v0 c
          ∧ r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
          ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
          ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2))
      ∧ θ_run (Cert.GateXReferenceIdeal.defs (F := Ideal)) (onTc (τ := Cert.GateXReferenceIdeal.τ) (Cert.GateXReferenceIdeal.main (F := Ideal))) ⟨m', fun _ => 0, g'⟩ (fun r => ∀ c : Dev Cert.GateXReferenceIdeal.nD,
          r.2.mem ((c.tc : Thread Cert.GateXReferenceIdeal.nD Cert.GateXReferenceIdeal.τ).loc Cert.GateXReferenceIdeal.main_v3) = v0 c
          ∧ r.2.mem ((c.tc : Thread Cert.GateXReferenceIdeal.nD Cert.GateXReferenceIdeal.τ).loc Cert.GateXReferenceIdeal.main_arg0) = m' ((c.tc : Thread Cert.GateXReferenceIdeal.nD Cert.GateXReferenceIdeal.τ).loc Cert.GateXReferenceIdeal.main_arg0)
          ∧ r.2.mem ((c.tc : Thread Cert.GateXReferenceIdeal.nD Cert.GateXReferenceIdeal.τ).loc Cert.GateXReferenceIdeal.main_arg1) = m' ((c.tc : Thread Cert.GateXReferenceIdeal.nD Cert.GateXReferenceIdeal.τ).loc Cert.GateXReferenceIdeal.main_arg1)
          ∧ r.2.mem ((c.tc : Thread Cert.GateXReferenceIdeal.nD Cert.GateXReferenceIdeal.τ).loc Cert.GateXReferenceIdeal.main_arg2) = m' ((c.tc : Thread Cert.GateXReferenceIdeal.nD Cert.GateXReferenceIdeal.τ).loc Cert.GateXReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v1) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v4_0)) (v1 : (c : Dev Cert.GateIdeal.nD) → Buf (Elt Ideal) ((c.tc : Thread Cert.GateIdeal.nD Cert.GateIdeal.τ).loc Cert.GateIdeal.main_v4_1)) (v2 : (c : Dev Cert.GateIdeal.nD) → Buf (Elt Ideal) ((c.tc : Thread Cert.GateIdeal.nD Cert.GateIdeal.τ).loc Cert.GateIdeal.main_v4_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4_0) = v0 c
          ∧ r.2.mem ((c.tc : Thread Cert.GateIdeal.nD Cert.GateIdeal.τ).loc Cert.GateIdeal.main_v4_1) = v1 c
          ∧ r.2.mem ((c.tc : Thread Cert.GateIdeal.nD Cert.GateIdeal.τ).loc Cert.GateIdeal.main_v4_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v8) = v0 c
          ∧ r.2.mem ((c.tc : Thread Cert.GateReferenceIdeal.nD Cert.GateReferenceIdeal.τ).loc Cert.GateReferenceIdeal.main_v6) = v1 c
          ∧ r.2.mem ((c.tc : Thread Cert.GateReferenceIdeal.nD Cert.GateReferenceIdeal.τ).loc Cert.GateReferenceIdeal.main_v9) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v0) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1))

def preserves_PleW_PleWIdeal : Prop :=
  True

def algebraic_PleWIdeal_PleWReferenceIdeal [hPleWIdeal : Cert.PleWIdeal.Facts] [hPleWReferenceIdeal : Cert.PleWReferenceIdeal.Facts] : Prop :=
  ∀ (m : (ℓ : Loc Cert.PleWIdeal.nD Cert.PleWIdeal.τ Cert.PleWIdeal.sig) → Buf (Elt Ideal) ℓ) (g : Dev Cert.PleWIdeal.nD → PrngReg)
    (m' : (ℓ : Loc Cert.PleWReferenceIdeal.nD Cert.PleWReferenceIdeal.τ Cert.PleWReferenceIdeal.sig) → Buf (Elt Ideal) ℓ) (g' : Dev Cert.PleWReferenceIdeal.nD → PrngReg), Pre_PleWIdeal m →
    (∀ c : Dev Cert.PleWIdeal.nD,
      m' ((c.tc : Thread Cert.PleWReferenceIdeal.nD Cert.PleWReferenceIdeal.τ).loc Cert.PleWReferenceIdeal.main_arg0) = m ((c.tc : Thread Cert.PleWIdeal.nD Cert.PleWIdeal.τ).loc Cert.PleWIdeal.main_arg0)
      ∧ m' ((c.tc : Thread Cert.PleWReferenceIdeal.nD Cert.PleWReferenceIdeal.τ).loc Cert.PleWReferenceIdeal.main_arg1) = m ((c.tc : Thread Cert.PleWIdeal.nD Cert.PleWIdeal.τ).loc Cert.PleWIdeal.main_arg1)) →
    ∃ (v0 : (c : Dev Cert.PleWIdeal.nD) → Buf (Elt Ideal) ((c.tc : Thread Cert.PleWIdeal.nD Cert.PleWIdeal.τ).loc Cert.PleWIdeal.main_v2)),
      θ_run (Cert.PleWIdeal.defs (F := Ideal)) (onTc (τ := Cert.PleWIdeal.τ) (Cert.PleWIdeal.main (F := Ideal))) ⟨m, fun _ => 0, g⟩ (fun r => ∀ c : Dev Cert.PleWIdeal.nD,
          r.2.mem ((c.tc : Thread Cert.PleWIdeal.nD Cert.PleWIdeal.τ).loc Cert.PleWIdeal.main_v2) = v0 c
          ∧ r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
          ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ θ_run (Cert.PleWReferenceIdeal.defs (F := Ideal)) (onTc (τ := Cert.PleWReferenceIdeal.τ) (Cert.PleWReferenceIdeal.main (F := Ideal))) ⟨m', fun _ => 0, g'⟩ (fun r => ∀ c : Dev Cert.PleWReferenceIdeal.nD,
          r.2.mem ((c.tc : Thread Cert.PleWReferenceIdeal.nD Cert.PleWReferenceIdeal.τ).loc Cert.PleWReferenceIdeal.main_v6) = v0 c
          ∧ r.2.mem ((c.tc : Thread Cert.PleWReferenceIdeal.nD Cert.PleWReferenceIdeal.τ).loc Cert.PleWReferenceIdeal.main_arg0) = m' ((c.tc : Thread Cert.PleWReferenceIdeal.nD Cert.PleWReferenceIdeal.τ).loc Cert.PleWReferenceIdeal.main_arg0)
          ∧ r.2.mem ((c.tc : Thread Cert.PleWReferenceIdeal.nD Cert.PleWReferenceIdeal.τ).loc Cert.PleWReferenceIdeal.main_arg1) = m' ((c.tc : Thread Cert.PleWReferenceIdeal.nD Cert.PleWReferenceIdeal.τ).loc Cert.PleWReferenceIdeal.main_arg1))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v2_0)) (v1 : (c : Dev Cert.PoolIdeal.nD) → Buf (Elt Ideal) ((c.tc : Thread Cert.PoolIdeal.nD Cert.PoolIdeal.τ).loc Cert.PoolIdeal.main_v2_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2_0) = v0 c
          ∧ r.2.mem ((c.tc : Thread Cert.PoolIdeal.nD Cert.PoolIdeal.τ).loc Cert.PoolIdeal.main_v2_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v8) = v0 c
          ∧ r.2.mem ((c.tc : Thread Cert.PoolReferenceIdeal.nD Cert.PoolReferenceIdeal.τ).loc Cert.PoolReferenceIdeal.main_v3) = v1 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_PoolX_PoolXIdeal : Prop :=
  True

def algebraic_PoolXIdeal_PoolXReferenceIdeal [hPoolXIdeal : Cert.PoolXIdeal.Facts] [hPoolXReferenceIdeal : Cert.PoolXReferenceIdeal.Facts] : Prop :=
  ∀ (m : (ℓ : Loc Cert.PoolXIdeal.nD Cert.PoolXIdeal.τ Cert.PoolXIdeal.sig) → Buf (Elt Ideal) ℓ) (g : Dev Cert.PoolXIdeal.nD → PrngReg)
    (m' : (ℓ : Loc Cert.PoolXReferenceIdeal.nD Cert.PoolXReferenceIdeal.τ Cert.PoolXReferenceIdeal.sig) → Buf (Elt Ideal) ℓ) (g' : Dev Cert.PoolXReferenceIdeal.nD → PrngReg), Pre_PoolXIdeal m →
    (∀ c : Dev Cert.PoolXIdeal.nD,
      m' ((c.tc : Thread Cert.PoolXReferenceIdeal.nD Cert.PoolXReferenceIdeal.τ).loc Cert.PoolXReferenceIdeal.main_arg0) = m ((c.tc : Thread Cert.PoolXIdeal.nD Cert.PoolXIdeal.τ).loc Cert.PoolXIdeal.main_arg0)
      ∧ m' ((c.tc : Thread Cert.PoolXReferenceIdeal.nD Cert.PoolXReferenceIdeal.τ).loc Cert.PoolXReferenceIdeal.main_arg1) = m ((c.tc : Thread Cert.PoolXIdeal.nD Cert.PoolXIdeal.τ).loc Cert.PoolXIdeal.main_arg1)
      ∧ m' ((c.tc : Thread Cert.PoolXReferenceIdeal.nD Cert.PoolXReferenceIdeal.τ).loc Cert.PoolXReferenceIdeal.main_arg2) = m ((c.tc : Thread Cert.PoolXIdeal.nD Cert.PoolXIdeal.τ).loc Cert.PoolXIdeal.main_arg2)
      ∧ m' ((c.tc : Thread Cert.PoolXReferenceIdeal.nD Cert.PoolXReferenceIdeal.τ).loc Cert.PoolXReferenceIdeal.main_arg3) = m ((c.tc : Thread Cert.PoolXIdeal.nD Cert.PoolXIdeal.τ).loc Cert.PoolXIdeal.main_arg3)) →
    ∃ (v0 : (c : Dev Cert.PoolXIdeal.nD) → Buf (Elt Ideal) ((c.tc : Thread Cert.PoolXIdeal.nD Cert.PoolXIdeal.τ).loc Cert.PoolXIdeal.main_v1_0)) (v1 : (c : Dev Cert.PoolXIdeal.nD) → Buf (Elt Ideal) ((c.tc : Thread Cert.PoolXIdeal.nD Cert.PoolXIdeal.τ).loc Cert.PoolXIdeal.main_v1_1)) (v2 : (c : Dev Cert.PoolXIdeal.nD) → Buf (Elt Ideal) ((c.tc : Thread Cert.PoolXIdeal.nD Cert.PoolXIdeal.τ).loc Cert.PoolXIdeal.main_v1_2)),
      θ_run (Cert.PoolXIdeal.defs (F := Ideal)) (onTc (τ := Cert.PoolXIdeal.τ) (Cert.PoolXIdeal.main (F := Ideal))) ⟨m, fun _ => 0, g⟩ (fun r => ∀ c : Dev Cert.PoolXIdeal.nD,
          r.2.mem ((c.tc : Thread Cert.PoolXIdeal.nD Cert.PoolXIdeal.τ).loc Cert.PoolXIdeal.main_v1_0) = v0 c
          ∧ r.2.mem ((c.tc : Thread Cert.PoolXIdeal.nD Cert.PoolXIdeal.τ).loc Cert.PoolXIdeal.main_v1_1) = v1 c
          ∧ r.2.mem ((c.tc : Thread Cert.PoolXIdeal.nD Cert.PoolXIdeal.τ).loc Cert.PoolXIdeal.main_v1_2) = v2 c
          ∧ r.2.mem ((c.tc : Thread Cert.PoolXIdeal.nD Cert.PoolXIdeal.τ).loc Cert.PoolXIdeal.main_arg0) = m ((c.tc : Thread Cert.PoolXIdeal.nD Cert.PoolXIdeal.τ).loc Cert.PoolXIdeal.main_arg0)
          ∧ r.2.mem ((c.tc : Thread Cert.PoolXIdeal.nD Cert.PoolXIdeal.τ).loc Cert.PoolXIdeal.main_arg1) = m ((c.tc : Thread Cert.PoolXIdeal.nD Cert.PoolXIdeal.τ).loc Cert.PoolXIdeal.main_arg1)
          ∧ r.2.mem ((c.tc : Thread Cert.PoolXIdeal.nD Cert.PoolXIdeal.τ).loc Cert.PoolXIdeal.main_arg2) = m ((c.tc : Thread Cert.PoolXIdeal.nD Cert.PoolXIdeal.τ).loc Cert.PoolXIdeal.main_arg2)
          ∧ r.2.mem ((c.tc : Thread Cert.PoolXIdeal.nD Cert.PoolXIdeal.τ).loc Cert.PoolXIdeal.main_arg3) = m ((c.tc : Thread Cert.PoolXIdeal.nD Cert.PoolXIdeal.τ).loc Cert.PoolXIdeal.main_arg3))
      ∧ θ_run (Cert.PoolXReferenceIdeal.defs (F := Ideal)) (onTc (τ := Cert.PoolXReferenceIdeal.τ) (Cert.PoolXReferenceIdeal.main (F := Ideal))) ⟨m', fun _ => 0, g'⟩ (fun r => ∀ c : Dev Cert.PoolXReferenceIdeal.nD,
          r.2.mem ((c.tc : Thread Cert.PoolXReferenceIdeal.nD Cert.PoolXReferenceIdeal.τ).loc Cert.PoolXReferenceIdeal.main_v17) = v0 c
          ∧ r.2.mem ((c.tc : Thread Cert.PoolXReferenceIdeal.nD Cert.PoolXReferenceIdeal.τ).loc Cert.PoolXReferenceIdeal.main_v16) = v1 c
          ∧ r.2.mem ((c.tc : Thread Cert.PoolXReferenceIdeal.nD Cert.PoolXReferenceIdeal.τ).loc Cert.PoolXReferenceIdeal.main_v4) = v2 c
          ∧ r.2.mem ((c.tc : Thread Cert.PoolXReferenceIdeal.nD Cert.PoolXReferenceIdeal.τ).loc Cert.PoolXReferenceIdeal.main_arg0) = m' ((c.tc : Thread Cert.PoolXReferenceIdeal.nD Cert.PoolXReferenceIdeal.τ).loc Cert.PoolXReferenceIdeal.main_arg0)
          ∧ r.2.mem ((c.tc : Thread Cert.PoolXReferenceIdeal.nD Cert.PoolXReferenceIdeal.τ).loc Cert.PoolXReferenceIdeal.main_arg1) = m' ((c.tc : Thread Cert.PoolXReferenceIdeal.nD Cert.PoolXReferenceIdeal.τ).loc Cert.PoolXReferenceIdeal.main_arg1)
          ∧ r.2.mem ((c.tc : Thread Cert.PoolXReferenceIdeal.nD Cert.PoolXReferenceIdeal.τ).loc Cert.PoolXReferenceIdeal.main_arg2) = m' ((c.tc : Thread Cert.PoolXReferenceIdeal.nD Cert.PoolXReferenceIdeal.τ).loc Cert.PoolXReferenceIdeal.main_arg2)
          ∧ r.2.mem ((c.tc : Thread Cert.PoolXReferenceIdeal.nD Cert.PoolXReferenceIdeal.τ).loc Cert.PoolXReferenceIdeal.main_arg3) = m' ((c.tc : Thread Cert.PoolXReferenceIdeal.nD Cert.PoolXReferenceIdeal.τ).loc Cert.PoolXReferenceIdeal.main_arg3))

def preserves_PoolW_PoolWIdeal : Prop :=
  True

def algebraic_PoolWIdeal_PoolWReferenceIdeal [hPoolWIdeal : Cert.PoolWIdeal.Facts] [hPoolWReferenceIdeal : Cert.PoolWReferenceIdeal.Facts] : Prop :=
  ∀ (m : (ℓ : Loc Cert.PoolWIdeal.nD Cert.PoolWIdeal.τ Cert.PoolWIdeal.sig) → Buf (Elt Ideal) ℓ) (g : Dev Cert.PoolWIdeal.nD → PrngReg)
    (m' : (ℓ : Loc Cert.PoolWReferenceIdeal.nD Cert.PoolWReferenceIdeal.τ Cert.PoolWReferenceIdeal.sig) → Buf (Elt Ideal) ℓ) (g' : Dev Cert.PoolWReferenceIdeal.nD → PrngReg), Pre_PoolWIdeal m →
    (∀ c : Dev Cert.PoolWIdeal.nD,
      m' ((c.tc : Thread Cert.PoolWReferenceIdeal.nD Cert.PoolWReferenceIdeal.τ).loc Cert.PoolWReferenceIdeal.main_arg0) = m ((c.tc : Thread Cert.PoolWIdeal.nD Cert.PoolWIdeal.τ).loc Cert.PoolWIdeal.main_arg0)
      ∧ m' ((c.tc : Thread Cert.PoolWReferenceIdeal.nD Cert.PoolWReferenceIdeal.τ).loc Cert.PoolWReferenceIdeal.main_arg1) = m ((c.tc : Thread Cert.PoolWIdeal.nD Cert.PoolWIdeal.τ).loc Cert.PoolWIdeal.main_arg1)) →
    ∃ (v0 : (c : Dev Cert.PoolWIdeal.nD) → Buf (Elt Ideal) ((c.tc : Thread Cert.PoolWIdeal.nD Cert.PoolWIdeal.τ).loc Cert.PoolWIdeal.main_v2)),
      θ_run (Cert.PoolWIdeal.defs (F := Ideal)) (onTc (τ := Cert.PoolWIdeal.τ) (Cert.PoolWIdeal.main (F := Ideal))) ⟨m, fun _ => 0, g⟩ (fun r => ∀ c : Dev Cert.PoolWIdeal.nD,
          r.2.mem ((c.tc : Thread Cert.PoolWIdeal.nD Cert.PoolWIdeal.τ).loc Cert.PoolWIdeal.main_v2) = v0 c
          ∧ r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
          ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1))
      ∧ θ_run (Cert.PoolWReferenceIdeal.defs (F := Ideal)) (onTc (τ := Cert.PoolWReferenceIdeal.τ) (Cert.PoolWReferenceIdeal.main (F := Ideal))) ⟨m', fun _ => 0, g'⟩ (fun r => ∀ c : Dev Cert.PoolWReferenceIdeal.nD,
          r.2.mem ((c.tc : Thread Cert.PoolWReferenceIdeal.nD Cert.PoolWReferenceIdeal.τ).loc Cert.PoolWReferenceIdeal.main_v9) = v0 c
          ∧ r.2.mem ((c.tc : Thread Cert.PoolWReferenceIdeal.nD Cert.PoolWReferenceIdeal.τ).loc Cert.PoolWReferenceIdeal.main_arg0) = m' ((c.tc : Thread Cert.PoolWReferenceIdeal.nD Cert.PoolWReferenceIdeal.τ).loc Cert.PoolWReferenceIdeal.main_arg0)
          ∧ r.2.mem ((c.tc : Thread Cert.PoolWReferenceIdeal.nD Cert.PoolWReferenceIdeal.τ).loc Cert.PoolWReferenceIdeal.main_arg1) = m' ((c.tc : Thread Cert.PoolWReferenceIdeal.nD Cert.PoolWReferenceIdeal.τ).loc Cert.PoolWReferenceIdeal.main_arg1))

def preserves_MeansX_MeansXIdeal : Prop :=
  True

def algebraic_MeansXIdeal_MeansXReferenceIdeal_pre_numbers [hMeansXIdeal : Cert.MeansXIdeal.Facts] [hMeansXReferenceIdeal : Cert.MeansXReferenceIdeal.Facts] [hPre_numbers : Cert.Pre_numbers.Facts] : Prop :=
  ∀ (m : (ℓ : Loc Cert.MeansXIdeal.nD Cert.MeansXIdeal.τ Cert.MeansXIdeal.sig) → Buf (Elt Ideal) ℓ) (g : Dev Cert.MeansXIdeal.nD → PrngReg)
    (m' : (ℓ : Loc Cert.MeansXReferenceIdeal.nD Cert.MeansXReferenceIdeal.τ Cert.MeansXReferenceIdeal.sig) → Buf (Elt Ideal) ℓ) (g' : Dev Cert.MeansXReferenceIdeal.nD → PrngReg), Pre_MeansXIdeal_numbers m →
    (∀ c : Dev Cert.MeansXIdeal.nD,
      m' ((c.tc : Thread Cert.MeansXReferenceIdeal.nD Cert.MeansXReferenceIdeal.τ).loc Cert.MeansXReferenceIdeal.main_arg0) = m ((c.tc : Thread Cert.MeansXIdeal.nD Cert.MeansXIdeal.τ).loc Cert.MeansXIdeal.main_arg0)
      ∧ m' ((c.tc : Thread Cert.MeansXReferenceIdeal.nD Cert.MeansXReferenceIdeal.τ).loc Cert.MeansXReferenceIdeal.main_arg1) = m ((c.tc : Thread Cert.MeansXIdeal.nD Cert.MeansXIdeal.τ).loc Cert.MeansXIdeal.main_arg1)) →
    ∃ (v0 : (c : Dev Cert.MeansXIdeal.nD) → Buf (Elt Ideal) ((c.tc : Thread Cert.MeansXIdeal.nD Cert.MeansXIdeal.τ).loc Cert.MeansXIdeal.main_v0)),
      θ_run (Cert.MeansXIdeal.defs (F := Ideal)) (onTc (τ := Cert.MeansXIdeal.τ) (Cert.MeansXIdeal.main (F := Ideal))) ⟨m, fun _ => 0, g⟩ (fun r => ∀ c : Dev Cert.MeansXIdeal.nD,
          r.2.mem ((c.tc : Thread Cert.MeansXIdeal.nD Cert.MeansXIdeal.τ).loc Cert.MeansXIdeal.main_v0) = v0 c
          ∧ r.2.mem ((c.tc : Thread Cert.MeansXIdeal.nD Cert.MeansXIdeal.τ).loc Cert.MeansXIdeal.main_arg0) = m ((c.tc : Thread Cert.MeansXIdeal.nD Cert.MeansXIdeal.τ).loc Cert.MeansXIdeal.main_arg0)
          ∧ r.2.mem ((c.tc : Thread Cert.MeansXIdeal.nD Cert.MeansXIdeal.τ).loc Cert.MeansXIdeal.main_arg1) = m ((c.tc : Thread Cert.MeansXIdeal.nD Cert.MeansXIdeal.τ).loc Cert.MeansXIdeal.main_arg1))
      ∧ θ_run (Cert.MeansXReferenceIdeal.defs (F := Ideal)) (onTc (τ := Cert.MeansXReferenceIdeal.τ) (Cert.MeansXReferenceIdeal.main (F := Ideal))) ⟨m', fun _ => 0, g'⟩ (fun r => ∀ c : Dev Cert.MeansXReferenceIdeal.nD,
          r.2.mem ((c.tc : Thread Cert.MeansXReferenceIdeal.nD Cert.MeansXReferenceIdeal.τ).loc Cert.MeansXReferenceIdeal.main_v124) = v0 c
          ∧ r.2.mem ((c.tc : Thread Cert.MeansXReferenceIdeal.nD Cert.MeansXReferenceIdeal.τ).loc Cert.MeansXReferenceIdeal.main_arg0) = m' ((c.tc : Thread Cert.MeansXReferenceIdeal.nD Cert.MeansXReferenceIdeal.τ).loc Cert.MeansXReferenceIdeal.main_arg0)
          ∧ r.2.mem ((c.tc : Thread Cert.MeansXReferenceIdeal.nD Cert.MeansXReferenceIdeal.τ).loc Cert.MeansXReferenceIdeal.main_arg1) = m' ((c.tc : Thread Cert.MeansXReferenceIdeal.nD Cert.MeansXReferenceIdeal.τ).loc Cert.MeansXReferenceIdeal.main_arg1))

def preserves_AdamPool_AdamPoolIdeal : Prop :=
  True

def algebraic_AdamPoolIdeal_AdamPoolReferenceIdeal [hAdamPoolIdeal : Cert.AdamPoolIdeal.Facts] [hAdamPoolReferenceIdeal : Cert.AdamPoolReferenceIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolReferenceIdeal.nD Cert.AdamPoolReferenceIdeal.τ Cert.AdamPoolReferenceIdeal.sig) → Buf (Elt Ideal) ℓ) (g' : Dev Cert.AdamPoolReferenceIdeal.nD → PrngReg), Pre_AdamPoolIdeal m →
    (∀ c : Dev Cert.AdamPoolIdeal.nD,
      m' ((c.tc : Thread Cert.AdamPoolReferenceIdeal.nD Cert.AdamPoolReferenceIdeal.τ).loc Cert.AdamPoolReferenceIdeal.main_arg0) = m ((c.tc : Thread Cert.AdamPoolIdeal.nD Cert.AdamPoolIdeal.τ).loc Cert.AdamPoolIdeal.main_arg0)
      ∧ m' ((c.tc : Thread Cert.AdamPoolReferenceIdeal.nD Cert.AdamPoolReferenceIdeal.τ).loc Cert.AdamPoolReferenceIdeal.main_arg1) = m ((c.tc : Thread Cert.AdamPoolIdeal.nD Cert.AdamPoolIdeal.τ).loc Cert.AdamPoolIdeal.main_arg1)
      ∧ m' ((c.tc : Thread Cert.AdamPoolReferenceIdeal.nD Cert.AdamPoolReferenceIdeal.τ).loc Cert.AdamPoolReferenceIdeal.main_arg2) = m ((c.tc : Thread Cert.AdamPoolIdeal.nD Cert.AdamPoolIdeal.τ).loc Cert.AdamPoolIdeal.main_arg2)
      ∧ m' ((c.tc : Thread Cert.AdamPoolReferenceIdeal.nD Cert.AdamPoolReferenceIdeal.τ).loc Cert.AdamPoolReferenceIdeal.main_arg3) = m ((c.tc : Thread Cert.AdamPoolIdeal.nD Cert.AdamPoolIdeal.τ).loc Cert.AdamPoolIdeal.main_arg3)
      ∧ m' ((c.tc : Thread Cert.AdamPoolReferenceIdeal.nD Cert.AdamPoolReferenceIdeal.τ).loc Cert.AdamPoolReferenceIdeal.main_arg4) = m ((c.tc : Thread Cert.AdamPoolIdeal.nD Cert.AdamPoolIdeal.τ).loc Cert.AdamPoolIdeal.main_arg4)) →
    ∃ (v0 : (c : Dev Cert.AdamPoolIdeal.nD) → Buf (Elt Ideal) ((c.tc : Thread Cert.AdamPoolIdeal.nD Cert.AdamPoolIdeal.τ).loc Cert.AdamPoolIdeal.main_v5_0)) (v1 : (c : Dev Cert.AdamPoolIdeal.nD) → Buf (Elt Ideal) ((c.tc : Thread Cert.AdamPoolIdeal.nD Cert.AdamPoolIdeal.τ).loc Cert.AdamPoolIdeal.main_v5_1)) (v2 : (c : Dev Cert.AdamPoolIdeal.nD) → Buf (Elt Ideal) ((c.tc : Thread Cert.AdamPoolIdeal.nD Cert.AdamPoolIdeal.τ).loc Cert.AdamPoolIdeal.main_v5_2)) (v3 : (c : Dev Cert.AdamPoolIdeal.nD) → Buf (Elt Ideal) ((c.tc : Thread Cert.AdamPoolIdeal.nD Cert.AdamPoolIdeal.τ).loc Cert.AdamPoolIdeal.main_v5_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v5_0) = v0 c
          ∧ r.2.mem ((c.tc : Thread Cert.AdamPoolIdeal.nD Cert.AdamPoolIdeal.τ).loc Cert.AdamPoolIdeal.main_v5_1) = v1 c
          ∧ r.2.mem ((c.tc : Thread Cert.AdamPoolIdeal.nD Cert.AdamPoolIdeal.τ).loc Cert.AdamPoolIdeal.main_v5_2) = v2 c
          ∧ r.2.mem ((c.tc : Thread Cert.AdamPoolIdeal.nD Cert.AdamPoolIdeal.τ).loc Cert.AdamPoolIdeal.main_v5_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ θ_run (Cert.AdamPoolReferenceIdeal.defs (F := Ideal)) (onTc (τ := Cert.AdamPoolReferenceIdeal.τ) (Cert.AdamPoolReferenceIdeal.main (F := Ideal))) ⟨m', fun _ => 0, g'⟩ (fun r => ∀ c : Dev Cert.AdamPoolReferenceIdeal.nD,
          r.2.mem ((c.tc : Thread Cert.AdamPoolReferenceIdeal.nD Cert.AdamPoolReferenceIdeal.τ).loc Cert.AdamPoolReferenceIdeal.main_v11) = v0 c
          ∧ r.2.mem ((c.tc : Thread Cert.AdamPoolReferenceIdeal.nD Cert.AdamPoolReferenceIdeal.τ).loc Cert.AdamPoolReferenceIdeal.main_v35) = v1 c
          ∧ r.2.mem ((c.tc : Thread Cert.AdamPoolReferenceIdeal.nD Cert.AdamPoolReferenceIdeal.τ).loc Cert.AdamPoolReferenceIdeal.main_v16) = v2 c
          ∧ r.2.mem ((c.tc : Thread Cert.AdamPoolReferenceIdeal.nD Cert.AdamPoolReferenceIdeal.τ).loc Cert.AdamPoolReferenceIdeal.main_v22) = v3 c
          ∧ r.2.mem ((c.tc : Thread Cert.AdamPoolReferenceIdeal.nD Cert.AdamPoolReferenceIdeal.τ).loc Cert.AdamPoolReferenceIdeal.main_arg0) = m' ((c.tc : Thread Cert.AdamPoolReferenceIdeal.nD Cert.AdamPoolReferenceIdeal.τ).loc Cert.AdamPoolReferenceIdeal.main_arg0)
          ∧ r.2.mem ((c.tc : Thread Cert.AdamPoolReferenceIdeal.nD Cert.AdamPoolReferenceIdeal.τ).loc Cert.AdamPoolReferenceIdeal.main_arg1) = m' ((c.tc : Thread Cert.AdamPoolReferenceIdeal.nD Cert.AdamPoolReferenceIdeal.τ).loc Cert.AdamPoolReferenceIdeal.main_arg1)
          ∧ r.2.mem ((c.tc : Thread Cert.AdamPoolReferenceIdeal.nD Cert.AdamPoolReferenceIdeal.τ).loc Cert.AdamPoolReferenceIdeal.main_arg2) = m' ((c.tc : Thread Cert.AdamPoolReferenceIdeal.nD Cert.AdamPoolReferenceIdeal.τ).loc Cert.AdamPoolReferenceIdeal.main_arg2)
          ∧ r.2.mem ((c.tc : Thread Cert.AdamPoolReferenceIdeal.nD Cert.AdamPoolReferenceIdeal.τ).loc Cert.AdamPoolReferenceIdeal.main_arg3) = m' ((c.tc : Thread Cert.AdamPoolReferenceIdeal.nD Cert.AdamPoolReferenceIdeal.τ).loc Cert.AdamPoolReferenceIdeal.main_arg3)
          ∧ r.2.mem ((c.tc : Thread Cert.AdamPoolReferenceIdeal.nD Cert.AdamPoolReferenceIdeal.τ).loc Cert.AdamPoolReferenceIdeal.main_arg4) = m' ((c.tc : Thread Cert.AdamPoolReferenceIdeal.nD Cert.AdamPoolReferenceIdeal.τ).loc Cert.AdamPoolReferenceIdeal.main_arg4))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v5_0)) (v1 : (c : Dev Cert.AdamOutIdeal.nD) → Buf (Elt Ideal) ((c.tc : Thread Cert.AdamOutIdeal.nD Cert.AdamOutIdeal.τ).loc Cert.AdamOutIdeal.main_v5_1)) (v2 : (c : Dev Cert.AdamOutIdeal.nD) → Buf (Elt Ideal) ((c.tc : Thread Cert.AdamOutIdeal.nD Cert.AdamOutIdeal.τ).loc Cert.AdamOutIdeal.main_v5_2)) (v3 : (c : Dev Cert.AdamOutIdeal.nD) → Buf (Elt Ideal) ((c.tc : Thread Cert.AdamOutIdeal.nD Cert.AdamOutIdeal.τ).loc Cert.AdamOutIdeal.main_v5_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v5_0) = v0 c
          ∧ r.2.mem ((c.tc : Thread Cert.AdamOutIdeal.nD Cert.AdamOutIdeal.τ).loc Cert.AdamOutIdeal.main_v5_1) = v1 c
          ∧ r.2.mem ((c.tc : Thread Cert.AdamOutIdeal.nD Cert.AdamOutIdeal.τ).loc Cert.AdamOutIdeal.main_v5_2) = v2 c
          ∧ r.2.mem ((c.tc : Thread Cert.AdamOutIdeal.nD Cert.AdamOutIdeal.τ).loc Cert.AdamOutIdeal.main_v5_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v11) = v0 c
          ∧ r.2.mem ((c.tc : Thread Cert.AdamOutReferenceIdeal.nD Cert.AdamOutReferenceIdeal.τ).loc Cert.AdamOutReferenceIdeal.main_v35) = v1 c
          ∧ r.2.mem ((c.tc : Thread Cert.AdamOutReferenceIdeal.nD Cert.AdamOutReferenceIdeal.τ).loc Cert.AdamOutReferenceIdeal.main_v16) = v2 c
          ∧ r.2.mem ((c.tc : Thread Cert.AdamOutReferenceIdeal.nD Cert.AdamOutReferenceIdeal.τ).loc Cert.AdamOutReferenceIdeal.main_v22) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v5_0)) (v1 : (c : Dev Cert.AdamInIdeal.nD) → Buf (Elt Ideal) ((c.tc : Thread Cert.AdamInIdeal.nD Cert.AdamInIdeal.τ).loc Cert.AdamInIdeal.main_v5_1)) (v2 : (c : Dev Cert.AdamInIdeal.nD) → Buf (Elt Ideal) ((c.tc : Thread Cert.AdamInIdeal.nD Cert.AdamInIdeal.τ).loc Cert.AdamInIdeal.main_v5_2)) (v3 : (c : Dev Cert.AdamInIdeal.nD) → Buf (Elt Ideal) ((c.tc : Thread Cert.AdamInIdeal.nD Cert.AdamInIdeal.τ).loc Cert.AdamInIdeal.main_v5_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v5_0) = v0 c
          ∧ r.2.mem ((c.tc : Thread Cert.AdamInIdeal.nD Cert.AdamInIdeal.τ).loc Cert.AdamInIdeal.main_v5_1) = v1 c
          ∧ r.2.mem ((c.tc : Thread Cert.AdamInIdeal.nD Cert.AdamInIdeal.τ).loc Cert.AdamInIdeal.main_v5_2) = v2 c
          ∧ r.2.mem ((c.tc : Thread Cert.AdamInIdeal.nD Cert.AdamInIdeal.τ).loc Cert.AdamInIdeal.main_v5_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v11) = v0 c
          ∧ r.2.mem ((c.tc : Thread Cert.AdamInReferenceIdeal.nD Cert.AdamInReferenceIdeal.τ).loc Cert.AdamInReferenceIdeal.main_v35) = v1 c
          ∧ r.2.mem ((c.tc : Thread Cert.AdamInReferenceIdeal.nD Cert.AdamInReferenceIdeal.τ).loc Cert.AdamInReferenceIdeal.main_v16) = v2 c
          ∧ r.2.mem ((c.tc : Thread Cert.AdamInReferenceIdeal.nD Cert.AdamInReferenceIdeal.τ).loc Cert.AdamInReferenceIdeal.main_v22) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)
      ∧ m' ((c.tc : Thread Cert.AdamUpReferenceIdeal.nD Cert.AdamUpReferenceIdeal.τ).loc Cert.AdamUpReferenceIdeal.main_arg5) = m ((c.tc : Thread Cert.AdamUpIdeal.nD Cert.AdamUpIdeal.τ).loc Cert.AdamUpIdeal.main_arg5)
      ∧ m' ((c.tc : Thread Cert.AdamUpReferenceIdeal.nD Cert.AdamUpReferenceIdeal.τ).loc Cert.AdamUpReferenceIdeal.main_arg6) = m ((c.tc : Thread Cert.AdamUpIdeal.nD Cert.AdamUpIdeal.τ).loc Cert.AdamUpIdeal.main_arg6)
      ∧ m' ((c.tc : Thread Cert.AdamUpReferenceIdeal.nD Cert.AdamUpReferenceIdeal.τ).loc Cert.AdamUpReferenceIdeal.main_arg7) = m ((c.tc : Thread Cert.AdamUpIdeal.nD Cert.AdamUpIdeal.τ).loc Cert.AdamUpIdeal.main_arg7)
      ∧ m' ((c.tc : Thread Cert.AdamUpReferenceIdeal.nD Cert.AdamUpReferenceIdeal.τ).loc Cert.AdamUpReferenceIdeal.main_arg8) = m ((c.tc : Thread Cert.AdamUpIdeal.nD Cert.AdamUpIdeal.τ).loc Cert.AdamUpIdeal.main_arg8)) →
    ∃ (v0 : (c : Dev Cert.AdamUpIdeal.nD) → Buf (Elt Ideal) ((c.tc : Thread Cert.AdamUpIdeal.nD Cert.AdamUpIdeal.τ).loc Cert.AdamUpIdeal.main_v5_0)) (v1 : (c : Dev Cert.AdamUpIdeal.nD) → Buf (Elt Ideal) ((c.tc : Thread Cert.AdamUpIdeal.nD Cert.AdamUpIdeal.τ).loc Cert.AdamUpIdeal.main_v5_1)) (v2 : (c : Dev Cert.AdamUpIdeal.nD) → Buf (Elt Ideal) ((c.tc : Thread Cert.AdamUpIdeal.nD Cert.AdamUpIdeal.τ).loc Cert.AdamUpIdeal.main_v5_2)) (v3 : (c : Dev Cert.AdamUpIdeal.nD) → Buf (Elt Ideal) ((c.tc : Thread Cert.AdamUpIdeal.nD Cert.AdamUpIdeal.τ).loc Cert.AdamUpIdeal.main_v5_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v5_0) = v0 c
          ∧ r.2.mem ((c.tc : Thread Cert.AdamUpIdeal.nD Cert.AdamUpIdeal.τ).loc Cert.AdamUpIdeal.main_v5_1) = v1 c
          ∧ r.2.mem ((c.tc : Thread Cert.AdamUpIdeal.nD Cert.AdamUpIdeal.τ).loc Cert.AdamUpIdeal.main_v5_2) = v2 c
          ∧ r.2.mem ((c.tc : Thread Cert.AdamUpIdeal.nD Cert.AdamUpIdeal.τ).loc Cert.AdamUpIdeal.main_v5_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
          ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7)
          ∧ r.2.mem ((c.tc : Thread Cert.AdamUpIdeal.nD Cert.AdamUpIdeal.τ).loc Cert.AdamUpIdeal.main_arg8) = m ((c.tc : Thread Cert.AdamUpIdeal.nD Cert.AdamUpIdeal.τ).loc Cert.AdamUpIdeal.main_arg8))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v45) = v0 c
          ∧ r.2.mem ((c.tc : Thread Cert.AdamUpReferenceIdeal.nD Cert.AdamUpReferenceIdeal.τ).loc Cert.AdamUpReferenceIdeal.main_v50) = v1 c
          ∧ r.2.mem ((c.tc : Thread Cert.AdamUpReferenceIdeal.nD Cert.AdamUpReferenceIdeal.τ).loc Cert.AdamUpReferenceIdeal.main_v55) = v2 c
          ∧ r.2.mem ((c.tc : Thread Cert.AdamUpReferenceIdeal.nD Cert.AdamUpReferenceIdeal.τ).loc Cert.AdamUpReferenceIdeal.main_v60) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4)
          ∧ r.2.mem ((c.tc : Thread Cert.AdamUpReferenceIdeal.nD Cert.AdamUpReferenceIdeal.τ).loc Cert.AdamUpReferenceIdeal.main_arg5) = m' ((c.tc : Thread Cert.AdamUpReferenceIdeal.nD Cert.AdamUpReferenceIdeal.τ).loc Cert.AdamUpReferenceIdeal.main_arg5)
          ∧ r.2.mem ((c.tc : Thread Cert.AdamUpReferenceIdeal.nD Cert.AdamUpReferenceIdeal.τ).loc Cert.AdamUpReferenceIdeal.main_arg6) = m' ((c.tc : Thread Cert.AdamUpReferenceIdeal.nD Cert.AdamUpReferenceIdeal.τ).loc Cert.AdamUpReferenceIdeal.main_arg6)
          ∧ r.2.mem ((c.tc : Thread Cert.AdamUpReferenceIdeal.nD Cert.AdamUpReferenceIdeal.τ).loc Cert.AdamUpReferenceIdeal.main_arg7) = m' ((c.tc : Thread Cert.AdamUpReferenceIdeal.nD Cert.AdamUpReferenceIdeal.τ).loc Cert.AdamUpReferenceIdeal.main_arg7)
          ∧ r.2.mem ((c.tc : Thread Cert.AdamUpReferenceIdeal.nD Cert.AdamUpReferenceIdeal.τ).loc Cert.AdamUpReferenceIdeal.main_arg8) = m' ((c.tc : Thread Cert.AdamUpReferenceIdeal.nD Cert.AdamUpReferenceIdeal.τ).loc Cert.AdamUpReferenceIdeal.main_arg8))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)
      ∧ m' ((c.tc : Thread Cert.AdamDownReferenceIdeal.nD Cert.AdamDownReferenceIdeal.τ).loc Cert.AdamDownReferenceIdeal.main_arg5) = m ((c.tc : Thread Cert.AdamDownIdeal.nD Cert.AdamDownIdeal.τ).loc Cert.AdamDownIdeal.main_arg5)
      ∧ m' ((c.tc : Thread Cert.AdamDownReferenceIdeal.nD Cert.AdamDownReferenceIdeal.τ).loc Cert.AdamDownReferenceIdeal.main_arg6) = m ((c.tc : Thread Cert.AdamDownIdeal.nD Cert.AdamDownIdeal.τ).loc Cert.AdamDownIdeal.main_arg6)
      ∧ m' ((c.tc : Thread Cert.AdamDownReferenceIdeal.nD Cert.AdamDownReferenceIdeal.τ).loc Cert.AdamDownReferenceIdeal.main_arg7) = m ((c.tc : Thread Cert.AdamDownIdeal.nD Cert.AdamDownIdeal.τ).loc Cert.AdamDownIdeal.main_arg7)
      ∧ m' ((c.tc : Thread Cert.AdamDownReferenceIdeal.nD Cert.AdamDownReferenceIdeal.τ).loc Cert.AdamDownReferenceIdeal.main_arg8) = m ((c.tc : Thread Cert.AdamDownIdeal.nD Cert.AdamDownIdeal.τ).loc Cert.AdamDownIdeal.main_arg8)) →
    ∃ (v0 : (c : Dev Cert.AdamDownIdeal.nD) → Buf (Elt Ideal) ((c.tc : Thread Cert.AdamDownIdeal.nD Cert.AdamDownIdeal.τ).loc Cert.AdamDownIdeal.main_v5_0)) (v1 : (c : Dev Cert.AdamDownIdeal.nD) → Buf (Elt Ideal) ((c.tc : Thread Cert.AdamDownIdeal.nD Cert.AdamDownIdeal.τ).loc Cert.AdamDownIdeal.main_v5_1)) (v2 : (c : Dev Cert.AdamDownIdeal.nD) → Buf (Elt Ideal) ((c.tc : Thread Cert.AdamDownIdeal.nD Cert.AdamDownIdeal.τ).loc Cert.AdamDownIdeal.main_v5_2)) (v3 : (c : Dev Cert.AdamDownIdeal.nD) → Buf (Elt Ideal) ((c.tc : Thread Cert.AdamDownIdeal.nD Cert.AdamDownIdeal.τ).loc Cert.AdamDownIdeal.main_v5_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v5_0) = v0 c
          ∧ r.2.mem ((c.tc : Thread Cert.AdamDownIdeal.nD Cert.AdamDownIdeal.τ).loc Cert.AdamDownIdeal.main_v5_1) = v1 c
          ∧ r.2.mem ((c.tc : Thread Cert.AdamDownIdeal.nD Cert.AdamDownIdeal.τ).loc Cert.AdamDownIdeal.main_v5_2) = v2 c
          ∧ r.2.mem ((c.tc : Thread Cert.AdamDownIdeal.nD Cert.AdamDownIdeal.τ).loc Cert.AdamDownIdeal.main_v5_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
          ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7)
          ∧ r.2.mem ((c.tc : Thread Cert.AdamDownIdeal.nD Cert.AdamDownIdeal.τ).loc Cert.AdamDownIdeal.main_arg8) = m ((c.tc : Thread Cert.AdamDownIdeal.nD Cert.AdamDownIdeal.τ).loc Cert.AdamDownIdeal.main_arg8))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v45) = v0 c
          ∧ r.2.mem ((c.tc : Thread Cert.AdamDownReferenceIdeal.nD Cert.AdamDownReferenceIdeal.τ).loc Cert.AdamDownReferenceIdeal.main_v50) = v1 c
          ∧ r.2.mem ((c.tc : Thread Cert.AdamDownReferenceIdeal.nD Cert.AdamDownReferenceIdeal.τ).loc Cert.AdamDownReferenceIdeal.main_v55) = v2 c
          ∧ r.2.mem ((c.tc : Thread Cert.AdamDownReferenceIdeal.nD Cert.AdamDownReferenceIdeal.τ).loc Cert.AdamDownReferenceIdeal.main_v60) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4)
          ∧ r.2.mem ((c.tc : Thread Cert.AdamDownReferenceIdeal.nD Cert.AdamDownReferenceIdeal.τ).loc Cert.AdamDownReferenceIdeal.main_arg5) = m' ((c.tc : Thread Cert.AdamDownReferenceIdeal.nD Cert.AdamDownReferenceIdeal.τ).loc Cert.AdamDownReferenceIdeal.main_arg5)
          ∧ r.2.mem ((c.tc : Thread Cert.AdamDownReferenceIdeal.nD Cert.AdamDownReferenceIdeal.τ).loc Cert.AdamDownReferenceIdeal.main_arg6) = m' ((c.tc : Thread Cert.AdamDownReferenceIdeal.nD Cert.AdamDownReferenceIdeal.τ).loc Cert.AdamDownReferenceIdeal.main_arg6)
          ∧ r.2.mem ((c.tc : Thread Cert.AdamDownReferenceIdeal.nD Cert.AdamDownReferenceIdeal.τ).loc Cert.AdamDownReferenceIdeal.main_arg7) = m' ((c.tc : Thread Cert.AdamDownReferenceIdeal.nD Cert.AdamDownReferenceIdeal.τ).loc Cert.AdamDownReferenceIdeal.main_arg7)
          ∧ r.2.mem ((c.tc : Thread Cert.AdamDownReferenceIdeal.nD Cert.AdamDownReferenceIdeal.τ).loc Cert.AdamDownReferenceIdeal.main_arg8) = m' ((c.tc : Thread Cert.AdamDownReferenceIdeal.nD Cert.AdamDownReferenceIdeal.τ).loc Cert.AdamDownReferenceIdeal.main_arg8))

def preserves_AdamPle_AdamPleIdeal : Prop :=
  True

def algebraic_AdamPleIdeal_AdamPleReferenceIdeal [hAdamPleIdeal : Cert.AdamPleIdeal.Facts] [hAdamPleReferenceIdeal : Cert.AdamPleReferenceIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleReferenceIdeal.nD Cert.AdamPleReferenceIdeal.τ Cert.AdamPleReferenceIdeal.sig) → Buf (Elt Ideal) ℓ) (g' : Dev Cert.AdamPleReferenceIdeal.nD → PrngReg), Pre_AdamPleIdeal m →
    (∀ c : Dev Cert.AdamPleIdeal.nD,
      m' ((c.tc : Thread Cert.AdamPleReferenceIdeal.nD Cert.AdamPleReferenceIdeal.τ).loc Cert.AdamPleReferenceIdeal.main_arg0) = m ((c.tc : Thread Cert.AdamPleIdeal.nD Cert.AdamPleIdeal.τ).loc Cert.AdamPleIdeal.main_arg0)
      ∧ m' ((c.tc : Thread Cert.AdamPleReferenceIdeal.nD Cert.AdamPleReferenceIdeal.τ).loc Cert.AdamPleReferenceIdeal.main_arg1) = m ((c.tc : Thread Cert.AdamPleIdeal.nD Cert.AdamPleIdeal.τ).loc Cert.AdamPleIdeal.main_arg1)
      ∧ m' ((c.tc : Thread Cert.AdamPleReferenceIdeal.nD Cert.AdamPleReferenceIdeal.τ).loc Cert.AdamPleReferenceIdeal.main_arg2) = m ((c.tc : Thread Cert.AdamPleIdeal.nD Cert.AdamPleIdeal.τ).loc Cert.AdamPleIdeal.main_arg2)
      ∧ m' ((c.tc : Thread Cert.AdamPleReferenceIdeal.nD Cert.AdamPleReferenceIdeal.τ).loc Cert.AdamPleReferenceIdeal.main_arg3) = m ((c.tc : Thread Cert.AdamPleIdeal.nD Cert.AdamPleIdeal.τ).loc Cert.AdamPleIdeal.main_arg3)
      ∧ m' ((c.tc : Thread Cert.AdamPleReferenceIdeal.nD Cert.AdamPleReferenceIdeal.τ).loc Cert.AdamPleReferenceIdeal.main_arg4) = m ((c.tc : Thread Cert.AdamPleIdeal.nD Cert.AdamPleIdeal.τ).loc Cert.AdamPleIdeal.main_arg4)
      ∧ m' ((c.tc : Thread Cert.AdamPleReferenceIdeal.nD Cert.AdamPleReferenceIdeal.τ).loc Cert.AdamPleReferenceIdeal.main_arg5) = m ((c.tc : Thread Cert.AdamPleIdeal.nD Cert.AdamPleIdeal.τ).loc Cert.AdamPleIdeal.main_arg5)
      ∧ m' ((c.tc : Thread Cert.AdamPleReferenceIdeal.nD Cert.AdamPleReferenceIdeal.τ).loc Cert.AdamPleReferenceIdeal.main_arg6) = m ((c.tc : Thread Cert.AdamPleIdeal.nD Cert.AdamPleIdeal.τ).loc Cert.AdamPleIdeal.main_arg6)
      ∧ m' ((c.tc : Thread Cert.AdamPleReferenceIdeal.nD Cert.AdamPleReferenceIdeal.τ).loc Cert.AdamPleReferenceIdeal.main_arg7) = m ((c.tc : Thread Cert.AdamPleIdeal.nD Cert.AdamPleIdeal.τ).loc Cert.AdamPleIdeal.main_arg7)
      ∧ m' ((c.tc : Thread Cert.AdamPleReferenceIdeal.nD Cert.AdamPleReferenceIdeal.τ).loc Cert.AdamPleReferenceIdeal.main_arg8) = m ((c.tc : Thread Cert.AdamPleIdeal.nD Cert.AdamPleIdeal.τ).loc Cert.AdamPleIdeal.main_arg8)) →
    ∃ (v0 : (c : Dev Cert.AdamPleIdeal.nD) → Buf (Elt Ideal) ((c.tc : Thread Cert.AdamPleIdeal.nD Cert.AdamPleIdeal.τ).loc Cert.AdamPleIdeal.main_v5_0)) (v1 : (c : Dev Cert.AdamPleIdeal.nD) → Buf (Elt Ideal) ((c.tc : Thread Cert.AdamPleIdeal.nD Cert.AdamPleIdeal.τ).loc Cert.AdamPleIdeal.main_v5_1)) (v2 : (c : Dev Cert.AdamPleIdeal.nD) → Buf (Elt Ideal) ((c.tc : Thread Cert.AdamPleIdeal.nD Cert.AdamPleIdeal.τ).loc Cert.AdamPleIdeal.main_v5_2)) (v3 : (c : Dev Cert.AdamPleIdeal.nD) → Buf (Elt Ideal) ((c.tc : Thread Cert.AdamPleIdeal.nD Cert.AdamPleIdeal.τ).loc Cert.AdamPleIdeal.main_v5_3)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v5_0) = v0 c
          ∧ r.2.mem ((c.tc : Thread Cert.AdamPleIdeal.nD Cert.AdamPleIdeal.τ).loc Cert.AdamPleIdeal.main_v5_1) = v1 c
          ∧ r.2.mem ((c.tc : Thread Cert.AdamPleIdeal.nD Cert.AdamPleIdeal.τ).loc Cert.AdamPleIdeal.main_v5_2) = v2 c
          ∧ r.2.mem ((c.tc : Thread Cert.AdamPleIdeal.nD Cert.AdamPleIdeal.τ).loc Cert.AdamPleIdeal.main_v5_3) = v3 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3)
          ∧ r.2.mem ((c.tc : Thread Cert.AdamPleIdeal.nD Cert.AdamPleIdeal.τ).loc Cert.AdamPleIdeal.main_arg4) = m ((c.tc : Thread Cert.AdamPleIdeal.nD Cert.AdamPleIdeal.τ).loc Cert.AdamPleIdeal.main_arg4)
          ∧ r.2.mem ((c.tc : Thread Cert.AdamPleIdeal.nD Cert.AdamPleIdeal.τ).loc Cert.AdamPleIdeal.main_arg5) = m ((c.tc : Thread Cert.AdamPleIdeal.nD Cert.AdamPleIdeal.τ).loc Cert.AdamPleIdeal.main_arg5)
          ∧ r.2.mem ((c.tc : Thread Cert.AdamPleIdeal.nD Cert.AdamPleIdeal.τ).loc Cert.AdamPleIdeal.main_arg6) = m ((c.tc : Thread Cert.AdamPleIdeal.nD Cert.AdamPleIdeal.τ).loc Cert.AdamPleIdeal.main_arg6)
          ∧ r.2.mem ((c.tc : Thread Cert.AdamPleIdeal.nD Cert.AdamPleIdeal.τ).loc Cert.AdamPleIdeal.main_arg7) = m ((c.tc : Thread Cert.AdamPleIdeal.nD Cert.AdamPleIdeal.τ).loc Cert.AdamPleIdeal.main_arg7)
          ∧ r.2.mem ((c.tc : Thread Cert.AdamPleIdeal.nD Cert.AdamPleIdeal.τ).loc Cert.AdamPleIdeal.main_arg8) = m ((c.tc : Thread Cert.AdamPleIdeal.nD Cert.AdamPleIdeal.τ).loc Cert.AdamPleIdeal.main_arg8))
      ∧ θ_run (Cert.AdamPleReferenceIdeal.defs (F := Ideal)) (onTc (τ := Cert.AdamPleReferenceIdeal.τ) (Cert.AdamPleReferenceIdeal.main (F := Ideal))) ⟨m', fun _ => 0, g'⟩ (fun r => ∀ c : Dev Cert.AdamPleReferenceIdeal.nD,
          r.2.mem ((c.tc : Thread Cert.AdamPleReferenceIdeal.nD Cert.AdamPleReferenceIdeal.τ).loc Cert.AdamPleReferenceIdeal.main_v45) = v0 c
          ∧ r.2.mem ((c.tc : Thread Cert.AdamPleReferenceIdeal.nD Cert.AdamPleReferenceIdeal.τ).loc Cert.AdamPleReferenceIdeal.main_v50) = v1 c
          ∧ r.2.mem ((c.tc : Thread Cert.AdamPleReferenceIdeal.nD Cert.AdamPleReferenceIdeal.τ).loc Cert.AdamPleReferenceIdeal.main_v55) = v2 c
          ∧ r.2.mem ((c.tc : Thread Cert.AdamPleReferenceIdeal.nD Cert.AdamPleReferenceIdeal.τ).loc Cert.AdamPleReferenceIdeal.main_v60) = v3 c
          ∧ r.2.mem ((c.tc : Thread Cert.AdamPleReferenceIdeal.nD Cert.AdamPleReferenceIdeal.τ).loc Cert.AdamPleReferenceIdeal.main_arg0) = m' ((c.tc : Thread Cert.AdamPleReferenceIdeal.nD Cert.AdamPleReferenceIdeal.τ).loc Cert.AdamPleReferenceIdeal.main_arg0)
          ∧ r.2.mem ((c.tc : Thread Cert.AdamPleReferenceIdeal.nD Cert.AdamPleReferenceIdeal.τ).loc Cert.AdamPleReferenceIdeal.main_arg1) = m' ((c.tc : Thread Cert.AdamPleReferenceIdeal.nD Cert.AdamPleReferenceIdeal.τ).loc Cert.AdamPleReferenceIdeal.main_arg1)
          ∧ r.2.mem ((c.tc : Thread Cert.AdamPleReferenceIdeal.nD Cert.AdamPleReferenceIdeal.τ).loc Cert.AdamPleReferenceIdeal.main_arg2) = m' ((c.tc : Thread Cert.AdamPleReferenceIdeal.nD Cert.AdamPleReferenceIdeal.τ).loc Cert.AdamPleReferenceIdeal.main_arg2)
          ∧ r.2.mem ((c.tc : Thread Cert.AdamPleReferenceIdeal.nD Cert.AdamPleReferenceIdeal.τ).loc Cert.AdamPleReferenceIdeal.main_arg3) = m' ((c.tc : Thread Cert.AdamPleReferenceIdeal.nD Cert.AdamPleReferenceIdeal.τ).loc Cert.AdamPleReferenceIdeal.main_arg3)
          ∧ r.2.mem ((c.tc : Thread Cert.AdamPleReferenceIdeal.nD Cert.AdamPleReferenceIdeal.τ).loc Cert.AdamPleReferenceIdeal.main_arg4) = m' ((c.tc : Thread Cert.AdamPleReferenceIdeal.nD Cert.AdamPleReferenceIdeal.τ).loc Cert.AdamPleReferenceIdeal.main_arg4)
          ∧ r.2.mem ((c.tc : Thread Cert.AdamPleReferenceIdeal.nD Cert.AdamPleReferenceIdeal.τ).loc Cert.AdamPleReferenceIdeal.main_arg5) = m' ((c.tc : Thread Cert.AdamPleReferenceIdeal.nD Cert.AdamPleReferenceIdeal.τ).loc Cert.AdamPleReferenceIdeal.main_arg5)
          ∧ r.2.mem ((c.tc : Thread Cert.AdamPleReferenceIdeal.nD Cert.AdamPleReferenceIdeal.τ).loc Cert.AdamPleReferenceIdeal.main_arg6) = m' ((c.tc : Thread Cert.AdamPleReferenceIdeal.nD Cert.AdamPleReferenceIdeal.τ).loc Cert.AdamPleReferenceIdeal.main_arg6)
          ∧ r.2.mem ((c.tc : Thread Cert.AdamPleReferenceIdeal.nD Cert.AdamPleReferenceIdeal.τ).loc Cert.AdamPleReferenceIdeal.main_arg7) = m' ((c.tc : Thread Cert.AdamPleReferenceIdeal.nD Cert.AdamPleReferenceIdeal.τ).loc Cert.AdamPleReferenceIdeal.main_arg7)
          ∧ r.2.mem ((c.tc : Thread Cert.AdamPleReferenceIdeal.nD Cert.AdamPleReferenceIdeal.τ).loc Cert.AdamPleReferenceIdeal.main_arg8) = m' ((c.tc : Thread Cert.AdamPleReferenceIdeal.nD Cert.AdamPleReferenceIdeal.τ).loc Cert.AdamPleReferenceIdeal.main_arg8))

def preserves_AdamGate_AdamGateIdeal : Prop :=
  True

def algebraic_AdamGateIdeal_AdamGateReferenceIdeal [hAdamGateIdeal : Cert.AdamGateIdeal.Facts] [hAdamGateReferenceIdeal : Cert.AdamGateReferenceIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateIdeal m →
    (∀ c : Dev Cert.AdamGateIdeal.nD,
      m' ((c.tc : Thread Cert.AdamGateReferenceIdeal.nD Cert.AdamGateReferenceIdeal.τ).loc Cert.AdamGateReferenceIdeal.main_arg0) = m ((c.tc : Thread Cert.AdamGateIdeal.nD Cert.AdamGateIdeal.τ).loc Cert.AdamGateIdeal.main_arg0)
      ∧ m' ((c.tc : Thread Cert.AdamGateReferenceIdeal.nD Cert.AdamGateReferenceIdeal.τ).loc Cert.AdamGateReferenceIdeal.main_arg1) = m ((c.tc : Thread Cert.AdamGateIdeal.nD Cert.AdamGateIdeal.τ).loc Cert.AdamGateIdeal.main_arg1)
      ∧ m' ((c.tc : Thread Cert.AdamGateReferenceIdeal.nD Cert.AdamGateReferenceIdeal.τ).loc Cert.AdamGateReferenceIdeal.main_arg2) = m ((c.tc : Thread Cert.AdamGateIdeal.nD Cert.AdamGateIdeal.τ).loc Cert.AdamGateIdeal.main_arg2)
      ∧ m' ((c.tc : Thread Cert.AdamGateReferenceIdeal.nD Cert.AdamGateReferenceIdeal.τ).loc Cert.AdamGateReferenceIdeal.main_arg3) = m ((c.tc : Thread Cert.AdamGateIdeal.nD Cert.AdamGateIdeal.τ).loc Cert.AdamGateIdeal.main_arg3)
      ∧ m' ((c.tc : Thread Cert.AdamGateReferenceIdeal.nD Cert.AdamGateReferenceIdeal.τ).loc Cert.AdamGateReferenceIdeal.main_arg4) = m ((c.tc : Thread Cert.AdamGateIdeal.nD Cert.AdamGateIdeal.τ).loc Cert.AdamGateIdeal.main_arg4)
      ∧ m' ((c.tc : Thread Cert.AdamGateReferenceIdeal.nD Cert.AdamGateReferenceIdeal.τ).loc Cert.AdamGateReferenceIdeal.main_arg5) = m ((c.tc : Thread Cert.AdamGateIdeal.nD Cert.AdamGateIdeal.τ).loc Cert.AdamGateIdeal.main_arg5)
      ∧ m' ((c.tc : Thread Cert.AdamGateReferenceIdeal.nD Cert.AdamGateReferenceIdeal.τ).loc Cert.AdamGateReferenceIdeal.main_arg6) = m ((c.tc : Thread Cert.AdamGateIdeal.nD Cert.AdamGateIdeal.τ).loc Cert.AdamGateIdeal.main_arg6)
      ∧ m' ((c.tc : Thread Cert.AdamGateReferenceIdeal.nD Cert.AdamGateReferenceIdeal.τ).loc Cert.AdamGateReferenceIdeal.main_arg7) = m ((c.tc : Thread Cert.AdamGateIdeal.nD Cert.AdamGateIdeal.τ).loc Cert.AdamGateIdeal.main_arg7)
      ∧ m' ((c.tc : Thread Cert.AdamGateReferenceIdeal.nD Cert.AdamGateReferenceIdeal.τ).loc Cert.AdamGateReferenceIdeal.main_arg8) = m ((c.tc : Thread Cert.AdamGateIdeal.nD Cert.AdamGateIdeal.τ).loc Cert.AdamGateIdeal.main_arg8)) →
    ∃ (v0 : (c : Dev Cert.AdamGateIdeal.nD) → Buf (Elt Ideal) ((c.tc : Thread Cert.AdamGateIdeal.nD Cert.AdamGateIdeal.τ).loc Cert.AdamGateIdeal.main_v5_0)) (v1 : (c : Dev Cert.AdamGateIdeal.nD) → Buf (Elt Ideal) ((c.tc : Thread Cert.AdamGateIdeal.nD Cert.AdamGateIdeal.τ).loc Cert.AdamGateIdeal.main_v5_1)) (v2 : (c : Dev Cert.AdamGateIdeal.nD) → Buf (Elt Ideal) ((c.tc : Thread Cert.AdamGateIdeal.nD Cert.AdamGateIdeal.τ).loc Cert.AdamGateIdeal.main_v5_2)) (v3 : (c : Dev Cert.AdamGateIdeal.nD) → Buf (Elt Ideal) ((c.tc : Thread Cert.AdamGateIdeal.nD Cert.AdamGateIdeal.τ).loc Cert.AdamGateIdeal.main_v5_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v5_0) = v0 c
          ∧ r.2.mem ((c.tc : Thread Cert.AdamGateIdeal.nD Cert.AdamGateIdeal.τ).loc Cert.AdamGateIdeal.main_v5_1) = v1 c
          ∧ r.2.mem ((c.tc : Thread Cert.AdamGateIdeal.nD Cert.AdamGateIdeal.τ).loc Cert.AdamGateIdeal.main_v5_2) = v2 c
          ∧ r.2.mem ((c.tc : Thread Cert.AdamGateIdeal.nD Cert.AdamGateIdeal.τ).loc Cert.AdamGateIdeal.main_v5_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
          ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
          ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
          ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7)
          ∧ r.2.mem ((c.tc : Thread Cert.AdamGateIdeal.nD Cert.AdamGateIdeal.τ).loc Cert.AdamGateIdeal.main_arg8) = m ((c.tc : Thread Cert.AdamGateIdeal.nD Cert.AdamGateIdeal.τ).loc Cert.AdamGateIdeal.main_arg8))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v45) = v0 c
          ∧ r.2.mem ((c.tc : Thread Cert.AdamGateReferenceIdeal.nD Cert.AdamGateReferenceIdeal.τ).loc Cert.AdamGateReferenceIdeal.main_v50) = v1 c
          ∧ r.2.mem ((c.tc : Thread Cert.AdamGateReferenceIdeal.nD Cert.AdamGateReferenceIdeal.τ).loc Cert.AdamGateReferenceIdeal.main_v55) = v2 c
          ∧ r.2.mem ((c.tc : Thread Cert.AdamGateReferenceIdeal.nD Cert.AdamGateReferenceIdeal.τ).loc Cert.AdamGateReferenceIdeal.main_v60) = v3 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3)
          ∧ r.2.mem ((c.tc : Thread Cert.AdamGateReferenceIdeal.nD Cert.AdamGateReferenceIdeal.τ).loc Cert.AdamGateReferenceIdeal.main_arg4) = m' ((c.tc : Thread Cert.AdamGateReferenceIdeal.nD Cert.AdamGateReferenceIdeal.τ).loc Cert.AdamGateReferenceIdeal.main_arg4)
          ∧ r.2.mem ((c.tc : Thread Cert.AdamGateReferenceIdeal.nD Cert.AdamGateReferenceIdeal.τ).loc Cert.AdamGateReferenceIdeal.main_arg5) = m' ((c.tc : Thread Cert.AdamGateReferenceIdeal.nD Cert.AdamGateReferenceIdeal.τ).loc Cert.AdamGateReferenceIdeal.main_arg5)
          ∧ r.2.mem ((c.tc : Thread Cert.AdamGateReferenceIdeal.nD Cert.AdamGateReferenceIdeal.τ).loc Cert.AdamGateReferenceIdeal.main_arg6) = m' ((c.tc : Thread Cert.AdamGateReferenceIdeal.nD Cert.AdamGateReferenceIdeal.τ).loc Cert.AdamGateReferenceIdeal.main_arg6)
          ∧ r.2.mem ((c.tc : Thread Cert.AdamGateReferenceIdeal.nD Cert.AdamGateReferenceIdeal.τ).loc Cert.AdamGateReferenceIdeal.main_arg7) = m' ((c.tc : Thread Cert.AdamGateReferenceIdeal.nD Cert.AdamGateReferenceIdeal.τ).loc Cert.AdamGateReferenceIdeal.main_arg7)
          ∧ r.2.mem ((c.tc : Thread Cert.AdamGateReferenceIdeal.nD Cert.AdamGateReferenceIdeal.τ).loc Cert.AdamGateReferenceIdeal.main_arg8) = m' ((c.tc : Thread Cert.AdamGateReferenceIdeal.nD Cert.AdamGateReferenceIdeal.τ).loc Cert.AdamGateReferenceIdeal.main_arg8))

def Claim : Prop :=
  ∃ (hKernel : Cert.Kernel.Facts) (hKernelIdeal : Cert.KernelIdeal.Facts) (hReferenceIdeal : Cert.ReferenceIdeal.Facts) (hDownW : Cert.DownW.Facts) (hDownWIdeal : Cert.DownWIdeal.Facts) (hDownWReferenceIdeal : Cert.DownWReferenceIdeal.Facts) (hDownX : Cert.DownX.Facts) (hDownXIdeal : Cert.DownXIdeal.Facts) (hDownXReferenceIdeal : Cert.DownXReferenceIdeal.Facts) (hUpW : Cert.UpW.Facts) (hUpWIdeal : Cert.UpWIdeal.Facts) (hUpWReferenceIdeal : Cert.UpWReferenceIdeal.Facts) (hUpX : Cert.UpX.Facts) (hUpXIdeal : Cert.UpXIdeal.Facts) (hUpXReferenceIdeal : Cert.UpXReferenceIdeal.Facts) (hOutW : Cert.OutW.Facts) (hOutWIdeal : Cert.OutWIdeal.Facts) (hOutWReferenceIdeal : Cert.OutWReferenceIdeal.Facts) (hOutX : Cert.OutX.Facts) (hOutXIdeal : Cert.OutXIdeal.Facts) (hOutXReferenceIdeal : Cert.OutXReferenceIdeal.Facts) (hInX : Cert.InX.Facts) (hInXIdeal : Cert.InXIdeal.Facts) (hInXReferenceIdeal : Cert.InXReferenceIdeal.Facts) (hGateW : Cert.GateW.Facts) (hGateWIdeal : Cert.GateWIdeal.Facts) (hGateWReferenceIdeal : Cert.GateWReferenceIdeal.Facts) (hGateX : Cert.GateX.Facts) (hGateXIdeal : Cert.GateXIdeal.Facts) (hGateXReferenceIdeal : Cert.GateXReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hIn : Cert.In.Facts) (hInIdeal : Cert.InIdeal.Facts) (hInReferenceIdeal : Cert.InReferenceIdeal.Facts) (hOut : Cert.Out.Facts) (hOutIdeal : Cert.OutIdeal.Facts) (hOutReferenceIdeal : Cert.OutReferenceIdeal.Facts) (hGate : Cert.Gate.Facts) (hGateIdeal : Cert.GateIdeal.Facts) (hGateReferenceIdeal : Cert.GateReferenceIdeal.Facts) (hPle : Cert.Ple.Facts) (hPleIdeal : Cert.PleIdeal.Facts) (hPleReferenceIdeal : Cert.PleReferenceIdeal.Facts) (hPleW : Cert.PleW.Facts) (hPleWIdeal : Cert.PleWIdeal.Facts) (hPleWReferenceIdeal : Cert.PleWReferenceIdeal.Facts) (hPool : Cert.Pool.Facts) (hPoolIdeal : Cert.PoolIdeal.Facts) (hPoolReferenceIdeal : Cert.PoolReferenceIdeal.Facts) (hPoolX : Cert.PoolX.Facts) (hPoolXIdeal : Cert.PoolXIdeal.Facts) (hPoolXReferenceIdeal : Cert.PoolXReferenceIdeal.Facts) (hPoolW : Cert.PoolW.Facts) (hPoolWIdeal : Cert.PoolWIdeal.Facts) (hPoolWReferenceIdeal : Cert.PoolWReferenceIdeal.Facts) (hMeansX : Cert.MeansX.Facts) (hMeansXIdeal : Cert.MeansXIdeal.Facts) (hMeansXReferenceIdeal : Cert.MeansXReferenceIdeal.Facts) (hAdamPool : Cert.AdamPool.Facts) (hAdamPoolIdeal : Cert.AdamPoolIdeal.Facts) (hAdamPoolReferenceIdeal : Cert.AdamPoolReferenceIdeal.Facts) (hAdamOut : Cert.AdamOut.Facts) (hAdamOutIdeal : Cert.AdamOutIdeal.Facts) (hAdamOutReferenceIdeal : Cert.AdamOutReferenceIdeal.Facts) (hAdamIn : Cert.AdamIn.Facts) (hAdamInIdeal : Cert.AdamInIdeal.Facts) (hAdamInReferenceIdeal : Cert.AdamInReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamPle : Cert.AdamPle.Facts) (hAdamPleIdeal : Cert.AdamPleIdeal.Facts) (hAdamPleReferenceIdeal : Cert.AdamPleReferenceIdeal.Facts) (hAdamGate : Cert.AdamGate.Facts) (hAdamGateIdeal : Cert.AdamGateIdeal.Facts) (hAdamGateReferenceIdeal : Cert.AdamGateReferenceIdeal.Facts) (hPre_finite : Cert.Pre_finite.Facts) (hPre_numbers : Cert.Pre_numbers.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownW (hDownW := hDownW)
    ∧ quiescent_DownWIdeal (hDownWIdeal := hDownWIdeal)
    ∧ quiescent_DownWReferenceIdeal (hDownWReferenceIdeal := hDownWReferenceIdeal)
    ∧ quiescent_DownX (hDownX := hDownX)
    ∧ quiescent_DownXIdeal (hDownXIdeal := hDownXIdeal)
    ∧ quiescent_DownXReferenceIdeal (hDownXReferenceIdeal := hDownXReferenceIdeal)
    ∧ quiescent_UpW (hUpW := hUpW)
    ∧ quiescent_UpWIdeal (hUpWIdeal := hUpWIdeal)
    ∧ quiescent_UpWReferenceIdeal (hUpWReferenceIdeal := hUpWReferenceIdeal)
    ∧ quiescent_UpX (hUpX := hUpX)
    ∧ quiescent_UpXIdeal (hUpXIdeal := hUpXIdeal)
    ∧ quiescent_UpXReferenceIdeal (hUpXReferenceIdeal := hUpXReferenceIdeal)
    ∧ quiescent_OutW (hOutW := hOutW)
    ∧ quiescent_OutWIdeal (hOutWIdeal := hOutWIdeal)
    ∧ quiescent_OutWReferenceIdeal (hOutWReferenceIdeal := hOutWReferenceIdeal)
    ∧ quiescent_OutX (hOutX := hOutX)
    ∧ quiescent_OutXIdeal (hOutXIdeal := hOutXIdeal)
    ∧ quiescent_OutXReferenceIdeal (hOutXReferenceIdeal := hOutXReferenceIdeal)
    ∧ quiescent_InX (hInX := hInX)
    ∧ quiescent_InXIdeal (hInXIdeal := hInXIdeal)
    ∧ quiescent_InXReferenceIdeal (hInXReferenceIdeal := hInXReferenceIdeal)
    ∧ quiescent_GateW (hGateW := hGateW)
    ∧ quiescent_GateWIdeal (hGateWIdeal := hGateWIdeal)
    ∧ quiescent_GateWReferenceIdeal (hGateWReferenceIdeal := hGateWReferenceIdeal)
    ∧ quiescent_GateX (hGateX := hGateX)
    ∧ quiescent_GateXIdeal (hGateXIdeal := hGateXIdeal)
    ∧ quiescent_GateXReferenceIdeal (hGateXReferenceIdeal := hGateXReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_In (hIn := hIn)
    ∧ quiescent_InIdeal (hInIdeal := hInIdeal)
    ∧ quiescent_InReferenceIdeal (hInReferenceIdeal := hInReferenceIdeal)
    ∧ quiescent_Out (hOut := hOut)
    ∧ quiescent_OutIdeal (hOutIdeal := hOutIdeal)
    ∧ quiescent_OutReferenceIdeal (hOutReferenceIdeal := hOutReferenceIdeal)
    ∧ quiescent_Gate (hGate := hGate)
    ∧ quiescent_GateIdeal (hGateIdeal := hGateIdeal)
    ∧ quiescent_GateReferenceIdeal (hGateReferenceIdeal := hGateReferenceIdeal)
    ∧ quiescent_Ple (hPle := hPle)
    ∧ quiescent_PleIdeal (hPleIdeal := hPleIdeal)
    ∧ quiescent_PleReferenceIdeal (hPleReferenceIdeal := hPleReferenceIdeal)
    ∧ quiescent_PleW (hPleW := hPleW)
    ∧ quiescent_PleWIdeal (hPleWIdeal := hPleWIdeal)
    ∧ quiescent_PleWReferenceIdeal (hPleWReferenceIdeal := hPleWReferenceIdeal)
    ∧ quiescent_Pool (hPool := hPool)
    ∧ quiescent_PoolIdeal (hPoolIdeal := hPoolIdeal)
    ∧ quiescent_PoolReferenceIdeal (hPoolReferenceIdeal := hPoolReferenceIdeal)
    ∧ quiescent_PoolX (hPoolX := hPoolX)
    ∧ quiescent_PoolXIdeal (hPoolXIdeal := hPoolXIdeal)
    ∧ quiescent_PoolXReferenceIdeal (hPoolXReferenceIdeal := hPoolXReferenceIdeal)
    ∧ quiescent_PoolW (hPoolW := hPoolW)
    ∧ quiescent_PoolWIdeal (hPoolWIdeal := hPoolWIdeal)
    ∧ quiescent_PoolWReferenceIdeal (hPoolWReferenceIdeal := hPoolWReferenceIdeal)
    ∧ quiescent_MeansX (hMeansX := hMeansX)
    ∧ quiescent_MeansXIdeal (hMeansXIdeal := hMeansXIdeal)
    ∧ quiescent_MeansXIdeal_pre_numbers (hMeansXIdeal := hMeansXIdeal) (hPre_numbers := hPre_numbers)
    ∧ quiescent_MeansXReferenceIdeal (hMeansXReferenceIdeal := hMeansXReferenceIdeal)
    ∧ quiescent_MeansXReferenceIdeal_pre_numbers (hMeansXReferenceIdeal := hMeansXReferenceIdeal) (hPre_numbers := hPre_numbers)
    ∧ quiescent_AdamPool (hAdamPool := hAdamPool)
    ∧ quiescent_AdamPoolIdeal (hAdamPoolIdeal := hAdamPoolIdeal)
    ∧ quiescent_AdamPoolReferenceIdeal (hAdamPoolReferenceIdeal := hAdamPoolReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamPle (hAdamPle := hAdamPle)
    ∧ quiescent_AdamPleIdeal (hAdamPleIdeal := hAdamPleIdeal)
    ∧ quiescent_AdamPleReferenceIdeal (hAdamPleReferenceIdeal := hAdamPleReferenceIdeal)
    ∧ quiescent_AdamGate (hAdamGate := hAdamGate)
    ∧ quiescent_AdamGateIdeal (hAdamGateIdeal := hAdamGateIdeal)
    ∧ quiescent_AdamGateReferenceIdeal (hAdamGateReferenceIdeal := hAdamGateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownW_DownWIdeal
    ∧ algebraic_DownWIdeal_DownWReferenceIdeal (hDownWIdeal := hDownWIdeal) (hDownWReferenceIdeal := hDownWReferenceIdeal)
    ∧ preserves_DownX_DownXIdeal
    ∧ algebraic_DownXIdeal_DownXReferenceIdeal (hDownXIdeal := hDownXIdeal) (hDownXReferenceIdeal := hDownXReferenceIdeal)
    ∧ preserves_UpW_UpWIdeal
    ∧ algebraic_UpWIdeal_UpWReferenceIdeal (hUpWIdeal := hUpWIdeal) (hUpWReferenceIdeal := hUpWReferenceIdeal)
    ∧ preserves_UpX_UpXIdeal
    ∧ algebraic_UpXIdeal_UpXReferenceIdeal (hUpXIdeal := hUpXIdeal) (hUpXReferenceIdeal := hUpXReferenceIdeal)
    ∧ preserves_OutW_OutWIdeal
    ∧ algebraic_OutWIdeal_OutWReferenceIdeal (hOutWIdeal := hOutWIdeal) (hOutWReferenceIdeal := hOutWReferenceIdeal)
    ∧ preserves_OutX_OutXIdeal
    ∧ algebraic_OutXIdeal_OutXReferenceIdeal (hOutXIdeal := hOutXIdeal) (hOutXReferenceIdeal := hOutXReferenceIdeal)
    ∧ preserves_InX_InXIdeal
    ∧ algebraic_InXIdeal_InXReferenceIdeal (hInXIdeal := hInXIdeal) (hInXReferenceIdeal := hInXReferenceIdeal)
    ∧ preserves_GateW_GateWIdeal
    ∧ algebraic_GateWIdeal_GateWReferenceIdeal (hGateWIdeal := hGateWIdeal) (hGateWReferenceIdeal := hGateWReferenceIdeal)
    ∧ preserves_GateX_GateXIdeal
    ∧ algebraic_GateXIdeal_GateXReferenceIdeal (hGateXIdeal := hGateXIdeal) (hGateXReferenceIdeal := hGateXReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_In_InIdeal
    ∧ algebraic_InIdeal_InReferenceIdeal (hInIdeal := hInIdeal) (hInReferenceIdeal := hInReferenceIdeal)
    ∧ preserves_Out_OutIdeal
    ∧ algebraic_OutIdeal_OutReferenceIdeal (hOutIdeal := hOutIdeal) (hOutReferenceIdeal := hOutReferenceIdeal)
    ∧ preserves_Gate_GateIdeal
    ∧ algebraic_GateIdeal_GateReferenceIdeal (hGateIdeal := hGateIdeal) (hGateReferenceIdeal := hGateReferenceIdeal)
    ∧ preserves_Ple_PleIdeal
    ∧ algebraic_PleIdeal_PleReferenceIdeal (hPleIdeal := hPleIdeal) (hPleReferenceIdeal := hPleReferenceIdeal)
    ∧ preserves_PleW_PleWIdeal
    ∧ algebraic_PleWIdeal_PleWReferenceIdeal (hPleWIdeal := hPleWIdeal) (hPleWReferenceIdeal := hPleWReferenceIdeal)
    ∧ preserves_Pool_PoolIdeal
    ∧ algebraic_PoolIdeal_PoolReferenceIdeal (hPoolIdeal := hPoolIdeal) (hPoolReferenceIdeal := hPoolReferenceIdeal)
    ∧ preserves_PoolX_PoolXIdeal
    ∧ algebraic_PoolXIdeal_PoolXReferenceIdeal (hPoolXIdeal := hPoolXIdeal) (hPoolXReferenceIdeal := hPoolXReferenceIdeal)
    ∧ preserves_PoolW_PoolWIdeal
    ∧ algebraic_PoolWIdeal_PoolWReferenceIdeal (hPoolWIdeal := hPoolWIdeal) (hPoolWReferenceIdeal := hPoolWReferenceIdeal)
    ∧ preserves_MeansX_MeansXIdeal
    ∧ algebraic_MeansXIdeal_MeansXReferenceIdeal_pre_numbers (hMeansXIdeal := hMeansXIdeal) (hMeansXReferenceIdeal := hMeansXReferenceIdeal) (hPre_numbers := hPre_numbers)
    ∧ preserves_AdamPool_AdamPoolIdeal
    ∧ algebraic_AdamPoolIdeal_AdamPoolReferenceIdeal (hAdamPoolIdeal := hAdamPoolIdeal) (hAdamPoolReferenceIdeal := hAdamPoolReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamPle_AdamPleIdeal
    ∧ algebraic_AdamPleIdeal_AdamPleReferenceIdeal (hAdamPleIdeal := hAdamPleIdeal) (hAdamPleReferenceIdeal := hAdamPleReferenceIdeal)
    ∧ preserves_AdamGate_AdamGateIdeal
    ∧ algebraic_AdamGateIdeal_AdamGateReferenceIdeal (hAdamGateIdeal := hAdamGateIdeal) (hAdamGateReferenceIdeal := hAdamGateReferenceIdeal)
-- ==== Pre_finite.lean ====
abbrev S2048x6144 : Shape := ⟨2, ![2048, 6144]⟩
abbrev S2048x64 : Shape := ⟨2, ![2048, 64]⟩
abbrev S1x64 : Shape := ⟨2, ![1, 64]⟩
abbrev S2048x4096 : Shape := ⟨2, ![2048, 4096]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S1x64 : S_.BroadcastsInDim S1x64 (![] : Fin 0 → Fin S1x64.rank)
  reducesTo_S1x64_S_d0_1 : S1x64.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg4 : FVec F S2048x4096 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  main_v23

def fn {F : FTy → Type} [FloatOps F] (main_arg0 : FVec F S2048x6144 .f32) (main_arg1 : FVec F S2048x64 .f32) (main_arg2 : FVec F S2048x64 .f32) (main_arg3 : FVec F S1x64 .f32) (main_arg4 : FVec F S2048x4096 .f32) : IVec S_ 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Pre_numbers.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Kernel.lean ====
abbrev S2048x6144 : Shape := ⟨2, ![2048, 6144]⟩
abbrev S2048x64 : Shape := ⟨2, ![2048, 64]⟩
abbrev S1x64 : Shape := ⟨2, ![1, 64]⟩
abbrev S2048x4096 : Shape := ⟨2, ![2048, 4096]⟩
abbrev S16x128x8x8x64 : Shape := ⟨5, ![16, 128, 8, 8, 64]⟩
abbrev S2048x1024 : Shape := ⟨2, ![2048, 1024]⟩
abbrev S16x128x8x128 : Shape := ⟨4, ![16, 128, 8, 128]⟩
abbrev S16x128x8x8 : Shape := ⟨4, ![16, 128, 8, 8]⟩
abbrev S16x128x8x8x1 : Shape := ⟨5, ![16, 128, 8, 8, 1]⟩
abbrev S16x1x8x8 : Shape := ⟨4, ![16, 1, 8, 8]⟩
abbrev S16x8x8x64x128 : Shape := ⟨5, ![16, 8, 8, 64, 128]⟩
abbrev S16x8x8 : Shape := ⟨3, ![16, 8, 8]⟩
abbrev S_ : Shape := ⟨0, ![]⟩
abbrev S8x8x64x128 : Shape := ⟨4, ![8, 8, 64, 128]⟩
abbrev S1x8x8 : Shape := ⟨3, ![1, 8, 8]⟩
abbrev S8x8 : Shape := ⟨2, ![8, 8]⟩
abbrev S8x8x1x1 : Shape := ⟨4, ![8, 8, 1, 1]⟩
abbrev S1x8x8x64x128 : Shape := ⟨5, ![1, 8, 8, 64, 128]⟩
abbrev S16x8x128x8x64 : Shape := ⟨5, ![16, 8, 128, 8, 64]⟩
abbrev S16x8x128x512 : Shape := ⟨4, ![16, 8, 128, 512]⟩
abbrev S2048x64x64 : Shape := ⟨3, ![2048, 64, 64]⟩
abbrev S1x64x64 : Shape := ⟨3, ![1, 64, 64]⟩
abbrev S1x4096 : Shape := ⟨2, ![1, 4096]⟩
abbrev S2048x8x8 : Shape := ⟨3, ![2048, 8, 8]⟩
abbrev S8x2048x8 : Shape := ⟨3, ![8, 2048, 8]⟩
abbrev S8x8x2048 : Shape := ⟨3, ![8, 8, 2048]⟩
abbrev S512x128 : Shape := ⟨2, ![512, 128]⟩
abbrev S8x1x8 : Shape := ⟨3, ![8, 1, 8]⟩
abbrev S1024x512 : Shape := ⟨2, ![1024, 512]⟩
abbrev S1024x128 : Shape := ⟨2, ![1024, 128]⟩
abbrev S1x1024x8 : Shape := ⟨3, ![1, 1024, 8]⟩
abbrev S1x8x1024 : Shape := ⟨3, ![1, 8, 1024]⟩
abbrev S1x512 : Shape := ⟨2, ![1, 512]⟩
abbrev S8x1x128x512 : Shape := ⟨4, ![8, 1, 128, 512]⟩
abbrev S1x1x8 : Shape := ⟨3, ![1, 1, 8]⟩
abbrev S128x512 : Shape := ⟨2, ![128, 512]⟩
abbrev S1x8 : Shape := ⟨2, ![1, 8]⟩
abbrev S1x128 : Shape := ⟨2, ![1, 128]⟩
abbrev S128x1 : Shape := ⟨2, ![128, 1]⟩
abbrev S128x128 : Shape := ⟨2, ![128, 128]⟩
abbrev S1x128x8 : Shape := ⟨3, ![1, 128, 8]⟩
abbrev S128x8 : Shape := ⟨2, ![128, 8]⟩
abbrev S1x8x128 : Shape := ⟨3, ![1, 8, 128]⟩
abbrev S8x128 : Shape := ⟨2, ![8, 128]⟩
abbrev S1x1x128x512 : Shape := ⟨4, ![1, 1, 128, 512]⟩
abbrev S256x128 : Shape := ⟨2, ![256, 128]⟩
abbrev S128x256 : Shape := ⟨2, ![128, 256]⟩
abbrev S8x512 : Shape := ⟨2, ![8, 512]⟩
abbrev S128 : Shape := ⟨1, ![128]⟩

abbrev nBuf : Space → Nat
  | .hbm => 220
  | .vmem => 36
  | .smem => 0
  | _ => 0

abbrev hbmTy0_0 (i : Nat) : BufTy := match i % 128 with
  | 0 => ⟨S2048x6144, .f32⟩
  | 1 => ⟨S2048x64, .f32⟩
  | 2 => ⟨S2048x64, .f32⟩
  | 3 => ⟨S1x64, .f32⟩
  | 4 => ⟨S2048x4096, .f32⟩
  | 5 => ⟨S2048x4096, .f32⟩
  | 6 => ⟨S16x128x8x8x64, .f32⟩
  | 7 => ⟨S2048x1024, .f32⟩
  | 8 => ⟨S16x128x8x128, .f32⟩
  | 9 => ⟨S16x128x8x8, .f32⟩
  | 10 => ⟨S16x128x8x8, .f32⟩
  | 11 => ⟨S16x128x8x8x1, .f32⟩
  | 12 => ⟨S16x128x8x8x64, .f32⟩
  | 13 => ⟨S16x128x8x8x64, .f32⟩
  | 14 => ⟨S16x1x8x8, .f32⟩
  | 15 => ⟨S16x128x8x8, .f32⟩
  | 16 => ⟨S16x128x8x8, .f32⟩
  | 17 => ⟨S16x128x8x8, .f32⟩
  | 18 => ⟨S16x128x8x8x1, .f32⟩
  | 19 => ⟨S16x128x8x8x64, .f32⟩
  | 20 => ⟨S16x128x8x8x64, .f32⟩
  | 21 => ⟨S16x8x8x64x128, .f32⟩
  | 22 => ⟨S16x1x8x8, .f32⟩
  | 23 => ⟨S16x8x8, .f32⟩
  | 24 => ⟨S16x8x8, .f32⟩
  | 25 => ⟨S_, .f32⟩
  | 26 => ⟨S8x8x64x128, .f32⟩
  | 27 => ⟨S1x8x8, .f32⟩
  | 28 => ⟨S8x8, .f32⟩
  | 29 => ⟨S8x8x1x1, .f32⟩
  | 30 => ⟨S8x8x64x128, .f32⟩
  | 31 => ⟨S8x8x64x128, .f32⟩
  | 32 => ⟨S1x8x8x64x128, .f32⟩
  | 33 => ⟨S8x8x64x128, .f32⟩
  | 34 => ⟨S8x8x64x128, .f32⟩
  | 35 => ⟨S1x8x8, .f32⟩
  | 36 => ⟨S8x8, .f32⟩
  | 37 => ⟨S8x8x1x1, .f32⟩
  | 38 => ⟨S8x8x64x128, .f32⟩
  | 39 => ⟨S8x8x64x128, .f32⟩
  | 40 => ⟨S1x8x8x64x128, .f32⟩
  | 41 => ⟨S8x8x64x128, .f32⟩
  | 42 => ⟨S8x8x64x128, .f32⟩
  | 43 => ⟨S1x8x8, .f32⟩
  | 44 => ⟨S8x8, .f32⟩
  | 45 => ⟨S8x8x1x1, .f32⟩
  | 46 => ⟨S8x8x64x128, .f32⟩
  | 47 => ⟨S8x8x64x128, .f32⟩
  | 48 => ⟨S1x8x8x64x128, .f32⟩
  | 49 => ⟨S8x8x64x128, .f32⟩
  | 50 => ⟨S8x8x64x128, .f32⟩
  | 51 => ⟨S1x8x8, .f32⟩
  | 52 => ⟨S8x8, .f32⟩
  | 53 => ⟨S8x8x1x1, .f32⟩
  | 54 => ⟨S8x8x64x128, .f32⟩
  | 55 => ⟨S8x8x64x128, .f32⟩
  | 56 => ⟨S1x8x8x64x128, .f32⟩
  | 57 => ⟨S8x8x64x128, .f32⟩
  | 58 => ⟨S8x8x64x128, .f32⟩
  | 59 => ⟨S1x8x8, .f32⟩
  | 60 => ⟨S8x8, .f32⟩
  | 61 => ⟨S8x8x1x1, .f32⟩
  | 62 => ⟨S8x8x64x128, .f32⟩
  | 63 => ⟨S8x8x64x128, .f32⟩
  | 64 => ⟨S1x8x8x64x128, .f32⟩
  | 65 => ⟨S8x8x64x128, .f32⟩
  | 66 => ⟨S8x8x64x128, .f32⟩
  | 67 => ⟨S1x8x8, .f32⟩
  | 68 => ⟨S8x8, .f32⟩
  | 69 => ⟨S8x8x1x1, .f32⟩
  | 70 => ⟨S8x8x64x128, .f32⟩
  | 71 => ⟨S8x8x64x128, .f32⟩
  | 72 => ⟨S1x8x8x64x128, .f32⟩
  | 73 => ⟨S8x8x64x128, .f32⟩
  | 74 => ⟨S8x8x64x128, .f32⟩
  | 75 => ⟨S1x8x8, .f32⟩
  | 76 => ⟨S8x8, .f32⟩
  | 77 => ⟨S8x8x1x1, .f32⟩
  | 78 => ⟨S8x8x64x128, .f32⟩
  | 79 => ⟨S8x8x64x128, .f32⟩
  | 80 => ⟨S1x8x8x64x128, .f32⟩
  | 81 => ⟨S8x8x64x128, .f32⟩
  | 82 => ⟨S8x8x64x128, .f32⟩
  | 83 => ⟨S1x8x8, .f32⟩
  | 84 => ⟨S8x8, .f32⟩
  | 85 => ⟨S8x8x1x1, .f32⟩
  | 86 => ⟨S8x8x64x128, .f32⟩
  | 87 => ⟨S8x8x64x128, .f32⟩
  | 88 => ⟨S1x8x8x64x128, .f32⟩
  | 89 => ⟨S8x8x64x128, .f32⟩
  | 90 => ⟨S8x8x64x128, .f32⟩
  | 91 => ⟨S1x8x8, .f32⟩
  | 92 => ⟨S8x8, .f32⟩
  | 93 => ⟨S8x8x1x1, .f32⟩
  | 94 => ⟨S8x8x64x128, .f32⟩
  | 95 => ⟨S8x8x64x128, .f32⟩
  | 96 => ⟨S1x8x8x64x128, .f32⟩
  | 97 => ⟨S8x8x64x128, .f32⟩
  | 98 => ⟨S8x8x64x128, .f32⟩
  | 99 => ⟨S1x8x8, .f32⟩
  | 100 => ⟨S8x8, .f32⟩
  | 101 => ⟨S8x8x1x1, .f32⟩
  | 102 => ⟨S8x8x64x128, .f32⟩
  | 103 => ⟨S8x8x64x128, .f32⟩
  | 104 => ⟨S1x8x8x64x128, .f32⟩
  | 105 => ⟨S8x8x64x128, .f32⟩
  | 106 => ⟨S8x8x64x128, .f32⟩
  | 107 => ⟨S1x8x8, .f32⟩
  | 108 => ⟨S8x8, .f32⟩
  | 109 => ⟨S8x8x1x1, .f32⟩
  | 110 => ⟨S8x8x64x128, .f32⟩
  | 111 => ⟨S8x8x64x128, .f32⟩
  | 112 => ⟨S1x8x8x64x128, .f32⟩
  | 113 => ⟨S8x8x64x128, .f32⟩
  | 114 => ⟨S8x8x64x128, .f32⟩
  | 115 => ⟨S1x8x8, .f32⟩
  | 116 => ⟨S8x8, .f32⟩
  | 117 => ⟨S8x8x1x1, .f32⟩
  | 118 => ⟨S8x8x64x128, .f32⟩
  | 119 => ⟨S8x8x64x128, .f32⟩
  | 120 => ⟨S1x8x8x64x128, .f32⟩
  | 121 => ⟨S8x8x64x128, .f32⟩
  | 122 => ⟨S8x8x64x128, .f32⟩
  | 123 => ⟨S1x8x8, .f32⟩
  | 124 => ⟨S8x8, .f32⟩
  | 125 => ⟨S8x8x1x1, .f32⟩
  | 126 => ⟨S8x8x64x128, .f32⟩
  | 127 => ⟨S8x8x64x128, .f32⟩
  | _ => ⟨S2048x6144, .f32⟩

abbrev hbmTy0_1 (i : Nat) : BufTy := match i % 128 with
  | 0 => ⟨S1x8x8x64x128, .f32⟩
  | 1 => ⟨S8x8x64x128, .f32⟩
  | 2 => ⟨S8x8x64x128, .f32⟩
  | 3 => ⟨S1x8x8, .f32⟩
  | 4 => ⟨S8x8, .f32⟩
  | 5 => ⟨S8x8x1x1, .f32⟩
  | 6 => ⟨S8x8x64x128, .f32⟩
  | 7 => ⟨S8x8x64x128, .f32⟩
  | 8 => ⟨S1x8x8x64x128, .f32⟩
  | 9 => ⟨S8x8x64x128, .f32⟩
  | 10 => ⟨S8x8x64x128, .f32⟩
  | 11 => ⟨S1x8x8, .f32⟩
  | 12 => ⟨S8x8, .f32⟩
  | 13 => ⟨S8x8x1x1, .f32⟩
  | 14 => ⟨S8x8x64x128, .f32⟩
  | 15 => ⟨S8x8x64x128, .f32⟩
  | 16 => ⟨S1x8x8x64x128, .f32⟩
  | 17 => ⟨S8x8x64x128, .f32⟩
  | 18 => ⟨S8x8x64x128, .f32⟩
  | 19 => ⟨S1x8x8, .f32⟩
  | 20 => ⟨S8x8, .f32⟩
  | 21 => ⟨S8x8x1x1, .f32⟩
  | 22 => ⟨S8x8x64x128, .f32⟩
  | 23 => ⟨S8x8x64x128, .f32⟩
  | 24 => ⟨S1x8x8x64x128, .f32⟩
  | 25 => ⟨S8x8x64x128, .f32⟩
  | 26 => ⟨S8x8x64x128, .f32⟩
  | 27 => ⟨S1x8x8x64x128, .f32⟩
  | 28 => ⟨S1x8x8x64x128, .f32⟩
  | 29 => ⟨S1x8x8x64x128, .f32⟩
  | 30 => ⟨S1x8x8x64x128, .f32⟩
  | 31 => ⟨S1x8x8x64x128, .f32⟩
  | 32 => ⟨S1x8x8x64x128, .f32⟩
  | 33 => ⟨S1x8x8x64x128, .f32⟩
  | 34 => ⟨S1x8x8x64x128, .f32⟩
  | 35 => ⟨S1x8x8x64x128, .f32⟩
  | 36 => ⟨S1x8x8x64x128, .f32⟩
  | 37 => ⟨S1x8x8x64x128, .f32⟩
  | 38 => ⟨S1x8x8x64x128, .f32⟩
  | 39 => ⟨S1x8x8x64x128, .f32⟩
  | 40 => ⟨S1x8x8x64x128, .f32⟩
  | 41 => ⟨S1x8x8x64x128, .f32⟩
  | 42 => ⟨S1x8x8x64x128, .f32⟩
  | 43 => ⟨S16x8x8x64x128, .f32⟩
  | 44 => ⟨S16x8x128x8x64, .f32⟩
  | 45 => ⟨S16x8x128x512, .f32⟩
  | 46 => ⟨S2048x64, .f32⟩
  | 47 => ⟨S16x1x8x8, .f32⟩
  | 48 => ⟨S16x128x8x8, .f32⟩
  | 49 => ⟨S16x128x8x8, .f32⟩
  | 50 => ⟨S16x128x8x8, .f32⟩
  | 51 => ⟨S2048x64, .f32⟩
  | 52 => ⟨S2048x64x64, .f32⟩
  | 53 => ⟨S2048x4096, .f32⟩
  | 54 => ⟨S2048x64x64, .f32⟩
  | 55 => ⟨S2048x4096, .f32⟩
  | 56 => ⟨S2048x64x64, .f32⟩
  | 57 => ⟨S2048x4096, .f32⟩
  | 58 => ⟨S1x64x64, .f32⟩
  | 59 => ⟨S1x4096, .f32⟩
  | 60 => ⟨S2048x8x8, .f32⟩
  | 61 => ⟨S8x2048x8, .f32⟩
  | 62 => ⟨S2048x8x8, .f32⟩
  | 63 => ⟨S8x8x2048, .f32⟩
  | 64 => ⟨S512x128, .i32⟩
  | 65 => ⟨S_, .i32⟩
  | 66 => ⟨S_, .i32⟩
  | 67 => ⟨S512x128, .i32⟩
  | 68 => ⟨S512x128, .i32⟩
  | 69 => ⟨S512x128, .i32⟩
  | 70 => ⟨S_, .i32⟩
  | 71 => ⟨S512x128, .i32⟩
  | 72 => ⟨S512x128, .i1⟩
  | 73 => ⟨S512x128, .i32⟩
  | 74 => ⟨S512x128, .i32⟩
  | 75 => ⟨S_, .i32⟩
  | 76 => ⟨S512x128, .i32⟩
  | 77 => ⟨S512x128, .i1⟩
  | 78 => ⟨S512x128, .i1⟩
  | 79 => ⟨S_, .i32⟩
  | 80 => ⟨S512x128, .i32⟩
  | 81 => ⟨S512x128, .i32⟩
  | 82 => ⟨S512x128, .i32⟩
  | 83 => ⟨S512x128, .i32⟩
  | 84 => ⟨S512x128, .i1⟩
  | 85 => ⟨S512x128, .bf16⟩
  | 86 => ⟨S2048x4096, .f32⟩
  | 87 => ⟨S2048x1024, .f32⟩
  | 88 => ⟨S2048x1024, .f32⟩
  | 89 => ⟨S8x2048x8, .f32⟩
  | 90 => ⟨S8x2048x8, .f32⟩
  | 91 => ⟨S8x1x8, .f32⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x1024x8, .f32⟩
  | .local _ .vmem, ⟨13, _⟩ => ⟨S1x1024x8, .f32⟩
  | .local _ .vmem, ⟨14, _⟩ => ⟨S1x8x1024, .f32⟩
  | .local _ .vmem, ⟨15, _⟩ => ⟨S1x8x1024, .f32⟩
  | .local _ .vmem, ⟨16, _⟩ => ⟨S1x512, .f32⟩
  | .local _ .vmem, ⟨17, _⟩ => ⟨S1x512, .f32⟩
  | .local _ .vmem, ⟨18, _⟩ => ⟨S8x1x128x512, .f32⟩
  | .local _ .vmem, ⟨19, _⟩ => ⟨S8x1x128x512, .f32⟩
  | .local _ .vmem, ⟨20, _⟩ => ⟨S1024x512, .f32⟩
  | .local _ .vmem, ⟨21, _⟩ => ⟨S1024x512, .f32⟩
  | .local _ .vmem, ⟨22, _⟩ => ⟨S512x128, .bf16⟩
  | .local _ .vmem, ⟨23, _⟩ => ⟨S1024x512, .f32⟩
  | .local _ .vmem, ⟨24, _⟩ => ⟨S1024x512, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1x1024x8, .f32⟩
  | .local _ .vmem, ⟨30, _⟩ => ⟨S1x1024x8, .f32⟩
  | .local _ .vmem, ⟨31, _⟩ => ⟨S1x1024x8, .f32⟩
  | .local _ .vmem, ⟨32, _⟩ => ⟨S1x1024x8, .f32⟩
  | .local _ .vmem, ⟨33, _⟩ => ⟨S1x1x8, .f32⟩
  | .local _ .vmem, ⟨34, _⟩ => ⟨S1x1x8, .f32⟩
  | .local _ .vmem, ⟨35, _⟩ => ⟨S128x512, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_c : Ref sig .tc := ⟨.hbm, 193, rfl⟩
abbrev main_call0_v0 : Ref sig .tc := ⟨.hbm, 194, rfl⟩
abbrev main_call0_v1 : Ref sig .tc := ⟨.hbm, 195, rfl⟩
abbrev main_call0_v2 : Ref sig .tc := ⟨.hbm, 196, rfl⟩
abbrev main_call0_v3 : Ref sig .tc := ⟨.hbm, 197, rfl⟩
abbrev main_call0_v4 : Ref sig .tc := ⟨.hbm, 198, rfl⟩
abbrev main_call0_v5 : Ref sig .tc := ⟨.hbm, 199, rfl⟩
abbrev main_call0_v6 : Ref sig .tc := ⟨.hbm, 200, rfl⟩
abbrev main_call0_v7 : Ref sig .tc := ⟨.hbm, 201, rfl⟩
abbrev main_call0_v8 : Ref sig .tc := ⟨.hbm, 202, rfl⟩
abbrev main_call0_c : Ref sig .tc := ⟨.hbm, 203, rfl⟩
abbrev main_call0_v9 : Ref sig .tc := ⟨.hbm, 204, rfl⟩
abbrev main_call0_v10 : Ref sig .tc := ⟨.hbm, 205, rfl⟩
abbrev main_call0_v11 : Ref sig .tc := ⟨.hbm, 206, rfl⟩
abbrev main_call0_c_0 : Ref sig .tc := ⟨.hbm, 207, rfl⟩
abbrev main_call0_v12 : Ref sig .tc := ⟨.hbm, 208, rfl⟩
abbrev main_call0_v13 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191_0 : Ref sig .tc := ⟨.hbm, 214, rfl⟩
abbrev main_v191_1 : Ref sig .tc := ⟨.hbm, 215, rfl⟩
abbrev main_v191_2 : Ref sig .tc := ⟨.hbm, 216, rfl⟩
abbrev main_v191_3 : Ref sig .tc := ⟨.hbm, 217, rfl⟩
abbrev main_v191_4 : Ref sig .tc := ⟨.hbm, 218, rfl⟩
abbrev main_v191_5 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c32_i32 : BitVec 32 := 32#32
  let v1 : BitVec 32 := Scalar.addi c32_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c40_i32 : BitVec 32 := 40#32
  let v1 : BitVec 32 := Scalar.addi c40_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S2048x6144 : Shape := ⟨2, ![2048, 6144]⟩
abbrev S2048x64 : Shape := ⟨2, ![2048, 64]⟩
abbrev S1x64 : Shape := ⟨2, ![1, 64]⟩
abbrev S2048x4096 : Shape := ⟨2, ![2048, 4096]⟩
abbrev S2048x1024 : Shape := ⟨2, ![2048, 1024]⟩
abbrev S16x128x8x8x64 : Shape := ⟨5, ![16, 128, 8, 8, 64]⟩
abbrev S16x128x8x128 : Shape := ⟨4, ![16, 128, 8, 128]⟩
abbrev S16x128x8x8 : Shape := ⟨4, ![16, 128, 8, 8]⟩
abbrev S8x8x16x128 : Shape := ⟨4, ![8, 8, 16, 128]⟩
abbrev S16x128x8x8x1 : Shape := ⟨5, ![16, 128, 8, 8, 1]⟩
abbrev S_ : Shape := ⟨0, ![]⟩
abbrev S128x128 : Shape := ⟨2, ![128, 128]⟩
abbrev S8x8x16x128x1 : Shape := ⟨5, ![8, 8, 16, 128, 1]⟩
abbrev S8x8x16x1x128 : Shape := ⟨5, ![8, 8, 16, 1, 128]⟩
abbrev S8x8x16x128x128 : Shape := ⟨5, ![8, 8, 16, 128, 128]⟩
abbrev S8x16x128x128 : Shape := ⟨4, ![8, 16, 128, 128]⟩
abbrev S8x1x16x128x128 : Shape := ⟨5, ![8, 1, 16, 128, 128]⟩
abbrev S16x8x8x64x128 : Shape := ⟨5, ![16, 8, 8, 64, 128]⟩
abbrev S8x8x16x1 : Shape := ⟨4, ![8, 8, 16, 1]⟩
abbrev S8x8x16 : Shape := ⟨3, ![8, 8, 16]⟩
abbrev S16x8x8 : Shape := ⟨3, ![16, 8, 8]⟩
abbrev S8x8x64x128 : Shape := ⟨4, ![8, 8, 64, 128]⟩
abbrev S1x8x8 : Shape := ⟨3, ![1, 8, 8]⟩
abbrev S8x8 : Shape := ⟨2, ![8, 8]⟩
abbrev S8x8x1x1 : Shape := ⟨4, ![8, 8, 1, 1]⟩
abbrev S1x8x8x64x128 : Shape := ⟨5, ![1, 8, 8, 64, 128]⟩
abbrev S8x8x1 : Shape := ⟨3, ![8, 8, 1]⟩
abbrev S1x1x8x8x1 : Shape := ⟨5, ![1, 1, 8, 8, 1]⟩
abbrev S16x8x128x128 : Shape := ⟨4, ![16, 8, 128, 128]⟩
abbrev S16x8x8x128x128 : Shape := ⟨5, ![16, 8, 8, 128, 128]⟩
abbrev S2048x8x8 : Shape := ⟨3, ![2048, 8, 8]⟩
abbrev S8x2048x8 : Shape := ⟨3, ![8, 2048, 8]⟩
abbrev S8x1x8 : Shape := ⟨3, ![8, 1, 8]⟩

abbrev nBuf : Space → Nat
  | .hbm => 618
  | .vmem => 0
  | .smem => 0
  | _ => 0

abbrev hbmTy0_0 (i : Nat) : BufTy := match i % 128 with
  | 0 => ⟨S2048x6144, .f32⟩
  | 1 => ⟨S2048x64, .f32⟩
  | 2 => ⟨S2048x64, .f32⟩
  | 3 => ⟨S1x64, .f32⟩
  | 4 => ⟨S2048x4096, .f32⟩
  | 5 => ⟨S2048x4096, .f32⟩
  | 6 => ⟨S2048x1024, .f32⟩
  | 7 => ⟨S2048x1024, .f32⟩
  | 8 => ⟨S16x128x8x8x64, .f32⟩
  | 9 => ⟨S16x128x8x128, .f32⟩
  | 10 => ⟨S16x128x8x128, .f32⟩
  | 11 => ⟨S16x128x8x8, .f32⟩
  | 12 => ⟨S16x128x8x8, .f32⟩
  | 13 => ⟨S8x8x16x128, .f32⟩
  | 14 => ⟨S16x128x8x8x1, .f32⟩
  | 15 => ⟨S16x128x8x8x64, .f32⟩
  | 16 => ⟨S16x128x8x8x64, .f32⟩
  | 17 => ⟨S_, .i1⟩
  | 18 => ⟨S128x128, .i1⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .i1⟩
  | 26 => ⟨S128x128, .i1⟩
  | 27 => ⟨S128x128, .i1⟩
  | 28 => ⟨S8x8x16x128x1, .f32⟩
  | 29 => ⟨S8x8x16x1x128, .f32⟩
  | 30 => ⟨S8x8x16x128x128, .f32⟩
  | 31 => ⟨S8x8x16x128x128, .f32⟩
  | 32 => ⟨S8x8x16x128x128, .f32⟩
  | 33 => ⟨S_, .f32⟩
  | 34 => ⟨S_, .f32⟩
  | 35 => ⟨S8x8x16x128x128, .i1⟩
  | 36 => ⟨S8x8x16x128x128, .f32⟩
  | 37 => ⟨S8x8x16x128x128, .f32⟩
  | 38 => ⟨S_, .f32⟩
  | 39 => ⟨S8x8x16x128x128, .f32⟩
  | 40 => ⟨S8x8x16x128x128, .f32⟩
  | 41 => ⟨S8x16x128x128, .f32⟩
  | 42 => ⟨S8x1x16x128x128, .f32⟩
  | 43 => ⟨S8x8x16x128x128, .f32⟩
  | 44 => ⟨S8x8x16x128x128, .f32⟩
  | 45 => ⟨S16x8x8x64x128, .f32⟩
  | 46 => ⟨S16x128x8x8x64, .f32⟩
  | 47 => ⟨S8x8x16x1, .f32⟩
  | 48 => ⟨S8x8x16x128, .f32⟩
  | 49 => ⟨S8x8x16x128, .f32⟩
  | 50 => ⟨S8x8x16x128, .f32⟩
  | 51 => ⟨S16x128x8x8, .f32⟩
  | 52 => ⟨S16x128x8x8x1, .f32⟩
  | 53 => ⟨S16x128x8x8x64, .f32⟩
  | 54 => ⟨S16x128x8x8x64, .f32⟩
  | 55 => ⟨S16x8x8x64x128, .f32⟩
  | 56 => ⟨S8x8x16x1, .f32⟩
  | 57 => ⟨S8x8x16, .f32⟩
  | 58 => ⟨S8x8x16, .f32⟩
  | 59 => ⟨S16x8x8, .f32⟩
  | 60 => ⟨S_, .f32⟩
  | 61 => ⟨S8x8x64x128, .f32⟩
  | 62 => ⟨S1x8x8, .f32⟩
  | 63 => ⟨S8x8, .f32⟩
  | 64 => ⟨S8x8x1x1, .f32⟩
  | 65 => ⟨S8x8x64x128, .f32⟩
  | 66 => ⟨S8x8x64x128, .f32⟩
  | 67 => ⟨S1x8x8x64x128, .f32⟩
  | 68 => ⟨S8x8x64x128, .f32⟩
  | 69 => ⟨S8x8x64x128, .f32⟩
  | 70 => ⟨S1x8x8, .f32⟩
  | 71 => ⟨S8x8, .f32⟩
  | 72 => ⟨S8x8x1x1, .f32⟩
  | 73 => ⟨S8x8x64x128, .f32⟩
  | 74 => ⟨S8x8x64x128, .f32⟩
  | 75 => ⟨S1x8x8x64x128, .f32⟩
  | 76 => ⟨S8x8x64x128, .f32⟩
  | 77 => ⟨S8x8x64x128, .f32⟩
  | 78 => ⟨S1x8x8, .f32⟩
  | 79 => ⟨S8x8, .f32⟩
  | 80 => ⟨S8x8x1x1, .f32⟩
  | 81 => ⟨S8x8x64x128, .f32⟩
  | 82 => ⟨S8x8x64x128, .f32⟩
  | 83 => ⟨S1x8x8x64x128, .f32⟩
  | 84 => ⟨S8x8x64x128, .f32⟩
  | 85 => ⟨S8x8x64x128, .f32⟩
  | 86 => ⟨S1x8x8, .f32⟩
  | 87 => ⟨S8x8, .f32⟩
  | 88 => ⟨S8x8x1x1, .f32⟩
  | 89 => ⟨S8x8x64x128, .f32⟩
  | 90 => ⟨S8x8x64x128, .f32⟩
  | 91 => ⟨S1x8x8x64x128, .f32⟩
  | 92 => ⟨S8x8x64x128, .f32⟩
  | 93 => ⟨S8x8x64x128, .f32⟩
  | 94 => ⟨S1x8x8, .f32⟩
  | 95 => ⟨S8x8, .f32⟩
  | 96 => ⟨S8x8x1x1, .f32⟩
  | 97 => ⟨S8x8x64x128, .f32⟩
  | 98 => ⟨S8x8x64x128, .f32⟩
  | 99 => ⟨S1x8x8x64x128, .f32⟩
  | 100 => ⟨S8x8x64x128, .f32⟩
  | 101 => ⟨S8x8x64x128, .f32⟩
  | 102 => ⟨S1x8x8, .f32⟩
  | 103 => ⟨S8x8, .f32⟩
  | 104 => ⟨S8x8x1x1, .f32⟩
  | 105 => ⟨S8x8x64x128, .f32⟩
  | 106 => ⟨S8x8x64x128, .f32⟩
  | 107 => ⟨S1x8x8x64x128, .f32⟩
  | 108 => ⟨S8x8x64x128, .f32⟩
  | 109 => ⟨S8x8x64x128, .f32⟩
  | 110 => ⟨S1x8x8, .f32⟩
  | 111 => ⟨S8x8, .f32⟩
  | 112 => ⟨S8x8x1x1, .f32⟩
  | 113 => ⟨S8x8x64x128, .f32⟩
  | 114 => ⟨S8x8x64x128, .f32⟩
  | 115 => ⟨S1x8x8x64x128, .f32⟩
  | 116 => ⟨S8x8x64x128, .f32⟩
  | 117 => ⟨S8x8x64x128, .f32⟩
  | 118 => ⟨S1x8x8, .f32⟩
  | 119 => ⟨S8x8, .f32⟩
  | 120 => ⟨S8x8x1x1, .f32⟩
  | 121 => ⟨S8x8x64x128, .f32⟩
  | 122 => ⟨S8x8x64x128, .f32⟩
  | 123 => ⟨S1x8x8x64x128, .f32⟩
  | 124 => ⟨S8x8x64x128, .f32⟩
  | 125 => ⟨S8x8x64x128, .f32⟩
  | 126 => ⟨S1x8x8, .f32⟩
  | 127 => ⟨S8x8, .f32⟩
  | _ => ⟨S2048x6144, .f32⟩

abbrev hbmTy0_1 (i : Nat) : BufTy := match i % 128 with
  | 0 => ⟨S8x8x1x1, .f32⟩
  | 1 => ⟨S8x8x64x128, .f32⟩
  | 2 => ⟨S8x8x64x128, .f32⟩
  | 3 => ⟨S1x8x8x64x128, .f32⟩
  | 4 => ⟨S8x8x64x128, .f32⟩
  | 5 => ⟨S8x8x64x128, .f32⟩
  | 6 => ⟨S1x8x8, .f32⟩
  | 7 => ⟨S8x8, .f32⟩
  | 8 => ⟨S8x8x1x1, .f32⟩
  | 9 => ⟨S8x8x64x128, .f32⟩
  | 10 => ⟨S8x8x64x128, .f32⟩
  | 11 => ⟨S1x8x8x64x128, .f32⟩
  | 12 => ⟨S8x8x64x128, .f32⟩
  | 13 => ⟨S8x8x64x128, .f32⟩
  | 14 => ⟨S1x8x8, .f32⟩
  | 15 => ⟨S8x8, .f32⟩
  | 16 => ⟨S8x8x1x1, .f32⟩
  | 17 => ⟨S8x8x64x128, .f32⟩
  | 18 => ⟨S8x8x64x128, .f32⟩
  | 19 => ⟨S1x8x8x64x128, .f32⟩
  | 20 => ⟨S8x8x64x128, .f32⟩
  | 21 => ⟨S8x8x64x128, .f32⟩
  | 22 => ⟨S1x8x8, .f32⟩
  | 23 => ⟨S8x8, .f32⟩
  | 24 => ⟨S8x8x1x1, .f32⟩
  | 25 => ⟨S8x8x64x128, .f32⟩
  | 26 => ⟨S8x8x64x128, .f32⟩
  | 27 => ⟨S1x8x8x64x128, .f32⟩
  | 28 => ⟨S8x8x64x128, .f32⟩
  | 29 => ⟨S8x8x64x128, .f32⟩
  | 30 => ⟨S1x8x8, .f32⟩
  | 31 => ⟨S8x8, .f32⟩
  | 32 => ⟨S8x8x1x1, .f32⟩
  | 33 => ⟨S8x8x64x128, .f32⟩
  | 34 => ⟨S8x8x64x128, .f32⟩
  | 35 => ⟨S1x8x8x64x128, .f32⟩
  | 36 => ⟨S8x8x64x128, .f32⟩
  | 37 => ⟨S8x8x64x128, .f32⟩
  | 38 => ⟨S1x8x8, .f32⟩
  | 39 => ⟨S8x8, .f32⟩
  | 40 => ⟨S8x8x1x1, .f32⟩
  | 41 => ⟨S8x8x64x128, .f32⟩
  | 42 => ⟨S8x8x64x128, .f32⟩
  | 43 => ⟨S1x8x8x64x128, .f32⟩
  | 44 => ⟨S8x8x64x128, .f32⟩
  | 45 => ⟨S8x8x64x128, .f32⟩
  | 46 => ⟨S1x8x8, .f32⟩
  | 47 => ⟨S8x8, .f32⟩
  | 48 => ⟨S8x8x1x1, .f32⟩
  | 49 => ⟨S8x8x64x128, .f32⟩
  | 50 => ⟨S8x8x64x128, .f32⟩
  | 51 => ⟨S1x8x8x64x128, .f32⟩
  | 52 => ⟨S8x8x64x128, .f32⟩
  | 53 => ⟨S8x8x64x128, .f32⟩
  | 54 => ⟨S1x8x8, .f32⟩
  | 55 => ⟨S8x8, .f32⟩
  | 56 => ⟨S8x8x1x1, .f32⟩
  | 57 => ⟨S8x8x64x128, .f32⟩
  | 58 => ⟨S8x8x64x128, .f32⟩
  | 59 => ⟨S1x8x8x64x128, .f32⟩
  | 60 => ⟨S8x8x64x128, .f32⟩
  | 61 => ⟨S8x8x64x128, .f32⟩
  | 62 => ⟨S1x8x8x64x128, .f32⟩
  | 63 => ⟨S1x8x8x64x128, .f32⟩
  | 64 => ⟨S1x8x8x64x128, .f32⟩
  | 65 => ⟨S1x8x8x64x128, .f32⟩
  | 66 => ⟨S1x8x8x64x128, .f32⟩
  | 67 => ⟨S1x8x8x64x128, .f32⟩
  | 68 => ⟨S1x8x8x64x128, .f32⟩
  | 69 => ⟨S1x8x8x64x128, .f32⟩
  | 70 => ⟨S1x8x8x64x128, .f32⟩
  | 71 => ⟨S1x8x8x64x128, .f32⟩
  | 72 => ⟨S1x8x8x64x128, .f32⟩
  | 73 => ⟨S1x8x8x64x128, .f32⟩
  | 74 => ⟨S1x8x8x64x128, .f32⟩
  | 75 => ⟨S1x8x8x64x128, .f32⟩
  | 76 => ⟨S1x8x8x64x128, .f32⟩
  | 77 => ⟨S1x8x8x64x128, .f32⟩
  | 78 => ⟨S16x8x8x64x128, .f32⟩
  | 79 => ⟨S_, .f32⟩
  | 80 => ⟨S8x8x64x128, .f32⟩
  | 81 => ⟨S8x8x16x128, .f32⟩
  | 82 => ⟨S16x128x8x8, .f32⟩
  | 83 => ⟨S16x8x8x64x128, .f32⟩
  | 84 => ⟨S16x128x8x8x64, .f32⟩
  | 85 => ⟨S16x128x8x8x1, .f32⟩
  | 86 => ⟨S16x128x8x8x64, .f32⟩
  | 87 => ⟨S16x128x8x8x64, .f32⟩
  | 88 => ⟨S8x8, .f32⟩
  | 89 => ⟨S8x8x1, .f32⟩
  | 90 => ⟨S16x128x8x8x64, .f32⟩
  | 91 => ⟨S1x1x8x8x1, .f32⟩
  | 92 => ⟨S16x128x8x8x64, .f32⟩
  | 93 => ⟨S16x128x8x8x64, .f32⟩
  | 94 => ⟨S16x128x8x8x64, .f32⟩
  | 95 => ⟨S2048x4096, .f32⟩
  | 96 => ⟨S16x128x8x8x64, .f32⟩
  | 97 => ⟨S16x128x8x8x64, .f32⟩
  | 98 => ⟨S_, .f32⟩
  | 99 => ⟨S8x8, .f32⟩
  | 100 => ⟨S1x1x8x8x1, .f32⟩
  | 101 => ⟨S16x128x8x8x64, .f32⟩
  | 102 => ⟨S16x128x8x8x64, .f32⟩
  | 103 => ⟨S_, .f32⟩
  | 104 => ⟨S8x8, .f32⟩
  | 105 => ⟨S8x8x1, .f32⟩
  | 106 => ⟨S_, .f32⟩
  | 107 => ⟨S8x8, .f32⟩
  | 108 => ⟨S1x64, .f32⟩
  | 109 => ⟨S16x128x8x8x64, .f32⟩
  | 110 => ⟨S_, .f32⟩
  | 111 => ⟨S16x128x8x8, .f32⟩
  | 112 => ⟨S16x128x8x8x1, .f32⟩
  | 113 => ⟨S16x128x8x8x64, .f32⟩
  | 114 => ⟨S16x128x8x8x64, .f32⟩
  | 115 => ⟨S_, .f32⟩
  | 116 => ⟨S16x128x8x8, .f32⟩
  | 117 => ⟨S16x8x8x64x128, .f32⟩
  | 118 => ⟨S16x8x128x128, .f32⟩
  | 119 => ⟨S16x128x8x128, .f32⟩
  | 120 => ⟨S16x8x8x64x128, .f32⟩
  | 121 => ⟨S8x8x16x128, .f32⟩
  | 122 => ⟨S8x8x16x128, .f32⟩
  | 123 => ⟨S1x8x8x64x128, .f32⟩
  | 124 => ⟨S8x8x64x128, .f32⟩
  | 125 => ⟨S1x8x8x64x128, .f32⟩
  | 126 => ⟨S8x8x64x128, .f32⟩
  | 127 => ⟨S1x8x8x64x128, .f32⟩
  | _ => ⟨S2048x6144, .f32⟩

abbrev hbmTy0_2 (i : Nat) : BufTy := match i % 128 with
  | 0 => ⟨S8x8x64x128, .f32⟩
  | 1 => ⟨S1x8x8x64x128, .f32⟩
  | 2 => ⟨S8x8x64x128, .f32⟩
  | 3 => ⟨S1x8x8x64x128, .f32⟩
  | 4 => ⟨S8x8x64x128, .f32⟩
  | 5 => ⟨S1x8x8x64x128, .f32⟩
  | 6 => ⟨S8x8x64x128, .f32⟩
  | 7 => ⟨S1x8x8x64x128, .f32⟩
  | 8 => ⟨S8x8x64x128, .f32⟩
  | 9 => ⟨S1x8x8x64x128, .f32⟩
  | 10 => ⟨S8x8x64x128, .f32⟩
  | 11 => ⟨S1x8x8x64x128, .f32⟩
  | 12 => ⟨S8x8x64x128, .f32⟩
  | 13 => ⟨S1x8x8x64x128, .f32⟩
  | 14 => ⟨S8x8x64x128, .f32⟩
  | 15 => ⟨S1x8x8x64x128, .f32⟩
  | 16 => ⟨S8x8x64x128, .f32⟩
  | 17 => ⟨S1x8x8x64x128, .f32⟩
  | 18 => ⟨S8x8x64x128, .f32⟩
  | 19 => ⟨S1x8x8x64x128, .f32⟩
  | 20 => ⟨S8x8x64x128, .f32⟩
  | 21 => ⟨S1x8x8x64x128, .f32⟩
  | 22 => ⟨S8x8x64x128, .f32⟩
  | 23 => ⟨S1x8x8x64x128, .f32⟩
  | 24 => ⟨S8x8x64x128, .f32⟩
  | 25 => ⟨S1x8x8x64x128, .f32⟩
  | 26 => ⟨S8x8x64x128, .f32⟩
  | 27 => ⟨S1x8x8x64x128, .f32⟩
  | 28 => ⟨S_, .f32⟩
  | 29 => ⟨S16x8x8x64x128, .f32⟩
  | 30 => ⟨S8x8x64x128, .f32⟩
  | 31 => ⟨S8x8x64x128, .f32⟩
  | 32 => ⟨S8x8x64x128, .f32⟩
  | 33 => ⟨S8x8x64x128, .f32⟩
  | 34 => ⟨S_, .f32⟩
  | 35 => ⟨S8x8, .f32⟩
  | 36 => ⟨S8x8x1x1, .f32⟩
  | 37 => ⟨S_, .f32⟩
  | 38 => ⟨S8x8, .f32⟩
  | 39 => ⟨S1x8x8, .f32⟩
  | 40 => ⟨S_, .f32⟩
  | 41 => ⟨S16x8x8, .f32⟩
  | 42 => ⟨S1x8x8x64x128, .f32⟩
  | 43 => ⟨S_, .f32⟩
  | 44 => ⟨S16x8x8x64x128, .f32⟩
  | 45 => ⟨S16x8x8x64x128, .f32⟩
  | 46 => ⟨S8x8x64x128, .f32⟩
  | 47 => ⟨S8x8x64x128, .f32⟩
  | 48 => ⟨S8x8x64x128, .f32⟩
  | 49 => ⟨S8x8x64x128, .f32⟩
  | 50 => ⟨S_, .f32⟩
  | 51 => ⟨S8x8, .f32⟩
  | 52 => ⟨S8x8x1x1, .f32⟩
  | 53 => ⟨S_, .f32⟩
  | 54 => ⟨S8x8, .f32⟩
  | 55 => ⟨S1x8x8, .f32⟩
  | 56 => ⟨S_, .f32⟩
  | 57 => ⟨S16x8x8, .f32⟩
  | 58 => ⟨S16x8x8, .f32⟩
  | 59 => ⟨S1x8x8x64x128, .f32⟩
  | 60 => ⟨S_, .f32⟩
  | 61 => ⟨S16x8x8x64x128, .f32⟩
  | 62 => ⟨S16x8x8x64x128, .f32⟩
  | 63 => ⟨S8x8x64x128, .f32⟩
  | 64 => ⟨S8x8x64x128, .f32⟩
  | 65 => ⟨S8x8x64x128, .f32⟩
  | 66 => ⟨S8x8x64x128, .f32⟩
  | 67 => ⟨S_, .f32⟩
  | 68 => ⟨S8x8, .f32⟩
  | 69 => ⟨S8x8x1x1, .f32⟩
  | 70 => ⟨S_, .f32⟩
  | 71 => ⟨S8x8, .f32⟩
  | 72 => ⟨S1x8x8, .f32⟩
  | 73 => ⟨S_, .f32⟩
  | 74 => ⟨S16x8x8, .f32⟩
  | 75 => ⟨S16x8x8, .f32⟩
  | 76 => ⟨S1x8x8x64x128, .f32⟩
  | 77 => ⟨S_, .f32⟩
  | 78 => ⟨S16x8x8x64x128, .f32⟩
  | 79 => ⟨S16x8x8x64x128, .f32⟩
  | 80 => ⟨S8x8x64x128, .f32⟩
  | 81 => ⟨S8x8x64x128, .f32⟩
  | 82 => ⟨S8x8x64x128, .f32⟩
  | 83 => ⟨S8x8x64x128, .f32⟩
  | 84 => ⟨S_, .f32⟩
  | 85 => ⟨S8x8, .f32⟩
  | 86 => ⟨S8x8x1x1, .f32⟩
  | 87 => ⟨S_, .f32⟩
  | 88 => ⟨S8x8, .f32⟩
  | 89 => ⟨S1x8x8, .f32⟩
  | 90 => ⟨S_, .f32⟩
  | 91 => ⟨S16x8x8, .f32⟩
  | 92 => ⟨S16x8x8, .f32⟩
  | 93 => ⟨S1x8x8x64x128, .f32⟩
  | 94 => ⟨S_, .f32⟩
  | 95 => ⟨S16x8x8x64x128, .f32⟩
  | 96 => ⟨S16x8x8x64x128, .f32⟩
  | 97 => ⟨S8x8x64x128, .f32⟩
  | 98 => ⟨S8x8x64x128, .f32⟩
  | 99 => ⟨S8x8x64x128, .f32⟩
  | 100 => ⟨S8x8x64x128, .f32⟩
  | 101 => ⟨S_, .f32⟩
  | 102 => ⟨S8x8, .f32⟩
  | 103 => ⟨S8x8x1x1, .f32⟩
  | 104 => ⟨S_, .f32⟩
  | 105 => ⟨S8x8, .f32⟩
  | 106 => ⟨S1x8x8, .f32⟩
  | 107 => ⟨S_, .f32⟩
  | 108 => ⟨S16x8x8, .f32⟩
  | 109 => ⟨S16x8x8, .f32⟩
  | 110 => ⟨S1x8x8x64x128, .f32⟩
  | 111 => ⟨S_, .f32⟩
  | 112 => ⟨S16x8x8x64x128, .f32⟩
  | 113 => ⟨S16x8x8x64x128, .f32⟩
  | 114 => ⟨S8x8x64x128, .f32⟩
  | 115 => ⟨S8x8x64x128, .f32⟩
  | 116 => ⟨S8x8x64x128, .f32⟩
  | 117 => ⟨S8x8x64x128, .f32⟩
  | 118 => ⟨S_, .f32⟩
  | 119 => ⟨S8x8, .f32⟩
  | 120 => ⟨S8x8x1x1, .f32⟩
  | 121 => ⟨S_, .f32⟩
  | 122 => ⟨S8x8, .f32⟩
  | 123 => ⟨S1x8x8, .f32⟩
  | 124 => ⟨S_, .f32⟩
  | 125 => ⟨S16x8x8, .f32⟩
  | 126 => ⟨S16x8x8, .f32⟩
  | 127 => ⟨S1x8x8x64x128, .f32⟩
  | _ => ⟨S2048x6144, .f32⟩

abbrev hbmTy0_3 (i : Nat) : BufTy := match i % 128 with
  | 0 => ⟨S_, .f32⟩
  | 1 => ⟨S16x8x8x64x128, .f32⟩
  | 2 => ⟨S16x8x8x64x128, .f32⟩
  | 3 => ⟨S8x8x64x128, .f32⟩
  | 4 => ⟨S8x8x64x128, .f32⟩
  | 5 => ⟨S8x8x64x128, .f32⟩
  | 6 => ⟨S8x8x64x128, .f32⟩
  | 7 => ⟨S_, .f32⟩
  | 8 => ⟨S8x8, .f32⟩
  | 9 => ⟨S8x8x1x1, .f32⟩
  | 10 => ⟨S_, .f32⟩
  | 11 => ⟨S8x8, .f32⟩
  | 12 => ⟨S1x8x8, .f32⟩
  | 13 => ⟨S_, .f32⟩
  | 14 => ⟨S16x8x8, .f32⟩
  | 15 => ⟨S16x8x8, .f32⟩
  | 16 => ⟨S1x8x8x64x128, .f32⟩
  | 17 => ⟨S_, .f32⟩
  | 18 => ⟨S16x8x8x64x128, .f32⟩
  | 19 => ⟨S16x8x8x64x128, .f32⟩
  | 20 => ⟨S8x8x64x128, .f32⟩
  | 21 => ⟨S8x8x64x128, .f32⟩
  | 22 => ⟨S8x8x64x128, .f32⟩
  | 23 => ⟨S8x8x64x128, .f32⟩
  | 24 => ⟨S_, .f32⟩
  | 25 => ⟨S8x8, .f32⟩
  | 26 => ⟨S8x8x1x1, .f32⟩
  | 27 => ⟨S_, .f32⟩
  | 28 => ⟨S8x8, .f32⟩
  | 29 => ⟨S1x8x8, .f32⟩
  | 30 => ⟨S_, .f32⟩
  | 31 => ⟨S16x8x8, .f32⟩
  | 32 => ⟨S16x8x8, .f32⟩
  | 33 => ⟨S1x8x8x64x128, .f32⟩
  | 34 => ⟨S_, .f32⟩
  | 35 => ⟨S16x8x8x64x128, .f32⟩
  | 36 => ⟨S16x8x8x64x128, .f32⟩
  | 37 => ⟨S8x8x64x128, .f32⟩
  | 38 => ⟨S8x8x64x128, .f32⟩
  | 39 => ⟨S8x8x64x128, .f32⟩
  | 40 => ⟨S8x8x64x128, .f32⟩
  | 41 => ⟨S_, .f32⟩
  | 42 => ⟨S8x8, .f32⟩
  | 43 => ⟨S8x8x1x1, .f32⟩
  | 44 => ⟨S_, .f32⟩
  | 45 => ⟨S8x8, .f32⟩
  | 46 => ⟨S1x8x8, .f32⟩
  | 47 => ⟨S_, .f32⟩
  | 48 => ⟨S16x8x8, .f32⟩
  | 49 => ⟨S16x8x8, .f32⟩
  | 50 => ⟨S1x8x8x64x128, .f32⟩
  | 51 => ⟨S_, .f32⟩
  | 52 => ⟨S16x8x8x64x128, .f32⟩
  | 53 => ⟨S16x8x8x64x128, .f32⟩
  | 54 => ⟨S8x8x64x128, .f32⟩
  | 55 => ⟨S8x8x64x128, .f32⟩
  | 56 => ⟨S8x8x64x128, .f32⟩
  | 57 => ⟨S8x8x64x128, .f32⟩
  | 58 => ⟨S_, .f32⟩
  | 59 => ⟨S8x8, .f32⟩
  | 60 => ⟨S8x8x1x1, .f32⟩
  | 61 => ⟨S_, .f32⟩
  | 62 => ⟨S8x8, .f32⟩
  | 63 => ⟨S1x8x8, .f32⟩
  | 64 => ⟨S_, .f32⟩
  | 65 => ⟨S16x8x8, .f32⟩
  | 66 => ⟨S16x8x8, .f32⟩
  | 67 => ⟨S1x8x8x64x128, .f32⟩
  | 68 => ⟨S_, .f32⟩
  | 69 => ⟨S16x8x8x64x128, .f32⟩
  | 70 => ⟨S16x8x8x64x128, .f32⟩
  | 71 => ⟨S8x8x64x128, .f32⟩
  | 72 => ⟨S8x8x64x128, .f32⟩
  | 73 => ⟨S8x8x64x128, .f32⟩
  | 74 => ⟨S8x8x64x128, .f32⟩
  | 75 => ⟨S_, .f32⟩
  | 76 => ⟨S8x8, .f32⟩
  | 77 => ⟨S8x8x1x1, .f32⟩
  | 78 => ⟨S_, .f32⟩
  | 79 => ⟨S8x8, .f32⟩
  | 80 => ⟨S1x8x8, .f32⟩
  | 81 => ⟨S_, .f32⟩
  | 82 => ⟨S16x8x8, .f32⟩
  | 83 => ⟨S16x8x8, .f32⟩
  | 84 => ⟨S1x8x8x64x128, .f32⟩
  | 85 => ⟨S_, .f32⟩
  | 86 => ⟨S16x8x8x64x128, .f32⟩
  | 87 => ⟨S16x8x8x64x128, .f32⟩
  | 88 => ⟨S8x8x64x128, .f32⟩
  | 89 => ⟨S8x8x64x128, .f32⟩
  | 90 => ⟨S8x8x64x128, .f32⟩
  | 91 => ⟨S8x8x64x128, .f32⟩
  | 92 => ⟨S_, .f32⟩
  | 93 => ⟨S8x8, .f32⟩
  | 94 => ⟨S8x8x1x1, .f32⟩
  | 95 => ⟨S_, .f32⟩
  | 96 => ⟨S8x8, .f32⟩
  | 97 => ⟨S1x8x8, .f32⟩
  | 98 => ⟨S_, .f32⟩
  | 99 => ⟨S16x8x8, .f32⟩
  | 100 => ⟨S16x8x8, .f32⟩
  | 101 => ⟨S1x8x8x64x128, .f32⟩
  | 102 => ⟨S_, .f32⟩
  | 103 => ⟨S16x8x8x64x128, .f32⟩
  | 104 => ⟨S16x8x8x64x128, .f32⟩
  | 105 => ⟨S8x8x64x128, .f32⟩
  | 106 => ⟨S8x8x64x128, .f32⟩
  | 107 => ⟨S8x8x64x128, .f32⟩
  | 108 => ⟨S8x8x64x128, .f32⟩
  | 109 => ⟨S_, .f32⟩
  | 110 => ⟨S8x8, .f32⟩
  | 111 => ⟨S8x8x1x1, .f32⟩
  | 112 => ⟨S_, .f32⟩
  | 113 => ⟨S8x8, .f32⟩
  | 114 => ⟨S1x8x8, .f32⟩
  | 115 => ⟨S_, .f32⟩
  | 116 => ⟨S16x8x8, .f32⟩
  | 117 => ⟨S16x8x8, .f32⟩
  | 118 => ⟨S1x8x8x64x128, .f32⟩
  | 119 => ⟨S_, .f32⟩
  | 120 => ⟨S16x8x8x64x128, .f32⟩
  | 121 => ⟨S16x8x8x64x128, .f32⟩
  | 122 => ⟨S8x8x64x128, .f32⟩
  | 123 => ⟨S8x8x64x128, .f32⟩
  | 124 => ⟨S8x8x64x128, .f32⟩
  | 125 => ⟨S8x8x64x128, .f32⟩
  | 126 => ⟨S_, .f32⟩
  | 127 => ⟨S8x8, .f32⟩
  | _ => ⟨S2048x6144, .f32⟩

abbrev hbmTy0_4 (i : Nat) : BufTy := match i % 128 with
  | 0 => ⟨S8x8x1x1, .f32⟩
  | 1 => ⟨S_, .f32⟩
  | 2 => ⟨S8x8, .f32⟩
  | 3 => ⟨S1x8x8, .f32⟩
  | 4 => ⟨S_, .f32⟩
  | 5 => ⟨S16x8x8, .f32⟩
  | 6 => ⟨S16x8x8, .f32⟩
  | 7 => ⟨S1x8x8x64x128, .f32⟩
  | 8 => ⟨S_, .f32⟩
  | 9 => ⟨S16x8x8x64x128, .f32⟩
  | 10 => ⟨S16x8x8x64x128, .f32⟩
  | 11 => ⟨S8x8x64x128, .f32⟩
  | 12 => ⟨S_, .f32⟩
  | 13 => ⟨S8x8, .f32⟩
  | 14 => ⟨S8x8x1x1, .f32⟩
  | 15 => ⟨S_, .f32⟩
  | 16 => ⟨S8x8, .f32⟩
  | 17 => ⟨S1x8x8, .f32⟩
  | 18 => ⟨S_, .f32⟩
  | 19 => ⟨S16x8x8, .f32⟩
  | 20 => ⟨S16x8x8, .f32⟩
  | 21 => ⟨S8x8x16, .f32⟩
  | 22 => ⟨S8x8x16, .f32⟩
  | 23 => ⟨S8x8x16x1, .f32⟩
  | 24 => ⟨S_, .f32⟩
  | 25 => ⟨S8x8x16x128, .f32⟩
  | 26 => ⟨S8x8x16x128, .f32⟩
  | 27 => ⟨S16x8x128x128, .f32⟩
  | 28 => ⟨S16x128x8x128, .f32⟩
  | 29 => ⟨S16x8x8x64x128, .f32⟩
  | 30 => ⟨S16x128x8x8x64, .f32⟩
  | 31 => ⟨S16x128x8x8x64, .f32⟩
  | 32 => ⟨S_, .f32⟩
  | 33 => ⟨S16x128x8x8, .f32⟩
  | 34 => ⟨S16x128x8x8x1, .f32⟩
  | 35 => ⟨S16x128x8x8x64, .f32⟩
  | 36 => ⟨S16x128x8x8x64, .f32⟩
  | 37 => ⟨S_, .f32⟩
  | 38 => ⟨S16x128x8x8, .f32⟩
  | 39 => ⟨S8x8x16x128, .f32⟩
  | 40 => ⟨S8x8x16x128, .f32⟩
  | 41 => ⟨S_, .f32⟩
  | 42 => ⟨S8x8x16, .f32⟩
  | 43 => ⟨S8x8x16x1, .f32⟩
  | 44 => ⟨S8x8x16x128, .f32⟩
  | 45 => ⟨S8x8x16x128, .f32⟩
  | 46 => ⟨S_, .f32⟩
  | 47 => ⟨S8x8x16x128, .f32⟩
  | 48 => ⟨S8x8x16x128, .f32⟩
  | 49 => ⟨S16x8x8x64x128, .f32⟩
  | 50 => ⟨S16x8x8x128x128, .f32⟩
  | 51 => ⟨S8x8x16x128x128, .f32⟩
  | 52 => ⟨S16x8x8x64x128, .f32⟩
  | 53 => ⟨S16x128x8x8x64, .f32⟩
  | 54 => ⟨S16x128x8x8x64, .f32⟩
  | 55 => ⟨S8x8x16x128x128, .f32⟩
  | 56 => ⟨S8x8x16x128x128, .f32⟩
  | 57 => ⟨S8x8x16x128x128, .f32⟩
  | 58 => ⟨S_, .f32⟩
  | 59 => ⟨S8x16x128x128, .f32⟩
  | 60 => ⟨S8x1x16x128x128, .f32⟩
  | 61 => ⟨S_, .f32⟩
  | 62 => ⟨S8x16x128x128, .f32⟩
  | 63 => ⟨S8x16x128x128, .f32⟩
  | 64 => ⟨S16x128x8x128, .f32⟩
  | 65 => ⟨S16x128x8x128, .f32⟩
  | 66 => ⟨S8x16x128x128, .f32⟩
  | 67 => ⟨S16x128x8x128, .f32⟩
  | 68 => ⟨S16x128x8x128, .f32⟩
  | 69 => ⟨S8x8x16x128x128, .f32⟩
  | 70 => ⟨S_, .f32⟩
  | 71 => ⟨S8x8x16x128x128, .f32⟩
  | 72 => ⟨S8x8x16x128x128, .f32⟩
  | 73 => ⟨S_, .f32⟩
  | 74 => ⟨S8x8x16x128, .f32⟩
  | 75 => ⟨S8x8x16x128x1, .f32⟩
  | 76 => ⟨S8x8x16x128x128, .f32⟩
  | 77 => ⟨S_, .f32⟩
  | 78 => ⟨S8x8x16x128, .f32⟩
  | 79 => ⟨S8x8x16x1x128, .f32⟩
  | 80 => ⟨S_, .f32⟩
  | 81 => ⟨S8x8x16x128, .f32⟩
  | 82 => ⟨S8x8x16x128, .f32⟩
  | 83 => ⟨S_, .f32⟩
  | 84 => ⟨S8x8x16x128, .f32⟩
  | 85 => ⟨S8x8x16x128, .f32⟩
  | 86 => ⟨S16x128x8x8x64, .f32⟩
  | 87 => ⟨S_, .f32⟩
  | 88 => ⟨S16x128x8x8, .f32⟩
  | 89 => ⟨S16x128x8x8x1, .f32⟩
  | 90 => ⟨S16x128x8x8x64, .f32⟩
  | 91 => ⟨S16x128x8x8x64, .f32⟩
  | 92 => ⟨S16x128x8x8x64, .f32⟩
  | 93 => ⟨S_, .f32⟩
  | 94 => ⟨S16x128x8x8, .f32⟩
  | 95 => ⟨S16x128x8x8, .f32⟩
  | 96 => ⟨S2048x64, .f32⟩
  | 97 => ⟨S2048x64, .f32⟩
  | 98 => ⟨S2048x1024, .f32⟩
  | 99 => ⟨S2048x1024, .f32⟩
  | 100 => ⟨S2048x4096, .f32⟩
  | 101 => ⟨S2048x8x8, .f32⟩
  | 102 => ⟨S8x2048x8, .f32⟩
  | 103 => ⟨S2048x8x8, .f32⟩
  | 104 => ⟨S8x2048x8, .f32⟩
  | 105 => ⟨S8x1x8, .f32⟩
  | _ => ⟨S2048x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_call1_v0 : Ref sig .tc := ⟨.hbm, 34, rfl⟩
abbrev main_v19_1 : Ref sig .tc := ⟨.hbm, 35, rfl⟩
abbrev main_call1_v2 : Ref sig .tc := ⟨.hbm, 36, rfl⟩
abbrev main_v19_0 : Ref sig .tc := ⟨.hbm, 37, rfl⟩
abbrev main_call1_cst : Ref sig .tc := ⟨.hbm, 38, rfl⟩
abbrev main_v19_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_cst_1 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_cst_2 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_cst_3 : Ref sig .tc := ⟨.hbm, 231, rfl⟩
abbrev main_v208 : Ref sig .tc := ⟨.hbm, 232, rfl⟩
abbrev main_v209 : Ref sig .tc := ⟨.hbm, 233, rfl⟩
abbrev main_cst_4 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_cst_5 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_cst_6 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_cst_7 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_cst_8 : Ref sig .tc := ⟨.hbm, 290, rfl⟩
abbrev main_v262 : Ref sig .tc := ⟨.hbm, 291, rfl⟩
abbrev main_v263 : Ref sig .tc := ⟨.hbm, 292, rfl⟩
abbrev main_cst_9 : Ref sig .tc := ⟨.hbm, 293, rfl⟩
abbrev main_v264 : Ref sig .tc := ⟨.hbm, 294, rfl⟩
abbrev main_v265 : Ref sig .tc := ⟨.hbm, 295, rfl⟩
abbrev main_cst_10 : Ref sig .tc := ⟨.hbm, 296, rfl⟩
abbrev main_v266 : Ref sig .tc := ⟨.hbm, 297, rfl⟩
abbrev main_v267 : Ref sig .tc := ⟨.hbm, 298, rfl⟩
abbrev main_cst_11 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_cst_12 : Ref sig .tc := ⟨.hbm, 306, rfl⟩
abbrev main_v274 : Ref sig .tc := ⟨.hbm, 307, rfl⟩
abbrev main_v275 : Ref sig .tc := ⟨.hbm, 308, rfl⟩
abbrev main_cst_13 : Ref sig .tc := ⟨.hbm, 309, rfl⟩
abbrev main_v276 : Ref sig .tc := ⟨.hbm, 310, rfl⟩
abbrev main_v277 : Ref sig .tc := ⟨.hbm, 311, rfl⟩
abbrev main_cst_14 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_cst_15 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_cst_16 : Ref sig .tc := ⟨.hbm, 323, rfl⟩
abbrev main_v287 : Ref sig .tc := ⟨.hbm, 324, rfl⟩
abbrev main_v288 : Ref sig .tc := ⟨.hbm, 325, rfl⟩
abbrev main_cst_17 : Ref sig .tc := ⟨.hbm, 326, rfl⟩
abbrev main_v289 : Ref sig .tc := ⟨.hbm, 327, rfl⟩
abbrev main_v290 : Ref sig .tc := ⟨.hbm, 328, rfl⟩
abbrev main_cst_18 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_cst_19 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_cst_20 : Ref sig .tc := ⟨.hbm, 340, rfl⟩
abbrev main_v300 : Ref sig .tc := ⟨.hbm, 341, rfl⟩
abbrev main_v301 : Ref sig .tc := ⟨.hbm, 342, rfl⟩
abbrev main_cst_21 : Ref sig .tc := ⟨.hbm, 343, rfl⟩
abbrev main_v302 : Ref sig .tc := ⟨.hbm, 344, rfl⟩
abbrev main_v303 : Ref sig .tc := ⟨.hbm, 345, rfl⟩
abbrev main_cst_22 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_cst_23 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_cst_24 : Ref sig .tc := ⟨.hbm, 357, rfl⟩
abbrev main_v313 : Ref sig .tc := ⟨.hbm, 358, rfl⟩
abbrev main_v314 : Ref sig .tc := ⟨.hbm, 359, rfl⟩
abbrev main_cst_25 : Ref sig .tc := ⟨.hbm, 360, rfl⟩
abbrev main_v315 : Ref sig .tc := ⟨.hbm, 361, rfl⟩
abbrev main_v316 : Ref sig .tc := ⟨.hbm, 362, rfl⟩
abbrev main_cst_26 : Ref sig .tc := ⟨.hbm, 363, rfl⟩
abbrev main_v317 : Ref sig .tc := ⟨.hbm, 364, rfl⟩
abbrev main_v318 : Ref sig .tc := ⟨.hbm, 365, rfl⟩
abbrev main_v319 : Ref sig .tc := ⟨.hbm, 366, rfl⟩
abbrev main_cst_27 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_cst_28 : Ref sig .tc := ⟨.hbm, 374, rfl⟩
abbrev main_v326 : Ref sig .tc := ⟨.hbm, 375, rfl⟩
abbrev main_v327 : Ref sig .tc := ⟨.hbm, 376, rfl⟩
abbrev main_cst_29 : Ref sig .tc := ⟨.hbm, 377, rfl⟩
abbrev main_v328 : Ref sig .tc := ⟨.hbm, 378, rfl⟩
abbrev main_v329 : Ref sig .tc := ⟨.hbm, 379, rfl⟩
abbrev main_cst_30 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_cst_31 : Ref sig .tc := ⟨.hbm, 384, rfl⟩
abbrev main_v333 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_cst_32 : Ref sig .tc := ⟨.hbm, 391, rfl⟩
abbrev main_v339 : Ref sig .tc := ⟨.hbm, 392, rfl⟩
abbrev main_v340 : Ref sig .tc := ⟨.hbm, 393, rfl⟩
abbrev main_cst_33 : Ref sig .tc := ⟨.hbm, 394, rfl⟩
abbrev main_v341 : Ref sig .tc := ⟨.hbm, 395, rfl⟩
abbrev main_v342 : Ref sig .tc := ⟨.hbm, 396, rfl⟩
abbrev main_cst_34 : Ref sig .tc := ⟨.hbm, 397, rfl⟩
abbrev main_v343 : Ref sig .tc := ⟨.hbm, 398, rfl⟩
abbrev main_v344 : Ref sig .tc := ⟨.hbm, 399, rfl⟩
abbrev main_v345 : Ref sig .tc := ⟨.hbm, 400, rfl⟩
abbrev main_cst_35 : Ref sig .tc := ⟨.hbm, 401, rfl⟩
abbrev main_v346 : Ref sig .tc := ⟨.hbm, 402, rfl⟩
abbrev main_v347 : Ref sig .tc := ⟨.hbm, 403, rfl⟩
abbrev main_v348 : Ref sig .tc := ⟨.hbm, 404, rfl⟩
abbrev main_v349 : Ref sig .tc := ⟨.hbm, 405, rfl⟩
abbrev main_v350 : Ref sig .tc := ⟨.hbm, 406, rfl⟩
abbrev main_v351 : Ref sig .tc := ⟨.hbm, 407, rfl⟩
abbrev main_cst_36 : Ref sig .tc := ⟨.hbm, 408, rfl⟩
abbrev main_v352 : Ref sig .tc := ⟨.hbm, 409, rfl⟩
abbrev main_v353 : Ref sig .tc := ⟨.hbm, 410, rfl⟩
abbrev main_cst_37 : Ref sig .tc := ⟨.hbm, 411, rfl⟩
abbrev main_v354 : Ref sig .tc := ⟨.hbm, 412, rfl⟩
abbrev main_v355 : Ref sig .tc := ⟨.hbm, 413, rfl⟩
abbrev main_cst_38 : Ref sig .tc := ⟨.hbm, 414, rfl⟩
abbrev main_v356 : Ref sig .tc := ⟨.hbm, 415, rfl⟩
abbrev main_v357 : Ref sig .tc := ⟨.hbm, 416, rfl⟩
abbrev main_v358 : Ref sig .tc := ⟨.hbm, 417, rfl⟩
abbrev main_cst_39 : Ref sig .tc := ⟨.hbm, 418, rfl⟩
abbrev main_v359 : Ref sig .tc := ⟨.hbm, 419, rfl⟩
abbrev main_v360 : Ref sig .tc := ⟨.hbm, 420, rfl⟩
abbrev main_v361 : Ref sig .tc := ⟨.hbm, 421, rfl⟩
abbrev main_v362 : Ref sig .tc := ⟨.hbm, 422, rfl⟩
abbrev main_v363 : Ref sig .tc := ⟨.hbm, 423, rfl⟩
abbrev main_v364 : Ref sig .tc := ⟨.hbm, 424, rfl⟩
abbrev main_cst_40 : Ref sig .tc := ⟨.hbm, 425, rfl⟩
abbrev main_v365 : Ref sig .tc := ⟨.hbm, 426, rfl⟩
abbrev main_v366 : Ref sig .tc := ⟨.hbm, 427, rfl⟩
abbrev main_cst_41 : Ref sig .tc := ⟨.hbm, 428, rfl⟩
abbrev main_v367 : Ref sig .tc := ⟨.hbm, 429, rfl⟩
abbrev main_v368 : Ref sig .tc := ⟨.hbm, 430, rfl⟩
abbrev main_cst_42 : Ref sig .tc := ⟨.hbm, 431, rfl⟩
abbrev main_v369 : Ref sig .tc := ⟨.hbm, 432, rfl⟩
abbrev main_v370 : Ref sig .tc := ⟨.hbm, 433, rfl⟩
abbrev main_v371 : Ref sig .tc := ⟨.hbm, 434, rfl⟩
abbrev main_cst_43 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_cst_44 : Ref sig .tc := ⟨.hbm, 442, rfl⟩
abbrev main_v378 : Ref sig .tc := ⟨.hbm, 443, rfl⟩
abbrev main_v379 : Ref sig .tc := ⟨.hbm, 444, rfl⟩
abbrev main_cst_45 : Ref sig .tc := ⟨.hbm, 445, rfl⟩
abbrev main_v380 : Ref sig .tc := ⟨.hbm, 446, rfl⟩
abbrev main_v381 : Ref sig .tc := ⟨.hbm, 447, rfl⟩
abbrev main_cst_46 : Ref sig .tc := ⟨.hbm, 448, rfl⟩
abbrev main_v382 : Ref sig .tc := ⟨.hbm, 449, rfl⟩
abbrev main_v383 : Ref sig .tc := ⟨.hbm, 450, rfl⟩
abbrev main_v384 : Ref sig .tc := ⟨.hbm, 451, rfl⟩
abbrev main_cst_47 : Ref sig .tc := ⟨.hbm, 452, rfl⟩
abbrev main_v385 : Ref sig .tc := ⟨.hbm, 453, rfl⟩
abbrev main_v386 : Ref sig .tc := ⟨.hbm, 454, rfl⟩
abbrev main_v387 : Ref sig .tc := ⟨.hbm, 455, rfl⟩
abbrev main_v388 : Ref sig .tc := ⟨.hbm, 456, rfl⟩
abbrev main_v389 : Ref sig .tc := ⟨.hbm, 457, rfl⟩
abbrev main_v390 : Ref sig .tc := ⟨.hbm, 458, rfl⟩
abbrev main_cst_48 : Ref sig .tc := ⟨.hbm, 459, rfl⟩
abbrev main_v391 : Ref sig .tc := ⟨.hbm, 460, rfl⟩
abbrev main_v392 : Ref sig .tc := ⟨.hbm, 461, rfl⟩
abbrev main_cst_49 : Ref sig .tc := ⟨.hbm, 462, rfl⟩
abbrev main_v393 : Ref sig .tc := ⟨.hbm, 463, rfl⟩
abbrev main_v394 : Ref sig .tc := ⟨.hbm, 464, rfl⟩
abbrev main_cst_50 : Ref sig .tc := ⟨.hbm, 465, rfl⟩
abbrev main_v395 : Ref sig .tc := ⟨.hbm, 466, rfl⟩
abbrev main_v396 : Ref sig .tc := ⟨.hbm, 467, rfl⟩
abbrev main_v397 : Ref sig .tc := ⟨.hbm, 468, rfl⟩
abbrev main_cst_51 : Ref sig .tc := ⟨.hbm, 469, rfl⟩
abbrev main_v398 : Ref sig .tc := ⟨.hbm, 470, rfl⟩
abbrev main_v399 : Ref sig .tc := ⟨.hbm, 471, rfl⟩
abbrev main_v400 : Ref sig .tc := ⟨.hbm, 472, rfl⟩
abbrev main_v401 : Ref sig .tc := ⟨.hbm, 473, rfl⟩
abbrev main_v402 : Ref sig .tc := ⟨.hbm, 474, rfl⟩
abbrev main_v403 : Ref sig .tc := ⟨.hbm, 475, rfl⟩
abbrev main_cst_52 : Ref sig .tc := ⟨.hbm, 476, rfl⟩
abbrev main_v404 : Ref sig .tc := ⟨.hbm, 477, rfl⟩
abbrev main_v405 : Ref sig .tc := ⟨.hbm, 478, rfl⟩
abbrev main_cst_53 : Ref sig .tc := ⟨.hbm, 479, rfl⟩
abbrev main_v406 : Ref sig .tc := ⟨.hbm, 480, rfl⟩
abbrev main_v407 : Ref sig .tc := ⟨.hbm, 481, rfl⟩
abbrev main_cst_54 : Ref sig .tc := ⟨.hbm, 482, rfl⟩
abbrev main_v408 : Ref sig .tc := ⟨.hbm, 483, rfl⟩
abbrev main_v409 : Ref sig .tc := ⟨.hbm, 484, rfl⟩
abbrev main_v410 : Ref sig .tc := ⟨.hbm, 485, rfl⟩
abbrev main_cst_55 : Ref sig .tc := ⟨.hbm, 486, rfl⟩
abbrev main_v411 : Ref sig .tc := ⟨.hbm, 487, rfl⟩
abbrev main_v412 : Ref sig .tc := ⟨.hbm, 488, rfl⟩
abbrev main_v413 : Ref sig .tc := ⟨.hbm, 489, rfl⟩
abbrev main_v414 : Ref sig .tc := ⟨.hbm, 490, rfl⟩
abbrev main_v415 : Ref sig .tc := ⟨.hbm, 491, rfl⟩
abbrev main_v416 : Ref sig .tc := ⟨.hbm, 492, rfl⟩
abbrev main_cst_56 : Ref sig .tc := ⟨.hbm, 493, rfl⟩
abbrev main_v417 : Ref sig .tc := ⟨.hbm, 494, rfl⟩
abbrev main_v418 : Ref sig .tc := ⟨.hbm, 495, rfl⟩
abbrev main_cst_57 : Ref sig .tc := ⟨.hbm, 496, rfl⟩
abbrev main_v419 : Ref sig .tc := ⟨.hbm, 497, rfl⟩
abbrev main_v420 : Ref sig .tc := ⟨.hbm, 498, rfl⟩
abbrev main_cst_58 : Ref sig .tc := ⟨.hbm, 499, rfl⟩
abbrev main_v421 : Ref sig .tc := ⟨.hbm, 500, rfl⟩
abbrev main_v422 : Ref sig .tc := ⟨.hbm, 501, rfl⟩
abbrev main_v423 : Ref sig .tc := ⟨.hbm, 502, rfl⟩
abbrev main_cst_59 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev main_v429 : Ref sig .tc := ⟨.hbm, 509, rfl⟩
abbrev main_cst_60 : Ref sig .tc := ⟨.hbm, 510, rfl⟩
abbrev main_v430 : Ref sig .tc := ⟨.hbm, 511, rfl⟩
abbrev main_v431 : Ref sig .tc := ⟨.hbm, 512, rfl⟩
abbrev main_cst_61 : Ref sig .tc := ⟨.hbm, 513, rfl⟩
abbrev main_v432 : Ref sig .tc := ⟨.hbm, 514, rfl⟩
abbrev main_v433 : Ref sig .tc := ⟨.hbm, 515, rfl⟩
abbrev main_cst_62 : Ref sig .tc := ⟨.hbm, 516, rfl⟩
abbrev main_v434 : Ref sig .tc := ⟨.hbm, 517, rfl⟩
abbrev main_v435 : Ref sig .tc := ⟨.hbm, 518, rfl⟩
abbrev main_v436 : Ref sig .tc := ⟨.hbm, 519, rfl⟩
abbrev main_cst_63 : Ref sig .tc := ⟨.hbm, 520, rfl⟩
abbrev main_v437 : Ref sig .tc := ⟨.hbm, 521, rfl⟩
abbrev main_v438 : Ref sig .tc := ⟨.hbm, 522, rfl⟩
abbrev main_v439 : Ref sig .tc := ⟨.hbm, 523, rfl⟩
abbrev main_cst_64 : Ref sig .tc := ⟨.hbm, 524, rfl⟩
abbrev main_v440 : Ref sig .tc := ⟨.hbm, 525, rfl⟩
abbrev main_v441 : Ref sig .tc := ⟨.hbm, 526, rfl⟩
abbrev main_cst_65 : Ref sig .tc := ⟨.hbm, 527, rfl⟩
abbrev main_v442 : Ref sig .tc := ⟨.hbm, 528, rfl⟩
abbrev main_v443 : Ref sig .tc := ⟨.hbm, 529, rfl⟩
abbrev main_cst_66 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_v447 : Ref sig .tc := ⟨.hbm, 534, rfl⟩
abbrev main_v448 : Ref sig .tc := ⟨.hbm, 535, rfl⟩
abbrev main_cst_67 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_v452 : Ref sig .tc := ⟨.hbm, 540, rfl⟩
abbrev main_v453 : Ref sig .tc := ⟨.hbm, 541, rfl⟩
abbrev main_v454 : Ref sig .tc := ⟨.hbm, 542, rfl⟩
abbrev main_v455 : Ref sig .tc := ⟨.hbm, 543, rfl⟩
abbrev main_cst_68 : Ref sig .tc := ⟨.hbm, 544, rfl⟩
abbrev main_v456 : Ref sig .tc := ⟨.hbm, 545, rfl⟩
abbrev main_v457 : Ref sig .tc := ⟨.hbm, 546, rfl⟩
abbrev main_v458 : Ref sig .tc := ⟨.hbm, 547, rfl⟩
abbrev main_v459 : Ref sig .tc := ⟨.hbm, 548, rfl⟩
abbrev main_cst_69 : Ref sig .tc := ⟨.hbm, 549, rfl⟩
abbrev main_v460 : Ref sig .tc := ⟨.hbm, 550, rfl⟩
abbrev main_v461 : Ref sig .tc := ⟨.hbm, 551, rfl⟩
abbrev main_v462 : Ref sig .tc := ⟨.hbm, 552, rfl⟩
abbrev main_cst_70 : Ref sig .tc := ⟨.hbm, 553, rfl⟩
abbrev main_v463 : Ref sig .tc := ⟨.hbm, 554, rfl⟩
abbrev main_v464 : Ref sig .tc := ⟨.hbm, 555, rfl⟩
abbrev main_v465 : Ref sig .tc := ⟨.hbm, 556, rfl⟩
abbrev main_v466 : Ref sig .tc := ⟨.hbm, 557, rfl⟩
abbrev main_cst_71 : Ref sig .tc := ⟨.hbm, 558, rfl⟩
abbrev main_v467 : Ref sig .tc := ⟨.hbm, 559, rfl⟩
abbrev main_v468 : Ref sig .tc := ⟨.hbm, 560, rfl⟩
abbrev main_v469 : Ref sig .tc := ⟨.hbm, 561, rfl⟩
abbrev main_v470 : Ref sig .tc := ⟨.hbm, 562, rfl⟩
abbrev main_v471 : Ref sig .tc := ⟨.hbm, 563, rfl⟩
abbrev main_v472 : Ref sig .tc := ⟨.hbm, 564, rfl⟩
abbrev main_v473 : Ref sig .tc := ⟨.hbm, 565, rfl⟩
abbrev main_v474 : Ref sig .tc := ⟨.hbm, 566, rfl⟩
abbrev main_v475 : Ref sig .tc := ⟨.hbm, 567, rfl⟩
abbrev main_v476 : Ref sig .tc := ⟨.hbm, 568, rfl⟩
abbrev main_v477 : Ref sig .tc := ⟨.hbm, 569, rfl⟩
abbrev main_cst_72 : Ref sig .tc := ⟨.hbm, 570, rfl⟩
abbrev main_v478 : Ref sig .tc := ⟨.hbm, 571, rfl⟩
abbrev main_v479 : Ref sig .tc := ⟨.hbm, 572, rfl⟩
abbrev main_cst_73 : Ref sig .tc := ⟨.hbm, 573, rfl⟩
abbrev main_v480 : Ref sig .tc := ⟨.hbm, 574, rfl⟩
abbrev main_v481 : Ref sig .tc := ⟨.hbm, 575, rfl⟩
abbrev main_v482 : Ref sig .tc := ⟨.hbm, 576, rfl⟩
abbrev main_v483 : Ref sig .tc := ⟨.hbm, 577, rfl⟩
abbrev main_v484 : Ref sig .tc := ⟨.hbm, 578, rfl⟩
abbrev main_v485 : Ref sig .tc := ⟨.hbm, 579, rfl⟩
abbrev main_v486 : Ref sig .tc := ⟨.hbm, 580, rfl⟩
abbrev main_v487 : Ref sig .tc := ⟨.hbm, 581, rfl⟩
abbrev main_call2_cst : Ref sig .tc := ⟨.hbm, 582, rfl⟩
abbrev main_call2_v0 : Ref sig .tc := ⟨.hbm, 583, rfl⟩
abbrev main_v488 : Ref sig .tc := ⟨.hbm, 584, rfl⟩
abbrev main_cst_74 : Ref sig .tc := ⟨.hbm, 585, rfl⟩
abbrev main_v489 : Ref sig .tc := ⟨.hbm, 586, rfl⟩
abbrev main_v490 : Ref sig .tc := ⟨.hbm, 587, rfl⟩
abbrev main_v491 : Ref sig .tc := ⟨.hbm, 588, rfl⟩
abbrev main_cst_75 : Ref sig .tc := ⟨.hbm, 589, rfl⟩
abbrev main_v492 : Ref sig .tc := ⟨.hbm, 590, rfl⟩
abbrev main_v493 : Ref sig .tc := ⟨.hbm, 591, rfl⟩
abbrev main_cst_76 : Ref sig .tc := ⟨.hbm, 592, rfl⟩
abbrev main_v494 : Ref sig .tc := ⟨.hbm, 593, rfl⟩
abbrev main_v495 : Ref sig .tc := ⟨.hbm, 594, rfl⟩
abbrev main_cst_77 : Ref sig .tc := ⟨.hbm, 595, rfl⟩
abbrev main_v496 : Ref sig .tc := ⟨.hbm, 596, rfl⟩
abbrev main_v497 : Ref sig .tc := ⟨.hbm, 597, rfl⟩
abbrev main_v498 : Ref sig .tc := ⟨.hbm, 598, rfl⟩
abbrev main_cst_78 : Ref sig .tc := ⟨.hbm, 599, rfl⟩
abbrev main_v499 : Ref sig .tc := ⟨.hbm, 600, rfl⟩
abbrev main_v500 : Ref sig .tc := ⟨.hbm, 601, rfl⟩
abbrev main_v501 : Ref sig .tc := ⟨.hbm, 602, rfl⟩
abbrev main_v502 : Ref sig .tc := ⟨.hbm, 603, rfl⟩
abbrev main_v503 : Ref sig .tc := ⟨.hbm, 604, rfl⟩
abbrev main_cst_79 : Ref sig .tc := ⟨.hbm, 605, rfl⟩
abbrev main_v504 : Ref sig .tc := ⟨.hbm, 606, rfl⟩
abbrev main_v505 : Ref sig .tc := ⟨.hbm, 607, rfl⟩
abbrev main_v506 : Ref sig .tc := ⟨.hbm, 608, rfl⟩
abbrev main_v507 : Ref sig .tc := ⟨.hbm, 609, rfl⟩
abbrev main_v508 : Ref sig .tc := ⟨.hbm, 610, rfl⟩
abbrev main_v509 : Ref sig .tc := ⟨.hbm, 611, rfl⟩
abbrev main_v510 : Ref sig .tc := ⟨.hbm, 612, rfl⟩
abbrev main_v511 : Ref sig .tc := ⟨.hbm, 613, rfl⟩
abbrev main_v512 : Ref sig .tc := ⟨.hbm, 614, rfl⟩
abbrev main_v513 : Ref sig .tc := ⟨.hbm, 615, rfl⟩
abbrev main_v514 : Ref sig .tc := ⟨.hbm, 616, rfl⟩
abbrev main_v515 : Ref sig .tc := ⟨.hbm, 617, rfl⟩

abbrev nD : Nat := 1
abbrev τ : Topo := Topo.v7x

variable {F : FTy → Type} [FloatOps F]
-- ==== DownW.lean ====
abbrev S2048x8192 : Shape := ⟨2, ![2048, 8192]⟩
abbrev S2048x2048 : Shape := ⟨2, ![2048, 2048]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x8192, .bf16⟩
  | .hbm, ⟨3, _⟩ => ⟨S2048x2048, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DownX.lean ====
abbrev S2048x8192 : Shape := ⟨2, ![2048, 8192]⟩
abbrev S8192x2048 : Shape := ⟨2, ![8192, 2048]⟩
abbrev S2048x2048 : Shape := ⟨2, ![2048, 2048]⟩
abbrev S8x1024x2048 : Shape := ⟨3, ![8, 1024, 2048]⟩
abbrev S2048x1024 : Shape := ⟨2, ![2048, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S8192x2048, .bf16⟩
  | .hbm, ⟨4, _⟩ => ⟨S8x1024x2048, .bf16⟩
  | .hbm, ⟨5, _⟩ => ⟨S2048x2048, .bf16⟩
  | .hbm, ⟨6, _⟩ => ⟨S2048x8192, .bf16⟩
  | .hbm, ⟨7, _⟩ => ⟨S8192x2048, .bf16⟩
  | .hbm, ⟨8, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownXReferenceIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S2048x2048, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== UpW.lean ====
abbrev S2048x2048 : Shape := ⟨2, ![2048, 2048]⟩
abbrev S2048x8192 : Shape := ⟨2, ![2048, 8192]⟩
abbrev S8x2048x1024 : Shape := ⟨3, ![8, 2048, 1024]⟩
abbrev S1024x2048 : Shape := ⟨2, ![1024, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S8x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWReferenceIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpX.lean ====
abbrev S2048x8192 : Shape := ⟨2, ![2048, 8192]⟩
abbrev S2048x2048 : Shape := ⟨2, ![2048, 2048]⟩
abbrev S2048x8x1024 : Shape := ⟨3, ![2048, 8, 1024]⟩
abbrev S8x2048x1024 : Shape := ⟨3, ![8, 2048, 1024]⟩
abbrev S1024x1024 : Shape := ⟨2, ![1024, 1024]⟩
abbrev S1x1024x1024 : Shape := ⟨3, ![1, 1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S2048x8192, .bf16⟩
  | .hbm, ⟨7, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpXReferenceIdeal.lean ====
abbrev S2048x8192 : Shape := ⟨2, ![2048, 8192]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x8192, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== OutW.lean ====
abbrev S2048x4096 : Shape := ⟨2, ![2048, 4096]⟩
abbrev S2048x2048 : Shape := ⟨2, ![2048, 2048]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x4096, .bf16⟩
  | .hbm, ⟨3, _⟩ => ⟨S2048x2048, .bf16⟩
  | .hbm, ⟨4, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWReferenceIdeal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S2048x4096, .f32⟩
  | .hbm, ⟨6, _⟩ => ⟨S4096x2048, .f32⟩
  | .hbm, ⟨7, _⟩ => ⟨S4096x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutX.lean ====
abbrev S2048x2048 : Shape := ⟨2, ![2048, 2048]⟩
abbrev S4096x2048 : Shape := ⟨2, ![4096, 2048]⟩
abbrev S8x512x2048 : Shape := ⟨3, ![8, 512, 2048]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S8x512x2048, .bf16⟩
  | .hbm, ⟨4, _⟩ => ⟨S2048x2048, .bf16⟩
  | .hbm, ⟨5, _⟩ => ⟨S4096x2048, .bf16⟩
  | .hbm, ⟨6, _⟩ => ⟨S2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXReferenceIdeal.lean ====
abbrev S2048x2048 : Shape := ⟨2, ![2048, 2048]⟩
abbrev S4096x2048 : Shape := ⟨2, ![4096, 2048]⟩
abbrev S_ : Shape := ⟨0, ![]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InX.lean ====
abbrev S2048x10240 : Shape := ⟨2, ![2048, 10240]⟩
abbrev S2048x10304 : Shape := ⟨2, ![2048, 10304]⟩
abbrev S2048x2048 : Shape := ⟨2, ![2048, 2048]⟩
abbrev S10304x2048 : Shape := ⟨2, ![10304, 2048]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x10240, .f32⟩
  | .hbm, ⟨1, _⟩ => ⟨S2048x10304, .f32⟩
  | .hbm, ⟨2, _⟩ => ⟨S2048x2048, .f32⟩
  | .hbm, ⟨3, _⟩ => ⟨S2048x10304, .bf16⟩
  | .hbm, ⟨4, _⟩ => ⟨S10304x2048, .bf16⟩
  | .hbm, ⟨5, _⟩ => ⟨S2048x10240, .bf16⟩
  | .hbm, ⟨6, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 10], ![false, false, false]⟩

def k0_cond3 (i : grid0.Coords) : BitVec 1 :=
  let arg2 : BitVec 32 := BitVec.ofNat 32 (i 2).val
  let c9_i32 : BitVec 32 := 9#32
  let v6 : BitVec 1 := Scalar.cmpi .eq arg2 c9_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InXReferenceIdeal.lean ====
abbrev S2048x10240 : Shape := ⟨2, ![2048, 10240]⟩
abbrev S2048x10304 : Shape := ⟨2, ![2048, 10304]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S2048x10304, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x10240, .f32⟩
  | .hbm, ⟨6, _⟩ => ⟨S2048x10240, .f32⟩
  | .hbm, ⟨7, _⟩ => ⟨S2048x2048, .f32⟩
  | .hbm, ⟨8, _⟩ => ⟨S2048x2048, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GateW.lean ====
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateX.lean ====
abbrev S2048x2048 : Shape := ⟨2, ![2048, 2048]⟩
abbrev S8x256x2048 : Shape := ⟨3, ![8, 256, 2048]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8x256x2048, .bf16⟩
  | .hbm, ⟨5, _⟩ => ⟨S2048x2048, .bf16⟩
  | .hbm, ⟨6, _⟩ => ⟨S2048x2048, .bf16⟩
  | .hbm, ⟨7, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateXReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Up.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S2048x2048, .bf16⟩
  | .hbm, ⟨6, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S2048x2048 : Shape := ⟨2, ![2048, 2048]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Down.lean ====
abbrev S2048x8192 : Shape := ⟨2, ![2048, 8192]⟩
abbrev S8192x2048 : Shape := ⟨2, ![8192, 2048]⟩
abbrev S2048x2048 : Shape := ⟨2, ![2048, 2048]⟩
abbrev S8x1024x2048 : Shape := ⟨3, ![8, 1024, 2048]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S8192x2048, .bf16⟩
  | .hbm, ⟨4, _⟩ => ⟨S8x1024x2048, .bf16⟩
  | .hbm, ⟨5, _⟩ => ⟨S2048x8192, .bf16⟩
  | .hbm, ⟨6, _⟩ => ⟨S8192x2048, .bf16⟩
  | .hbm, ⟨7, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x2048, .f32⟩
  | .hbm, ⟨11, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== In.lean ====
abbrev S2048x2048 : Shape := ⟨2, ![2048, 2048]⟩
abbrev S2048x10304 : Shape := ⟨2, ![2048, 10304]⟩
abbrev S10304x2048 : Shape := ⟨2, ![10304, 2048]⟩
abbrev S2048x10240 : Shape := ⟨2, ![2048, 10240]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x10304, .f32⟩
  | .hbm, ⟨2, _⟩ => ⟨S2048x10304, .bf16⟩
  | .hbm, ⟨3, _⟩ => ⟨S10304x2048, .bf16⟩
  | .hbm, ⟨4, _⟩ => ⟨S2048x2048, .bf16⟩
  | .hbm, ⟨5, _⟩ => ⟨S2048x10240, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S2048x2048 : Shape := ⟨2, ![2048, 2048]⟩
abbrev S2048x10304 : Shape := ⟨2, ![2048, 10304]⟩
abbrev S2048x10240 : Shape := ⟨2, ![2048, 10240]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x10304, .f32⟩
  | .hbm, ⟨2, _⟩ => ⟨S2048x10304, .f32⟩
  | .hbm, ⟨3, _⟩ => ⟨S2048x10240, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S2048x4096 : Shape := ⟨2, ![2048, 4096]⟩
abbrev S4096x2048 : Shape := ⟨2, ![4096, 2048]⟩
abbrev S2048x2048 : Shape := ⟨2, ![2048, 2048]⟩
abbrev S8x512x2048 : Shape := ⟨3, ![8, 512, 2048]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S2048x2048, .f32⟩
  | .hbm, ⟨3, _⟩ => ⟨S4096x2048, .bf16⟩
  | .hbm, ⟨4, _⟩ => ⟨S8x512x2048, .bf16⟩
  | .hbm, ⟨5, _⟩ => ⟨S2048x4096, .bf16⟩
  | .hbm, ⟨6, _⟩ => ⟨S4096x2048, .bf16⟩
  | .hbm, ⟨7, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S2048x4096 : Shape := ⟨2, ![2048, 4096]⟩
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Gate.lean ====
abbrev S2048x2048 : Shape := ⟨2, ![2048, 2048]⟩
abbrev S8x256x2048 : Shape := ⟨3, ![8, 256, 2048]⟩
abbrev S512x1024 : Shape := ⟨2, ![512, 1024]⟩
abbrev S1024x1024 : Shape := ⟨2, ![1024, 1024]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8x256x2048, .bf16⟩
  | .hbm, ⟨5, _⟩ => ⟨S2048x2048, .bf16⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GateReferenceIdeal.lean ====
abbrev S2048x2048 : Shape := ⟨2, ![2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Ple.lean ====
abbrev S2048x256 : Shape := ⟨2, ![2048, 256]⟩
abbrev S256x2048 : Shape := ⟨2, ![256, 2048]⟩
abbrev S256x8x256 : Shape := ⟨3, ![256, 8, 256]⟩
abbrev S8x256x256 : Shape := ⟨3, ![8, 256, 256]⟩
abbrev S2048x2048 : Shape := ⟨2, ![2048, 2048]⟩
abbrev S1x256x256 : Shape := ⟨3, ![1, 256, 256]⟩
abbrev S256x256 : Shape := ⟨2, ![256, 256]⟩

abbrev nBuf : Space → Nat
  | .hbm => 7
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S256x2048, .bf16⟩
  | .hbm, ⟨3, _⟩ => ⟨S256x8x256, .bf16⟩
  | .hbm, ⟨4, _⟩ => ⟨S8x256x256, .bf16⟩
  | .hbm, ⟨5, _⟩ => ⟨S2048x256, .bf16⟩
  | .hbm, ⟨6, _⟩ => ⟨S2048x2048, .f32⟩
  | .local _ .vmem, ⟨0, _⟩ => ⟨S2048x256, .bf16⟩
  | .local _ .vmem, ⟨1, _⟩ => ⟨S1x256x256, .bf16⟩
  | .local _ .vmem, ⟨2, _⟩ => ⟨S1x256x256, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond3 (i : grid0.Coords) : BitVec 1 :=
  let arg2 : BitVec 32 := BitVec.ofNat 32 (i 2).val
  let c0_i32_3 : BitVec 32 := 0#32
  let v6 : BitVec 1 := Scalar.cmpi .eq arg2 c0_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleReferenceIdeal.lean ====
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleW.lean ====
abbrev S2048x256 : Shape := ⟨2, ![2048, 256]⟩
abbrev S2048x2048 : Shape := ⟨2, ![2048, 2048]⟩
abbrev S8x256x256 : Shape := ⟨3, ![8, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2048x256, .bf16⟩
  | .hbm, ⟨3, _⟩ => ⟨S2048x2048, .bf16⟩
  | .hbm, ⟨4, _⟩ => ⟨S8x256x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleWReferenceIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩
abbrev S256x8x256 : Shape := ⟨3, ![256, 8, 256]⟩
abbrev S8x256x256 : Shape := ⟨3, ![8, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x256, .f32⟩
  | .hbm, ⟨6, _⟩ => ⟨S256x2048, .f32⟩
  | .hbm, ⟨7, _⟩ => ⟨S256x8x256, .f32⟩
  | .hbm, ⟨8, _⟩ => ⟨S8x256x256, .f32⟩
  | .hbm, ⟨9, _⟩ => ⟨S8x256x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Pool.lean ====
abbrev S2048x2048 : Shape := ⟨2, ![2048, 2048]⟩
abbrev S4x512x512 : Shape := ⟨3, ![4, 512, 512]⟩
abbrev S1x2048 : Shape := ⟨2, ![1, 2048]⟩
abbrev S1024x512 : Shape := ⟨2, ![1024, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S1x2048, .f32⟩
  | .hbm, ⟨3, _⟩ => ⟨S2048x2048, .f32⟩
  | .hbm, ⟨4, _⟩ => ⟨S2048x2048, .bf16⟩
  | .hbm, ⟨5, _⟩ => ⟨S4x512x512, .bf16⟩
  | .hbm, ⟨6, _⟩ => ⟨S2048x2048, .f32⟩
  | .hbm, ⟨7, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolReferenceIdeal.lean ====
abbrev S2048x2048 : Shape := ⟨2, ![2048, 2048]⟩
abbrev S4x512x512 : Shape := ⟨3, ![4, 512, 512]⟩
abbrev S1x2048 : Shape := ⟨2, ![1, 2048]⟩
abbrev S2048x4x512 : Shape := ⟨3, ![2048, 4, 512]⟩
abbrev S4x512x2048 : Shape := ⟨3, ![4, 512, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x512, .f32⟩
  | .hbm, ⟨2, _⟩ => ⟨S1x2048, .f32⟩
  | .hbm, ⟨3, _⟩ => ⟨S2048x2048, .f32⟩
  | .hbm, ⟨4, _⟩ => ⟨S2048x4x512, .f32⟩
  | .hbm, ⟨5, _⟩ => ⟨S4x512x2048, .f32⟩
  | .hbm, ⟨6, _⟩ => ⟨S2048x4x512, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== PoolX.lean ====
abbrev S2048x2048 : Shape := ⟨2, ![2048, 2048]⟩
abbrev S4x512x512 : Shape := ⟨3, ![4, 512, 512]⟩
abbrev S1x2048 : Shape := ⟨2, ![1, 2048]⟩
abbrev S1024x512 : Shape := ⟨2, ![1024, 512]⟩
abbrev S1x512x512 : Shape := ⟨3, ![1, 512, 512]⟩
abbrev S1x512 : Shape := ⟨2, ![1, 512]⟩
abbrev S512 : Shape := ⟨1, ![512]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x512, .f32⟩
  | .hbm, ⟨3, _⟩ => ⟨S1x2048, .f32⟩
  | .hbm, ⟨4, _⟩ => ⟨S4x512x512, .bf16⟩
  | .hbm, ⟨5, _⟩ => ⟨S2048x2048, .bf16⟩
  | .hbm, ⟨6, _⟩ => ⟨S2048x2048, .f32⟩
  | .hbm, ⟨7, _⟩ => ⟨S1x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PoolXReferenceIdeal.lean ====
abbrev S2048x2048 : Shape := ⟨2, ![2048, 2048]⟩
abbrev S4x512x512 : Shape := ⟨3, ![4, 512, 512]⟩
abbrev S1x2048 : Shape := ⟨2, ![1, 2048]⟩
abbrev S_ : Shape := ⟨0, ![]⟩
abbrev S2048 : Shape := ⟨1, ![2048]⟩
abbrev S2048x4x512 : Shape := ⟨3, ![2048, 4, 512]⟩
abbrev S4x512x2048 : Shape := ⟨3, ![4, 512, 2048]⟩
abbrev S4x2048x512 : Shape := ⟨3, ![4, 2048, 512]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x512, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x4x512, .f32⟩
  | .hbm, ⟨15, _⟩ => ⟨S4x512x2048, .f32⟩
  | .hbm, ⟨16, _⟩ => ⟨S2048x4x512, .f32⟩
  | .hbm, ⟨17, _⟩ => ⟨S2048x2048, .f32⟩
  | .hbm, ⟨18, _⟩ => ⟨S2048x4x512, .f32⟩
  | .hbm, ⟨19, _⟩ => ⟨S4x512x2048, .f32⟩
  | .hbm, ⟨20, _⟩ => ⟨S4x2048x512, .f32⟩
  | .hbm, ⟨21, _⟩ => ⟨S2048x4x512, .f32⟩
  | .hbm, ⟨22, _⟩ => ⟨S2048x2048, .f32⟩
  | .hbm, ⟨23, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== PoolW.lean ====
abbrev S2048x2048 : Shape := ⟨2, ![2048, 2048]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S4x512x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolWReferenceIdeal.lean ====
abbrev S2048x2048 : Shape := ⟨2, ![2048, 2048]⟩
abbrev S_ : Shape := ⟨0, ![]⟩
abbrev S4x512x512 : Shape := ⟨3, ![4, 512, 512]⟩
abbrev S2048x4x512 : Shape := ⟨3, ![2048, 4, 512]⟩
abbrev S4x512x2048 : Shape := ⟨3, ![4, 512, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S4x512x512, .f32⟩
  | .hbm, ⟨4, _⟩ => ⟨S2048x4x512, .f32⟩
  | .hbm, ⟨5, _⟩ => ⟨S4x512x2048, .f32⟩
  | .hbm, ⟨6, _⟩ => ⟨S2048x4x512, .f32⟩
  | .hbm, ⟨7, _⟩ => ⟨S2048x2048, .f32⟩
  | .hbm, ⟨8, _⟩ => ⟨S2048x4x512, .f32⟩
  | .hbm, ⟨9, _⟩ => ⟨S4x512x2048, .f32⟩
  | .hbm, ⟨10, _⟩ => ⟨S4x512x512, .f32⟩
  | .hbm, ⟨11, _⟩ => ⟨S4x512x512, .f32⟩
  | .hbm, ⟨12, _⟩ => ⟨S4x512x512, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== MeansX.lean ====
abbrev S2048x2048 : Shape := ⟨2, ![2048, 2048]⟩
abbrev S2048x128 : Shape := ⟨2, ![2048, 128]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MeansXReferenceIdeal.lean ====
abbrev S2048x2048 : Shape := ⟨2, ![2048, 2048]⟩
abbrev S_ : Shape := ⟨0, ![]⟩
abbrev S2048 : Shape := ⟨1, ![2048]⟩
abbrev S2048x512 : Shape := ⟨2, ![2048, 512]⟩
abbrev S2x512 : Shape := ⟨2, ![2, 512]⟩
abbrev S2046x512 : Shape := ⟨2, ![2046, 512]⟩
abbrev S2048x1 : Shape := ⟨2, ![2048, 1]⟩
abbrev S4x512 : Shape := ⟨2, ![4, 512]⟩
abbrev S2044x512 : Shape := ⟨2, ![2044, 512]⟩
abbrev S8x512 : Shape := ⟨2, ![8, 512]⟩
abbrev S2040x512 : Shape := ⟨2, ![2040, 512]⟩
abbrev S16x512 : Shape := ⟨2, ![16, 512]⟩
abbrev S2032x512 : Shape := ⟨2, ![2032, 512]⟩

abbrev nBuf : Space → Nat
  | .hbm => 162
  | .vmem => 0
  | .smem => 0
  | _ => 0

abbrev hbmTy0_0 (i : Nat) : BufTy := match i % 128 with
  | 0 => ⟨S2048x2048, .f32⟩
  | 1 => ⟨S2048x2048, .f32⟩
  | 2 => ⟨S_, .f32⟩
  | 3 => ⟨S2048x2048, .f32⟩
  | 4 => ⟨S_, .f32⟩
  | 5 => ⟨S_, .f32⟩
  | 6 => ⟨S2048x2048, .f32⟩
  | 7 => ⟨S2048, .i32⟩
  | 8 => ⟨S2048x512, .f32⟩
  | 9 => ⟨S_, .f32⟩
  | 10 => ⟨S2x512, .f32⟩
  | 11 => ⟨S2046x512, .f32⟩
  | 12 => ⟨S2048x512, .f32⟩
  | 13 => ⟨S_, .f32⟩
  | 14 => ⟨S2x512, .f32⟩
  | 15 => ⟨S_, .i32⟩
  | 16 => ⟨S2048, .i32⟩
  | 17 => ⟨S2048, .i32⟩
  | 18 => ⟨S_, .i32⟩
  | 19 => ⟨S2048, .i32⟩
  | 20 => ⟨S2048, .i32⟩
  | 21 => ⟨S2048, .f32⟩
  | 22 => ⟨S2048x1, .f32⟩
  | 23 => ⟨S2048x512, .f32⟩
  | 24 => ⟨S2048x512, .f32⟩
  | 25 => ⟨S2048x512, .f32⟩
  | 26 => ⟨S2048x512, .f32⟩
  | 27 => ⟨S2048x512, .f32⟩
  | 28 => ⟨S2048x512, .f32⟩
  | 29 => ⟨S_, .f32⟩
  | 30 => ⟨S4x512, .f32⟩
  | 31 => ⟨S2044x512, .f32⟩
  | 32 => ⟨S2048x512, .f32⟩
  | 33 => ⟨S_, .f32⟩
  | 34 => ⟨S4x512, .f32⟩
  | 35 => ⟨S_, .i32⟩
  | 36 => ⟨S2048, .i32⟩
  | 37 => ⟨S2048, .i32⟩
  | 38 => ⟨S_, .i32⟩
  | 39 => ⟨S2048, .i32⟩
  | 40 => ⟨S2048, .i32⟩
  | 41 => ⟨S2048, .f32⟩
  | 42 => ⟨S2048x1, .f32⟩
  | 43 => ⟨S2048x512, .f32⟩
  | 44 => ⟨S2048x512, .f32⟩
  | 45 => ⟨S2048x512, .f32⟩
  | 46 => ⟨S2048x512, .f32⟩
  | 47 => ⟨S2048x512, .f32⟩
  | 48 => ⟨S2048x512, .f32⟩
  | 49 => ⟨S_, .f32⟩
  | 50 => ⟨S8x512, .f32⟩
  | 51 => ⟨S2040x512, .f32⟩
  | 52 => ⟨S2048x512, .f32⟩
  | 53 => ⟨S_, .f32⟩
  | 54 => ⟨S8x512, .f32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S2048, .f32⟩
  | 62 => ⟨S2048x1, .f32⟩
  | 63 => ⟨S2048x512, .f32⟩
  | 64 => ⟨S2048x512, .f32⟩
  | 65 => ⟨S2048x512, .f32⟩
  | 66 => ⟨S2048x512, .f32⟩
  | 67 => ⟨S2048x512, .f32⟩
  | 68 => ⟨S2048x512, .f32⟩
  | 69 => ⟨S_, .f32⟩
  | 70 => ⟨S16x512, .f32⟩
  | 71 => ⟨S2032x512, .f32⟩
  | 72 => ⟨S2048x512, .f32⟩
  | 73 => ⟨S_, .f32⟩
  | 74 => ⟨S16x512, .f32⟩
  | 75 => ⟨S_, .i32⟩
  | 76 => ⟨S2048, .i32⟩
  | 77 => ⟨S2048, .i32⟩
  | 78 => ⟨S_, .i32⟩
  | 79 => ⟨S2048, .i32⟩
  | 80 => ⟨S2048, .i32⟩
  | 81 => ⟨S2048, .f32⟩
  | 82 => ⟨S2048x1, .f32⟩
  | 83 => ⟨S2048x512, .f32⟩
  | 84 => ⟨S2048x512, .f32⟩
  | 85 => ⟨S2048x512, .f32⟩
  | 86 => ⟨S2048x512, .f32⟩
  | 87 => ⟨S2048x512, .f32⟩
  | 88 => ⟨S2048x2048, .f32⟩
  | 89 => ⟨S_, .f32⟩
  | 90 => ⟨S2048x2048, .f32⟩
  | 91 => ⟨S2048x2048, .f32⟩
  | 92 => ⟨S_, .f32⟩
  | 93 => ⟨S2048x2048, .f32⟩
  | 94 => ⟨S2048x2048, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S_, .f32⟩
  | 101 => ⟨S2048x2048, .f32⟩
  | 102 => ⟨S2048x2048, .f32⟩
  | 103 => ⟨S2048x512, .f32⟩
  | 104 => ⟨S2048x512, .f32⟩
  | 105 => ⟨S2048x512, .f32⟩
  | 106 => ⟨S16x512, .f32⟩
  | 107 => ⟨S2032x512, .f32⟩
  | 108 => ⟨S_, .f32⟩
  | 109 => ⟨S2048x512, .f32⟩
  | 110 => ⟨S2048x512, .f32⟩
  | 111 => ⟨S_, .f32⟩
  | 112 => ⟨S2048x2048, .f32⟩
  | 113 => ⟨S2048x512, .f32⟩
  | 114 => ⟨S_, .f32⟩
  | 115 => ⟨S2048x2048, .f32⟩
  | 116 => ⟨S2048x2048, .f32⟩
  | 117 => ⟨S2048x512, .f32⟩
  | 118 => ⟨S2048x512, .f32⟩
  | 119 => ⟨S2048x512, .f32⟩
  | 120 => ⟨S8x512, .f32⟩
  | 121 => ⟨S2040x512, .f32⟩
  | 122 => ⟨S_, .f32⟩
  | 123 => ⟨S2048x512, .f32⟩
  | 124 => ⟨S2048x512, .f32⟩
  | 125 => ⟨S_, .f32⟩
  | 126 => ⟨S2048x2048, .f32⟩
  | 127 => ⟨S2048x2048, .f32⟩
  | _ => ⟨S2048x2048, .f32⟩

abbrev hbmTy0_1 (i : Nat) : BufTy := match i % 128 with
  | 0 => ⟨S2048x512, .f32⟩
  | 1 => ⟨S_, .f32⟩
  | 2 => ⟨S2048x2048, .f32⟩
  | 3 => ⟨S2048x2048, .f32⟩
  | 4 => ⟨S2048x512, .f32⟩
  | 5 => ⟨S2048x512, .f32⟩
  | 6 => ⟨S2048x512, .f32⟩
  | 7 => ⟨S4x512, .f32⟩
  | 8 => ⟨S2044x512, .f32⟩
  | 9 => ⟨S_, .f32⟩
  | 10 => ⟨S2048x512, .f32⟩
  | 11 => ⟨S2048x512, .f32⟩
  | 12 => ⟨S_, .f32⟩
  | 13 => ⟨S2048x2048, .f32⟩
  | 14 => ⟨S2048x2048, .f32⟩
  | 15 => ⟨S2048x512, .f32⟩
  | 16 => ⟨S_, .f32⟩
  | 17 => ⟨S2048x2048, .f32⟩
  | 18 => ⟨S2048x2048, .f32⟩
  | 19 => ⟨S2048x512, .f32⟩
  | 20 => ⟨S2048x512, .f32⟩
  | 21 => ⟨S2048x512, .f32⟩
  | 22 => ⟨S2x512, .f32⟩
  | 23 => ⟨S2046x512, .f32⟩
  | 24 => ⟨S_, .f32⟩
  | 25 => ⟨S2048x512, .f32⟩
  | 26 => ⟨S2048x512, .f32⟩
  | 27 => ⟨S_, .f32⟩
  | 28 => ⟨S2048x2048, .f32⟩
  | 29 => ⟨S2048x2048, .f32⟩
  | 30 => ⟨S_, .f32⟩
  | 31 => ⟨S_, .f32⟩
  | 32 => ⟨S2048x2048, .f32⟩
  | 33 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_c_13 : Ref sig .tc := ⟨.hbm, 75, rfl⟩
abbrev main_v56 : Ref sig .tc := ⟨.hbm, 76, rfl⟩
abbrev main_v57 : Ref sig .tc := ⟨.hbm, 77, rfl⟩
abbrev main_c_14 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_cst_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_17 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_18 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_21 : Ref sig .tc := ⟨.hbm, 122, rfl⟩
abbrev main_v95 : Ref sig .tc := ⟨.hbm, 123, rfl⟩
abbrev main_v96 : Ref sig .tc := ⟨.hbm, 124, rfl⟩
abbrev main_cst_22 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_23 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_24 : Ref sig .tc := ⟨.hbm, 137, rfl⟩
abbrev main_v107 : Ref sig .tc := ⟨.hbm, 138, rfl⟩
abbrev main_v108 : Ref sig .tc := ⟨.hbm, 139, rfl⟩
abbrev main_cst_25 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_26 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_27 : Ref sig .tc := ⟨.hbm, 152, rfl⟩
abbrev main_v119 : Ref sig .tc := ⟨.hbm, 153, rfl⟩
abbrev main_v120 : Ref sig .tc := ⟨.hbm, 154, rfl⟩
abbrev main_cst_28 : Ref sig .tc := ⟨.hbm, 155, rfl⟩
abbrev main_v121 : Ref sig .tc := ⟨.hbm, 156, rfl⟩
abbrev main_v122 : Ref sig .tc := ⟨.hbm, 157, rfl⟩
abbrev main_call1_call0_cst : Ref sig .tc := ⟨.hbm, 158, rfl⟩
abbrev main_call1_call0_v0 : Ref sig .tc := ⟨.hbm, 159, rfl⟩
abbrev main_v123 : Ref sig .tc := ⟨.hbm, 160, rfl⟩
abbrev main_v124 : Ref sig .tc := ⟨.hbm, 161, rfl⟩

abbrev nD : Nat := 1
abbrev τ : Topo := Topo.v7x

variable {F : FTy → Type} [FloatOps F]
-- ==== AdamPool.lean ====
abbrev S1x256x512 : Shape := ⟨3, ![1, 256, 512]⟩
abbrev S4x256x512 : Shape := ⟨3, ![4, 256, 512]⟩
abbrev S3x256x512 : Shape := ⟨3, ![3, 256, 512]⟩
abbrev S_ : Shape := ⟨0, ![]⟩
abbrev S1 : Shape := ⟨1, ![1]⟩
abbrev S256x512 : Shape := ⟨2, ![256, 512]⟩

abbrev nBuf : Space → Nat
  | .hbm => 14
  | .vmem => 11
  | .smem => 1
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S4x256x512, .f32⟩
  | .hbm, ⟨4, _⟩ => ⟨S3x256x512, .f32⟩
  | .hbm, ⟨5, _⟩ => ⟨S4x256x512, .bf16⟩
  | .hbm, ⟨6, _⟩ => ⟨S3x256x512, .bf16⟩
  | .hbm, ⟨7, _⟩ => ⟨S3x256x512, .bf16⟩
  | .hbm, ⟨8, _⟩ => ⟨S3x256x512, .bf16⟩
  | .hbm, ⟨9, _⟩ => ⟨S_, .i32⟩
  | .hbm, ⟨10, _⟩ => ⟨S1x256x512, .f32⟩
  | .hbm, ⟨11, _⟩ => ⟨S1x256x512, .f32⟩
  | .hbm, ⟨12, _⟩ => ⟨S1x256x512, .f32⟩
  | .hbm, ⟨13, _⟩ => ⟨S1x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .smem, ⟨0, _⟩ => ⟨S1, .i32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamPoolIdeal.lean ====
abbrev S1x256x512 : Shape := ⟨3, ![1, 256, 512]⟩
abbrev S4x256x512 : Shape := ⟨3, ![4, 256, 512]⟩
abbrev S3x256x512 : Shape := ⟨3, ![3, 256, 512]⟩
abbrev S_ : Shape := ⟨0, ![]⟩
abbrev S1 : Shape := ⟨1, ![1]⟩
abbrev S256x512 : Shape := ⟨2, ![256, 512]⟩

abbrev nBuf : Space → Nat
  | .hbm => 14
  | .vmem => 11
  | .smem => 1
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S4x256x512, .f32⟩
  | .hbm, ⟨4, _⟩ => ⟨S3x256x512, .f32⟩
  | .hbm, ⟨5, _⟩ => ⟨S4x256x512, .bf16⟩
  | .hbm, ⟨6, _⟩ => ⟨S3x256x512, .bf16⟩
  | .hbm, ⟨7, _⟩ => ⟨S3x256x512, .bf16⟩
  | .hbm, ⟨8, _⟩ => ⟨S3x256x512, .bf16⟩
  | .hbm, ⟨9, _⟩ => ⟨S_, .i32⟩
  | .hbm, ⟨10, _⟩ => ⟨S1x256x512, .f32⟩
  | .hbm, ⟨11, _⟩ => ⟨S1x256x512, .f32⟩
  | .hbm, ⟨12, _⟩ => ⟨S1x256x512, .f32⟩
  | .hbm, ⟨13, _⟩ => ⟨S1x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .smem, ⟨0, _⟩ => ⟨S1, .i32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamPoolReferenceIdeal.lean ====
abbrev S1x256x512 : Shape := ⟨3, ![1, 256, 512]⟩
abbrev S4x256x512 : Shape := ⟨3, ![4, 256, 512]⟩
abbrev S3x256x512 : Shape := ⟨3, ![3, 256, 512]⟩
abbrev S256x512 : Shape := ⟨2, ![256, 512]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1x256x512, .f32⟩
  | .hbm, ⟨1, _⟩ => ⟨S1x256x512, .f32⟩
  | .hbm, ⟨2, _⟩ => ⟨S1x256x512, .f32⟩
  | .hbm, ⟨3, _⟩ => ⟨S4x256x512, .f32⟩
  | .hbm, ⟨4, _⟩ => ⟨S3x256x512, .f32⟩
  | .hbm, ⟨5, _⟩ => ⟨S1x256x512, .f32⟩
  | .hbm, ⟨6, _⟩ => ⟨S256x512, .f32⟩
  | .hbm, ⟨7, _⟩ => ⟨S1x256x512, .f32⟩
  | .hbm, ⟨8, _⟩ => ⟨S256x512, .f32⟩
  | .hbm, ⟨9, _⟩ => ⟨S256x512, .f32⟩
  | .hbm, ⟨10, _⟩ => ⟨S1x256x512, .f32⟩
  | .hbm, ⟨11, _⟩ => ⟨S256x512, .f32⟩
  | .hbm, ⟨12, _⟩ => ⟨S256x512, .f32⟩
  | .hbm, ⟨13, _⟩ => ⟨S1x256x512, .f32⟩
  | .hbm, ⟨14, _⟩ => ⟨S256x512, .f32⟩
  | .hbm, ⟨15, _⟩ => ⟨S256x512, .f32⟩
  | .hbm, ⟨16, _⟩ => ⟨S1x256x512, .f32⟩
  | .hbm, ⟨17, _⟩ => ⟨S_, .f32⟩
  | .hbm, ⟨18, _⟩ => ⟨S1x256x512, .f32⟩
  | .hbm, ⟨19, _⟩ => ⟨S1x256x512, .f32⟩
  | .hbm, ⟨20, _⟩ => ⟨S_, .f32⟩
  | .hbm, ⟨21, _⟩ => ⟨S1x256x512, .f32⟩
  | .hbm, ⟨22, _⟩ => ⟨S1x256x512, .f32⟩
  | .hbm, ⟨23, _⟩ => ⟨S1x256x512, .f32⟩
  | .hbm, ⟨24, _⟩ => ⟨S_, .f32⟩
  | .hbm, ⟨25, _⟩ => ⟨S1x256x512, .f32⟩
  | .hbm, ⟨26, _⟩ => ⟨S1x256x512, .f32⟩
  | .hbm, ⟨27, _⟩ => ⟨S1x256x512, .f32⟩
  | .hbm, ⟨28, _⟩ => ⟨S_, .f32⟩
  | .hbm, ⟨29, _⟩ => ⟨S1x256x512, .f32⟩
  | .hbm, ⟨30, _⟩ => ⟨S1x256x512, .f32⟩
  | .hbm, ⟨31, _⟩ => ⟨S1x256x512, .f32⟩
  | .hbm, ⟨32, _⟩ => ⟨S_, .f32⟩
  | .hbm, ⟨33, _⟩ => ⟨S1x256x512, .f32⟩
  | .hbm, ⟨34, _⟩ => ⟨S1x256x512, .f32⟩
  | .hbm, ⟨35, _⟩ => ⟨S_, .f32⟩
  | .hbm, ⟨36, _⟩ => ⟨S1x256x512, .f32⟩
  | .hbm, ⟨37, _⟩ => ⟨S1x256x512, .f32⟩
  | .hbm, ⟨38, _⟩ => ⟨S1x256x512, .f32⟩
  | .hbm, ⟨39, _⟩ => ⟨S_, .f32⟩
  | .hbm, ⟨40, _⟩ => ⟨S1x256x512, .f32⟩
  | .hbm, ⟨41, _⟩ => ⟨S1x256x512, .f32⟩
  | .hbm, ⟨42, _⟩ => ⟨S1x256x512, .f32⟩
  | .hbm, ⟨43, _⟩ => ⟨S_, .f32⟩
  | .hbm, ⟨44, _⟩ => ⟨S1x256x512, .f32⟩
  | .hbm, ⟨45, _⟩ => ⟨S1x256x512, .f32⟩
  | .hbm, ⟨46, _⟩ => ⟨S1x256x512, .f32⟩
  | .hbm, ⟨47, _⟩ => ⟨S_, .f32⟩
  | .hbm, ⟨48, _⟩ => ⟨S1x256x512, .f32⟩
  | .hbm, ⟨49, _⟩ => ⟨S1x256x512, .f32⟩
  | _, _ => ⟨S1x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== AdamOut.lean ====
abbrev S1x512x2048 : Shape := ⟨3, ![1, 512, 2048]⟩
abbrev S4x512x2048 : Shape := ⟨3, ![4, 512, 2048]⟩
abbrev S3x512x2048 : Shape := ⟨3, ![3, 512, 2048]⟩
abbrev S_ : Shape := ⟨0, ![]⟩
abbrev S1 : Shape := ⟨1, ![1]⟩
abbrev S1x128x2048 : Shape := ⟨3, ![1, 128, 2048]⟩
abbrev S128x2048 : Shape := ⟨2, ![128, 2048]⟩

abbrev nBuf : Space → Nat
  | .hbm => 14
  | .vmem => 22
  | .smem => 1
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .f32⟩
  | .hbm, ⟨4, _⟩ => ⟨S3x512x2048, .f32⟩
  | .hbm, ⟨5, _⟩ => ⟨S4x512x2048, .bf16⟩
  | .hbm, ⟨6, _⟩ => ⟨S3x512x2048, .bf16⟩
  | .hbm, ⟨7, _⟩ => ⟨S3x512x2048, .bf16⟩
  | .hbm, ⟨8, _⟩ => ⟨S3x512x2048, .bf16⟩
  | .hbm, ⟨9, _⟩ => ⟨S_, .i32⟩
  | .hbm, ⟨10, _⟩ => ⟨S1x512x2048, .f32⟩
  | .hbm, ⟨11, _⟩ => ⟨S1x512x2048, .f32⟩
  | .hbm, ⟨12, _⟩ => ⟨S1x512x2048, .f32⟩
  | .hbm, ⟨13, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .smem, ⟨0, _⟩ => ⟨S1, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamOutIdeal.lean ====
abbrev S1x512x2048 : Shape := ⟨3, ![1, 512, 2048]⟩
abbrev S4x512x2048 : Shape := ⟨3, ![4, 512, 2048]⟩
abbrev S3x512x2048 : Shape := ⟨3, ![3, 512, 2048]⟩
abbrev S_ : Shape := ⟨0, ![]⟩
abbrev S1 : Shape := ⟨1, ![1]⟩
abbrev S1x128x2048 : Shape := ⟨3, ![1, 128, 2048]⟩
abbrev S128x2048 : Shape := ⟨2, ![128, 2048]⟩

abbrev nBuf : Space → Nat
  | .hbm => 14
  | .vmem => 22
  | .smem => 1
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .f32⟩
  | .hbm, ⟨4, _⟩ => ⟨S3x512x2048, .f32⟩
  | .hbm, ⟨5, _⟩ => ⟨S4x512x2048, .bf16⟩
  | .hbm, ⟨6, _⟩ => ⟨S3x512x2048, .bf16⟩
  | .hbm, ⟨7, _⟩ => ⟨S3x512x2048, .bf16⟩
  | .hbm, ⟨8, _⟩ => ⟨S3x512x2048, .bf16⟩
  | .hbm, ⟨9, _⟩ => ⟨S_, .i32⟩
  | .hbm, ⟨10, _⟩ => ⟨S1x512x2048, .f32⟩
  | .hbm, ⟨11, _⟩ => ⟨S1x512x2048, .f32⟩
  | .hbm, ⟨12, _⟩ => ⟨S1x512x2048, .f32⟩
  | .hbm, ⟨13, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .smem, ⟨0, _⟩ => ⟨S1, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamOutReferenceIdeal.lean ====
abbrev S1x512x2048 : Shape := ⟨3, ![1, 512, 2048]⟩
abbrev S4x512x2048 : Shape := ⟨3, ![4, 512, 2048]⟩
abbrev S3x512x2048 : Shape := ⟨3, ![3, 512, 2048]⟩
abbrev S512x2048 : Shape := ⟨2, ![512, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .f32⟩
  | .hbm, ⟨4, _⟩ => ⟨S3x512x2048, .f32⟩
  | .hbm, ⟨5, _⟩ => ⟨S1x512x2048, .f32⟩
  | .hbm, ⟨6, _⟩ => ⟨S512x2048, .f32⟩
  | .hbm, ⟨7, _⟩ => ⟨S1x512x2048, .f32⟩
  | .hbm, ⟨8, _⟩ => ⟨S512x2048, .f32⟩
  | .hbm, ⟨9, _⟩ => ⟨S512x2048, .f32⟩
  | .hbm, ⟨10, _⟩ => ⟨S1x512x2048, .f32⟩
  | .hbm, ⟨11, _⟩ => ⟨S512x2048, .f32⟩
  | .hbm, ⟨12, _⟩ => ⟨S512x2048, .f32⟩
  | .hbm, ⟨13, _⟩ => ⟨S1x512x2048, .f32⟩
  | .hbm, ⟨14, _⟩ => ⟨S512x2048, .f32⟩
  | .hbm, ⟨15, _⟩ => ⟨S512x2048, .f32⟩
  | .hbm, ⟨16, _⟩ => ⟨S1x512x2048, .f32⟩
  | .hbm, ⟨17, _⟩ => ⟨S_, .f32⟩
  | .hbm, ⟨18, _⟩ => ⟨S1x512x2048, .f32⟩
  | .hbm, ⟨19, _⟩ => ⟨S1x512x2048, .f32⟩
  | .hbm, ⟨20, _⟩ => ⟨S_, .f32⟩
  | .hbm, ⟨21, _⟩ => ⟨S1x512x2048, .f32⟩
  | .hbm, ⟨22, _⟩ => ⟨S1x512x2048, .f32⟩
  | .hbm, ⟨23, _⟩ => ⟨S1x512x2048, .f32⟩
  | .hbm, ⟨24, _⟩ => ⟨S_, .f32⟩
  | .hbm, ⟨25, _⟩ => ⟨S1x512x2048, .f32⟩
  | .hbm, ⟨26, _⟩ => ⟨S1x512x2048, .f32⟩
  | .hbm, ⟨27, _⟩ => ⟨S1x512x2048, .f32⟩
  | .hbm, ⟨28, _⟩ => ⟨S_, .f32⟩
  | .hbm, ⟨29, _⟩ => ⟨S1x512x2048, .f32⟩
  | .hbm, ⟨30, _⟩ => ⟨S1x512x2048, .f32⟩
  | .hbm, ⟨31, _⟩ => ⟨S1x512x2048, .f32⟩
  | .hbm, ⟨32, _⟩ => ⟨S_, .f32⟩
  | .hbm, ⟨33, _⟩ => ⟨S1x512x2048, .f32⟩
  | .hbm, ⟨34, _⟩ => ⟨S1x512x2048, .f32⟩
  | .hbm, ⟨35, _⟩ => ⟨S_, .f32⟩
  | .hbm, ⟨36, _⟩ => ⟨S1x512x2048, .f32⟩
  | .hbm, ⟨37, _⟩ => ⟨S1x512x2048, .f32⟩
  | .hbm, ⟨38, _⟩ => ⟨S1x512x2048, .f32⟩
  | .hbm, ⟨39, _⟩ => ⟨S_, .f32⟩
  | .hbm, ⟨40, _⟩ => ⟨S1x512x2048, .f32⟩
  | .hbm, ⟨41, _⟩ => ⟨S1x512x2048, .f32⟩
  | .hbm, ⟨42, _⟩ => ⟨S1x512x2048, .f32⟩
  | .hbm, ⟨43, _⟩ => ⟨S_, .f32⟩
  | .hbm, ⟨44, _⟩ => ⟨S1x512x2048, .f32⟩
  | .hbm, ⟨45, _⟩ => ⟨S1x512x2048, .f32⟩
  | .hbm, ⟨46, _⟩ => ⟨S1x512x2048, .f32⟩
  | .hbm, ⟨47, _⟩ => ⟨S_, .f32⟩
  | .hbm, ⟨48, _⟩ => ⟨S1x512x2048, .f32⟩
  | .hbm, ⟨49, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== AdamIn.lean ====
abbrev S1x1288x2048 : Shape := ⟨3, ![1, 1288, 2048]⟩
abbrev S4x1288x2048 : Shape := ⟨3, ![4, 1288, 2048]⟩
abbrev S3x1288x2048 : Shape := ⟨3, ![3, 1288, 2048]⟩
abbrev S_ : Shape := ⟨0, ![]⟩
abbrev S1 : Shape := ⟨1, ![1]⟩
abbrev S1x1288x256 : Shape := ⟨3, ![1, 1288, 256]⟩
abbrev S1288x256 : Shape := ⟨2, ![1288, 256]⟩

abbrev nBuf : Space → Nat
  | .hbm => 14
  | .vmem => 22
  | .smem => 1
  | _ => 0

abbrev bufTy : (tb : Table) → Fin (tcTables nBuf tb) → BufTy
  | .hbm, ⟨0, _⟩ => ⟨S1x1288x2048, .f32⟩
  | .hbm, ⟨1, _⟩ => ⟨S1x1288x2048, .f32⟩
  | .hbm, ⟨2, _⟩ => ⟨S1x1288x2048, .f32⟩
  | .hbm, ⟨3, _⟩ => ⟨S4x1288x2048, .f32⟩
  | .hbm, ⟨4, _⟩ => ⟨S3x1288x2048, .f32⟩
  | .hbm, ⟨5, _⟩ => ⟨S4x1288x2048, .bf16⟩
  | .hbm, ⟨6, _⟩ => ⟨S3x1288x2048, .bf16⟩
  | .hbm, ⟨7, _⟩ => ⟨S3x1288x2048, .bf16⟩
  | .hbm, ⟨8, _⟩ => ⟨S3x1288x2048, .bf16⟩
  | .hbm, ⟨9, _⟩ => ⟨S_, .i32⟩
  | .hbm, ⟨10, _⟩ => ⟨S1x1288x2048, .f32⟩
  | .hbm, ⟨11, _⟩ => ⟨S1x1288x2048, .f32⟩
  | .hbm, ⟨12, _⟩ => ⟨S1x1288x2048, .f32⟩
  | .hbm, ⟨13, _⟩ => ⟨S1x1288x2048, .f32⟩
  | .local _ .vmem, ⟨0, _⟩ => ⟨S1x1288x256, .f32⟩
  | .local _ .vmem, ⟨1, _⟩ => ⟨S1x1288x256, .f32⟩
  | .local _ .vmem, ⟨2, _⟩ => ⟨S1x1288x256, .f32⟩
  | .local _ .vmem, ⟨3, _⟩ => ⟨S1x1288x256, .f32⟩
  | .local _ .vmem, ⟨4, _⟩ => ⟨S1x1288x256, .f32⟩
  | .local _ .vmem, ⟨5, _⟩ => ⟨S1x1288x256, .f32⟩
  | .local _ .vmem, ⟨6, _⟩ => ⟨S1x1288x256, .bf16⟩
  | .local _ .vmem, ⟨7, _⟩ => ⟨S1x1288x256, .bf16⟩
  | .local _ .vmem, ⟨8, _⟩ => ⟨S1x1288x256, .bf16⟩
  | .local _ .vmem, ⟨9, _⟩ => ⟨S1x1288x256, .bf16⟩
  | .local _ .vmem, ⟨10, _⟩ => ⟨S1x1288x256, .bf16⟩
  | .local _ .vmem, ⟨11, _⟩ => ⟨S1x1288x256, .bf16⟩
  | .local _ .vmem, ⟨12, _⟩ => ⟨S1x1288x256, .bf16⟩
  | .local _ .vmem, ⟨13, _⟩ => ⟨S1x1288x256, .bf16⟩
  | .local _ .vmem, ⟨14, _⟩ => ⟨S1x1288x256, .f32⟩
  | .local _ .vmem, ⟨15, _⟩ => ⟨S1x1288x256, .f32⟩
  | .local _ .vmem, ⟨16, _⟩ => ⟨S1x1288x256, .f32⟩
  | .local _ .vmem, ⟨17, _⟩ => ⟨S1x1288x256, .f32⟩
  | .local _ .vmem, ⟨18, _⟩ => ⟨S1x1288x256, .f32⟩
  | .local _ .vmem, ⟨19, _⟩ => ⟨S1x1288x256, .f32⟩
  | .local _ .vmem, ⟨20, _⟩ => ⟨S1x1288x256, .f32⟩
  | .local _ .vmem, ⟨21, _⟩ => ⟨S1x1288x256, .f32⟩
  | .local _ .smem, ⟨0, _⟩ => ⟨S1, .i32⟩
  | _, _ => ⟨S1x1288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x1288x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1288x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1288x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1288x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1288x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1288x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1288x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1288x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1288x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1288x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1288x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamInReferenceIdeal.lean ====
abbrev S1x1288x2048 : Shape := ⟨3, ![1, 1288, 2048]⟩
abbrev S4x1288x2048 : Shape := ⟨3, ![4, 1288, 2048]⟩
abbrev S3x1288x2048 : Shape := ⟨3, ![3, 1288, 2048]⟩
abbrev S1288x2048 : Shape := ⟨2, ![1288, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1x1288x2048, .f32⟩
  | .hbm, ⟨1, _⟩ => ⟨S1x1288x2048, .f32⟩
  | .hbm, ⟨2, _⟩ => ⟨S1x1288x2048, .f32⟩
  | .hbm, ⟨3, _⟩ => ⟨S4x1288x2048, .f32⟩
  | .hbm, ⟨4, _⟩ => ⟨S3x1288x2048, .f32⟩
  | .hbm, ⟨5, _⟩ => ⟨S1x1288x2048, .f32⟩
  | .hbm, ⟨6, _⟩ => ⟨S1288x2048, .f32⟩
  | .hbm, ⟨7, _⟩ => ⟨S1x1288x2048, .f32⟩
  | .hbm, ⟨8, _⟩ => ⟨S1288x2048, .f32⟩
  | .hbm, ⟨9, _⟩ => ⟨S1288x2048, .f32⟩
  | .hbm, ⟨10, _⟩ => ⟨S1x1288x2048, .f32⟩
  | .hbm, ⟨11, _⟩ => ⟨S1288x2048, .f32⟩
  | .hbm, ⟨12, _⟩ => ⟨S1288x2048, .f32⟩
  | .hbm, ⟨13, _⟩ => ⟨S1x1288x2048, .f32⟩
  | .hbm, ⟨14, _⟩ => ⟨S1288x2048, .f32⟩
  | .hbm, ⟨15, _⟩ => ⟨S1288x2048, .f32⟩
  | .hbm, ⟨16, _⟩ => ⟨S1x1288x2048, .f32⟩
  | .hbm, ⟨17, _⟩ => ⟨S_, .f32⟩
  | .hbm, ⟨18, _⟩ => ⟨S1x1288x2048, .f32⟩
  | .hbm, ⟨19, _⟩ => ⟨S1x1288x2048, .f32⟩
  | .hbm, ⟨20, _⟩ => ⟨S_, .f32⟩
  | .hbm, ⟨21, _⟩ => ⟨S1x1288x2048, .f32⟩
  | .hbm, ⟨22, _⟩ => ⟨S1x1288x2048, .f32⟩
  | .hbm, ⟨23, _⟩ => ⟨S1x1288x2048, .f32⟩
  | .hbm, ⟨24, _⟩ => ⟨S_, .f32⟩
  | .hbm, ⟨25, _⟩ => ⟨S1x1288x2048, .f32⟩
  | .hbm, ⟨26, _⟩ => ⟨S1x1288x2048, .f32⟩
  | .hbm, ⟨27, _⟩ => ⟨S1x1288x2048, .f32⟩
  | .hbm, ⟨28, _⟩ => ⟨S_, .f32⟩
  | .hbm, ⟨29, _⟩ => ⟨S1x1288x2048, .f32⟩
  | .hbm, ⟨30, _⟩ => ⟨S1x1288x2048, .f32⟩
  | .hbm, ⟨31, _⟩ => ⟨S1x1288x2048, .f32⟩
  | .hbm, ⟨32, _⟩ => ⟨S_, .f32⟩
  | .hbm, ⟨33, _⟩ => ⟨S1x1288x2048, .f32⟩
  | .hbm, ⟨34, _⟩ => ⟨S1x1288x2048, .f32⟩
  | .hbm, ⟨35, _⟩ => ⟨S_, .f32⟩
  | .hbm, ⟨36, _⟩ => ⟨S1x1288x2048, .f32⟩
  | .hbm, ⟨37, _⟩ => ⟨S1x1288x2048, .f32⟩
  | .hbm, ⟨38, _⟩ => ⟨S1x1288x2048, .f32⟩
  | .hbm, ⟨39, _⟩ => ⟨S_, .f32⟩
  | .hbm, ⟨40, _⟩ => ⟨S1x1288x2048, .f32⟩
  | .hbm, ⟨41, _⟩ => ⟨S1x1288x2048, .f32⟩
  | .hbm, ⟨42, _⟩ => ⟨S1x1288x2048, .f32⟩
  | .hbm, ⟨43, _⟩ => ⟨S_, .f32⟩
  | .hbm, ⟨44, _⟩ => ⟨S1x1288x2048, .f32⟩
  | .hbm, ⟨45, _⟩ => ⟨S1x1288x2048, .f32⟩
  | .hbm, ⟨46, _⟩ => ⟨S1x1288x2048, .f32⟩
  | .hbm, ⟨47, _⟩ => ⟨S_, .f32⟩
  | .hbm, ⟨48, _⟩ => ⟨S1x1288x2048, .f32⟩
  | .hbm, ⟨49, _⟩ => ⟨S1x1288x2048, .f32⟩
  | _, _ => ⟨S1x1288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== AdamUp.lean ====
abbrev S2x2048x1024 : Shape := ⟨3, ![2, 2048, 1024]⟩
abbrev S4x2048x1024 : Shape := ⟨3, ![4, 2048, 1024]⟩
abbrev S3x2048x1024 : Shape := ⟨3, ![3, 2048, 1024]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 18
  | .vmem => 22
  | .smem => 1
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S4x2048x1024, .f32⟩
  | .hbm, ⟨4, _⟩ => ⟨S3x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S4x2048x1024, .bf16⟩
  | .hbm, ⟨10, _⟩ => ⟨S3x2048x1024, .bf16⟩
  | .hbm, ⟨11, _⟩ => ⟨S3x2048x1024, .bf16⟩
  | .hbm, ⟨12, _⟩ => ⟨S3x2048x1024, .bf16⟩
  | .hbm, ⟨13, _⟩ => ⟨S_, .i32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .smem, ⟨0, _⟩ => ⟨S1, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamUpIdeal.lean ====
abbrev S2x2048x1024 : Shape := ⟨3, ![2, 2048, 1024]⟩
abbrev S4x2048x1024 : Shape := ⟨3, ![4, 2048, 1024]⟩
abbrev S3x2048x1024 : Shape := ⟨3, ![3, 2048, 1024]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 18
  | .vmem => 22
  | .smem => 1
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S4x2048x1024, .f32⟩
  | .hbm, ⟨4, _⟩ => ⟨S3x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S4x2048x1024, .bf16⟩
  | .hbm, ⟨10, _⟩ => ⟨S3x2048x1024, .bf16⟩
  | .hbm, ⟨11, _⟩ => ⟨S3x2048x1024, .bf16⟩
  | .hbm, ⟨12, _⟩ => ⟨S3x2048x1024, .bf16⟩
  | .hbm, ⟨13, _⟩ => ⟨S_, .i32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .smem, ⟨0, _⟩ => ⟨S1, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamUpReferenceIdeal.lean ====
abbrev S2x2048x1024 : Shape := ⟨3, ![2, 2048, 1024]⟩
abbrev S4x2048x1024 : Shape := ⟨3, ![4, 2048, 1024]⟩
abbrev S3x2048x1024 : Shape := ⟨3, ![3, 2048, 1024]⟩
abbrev S1x2048x1024 : Shape := ⟨3, ![1, 2048, 1024]⟩
abbrev S2048x1024 : Shape := ⟨2, ![2048, 1024]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S4x2048x1024, .f32⟩
  | .hbm, ⟨4, _⟩ => ⟨S3x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S1x2048x1024, .f32⟩
  | .hbm, ⟨10, _⟩ => ⟨S2048x1024, .f32⟩
  | .hbm, ⟨11, _⟩ => ⟨S1x2048x1024, .f32⟩
  | .hbm, ⟨12, _⟩ => ⟨S2048x1024, .f32⟩
  | .hbm, ⟨13, _⟩ => ⟨S2048x1024, .f32⟩
  | .hbm, ⟨14, _⟩ => ⟨S1x2048x1024, .f32⟩
  | .hbm, ⟨15, _⟩ => ⟨S2048x1024, .f32⟩
  | .hbm, ⟨16, _⟩ => ⟨S2048x1024, .f32⟩
  | .hbm, ⟨17, _⟩ => ⟨S1x2048x1024, .f32⟩
  | .hbm, ⟨18, _⟩ => ⟨S2048x1024, .f32⟩
  | .hbm, ⟨19, _⟩ => ⟨S2048x1024, .f32⟩
  | .hbm, ⟨20, _⟩ => ⟨S1x2048x1024, .f32⟩
  | .hbm, ⟨21, _⟩ => ⟨S2048x1024, .f32⟩
  | .hbm, ⟨22, _⟩ => ⟨S1x2048x1024, .f32⟩
  | .hbm, ⟨23, _⟩ => ⟨S2048x1024, .f32⟩
  | .hbm, ⟨24, _⟩ => ⟨S1x2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S1x2048x1024, .f32⟩
  | .hbm, ⟨60, _⟩ => ⟨S2048x1024, .f32⟩
  | .hbm, ⟨61, _⟩ => ⟨S1x2048x1024, .f32⟩
  | .hbm, ⟨62, _⟩ => ⟨S1x2048x1024, .f32⟩
  | .hbm, ⟨63, _⟩ => ⟨S2x2048x1024, .f32⟩
  | .hbm, ⟨64, _⟩ => ⟨S1x2048x1024, .f32⟩
  | .hbm, ⟨65, _⟩ => ⟨S2048x1024, .f32⟩
  | .hbm, ⟨66, _⟩ => ⟨S1x2048x1024, .f32⟩
  | .hbm, ⟨67, _⟩ => ⟨S1x2048x1024, .f32⟩
  | .hbm, ⟨68, _⟩ => ⟨S2x2048x1024, .f32⟩
  | .hbm, ⟨69, _⟩ => ⟨S1x2048x1024, .f32⟩
  | .hbm, ⟨70, _⟩ => ⟨S2048x1024, .f32⟩
  | .hbm, ⟨71, _⟩ => ⟨S1x2048x1024, .f32⟩
  | .hbm, ⟨72, _⟩ => ⟨S1x2048x1024, .f32⟩
  | .hbm, ⟨73, _⟩ => ⟨S2x2048x1024, .f32⟩
  | .hbm, ⟨74, _⟩ => ⟨S1x2048x1024, .f32⟩
  | .hbm, ⟨75, _⟩ => ⟨S2048x1024, .f32⟩
  | .hbm, ⟨76, _⟩ => ⟨S1x2048x1024, .f32⟩
  | .hbm, ⟨77, _⟩ => ⟨S1x2048x1024, .f32⟩
  | .hbm, ⟨78, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== AdamDown.lean ====
abbrev S2x1024x2048 : Shape := ⟨3, ![2, 1024, 2048]⟩
abbrev S4x1024x2048 : Shape := ⟨3, ![4, 1024, 2048]⟩
abbrev S3x1024x2048 : Shape := ⟨3, ![3, 1024, 2048]⟩
abbrev S_ : Shape := ⟨0, ![]⟩
abbrev S1 : Shape := ⟨1, ![1]⟩
abbrev S1x128x2048 : Shape := ⟨3, ![1, 128, 2048]⟩
abbrev S128x2048 : Shape := ⟨2, ![128, 2048]⟩

abbrev nBuf : Space → Nat
  | .hbm => 18
  | .vmem => 22
  | .smem => 1
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S4x1024x2048, .f32⟩
  | .hbm, ⟨4, _⟩ => ⟨S3x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S4x1024x2048, .bf16⟩
  | .hbm, ⟨10, _⟩ => ⟨S3x1024x2048, .bf16⟩
  | .hbm, ⟨11, _⟩ => ⟨S3x1024x2048, .bf16⟩
  | .hbm, ⟨12, _⟩ => ⟨S3x1024x2048, .bf16⟩
  | .hbm, ⟨13, _⟩ => ⟨S_, .i32⟩
  | .hbm, ⟨14, _⟩ => ⟨S2x1024x2048, .f32⟩
  | .hbm, ⟨15, _⟩ => ⟨S2x1024x2048, .f32⟩
  | .hbm, ⟨16, _⟩ => ⟨S2x1024x2048, .f32⟩
  | .hbm, ⟨17, _⟩ => ⟨S2x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .smem, ⟨0, _⟩ => ⟨S1, .i32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamDownIdeal.lean ====
abbrev S2x1024x2048 : Shape := ⟨3, ![2, 1024, 2048]⟩
abbrev S4x1024x2048 : Shape := ⟨3, ![4, 1024, 2048]⟩
abbrev S3x1024x2048 : Shape := ⟨3, ![3, 1024, 2048]⟩
abbrev S_ : Shape := ⟨0, ![]⟩
abbrev S1 : Shape := ⟨1, ![1]⟩
abbrev S1x128x2048 : Shape := ⟨3, ![1, 128, 2048]⟩
abbrev S128x2048 : Shape := ⟨2, ![128, 2048]⟩

abbrev nBuf : Space → Nat
  | .hbm => 18
  | .vmem => 22
  | .smem => 1
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S4x1024x2048, .f32⟩
  | .hbm, ⟨4, _⟩ => ⟨S3x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S4x1024x2048, .bf16⟩
  | .hbm, ⟨10, _⟩ => ⟨S3x1024x2048, .bf16⟩
  | .hbm, ⟨11, _⟩ => ⟨S3x1024x2048, .bf16⟩
  | .hbm, ⟨12, _⟩ => ⟨S3x1024x2048, .bf16⟩
  | .hbm, ⟨13, _⟩ => ⟨S_, .i32⟩
  | .hbm, ⟨14, _⟩ => ⟨S2x1024x2048, .f32⟩
  | .hbm, ⟨15, _⟩ => ⟨S2x1024x2048, .f32⟩
  | .hbm, ⟨16, _⟩ => ⟨S2x1024x2048, .f32⟩
  | .hbm, ⟨17, _⟩ => ⟨S2x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .smem, ⟨0, _⟩ => ⟨S1, .i32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamDownReferenceIdeal.lean ====
abbrev S2x1024x2048 : Shape := ⟨3, ![2, 1024, 2048]⟩
abbrev S4x1024x2048 : Shape := ⟨3, ![4, 1024, 2048]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S4x1024x2048, .f32⟩
  | .hbm, ⟨4, _⟩ => ⟨S3x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S1x1024x2048, .f32⟩
  | .hbm, ⟨10, _⟩ => ⟨S1024x2048, .f32⟩
  | .hbm, ⟨11, _⟩ => ⟨S1x1024x2048, .f32⟩
  | .hbm, ⟨12, _⟩ => ⟨S1024x2048, .f32⟩
  | .hbm, ⟨13, _⟩ => ⟨S1024x2048, .f32⟩
  | .hbm, ⟨14, _⟩ => ⟨S1x1024x2048, .f32⟩
  | .hbm, ⟨15, _⟩ => ⟨S1024x2048, .f32⟩
  | .hbm, ⟨16, _⟩ => ⟨S1024x2048, .f32⟩
  | .hbm, ⟨17, _⟩ => ⟨S1x1024x2048, .f32⟩
  | .hbm, ⟨18, _⟩ => ⟨S1024x2048, .f32⟩
  | .hbm, ⟨19, _⟩ => ⟨S1024x2048, .f32⟩
  | .hbm, ⟨20, _⟩ => ⟨S1x1024x2048, .f32⟩
  | .hbm, ⟨21, _⟩ => ⟨S1024x2048, .f32⟩
  | .hbm, ⟨22, _⟩ => ⟨S1x1024x2048, .f32⟩
  | .hbm, ⟨23, _⟩ => ⟨S1024x2048, .f32⟩
  | .hbm, ⟨24, _⟩ => ⟨S1x1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S_, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S_, .f32⟩
  | .hbm, ⟨53, _⟩ => ⟨S1024x2048, .f32⟩
  | .hbm, ⟨54, _⟩ => ⟨S1024x2048, .f32⟩
  | .hbm, ⟨55, _⟩ => ⟨S1024x2048, .f32⟩
  | .hbm, ⟨56, _⟩ => ⟨S_, .f32⟩
  | .hbm, ⟨57, _⟩ => ⟨S1024x2048, .f32⟩
  | .hbm, ⟨58, _⟩ => ⟨S1024x2048, .f32⟩
  | .hbm, ⟨59, _⟩ => ⟨S1x1024x2048, .f32⟩
  | .hbm, ⟨60, _⟩ => ⟨S1024x2048, .f32⟩
  | .hbm, ⟨61, _⟩ => ⟨S1x1024x2048, .f32⟩
  | .hbm, ⟨62, _⟩ => ⟨S1x1024x2048, .f32⟩
  | .hbm, ⟨63, _⟩ => ⟨S2x1024x2048, .f32⟩
  | .hbm, ⟨64, _⟩ => ⟨S1x1024x2048, .f32⟩
  | .hbm, ⟨65, _⟩ => ⟨S1024x2048, .f32⟩
  | .hbm, ⟨66, _⟩ => ⟨S1x1024x2048, .f32⟩
  | .hbm, ⟨67, _⟩ => ⟨S1x1024x2048, .f32⟩
  | .hbm, ⟨68, _⟩ => ⟨S2x1024x2048, .f32⟩
  | .hbm, ⟨69, _⟩ => ⟨S1x1024x2048, .f32⟩
  | .hbm, ⟨70, _⟩ => ⟨S1024x2048, .f32⟩
  | .hbm, ⟨71, _⟩ => ⟨S1x1024x2048, .f32⟩
  | .hbm, ⟨72, _⟩ => ⟨S1x1024x2048, .f32⟩
  | .hbm, ⟨73, _⟩ => ⟨S2x1024x2048, .f32⟩
  | .hbm, ⟨74, _⟩ => ⟨S1x1024x2048, .f32⟩
  | .hbm, ⟨75, _⟩ => ⟨S1024x2048, .f32⟩
  | .hbm, ⟨76, _⟩ => ⟨S1x1024x2048, .f32⟩
  | .hbm, ⟨77, _⟩ => ⟨S1x1024x2048, .f32⟩
  | .hbm, ⟨78, _⟩ => ⟨S2x1024x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== AdamPle.lean ====
abbrev S2x256x256 : Shape := ⟨3, ![2, 256, 256]⟩
abbrev S4x256x256 : Shape := ⟨3, ![4, 256, 256]⟩
abbrev S3x256x256 : Shape := ⟨3, ![3, 256, 256]⟩
abbrev S_ : Shape := ⟨0, ![]⟩
abbrev S1 : Shape := ⟨1, ![1]⟩
abbrev S1x256x256 : Shape := ⟨3, ![1, 256, 256]⟩
abbrev S256x256 : Shape := ⟨2, ![256, 256]⟩

abbrev nBuf : Space → Nat
  | .hbm => 18
  | .vmem => 11
  | .smem => 1
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S4x256x256, .f32⟩
  | .hbm, ⟨4, _⟩ => ⟨S3x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .hbm, ⟨9, _⟩ => ⟨S4x256x256, .bf16⟩
  | .hbm, ⟨10, _⟩ => ⟨S3x256x256, .bf16⟩
  | .hbm, ⟨11, _⟩ => ⟨S3x256x256, .bf16⟩
  | .hbm, ⟨12, _⟩ => ⟨S3x256x256, .bf16⟩
  | .hbm, ⟨13, _⟩ => ⟨S_, .i32⟩
  | .hbm, ⟨14, _⟩ => ⟨S2x256x256, .f32⟩
  | .hbm, ⟨15, _⟩ => ⟨S2x256x256, .f32⟩
  | .hbm, ⟨16, _⟩ => ⟨S2x256x256, .f32⟩
  | .hbm, ⟨17, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .smem, ⟨0, _⟩ => ⟨S1, .i32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamPleIdeal.lean ====
abbrev S2x256x256 : Shape := ⟨3, ![2, 256, 256]⟩
abbrev S4x256x256 : Shape := ⟨3, ![4, 256, 256]⟩
abbrev S3x256x256 : Shape := ⟨3, ![3, 256, 256]⟩
abbrev S_ : Shape := ⟨0, ![]⟩
abbrev S1 : Shape := ⟨1, ![1]⟩
abbrev S1x256x256 : Shape := ⟨3, ![1, 256, 256]⟩
abbrev S256x256 : Shape := ⟨2, ![256, 256]⟩

abbrev nBuf : Space → Nat
  | .hbm => 18
  | .vmem => 11
  | .smem => 1
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S4x256x256, .f32⟩
  | .hbm, ⟨4, _⟩ => ⟨S3x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .hbm, ⟨9, _⟩ => ⟨S4x256x256, .bf16⟩
  | .hbm, ⟨10, _⟩ => ⟨S3x256x256, .bf16⟩
  | .hbm, ⟨11, _⟩ => ⟨S3x256x256, .bf16⟩
  | .hbm, ⟨12, _⟩ => ⟨S3x256x256, .bf16⟩
  | .hbm, ⟨13, _⟩ => ⟨S_, .i32⟩
  | .hbm, ⟨14, _⟩ => ⟨S2x256x256, .f32⟩
  | .hbm, ⟨15, _⟩ => ⟨S2x256x256, .f32⟩
  | .hbm, ⟨16, _⟩ => ⟨S2x256x256, .f32⟩
  | .hbm, ⟨17, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .smem, ⟨0, _⟩ => ⟨S1, .i32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamPleReferenceIdeal.lean ====
abbrev S2x256x256 : Shape := ⟨3, ![2, 256, 256]⟩
abbrev S4x256x256 : Shape := ⟨3, ![4, 256, 256]⟩
abbrev S3x256x256 : Shape := ⟨3, ![3, 256, 256]⟩
abbrev S1x256x256 : Shape := ⟨3, ![1, 256, 256]⟩
abbrev S256x256 : Shape := ⟨2, ![256, 256]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S4x256x256, .f32⟩
  | .hbm, ⟨4, _⟩ => ⟨S3x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .hbm, ⟨9, _⟩ => ⟨S1x256x256, .f32⟩
  | .hbm, ⟨10, _⟩ => ⟨S256x256, .f32⟩
  | .hbm, ⟨11, _⟩ => ⟨S1x256x256, .f32⟩
  | .hbm, ⟨12, _⟩ => ⟨S256x256, .f32⟩
  | .hbm, ⟨13, _⟩ => ⟨S256x256, .f32⟩
  | .hbm, ⟨14, _⟩ => ⟨S1x256x256, .f32⟩
  | .hbm, ⟨15, _⟩ => ⟨S256x256, .f32⟩
  | .hbm, ⟨16, _⟩ => ⟨S256x256, .f32⟩
  | .hbm, ⟨17, _⟩ => ⟨S1x256x256, .f32⟩
  | .hbm, ⟨18, _⟩ => ⟨S256x256, .f32⟩
  | .hbm, ⟨19, _⟩ => ⟨S256x256, .f32⟩
  | .hbm, ⟨20, _⟩ => ⟨S1x256x256, .f32⟩
  | .hbm, ⟨21, _⟩ => ⟨S256x256, .f32⟩
  | .hbm, ⟨22, _⟩ => ⟨S1x256x256, .f32⟩
  | .hbm, ⟨23, _⟩ => ⟨S256x256, .f32⟩
  | .hbm, ⟨24, _⟩ => ⟨S1x256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S256x256, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S1x256x256, .f32⟩
  | .hbm, ⟨60, _⟩ => ⟨S256x256, .f32⟩
  | .hbm, ⟨61, _⟩ => ⟨S1x256x256, .f32⟩
  | .hbm, ⟨62, _⟩ => ⟨S1x256x256, .f32⟩
  | .hbm, ⟨63, _⟩ => ⟨S2x256x256, .f32⟩
  | .hbm, ⟨64, _⟩ => ⟨S1x256x256, .f32⟩
  | .hbm, ⟨65, _⟩ => ⟨S256x256, .f32⟩
  | .hbm, ⟨66, _⟩ => ⟨S1x256x256, .f32⟩
  | .hbm, ⟨67, _⟩ => ⟨S1x256x256, .f32⟩
  | .hbm, ⟨68, _⟩ => ⟨S2x256x256, .f32⟩
  | .hbm, ⟨69, _⟩ => ⟨S1x256x256, .f32⟩
  | .hbm, ⟨70, _⟩ => ⟨S256x256, .f32⟩
  | .hbm, ⟨71, _⟩ => ⟨S1x256x256, .f32⟩
  | .hbm, ⟨72, _⟩ => ⟨S1x256x256, .f32⟩
  | .hbm, ⟨73, _⟩ => ⟨S2x256x256, .f32⟩
  | .hbm, ⟨74, _⟩ => ⟨S1x256x256, .f32⟩
  | .hbm, ⟨75, _⟩ => ⟨S256x256, .f32⟩
  | .hbm, ⟨76, _⟩ => ⟨S1x256x256, .f32⟩
  | .hbm, ⟨77, _⟩ => ⟨S1x256x256, .f32⟩
  | .hbm, ⟨78, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== AdamGate.lean ====
abbrev S2x256x2048 : Shape := ⟨3, ![2, 256, 2048]⟩
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S1x128x2048 : Shape := ⟨3, ![1, 128, 2048]⟩
abbrev S128x2048 : Shape := ⟨2, ![128, 2048]⟩

abbrev nBuf : Space → Nat
  | .hbm => 18
  | .vmem => 22
  | .smem => 1
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .f32⟩
  | .hbm, ⟨4, _⟩ => ⟨S3x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S4x256x2048, .bf16⟩
  | .hbm, ⟨10, _⟩ => ⟨S3x256x2048, .bf16⟩
  | .hbm, ⟨11, _⟩ => ⟨S3x256x2048, .bf16⟩
  | .hbm, ⟨12, _⟩ => ⟨S3x256x2048, .bf16⟩
  | .hbm, ⟨13, _⟩ => ⟨S_, .i32⟩
  | .hbm, ⟨14, _⟩ => ⟨S2x256x2048, .f32⟩
  | .hbm, ⟨15, _⟩ => ⟨S2x256x2048, .f32⟩
  | .hbm, ⟨16, _⟩ => ⟨S2x256x2048, .f32⟩
  | .hbm, ⟨17, _⟩ => ⟨S2x256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .smem, ⟨0, _⟩ => ⟨S1, .i32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamGateReferenceIdeal.lean ====
abbrev S2x256x2048 : Shape := ⟨3, ![2, 256, 2048]⟩
abbrev S4x256x2048 : Shape := ⟨3, ![4, 256, 2048]⟩
abbrev S3x256x2048 : Shape := ⟨3, ![3, 256, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .f32⟩
  | .hbm, ⟨4, _⟩ => ⟨S3x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S1x256x2048, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S256x2048, .f32⟩
  | .hbm, ⟨14, _⟩ => ⟨S1x256x2048, .f32⟩
  | .hbm, ⟨15, _⟩ => ⟨S256x2048, .f32⟩
  | .hbm, ⟨16, _⟩ => ⟨S256x2048, .f32⟩
  | .hbm, ⟨17, _⟩ => ⟨S1x256x2048, .f32⟩
  | .hbm, ⟨18, _⟩ => ⟨S256x2048, .f32⟩
  | .hbm, ⟨19, _⟩ => ⟨S256x2048, .f32⟩
  | .hbm, ⟨20, _⟩ => ⟨S1x256x2048, .f32⟩
  | .hbm, ⟨21, _⟩ => ⟨S256x2048, .f32⟩
  | .hbm, ⟨22, _⟩ => ⟨S1x256x2048, .f32⟩
  | .hbm, ⟨23, _⟩ => ⟨S256x2048, .f32⟩
  | .hbm, ⟨24, _⟩ => ⟨S1x256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256x2048, .f32⟩
  | .hbm, ⟨54, _⟩ => ⟨S256x2048, .f32⟩
  | .hbm, ⟨55, _⟩ => ⟨S256x2048, .f32⟩
  | .hbm, ⟨56, _⟩ => ⟨S_, .f32⟩
  | .hbm, ⟨57, _⟩ => ⟨S256x2048, .f32⟩
  | .hbm, ⟨58, _⟩ => ⟨S256x2048, .f32⟩
  | .hbm, ⟨59, _⟩ => ⟨S1x256x2048, .f32⟩
  | .hbm, ⟨60, _⟩ => ⟨S256x2048, .f32⟩
  | .hbm, ⟨61, _⟩ => ⟨S1x256x2048, .f32⟩
  | .hbm, ⟨62, _⟩ => ⟨S1x256x2048, .f32⟩
  | .hbm, ⟨63, _⟩ => ⟨S2x256x2048, .f32⟩
  | .hbm, ⟨64, _⟩ => ⟨S1x256x2048, .f32⟩
  | .hbm, ⟨65, _⟩ => ⟨S256x2048, .f32⟩
  | .hbm, ⟨66, _⟩ => ⟨S1x256x2048, .f32⟩
  | .hbm, ⟨67, _⟩ => ⟨S1x256x2048, .f32⟩
  | .hbm, ⟨68, _⟩ => ⟨S2x256x2048, .f32⟩
  | .hbm, ⟨69, _⟩ => ⟨S1x256x2048, .f32⟩
  | .hbm, ⟨70, _⟩ => ⟨S256x2048, .f32⟩
  | .hbm, ⟨71, _⟩ => ⟨S1x256x2048, .f32⟩
  | .hbm, ⟨72, _⟩ => ⟨S1x256x2048, .f32⟩
  | .hbm, ⟨73, _⟩ => ⟨S2x256x2048, .f32⟩
  | .hbm, ⟨74, _⟩ => ⟨S1x256x2048, .f32⟩
  | .hbm, ⟨75, _⟩ => ⟨S256x2048, .f32⟩
  | .hbm, ⟨76, _⟩ => ⟨S1x256x2048, .f32⟩
  | .hbm, ⟨77, _⟩ => ⟨S1x256x2048, .f32⟩
  | .hbm, ⟨78, _⟩ => ⟨S2x256x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Proof.ScanTile.lean ====
module

public import proofs.«01_k».proof.Proof.Gen.KernelIdeal.Value
public import Idealize.ShloMosaic.Lib.Pointwise
public import Idealize.ShloMosaic.Lib.Pipeline.ValueKit

@[expose] public section
noncomputable section

/-! What one sub-chunk of 128 rows computes, as functions of the rows it reads and of the state gradient that enters it. -/
namespace Cert.KernelIdeal.Scan
open Idealize.ShloMosaic Cert.KernelIdeal Cert.KernelIdeal.Gen

/-- The rows one sub-chunk of one group reads. -/
structure Tile where
  xs : Vec Ideal S128x512 .f32
  bm : Vec Ideal S128x128 .f32
  cm : Vec Ideal S128x128 .f32
  dt : Vec Ideal S128x512 .f32
  ein : Vec Ideal S128x512 .f32
  eout : Vec Ideal S128x512 .f32
  ac : Vec Ideal S1x128x8 .f32
  ar : Vec Ideal S1x8x128 .f32
  d : Vec Ideal S1x512 .f32
  prev : Vec Ideal S1x1x128x512 .f32
  dy : Vec Ideal S128x512 .f32
  seg : Vec Ideal S512x128 .bf16

/-- A column of the decays is a slice of the eight columns. -/
theorem col_slices : ∀ h : Fin 8, S128x8.Slices ![0, h.val] S128x1 := by decide
/-- A row of the decays is a slice of the eight rows. -/
theorem row_slices : ∀ h : Fin 8, S8x128.Slices ![h.val, 0] S1x128 := by decide
/-- The lanes of a pair of heads are a slice of the 512 lanes. -/
theorem lane_slices : ∀ pr : Fin 4, S128x512.Slices ![0, 128 * pr.val] S128x128 := by decide
/-- Eight rows are a slice of the 128 rows. -/
theorem eight_slices : ∀ k : Fin 16, S128x512.Slices ![8 * k.val, 0] S8x512 := by decide

/-- The even head of a pair. -/
abbrev hd0 (pr : Fin 4) : Fin 8 := ⟨2 * pr.val, by omega⟩
/-- The odd head of a pair. -/
abbrev hd1 (pr : Fin 4) : Fin 8 := ⟨2 * pr.val + 1, by omega⟩

/-- The state gradient handed to the chunk before, of the output weights, the incoming gradient and its decay. -/
def nextState (w : FVec Ideal S128x128 .bf16) (y e dh : Vec Ideal S128x512 .f32) : FVec Ideal S128x512 .f32 :=
  shapeCast S128x512 (addf
    (mulf (broadcastTo S128x512 (extractStridedSlice S1x512 ![127, 0] e slices_S128x512_o127_0_S1x512)
      broadcasts_S1x512_S128x512) (dh : FVec Ideal S128x512 .f32))
    (matmul dot_S128x128_S128x512_S128x512_0_0_1_1_n_n none w
      (truncf .bf16 (mulf (y : FVec Ideal S128x512 .f32) e) bitsLt_bf16_f32) (constant S128x512 .f32 0x00000000#32)))
    shapeCasts_S128x512_S128x512

variable (T : Tile) (dh : Vec Ideal S128x512 .f32) (pr : Fin 4)

/-- The rows of the input weights. -/
def bB : FVec Ideal S128x128 .bf16 := truncf .bf16 (T.bm : FVec Ideal S128x128 .f32) bitsLt_bf16_f32
/-- The rows of the output weights. -/
def cB : FVec Ideal S128x128 .bf16 := truncf .bf16 (T.cm : FVec Ideal S128x128 .f32) bitsLt_bf16_f32
/-- The products of the output weights with the input weights. -/
def cb : FVec Ideal S128x128 .f32 :=
  matmul dot_S128x128_S128x128_S128x128_1_1_0_0_n_n none (cB T) (bB T) (constant S128x128 .f32 0x00000000#32)
/-- The step sizes, per lane. -/
def dtL : FVec Ideal S128x512 .f32 := shapeCast S128x512 T.dt shapeCasts_S128x512_S128x512
/-- The decays from the chunk's start, per lane. -/
def eiL : FVec Ideal S128x512 .f32 := shapeCast S128x512 T.ein shapeCasts_S128x512_S128x512
/-- The decays to the chunk's end, per lane. -/
def eoL : FVec Ideal S128x512 .f32 := shapeCast S128x512 T.eout shapeCasts_S128x512_S128x512
/-- The input times the step size. -/
def xdt : FVec Ideal S128x512 .f32 := mulf (T.xs : FVec Ideal S128x512 .f32) (dtL T)
/-- The logarithms of the decays, a column per head. -/
def acM : FVec Ideal S128x8 .f32 := shapeCast S128x8 T.ac shapeCasts_S1x128x8_S128x8
/-- The logarithms of the decays, a row per head. -/
def arM : FVec Ideal S8x128 .f32 := shapeCast S8x128 T.ar shapeCasts_S1x8x128_S8x128
/-- The state before the chunk. -/
def hM : FVec Ideal S128x512 .f32 := shapeCast S128x512 T.prev shapeCasts_S1x1x128x512_S128x512
/-- The state before the chunk, as a factor. -/
def hB : FVec Ideal S128x512 .bf16 := truncf .bf16 (hM T) bitsLt_bf16_f32
/-- The state gradient, as a factor. -/
def dhB : FVec Ideal S128x512 .bf16 := truncf .bf16 (dh : FVec Ideal S128x512 .f32) bitsLt_bf16_f32
/-- The incoming gradient times the decay from the chunk's start. -/
def dyE : FVec Ideal S128x512 .bf16 := truncf .bf16 (mulf (T.dy : FVec Ideal S128x512 .f32) (eiL T)) bitsLt_bf16_f32
/-- The part of the output weights' gradient that comes from the state. -/
def dcm0 : FVec Ideal S128x128 .f32 :=
  matmul dot_S128x512_S128x512_S128x128_1_1_0_0_n_n none (dyE T) (hB T) (constant S128x128 .f32 0x00000000#32)
/-- The state gradient handed to the chunk before. -/
def dhN : FVec Ideal S128x512 .f32 := nextState (cB T) T.dy (eiL T) dh
/-- The state gradient read through the input weights. -/
def qM : FVec Ideal S128x512 .f32 :=
  matmul dot_S128x128_S128x512_S128x512_1_0_0_1_n_n none (bB T) (dhB dh) (constant S128x512 .f32 0x00000000#32)
/-- The scaled input times the decay to the chunk's end. -/
def xfM : FVec Ideal S128x512 .f32 := mulf (xdt T) (eoL T)
/-- The part of the input weights' gradient that comes from the state. -/
def dbm0 : FVec Ideal S128x128 .f32 :=
  matmul dot_S128x512_S128x512_S128x128_1_1_0_0_n_n none (truncf .bf16 (xfM T) bitsLt_bf16_f32) (dhB dh)
    (constant S128x128 .f32 0x00000000#32)
/-- The decays between the rows of the chunk, for one head. -/
def lm (h : Fin 8) : FVec Ideal S128x128 .f32 :=
  exp (select (cmpi .sge (iota .tc S128x128 32 [0] iota_S128x128_d0_w32) (iota .tc S128x128 32 [1] iota_S128x128_d1_w32))
    (subf (broadcastTo S128x128 (extractStridedSlice S128x1 ![0, h.val] (acM T) (col_slices h)) broadcasts_S128x1_S128x128)
      (broadcastTo S128x128 (extractStridedSlice S1x128 ![h.val, 0] (arM T) (row_slices h)) broadcasts_S1x128_S128x128))
    (broadcast S128x128 (Scalar.ofBits .f32 0xFF800000#32 : Ideal .f32)))
/-- The products of the weights times the decays, for one head. -/
def mm (h : Fin 8) : FVec Ideal S128x128 .bf16 := truncf .bf16 (mulf (cb T) (lm T h)) bitsLt_bf16_f32
/-- The scaled input on the lanes of a pair of heads. -/
def xp : FVec Ideal S128x128 .f32 := extractStridedSlice S128x128 ![0, 128 * pr.val] (xdt T) (lane_slices pr)
/-- The incoming gradient on the lanes of a pair of heads. -/
def dyp : FVec Ideal S128x128 .f32 :=
  extractStridedSlice S128x128 ![0, 128 * pr.val] (T.dy : FVec Ideal S128x512 .f32) (lane_slices pr)
/-- Which lanes of a pair belong to its even head. -/
def firstM : IVec S128x128 1 :=
  broadcastTo S128x128 (shapeCast S1x128 (k0_pay4 : IVec S1x128 1) shapeCasts_S1x128_S1x128) broadcasts_S1x128_S128x128
/-- The lanes of the even head, zero elsewhere. -/
def lo (v : FVec Ideal S128x128 .f32) : FVec Ideal S128x128 .f32 :=
  select firstM v (broadcast S128x128 (Scalar.ofBits .f32 0x00000000#32 : Ideal .f32))
/-- The lanes of the odd head, zero elsewhere. -/
def hi (v : FVec Ideal S128x128 .f32) : FVec Ideal S128x128 .f32 :=
  select firstM (broadcast S128x128 (Scalar.ofBits .f32 0x00000000#32 : Ideal .f32)) v
/-- The incoming gradient of the even head. -/
def half0 : FVec Ideal S128x128 .bf16 := truncf .bf16 (lo (dyp T pr)) bitsLt_bf16_f32
/-- The incoming gradient of the odd head. -/
def half1 : FVec Ideal S128x128 .bf16 := truncf .bf16 (hi (dyp T pr)) bitsLt_bf16_f32
/-- The gradient of the products of the weights, with one more pair of heads. -/
def dcbS (acc : FVec Ideal S128x128 .f32) : FVec Ideal S128x128 .f32 :=
  addf (addf acc (mulf (matmul dot_S128x128_S128x128_S128x128_1_1_0_0_n_n none (half0 T pr)
      (truncf .bf16 (xp T pr) bitsLt_bf16_f32) (constant S128x128 .f32 0x00000000#32)) (lm T (hd0 pr))))
    (mulf (matmul dot_S128x128_S128x128_S128x128_1_1_0_0_n_n none (half1 T pr)
      (truncf .bf16 (xp T pr) bitsLt_bf16_f32) (constant S128x128 .f32 0x00000000#32)) (lm T (hd1 pr)))
/-- The gradient of the products of the weights. -/
def dcb : FVec Ideal S128x128 .f32 :=
  dcbS T 3 (dcbS T 2 (dcbS T 1 (dcbS T 0 (broadcast S128x128 (Scalar.ofBits .f32 0x00000000#32 : Ideal .f32)))))
/-- The gradient of the scaled input inside the chunk, on a pair of heads. -/
def dxd : FVec Ideal S128x128 .f32 :=
  matmul dot_S256x128_S256x128_S128x128_0_0_1_1_n_n none
    (concatenate S256x128 0 [⟨S128x128, mm T (hd0 pr)⟩, ⟨S128x128, mm T (hd1 pr)⟩] concatenates_S128x128_S128x128_S256x128_d0)
    (concatenate S256x128 0 [⟨S128x128, half0 T pr⟩, ⟨S128x128, half1 T pr⟩] concatenates_S128x128_S128x128_S256x128_d0)
    (constant S128x128 .f32 0x00000000#32)
/-- The output inside the chunk, on a pair of heads. -/
def ydg : FVec Ideal S128x128 .f32 :=
  matmul dot_S128x256_S256x128_S128x128_1_0_0_1_n_n none
    (concatenate S128x256 1 [⟨S128x128, mm T (hd0 pr)⟩, ⟨S128x128, mm T (hd1 pr)⟩] concatenates_S128x128_S128x128_S128x256_d1)
    (truncf .bf16 (concatenate S256x128 0 [⟨S128x128, lo (xp T pr)⟩, ⟨S128x128, hi (xp T pr)⟩]
      concatenates_S128x128_S128x128_S256x128_d0) bitsLt_bf16_f32)
    (constant S128x128 .f32 0x00000000#32)
/-- What the chunk's own products give the decays, on a pair of heads. -/
def wpt : FVec Ideal S128x128 .f32 :=
  subf (mulf (extf .f32 (truncf .bf16 (dyp T pr) bitsLt_bf16_f32) bitsLt_bf16_f32) (ydg T pr))
    (mulf (extf .f32 (truncf .bf16 (xp T pr) bitsLt_bf16_f32) bitsLt_bf16_f32) (dxd T pr))
/-- The four pairs of heads side by side. -/
def side (v : Fin 4 → FVec Ideal S128x128 .f32) : FVec Ideal S128x512 .f32 :=
  concatenate S128x512 1 [⟨S128x128, v 0⟩, ⟨S128x128, v 1⟩, ⟨S128x128, v 2⟩, ⟨S128x128, v 3⟩]
    concatenates_S128x128_S128x128_S128x128_S128x128_S128x512_d1
/-- The gradient of the scaled input. -/
def dxdt : FVec Ideal S128x512 .f32 := addf (side (dxd T)) (mulf (qM T dh) (eoL T))
/-- The gradient of the input. -/
def dxO : FVec Ideal S128x512 .f32 :=
  addf (mulf (dxdt T dh) (dtL T)) (mulf (T.dy : FVec Ideal S128x512 .f32)
    (broadcastTo S128x512 (shapeCast S1x512 T.d shapeCasts_S1x512_S1x512) broadcasts_S1x512_S128x512))
/-- The output that comes from the state, before its decay. -/
def chM : FVec Ideal S128x512 .f32 :=
  matmul dot_S128x128_S128x512_S128x512_1_0_0_1_n_n none (cB T) (hB T) (constant S128x512 .f32 0x00000000#32)
/-- What the state gradient gives the decays to the chunk's end. -/
def qxM : FVec Ideal S128x512 .f32 := mulf (qM T dh) (xfM T)
/-- The columns that add the lanes of a head. -/
def segM : FVec Ideal S512x128 .bf16 := shapeCast S512x128 T.seg shapeCasts_S512x128_S512x128
/-- The sums of the lanes of each head, row by row. -/
def headSums (v : FVec Ideal S128x512 .f32) : FVec Ideal S128x8 .f32 :=
  extractStridedSlice S128x8 ![0, 0] (addf
    (matmul dot_S128x512_S512x128_S128x128_1_0_0_1_n_n none (truncf .bf16 v bitsLt_bf16_f32) (segM T)
      (constant S128x128 .f32 0x00000000#32))
    (matmul dot_S128x512_S512x128_S128x128_1_0_0_1_n_n none
      (truncf .bf16 (subf v (extf .f32 (truncf .bf16 v bitsLt_bf16_f32) bitsLt_bf16_f32)) bitsLt_bf16_f32) (segM T)
      (constant S128x128 .f32 0x00000000#32))) slices_S128x128_o0_0_S128x8
/-- Eight of the 128 rows. -/
def eight (v : FVec Ideal S128x512 .f32) (k : Fin 16) : FVec Ideal S8x512 .f32 :=
  extractStridedSlice S8x512 ![8 * k.val, 0] v (eight_slices k)
/-- The 128 rows added in sixteen groups of eight. -/
def part8 (v : FVec Ideal S128x512 .f32) : FVec Ideal S8x512 .f32 :=
  addf (addf (addf (addf (addf (addf (addf (addf (addf (addf (addf (addf (addf (addf (addf (eight v 0) (eight v 1)) (eight v 2))
    (eight v 3)) (eight v 4)) (eight v 5)) (eight v 6)) (eight v 7)) (eight v 8)) (eight v 9)) (eight v 10)) (eight v 11))
    (eight v 12)) (eight v 13)) (eight v 14)) (eight v 15)
/-- The sums of all rows and of the lanes of each head. -/
def headTotals (v : FVec Ideal S128x512 .f32) : FVec Ideal S1x8 .f32 :=
  extractStridedSlice S1x8 ![0, 0] (shapeCast S1x128 (multiReduction .add [0] S128 (addf
    (matmul dot_S8x512_S512x128_S8x128_1_0_0_1_n_n none (truncf .bf16 (part8 v) bitsLt_bf16_f32) (segM T)
      (constant S8x128 .f32 0x00000000#32))
    (matmul dot_S8x512_S512x128_S8x128_1_0_0_1_n_n none
      (truncf .bf16 (subf (part8 v) (extf .f32 (truncf .bf16 (part8 v) bitsLt_bf16_f32) bitsLt_bf16_f32)) bitsLt_bf16_f32) (segM T)
      (constant S8x128 .f32 0x00000000#32))) 0x00000000#32 reduces_S8x128_S128 (.inl rfl) rfl) shapeCasts_S128_S1x128)
    slices_S1x128_o0_0_S1x8
/-- The gradients of the decays, without the chunk's last row. -/
def sA : FVec Ideal S128x8 .f32 :=
  headSums T (addf (subf (mulf (mulf (T.dy : FVec Ideal S128x512 .f32) (chM T)) (eiL T)) (qxM T dh)) (side (wpt T)))
/-- What the state gradient gives the decay over the whole chunk. -/
def dLast : FVec Ideal S1x8 .f32 :=
  addf (headTotals T (qxM T dh))
    (mulf (exp (extractStridedSlice S1x8 ![127, 0] (acM T) slices_S128x8_o127_0_S1x8))
      (headTotals T (mulf (dh : FVec Ideal S128x512 .f32) (hM T))))
/-- The gradient of the step sizes. -/
def ddtO : FVec Ideal S1x128x8 .f32 :=
  shapeCast S1x128x8 (headSums T (mulf (dxdt T dh) (T.xs : FVec Ideal S128x512 .f32))) shapeCasts_S128x8_S1x128x8
/-- The gradient of the logarithms of the decays. -/
def dacsO : FVec Ideal S1x128x8 .f32 :=
  shapeCast S1x128x8 (addf (sA T dh) (select
    (broadcastTo S128x8 (shapeCast S128x1 (k0_pay5 : IVec S128x1 1) shapeCasts_S128x1_S128x1) broadcasts_S128x1_S128x8)
    (broadcastTo S128x8 (shapeCast S1x8 (dLast T dh) shapeCasts_S1x8_S1x8) broadcasts_S1x8_S128x8)
    (broadcast S128x8 (Scalar.ofBits .f32 0x00000000#32 : Ideal .f32)))) shapeCasts_S128x8_S1x128x8
/-- The gradient of the skip weights, added to what the chunks after left. -/
def ddO (acc : Vec Ideal S1x1x8 .f32) : FVec Ideal S1x1x8 .f32 :=
  shapeCast S1x1x8 (addf (shapeCast S1x8 acc shapeCasts_S1x1x8_S1x8)
    (headTotals T (mulf (T.dy : FVec Ideal S128x512 .f32) (T.xs : FVec Ideal S128x512 .f32)))) shapeCasts_S1x8_S1x1x8
/-- The gradient of the output weights. -/
def dcmO : FVec Ideal S128x128 .f32 :=
  addf (dcm0 T) (matmul dot_S128x128_S128x128_S128x128_1_0_0_1_n_n none (truncf .bf16 (dcb T) bitsLt_bf16_f32) (bB T)
    (constant S128x128 .f32 0x00000000#32))
/-- The gradient of the input weights. -/
def dbmO : FVec Ideal S128x128 .f32 :=
  addf (dbm0 T dh) (matmul dot_S128x128_S128x128_S128x128_0_0_1_1_n_n none (truncf .bf16 (dcb T) bitsLt_bf16_f32) (cB T)
    (constant S128x128 .f32 0x00000000#32))

end Cert.KernelIdeal.Scan

end
end
-- ==== Proof.ScanPieces.lean ====
module

public import proofs.«01_k».proof.Proof.ScanTile

@[expose] public section
set_option maxRecDepth 16384
noncomputable section

/-! What the kernel leaves at a point of its grid is what its eight sub-chunks compute, last sub-chunk first. -/
namespace Cert.KernelIdeal.Scan
open Idealize.ShloMosaic Idealize.ShloMosaic.TcCoe Idealize.SL.Sem
open Cert.KernelIdeal Cert.KernelIdeal.Gen
open Idealize.ShloMosaic.Pipeline (Dat)

/-- Eight sub-chunks of 512 lanes tile the rows. -/
theorem inb_wide : ∀ (s : Fin 8) a, (![128 * s.val, 0] : Fin 2 → Nat) a + S128x512.size a ≤ S1024x512.size a := by decide
/-- Eight sub-chunks of 128 lanes tile the rows. -/
theorem inb_narrow : ∀ (s : Fin 8) a, (![128 * s.val, 0] : Fin 2 → Nat) a + S128x128.size a ≤ S1024x128.size a := by decide
/-- Eight sub-chunks tile the columns of logarithms. -/
theorem inb_col : ∀ (s : Fin 8) a, (![0, 128 * s.val, 0] : Fin 3 → Nat) a + S1x128x8.size a ≤ S1x1024x8.size a := by decide
/-- Eight sub-chunks tile the rows of logarithms. -/
theorem inb_row : ∀ (s : Fin 8) a, (![0, 0, 128 * s.val] : Fin 3 → Nat) a + S1x8x128.size a ≤ S1x8x1024.size a := by decide
/-- Eight sub-chunks tile the states. -/
theorem inb_state : ∀ (s : Fin 8) a, (![s.val, 0, 0, 0] : Fin 4 → Nat) a + S1x1x128x512.size a ≤ S8x1x128x512.size a := by decide

variable (m : (ℓ : Loc nD τ sig) → Buf (Elt Ideal) ℓ) (c : Dev nD) (t : Fin cfg0.N)

/-- The rows sub-chunk `s` of point `t` reads. -/
def tile (s : Fin 8) : Tile where
  xs := View.ld (iblk m c 0 t) (Rect.unit ![128 * s.val, 0] S128x512.size (inb_wide s))
  bm := View.ld (iblk m c 1 t) (Rect.unit ![128 * s.val, 0] S128x128.size (inb_narrow s))
  cm := View.ld (iblk m c 2 t) (Rect.unit ![128 * s.val, 0] S128x128.size (inb_narrow s))
  dt := View.ld (iblk m c 3 t) (Rect.unit ![128 * s.val, 0] S128x512.size (inb_wide s))
  ein := View.ld (iblk m c 4 t) (Rect.unit ![128 * s.val, 0] S128x512.size (inb_wide s))
  eout := View.ld (iblk m c 5 t) (Rect.unit ![128 * s.val, 0] S128x512.size (inb_wide s))
  ac := View.ld (iblk m c 6 t) (Rect.unit ![0, 128 * s.val, 0] S1x128x8.size (inb_col s))
  ar := View.ld (iblk m c 7 t) (Rect.unit ![0, 0, 128 * s.val] S1x8x128.size (inb_row s))
  d := iblk m c 8 t
  prev := View.ld (iblk m c 9 t) (Rect.unit ![s.val, 0, 0, 0] S1x1x128x512.size (inb_state s))
  dy := View.ld (iblk m c 10 t) (Rect.unit ![128 * s.val, 0] S128x512.size (inb_wide s))
  seg := iblk m c 11 t

/-- The state gradient after `k` sub-chunks of the point, from the last one back. -/
def dhs (d0 : Vec Ideal S128x512 .f32) : ℕ → Vec Ideal S128x512 .f32
  | 0 => d0
  | k + 1 => dhN (tile m c t ⟨(7 - k) % 8, by omega⟩) (dhs d0 k)

/-- The gradient of the skip weights after `k` sub-chunks of the point, from the last one back. -/
def dds (a0 : Vec Ideal S1x1x8 .f32) : ℕ → Vec Ideal S1x1x8 .f32
  | 0 => a0
  | k + 1 => ddO (tile m c t ⟨(7 - k) % 8, by omega⟩) (dds a0 k)

/-- The block of input gradients. -/
def blkDx (d0 : Vec Ideal S128x512 .f32) : List (View.Piece (Elt Ideal) S1024x512 .f32) :=
  List.ofFn fun s : Fin 8 => ⟨Rect.unit ![128 * s.val, 0] S128x512.size (inb_wide s), dxO (tile m c t s) (dhs m c t d0 (7 - s.val))⟩
/-- The block of input weights' gradients. -/
def blkDb (d0 : Vec Ideal S128x512 .f32) : List (View.Piece (Elt Ideal) S1024x128 .f32) :=
  List.ofFn fun s : Fin 8 => ⟨Rect.unit ![128 * s.val, 0] S128x128.size (inb_narrow s), dbmO (tile m c t s) (dhs m c t d0 (7 - s.val))⟩
/-- The block of output weights' gradients. -/
def blkDc : List (View.Piece (Elt Ideal) S1024x128 .f32) :=
  List.ofFn fun s : Fin 8 => ⟨Rect.unit ![128 * s.val, 0] S128x128.size (inb_narrow s), dcmO (tile m c t s)⟩
/-- The block of step sizes' gradients. -/
def blkDt (d0 : Vec Ideal S128x512 .f32) : List (View.Piece (Elt Ideal) S1x1024x8 .f32) :=
  List.ofFn fun s : Fin 8 => ⟨Rect.unit ![0, 128 * s.val, 0] S1x128x8.size (inb_col s), ddtO (tile m c t s) (dhs m c t d0 (7 - s.val))⟩
/-- The block of the decays' gradients. -/
def blkDa (d0 : Vec Ideal S128x512 .f32) : List (View.Piece (Elt Ideal) S1x1024x8 .f32) :=
  List.ofFn fun s : Fin 8 => ⟨Rect.unit ![0, 128 * s.val, 0] S1x128x8.size (inb_col s), dacsO (tile m c t s) (dhs m c t d0 (7 - s.val))⟩

/-- In each of the eight sub-chunks of a point the state gradient passed on is the one of `nextState`. -/
theorem next_state :
    @k0_pay22 Ideal _ = nextState ∧
    @k0_pay115 Ideal _ = nextState ∧
    @k0_pay205 Ideal _ = nextState ∧
    @k0_pay293 Ideal _ = nextState ∧
    @k0_pay381 Ideal _ = nextState ∧
    @k0_pay471 Ideal _ = nextState ∧
    @k0_pay561 Ideal _ = nextState ∧
    @k0_pay654 Ideal _ = nextState :=
  ⟨rfl, rfl, rfl, rfl, rfl, rfl, rfl, rfl⟩

/-- No state gradient enters a group's last chunk. -/
abbrev noState : Vec Ideal S128x512 .f32 := (k0_pay2 : FVec Ideal S128x512 .f32)
/-- The sums of the skip weights' gradient start at zero. -/
abbrev noSum : Vec Ideal S1x1x8 .f32 := (k0_pay3 : FVec Ideal S1x1x8 .f32)

end Cert.KernelIdeal.Scan

end
end
-- ==== Proof.ScanLeft.lean ====
module

public import proofs.«01_k».proof.Proof.ScanPieces

@[expose] public section
set_option maxRecDepth 16384
noncomputable section

/-! What a point of the grid leaves in each output, in the sums it carries and in the state gradient it carries. -/
namespace Cert.KernelIdeal.Scan
open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (c : Dev nD) (t : Fin cfg0.N)

/-- A carried scratch reads what was left in it. -/
theorem carried (h : scM0_0.IsWhole) (X : Vec Ideal S128x512 .f32) :
    View.read (Elt Ideal) (View.whole cc0_scratch0) (h.unread X) = X := h.read_unread X

set_option maxHeartbeats 4000000 in
/-- The input gradients a group's first point leaves. -/
theorem leftDx_A (h0 : t.val % 2 = 0) :
    (outsAt0 m c t.val t.isLt).1 = View.canon (blkDx m c t (noState)) := by
  rw [outsAt0_A m c t h0]; frame_out
  obtain ⟨e1, e2, e3, e4, e5, e6, e7, e8⟩ := next_state
  simp only [e1, e2, e3, e4, e5, e6, e7, e8]
  unfold blkDx
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The input weights' gradients a group's first point leaves. -/
theorem leftDb_A (h0 : t.val % 2 = 0) :
    (outsAt0 m c t.val t.isLt).2.1 = View.canon (blkDb m c t (noState)) := by
  rw [outsAt0_A m c t h0]; frame_out
  obtain ⟨e1, e2, e3, e4, e5, e6, e7, e8⟩ := next_state
  simp only [e1, e2, e3, e4, e5, e6, e7, e8]
  unfold blkDb
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The output weights' gradients a group's first point leaves. -/
theorem leftDc_A (h0 : t.val % 2 = 0) :
    (outsAt0 m c t.val t.isLt).2.2.1 = View.canon (blkDc m c t) := by
  rw [outsAt0_A m c t h0]; frame_out
  unfold blkDc
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The step sizes' gradients a group's first point leaves. -/
theorem leftDt_A (h0 : t.val % 2 = 0) :
    (outsAt0 m c t.val t.isLt).2.2.2.1 = View.canon (blkDt m c t (noState)) := by
  rw [outsAt0_A m c t h0]; frame_out
  obtain ⟨e1, e2, e3, e4, e5, e6, e7, e8⟩ := next_state
  simp only [e1, e2, e3, e4, e5, e6, e7, e8]
  unfold blkDt
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The decays' gradients a group's first point leaves. -/
theorem leftDa_A (h0 : t.val % 2 = 0) :
    (outsAt0 m c t.val t.isLt).2.2.2.2.1 = View.canon (blkDa m c t (noState)) := by
  rw [outsAt0_A m c t h0]; frame_out
  obtain ⟨e1, e2, e3, e4, e5, e6, e7, e8⟩ := next_state
  simp only [e1, e2, e3, e4, e5, e6, e7, e8]
  unfold blkDa
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The skip weights' gradient a group's first point leaves. -/
theorem leftDd_A (h0 : t.val % 2 = 0) :
    (outsAt0 m c t.val t.isLt).2.2.2.2.2.1 = dds m c t (noSum) 8 := by
  rw [outsAt0_A m c t h0]; frame_out
  simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
  rfl

set_option maxHeartbeats 4000000 in
/-- The state gradient a group's first point leaves. -/
theorem leftState_A (h0 : t.val % 2 = 0) :
    (outsAt0 m c t.val t.isLt).2.2.2.2.2.2 = dhs m c t (noState) 8 := by
  rw [outsAt0_A m c t h0]; frame_out
  obtain ⟨e1, e2, e3, e4, e5, e6, e7, e8⟩ := next_state
  simp only [e1, e2, e3, e4, e5, e6, e7, e8]
  simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
  rfl

set_option maxHeartbeats 4000000 in
/-- The input gradients a group's second point leaves. -/
theorem leftDx_B (h0 : ¬ t.val % 2 = 0) :
    (outsAt0 m c t.val t.isLt).1 = View.canon (blkDx m c t ((outsAt0 m c (t.val - 1) (Nat.lt_of_le_of_lt (Nat.sub_le _ _) t.isLt)).2.2.2.2.2.2)) := by
  rw [outsAt0_B m c t h0]; frame_out
  obtain ⟨e1, e2, e3, e4, e5, e6, e7, e8⟩ := next_state
  simp only [e1, e2, e3, e4, e5, e6, e7, e8, carried]
  unfold blkDx
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The input weights' gradients a group's second point leaves. -/
theorem leftDb_B (h0 : ¬ t.val % 2 = 0) :
    (outsAt0 m c t.val t.isLt).2.1 = View.canon (blkDb m c t ((outsAt0 m c (t.val - 1) (Nat.lt_of_le_of_lt (Nat.sub_le _ _) t.isLt)).2.2.2.2.2.2)) := by
  rw [outsAt0_B m c t h0]; frame_out
  obtain ⟨e1, e2, e3, e4, e5, e6, e7, e8⟩ := next_state
  simp only [e1, e2, e3, e4, e5, e6, e7, e8, carried]
  unfold blkDb
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The output weights' gradients a group's second point leaves. -/
theorem leftDc_B (h0 : ¬ t.val % 2 = 0) :
    (outsAt0 m c t.val t.isLt).2.2.1 = View.canon (blkDc m c t) := by
  rw [outsAt0_B m c t h0]; frame_out
  unfold blkDc
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The step sizes' gradients a group's second point leaves. -/
theorem leftDt_B (h0 : ¬ t.val % 2 = 0) :
    (outsAt0 m c t.val t.isLt).2.2.2.1 = View.canon (blkDt m c t ((outsAt0 m c (t.val - 1) (Nat.lt_of_le_of_lt (Nat.sub_le _ _) t.isLt)).2.2.2.2.2.2)) := by
  rw [outsAt0_B m c t h0]; frame_out
  obtain ⟨e1, e2, e3, e4, e5, e6, e7, e8⟩ := next_state
  simp only [e1, e2, e3, e4, e5, e6, e7, e8, carried]
  unfold blkDt
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The decays' gradients a group's second point leaves. -/
theorem leftDa_B (h0 : ¬ t.val % 2 = 0) :
    (outsAt0 m c t.val t.isLt).2.2.2.2.1 = View.canon (blkDa m c t ((outsAt0 m c (t.val - 1) (Nat.lt_of_le_of_lt (Nat.sub_le _ _) t.isLt)).2.2.2.2.2.2)) := by
  rw [outsAt0_B m c t h0]; frame_out
  obtain ⟨e1, e2, e3, e4, e5, e6, e7, e8⟩ := next_state
  simp only [e1, e2, e3, e4, e5, e6, e7, e8, carried]
  unfold blkDa
  simp only [List.ofFn_succ, List.ofFn_zero]
  refine congrArg View.canon (congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl))))))))
  all_goals refine congrArg (Sigma.mk _) ?_
  all_goals
    simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
    rfl

set_option maxHeartbeats 4000000 in
/-- The skip weights' gradient a group's second point leaves. -/
theorem leftDd_B (h0 : ¬ t.val % 2 = 0) :
    (outsAt0 m c t.val t.isLt).2.2.2.2.2.1 = dds m c t ((outsAt0 m c (t.val - 1) (Nat.lt_of_le_of_lt (Nat.sub_le _ _) t.isLt)).2.2.2.2.2.1) 8 := by
  rw [outsAt0_B m c t h0]; frame_out
  simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
  rfl

set_option maxHeartbeats 4000000 in
/-- The state gradient a group's second point leaves. -/
theorem leftState_B (h0 : ¬ t.val % 2 = 0) :
    (outsAt0 m c t.val t.isLt).2.2.2.2.2.2 = dhs m c t ((outsAt0 m c (t.val - 1) (Nat.lt_of_le_of_lt (Nat.sub_le _ _) t.isLt)).2.2.2.2.2.2) 8 := by
  rw [outsAt0_B m c t h0]; frame_out
  obtain ⟨e1, e2, e3, e4, e5, e6, e7, e8⟩ := next_state
  simp only [e1, e2, e3, e4, e5, e6, e7, e8, carried]
  simp only [dhs, dds, dhN, bB, cB, cb, dtL, eiL, eoL, xdt, acM, arM, hM, hB, dhB, dyE, dcm0, qM, xfM, dbm0, lm, mm, xp, dyp, firstM, lo, hi, half0, half1, dcbS, dcb, dxd, ydg, wpt, side, dxdt, dxO, chM, qxM, segM, headSums, eight, part8, headTotals, sA, dLast, ddtO, dacsO, ddO, dcmO, dbmO, tile, Fin.val_succ, Fin.val_zero, Nat.reduceAdd, Nat.reduceSub]
  rfl

end Cert.KernelIdeal.Scan

end
end
-- ==== Proof.ScanReal.lean ====
module

public import Mathlib.Data.EReal.Operations
public import Mathlib.Analysis.SpecialFunctions.Exp

@[expose] public section
noncomputable section

/-! The backward pass of one chunk of one group, over the real numbers. -/
namespace Scan

/-- The numbers of one chunk of 128 rows of one group: rows by lanes `x` and `y`, rows by states `b` and `c`, rows by heads
    `dt` and `a`, the heads' skip weights `k`, and the states by lanes `st` before the chunk. Lane `q` is of head `q / 64`. -/
structure Chunk where
  x : ℕ → ℕ → ℝ
  y : ℕ → ℕ → ℝ
  b : ℕ → ℕ → ℝ
  c : ℕ → ℕ → ℝ
  dt : ℕ → ℕ → ℝ
  a : ℕ → ℕ → ℝ
  k : ℕ → ℝ
  st : ℕ → ℕ → ℝ

namespace Chunk
variable (R : Chunk) (D : ℕ → ℕ → ℝ)

/-- The decay from the chunk's start. -/
def ein (l h : ℕ) : ℝ := Real.exp (R.a l h)
/-- The decay to the chunk's end. -/
def eout (l h : ℕ) : ℝ := Real.exp (R.a 127 h - R.a l h)
/-- The input times the step size. -/
def xdt (l q : ℕ) : ℝ := R.x l q * R.dt l (q / 64)
/-- The products of the output weights with the input weights. -/
def cb (l s : ℕ) : ℝ := ∑ n : Fin 128, R.c l n * R.b s n
/-- The decay from row `s` to row `l`. -/
def dec (h l s : ℕ) : ℝ := if s ≤ l then Real.exp (R.a l h - R.a s h) else 0
/-- The weight of row `s` in row `l`. -/
def mix (h l s : ℕ) : ℝ := R.cb l s * R.dec h l s
/-- The incoming gradient times its decay. -/
def ye (l q : ℕ) : ℝ := R.y l q * R.ein l (q / 64)
/-- The scaled input times its decay to the chunk's end. -/
def xf (l q : ℕ) : ℝ := R.xdt l q * R.eout l (q / 64)
/-- The state after the chunk. -/
def next (n q : ℕ) : ℝ := R.ein 127 (q / 64) * R.st n q + ∑ l : Fin 128, R.xf l q * R.b l n
/-- The state gradient before the chunk. -/
def before (n q : ℕ) : ℝ := R.ein 127 (q / 64) * D n q + ∑ l : Fin 128, R.c l n * R.ye l q
/-- The state gradient read through the input weights. -/
def qm (l q : ℕ) : ℝ := ∑ n : Fin 128, R.b l n * D n q
/-- The state read through the output weights. -/
def ch (l q : ℕ) : ℝ := ∑ n : Fin 128, R.c l n * R.st n q
/-- The scaled input's gradient inside the chunk. -/
def dxd (s q : ℕ) : ℝ := ∑ l : Fin 128, R.mix (q / 64) l s * R.y l q
/-- The output inside the chunk. -/
def yd (l q : ℕ) : ℝ := ∑ s : Fin 128, R.mix (q / 64) l s * R.xdt s q
/-- The scaled input's gradient. -/
def dxdt (l q : ℕ) : ℝ := R.dxd l q + R.qm D l q * R.eout l (q / 64)
/-- The input's gradient. -/
def dx (l q : ℕ) : ℝ := R.dxdt D l q * R.dt l (q / 64) + R.y l q * R.k (q / 64)
/-- What head `h` gives the gradient of the weights of row `s` in row `l`. -/
def yx (h l s : ℕ) : ℝ := ∑ p : Fin 64, R.y l (64 * h + p) * R.xdt s (64 * h + p)
/-- The gradient of the products of the weights. -/
def dcb (l s : ℕ) : ℝ := ∑ h : Fin 8, R.yx h l s * R.dec h l s
/-- The output weights' gradient. -/
def dc (l n : ℕ) : ℝ := ∑ q : Fin 512, R.ye l q * R.st n q + ∑ s : Fin 128, R.dcb l s * R.b s n
/-- The input weights' gradient. -/
def db (s n : ℕ) : ℝ := ∑ q : Fin 512, R.xf s q * D n q + ∑ l : Fin 128, R.dcb l s * R.c l n
/-- The step sizes' gradient. -/
def ddt (l h : ℕ) : ℝ := ∑ p : Fin 64, R.dxdt D l (64 * h + p) * R.x l (64 * h + p)
/-- What the chunk gives the skip weights' gradient. -/
def dk (h : ℕ) : ℝ := ∑ l : Fin 128, ∑ p : Fin 64, R.y l (64 * h + p) * R.x l (64 * h + p)
/-- What row `l` gives the gradient of its logarithm of the decays, lane by lane. -/
def daL (l q : ℕ) : ℝ :=
  R.y l q * R.ch l q * R.ein l (q / 64) - R.qm D l q * R.xf l q + (R.y l q * R.yd l q - R.xdt l q * R.dxd l q)
/-- What the decay over the whole chunk gets. -/
def daE (h : ℕ) : ℝ :=
  ∑ l : Fin 128, ∑ p : Fin 64, R.qm D l (64 * h + p) * R.xf l (64 * h + p)
    + R.ein 127 h * ∑ n : Fin 128, ∑ p : Fin 64, D n (64 * h + p) * R.st n (64 * h + p)
/-- The decays' gradient. -/
def da (l h : ℕ) : ℝ := ∑ p : Fin 64, R.daL D l (64 * h + p) + if l = 127 then R.daE D h else 0

end Chunk

/-- The numbers of the whole example: 2048 rows `xbc` (4096 lanes of inputs, then eight groups of 128 input weights, then
    eight groups of 128 output weights), the step sizes `dt` and the logarithms of the decays `a` (64 heads), the skip
    weights `k`, and the outputs' gradient `dy`. -/
structure Args where
  xbc : ℕ → ℕ → ℝ
  dt : ℕ → ℕ → ℝ
  a : ℕ → ℕ → ℝ
  k : ℕ → ℝ
  dy : ℕ → ℕ → ℝ

namespace Args
variable (P : Args)

/-- The numbers of chunk `c` of group `g`, with the state `S` before it. -/
def rows (g c : ℕ) (S : ℕ → ℕ → ℝ) : Chunk where
  x l q := P.xbc (c * 128 + l) (g * 512 + q)
  y l q := P.dy (c * 128 + l) (g * 512 + q)
  b l n := P.xbc (c * 128 + l) (4096 + (g * 128 + n))
  c l n := P.xbc (c * 128 + l) (5120 + (g * 128 + n))
  dt l h := P.dt (c * 128 + l) (g * 8 + h)
  a l h := P.a (c * 128 + l) (g * 8 + h)
  k h := P.k (g * 8 + h)
  st := S

/-- The state before chunk `c` of group `g`. -/
def state (g : ℕ) : ℕ → ℕ → ℕ → ℝ
  | 0 => fun _ _ => 0
  | c + 1 => (P.rows g c (state g c)).next

/-- The numbers of chunk `c` of group `g`. -/
def chunk (g c : ℕ) : Chunk := P.rows g c (P.state g c)

/-- The state gradient after the last `k` chunks of group `g`, from the last one back. -/
def grad (g : ℕ) : ℕ → ℕ → ℕ → ℝ
  | 0 => fun _ _ => 0
  | k + 1 => (P.chunk g (15 - k)).before (grad g k)

/-- The skip weights' gradient of the last `k` chunks of group `g`. -/
def skip (g : ℕ) : ℕ → ℕ → ℝ
  | 0 => fun _ => 0
  | k + 1 => fun h => skip g k h + (P.chunk g (15 - k)).dk h

end Args
end Scan

end
end
-- ==== Proof.ScanTileReal.lean ====
module

public import proofs.«01_k».proof.Proof.ScanTile
public import proofs.«01_k».proof.Proof.ScanReal

@[expose] public section
set_option maxRecDepth 16384
noncomputable section

/-! What one sub-chunk computes, of rows that hold real numbers. -/
namespace Cert.KernelIdeal.Scan
open Idealize.ShloMosaic Idealize.ShloMosaic.TcCoe Idealize.SL.Sem
open Cert.KernelIdeal Cert.KernelIdeal.Gen

/-- The sum of real numbers is the same among the extended ones. -/
theorem coe_sum {n : ℕ} (f : Fin n → ℝ) : ∑ i, ((f i : ℝ) : EReal) = ((∑ i, f i : ℝ) : EReal) := by
  induction n with
  | zero => simp
  | succ n ih => rw [Fin.sum_univ_castSucc, Fin.sum_univ_castSucc, ih, ← EReal.coe_add]

/-- The sum over a product of ranges. -/
theorem sum_split {a b : ℕ} (f : ℕ → ℝ) : ∑ i : Fin (a * b), f i = ∑ x : Fin a, ∑ y : Fin b, f (b * x + y) := by
  rw [← finProdFinEquiv.sum_comp, Fintype.sum_prod_type]
  simp only [finProdFinEquiv_apply_val]
  exact Finset.sum_congr rfl fun x _ => Finset.sum_congr rfl fun y _ => by rw [add_comm]

/-- The lanes of a head among all lanes. -/
theorem sum_head (f : ℕ → ℝ) (h : Fin 8) :
    ∑ q : Fin 512, f q * (if q.val / 64 = h.val then 1 else 0) = ∑ p : Fin 64, f (64 * h + p) := by
  rw [sum_split (a := 8) (b := 64) fun q => f q * (if q / 64 = h.val then 1 else 0)]
  have w : ∀ (x : Fin 8) (y : Fin 64), (64 * x.val + y.val) / 64 = x.val := fun x y => by omega
  simp only [w, mul_ite, mul_one, mul_zero]
  rw [Finset.sum_eq_single h]
  · simp
  · intro b _ n
    simp [Fin.val_ne_of_ne n]
  · simp

/-- The rows in groups of eight. -/
theorem sum_rows (f : ℕ → ℝ) : ∑ l : Fin 128, f l = ∑ r : Fin 8, ∑ k : Fin 16, f (8 * k + r) := by
  rw [sum_split (a := 16) (b := 8) f, Finset.sum_comm]

/-- The head of a lane of the even head of a pair. -/
theorem pair_even (pr : Fin 4) (j : Fin 128) (w : j.val < 64) : (128 * pr.val + j.val) / 64 = 2 * pr.val := by omega
/-- The head of a lane of the odd head of a pair. -/
theorem pair_odd (pr : Fin 4) (j : Fin 128) (w : ¬ j.val < 64) : (128 * pr.val + j.val) / 64 = 2 * pr.val + 1 := by omega

/-- The rows of a tile hold the numbers of a chunk. -/
structure Holds (T : Tile) (R : _root_.Scan.Chunk) : Prop where
  xs : ∀ (l : Fin 128) (q : Fin 512), T.xs (ix2 l q) = ((R.x l q : ℝ) : EReal)
  bm : ∀ (l : Fin 128) (n : Fin 128), T.bm (ix2 l n) = ((R.b l n : ℝ) : EReal)
  cm : ∀ (l : Fin 128) (n : Fin 128), T.cm (ix2 l n) = ((R.c l n : ℝ) : EReal)
  dt : ∀ (l : Fin 128) (q : Fin 512), T.dt (ix2 l q) = ((R.dt l (q / 64) : ℝ) : EReal)
  ein : ∀ (l : Fin 128) (q : Fin 512), T.ein (ix2 l q) = ((R.ein l (q / 64) : ℝ) : EReal)
  eout : ∀ (l : Fin 128) (q : Fin 512), T.eout (ix2 l q) = ((R.eout l (q / 64) : ℝ) : EReal)
  ac : ∀ (l : Fin 128) (h : Fin 8), T.ac (ix3 0 l h) = ((R.a l h : ℝ) : EReal)
  ar : ∀ (h : Fin 8) (l : Fin 128), T.ar (ix3 0 h l) = ((R.a l h : ℝ) : EReal)
  d : ∀ q : Fin 512, T.d (ix2 0 q) = ((R.k (q / 64) : ℝ) : EReal)
  prev : ∀ (n : Fin 128) (q : Fin 512), T.prev (ix4 0 0 n q) = ((R.st n q : ℝ) : EReal)
  dy : ∀ (l : Fin 128) (q : Fin 512), T.dy (ix2 l q) = ((R.y l q : ℝ) : EReal)
  seg : ∀ (q : Fin 512) (j : Fin 128), T.seg (ix2 q j) = (((if q.val / 64 = j.val then 1 else 0 : ℝ)) : EReal)

variable {T : Tile} {R : _root_.Scan.Chunk} (H : Holds T R) {dh : Vec Ideal S128x512 .f32} {D : ℕ → ℕ → ℝ}
  (E : ∀ (n : Fin 128) (q : Fin 512), dh (ix2 n q) = ((D n q : ℝ) : EReal)) (pr : Fin 4)
include H

/-- The products of the weights. -/
theorem cb_real (l s : Fin 128) : cb T (ix2 l s) = ((R.cb l s : ℝ) : EReal) := by
  unfold cb cB bB
  pointwise [H.cm, H.bm]
  simp only [← EReal.coe_mul, coe_sum]
  rfl

/-- The scaled input. -/
theorem xdt_real (l : Fin 128) (q : Fin 512) : xdt T (ix2 l q) = ((R.xdt l q : ℝ) : EReal) := by
  unfold xdt dtL
  pointwise [H.xs, H.dt]
  simp only [← EReal.coe_mul]
  rfl

/-- The incoming gradient times its decay. -/
theorem dyE_real (l : Fin 128) (q : Fin 512) : dyE T (ix2 l q) = ((R.ye l q : ℝ) : EReal) := by
  unfold dyE eiL
  pointwise [H.dy, H.ein]
  simp only [← EReal.coe_mul]
  rfl

/-- The scaled input times its decay. -/
theorem xfM_real (l : Fin 128) (q : Fin 512) : xfM T (ix2 l q) = ((R.xf l q : ℝ) : EReal) := by
  unfold xfM eoL
  pointwise [H.eout, xdt_real H]
  simp only [← EReal.coe_mul]
  rfl

/-- The state before the chunk. -/
theorem hM_real (n : Fin 128) (q : Fin 512) : hM T (ix2 n q) = ((R.st n q : ℝ) : EReal) := by
  unfold hM
  pointwise [H.prev]

/-- The state read through the output weights. -/
theorem chM_real (l : Fin 128) (q : Fin 512) : chM T (ix2 l q) = ((R.ch l q : ℝ) : EReal) := by
  unfold chM cB hB
  pointwise [H.cm, hM_real H]
  simp only [← EReal.coe_mul, coe_sum]
  rfl

/-- The decay between two rows. -/
theorem lm_real (h : Fin 8) (l s : Fin 128) : lm T h (ix2 l s) = ((R.dec h l s : ℝ) : EReal) := by
  unfold lm acM arM
  pointwise [H.ac, H.ar]
  rw [show Ideal.ofBits .f32 4286578688#32 = ⊥ from by simp [Ideal.ofBits, Ideal.ieee]]
  have w : Scalar.select (IntOp.cmpi CmpIPredicate.sge (BitVec.ofNat 32 l.val) (BitVec.ofNat 32 s.val))
      (((R.a l h : ℝ) : EReal) - ((R.a s h : ℝ) : EReal)) ⊥
      = if s.val ≤ l.val then ((R.a l h : ℝ) : EReal) - ((R.a s h : ℝ) : EReal) else ⊥ := by
    word_cmp
  rw [w, _root_.Scan.Chunk.dec]
  split
  · rw [← EReal.coe_sub]; rfl
  · rfl

/-- The weight of a row in another. -/
theorem mm_real (h : Fin 8) (l s : Fin 128) : mm T h (ix2 l s) = ((R.mix h l s : ℝ) : EReal) := by
  unfold mm
  pointwise [cb_real H, lm_real H]
  simp only [← EReal.coe_mul]
  rfl

include E in
/-- The state gradient handed on. -/
theorem dhN_real (n : Fin 128) (q : Fin 512) : dhN T dh (ix2 n q) = ((R.before D n q : ℝ) : EReal) := by
  unfold dhN nextState eiL cB
  pointwise [H.ein, H.cm, H.dy, E]
  simp only [← EReal.coe_mul, coe_sum, ← EReal.coe_add]
  rfl

include E in
/-- The state gradient read through the input weights. -/
theorem qM_real (l : Fin 128) (q : Fin 512) : qM T dh (ix2 l q) = ((R.qm D l q : ℝ) : EReal) := by
  unfold qM bB dhB
  pointwise [H.bm, E]
  simp only [← EReal.coe_mul, coe_sum]
  rfl

omit H in
/-- Which lanes of a pair belong to its even head. -/
theorem lo_real {v : FVec Ideal S128x128 .f32} {f : ℕ → ℕ → ℝ} (e : ∀ l j : Fin 128, v (ix2 l j) = ((f l j : ℝ) : EReal))
    (l j : Fin 128) : lo v (ix2 l j) = ((if j.val < 64 then f l j else 0 : ℝ) : EReal) := by
  unfold lo firstM
  pointwise [k0_pay4, e]
  have w : Scalar.select (IntOp.cmpi CmpIPredicate.slt (BitVec.ofNat 32 j.val) 64#32) ((f l j : ℝ) : EReal) 0
      = if j.val < 64 then ((f l j : ℝ) : EReal) else 0 := by
    word_cmp
  rw [w]
  split <;> rfl

omit H in
/-- The other lanes of a pair belong to its odd head. -/
theorem hi_real {v : FVec Ideal S128x128 .f32} {f : ℕ → ℕ → ℝ} (e : ∀ l j : Fin 128, v (ix2 l j) = ((f l j : ℝ) : EReal))
    (l j : Fin 128) : hi v (ix2 l j) = ((if j.val < 64 then 0 else f l j : ℝ) : EReal) := by
  unfold hi firstM
  pointwise [k0_pay4, e]
  have w : Scalar.select (IntOp.cmpi CmpIPredicate.slt (BitVec.ofNat 32 j.val) 64#32) 0 ((f l j : ℝ) : EReal)
      = if j.val < 64 then 0 else ((f l j : ℝ) : EReal) := by
    word_cmp
  rw [w]
  split <;> rfl

/-- The scaled input on a pair of heads. -/
theorem xp_real (l j : Fin 128) : xp T pr (ix2 l j) = ((R.xdt l (128 * pr + j) : ℝ) : EReal) := by
  unfold xp
  pointwise [xdt_real H]

/-- The incoming gradient on a pair of heads. -/
theorem dyp_real (l j : Fin 128) : dyp T pr (ix2 l j) = ((R.y l (128 * pr + j) : ℝ) : EReal) := by
  unfold dyp
  pointwise [H.dy]

/-- The incoming gradient of the even head. -/
theorem half0_real (l j : Fin 128) :
    half0 T pr (ix2 l j) = ((if j.val < 64 then R.y l (128 * pr + j) else 0 : ℝ) : EReal) := by
  unfold half0
  pointwise [lo_real (f := fun l j => R.y l (128 * pr + j)) (dyp_real H pr)]

/-- The incoming gradient of the odd head. -/
theorem half1_real (l j : Fin 128) :
    half1 T pr (ix2 l j) = ((if j.val < 64 then 0 else R.y l (128 * pr + j) : ℝ) : EReal) := by
  unfold half1
  pointwise [hi_real (f := fun l j => R.y l (128 * pr + j)) (dyp_real H pr)]

/-- The gradient inside the chunk on a pair of heads. -/
theorem dxd_real (s j : Fin 128) : dxd T pr (ix2 s j) = ((R.dxd s (128 * pr + j) : ℝ) : EReal) := by
  unfold dxd
  pointwise [mm_real H, half0_real H, half1_real H]
  simp only [← EReal.coe_mul, coe_sum, ← EReal.coe_add]
  rw [EReal.coe_eq_coe_iff, _root_.Scan.Chunk.dxd]
  by_cases w : j.val < 64
  · simp [w, pair_even pr j w]
  · simp [w, pair_odd pr j w]

/-- The output inside the chunk on a pair of heads. -/
theorem ydg_real (l j : Fin 128) : ydg T pr (ix2 l j) = ((R.yd l (128 * pr + j) : ℝ) : EReal) := by
  unfold ydg
  pointwise [mm_real H, lo_real (f := fun l j => R.xdt l (128 * pr + j)) (xp_real H pr),
    hi_real (f := fun l j => R.xdt l (128 * pr + j)) (xp_real H pr)]
  simp only [← EReal.coe_mul, coe_sum, ← EReal.coe_add]
  rw [EReal.coe_eq_coe_iff, _root_.Scan.Chunk.yd]
  by_cases w : j.val < 64
  · simp [w, pair_even pr j w]
  · simp [w, pair_odd pr j w]

/-- One more pair of heads in the gradient of the products of the weights. -/
theorem dcbS_real {acc : FVec Ideal S128x128 .f32} {z : ℝ} (l s : Fin 128) (e : acc (ix2 l s) = ((z : ℝ) : EReal)) :
    dcbS T pr acc (ix2 l s) = ((z + R.yx (2 * pr) l s * R.dec (2 * pr) l s
      + R.yx (2 * pr + 1) l s * R.dec (2 * pr + 1) l s : ℝ) : EReal) := by
  unfold dcbS
  pointwise [e, half0_real H, half1_real H, xp_real H, lm_real H]
  simp only [← EReal.coe_mul, coe_sum, ← EReal.coe_add]
  rw [EReal.coe_eq_coe_iff, _root_.Scan.Chunk.yx, _root_.Scan.Chunk.yx]
  simp only [ite_mul, zero_mul, Finset.sum_const_zero, add_zero, zero_add]
  simp only [show ∀ p : ℕ, 64 * (2 * pr.val) + p = 128 * pr.val + p from fun p => by ring,
    show ∀ p : ℕ, 64 * (2 * pr.val + 1) + p = 128 * pr.val + (64 + p) from fun p => by ring]

/-- The gradient of the products of the weights. -/
theorem dcb_real (l s : Fin 128) : dcb T (ix2 l s) = ((R.dcb l s : ℝ) : EReal) := by
  unfold dcb
  rw [dcbS_real H 3 l s (dcbS_real H 2 l s (dcbS_real H 1 l s (dcbS_real H 0 l s (z := 0) (by pointwise []; rfl))))]
  rw [EReal.coe_eq_coe_iff, _root_.Scan.Chunk.dcb]
  simp [Fin.sum_univ_succ]
  ring

omit H in
/-- Four pairs of heads side by side are the lanes of all heads. -/
theorem side_real {v : Fin 4 → FVec Ideal S128x128 .f32} {f : ℕ → ℕ → ℝ}
    (e : ∀ (pr : Fin 4) (l j : Fin 128), v pr (ix2 l j) = ((f l (128 * pr + j) : ℝ) : EReal)) (l : Fin 128) (q : Fin 512) :
    side v (ix2 l q) = ((f l q : ℝ) : EReal) := by
  unfold side
  pointwise [e]
  have c1 : ¬ q.val < 128 → 128 + (q.val - 128) = q.val := by omega
  have c2 : ¬ q.val < 128 → ¬ q.val - 128 < 128 → 256 + (q.val - 128 - 128) = q.val := by omega
  have c3 : ¬ q.val < 128 → ¬ q.val - 128 < 128 → ¬ q.val - 128 - 128 < 128 → 384 + (q.val - 128 - 128 - 128) = q.val := by omega
  split_ifs with u v w
  · rfl
  · rw [c1 u]
  · rw [c2 u v]
  · rw [c3 u v w]

/-- The sums of the lanes of a head, row by row. -/
theorem headSums_real {v : FVec Ideal S128x512 .f32} {f : ℕ → ℕ → ℝ}
    (e : ∀ (l : Fin 128) (q : Fin 512), v (ix2 l q) = ((f l q : ℝ) : EReal)) (l : Fin 128) (h : Fin 8) :
    headSums T v (ix2 l h) = ((∑ p : Fin 64, f l (64 * h + p) : ℝ) : EReal) := by
  unfold headSums segM
  pointwise [e, H.seg]
  simp only [← EReal.coe_sub, sub_self, ← EReal.coe_mul, zero_mul, coe_sum, ← EReal.coe_add, Finset.sum_const_zero, add_zero]
  rw [EReal.coe_eq_coe_iff, sum_head (f l) h]

omit H in
/-- Sixteen groups of eight rows. -/
theorem part8_real {v : FVec Ideal S128x512 .f32} {f : ℕ → ℕ → ℝ}
    (e : ∀ (l : Fin 128) (q : Fin 512), v (ix2 l q) = ((f l q : ℝ) : EReal)) (r : Fin 8) (q : Fin 512) :
    part8 v (ix2 r q) = ((∑ k : Fin 16, f (8 * k + r) q : ℝ) : EReal) := by
  unfold part8 eight
  pointwise [e]
  simp only [← EReal.coe_add]
  rw [EReal.coe_eq_coe_iff]
  simp [Fin.sum_univ_succ]
  ring

/-- The sums over all rows of the lanes of a head. -/
theorem headTotals_real {v : FVec Ideal S128x512 .f32} {f : ℕ → ℕ → ℝ}
    (e : ∀ (l : Fin 128) (q : Fin 512), v (ix2 l q) = ((f l q : ℝ) : EReal)) (h : Fin 8) :
    headTotals T v (ix2 0 h) = ((∑ l : Fin 128, ∑ p : Fin 64, f l (64 * h + p) : ℝ) : EReal) := by
  unfold headTotals segM
  pointwise [part8_real e, H.seg]
  simp only [← EReal.coe_sub, sub_self, ← EReal.coe_mul, zero_mul, coe_sum, ← EReal.coe_add, Finset.sum_const_zero, add_zero]
  rw [EReal.coe_eq_coe_iff]
  simp only [fun x : Fin 8 => sum_head (fun q => ∑ k : Fin 16, f (8 * k + x) q) h]
  rw [sum_rows fun l => ∑ p : Fin 64, f l (64 * h + p)]
  exact Finset.sum_congr rfl fun x _ => Finset.sum_comm

section
include E

/-- The scaled input's gradient. -/
theorem dxdt_real (l : Fin 128) (q : Fin 512) : dxdt T dh (ix2 l q) = ((R.dxdt D l q : ℝ) : EReal) := by
  unfold dxdt eoL
  pointwise [side_real (f := R.dxd) (dxd_real H), qM_real H E, H.eout]
  simp only [← EReal.coe_mul, ← EReal.coe_add]
  rfl

/-- The input's gradient. -/
theorem dxO_real (l : Fin 128) (q : Fin 512) : dxO T dh (ix2 l q) = ((R.dx D l q : ℝ) : EReal) := by
  unfold dxO dtL
  pointwise [dxdt_real H E, H.dt, H.dy, H.d]
  simp only [← EReal.coe_mul, ← EReal.coe_add]
  rfl

/-- What the state gradient gives the decays to the chunk's end. -/
theorem qxM_real (l : Fin 128) (q : Fin 512) : qxM T dh (ix2 l q) = ((R.qm D l q * R.xf l q : ℝ) : EReal) := by
  unfold qxM
  pointwise [qM_real H E, xfM_real H]
  simp only [← EReal.coe_mul]

/-- The input weights' gradient. -/
theorem dbmO_real (s n : Fin 128) : dbmO T dh (ix2 s n) = ((R.db D s n : ℝ) : EReal) := by
  unfold dbmO dbm0 dhB cB
  pointwise [xfM_real H, E, dcb_real H, H.cm]
  simp only [← EReal.coe_mul, coe_sum, ← EReal.coe_add]
  rfl

/-- The step sizes' gradient. -/
theorem ddtO_real (l : Fin 128) (h : Fin 8) : ddtO T dh (ix3 0 l h) = ((R.ddt D l h : ℝ) : EReal) := by
  have e : ∀ (l : Fin 128) (q : Fin 512), (mulf (dxdt T dh) (T.xs : FVec Ideal S128x512 .f32)) (ix2 l q)
      = ((R.dxdt D l q * R.x l q : ℝ) : EReal) := fun l q => by
    pointwise [dxdt_real H E, H.xs]
    simp only [← EReal.coe_mul]
  unfold ddtO
  pointwise [headSums_real H (f := fun l q => R.dxdt D l q * R.x l q) e]
  rfl

/-- What each lane gives the decays. -/
theorem daL_real (l : Fin 128) (q : Fin 512) :
    (addf (subf (mulf (mulf (T.dy : FVec Ideal S128x512 .f32) (chM T)) (eiL T)) (qxM T dh)) (side (wpt T))) (ix2 l q)
      = ((R.daL D l q : ℝ) : EReal) := by
  have e : ∀ (pr : Fin 4) (l j : Fin 128), wpt T pr (ix2 l j)
      = (((fun l q => R.y l q * R.yd l q - R.xdt l q * R.dxd l q) (l : ℕ) (128 * pr + j : ℕ) : ℝ) : EReal) := fun pr l j => by
    unfold wpt
    pointwise [dyp_real H, ydg_real H, xp_real H, dxd_real H]
    simp only [← EReal.coe_mul, ← EReal.coe_sub]
  unfold eiL
  pointwise [side_real (f := fun l q => R.y l q * R.yd l q - R.xdt l q * R.dxd l q) e, qxM_real H E, chM_real H, H.dy, H.ein]
  simp only [← EReal.coe_mul, ← EReal.coe_add, ← EReal.coe_sub]
  rfl

/-- The decays' gradient. -/
theorem dacsO_real (l : Fin 128) (h : Fin 8) : dacsO T dh (ix3 0 l h) = ((R.da D l h : ℝ) : EReal) := by
  have e : ∀ (n : Fin 128) (q : Fin 512), (mulf (dh : FVec Ideal S128x512 .f32) (hM T)) (ix2 n q)
      = ((D n q * R.st n q : ℝ) : EReal) := fun n q => by
    pointwise [E, hM_real H]
    simp only [← EReal.coe_mul]
  unfold dacsO sA dLast acM
  pointwise [headSums_real H (f := R.daL D) (daL_real H E), k0_pay5, H.ac,
    headTotals_real H (f := fun l q => R.qm D l q * R.xf l q) (qxM_real H E),
    headTotals_real H (f := fun n q => D n q * R.st n q) e]
  have w : ∀ u : EReal, Scalar.select (IntOp.cmpi CmpIPredicate.eq (BitVec.ofNat 32 l.val) 127#32) u 0
      = if l.val = 127 then u else 0 := fun u => by
    word_cmp
  rw [w, _root_.Scan.Chunk.da]
  split
  · rw [EReal.coe_add, _root_.Scan.Chunk.daE, EReal.coe_add, EReal.coe_mul]; rfl
  · simp

end

/-- The output weights' gradient. -/
theorem dcmO_real (l n : Fin 128) : dcmO T (ix2 l n) = ((R.dc l n : ℝ) : EReal) := by
  unfold dcmO dcm0 hB bB
  pointwise [dyE_real H, hM_real H, dcb_real H, H.bm]
  simp only [← EReal.coe_mul, coe_sum, ← EReal.coe_add]
  rfl

/-- The skip weights' gradient. -/
theorem ddO_real {acc : Vec Ideal S1x1x8 .f32} {f : ℕ → ℝ} (e : ∀ h : Fin 8, acc (ix3 0 0 h) = ((f h : ℝ) : EReal)) (h : Fin 8) :
    ddO T acc (ix3 0 0 h) = ((f h + R.dk h : ℝ) : EReal) := by
  have u : ∀ (l : Fin 128) (q : Fin 512), (mulf (T.dy : FVec Ideal S128x512 .f32) (T.xs : FVec Ideal S128x512 .f32) : FVec Ideal S128x512 .f32) (ix2 l q)
      = ((R.y l q * R.x l q : ℝ) : EReal) := fun l q => by
    pointwise [H.dy, H.xs]
    simp only [← EReal.coe_mul]
  unfold ddO
  pointwise [e, headTotals_real H (f := fun l q => R.y l q * R.x l q) u]
  simp only [← EReal.coe_add]
  rfl

end Cert.KernelIdeal.Scan

end
end
-- ==== Proof.ScanEntry.lean ====
module
public import proofs.«01_k».proof.Proof.ScanLeft
public import proofs.«01_k».proof.Proof.ScanTileReal
public import Idealize.ShloMosaic.Lib.StableHlo.ReadAt
@[expose] public section
set_option maxRecDepth 16384
noncomputable section
/-! The states before the chunks in the buffers that the host fills. -/
namespace Cert.KernelIdeal.Scan
open Idealize.ShloMosaic Idealize.ShloMosaic.TcCoe Idealize.SL.Sem
open Cert.KernelIdeal Cert.KernelIdeal.Gen
open Idealize.ShloMosaic.Pipeline (Dat)
variable (m : (ℓ : Loc nD τ sig) → Buf (Elt Ideal) ℓ) (c : Dev nD)

/-- The extended exponential of a real number. -/
theorem exp_coe (r : ℝ) : Ideal.exp ((r : ℝ) : EReal) = ((Real.exp r : ℝ) : EReal) := rfl

/-- A buffer that no later operation of a line writes holds at the line's end what it holds at the cut. -/
theorem upto_late {τ : Topo} {sig : RefSig} {Val : EltTy → Type} {ops : List (HloOp τ sig Val)} (i : ℕ) (W : List (Ref sig .tc))
    (hW : (ops.drop i).map HloOp.writes = W.map fun w => {Proc.devRef (τ := τ) .tc w}) {r : Ref sig .tc} (hr : r ∉ W)
    (F : Valuation τ sig Val) :
    StableHlo.upto ops F i (Proc.devRef .tc r) = StableHlo.after ops F (Proc.devRef .tc r) := by
  have e : StableHlo.after ops F = StableHlo.after (ops.drop i) (StableHlo.upto ops F i) := by
    conv_lhs => rw [← List.take_append_drop i ops]
    exact StableHlo.after_append _ _ _
  rw [e, StableHlo.after_unwritten W hW hr]

/-- What the last operations before the launch write, in order. -/
def later : List (Ref sig .tc) := [main_v165, main_v166, main_v167, main_v168, main_v169, main_v170, main_v171, main_v172, main_v173, main_v174, main_v175, main_v176, main_v177, main_v178, main_v179, main_v180, main_v181, main_v182, main_v183, main_v184, main_v185, main_v186, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v187, main_v188, main_v189, main_v190]

/-- The states before the chunks, one by one. -/
def befores : Fin 16 → FVec Ideal S1x8x8x64x128 .f32 :=
  ![V m c main_v149, V m c main_v150, V m c main_v151, V m c main_v152, V m c main_v153, V m c main_v154, V m c main_v155, V m c main_v156, V m c main_v157, V m c main_v158, V m c main_v159, V m c main_v160, V m c main_v161, V m c main_v162, V m c main_v163, V m c main_v164]

set_option maxHeartbeats 4000000 in
/-- The states before the chunks, stacked. -/
theorem stacked : V m c main_v165 =
    concatenate S16x8x8x64x128 0 (List.ofFn fun k : Fin 16 => ⟨S1x8x8x64x128, befores m c k⟩) concatenates_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S16x8x8x64x128_d0 := by
  have e : ∀ k : Fin 16, StableHlo.upto [hostOps0, hostOps0_1, hostOps0_2].flatten (fun b => m (c, b)) 166
      (Proc.devRef .tc ((![main_v149, main_v150, main_v151, main_v152, main_v153, main_v154, main_v155, main_v156, main_v157, main_v158, main_v159, main_v160, main_v161, main_v162, main_v163, main_v164] : Fin 16 → Ref sig .tc) k)) = V m c ((![main_v149, main_v150, main_v151, main_v152, main_v153, main_v154, main_v155, main_v156, main_v157, main_v158, main_v159, main_v160, main_v161, main_v162, main_v163, main_v164] : Fin 16 → Ref sig .tc) k) := fun k =>
    upto_late 166 later rfl (by revert k; decide) _
  conv_lhs => unfold V
  refine (StableHlo.after_last_write (i := 166) (later.drop 1) rfl rfl (by decide) _).trans ?_
  refine (StableHlo.nary_result _ _ _ _ _ _).trans ?_
  generalize hu : (fun k : Fin 16 => StableHlo.upto [hostOps0, hostOps0_1, hostOps0_2].flatten (fun b => m (c, b)) 166
      (Proc.devRef .tc ((![main_v149, main_v150, main_v151, main_v152, main_v153, main_v154, main_v155, main_v156, main_v157, main_v158, main_v159, main_v160, main_v161, main_v162, main_v163, main_v164] : Fin 16 → Ref sig .tc) k))) = u
  rw [hu.symm.trans (funext e)]
  rfl

/-- The states before the chunks, as the launch stages them. -/
theorem staged : V m c main_v167 =
    shapeCast S16x8x128x512 (transpose S16x8x128x8x64 [0, 1, 4, 2, 3] (V m c main_v165 : FVec Ideal S16x8x8x64x128 .f32) transposes_S16x8x8x64x128_S16x8x128x8x64_0_1_4_2_3) shapeCasts_S16x8x128x8x64_S16x8x128x512 := by
  conv_lhs => unfold V
  rw [StableHlo.after_last_write (i := 168) (later.drop 3) rfl rfl (by decide), StableHlo.reshape_result,
    StableHlo.upto_last_write (i := 167) [] rfl rfl (by decide), StableHlo.unary_result, upto_late 167 (later.drop 1) rfl (by decide)]
  rfl

/-- The five arrays hold the numbers of an example. -/
structure Given (x0 : Fin 2048 → Fin 6144 → EReal) (x1 x2 : Fin 2048 → Fin 64 → EReal) (x3 : Fin 64 → EReal)
    (x4 : Fin 2048 → Fin 4096 → EReal) (P : _root_.Scan.Args) : Prop where
  xbc : ∀ i j, x0 i j = ((P.xbc i j : ℝ) : EReal)
  dt : ∀ i j, x1 i j = ((P.dt i j : ℝ) : EReal)
  a : ∀ i j, x2 i j = ((P.a i j : ℝ) : EReal)
  k : ∀ j, x3 j = ((P.k j : ℝ) : EReal)
  dy : ∀ i j, x4 i j = ((P.dy i j : ℝ) : EReal)

/-- The kernel's arguments hold the numbers of an example. -/
abbrev Entry (P : _root_.Scan.Args) : Prop :=
  Given (fun i j => m (c, Proc.tc.devRef main_arg0) (ix2 i j)) (fun i j => m (c, Proc.tc.devRef main_arg1) (ix2 i j))
    (fun i j => m (c, Proc.tc.devRef main_arg2) (ix2 i j)) (fun j => m (c, Proc.tc.devRef main_arg3) (ix2 0 j))
    (fun i j => m (c, Proc.tc.devRef main_arg4) (ix2 i j)) P

end Cert.KernelIdeal.Scan
end
end
-- ==== Proof.RefRows.lean ====
module
public import proofs.«01_k».proof.Proof.ScanEntry
public import proofs.«01_k».proof.Proof.Gen.ReferenceIdeal.Read
@[expose] public section
set_option maxRecDepth 16384
noncomputable section

/-! The reference's arrays over the real numbers: what each chunk needs before the recurrences run. -/
namespace Cert.ReferenceIdeal.Scan
open Idealize.ShloMosaic Idealize.ShloMosaic.TcCoe Idealize.SL.Sem
open Cert.ReferenceIdeal Cert.ReferenceIdeal.Read
open Cert.KernelIdeal.Scan (Given exp_coe coe_sum)

/-- The reference's arguments hold the numbers of an example. -/
abbrev Holds (x0 : FVec Ideal S2048x6144 .f32) (x1 x2 : FVec Ideal S2048x64 .f32) (x3 : FVec Ideal S1x64 .f32)
    (x4 : FVec Ideal S2048x4096 .f32) (P : _root_.Scan.Args) : Prop :=
  Given (fun i j => x0 (ix2 i j)) (fun i j => x1 (ix2 i j)) (fun i j => x2 (ix2 i j)) (fun j => x3 (ix2 0 j))
    (fun i j => x4 (ix2 i j)) P

/-- Lane `p` of head `h` is of head `h`. -/
theorem lane (h : ℕ) (p : Fin 64) : (64 * h + p.val) / 64 = h := by omega

/-- The mask of the rows at or below another selects by the rows' order. -/
theorem below (l s : Fin 128) (u v : EReal) :
    Scalar.select (Scalar.select (IntOp.cmpi CmpIPredicate.sge (IntOp.addi (BitVec.ofNat 32 l.val) 0#32) (BitVec.ofNat 32 s.val)) 1#1 0#1) u v
      = if s.val ≤ l.val then u else v := by
  have z : IntOp.addi (BitVec.ofNat 32 l.val) 0#32 = BitVec.ofNat 32 l.val := BitVec.add_zero _
  have t : Scalar.select (IntOp.cmpi CmpIPredicate.sge (BitVec.ofNat 32 l.val) (BitVec.ofNat 32 s.val)) 1#1 0#1
      = if s.val ≤ l.val then 1#1 else 0#1 := by word_cmp
  rw [z, t]
  split
  · rfl
  · rfl

variable {x0 : FVec Ideal S2048x6144 .f32} {x1 x2 : FVec Ideal S2048x64 .f32} {x3 : FVec Ideal S1x64 .f32}
  {x4 : FVec Ideal S2048x4096 .f32} {P : _root_.Scan.Args} (H : Holds x0 x1 x2 x3 x4 P)
include H

/-- The inputs. -/
theorem x_real (c : Fin 16) (l : Fin 128) (g h : Fin 8) (p : Fin 64) :
    val_main_v3 (F := Ideal) x0 (ix5 c l g h p) = (((P.chunk g c).x l (64 * h + p) : ℝ) : EReal) := by
  have e : ∀ i j, x0 (ix2 i j) = ((P.xbc i j : ℝ) : EReal) := H.xbc
  pointwise [val_main_v3, val_main_v0, e]
  exact congrArg (fun j => ((P.xbc (c.val * 128 + l.val) j : ℝ) : EReal)) (by omega)
/-- The outputs' gradient. -/
theorem y_real (c : Fin 16) (l : Fin 128) (g h : Fin 8) (p : Fin 64) :
    val_main_v202 (F := Ideal) x4 (ix5 c l g h p) = (((P.chunk g c).y l (64 * h + p) : ℝ) : EReal) := by
  have e : ∀ i j, x4 (ix2 i j) = ((P.dy i j : ℝ) : EReal) := H.dy
  pointwise [val_main_v202, e]
  exact congrArg (fun j => ((P.dy (c.val * 128 + l.val) j : ℝ) : EReal)) (by omega)
/-- The input weights. -/
theorem b_real (c : Fin 16) (l : Fin 128) (g : Fin 8) (n : Fin 128) :
    val_main_v4 (F := Ideal) x0 (ix4 c l g n) = (((P.chunk g c).b l n : ℝ) : EReal) := by
  have e : ∀ i j, x0 (ix2 i j) = ((P.xbc i j : ℝ) : EReal) := H.xbc
  pointwise [val_main_v4, val_main_v1, e]
  rfl
/-- The output weights. -/
theorem c_real (c : Fin 16) (l : Fin 128) (g : Fin 8) (n : Fin 128) :
    val_main_v5 (F := Ideal) x0 (ix4 c l g n) = (((P.chunk g c).c l n : ℝ) : EReal) := by
  have e : ∀ i j, x0 (ix2 i j) = ((P.xbc i j : ℝ) : EReal) := H.xbc
  pointwise [val_main_v5, val_main_v2, e]
  rfl
/-- The step sizes. -/
theorem dt_real (c : Fin 16) (l : Fin 128) (g h : Fin 8) :
    val_main_v6 (F := Ideal) x1 (ix4 c l g h) = (((P.chunk g c).dt l h : ℝ) : EReal) := by
  have e : ∀ i j, x1 (ix2 i j) = ((P.dt i j : ℝ) : EReal) := H.dt
  pointwise [val_main_v6, e]
  rfl
/-- The logarithms of the decays. -/
theorem a_real (c : Fin 16) (l : Fin 128) (g h : Fin 8) :
    val_main_v8 (F := Ideal) x2 (ix4 g h c l) = (((P.chunk g c).a l h : ℝ) : EReal) := by
  have e : ∀ i j, x2 (ix2 i j) = ((P.a i j : ℝ) : EReal) := H.a
  pointwise [val_main_v8, val_main_v7, e]
  rfl
/-- The inputs times the step sizes. -/
theorem xdt_real (c : Fin 16) (l : Fin 128) (g h : Fin 8) (p : Fin 64) :
    val_main_v11 (F := Ideal) x0 x1 (ix5 c l g h p) = (((P.chunk g c).xdt l (64 * h + p) : ℝ) : EReal) := by
  pointwise [val_main_v11, val_main_v10, val_main_v9, x_real H, dt_real H]
  simp only [← EReal.coe_mul, Scan.Chunk.xdt, lane]
/-- The decays inside the chunks. -/
theorem dec_real (c : Fin 16) (l s : Fin 128) (g h : Fin 8) :
    val_main_v20 (F := Ideal) x2 (ix5 g h c l s) = (((P.chunk g c).dec h l s : ℝ) : EReal) := by
  pointwise [val_main_v20, val_main_v19_0, val_main_v19_1, val_main_v18, val_main_v17, val_main_v16, val_main_v15, val_main_v14, val_main_v13, val_main_v12, val_main_call0_v4, val_main_call0_v2, val_main_call0_v0, val_main_call0_v1, val_main_call0_v3, val_main_call0_v5, val_main_call0_c, val_main_c, val_main_call0_c_0, val_main_call1_v2, val_main_call1_v0, val_main_cst, a_real H]
  show Ideal.exp (Scalar.select _ _ (Ideal.ofBits .f32 4286578688#32)) = _
  rw [show Ideal.ofBits .f32 4286578688#32 = ⊥ from by simp [Ideal.ofBits, Ideal.ieee]]
  rw [below, _root_.Scan.Chunk.dec]
  split
  · rw [← EReal.coe_sub]; rfl
  · rfl
/-- The products of the output weights with the input weights. -/
theorem cb_real (c : Fin 16) (l s : Fin 128) (g : Fin 8) :
    val_main_v21 (F := Ideal) x0 (ix4 g c l s) = (((P.chunk g c).cb l s : ℝ) : EReal) := by
  pointwise [val_main_v21, b_real H, c_real H]
  simp only [← EReal.coe_mul, coe_sum]
  rfl
/-- The weights of the rows in the rows. -/
theorem mix_real (c : Fin 16) (l s : Fin 128) (g h : Fin 8) :
    val_main_v24 (F := Ideal) x0 x2 (ix5 g h c l s) = (((P.chunk g c).mix h l s : ℝ) : EReal) := by
  pointwise [val_main_v24, val_main_v23, val_main_v22, cb_real H, dec_real H]
  simp only [← EReal.coe_mul]
  rfl
/-- The decays to the chunks' ends. -/
theorem eout_real (c : Fin 16) (l : Fin 128) (g h : Fin 8) :
    val_main_v30 (F := Ideal) x2 (ix4 g h c l) = (((P.chunk g c).eout l h : ℝ) : EReal) := by
  pointwise [val_main_v30, val_main_v29, val_main_v28, val_main_v27, a_real H]
  simp only [← EReal.coe_sub, exp_coe]
  rfl
/-- The scaled inputs at the chunks' ends. -/
theorem xf_real (c : Fin 16) (l : Fin 128) (g h : Fin 8) (p : Fin 64) :
    val_main_v34 (F := Ideal) x0 x1 x2 (ix5 c l g h p) = (((P.chunk g c).xf l (64 * h + p) : ℝ) : EReal) := by
  pointwise [val_main_v34, val_main_v33, val_main_v32, val_main_v31, xdt_real H, eout_real H]
  simp only [← EReal.coe_mul, Scan.Chunk.xf, lane]
/-- What the chunks give the states. -/
theorem gain_real (c : Fin 16) (g h : Fin 8) (p : Fin 64) (n : Fin 128) :
    val_main_v35 (F := Ideal) x0 x1 x2 (ix5 c g h p n) = ((∑ l : Fin 128, (P.chunk g c).xf l (64 * h + p) * (P.chunk g c).b l n : ℝ) : EReal) := by
  pointwise [val_main_v35, xf_real H, b_real H]
  simp only [← EReal.coe_mul, coe_sum]
/-- The decays over the chunks. -/
theorem whole_real (c : Fin 16) (g h : Fin 8) :
    val_main_v39 (F := Ideal) x2 (ix3 c g h) = (((P.chunk g c).ein 127 h : ℝ) : EReal) := by
  pointwise [val_main_v39, val_main_v38, val_main_v37, val_main_v36, a_real H]
  simp only [exp_coe]
  rfl
/-- The decays from the chunks' starts. -/
theorem ein_real (c : Fin 16) (l : Fin 128) (g h : Fin 8) :
    val_main_v187 (F := Ideal) x2 (ix4 g h c l) = (((P.chunk g c).ein l h : ℝ) : EReal) := by
  pointwise [val_main_v187, a_real H]
  simp only [exp_coe]
  rfl
/-- The outputs' gradient times its decays. -/
theorem ye_real (c : Fin 16) (l : Fin 128) (g h : Fin 8) (p : Fin 64) :
    val_main_v216 (F := Ideal) x2 x4 (ix5 c l g h p) = (((P.chunk g c).ye l (64 * h + p) : ℝ) : EReal) := by
  pointwise [val_main_v216, val_main_v215, val_main_v191, val_main_v188, y_real H, ein_real H]
  simp only [← EReal.coe_mul, Scan.Chunk.ye, lane]
/-- What the outputs' gradient gives the states' gradient. -/
theorem back_real (c : Fin 16) (g h : Fin 8) (p : Fin 64) (n : Fin 128) :
    val_main_v221 (F := Ideal) x0 x2 x4 (ix5 c g h p n) = ((∑ l : Fin 128, (P.chunk g c).c l n * (P.chunk g c).ye l (64 * h + p) : ℝ) : EReal) := by
  pointwise [val_main_v221, val_main_v218, ye_real H, c_real H]
  simp only [← EReal.coe_mul, coe_sum, mul_comm]
/-- The skip weights. -/
theorem k_real (c : Fin 16) (l : Fin 128) (g h : Fin 8) (p : Fin 64) :
    val_main_v206 (F := Ideal) x3 (ix5 c l g h p) = (((P.chunk g c).k h : ℝ) : EReal) := by
  have e : ∀ j, x3 (ix2 0 j) = ((P.k j : ℝ) : EReal) := H.k
  pointwise [val_main_v206, val_main_v197, val_main_v195, val_main_v194, e]
  rfl

end Cert.ReferenceIdeal.Scan
end
end
-- ==== Proof.RefStates.lean ====
module
public import proofs.«01_k».proof.Proof.RefRows
@[expose] public section
set_option maxRecDepth 16384
noncomputable section

/-! The reference's recurrences over the real numbers: the states before the chunks, and the state gradients after them. -/
namespace Cert.ReferenceIdeal.Scan
open Idealize.ShloMosaic Idealize.ShloMosaic.TcCoe Idealize.SL.Sem
open Cert.ReferenceIdeal Cert.ReferenceIdeal.Read
open Cert.KernelIdeal.Scan (Given exp_coe coe_sum)

variable {x0 : FVec Ideal S2048x6144 .f32} {x1 x2 : FVec Ideal S2048x64 .f32} {x3 : FVec Ideal S1x64 .f32}
  {x4 : FVec Ideal S2048x4096 .f32} {P : _root_.Scan.Args} (H : Holds x0 x1 x2 x3 x4 P)

/-- The array holds, group by group, the numbers `f`: states by lanes. -/
def Is (v : FVec Ideal S8x8x64x128 .f32) (f : ℕ → ℕ → ℕ → ℝ) : Prop :=
  ∀ (g h : Fin 8) (p : Fin 64) (n : Fin 128), v (ix4 g h p n) = ((f g n (64 * h + p) : ℝ) : EReal)

include H

/-- One chunk carries the states on. -/
theorem carry {k : Fin 16} {u v : FVec Ideal S8x8x64x128 .f32}
    (e : ∀ (g h : Fin 8) (p : Fin 64) (n : Fin 128), v (ix4 g h p n)
      = val_main_v39 (F := Ideal) x2 (ix3 k g h) * u (ix4 g h p n) + val_main_v35 (F := Ideal) x0 x1 x2 (ix5 k g h p n))
    (s : Is u fun g => P.state g k) : Is v fun g => P.state g (k + 1) := fun g h p n => by
  rw [e, s, whole_real H, gain_real H, ← EReal.coe_mul, ← EReal.coe_add]
  show _ = (((P.chunk g k).next n (64 * h + p) : ℝ) : EReal)
  rw [_root_.Scan.Chunk.next, lane]
  rfl

/-- One chunk carries the states' gradient back. -/
theorem carry_back {u v : FVec Ideal S8x8x64x128 .f32} (k : ℕ) (r : Fin 16) (w : r.val = 15 - k)
    (e : ∀ (g h : Fin 8) (p : Fin 64) (n : Fin 128), v (ix4 g h p n)
      = val_main_v221 (F := Ideal) x0 x2 x4 (ix5 r g h p n) + val_main_v39 (F := Ideal) x2 (ix3 r g h) * u (ix4 g h p n))
    (s : Is u fun g => P.grad g k) : Is v fun g => P.grad g (k + 1) := fun g h p n => by
  rw [e, s, whole_real H, back_real H, ← EReal.coe_mul, ← EReal.coe_add, add_comm, w]
  show _ = (((P.chunk g (15 - k)).before (P.grad g k) n (64 * h + p) : ℝ) : EReal)
  rw [_root_.Scan.Chunk.before, lane]

/-- The states before every chunk. -/
theorem states_real :
    Is (val_main_v40 (F := Ideal)) (fun g => P.state g 0) ∧
    Is (val_main_v48 (F := Ideal) x0 x1 x2) (fun g => P.state g 1) ∧
    Is (val_main_v56 (F := Ideal) x0 x1 x2) (fun g => P.state g 2) ∧
    Is (val_main_v64 (F := Ideal) x0 x1 x2) (fun g => P.state g 3) ∧
    Is (val_main_v72 (F := Ideal) x0 x1 x2) (fun g => P.state g 4) ∧
    Is (val_main_v80 (F := Ideal) x0 x1 x2) (fun g => P.state g 5) ∧
    Is (val_main_v88 (F := Ideal) x0 x1 x2) (fun g => P.state g 6) ∧
    Is (val_main_v96 (F := Ideal) x0 x1 x2) (fun g => P.state g 7) ∧
    Is (val_main_v104 (F := Ideal) x0 x1 x2) (fun g => P.state g 8) ∧
    Is (val_main_v112 (F := Ideal) x0 x1 x2) (fun g => P.state g 9) ∧
    Is (val_main_v120 (F := Ideal) x0 x1 x2) (fun g => P.state g 10) ∧
    Is (val_main_v128 (F := Ideal) x0 x1 x2) (fun g => P.state g 11) ∧
    Is (val_main_v136 (F := Ideal) x0 x1 x2) (fun g => P.state g 12) ∧
    Is (val_main_v144 (F := Ideal) x0 x1 x2) (fun g => P.state g 13) ∧
    Is (val_main_v152 (F := Ideal) x0 x1 x2) (fun g => P.state g 14) ∧
    Is (val_main_v160 (F := Ideal) x0 x1 x2) (fun g => P.state g 15) := by
  have s0 : Is (val_main_v40 (F := Ideal)) (fun g => P.state g 0) := fun g h p n => by
    pointwise [val_main_v40, val_main_cst_0]
    rfl
  have s1 := carry (v := val_main_v48 (F := Ideal) x0 x1 x2) (k := 0) H (fun g h p n => by pointwise [val_main_v48, val_main_v47, val_main_v46, val_main_v45, val_main_v44, val_main_v43, val_main_v42, val_main_v41]) s0
  have s2 := carry (v := val_main_v56 (F := Ideal) x0 x1 x2) (k := 1) H (fun g h p n => by pointwise [val_main_v56, val_main_v55, val_main_v54, val_main_v53, val_main_v52, val_main_v51, val_main_v50, val_main_v49]) s1
  have s3 := carry (v := val_main_v64 (F := Ideal) x0 x1 x2) (k := 2) H (fun g h p n => by pointwise [val_main_v64, val_main_v63, val_main_v62, val_main_v61, val_main_v60, val_main_v59, val_main_v58, val_main_v57]) s2
  have s4 := carry (v := val_main_v72 (F := Ideal) x0 x1 x2) (k := 3) H (fun g h p n => by pointwise [val_main_v72, val_main_v71, val_main_v70, val_main_v69, val_main_v68, val_main_v67, val_main_v66, val_main_v65]) s3
  have s5 := carry (v := val_main_v80 (F := Ideal) x0 x1 x2) (k := 4) H (fun g h p n => by pointwise [val_main_v80, val_main_v79, val_main_v78, val_main_v77, val_main_v76, val_main_v75, val_main_v74, val_main_v73]) s4
  have s6 := carry (v := val_main_v88 (F := Ideal) x0 x1 x2) (k := 5) H (fun g h p n => by pointwise [val_main_v88, val_main_v87, val_main_v86, val_main_v85, val_main_v84, val_main_v83, val_main_v82, val_main_v81]) s5
  have s7 := carry (v := val_main_v96 (F := Ideal) x0 x1 x2) (k := 6) H (fun g h p n => by pointwise [val_main_v96, val_main_v95, val_main_v94, val_main_v93, val_main_v92, val_main_v91, val_main_v90, val_main_v89]) s6
  have s8 := carry (v := val_main_v104 (F := Ideal) x0 x1 x2) (k := 7) H (fun g h p n => by pointwise [val_main_v104, val_main_v103, val_main_v102, val_main_v101, val_main_v100, val_main_v99, val_main_v98, val_main_v97]) s7
  have s9 := carry (v := val_main_v112 (F := Ideal) x0 x1 x2) (k := 8) H (fun g h p n => by pointwise [val_main_v112, val_main_v111, val_main_v110, val_main_v109, val_main_v108, val_main_v107, val_main_v106, val_main_v105]) s8
  have s10 := carry (v := val_main_v120 (F := Ideal) x0 x1 x2) (k := 9) H (fun g h p n => by pointwise [val_main_v120, val_main_v119, val_main_v118, val_main_v117, val_main_v116, val_main_v115, val_main_v114, val_main_v113]) s9
  have s11 := carry (v := val_main_v128 (F := Ideal) x0 x1 x2) (k := 10) H (fun g h p n => by pointwise [val_main_v128, val_main_v127, val_main_v126, val_main_v125, val_main_v124, val_main_v123, val_main_v122, val_main_v121]) s10
  have s12 := carry (v := val_main_v136 (F := Ideal) x0 x1 x2) (k := 11) H (fun g h p n => by pointwise [val_main_v136, val_main_v135, val_main_v134, val_main_v133, val_main_v132, val_main_v131, val_main_v130, val_main_v129]) s11
  have s13 := carry (v := val_main_v144 (F := Ideal) x0 x1 x2) (k := 12) H (fun g h p n => by pointwise [val_main_v144, val_main_v143, val_main_v142, val_main_v141, val_main_v140, val_main_v139, val_main_v138, val_main_v137]) s12
  have s14 := carry (v := val_main_v152 (F := Ideal) x0 x1 x2) (k := 13) H (fun g h p n => by pointwise [val_main_v152, val_main_v151, val_main_v150, val_main_v149, val_main_v148, val_main_v147, val_main_v146, val_main_v145]) s13
  have s15 := carry (v := val_main_v160 (F := Ideal) x0 x1 x2) (k := 14) H (fun g h p n => by pointwise [val_main_v160, val_main_v159, val_main_v158, val_main_v157, val_main_v156, val_main_v155, val_main_v154, val_main_v153]) s14
  exact ⟨s0, s1, s2, s3, s4, s5, s6, s7, s8, s9, s10, s11, s12, s13, s14, s15⟩

omit H in
/-- The states before the chunks, chunk by chunk. -/
def befores (x0 : FVec Ideal S2048x6144 .f32) (x1 x2 : FVec Ideal S2048x64 .f32) : Fin 16 → FVec Ideal S1x8x8x64x128 .f32 :=
  ![val_main_v169 (F := Ideal), val_main_v170 (F := Ideal) x0 x1 x2, val_main_v171 (F := Ideal) x0 x1 x2, val_main_v172 (F := Ideal) x0 x1 x2, val_main_v173 (F := Ideal) x0 x1 x2, val_main_v174 (F := Ideal) x0 x1 x2, val_main_v175 (F := Ideal) x0 x1 x2, val_main_v176 (F := Ideal) x0 x1 x2, val_main_v177 (F := Ideal) x0 x1 x2, val_main_v178 (F := Ideal) x0 x1 x2, val_main_v179 (F := Ideal) x0 x1 x2, val_main_v180 (F := Ideal) x0 x1 x2, val_main_v181 (F := Ideal) x0 x1 x2, val_main_v182 (F := Ideal) x0 x1 x2, val_main_v183 (F := Ideal) x0 x1 x2, val_main_v184 (F := Ideal) x0 x1 x2]

/-- The state before each chunk. -/
theorem befores_real (k : Fin 16) (g h : Fin 8) (p : Fin 64) (n : Fin 128) :
    befores x0 x1 x2 k (ix5 0 g h p n) = ((P.state g k n (64 * h + p) : ℝ) : EReal) := by
  obtain ⟨s0, s1, s2, s3, s4, s5, s6, s7, s8, s9, s10, s11, s12, s13, s14, s15⟩ := states_real H
  revert k
  simp only [Fin.forall_fin_succ, IsEmpty.forall_iff, and_true, befores, Matrix.cons_val_zero, Matrix.cons_val_succ, Fin.val_succ, Fin.val_zero, Nat.reduceAdd]
  and_intros
  all_goals pointwise [val_main_v169, val_main_v170, val_main_v171, val_main_v172, val_main_v173, val_main_v174, val_main_v175, val_main_v176, val_main_v177, val_main_v178, val_main_v179, val_main_v180, val_main_v181, val_main_v182, val_main_v183, val_main_v184]
  exacts [s0 g h p n, s1 g h p n, s2 g h p n, s3 g h p n, s4 g h p n, s5 g h p n, s6 g h p n, s7 g h p n, s8 g h p n, s9 g h p n, s10 g h p n, s11 g h p n, s12 g h p n, s13 g h p n, s14 g h p n, s15 g h p n]

/-- The states before the chunks, stacked. -/
theorem prev_real (c : Fin 16) (g h : Fin 8) (p : Fin 64) (n : Fin 128) :
    val_main_v185 (F := Ideal) x0 x1 x2 (ix5 c g h p n) = (((P.chunk g c).st n (64 * h + p) : ℝ) : EReal) := by
  have e : val_main_v185 (F := Ideal) x0 x1 x2
      = concatenate S16x8x8x64x128 0 (List.ofFn fun k : Fin 16 => ⟨S1x8x8x64x128, befores x0 x1 x2 k⟩) Gen.concatenates_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S1x8x8x64x128_S16x8x8x64x128_d0 := rfl
  rw [e]
  pointwise
  rw [befores_real H]
  rfl

/-- The state gradients after every chunk. -/
theorem grads_real :
    Is (val_main_v255 (F := Ideal) x0 x2 x4) (fun g => P.grad g 1) ∧
    Is (val_main_v260 (F := Ideal) x0 x2 x4) (fun g => P.grad g 2) ∧
    Is (val_main_v272 (F := Ideal) x0 x2 x4) (fun g => P.grad g 3) ∧
    Is (val_main_v285 (F := Ideal) x0 x2 x4) (fun g => P.grad g 4) ∧
    Is (val_main_v298 (F := Ideal) x0 x2 x4) (fun g => P.grad g 5) ∧
    Is (val_main_v311 (F := Ideal) x0 x2 x4) (fun g => P.grad g 6) ∧
    Is (val_main_v324 (F := Ideal) x0 x2 x4) (fun g => P.grad g 7) ∧
    Is (val_main_v337 (F := Ideal) x0 x2 x4) (fun g => P.grad g 8) ∧
    Is (val_main_v350 (F := Ideal) x0 x2 x4) (fun g => P.grad g 9) ∧
    Is (val_main_v363 (F := Ideal) x0 x2 x4) (fun g => P.grad g 10) ∧
    Is (val_main_v376 (F := Ideal) x0 x2 x4) (fun g => P.grad g 11) ∧
    Is (val_main_v389 (F := Ideal) x0 x2 x4) (fun g => P.grad g 12) ∧
    Is (val_main_v402 (F := Ideal) x0 x2 x4) (fun g => P.grad g 13) ∧
    Is (val_main_v415 (F := Ideal) x0 x2 x4) (fun g => P.grad g 14) ∧
    Is (val_main_v428 (F := Ideal) x0 x2 x4) (fun g => P.grad g 15) := by
  have s1 : Is (val_main_v255 (F := Ideal) x0 x2 x4) (fun g => P.grad g 1) := fun g h p n => by
    pointwise [val_main_v255, val_main_v254]
    rw [back_real H]
    show _ = (((P.chunk g 15).before (fun _ _ => 0) n (64 * h + p) : ℝ) : EReal)
    rw [_root_.Scan.Chunk.before, lane, mul_zero, zero_add]
    rfl
  have s2 := carry_back (v := val_main_v260 (F := Ideal) x0 x2 x4) H 1 14 rfl (fun g h p n => by pointwise [val_main_v260, val_main_v259, val_main_v258, val_main_v155, val_main_v154, val_main_v153, val_main_v253, val_main_v252]) s1
  have s3 := carry_back (v := val_main_v272 (F := Ideal) x0 x2 x4) H 2 13 rfl (fun g h p n => by pointwise [val_main_v272, val_main_v271, val_main_v270, val_main_v147, val_main_v146, val_main_v145, val_main_v251, val_main_v250]) s2
  have s4 := carry_back (v := val_main_v285 (F := Ideal) x0 x2 x4) H 3 12 rfl (fun g h p n => by pointwise [val_main_v285, val_main_v284, val_main_v283, val_main_v139, val_main_v138, val_main_v137, val_main_v249, val_main_v248]) s3
  have s5 := carry_back (v := val_main_v298 (F := Ideal) x0 x2 x4) H 4 11 rfl (fun g h p n => by pointwise [val_main_v298, val_main_v297, val_main_v296, val_main_v131, val_main_v130, val_main_v129, val_main_v247, val_main_v246]) s4
  have s6 := carry_back (v := val_main_v311 (F := Ideal) x0 x2 x4) H 5 10 rfl (fun g h p n => by pointwise [val_main_v311, val_main_v310, val_main_v309, val_main_v123, val_main_v122, val_main_v121, val_main_v245, val_main_v244]) s5
  have s7 := carry_back (v := val_main_v324 (F := Ideal) x0 x2 x4) H 6 9 rfl (fun g h p n => by pointwise [val_main_v324, val_main_v323, val_main_v322, val_main_v115, val_main_v114, val_main_v113, val_main_v243, val_main_v242]) s6
  have s8 := carry_back (v := val_main_v337 (F := Ideal) x0 x2 x4) H 7 8 rfl (fun g h p n => by pointwise [val_main_v337, val_main_v336, val_main_v335, val_main_v107, val_main_v106, val_main_v105, val_main_v241, val_main_v240]) s7
  have s9 := carry_back (v := val_main_v350 (F := Ideal) x0 x2 x4) H 8 7 rfl (fun g h p n => by pointwise [val_main_v350, val_main_v349, val_main_v348, val_main_v99, val_main_v98, val_main_v97, val_main_v239, val_main_v238]) s8
  have s10 := carry_back (v := val_main_v363 (F := Ideal) x0 x2 x4) H 9 6 rfl (fun g h p n => by pointwise [val_main_v363, val_main_v362, val_main_v361, val_main_v91, val_main_v90, val_main_v89, val_main_v237, val_main_v236]) s9
  have s11 := carry_back (v := val_main_v376 (F := Ideal) x0 x2 x4) H 10 5 rfl (fun g h p n => by pointwise [val_main_v376, val_main_v375, val_main_v374, val_main_v83, val_main_v82, val_main_v81, val_main_v235, val_main_v234]) s10
  have s12 := carry_back (v := val_main_v389 (F := Ideal) x0 x2 x4) H 11 4 rfl (fun g h p n => by pointwise [val_main_v389, val_main_v388, val_main_v387, val_main_v75, val_main_v74, val_main_v73, val_main_v233, val_main_v232]) s11
  have s13 := carry_back (v := val_main_v402 (F := Ideal) x0 x2 x4) H 12 3 rfl (fun g h p n => by pointwise [val_main_v402, val_main_v401, val_main_v400, val_main_v67, val_main_v66, val_main_v65, val_main_v231, val_main_v230]) s12
  have s14 := carry_back (v := val_main_v415 (F := Ideal) x0 x2 x4) H 13 2 rfl (fun g h p n => by pointwise [val_main_v415, val_main_v414, val_main_v413, val_main_v59, val_main_v58, val_main_v57, val_main_v229, val_main_v228]) s13
  have s15 := carry_back (v := val_main_v428 (F := Ideal) x0 x2 x4) H 14 1 rfl (fun g h p n => by pointwise [val_main_v428, val_main_v427, val_main_v426, val_main_v51, val_main_v50, val_main_v49, val_main_v227, val_main_v226]) s14
  exact ⟨s1, s2, s3, s4, s5, s6, s7, s8, s9, s10, s11, s12, s13, s14, s15⟩

end Cert.ReferenceIdeal.Scan
end
end
-- ==== Proof.RefGrads.lean ====
module
public import proofs.«01_k».proof.Proof.RefStates
@[expose] public section
set_option maxRecDepth 16384
noncomputable section

/-! The reference's results over the real numbers. -/
namespace Cert.ReferenceIdeal.Scan
open Idealize.ShloMosaic Idealize.ShloMosaic.TcCoe Idealize.SL.Sem
open Cert.ReferenceIdeal Cert.ReferenceIdeal.Read
open Cert.KernelIdeal.Scan (Given exp_coe coe_sum)

variable {x0 : FVec Ideal S2048x6144 .f32} {x1 x2 : FVec Ideal S2048x64 .f32} {x3 : FVec Ideal S1x64 .f32}
  {x4 : FVec Ideal S2048x4096 .f32} {P : _root_.Scan.Args} (H : Holds x0 x1 x2 x3 x4 P)

/-- After the last chunk there is no gradient yet. -/
theorem grad_none (P : _root_.Scan.Args) (g : ℕ) : P.grad g 0 = fun _ _ => 0 := rfl

include H

/-- The state gradients after the chunks, stacked. -/
theorem grad_real (c : Fin 16) (g h : Fin 8) (p : Fin 64) (n : Fin 128) :
    val_main_v438 (F := Ideal) x0 x2 x4 (ix5 c g h p n) = ((P.grad g (15 - c) n (64 * h + p) : ℝ) : EReal) := by
  obtain ⟨s1, s2, s3, s4, s5, s6, s7, s8, s9, s10, s11, s12, s13, s14, s15⟩ := grads_real H
  pointwise [val_main_v438, val_main_v437, val_main_cst_63, val_main_v436, val_main_v425, val_main_v424, val_main_cst_59, val_main_v423, val_main_v412, val_main_v411, val_main_cst_55, val_main_v410, val_main_v399, val_main_v398, val_main_cst_51, val_main_v397, val_main_v386, val_main_v385, val_main_cst_47, val_main_v384, val_main_v373, val_main_v372, val_main_cst_43, val_main_v371, val_main_v360, val_main_v359, val_main_cst_39, val_main_v358, val_main_v347, val_main_v346, val_main_cst_35, val_main_v345, val_main_v334, val_main_v333, val_main_cst_31, val_main_v332, val_main_v321, val_main_v320, val_main_cst_27, val_main_v319, val_main_v308, val_main_v307, val_main_cst_23, val_main_v306, val_main_v295, val_main_v294, val_main_cst_19, val_main_v293, val_main_v282, val_main_v281, val_main_cst_15, val_main_v280, val_main_v269, val_main_v268, val_main_cst_11, val_main_v267, val_main_v257, val_main_cst_7, val_main_v256]
  rw [s1 g h p n, s2 g h p n, s3 g h p n, s4 g h p n, s5 g h p n, s6 g h p n, s7 g h p n, s8 g h p n, s9 g h p n, s10 g h p n, s11 g h p n, s12 g h p n, s13 g h p n, s14 g h p n, s15 g h p n]
  fin_cases c <;> simp [grad_none]

/-- The gradient of the decays over the chunks. -/
theorem whole_grad_real (c : Fin 16) (g h : Fin 8) :
    val_main_v445 (F := Ideal) x0 x1 x2 x4 (ix3 c g h)
      = ((∑ p : Fin 64, ∑ n : Fin 128, P.grad g (15 - c) n (64 * h + p) * P.state g c n (64 * h + p) : ℝ) : EReal) := by
  obtain ⟨s1, s2, s3, s4, s5, s6, s7, s8, s9, s10, s11, s12, s13, s14, s15⟩ := grads_real H
  obtain ⟨t0, t1, t2, t3, t4, t5, t6, t7, t8, t9, t10, t11, t12, t13, t14, t15⟩ := states_real H
  unfold Is at *
  pointwise [val_main_v445, val_main_v444, val_main_cst_66, val_main_v443, val_main_v442, val_main_cst_65, val_main_v441, val_main_v440, val_main_cst_64, val_main_v439, val_main_v435, val_main_v434, val_main_cst_62, val_main_v433, val_main_v432, val_main_cst_61, val_main_v431, val_main_v430, val_main_cst_60, val_main_v429, val_main_v422, val_main_v421, val_main_cst_58, val_main_v420, val_main_v419, val_main_cst_57, val_main_v418, val_main_v417, val_main_cst_56, val_main_v416, val_main_v409, val_main_v408, val_main_cst_54, val_main_v407, val_main_v406, val_main_cst_53, val_main_v405, val_main_v404, val_main_cst_52, val_main_v403, val_main_v396, val_main_v395, val_main_cst_50, val_main_v394, val_main_v393, val_main_cst_49, val_main_v392, val_main_v391, val_main_cst_48, val_main_v390, val_main_v383, val_main_v382, val_main_cst_46, val_main_v381, val_main_v380, val_main_cst_45, val_main_v379, val_main_v378, val_main_cst_44, val_main_v377, val_main_v370, val_main_v369, val_main_cst_42, val_main_v368, val_main_v367, val_main_cst_41, val_main_v366, val_main_v365, val_main_cst_40, val_main_v364, val_main_v357, val_main_v356, val_main_cst_38, val_main_v355, val_main_v354, val_main_cst_37, val_main_v353, val_main_v352, val_main_cst_36, val_main_v351, val_main_v344, val_main_v343, val_main_cst_34, val_main_v342, val_main_v341, val_main_cst_33, val_main_v340, val_main_v339, val_main_cst_32, val_main_v338, val_main_v331, val_main_v330, val_main_cst_30, val_main_v329, val_main_v328, val_main_cst_29, val_main_v327, val_main_v326, val_main_cst_28, val_main_v325, val_main_v318, val_main_v317, val_main_cst_26, val_main_v316, val_main_v315, val_main_cst_25, val_main_v314, val_main_v313, val_main_cst_24, val_main_v312, val_main_v305, val_main_v304, val_main_cst_22, val_main_v303, val_main_v302, val_main_cst_21, val_main_v301, val_main_v300, val_main_cst_20, val_main_v299, val_main_v292, val_main_v291, val_main_cst_18, val_main_v290, val_main_v289, val_main_cst_17, val_main_v288, val_main_v287, val_main_cst_16, val_main_v286, val_main_v279, val_main_v278, val_main_cst_14, val_main_v277, val_main_v276, val_main_cst_13, val_main_v275, val_main_v274, val_main_cst_12, val_main_v273, val_main_v266, val_main_cst_10, val_main_v265, val_main_v264, val_main_cst_9, val_main_v263, val_main_v262, val_main_cst_8, val_main_v261, s1, s2, s3, s4, s5, s6, s7, s8, s9, s10, s11, s12, s13, s14, s15, t0, t1, t2, t3, t4, t5, t6, t7, t8, t9, t10, t11, t12, t13, t14, t15]
  simp only [← EReal.coe_mul, coe_sum]
  fin_cases c <;> simp [grad_none]

end Cert.ReferenceIdeal.Scan
end
end
-- ==== Proof.RefResults.lean ====
module
public import proofs.«01_k».proof.Proof.RefGrads
@[expose] public section
set_option maxRecDepth 16384
noncomputable section

/-! What the chunks give the reference's results, over the real numbers. -/
namespace Scan.Chunk
variable (R : Chunk) (D : ℕ → ℕ → ℝ)

/-- What the decay from row `l` to the chunk's end gets, times that decay. -/
def fade (l h : ℕ) : ℝ := (∑ p : Fin 64, R.xdt l (64 * h + p) * R.qm D l (64 * h + p)) * R.eout l h

/-- A lane's head. -/
theorem head_lane (h : ℕ) (p : Fin 64) : (64 * h + p.val) / 64 = h := by omega

/-- The sum over a head's lanes of the outgoing states' part. -/
theorem fade_eq (l h : ℕ) : ∑ p : Fin 64, R.qm D l (64 * h + p) * R.xf l (64 * h + p) = R.fade D l h := by
  rw [fade, Finset.sum_mul]
  refine Finset.sum_congr rfl fun p _ => ?_
  rw [xf, head_lane]
  ring

/-- What a row's decays inside the chunk get as the later row. -/
theorem later_eq (l h : ℕ) :
    ∑ p : Fin 64, R.y l (64 * h + p) * R.yd l (64 * h + p) = ∑ s : Fin 128, R.mix h l s * R.yx h l s := by
  simp only [yd, yx, head_lane, Finset.mul_sum]
  rw [Finset.sum_comm]
  refine Finset.sum_congr rfl fun s _ => Finset.sum_congr rfl fun p _ => by ring

/-- What a row's decays inside the chunk get as the earlier row. -/
theorem earlier_eq (s h : ℕ) :
    ∑ p : Fin 64, R.xdt s (64 * h + p) * R.dxd s (64 * h + p) = ∑ l : Fin 128, R.mix h l s * R.yx h l s := by
  simp only [dxd, yx, head_lane, Finset.mul_sum]
  rw [Finset.sum_comm]
  refine Finset.sum_congr rfl fun s _ => Finset.sum_congr rfl fun p _ => by ring

/-- The decays' gradient, decay by decay. -/
theorem da_eq (l h : ℕ) : R.da D l h =
    ((((∑ p : Fin 64, R.ch l (64 * h + p) * R.y l (64 * h + p)) * R.ein l h
        + if l = 127 then (∑ p : Fin 64, ∑ n : Fin 128, D n (64 * h + p) * R.st n (64 * h + p)) * R.ein 127 h else 0)
      + -R.fade D l h) + if l = 127 then ∑ r : Fin 128, R.fade D r h else 0)
      + ∑ r : Fin 128, -(R.mix h r l * R.yx h r l) + ∑ s : Fin 128, R.mix h l s * R.yx h l s := by
  have e : ∑ p : Fin 64, R.daL D l (64 * h + p) = (∑ p : Fin 64, R.ch l (64 * h + p) * R.y l (64 * h + p)) * R.ein l h
      - R.fade D l h + (∑ s : Fin 128, R.mix h l s * R.yx h l s - ∑ r : Fin 128, R.mix h r l * R.yx h r l) := by
    rw [← fade_eq, ← later_eq, ← earlier_eq, Finset.sum_mul, ← Finset.sum_sub_distrib, ← Finset.sum_sub_distrib, ← Finset.sum_add_distrib]
    refine Finset.sum_congr rfl fun p _ => ?_
    rw [daL, head_lane]
    ring
  rw [da, e, daE, Finset.sum_neg_distrib]
  simp only [fade_eq]
  rw [Finset.sum_comm (f := fun (n : Fin 128) (p : Fin 64) => D n (64 * h + p) * R.st n (64 * h + p))]
  split <;> ring

end Scan.Chunk

namespace Cert.ReferenceIdeal.Scan
open Idealize.ShloMosaic Idealize.ShloMosaic.TcCoe Idealize.SL.Sem
open Cert.ReferenceIdeal Cert.ReferenceIdeal.Read
open Cert.KernelIdeal.Scan (Given exp_coe coe_sum sum_split)

/-- A sum over the first two axes and the last one, element by element. -/
theorem sum_outer {n0 n1 n2 n3 n4 : ℕ} (w : (⟨5, ![n0, n1, n2, n3, n4]⟩ : Shape).ReducesTo [0, 1, 4] ⟨2, ![n2, n3]⟩)
    (v : (⟨5, ![n0, n1, n2, n3, n4]⟩ : Shape).Idx → EReal) (z : EReal) (g : Fin n2) (h : Fin n3) :
    Ideal.hostReduceAdd w v z (ix2 g h) = z + ∑ c : Fin n0, ∑ l : Fin n1, ∑ p : Fin n4, v (ix5 c l g h p) := by
  unfold Ideal.hostReduceAdd
  congr 1
  rw [← Fintype.sum_prod_type' (f := fun (c : Fin n0) (l : Fin n1) => ∑ p : Fin n4, v (ix5 c l g h p)),
    ← Fintype.sum_prod_type' (f := fun (k : Fin n0 × Fin n1) (p : Fin n4) => v (ix5 k.1 k.2 g h p))]
  refine Finset.sum_nbij' (fun i => ((i 0, i 1), i 4)) (fun k => ix5 k.1.1 k.1.2 g h k.2) ?_ ?_ ?_ ?_ ?_
  · intro i _
    exact Finset.mem_univ _
  · intro k _
    refine Finset.mem_filter.2 ⟨Finset.mem_univ _, ?_⟩
    funext b
    fin_cases b <;> rfl
  · intro i hi
    have e := (Finset.mem_filter.1 hi).2
    funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · intro k _
    rfl
  · intro i hi
    have e := (Finset.mem_filter.1 hi).2
    refine congrArg v (funext fun a => Fin.ext ?_)
    match a with
    | ⟨0, _⟩ => rfl
    | ⟨1, _⟩ => rfl
    | ⟨2, _⟩ => exact congrArg Fin.val (congrFun e 0)
    | ⟨3, _⟩ => exact congrArg Fin.val (congrFun e 1)
    | ⟨4, _⟩ => rfl

variable {x0 : FVec Ideal S2048x6144 .f32} {x1 x2 : FVec Ideal S2048x64 .f32} {x3 : FVec Ideal S1x64 .f32}
  {x4 : FVec Ideal S2048x4096 .f32} {P : _root_.Scan.Args} (H : Holds x0 x1 x2 x3 x4 P)
include H

/-- The states read through the output weights. -/
theorem ch_real (c : Fin 16) (l : Fin 128) (g h : Fin 8) (p : Fin 64) :
    val_main_v190 (F := Ideal) x0 x1 x2 (ix5 c l g h p) = (((P.chunk g c).ch l (64 * h + p) : ℝ) : EReal) := by
  pointwise [val_main_v190, val_main_v189, prev_real H, c_real H]
  simp only [← EReal.coe_mul, coe_sum, _root_.Scan.Chunk.ch, mul_comm]
/-- What the decays from the chunks' starts get, times those decays. -/
theorem start_real (c : Fin 16) (l : Fin 128) (g h : Fin 8) :
    val_main_v223 (F := Ideal) x0 x1 x2 x4 (ix4 g h c l)
      = (((∑ p : Fin 64, (P.chunk g c).ch l (64 * h + p) * (P.chunk g c).y l (64 * h + p)) * (P.chunk g c).ein l h : ℝ) : EReal) := by
  pointwise [val_main_v223, val_main_v222, val_main_v217, val_main_v214, val_main_v213, val_main_v212, val_main_cst_5, val_main_cst_6, ch_real H, y_real H, ein_real H]
  simp only [← EReal.coe_mul, coe_sum, Finset.univ_unique, Finset.sum_singleton]
/-- The state gradients read through the input weights. -/
theorem qm_real (c : Fin 16) (l : Fin 128) (g h : Fin 8) (p : Fin 64) :
    val_main_v454 (F := Ideal) x0 x2 x4 (ix5 c l g h p) = (((P.chunk g c).qm (P.grad g (15 - c)) l (64 * h + p) : ℝ) : EReal) := by
  pointwise [val_main_v454, val_main_v453, grad_real H, b_real H]
  simp only [← EReal.coe_mul, coe_sum, _root_.Scan.Chunk.qm, mul_comm]
/-- What the decays to the chunks' ends get, times those decays. -/
theorem fade_real (c : Fin 16) (l : Fin 128) (g h : Fin 8) :
    val_main_v462 (F := Ideal) x0 x1 x2 x4 (ix4 g h c l) = (((P.chunk g c).fade (P.grad g (15 - c)) l h : ℝ) : EReal) := by
  pointwise [val_main_v462, val_main_v461, val_main_v460, val_main_v457, val_main_v456, val_main_v455, val_main_cst_68, val_main_cst_69, xdt_real H, qm_real H, eout_real H]
  simp only [← EReal.coe_mul, coe_sum, Finset.univ_unique, Finset.sum_singleton]
  rfl
/-- The gradients of the rows' weights, head by head. -/
theorem yx_real (c : Fin 16) (l s : Fin 128) (g h : Fin 8) :
    val_main_v471 (F := Ideal) x0 x1 x4 (ix5 g h c l s) = (((P.chunk g c).yx h l s : ℝ) : EReal) := by
  pointwise [val_main_v471, val_main_v470, val_main_v469, y_real H, xdt_real H]
  simp only [← EReal.coe_mul, coe_sum]
  rfl
/-- The scaled inputs' gradient. -/
theorem dxdt_real (c : Fin 16) (s : Fin 128) (g h : Fin 8) (p : Fin 64) :
    val_main_v474 (F := Ideal) x0 x2 x4 (ix5 c s g h p)
      = (((P.chunk g c).dxdt (P.grad g (15 - c)) s (64 * h + p) : ℝ) : EReal) := by
  pointwise [val_main_v474, val_main_v473, val_main_v472, val_main_v469, val_main_v459, val_main_v458, val_main_v32, val_main_v31, y_real H, mix_real H, qm_real H, eout_real H]
  simp only [← EReal.coe_mul, coe_sum, ← EReal.coe_add, _root_.Scan.Chunk.dxdt, _root_.Scan.Chunk.dxd, lane]
  rw [add_comm]
  simp only [mul_comm]
/-- The gradient of the products of the weights. -/
theorem dcb_real (c : Fin 16) (l s : Fin 128) (g : Fin 8) :
    val_main_v480 (F := Ideal) x0 x1 x2 x4 (ix4 g c l s) = (((P.chunk g c).dcb l s : ℝ) : EReal) := by
  pointwise [val_main_v480, val_main_v479, val_main_v478, val_main_v477, val_main_cst_72, val_main_cst_73, yx_real H, dec_real H]
  simp only [← EReal.coe_mul, coe_sum, Finset.univ_unique, Finset.sum_singleton]
  rfl
/-- What the decays inside the chunks get, times those decays. -/
theorem seg_real (c : Fin 16) (l s : Fin 128) (g h : Fin 8) :
    val_main_v488 (F := Ideal) x0 x1 x2 x4 (ix5 g h c l s) = (((P.chunk g c).mix h l s * (P.chunk g c).yx h l s : ℝ) : EReal) := by
  pointwise [val_main_v488, val_main_v487, val_main_v476, val_main_call2_v0, val_main_call2_cst, val_main_v475, val_main_v22, val_main_v19_1, val_main_v13, val_main_v12, val_main_call0_v4, val_main_call0_v2, val_main_call0_v0, val_main_call0_v1, val_main_call0_v3, val_main_call0_v5, val_main_call0_c, val_main_c, val_main_call0_c_0, cb_real H, yx_real H, dec_real H]
  rw [below]
  split
  · rw [← EReal.coe_mul, ← EReal.coe_mul, _root_.Scan.Chunk.mix]
    exact congrArg _ (by ring)
  · rename_i w
    rw [_root_.Scan.Chunk.mix, _root_.Scan.Chunk.dec, if_neg w, mul_zero, zero_mul]
    rfl
/-- The output weights' gradient. -/
theorem dc_real (c : Fin 16) (l : Fin 128) (g : Fin 8) (n : Fin 128) :
    val_main_v486 (F := Ideal) x0 x1 x2 x4 (ix4 c l g n) = (((P.chunk g c).dc l n : ℝ) : EReal) := by
  pointwise [val_main_v486, val_main_v485, val_main_v484, val_main_v220, val_main_v219, val_main_v218, ye_real H, prev_real H, dcb_real H, b_real H]
  simp only [← EReal.coe_mul, coe_sum, ← EReal.coe_add]
  rw [_root_.Scan.Chunk.dc, ← sum_split (a := 8) (b := 64) (fun q => (P.chunk g c).ye l q * (P.chunk g c).st n q)]
/-- The input weights' gradient. -/
theorem db_real (c : Fin 16) (l : Fin 128) (g : Fin 8) (n : Fin 128) :
    val_main_v483 (F := Ideal) x0 x1 x2 x4 (ix4 c l g n) = (((P.chunk g c).db (P.grad g (15 - c)) l n : ℝ) : EReal) := by
  pointwise [val_main_v483, val_main_v482, val_main_v481, val_main_v452, val_main_v451, xf_real H, grad_real H, dcb_real H, c_real H]
  simp only [← EReal.coe_mul, coe_sum, ← EReal.coe_add]
  rw [_root_.Scan.Chunk.db, ← sum_split (a := 8) (b := 64) (fun q => P.grad g (15 - c) n q * (P.chunk g c).xf l q)]
  simp only [mul_comm]
/-- The step sizes' gradient. -/
theorem ddt_real (c : Fin 16) (l : Fin 128) (g h : Fin 8) :
    val_main_v504 (F := Ideal) x0 x2 x4 (ix4 c l g h) = (((P.chunk g c).ddt (P.grad g (15 - c)) l h : ℝ) : EReal) := by
  pointwise [val_main_v504, val_main_v500, val_main_v499, val_main_v498, val_main_cst_78, val_main_cst_79, x_real H, dxdt_real H]
  simp only [← EReal.coe_mul, coe_sum, Finset.univ_unique, Finset.sum_singleton, _root_.Scan.Chunk.ddt, mul_comm]
/-- The inputs' gradient. -/
theorem dx_real (c : Fin 16) (l : Fin 128) (g h : Fin 8) (p : Fin 64) :
    val_main_v503 (F := Ideal) x0 x1 x2 x3 x4 (ix5 c l g h p)
      = (((P.chunk g c).dx (P.grad g (15 - c)) l (64 * h + p) : ℝ) : EReal) := by
  pointwise [val_main_v503, val_main_v502, val_main_v501, val_main_v9, val_main_v207, dxdt_real H, dt_real H, y_real H, k_real H]
  simp only [← EReal.coe_mul, ← EReal.coe_add, _root_.Scan.Chunk.dx, lane]
  rw [add_comm]
/-- The decays' gradient. -/
theorem da_real (c : Fin 16) (l : Fin 128) (g h : Fin 8) :
    val_main_v497 (F := Ideal) x0 x1 x2 x4 (ix4 g h c l) = (((P.chunk g c).da (P.grad g (15 - c)) l h : ℝ) : EReal) := by
  have e : ∀ (c : Fin 16) (g h : Fin 8), val_main_v38 (F := Ideal) x2 (ix3 g h c) = (((P.chunk g c).ein 127 h : ℝ) : EReal) := by
    intro c g h
    rw [← whole_real H]
    pointwise [val_main_v39]
  pointwise [val_main_v497, val_main_v496, val_main_v495, val_main_v494, val_main_v493, val_main_v492, val_main_v491, val_main_v490, val_main_v489, val_main_v468, val_main_v467, val_main_v466,val_main_v465,val_main_v464,val_main_v463, val_main_v450,val_main_v449,val_main_v448,val_main_v447,val_main_v446, val_main_cst_76, val_main_cst_77, val_main_cst_75, val_main_cst_74, val_main_cst_71, val_main_cst_70, val_main_cst_67, seg_real H, fade_real H, start_real H, whole_grad_real H, e]
  have w : (127 ≤ l.val ∧ l.val - 127 < 1) = (l.val = 127) := propext ⟨fun h => by omega, fun h => by omega⟩
  rw [_root_.Scan.Chunk.da_eq]
  simp only [w]
  by_cases v : l.val = 127
  · simp only [v, if_true, dite_true, ← EReal.coe_mul, coe_sum, ← EReal.coe_neg, ← EReal.coe_add, Finset.univ_unique, Finset.sum_singleton]
    rfl
  · simp only [v, if_false, dite_false, add_zero, ← EReal.coe_mul, coe_sum, ← EReal.coe_neg, ← EReal.coe_add, Finset.univ_unique, Finset.sum_singleton]
/-- What the skip weights get, chunk by chunk. -/
theorem dk_real (g h : Fin 8) :
    val_main_v204 (F := Ideal) x0 x4 (ix2 g h) = ((∑ c : Fin 16, (P.chunk g c).dk h : ℝ) : EReal) := by
  pointwise [val_main_v204, val_main_cst_2]
  rw [sum_outer]
  pointwise [val_main_v203, x_real H, y_real H]
  simp only [← EReal.coe_mul, coe_sum, _root_.Scan.Chunk.dk, mul_comm]

end Cert.ReferenceIdeal.Scan
end
end
-- ==== Proof.ScanWindows.lean ====
module
public import proofs.«01_k».proof.Proof.ScanEntry
@[expose] public section
set_option maxRecDepth 16384
noncomputable section

/-! Which elements of their arrays the windows of a point of the grid hold. -/
namespace Cert.KernelIdeal.Scan
open Idealize.ShloMosaic Idealize.ShloMosaic.TcCoe Idealize.SL.Sem
open Cert.KernelIdeal Cert.KernelIdeal.Gen
/-- At every grid point, which block of its array each input window holds. -/
theorem index_in : ∀ t : Fin cfg0.N, win0_0.index t = ![1 - t.val % 2, t.val / 2] ∧ win0_1.index t = ![1 - t.val % 2, 32 + t.val / 2]
    ∧ win0_2.index t = ![1 - t.val % 2, 40 + t.val / 2] ∧ win0_3.index t = ![1 - t.val % 2, t.val / 2]
    ∧ win0_4.index t = ![1 - t.val % 2, t.val / 2] ∧ win0_5.index t = ![1 - t.val % 2, t.val / 2]
    ∧ win0_6.index t = ![t.val / 2, 1 - t.val % 2, 0] ∧ win0_7.index t = ![t.val / 2, 0, 1 - t.val % 2]
    ∧ win0_8.index t = ![0, t.val / 2] ∧ win0_9.index t = ![1 - t.val % 2, t.val / 2, 0, 0]
    ∧ win0_10.index t = ![1 - t.val % 2, t.val / 2] ∧ win0_11.index t = ![0, 0] := (by decide +kernel : ∀ t : Fin grid0.N, _)
/-- At every grid point, which block of its array each result window holds. -/
theorem index_out : ∀ t : Fin cfg0.N, win0_12.index t = ![1 - t.val % 2, t.val / 2] ∧ win0_13.index t = ![1 - t.val % 2, t.val / 2]
    ∧ win0_14.index t = ![1 - t.val % 2, t.val / 2] ∧ win0_15.index t = ![t.val / 2, 1 - t.val % 2, 0]
    ∧ win0_16.index t = ![t.val / 2, 1 - t.val % 2, 0] ∧ win0_17.index t = ![t.val / 2, 0, 0] := (by decide +kernel : ∀ t : Fin grid0.N, _)

variable (m : (ℓ : Loc nD τ sig) → Buf (Elt Ideal) ℓ) (c : Dev nD) (t : Fin cfg0.N)

/-- There are sixteen grid points. -/
theorem point_lt : t.val < 16 := t.isLt
/-- A group has the number of half of its points. -/
theorem group_lt : t.val / 2 < 8 := by have := point_lt t; omega

/-- Where window 0 reads its array. -/
theorem in_0 (l : Fin 1024) (q : Fin 512) : iblk m c 0 t (ix2 l q) =
    V m c main_arg0 (ix2 ⟨1024 * (1 - t.val % 2) + l.val, by omega⟩ ⟨512 * (t.val / 2) + q.val, by have := point_lt t; omega⟩) := by
  obtain ⟨e0, e1, e2, e3, e4, e5, e6, e7, e8, e9, e10, e11⟩ := index_in t
  blk_ext [iblk, e0]

/-- Where window 1 reads its array. -/
theorem in_1 (l : Fin 1024) (q : Fin 128) : iblk m c 1 t (ix2 l q) =
    V m c main_arg0 (ix2 ⟨1024 * (1 - t.val % 2) + l.val, by omega⟩ ⟨128 * (32 + t.val / 2) + q.val, by have := point_lt t; omega⟩) := by
  obtain ⟨e0, e1, e2, e3, e4, e5, e6, e7, e8, e9, e10, e11⟩ := index_in t
  blk_ext [iblk, e1]

/-- Where window 2 reads its array. -/
theorem in_2 (l : Fin 1024) (q : Fin 128) : iblk m c 2 t (ix2 l q) =
    V m c main_arg0 (ix2 ⟨1024 * (1 - t.val % 2) + l.val, by omega⟩ ⟨128 * (40 + t.val / 2) + q.val, by have := point_lt t; omega⟩) := by
  obtain ⟨e0, e1, e2, e3, e4, e5, e6, e7, e8, e9, e10, e11⟩ := index_in t
  blk_ext [iblk, e2]

/-- Where window 3 reads its array. -/
theorem in_3 (l : Fin 1024) (q : Fin 512) : iblk m c 3 t (ix2 l q) =
    V m c main_v175 (ix2 ⟨1024 * (1 - t.val % 2) + l.val, by omega⟩ ⟨512 * (t.val / 2) + q.val, by have := point_lt t; omega⟩) := by
  obtain ⟨e0, e1, e2, e3, e4, e5, e6, e7, e8, e9, e10, e11⟩ := index_in t
  blk_ext [iblk, e3]

/-- Where window 4 reads its array. -/
theorem in_4 (l : Fin 1024) (q : Fin 512) : iblk m c 4 t (ix2 l q) =
    V m c main_v177 (ix2 ⟨1024 * (1 - t.val % 2) + l.val, by omega⟩ ⟨512 * (t.val / 2) + q.val, by have := point_lt t; omega⟩) := by
  obtain ⟨e0, e1, e2, e3, e4, e5, e6, e7, e8, e9, e10, e11⟩ := index_in t
  blk_ext [iblk, e4]

/-- Where window 5 reads its array. -/
theorem in_5 (l : Fin 1024) (q : Fin 512) : iblk m c 5 t (ix2 l q) =
    V m c main_v179 (ix2 ⟨1024 * (1 - t.val % 2) + l.val, by omega⟩ ⟨512 * (t.val / 2) + q.val, by have := point_lt t; omega⟩) := by
  obtain ⟨e0, e1, e2, e3, e4, e5, e6, e7, e8, e9, e10, e11⟩ := index_in t
  blk_ext [iblk, e5]

/-- Where window 10 reads its array. -/
theorem in_10 (l : Fin 1024) (q : Fin 512) : iblk m c 10 t (ix2 l q) =
    V m c main_arg4 (ix2 ⟨1024 * (1 - t.val % 2) + l.val, by omega⟩ ⟨512 * (t.val / 2) + q.val, by have := point_lt t; omega⟩) := by
  obtain ⟨e0, e1, e2, e3, e4, e5, e6, e7, e8, e9, e10, e11⟩ := index_in t
  blk_ext [iblk, e10]

/-- Where window 6 reads its array. -/
theorem in_6 (l : Fin 1024) (h : Fin 8) : iblk m c 6 t (ix3 0 l h) =
    V m c main_v183 (ix3 ⟨t.val / 2, group_lt t⟩ ⟨1024 * (1 - t.val % 2) + l.val, by omega⟩ h) := by
  obtain ⟨e0, e1, e2, e3, e4, e5, e6, e7, e8, e9, e10, e11⟩ := index_in t
  blk_ext [iblk, e6]

/-- Where window 7 reads its array. -/
theorem in_7 (h : Fin 8) (l : Fin 1024) : iblk m c 7 t (ix3 0 h l) =
    V m c main_v185 (ix3 ⟨t.val / 2, group_lt t⟩ h ⟨1024 * (1 - t.val % 2) + l.val, by omega⟩) := by
  obtain ⟨e0, e1, e2, e3, e4, e5, e6, e7, e8, e9, e10, e11⟩ := index_in t
  blk_ext [iblk, e7]

/-- Where window 8 reads its array. -/
theorem in_8 (q : Fin 512) : iblk m c 8 t (ix2 0 q) = V m c main_v181 (ix2 0 ⟨512 * (t.val / 2) + q.val, by have := point_lt t; omega⟩) := by
  obtain ⟨e0, e1, e2, e3, e4, e5, e6, e7, e8, e9, e10, e11⟩ := index_in t
  blk_ext [iblk, e8]

/-- Where window 9 reads its array. -/
theorem in_9 (l : Fin 8) (n : Fin 128) (q : Fin 512) : iblk m c 9 t (ix4 l 0 n q) =
    V m c main_v167 (ix4 ⟨8 * (1 - t.val % 2) + l.val, by omega⟩ ⟨t.val / 2, group_lt t⟩ n q) := by
  obtain ⟨e0, e1, e2, e3, e4, e5, e6, e7, e8, e9, e10, e11⟩ := index_in t
  blk_ext [iblk, e9]

/-- Where window 11 reads its array. -/
theorem in_11 (q : Fin 512) (j : Fin 128) : iblk m c 11 t (ix2 q j) = V m c main_v190 (ix2 q j) := by
  obtain ⟨e0, e1, e2, e3, e4, e5, e6, e7, e8, e9, e10, e11⟩ := index_in t
  blk_ext [iblk, e11]

end Cert.KernelIdeal.Scan
end
end
-- ==== Proof.ScanStates.lean ====
module
public import proofs.«01_k».proof.Proof.ScanEntry
@[expose] public section
set_option maxRecDepth 16384
noncomputable section

/-! What the launch finds in the buffers that the host fills: the states before the chunks. -/
namespace Cert.KernelIdeal.Scan
open Idealize.ShloMosaic Idealize.ShloMosaic.TcCoe Idealize.SL.Sem
open Cert.KernelIdeal Cert.KernelIdeal.Gen
variable {m : (ℓ : Loc nD τ sig) → Buf (Elt Ideal) ℓ} {c : Dev nD} {P : _root_.Scan.Args} (H : Entry m c P)
include H

set_option maxHeartbeats 0 in
/-- The state before each chunk. -/
theorem befores_real (k : Fin 16) (g h : Fin 8) (p : Fin 64) (n : Fin 128) :
    befores m c k (ix5 0 g h p n) = ((P.state g k n (h * 64 + p) : ℝ) : EReal) := by
  have w : (h.val * 64 + p.val) / 64 = h.val := by omega
  have e0 : ∀ i j, m (c, Proc.tc.devRef main_arg0) (ix2 i j) = ((P.xbc i j : ℝ) : EReal) := H.xbc
  have e1 : ∀ i j, m (c, Proc.tc.devRef main_arg1) (ix2 i j) = ((P.dt i j : ℝ) : EReal) := H.dt
  have e2 : ∀ i j, m (c, Proc.tc.devRef main_arg2) (ix2 i j) = ((P.a i j : ℝ) : EReal) := H.a
  revert k
  simp only [Fin.forall_fin_succ, IsEmpty.forall_iff, and_true, befores, Matrix.cons_val_zero, Matrix.cons_val_succ, Fin.val_succ, Fin.val_zero, Nat.reduceAdd]
  and_intros
  all_goals
    unfold V
    after_reads_at
    simp only [e0, e1, e2, exp_coe, ← EReal.coe_sub, ← EReal.coe_mul, ← EReal.coe_zero, coe_sum, ← EReal.coe_add, Nat.add_assoc]
    simp only [_root_.Scan.Args.state, _root_.Scan.Chunk.next, _root_.Scan.Chunk.ein, _root_.Scan.Chunk.eout, _root_.Scan.Chunk.xf, _root_.Scan.Chunk.xdt, _root_.Scan.Args.rows, w, Nat.reduceMul, Nat.reduceAdd, Nat.zero_add]
    try rfl

end Cert.KernelIdeal.Scan
end
end
-- ==== Proof.ScanEntryReal.lean ====
module
public import proofs.«01_k».proof.Proof.ScanStates
@[expose] public section
set_option maxRecDepth 16384
noncomputable section

/-! What the launch finds in the buffers that the host fills, element by element. -/
namespace Cert.KernelIdeal.Scan
open Idealize.ShloMosaic Idealize.ShloMosaic.TcCoe Idealize.SL.Sem
open Cert.KernelIdeal Cert.KernelIdeal.Gen
variable {m : (ℓ : Loc nD τ sig) → Buf (Elt Ideal) ℓ} {c : Dev nD} {P : _root_.Scan.Args} (H : Entry m c P)
include H

/-- The step sizes, lane by lane. -/
theorem dt_real (i : Fin 2048) (q : Fin 4096) : V m c main_v175 (ix2 i q) = ((P.dt i (q.val / 64) : ℝ) : EReal) := by
  have e : ∀ i j, m (c, Proc.tc.devRef main_arg1) (ix2 i j) = ((P.dt i j : ℝ) : EReal) := H.dt
  unfold V
  after_reads_at
  rw [e]
/-- The decays from the chunks' starts, lane by lane. -/
theorem ein_real (i : Fin 2048) (q : Fin 4096) : V m c main_v177 (ix2 i q) = ((Real.exp (P.a i (q.val / 64)) : ℝ) : EReal) := by
  have e : ∀ i j, m (c, Proc.tc.devRef main_arg2) (ix2 i j) = ((P.a i j : ℝ) : EReal) := H.a
  unfold V
  after_reads_at
  rw [e, exp_coe]
/-- The decays to the chunks' ends, lane by lane. -/
theorem eout_real (i : Fin 2048) (q : Fin 4096) :
    V m c main_v179 (ix2 i q) = ((Real.exp (P.a (i.val / 128 * 128 + 127) (q.val / 64) - P.a i (q.val / 64)) : ℝ) : EReal) := by
  have e : ∀ i j, m (c, Proc.tc.devRef main_arg2) (ix2 i j) = ((P.a i j : ℝ) : EReal) := H.a
  unfold V
  after_reads_at
  simp only [e, ← EReal.coe_sub, exp_coe, Nat.div_add_mod']
/-- The skip weights, lane by lane. -/
theorem d_real (q : Fin 4096) : V m c main_v181 (ix2 0 q) = ((P.k (q.val / 64) : ℝ) : EReal) := by
  have e : ∀ j, m (c, Proc.tc.devRef main_arg3) (ix2 0 j) = ((P.k j : ℝ) : EReal) := H.k
  unfold V
  after_reads_at
  rw [e]
/-- The logarithms of the decays by group, rows first. -/
theorem ac_real (g h : Fin 8) (i : Fin 2048) : V m c main_v183 (ix3 g i h) = ((P.a i (g * 8 + h) : ℝ) : EReal) := by
  have e : ∀ i j, m (c, Proc.tc.devRef main_arg2) (ix2 i j) = ((P.a i j : ℝ) : EReal) := H.a
  unfold V
  after_reads_at
  rw [e]
/-- The logarithms of the decays by group, heads first. -/
theorem ar_real (g h : Fin 8) (i : Fin 2048) : V m c main_v185 (ix3 g h i) = ((P.a i (g * 8 + h) : ℝ) : EReal) := by
  have e : ∀ i j, m (c, Proc.tc.devRef main_arg2) (ix2 i j) = ((P.a i j : ℝ) : EReal) := H.a
  unfold V
  after_reads_at
  rw [e]
omit H in
/-- The word of a lane's head. -/
theorem head_word : ∀ q : Fin 512,
    Scalar.select
      (IntOp.andi
        (IntOp.cmpi CmpIPredicate.ne
          (if BitVec.ofNat 32 q.val = 0 then 0 else if (BitVec.ofNat 32 q.val).msb = true then -1 else 1) (1 : BitVec 32))
        (IntOp.cmpi CmpIPredicate.ne (IntOp.remsi ArithUnit.host (BitVec.ofNat 32 q.val) 64#32) 0#32))
      (IntOp.subi (IntOp.divsi ArithUnit.host (BitVec.ofNat 32 q.val) 64#32) 1#32)
      (IntOp.divsi ArithUnit.host (BitVec.ofNat 32 q.val) 64#32) = BitVec.ofNat 32 (q.val / 64) := by
  decide +kernel

omit H in
/-- The heads' lanes. -/
theorem seg_real (q : Fin 512) (j : Fin 128) : V m c main_v190 (ix2 q j) = (((if q.val / 64 = j.val then 1 else 0 : ℝ)) : EReal) := by
  unfold V
  after_reads_at
  refine (congrArg (fun w => FloatOps.uitofp FTy.bf16 (IntOp.cmpi CmpIPredicate.eq w (BitVec.ofNat 32 j.val))) (head_word q)).trans ?_
  by_cases h : q.val / 64 = j.val
  · rw [if_pos h, h]
    have e : IntOp.cmpi CmpIPredicate.eq (BitVec.ofNat 32 j.val) (BitVec.ofNat 32 j.val) = 1#1 := by simp [IntOp.cmpi]
    rw [e]
    simp [FloatOps.uitofp]
  · rw [if_neg h]
    have n : BitVec.ofNat 32 (q.val / 64) ≠ BitVec.ofNat 32 j.val := fun w => h (by
      have w' := congrArg BitVec.toNat w
      simp only [BitVec.toNat_ofNat] at w'
      omega)
    have e : IntOp.cmpi CmpIPredicate.eq (BitVec.ofNat 32 (q.val / 64)) (BitVec.ofNat 32 j.val) = 0#1 :=
      congrArg BitVec.ofBool (beq_false_of_ne n)
    rw [e]
    simp [FloatOps.uitofp]

/-- The states before the chunks. -/
theorem prev_real (k : Fin 16) (g : Fin 8) (n : Fin 128) (q : Fin 512) :
    V m c main_v167 (ix4 k g n q) = ((P.state g k n q : ℝ) : EReal) := by
  rw [staged, stacked]
  pointwise
  rw [befores_real H]
  simp only [Nat.div_add_mod']
end Cert.KernelIdeal.Scan
end
end
-- ==== Proof.ScanHolds.lean ====
module

public import proofs.«01_k».proof.Proof.ScanWindows
public import proofs.«01_k».proof.Proof.ScanEntryReal

@[expose] public section
set_option maxRecDepth 16384
noncomputable section

/-! The rows that a point of the grid reads hold the numbers of the chunks it works on. -/
namespace Cert.KernelIdeal.Scan
open Idealize.ShloMosaic Idealize.ShloMosaic.TcCoe Idealize.SL.Sem
open Cert.KernelIdeal Cert.KernelIdeal.Gen
variable {m : (ℓ : Loc nD τ sig) → Buf (Elt Ideal) ℓ} {c : Dev nD} {P : _root_.Scan.Args} (H : Entry m c P) (t : Fin cfg0.N)

/-- The chunk that sub-chunk `s` of a point works on. -/
abbrev part (P : _root_.Scan.Args) (t : Fin cfg0.N) (s : Fin 8) : _root_.Scan.Chunk := P.chunk (t.val / 2) (8 * (1 - t.val % 2) + s.val)

include H
/-- The inputs. -/
theorem holds_xs (s : Fin 8) (l : Fin 128) (q : Fin 512) : (tile m c t s).xs (ix2 l q) = (((part P t s).x l q : ℝ) : EReal) := by
  refine (View.ld_unit_apply_of _ _ _ _ _ (ix2 ⟨128 * s.val + l.val, by omega⟩ q)
    (by intro a; fin_cases a <;> simp)).trans ((in_0 m c t _ _).trans ?_)
  refine (congrFun (V_main_arg0 m c) _).trans ((H.xbc _ _).trans ?_)
  exact congrArg₂ (fun i j : ℕ => ((P.xbc i j : ℝ) : EReal)) (by dsimp only; omega) (by dsimp only; omega)
/-- The input weights. -/
theorem holds_bm (s : Fin 8) (l q : Fin 128) : (tile m c t s).bm (ix2 l q) = (((part P t s).b l q : ℝ) : EReal) := by
  refine (View.ld_unit_apply_of _ _ _ _ _ (ix2 ⟨128 * s.val + l.val, by omega⟩ q)
    (by intro a; fin_cases a <;> simp)).trans ((in_1 m c t _ _).trans ?_)
  refine (congrFun (V_main_arg0 m c) _).trans ((H.xbc _ _).trans ?_)
  exact congrArg₂ (fun i j : ℕ => ((P.xbc i j : ℝ) : EReal)) (by dsimp only; omega) (by dsimp only; omega)
/-- The output weights. -/
theorem holds_cm (s : Fin 8) (l q : Fin 128) : (tile m c t s).cm (ix2 l q) = (((part P t s).c l q : ℝ) : EReal) := by
  refine (View.ld_unit_apply_of _ _ _ _ _ (ix2 ⟨128 * s.val + l.val, by omega⟩ q)
    (by intro a; fin_cases a <;> simp)).trans ((in_2 m c t _ _).trans ?_)
  refine (congrFun (V_main_arg0 m c) _).trans ((H.xbc _ _).trans ?_)
  exact congrArg₂ (fun i j : ℕ => ((P.xbc i j : ℝ) : EReal)) (by dsimp only; omega) (by dsimp only; omega)
/-- The step sizes. -/
theorem holds_dt (s : Fin 8) (l : Fin 128) (q : Fin 512) : (tile m c t s).dt (ix2 l q) = (((part P t s).dt l (q / 64) : ℝ) : EReal) := by
  refine (View.ld_unit_apply_of _ _ _ _ _ (ix2 ⟨128 * s.val + l.val, by omega⟩ q)
    (by intro a; fin_cases a <;> simp)).trans ((in_3 m c t _ _).trans ?_)
  refine (dt_real H _ _).trans ?_
  exact congrArg₂ (fun i j : ℕ => ((P.dt i j : ℝ) : EReal)) (by dsimp only; omega) (by dsimp only; omega)
/-- The decays from the chunk's start. -/
theorem holds_ein (s : Fin 8) (l : Fin 128) (q : Fin 512) : (tile m c t s).ein (ix2 l q) = (((part P t s).ein l (q / 64) : ℝ) : EReal) := by
  refine (View.ld_unit_apply_of _ _ _ _ _ (ix2 ⟨128 * s.val + l.val, by omega⟩ q)
    (by intro a; fin_cases a <;> simp)).trans ((in_4 m c t _ _).trans ?_)
  refine (ein_real H _ _).trans ?_
  exact congrArg₂ (fun i j : ℕ => ((Real.exp (P.a i j) : ℝ) : EReal)) (by dsimp only; omega) (by dsimp only; omega)
/-- The decays to the chunk's end. -/
theorem holds_eout (s : Fin 8) (l : Fin 128) (q : Fin 512) : (tile m c t s).eout (ix2 l q) = (((part P t s).eout l (q / 64) : ℝ) : EReal) := by
  refine (View.ld_unit_apply_of _ _ _ _ _ (ix2 ⟨128 * s.val + l.val, by omega⟩ q)
    (by intro a; fin_cases a <;> simp)).trans ((in_5 m c t _ _).trans ?_)
  refine (eout_real H _ _).trans ?_
  have e : (512 * (t.val / 2) + q.val) / 64 = t.val / 2 * 8 + q.val / 64 := by omega
  have e1 : (1024 * (1 - t.val % 2) + (128 * s.val + l.val)) / 128 * 128 + 127 = (8 * (1 - t.val % 2) + s.val) * 128 + 127 := by omega
  have e2 : 1024 * (1 - t.val % 2) + (128 * s.val + l.val) = (8 * (1 - t.val % 2) + s.val) * 128 + l.val := by omega
  dsimp only
  rw [e, e1, e2]
  rfl
/-- The logarithms, rows first. -/
theorem holds_ac (s : Fin 8) (l : Fin 128) (h : Fin 8) : (tile m c t s).ac (ix3 0 l h) = (((part P t s).a l h : ℝ) : EReal) := by
  refine (View.ld_unit_apply_of _ _ _ _ _ (ix3 0 ⟨128 * s.val + l.val, by omega⟩ h)
    (by intro a; fin_cases a <;> simp)).trans ((in_6 m c t _ _).trans ((ac_real H _ _ _).trans ?_))
  exact congrArg₂ (fun i j : ℕ => ((P.a i j : ℝ) : EReal)) (by dsimp only; omega) (by dsimp only)
/-- The logarithms, heads first. -/
theorem holds_ar (s : Fin 8) (h : Fin 8) (l : Fin 128) : (tile m c t s).ar (ix3 0 h l) = (((part P t s).a l h : ℝ) : EReal) := by
  refine (View.ld_unit_apply_of _ _ _ _ _ (ix3 0 h ⟨128 * s.val + l.val, by omega⟩)
    (by intro a; fin_cases a <;> simp)).trans ((in_7 m c t _ _).trans ((ar_real H _ _ _).trans ?_))
  exact congrArg₂ (fun i j : ℕ => ((P.a i j : ℝ) : EReal)) (by dsimp only; omega) (by dsimp only)
/-- The skip weights. -/
theorem holds_d (s : Fin 8) (q : Fin 512) : (tile m c t s).d (ix2 0 q) = (((part P t s).k (q / 64) : ℝ) : EReal) := by
  refine (in_8 m c t _).trans ((d_real H _).trans ?_)
  exact congrArg (fun i : ℕ => ((P.k i : ℝ) : EReal)) (by dsimp only; omega)
/-- The state before the chunk. -/
theorem holds_prev (s : Fin 8) (n : Fin 128) (q : Fin 512) : (tile m c t s).prev (ix4 0 0 n q) = (((part P t s).st n q : ℝ) : EReal) := by
  refine (View.ld_unit_apply_of _ _ _ _ _ (ix4 ⟨s.val, s.isLt⟩ 0 n q)
    (by intro a; fin_cases a <;> simp)).trans ((in_9 m c t _ _ _).trans (prev_real H _ _ _ _))
/-- The outputs' gradient. -/
theorem holds_dy (s : Fin 8) (l : Fin 128) (q : Fin 512) : (tile m c t s).dy (ix2 l q) = (((part P t s).y l q : ℝ) : EReal) := by
  refine (View.ld_unit_apply_of _ _ _ _ _ (ix2 ⟨128 * s.val + l.val, by omega⟩ q)
    (by intro a; fin_cases a <;> simp)).trans ((in_10 m c t _ _).trans ?_)
  refine (congrFun (V_main_arg4 m c) _).trans ((H.dy _ _).trans ?_)
  exact congrArg₂ (fun i j : ℕ => ((P.dy i j : ℝ) : EReal)) (by dsimp only; omega) (by dsimp only; omega)
/-- The rows of sub-chunk `s` of a point hold the numbers of its chunk. -/
theorem holds (s : Fin 8) : Holds (tile m c t s) (part P t s) where
  xs := holds_xs H t s
  bm := holds_bm H t s
  cm := holds_cm H t s
  dt := holds_dt H t s
  ein := holds_ein H t s
  eout := holds_eout H t s
  ac := holds_ac H t s
  ar := holds_ar H t s
  d := holds_d H t s
  prev := holds_prev H t s
  dy := holds_dy H t s
  seg := fun q j => (in_11 m c t _ _).trans (seg_real _ _)

end Cert.KernelIdeal.Scan

end
end
-- ==== Proof.ScanPoints.lean ====
module

public import proofs.«01_k».proof.Proof.ScanHolds

@[expose] public section
set_option maxRecDepth 16384
noncomputable section

/-! What the kernel leaves at the points of its grid, of arguments that hold real numbers. -/
namespace Cert.KernelIdeal.Scan
open Idealize.ShloMosaic Idealize.ShloMosaic.TcCoe Idealize.SL.Sem
open Cert.KernelIdeal Cert.KernelIdeal.Gen
open Idealize.ShloMosaic.Pipeline (Dat)
variable {m : (ℓ : Loc nD τ sig) → Buf (Elt Ideal) ℓ} {c : Dev nD} {P : _root_.Scan.Args} (H : Entry m c P) (t : Fin cfg0.N)

/-- The number of chunks of a group that the points before `t` have worked on. -/
abbrev done (t : Fin cfg0.N) : ℕ := 8 * (t.val % 2)

include H

/-- The state gradient that is carried from sub-chunk to sub-chunk. -/
theorem dhs_real {d0 : Vec Ideal S128x512 .f32}
    (E : ∀ (n : Fin 128) (q : Fin 512), d0 (ix2 n q) = ((P.grad (t.val / 2) (done t) n q : ℝ) : EReal)) (k : ℕ) (hk : k ≤ 8) :
    ∀ (n : Fin 128) (q : Fin 512), dhs m c t d0 k (ix2 n q) = ((P.grad (t.val / 2) (done t + k) n q : ℝ) : EReal) := by
  induction k with
  | zero => exact E
  | succ k ih =>
    intro n q
    refine (dhN_real (holds H t ⟨(7 - k) % 8, by omega⟩) (ih (by omega)) n q).trans ?_
    unfold part
    rw [show 8 * (1 - t.val % 2) + (7 - k) % 8 = 15 - (done t + k) by unfold done; omega]
    rfl

/-- The skip weights' gradient that is carried from sub-chunk to sub-chunk. -/
theorem dds_real {a0 : Vec Ideal S1x1x8 .f32}
    (E : ∀ h : Fin 8, a0 (ix3 0 0 h) = ((P.skip (t.val / 2) (done t) h : ℝ) : EReal)) (k : ℕ) (hk : k ≤ 8) :
    ∀ h : Fin 8, dds m c t a0 k (ix3 0 0 h) = ((P.skip (t.val / 2) (done t + k) h : ℝ) : EReal) := by
  induction k with
  | zero => exact E
  | succ k ih =>
    intro h
    refine (ddO_real (holds H t ⟨(7 - k) % 8, by omega⟩) (ih (by omega)) h).trans ?_
    unfold part
    rw [show 8 * (1 - t.val % 2) + (7 - k) % 8 = 15 - (done t + k) by unfold done; omega]
    rfl

/-- What a point leaves in its buffers: the blocks of its eight sub-chunks, from the carried gradients of the points before. -/
theorem left : ∃ (d0 : Vec Ideal S128x512 .f32) (a0 : Vec Ideal S1x1x8 .f32),
    (∀ (n : Fin 128) (q : Fin 512), d0 (ix2 n q) = ((P.grad (t.val / 2) (done t) n q : ℝ) : EReal))
    ∧ (∀ h : Fin 8, a0 (ix3 0 0 h) = ((P.skip (t.val / 2) (done t) h : ℝ) : EReal))
    ∧ (outsAt0 m c t.val t.isLt).1 = View.canon (blkDx m c t d0)
    ∧ (outsAt0 m c t.val t.isLt).2.1 = View.canon (blkDb m c t d0)
    ∧ (outsAt0 m c t.val t.isLt).2.2.1 = View.canon (blkDc m c t)
    ∧ (outsAt0 m c t.val t.isLt).2.2.2.1 = View.canon (blkDt m c t d0)
    ∧ (outsAt0 m c t.val t.isLt).2.2.2.2.1 = View.canon (blkDa m c t d0)
    ∧ (outsAt0 m c t.val t.isLt).2.2.2.2.2.1 = dds m c t a0 8 := by
  by_cases h0 : t.val % 2 = 0
  · refine ⟨noState, noSum, fun n q => ?_, fun h => ?_, leftDx_A m c t h0, leftDb_A m c t h0, leftDc_A m c t h0,
      leftDt_A m c t h0, leftDa_A m c t h0, leftDd_A m c t h0⟩
    · unfold done
      rw [h0]
      unfold noState
      pointwise [k0_pay2]
      rfl
    · unfold done
      rw [h0]
      unfold noSum
      pointwise [k0_pay3]
      rfl
  · have hb : t.val - 1 < cfg0.N := Nat.lt_of_le_of_lt (Nat.sub_le _ _) t.isLt
    have hp : (⟨t.val - 1, hb⟩ : Fin cfg0.N).val % 2 = 0 := by dsimp only; omega
    have hd : done (⟨t.val - 1, hb⟩ : Fin cfg0.N) = 0 := by unfold done; omega
    have hg : (t.val - 1) / 2 = t.val / 2 := by omega
    refine ⟨_, _, fun n q => ?_, fun h => ?_, leftDx_B m c t h0, leftDb_B m c t h0, leftDc_B m c t h0,
      leftDt_B m c t h0, leftDa_B m c t h0, leftDd_B m c t h0⟩
    · rw [leftState_A m c ⟨t.val - 1, hb⟩ hp, dhs_real H ⟨t.val - 1, hb⟩ (d0 := noState) (fun n q => ?_) 8 le_rfl, hd]
      · dsimp only
        rw [hg]
        unfold done
        rw [show t.val % 2 = 1 by omega]
      · rw [hd]
        unfold noState
        pointwise [k0_pay2]
        rfl
    · rw [leftDd_A m c ⟨t.val - 1, hb⟩ hp, dds_real H ⟨t.val - 1, hb⟩ (a0 := noSum) (fun h => ?_) 8 le_rfl, hd]
      · dsimp only
        rw [hg]
        unfold done
        rw [show t.val % 2 = 1 by omega]
      · rw [hd]
        unfold noSum
        pointwise [k0_pay3]
        rfl

end Cert.KernelIdeal.Scan

end
end
-- ==== Proof.ScanFinal.lean ====
module

public import proofs.«01_k».proof.Proof.ScanPoints

@[expose] public section
set_option maxRecDepth 16384
noncomputable section

/-! The kernel's six result arrays, of arguments that hold real numbers. -/
namespace Cert.KernelIdeal.Scan
open Idealize.ShloMosaic Idealize.ShloMosaic.TcCoe Idealize.SL.Sem
open Cert.KernelIdeal Cert.KernelIdeal.Gen
open Idealize.ShloMosaic.Pipeline (Dat)

variable (P : _root_.Scan.Args)

/-- The input's gradient as an array. -/
def dxArr : FVec Ideal S2048x4096 .f32 := fun i =>
  (((P.chunk ((i 1).val / 512) ((i 0).val / 128)).dx (P.grad ((i 1).val / 512) (15 - (i 0).val / 128)) ((i 0).val % 128) ((i 1).val % 512) : ℝ) : EReal)
/-- The input weights' gradient as an array. -/
def dbArr : FVec Ideal S2048x1024 .f32 := fun i =>
  (((P.chunk ((i 1).val / 128) ((i 0).val / 128)).db (P.grad ((i 1).val / 128) (15 - (i 0).val / 128)) ((i 0).val % 128) ((i 1).val % 128) : ℝ) : EReal)
/-- The output weights' gradient as an array. -/
def dcArr : FVec Ideal S2048x1024 .f32 := fun i =>
  (((P.chunk ((i 1).val / 128) ((i 0).val / 128)).dc ((i 0).val % 128) ((i 1).val % 128) : ℝ) : EReal)
/-- The step sizes' gradient as an array. -/
def dtArr : FVec Ideal S8x2048x8 .f32 := fun i =>
  (((P.chunk (i 0).val ((i 1).val / 128)).ddt (P.grad (i 0).val (15 - (i 1).val / 128)) ((i 1).val % 128) (i 2).val : ℝ) : EReal)
/-- The decays' gradient as an array. -/
def daArr : FVec Ideal S8x2048x8 .f32 := fun i =>
  (((P.chunk (i 0).val ((i 1).val / 128)).da (P.grad (i 0).val (15 - (i 1).val / 128)) ((i 1).val % 128) (i 2).val : ℝ) : EReal)
/-- The skip weights' gradient as an array. -/
def dkArr : FVec Ideal S8x1x8 .f32 := fun i => (((P.skip (i 0).val 16 (i 2).val) : ℝ) : EReal)

/-- The chunk, the chunks after it, and the place in the chunk of a row. -/
theorem row_of (t : Fin cfg0.N) (s : Fin 8) (l : Fin 128) (r : ℕ) (h : r = (1 - t.val % 2) * 1024 + (128 * s.val + l.val)) :
    r / 128 = 8 * (1 - t.val % 2) + s.val ∧ 15 - (8 * (1 - t.val % 2) + s.val) = done t + (7 - s.val) ∧ r % 128 = l.val := by
  unfold done
  omega

variable {m : (ℓ : Loc nD τ sig) → Buf (Elt Ideal) ℓ} {c : Dev nD} {P : _root_.Scan.Args} (H : Entry m c P)
variable (t : Fin cfg0.N) (s : Fin 8)
include H

/-- The input's gradient that a sub-chunk gives. -/
theorem dx_piece {d0 : Vec Ideal S128x512 .f32}
    (E : ∀ (n : Fin 128) (q : Fin 512), d0 (ix2 n q) = ((P.grad (t.val / 2) (done t) n q : ℝ) : EReal)) (l : Fin 128) (q : Fin 512)
    (i : S2048x4096.Idx) (h0 : (i 0).val = (1 - t.val % 2) * 1024 + (128 * s.val + l.val)) (h1 : (i 1).val = t.val / 2 * 512 + q.val) :
    dxO (tile m c t s) (dhs m c t d0 (7 - s.val)) (ix2 l q) = dxArr P i := by
  obtain ⟨e0, e1, e2⟩ := row_of t s l _ h0
  rw [dxO_real (holds H t s) (dhs_real H t E (7 - s.val) (by omega))]
  unfold dxArr
  rw [e0, e1, e2, show (i 1).val / 512 = t.val / 2 by omega, show (i 1).val % 512 = q.val by omega]

/-- The input's gradient when the call has ended. -/
theorem final_dx : (dats m 0 c).arrAt 12 cfg0.N = dxArr P := by
  refine (dats m 0 c).arrAt_eq_of_covers 12 _ (by decide +kernel) fun t hf y => ?_
  obtain ⟨d0, a0, E, -, ex, eb, ec, -⟩ := left H t
  obtain ⟨i0, i1, i2, -⟩ := index_out t
  blk_simp
  rw [after0_12, ex]
  have r0 : ((win0_12.blk t).view.emb y 0).val = (1 - t.val % 2) * 1024 + (y 0).val := by blk_simp [i0]
  have r1 : ((win0_12.blk t).view.emb y 1).val = t.val / 2 * 512 + (y 1).val := by blk_simp [i0]
  have b0 : (y 0).val < 1024 := (y 0).isLt
  have b1 : (y 1).val < 512 := (y 1).isLt
  refine View.canon_ofFn_unit_eq_of_forall _ _ _ _ y _ ⟨⟨(y 0).val / 128, by omega⟩, fun a => ?_⟩ fun s x hx => ?_
  · fin_cases a <;> simp <;> omega
  have x0 : (y 0).val = 128 * s.val + (x 0).val := hx 0
  have x1 : (y 1).val = 0 + (x 1).val := hx 1
  exact (congrArg (dxO (tile m c t s) (dhs m c t d0 (7 - s.val))) (show x = @ix2 128 512 (x 0) (x 1) by funext a; fin_cases a <;> rfl)).trans
    (dx_piece H t s E (x 0) (x 1) _ (r0.trans (by omega)) (r1.trans (by omega)))

/-- The input weights' gradient that a sub-chunk gives. -/
theorem db_piece {d0 : Vec Ideal S128x512 .f32}
    (E : ∀ (n : Fin 128) (q : Fin 512), d0 (ix2 n q) = ((P.grad (t.val / 2) (done t) n q : ℝ) : EReal)) (l : Fin 128) (q : Fin 128)
    (i : S2048x1024.Idx) (h0 : (i 0).val = (1 - t.val % 2) * 1024 + (128 * s.val + l.val)) (h1 : (i 1).val = t.val / 2 * 128 + q.val) :
    dbmO (tile m c t s) (dhs m c t d0 (7 - s.val)) (ix2 l q) = dbArr P i := by
  obtain ⟨e0, e1, e2⟩ := row_of t s l _ h0
  rw [dbmO_real (holds H t s) (dhs_real H t E (7 - s.val) (by omega))]
  unfold dbArr
  rw [e0, e1, e2, show (i 1).val / 128 = t.val / 2 by omega, show (i 1).val % 128 = q.val by omega]

/-- The input weights' gradient when the call has ended. -/
theorem final_db : (dats m 0 c).arrAt 13 cfg0.N = dbArr P := by
  refine (dats m 0 c).arrAt_eq_of_covers 13 _ (by decide +kernel) fun t hf y => ?_
  obtain ⟨d0, a0, E, -, ex, eb, ec, -⟩ := left H t
  obtain ⟨i0, i1, i2, -⟩ := index_out t
  blk_simp
  rw [after0_13, eb]
  have r0 : ((win0_13.blk t).view.emb y 0).val = (1 - t.val % 2) * 1024 + (y 0).val := by blk_simp [i1]
  have r1 : ((win0_13.blk t).view.emb y 1).val = t.val / 2 * 128 + (y 1).val := by blk_simp [i1]
  have b0 : (y 0).val < 1024 := (y 0).isLt
  have b1 : (y 1).val < 128 := (y 1).isLt
  refine View.canon_ofFn_unit_eq_of_forall _ _ _ _ y _ ⟨⟨(y 0).val / 128, by omega⟩, fun a => ?_⟩ fun s x hx => ?_
  · fin_cases a <;> simp <;> omega
  have x0 : (y 0).val = 128 * s.val + (x 0).val := hx 0
  have x1 : (y 1).val = 0 + (x 1).val := hx 1
  exact (congrArg (dbmO (tile m c t s) (dhs m c t d0 (7 - s.val))) (show x = @ix2 128 128 (x 0) (x 1) by funext a; fin_cases a <;> rfl)).trans
    (db_piece H t s E (x 0) (x 1) _ (r0.trans (by omega)) (r1.trans (by omega)))

/-- The output weights' gradient that a sub-chunk gives. -/
theorem dc_piece  (l : Fin 128) (q : Fin 128)
    (i : S2048x1024.Idx) (h0 : (i 0).val = (1 - t.val % 2) * 1024 + (128 * s.val + l.val)) (h1 : (i 1).val = t.val / 2 * 128 + q.val) :
    dcmO (tile m c t s) (ix2 l q) = dcArr P i := by
  obtain ⟨e0, e1, e2⟩ := row_of t s l _ h0
  rw [dcmO_real (holds H t s)]
  unfold dcArr
  rw [e0, e2, show (i 1).val / 128 = t.val / 2 by omega, show (i 1).val % 128 = q.val by omega]

/-- The output weights' gradient when the call has ended. -/
theorem final_dc : (dats m 0 c).arrAt 14 cfg0.N = dcArr P := by
  refine (dats m 0 c).arrAt_eq_of_covers 14 _ (by decide +kernel) fun t hf y => ?_
  obtain ⟨d0, a0, E, -, ex, eb, ec, -⟩ := left H t
  obtain ⟨i0, i1, i2, -⟩ := index_out t
  blk_simp
  rw [after0_14, ec]
  have r0 : ((win0_14.blk t).view.emb y 0).val = (1 - t.val % 2) * 1024 + (y 0).val := by blk_simp [i2]
  have r1 : ((win0_14.blk t).view.emb y 1).val = t.val / 2 * 128 + (y 1).val := by blk_simp [i2]
  have b0 : (y 0).val < 1024 := (y 0).isLt
  have b1 : (y 1).val < 128 := (y 1).isLt
  refine View.canon_ofFn_unit_eq_of_forall _ _ _ _ y _ ⟨⟨(y 0).val / 128, by omega⟩, fun a => ?_⟩ fun s x hx => ?_
  · fin_cases a <;> simp <;> omega
  have x0 : (y 0).val = 128 * s.val + (x 0).val := hx 0
  have x1 : (y 1).val = 0 + (x 1).val := hx 1
  exact (congrArg (dcmO (tile m c t s)) (show x = @ix2 128 128 (x 0) (x 1) by funext a; fin_cases a <;> rfl)).trans
    (dc_piece H t s (x 0) (x 1) _ (r0.trans (by omega)) (r1.trans (by omega)))

/-- The step sizes' gradient that a sub-chunk gives. -/
theorem dt_piece {d0 : Vec Ideal S128x512 .f32}
    (E : ∀ (n : Fin 128) (q : Fin 512), d0 (ix2 n q) = ((P.grad (t.val / 2) (done t) n q : ℝ) : EReal)) (l : Fin 128) (h : Fin 8) (i : S8x2048x8.Idx) (h0 : (i 0).val = t.val / 2)
    (h1 : (i 1).val = (1 - t.val % 2) * 1024 + (128 * s.val + l.val)) (h2 : (i 2).val = h.val) :
    ddtO (tile m c t s) (dhs m c t d0 (7 - s.val)) (ix3 0 l h) = dtArr P i := by
  obtain ⟨e0, e1, e2⟩ := row_of t s l _ h1
  rw [ddtO_real (holds H t s) (dhs_real H t E (7 - s.val) (by omega))]
  unfold dtArr
  rw [e0, e1, e2, h0, h2]

/-- The step sizes' gradient when the call has ended. -/
theorem final_dt : (dats m 0 c).arrAt 15 cfg0.N = dtArr P := by
  refine (dats m 0 c).arrAt_eq_of_covers 15 _ (by decide +kernel) fun t hf y => ?_
  obtain ⟨d0, a0, E, -, -, -, -, et, ea, -⟩ := left H t
  obtain ⟨-, -, -, i0, i1, -⟩ := index_out t
  blk_simp
  rw [after0_15, et]
  have r0 : ((win0_15.blk t).view.emb y 0).val = t.val / 2 * 1 + (y 0).val := by blk_simp [i0]
  have r1 : ((win0_15.blk t).view.emb y 1).val = (1 - t.val % 2) * 1024 + (y 1).val := by blk_simp [i0]
  have r2 : ((win0_15.blk t).view.emb y 2).val = 0 * 8 + (y 2).val := by blk_simp [i0]
  have b0 : (y 0).val < 1 := (y 0).isLt
  have b1 : (y 1).val < 1024 := (y 1).isLt
  have b2 : (y 2).val < 8 := (y 2).isLt
  refine View.canon_ofFn_unit_eq_of_forall _ _ _ _ y _ ⟨⟨(y 1).val / 128, by omega⟩, fun a => ?_⟩ fun s x hx => ?_
  · fin_cases a <;> simp <;> omega
  have x0 : (y 0).val = 0 + (x 0).val := hx 0
  have x1 : (y 1).val = 128 * s.val + (x 1).val := hx 1
  have x2 : (y 2).val = 0 + (x 2).val := hx 2
  have z0 : (x 0).val = 0 := by omega
  exact (congrArg (ddtO (tile m c t s) (dhs m c t d0 (7 - s.val))) (show x = @ix3 1 128 8 0 (x 1) (x 2) by
    funext a; fin_cases a <;> first | rfl | exact Fin.ext z0)).trans
    (dt_piece H t s E (x 1) (x 2) _ (r0.trans (by omega)) (r1.trans (by omega)) (r2.trans (by omega)))

/-- The decays' gradient that a sub-chunk gives. -/
theorem da_piece {d0 : Vec Ideal S128x512 .f32}
    (E : ∀ (n : Fin 128) (q : Fin 512), d0 (ix2 n q) = ((P.grad (t.val / 2) (done t) n q : ℝ) : EReal)) (l : Fin 128) (h : Fin 8) (i : S8x2048x8.Idx) (h0 : (i 0).val = t.val / 2)
    (h1 : (i 1).val = (1 - t.val % 2) * 1024 + (128 * s.val + l.val)) (h2 : (i 2).val = h.val) :
    dacsO (tile m c t s) (dhs m c t d0 (7 - s.val)) (ix3 0 l h) = daArr P i := by
  obtain ⟨e0, e1, e2⟩ := row_of t s l _ h1
  rw [dacsO_real (holds H t s) (dhs_real H t E (7 - s.val) (by omega))]
  unfold daArr
  rw [e0, e1, e2, h0, h2]

/-- The decays' gradient when the call has ended. -/
theorem final_da : (dats m 0 c).arrAt 16 cfg0.N = daArr P := by
  refine (dats m 0 c).arrAt_eq_of_covers 16 _ (by decide +kernel) fun t hf y => ?_
  obtain ⟨d0, a0, E, -, -, -, -, et, ea, -⟩ := left H t
  obtain ⟨-, -, -, i0, i1, -⟩ := index_out t
  blk_simp
  rw [after0_16, ea]
  have r0 : ((win0_16.blk t).view.emb y 0).val = t.val / 2 * 1 + (y 0).val := by blk_simp [i1]
  have r1 : ((win0_16.blk t).view.emb y 1).val = (1 - t.val % 2) * 1024 + (y 1).val := by blk_simp [i1]
  have r2 : ((win0_16.blk t).view.emb y 2).val = 0 * 8 + (y 2).val := by blk_simp [i1]
  have b0 : (y 0).val < 1 := (y 0).isLt
  have b1 : (y 1).val < 1024 := (y 1).isLt
  have b2 : (y 2).val < 8 := (y 2).isLt
  refine View.canon_ofFn_unit_eq_of_forall _ _ _ _ y _ ⟨⟨(y 1).val / 128, by omega⟩, fun a => ?_⟩ fun s x hx => ?_
  · fin_cases a <;> simp <;> omega
  have x0 : (y 0).val = 0 + (x 0).val := hx 0
  have x1 : (y 1).val = 128 * s.val + (x 1).val := hx 1
  have x2 : (y 2).val = 0 + (x 2).val := hx 2
  have z0 : (x 0).val = 0 := by omega
  exact (congrArg (dacsO (tile m c t s) (dhs m c t d0 (7 - s.val))) (show x = @ix3 1 128 8 0 (x 1) (x 2) by
    funext a; fin_cases a <;> first | rfl | exact Fin.ext z0)).trans
    (da_piece H t s E (x 1) (x 2) _ (r0.trans (by omega)) (r1.trans (by omega)) (r2.trans (by omega)))

/-- The skip weights' gradient when the call has ended. -/
theorem final_dk : (dats m 0 c).arrAt 17 cfg0.N = dkArr P := by
  refine (dats m 0 c).arrAt_eq_of_covers 17 _ (by decide +kernel) fun t hf y => ?_
  have ht : t.val % 2 = 1 := (flush0_17 t).mp hf
  obtain ⟨d0, a0, -, E, -, -, -, -, -, ed⟩ := left H t
  obtain ⟨-, -, -, -, -, i0⟩ := index_out t
  blk_simp
  rw [after0_17, ed]
  have r0 : ((win0_17.blk t).view.emb y 0).val = t.val / 2 * 1 + (y 0).val := by blk_simp [i0]
  have r2 : ((win0_17.blk t).view.emb y 2).val = 0 * 8 + (y 2).val := by blk_simp [i0]
  have b0 : (y 0).val < 1 := (y 0).isLt
  have b1 : (y 1).val < 1 := (y 1).isLt
  refine (congrArg (dds m c t a0 8) (show y = @ix3 1 1 8 0 0 (y 2) by
    funext a; fin_cases a <;> first | rfl | (apply Fin.ext; show _ = 0; simp))).trans
    ((dds_real H t E 8 le_rfl (y 2)).trans ?_)
  unfold dkArr
  rw [r0, r2, show done t + 8 = 16 by unfold done; omega]
  exact congrArg₂ (fun (g h : ℕ) => ((P.skip g 16 h : ℝ) : EReal)) (by omega) (by omega)

end Cert.KernelIdeal.Scan

end
end
-- ==== Proof.RefFinal.lean ====
module
public import proofs.«01_k».proof.Proof.RefResults
public import proofs.«01_k».proof.Proof.ScanFinal
@[expose] public section
set_option maxRecDepth 16384
noncomputable section

/-! The reference's six results are the arrays the kernel leaves. -/
namespace Cert.ReferenceIdeal.Scan
open Idealize.ShloMosaic Idealize.ShloMosaic.TcCoe Idealize.SL.Sem
open Cert.ReferenceIdeal Cert.ReferenceIdeal.Read
open Cert.KernelIdeal.Scan (dxArr dbArr dcArr dtArr daArr dkArr)

variable {x0 : FVec Ideal S2048x6144 .f32} {x1 x2 : FVec Ideal S2048x64 .f32} {x3 : FVec Ideal S1x64 .f32}
  {x4 : FVec Ideal S2048x4096 .f32} {P : _root_.Scan.Args} (H : Holds x0 x1 x2 x3 x4 P)
include H

/-- The inputs' gradient. -/
theorem result_dx : val_main_v510 (F := Ideal) x0 x1 x2 x3 x4 = dxArr P := by
  funext i
  obtain ⟨r, q, rfl⟩ : ∃ (r : Fin 2048) (q : Fin 4096), i = ix2 r q := ⟨i 0, i 1, by funext a; fin_cases a <;> rfl⟩
  pointwise [val_main_v510]
  rw [dx_real H]
  have e : 64 * (q.val / 64 % 8) + q.val % 64 = q.val % 512 := by omega
  exact congrArg (fun j => (((P.chunk (q.val / 512) (r.val / 128)).dx (P.grad (q.val / 512) (15 - r.val / 128)) (r.val % 128) j : ℝ) : EReal)) e
/-- The input weights' gradient. -/
theorem result_db : val_main_v509 (F := Ideal) x0 x1 x2 x4 = dbArr P := by
  funext i
  obtain ⟨r, q, rfl⟩ : ∃ (r : Fin 2048) (q : Fin 1024), i = ix2 r q := ⟨i 0, i 1, by funext a; fin_cases a <;> rfl⟩
  pointwise [val_main_v509]
  rw [db_real H]
  rfl
/-- The output weights' gradient. -/
theorem result_dc : val_main_v508 (F := Ideal) x0 x1 x2 x4 = dcArr P := by
  funext i
  obtain ⟨r, q, rfl⟩ : ∃ (r : Fin 2048) (q : Fin 1024), i = ix2 r q := ⟨i 0, i 1, by funext a; fin_cases a <;> rfl⟩
  pointwise [val_main_v508]
  rw [dc_real H]
  rfl
/-- The step sizes' gradient. -/
theorem result_dt : val_main_v512 (F := Ideal) x0 x2 x4 = dtArr P := by
  funext i
  obtain ⟨g, r, h, rfl⟩ : ∃ (g : Fin 8) (r : Fin 2048) (h : Fin 8), i = ix3 g r h := ⟨i 0, i 1, i 2, by funext a; fin_cases a <;> rfl⟩
  pointwise [val_main_v512, val_main_v511, val_main_v507]
  rw [ddt_real H]
  rfl
/-- The decays' gradient. -/
theorem result_da : val_main_v514 (F := Ideal) x0 x1 x2 x4 = daArr P := by
  funext i
  obtain ⟨g, r, h, rfl⟩ : ∃ (g : Fin 8) (r : Fin 2048) (h : Fin 8), i = ix3 g r h := ⟨i 0, i 1, i 2, by funext a; fin_cases a <;> rfl⟩
  pointwise [val_main_v514, val_main_v513, val_main_v506, val_main_v505]
  rw [da_real H]
  rfl

omit H in
/-- The skip weights' gradient of the last chunks, summed from the last one back. -/
theorem skip_eq (P : _root_.Scan.Args) (g h n : ℕ) : P.skip g n h = ∑ k : Fin n, (P.chunk g (15 - k)).dk h := by
  induction n with
  | zero => rfl
  | succ n ih =>
    rw [Fin.sum_univ_castSucc]
    exact congrArg (· + (P.chunk g (15 - n)).dk h) ih

/-- The skip weights' gradient. -/
theorem result_dk : val_main_v515 (F := Ideal) x0 x4 = dkArr P := by
  funext i
  obtain ⟨g, z, h, rfl⟩ : ∃ (g : Fin 8) (z : Fin 1) (h : Fin 8), i = ix3 g z h := ⟨i 0, i 1, i 2, by funext a; fin_cases a <;> rfl⟩
  pointwise [val_main_v515, val_main_v211, val_main_v210, val_main_v209, val_main_v208, val_main_v205, val_main_cst_4, val_main_cst_3]
  rw [Fin.sum_univ_one, sum_outer]
  pointwise [dk_real H]
  simp only [Finset.univ_unique, Finset.sum_singleton]
  show _ = ((P.skip g 16 h : ℝ) : EReal)
  rw [skip_eq, ← Equiv.sum_comp Fin.revPerm]
  refine congrArg _ (Finset.sum_congr rfl fun c _ => ?_)
  rw [show (Fin.revPerm c : Fin 16).val = 15 - c.val from by simp [Fin.rev]]

end Cert.ReferenceIdeal.Scan
end
end
-- ==== Proof.ScanClaim.lean ====
module
public import proofs.«01_k».proof.Defs
public import proofs.«01_k».proof.Proof.RefFinal
public import proofs.«01_k».proof.Proof.Gen.ReferenceIdeal.Run
public import Idealize.ShloMosaic.Lib.ReduceAll
@[expose] public section
set_option maxRecDepth 16384
noncomputable section

/-! From arguments all of whose elements are finite to the real numbers of an example, and the claim about the values. -/
namespace Cert.Pre_finite.Scan
open Idealize.ShloMosaic Cert.Pre_finite

/-- The precondition's shapes fit. -/
theorem facts : Cert.Pre_finite.Facts where
  bcast_S_S2048x6144 := by decide
  reducesTo_S2048x6144_S_d0_1 := by decide
  h_S_ := by decide
  bcast_S_S2048x64 := by decide
  reducesTo_S2048x64_S_d0_1 := by decide
  bcast_S_S1x64 := by decide
  reducesTo_S1x64_S_d0_1 := by decide
  bcast_S_S2048x4096 := by decide
  reducesTo_S2048x4096_S_d0_1 := by decide

/-- An array whose elements all have a magnitude below infinity holds real numbers. -/
theorem real_of_finite {s : Shape} {axes : List (Fin s.rank)} (x : FVec Ideal s .f32) (b : S_.BroadcastsInDim s (![] : Fin 0 → Fin s.rank))
    (r : s.ReducesTo axes S_) (u : 0 < S_.numel) (j : S_.Idx)
    (e : Host.reduce IntOp.andi (cmpf .olt (Host.absf x) (broadcastInDim s ![] b (constant S_ .f32 0x7F800000#32))) (constantI S_ 1 1#1) r u j = 1#1)
    (i : s.Idx) : x i = (((x i).toReal : ℝ) : EReal) := by
  have h := Host.reduce_andi_all _ _ _ _ j e i
  have t : Ideal.ofBits .f32 0x7F800000#32 = ⊤ := by simp [Ideal.ofBits, Ideal.ieee]
  have w : Ideal.cmp .olt (max (x i) (-(x i))) (Ideal.ofBits .f32 0x7F800000#32) = 1#1 := h
  rw [t] at w
  have l : max (x i) (-(x i)) < ⊤ := by
    by_contra n
    rw [show Ideal.cmp .olt (max (x i) (-(x i))) ⊤ = BitVec.ofBool (decide (max (x i) (-(x i)) < ⊤)) from rfl, decide_eq_false n] at w
    exact absurd w (by decide)
  have a := (max_lt_iff.1 l).1
  have c := (max_lt_iff.1 l).2
  refine (EReal.coe_toReal a.ne fun z => ?_).symm
  rw [z] at c
  exact absurd c (by simp)

/-- The real number of a row and a lane, zero outside the array. -/
def entry {r n : ℕ} (x : FVec Ideal ⟨2, ![r, n]⟩ .f32) (i j : ℕ) : ℝ :=
  if w : i < r ∧ j < n then (x (ix2 ⟨i, w.1⟩ ⟨j, w.2⟩)).toReal else 0

/-- The real number of a row and a lane of the array. -/
theorem entry_eq {r n : ℕ} (x : FVec Ideal ⟨2, ![r, n]⟩ .f32) (i : Fin r) (j : Fin n) : entry x i j = (x (ix2 i j)).toReal :=
  dif_pos ⟨i.isLt, j.isLt⟩

/-- The real numbers of the five arguments. -/
def numbers (x0 : FVec Ideal S2048x6144 .f32) (x1 x2 : FVec Ideal S2048x64 .f32) (x3 : FVec Ideal S1x64 .f32)
    (x4 : FVec Ideal S2048x4096 .f32) : _root_.Scan.Args where
  xbc := entry x0
  dt := entry x1
  a := entry x2
  k := entry x3 0
  dy := entry x4

/-- Finite arguments hold the real numbers of an example. -/
theorem given [Facts] (x0 : FVec Ideal S2048x6144 .f32) (x1 x2 : FVec Ideal S2048x64 .f32) (x3 : FVec Ideal S1x64 .f32)
    (x4 : FVec Ideal S2048x4096 .f32) (e : fn (F := Ideal) x0 x1 x2 x3 x4 = fun _ => 1#1) :
    Cert.KernelIdeal.Scan.Given (fun i j => x0 (ix2 i j)) (fun i j => x1 (ix2 i j)) (fun i j => x2 (ix2 i j)) (fun j => x3 (ix2 0 j))
      (fun i j => x4 (ix2 i j)) (numbers x0 x1 x2 x3 x4) := by
  have h := congrFun e ix0
  unfold fn fn_part1 at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  refine ⟨fun i j => ?_, fun i j => ?_, fun i j => ?_, fun j => ?_, fun i j => ?_⟩
  · exact (real_of_finite x0 _ _ _ _ h0 _).trans (congrArg _ (entry_eq x0 i j).symm)
  · exact (real_of_finite x1 _ _ _ _ h1 _).trans (congrArg _ (entry_eq x1 i j).symm)
  · exact (real_of_finite x2 _ _ _ _ h2 _).trans (congrArg _ (entry_eq x2 i j).symm)
  · exact (real_of_finite x3 _ _ _ _ h3 _).trans (congrArg _ (entry_eq x3 0 j).symm)
  · exact (real_of_finite x4 _ _ _ _ h4 _).trans (congrArg _ (entry_eq x4 i j).symm)

end Cert.Pre_finite.Scan

namespace Cert.Proof
open Idealize.ShloMosaic Idealize.SL.Sem

/-- The real numbers of the arguments on a device. -/
def numbers (m : (ℓ : Loc Cert.KernelIdeal.nD Cert.KernelIdeal.τ Cert.KernelIdeal.sig) → Buf (Elt Ideal) ℓ) (c : Dev Cert.KernelIdeal.nD) : _root_.Scan.Args :=
  Cert.Pre_finite.Scan.numbers
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

/-- The kernel ends with the six gradients of the real numbers its arguments hold, its arguments unchanged. -/
theorem kernel_run (m : (ℓ : Loc Cert.KernelIdeal.nD Cert.KernelIdeal.τ Cert.KernelIdeal.sig) → Buf (Elt Ideal) ℓ) (g : Dev Cert.KernelIdeal.nD → PrngReg) (P : Dev Cert.KernelIdeal.nD → _root_.Scan.Args)
    (E : ∀ c, Cert.KernelIdeal.Scan.Entry m c (P c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v191_0) = Cert.KernelIdeal.Scan.dxArr (P c)
      ∧ r.2.mem ((c.tc : Thread Cert.KernelIdeal.nD Cert.KernelIdeal.τ).loc Cert.KernelIdeal.main_v191_1) = Cert.KernelIdeal.Scan.dbArr (P c)
      ∧ r.2.mem ((c.tc : Thread Cert.KernelIdeal.nD Cert.KernelIdeal.τ).loc Cert.KernelIdeal.main_v191_2) = Cert.KernelIdeal.Scan.dcArr (P c)
      ∧ r.2.mem ((c.tc : Thread Cert.KernelIdeal.nD Cert.KernelIdeal.τ).loc Cert.KernelIdeal.main_v191_3) = Cert.KernelIdeal.Scan.dtArr (P c)
      ∧ r.2.mem ((c.tc : Thread Cert.KernelIdeal.nD Cert.KernelIdeal.τ).loc Cert.KernelIdeal.main_v191_4) = Cert.KernelIdeal.Scan.daArr (P c)
      ∧ r.2.mem ((c.tc : Thread Cert.KernelIdeal.nD Cert.KernelIdeal.τ).loc Cert.KernelIdeal.main_v191_5) = Cert.KernelIdeal.Scan.dkArr (P c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun _ h c => ⟨(Pipeline.FramePost.out_eq h.1 c 12).trans (Cert.KernelIdeal.Scan.final_dx (E c)),
      (Pipeline.FramePost.out_eq h.1 c 13).trans (Cert.KernelIdeal.Scan.final_db (E c)),
      (Pipeline.FramePost.out_eq h.1 c 14).trans (Cert.KernelIdeal.Scan.final_dc (E c)),
      (Pipeline.FramePost.out_eq h.1 c 15).trans (Cert.KernelIdeal.Scan.final_dt (E c)),
      (Pipeline.FramePost.out_eq h.1 c 16).trans (Cert.KernelIdeal.Scan.final_da (E c)),
      (Pipeline.FramePost.out_eq h.1 c 17).trans (Cert.KernelIdeal.Scan.final_dk (E c)), h.2 c⟩)
    (θ_run_and (Cert.KernelIdeal.Gen.run_main m g) (Cert.KernelIdeal.Gen.unchanged m g))

/-- The reference ends with the six gradients of the real numbers its arguments hold, its arguments unchanged. -/
theorem reference_run (m' : (ℓ : Loc Cert.ReferenceIdeal.nD Cert.ReferenceIdeal.τ Cert.ReferenceIdeal.sig) → Buf (Elt Ideal) ℓ) (g' : Dev Cert.ReferenceIdeal.nD → PrngReg) (P : Dev Cert.ReferenceIdeal.nD → _root_.Scan.Args)
    (H : ∀ c : Dev Cert.ReferenceIdeal.nD, Cert.ReferenceIdeal.Scan.Holds
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (P c)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v510) = Cert.KernelIdeal.Scan.dxArr (P c)
      ∧ r.2.mem ((c.tc : Thread Cert.ReferenceIdeal.nD Cert.ReferenceIdeal.τ).loc Cert.ReferenceIdeal.main_v509) = Cert.KernelIdeal.Scan.dbArr (P c)
      ∧ r.2.mem ((c.tc : Thread Cert.ReferenceIdeal.nD Cert.ReferenceIdeal.τ).loc Cert.ReferenceIdeal.main_v508) = Cert.KernelIdeal.Scan.dcArr (P c)
      ∧ r.2.mem ((c.tc : Thread Cert.ReferenceIdeal.nD Cert.ReferenceIdeal.τ).loc Cert.ReferenceIdeal.main_v512) = Cert.KernelIdeal.Scan.dtArr (P c)
      ∧ r.2.mem ((c.tc : Thread Cert.ReferenceIdeal.nD Cert.ReferenceIdeal.τ).loc Cert.ReferenceIdeal.main_v514) = Cert.KernelIdeal.Scan.daArr (P c)
      ∧ r.2.mem ((c.tc : Thread Cert.ReferenceIdeal.nD Cert.ReferenceIdeal.τ).loc Cert.ReferenceIdeal.main_v515) = Cert.KernelIdeal.Scan.dkArr (P c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  refine (θ_run _ _ _).mono (fun _ h c => ?_) (Cert.ReferenceIdeal.Value.run m' g')
  have h := h c
  exact ⟨(h.1.trans (Cert.ReferenceIdeal.Read.val_main_v510_eq _)).trans (Cert.ReferenceIdeal.Scan.result_dx (H c)),
      (h.2.1.trans (Cert.ReferenceIdeal.Read.val_main_v509_eq _)).trans (Cert.ReferenceIdeal.Scan.result_db (H c)),
      (h.2.2.1.trans (Cert.ReferenceIdeal.Read.val_main_v508_eq _)).trans (Cert.ReferenceIdeal.Scan.result_dc (H c)),
      (h.2.2.2.1.trans (Cert.ReferenceIdeal.Read.val_main_v512_eq _)).trans (Cert.ReferenceIdeal.Scan.result_dt (H c)),
      (h.2.2.2.2.1.trans (Cert.ReferenceIdeal.Read.val_main_v514_eq _)).trans (Cert.ReferenceIdeal.Scan.result_da (H c)),
      (h.2.2.2.2.2.1.trans (Cert.ReferenceIdeal.Read.val_main_v515_eq _)).trans (Cert.ReferenceIdeal.Scan.result_dk (H c)), h.2.2.2.2.2.2⟩

/-- The backward call of the state-space scan ends, for finite arguments, with the values of its plain reference. -/
theorem value_Scan [Cert.Pre_finite.Facts] : Cert.algebraic_KernelIdeal_ReferenceIdeal_pre_finite := by
  intro m g m' g' hpre hagree
  have E (c : Dev Cert.KernelIdeal.nD) : Cert.KernelIdeal.Scan.Entry m c (numbers m c) := Cert.Pre_finite.Scan.given _ _ _ _ _ (hpre c)
  refine ⟨fun c => Cert.KernelIdeal.Scan.dxArr (numbers m c), fun c => Cert.KernelIdeal.Scan.dbArr (numbers m c), fun c => Cert.KernelIdeal.Scan.dcArr (numbers m c), fun c => Cert.KernelIdeal.Scan.dtArr (numbers m c), fun c => Cert.KernelIdeal.Scan.daArr (numbers m c), fun c => Cert.KernelIdeal.Scan.dkArr (numbers m c),
    kernel_run m g _ E, reference_run m' g' _ fun c => ?_⟩
  rw [(hagree c).1, (hagree c).2.1, (hagree c).2.2.1, (hagree c).2.2.2.1, (hagree c).2.2.2.2]
  exact E c

/-- The reference of the scan's gradient ends without an error, no semaphore held. -/
theorem safe_Reference : Cert.quiescent_ReferenceIdeal := fun m g _ =>
  (θ_run _ _ _).mono (fun _ h => ⟨fun c => (h c).2.2.2.2.2.2, sem_eq_zero_of_no_sems rfl _⟩)
    (Cert.ReferenceIdeal.Value.run m g)

end Cert.Proof
end
end
-- ==== Proof.MlpDownW.lean ====
module

public import proofs.«01_k».proof.Proof.Gen.DownWIdeal.Value
public import proofs.«01_k».proof.Proof.Gen.DownWReferenceIdeal.Read
public import proofs.«01_k».proof.Proof.Gen.DownWReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.DownWIdeal.Sums
open Idealize.ShloMosaic Idealize.ShloMosaic.TcCoe Idealize.SL.Sem
open Cert.DownWIdeal Cert.DownWIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val % 2, t.val / 2] ∧ win0_1.index t = ![t.val % 2, 0]
    ∧ win0_2.index t = ![t.val / 2, 0] := (by decide +kernel : ∀ t : Fin grid0.N, _)

/-- The first block stored into the accumulator: the products of one pair of blocks, summed over the contracted rows or columns. -/
theorem pay1_at (a : Vec Ideal S1024x1024 .bf16) (b : Vec Ideal S1024x2048 .bf16) (j : S1024x2048.Idx) :
    k0_pay1 a b j = ∑ x : Fin 1024, max (a (ix2 x (j 0))) 0 * max (a (ix2 x (j 0))) 0 * b (ix2 x (j 1)) := by
  pointwise [k0_pay1]

/-- A later step adds the products of its pair of blocks to what the accumulator held. -/
theorem pay2_at (v : Vec Ideal S1024x2048 .f32) (a : Vec Ideal S1024x1024 .bf16) (b : Vec Ideal S1024x2048 .bf16)
    (j : S1024x2048.Idx) :
    k0_pay2 v a b j = v j + ∑ x : Fin 1024, max (a (ix2 x (j 0))) 0 * max (a (ix2 x (j 0))) 0 * b (ix2 x (j 1)) := by
  pointwise [k0_pay2]

/-- The last step stores the accumulator itself as the result block. -/
theorem pay3_at (v : Vec Ideal S1024x2048 .f32) (j : S1024x2048.Idx) : k0_pay3 v j = v j := by
  pointwise [k0_pay3]

/-- The plain reference at an index: the squared positive part of the hidden values, transposed, times the incoming gradient, as one sum. -/
theorem ref_at (pre : FVec Ideal S2048x8192 .f32) (du : FVec Ideal S2048x2048 .f32) (i : S8192x2048.Idx) :
    Cert.DownWReferenceIdeal.Read.val_main_v6 (F := Ideal) pre du i
      = ∑ k : Fin 2048, max (pre (ix2 k (i 0))) 0 * max (pre (ix2 k (i 0))) 0 * du (ix2 k (i 1)) := by
  rw [← Cert.DownWReferenceIdeal.Read.val_main_v6_eq]
  pointwise
  exact Finset.sum_congr rfl fun x _ => mul_comm _ _

/-- When the call has ended, its result array is the reference's: the squared positive part of the hidden values, transposed, times the incoming gradient. -/
theorem final (c : Dev nD) : (dats m 0 c).arrAt 2 cfg0.N
    = Cert.DownWReferenceIdeal.Read.val_main_v6 (m ((c : Thread nD τ).loc main_arg0)) (m ((c : Thread nD τ).loc main_arg1)) := by
  refine (dats m 0 c).arrAt_eq_of_covers 2 _ (by decide +kernel) fun t hf y => ?_
  have hl : t.val % 2 = 1 := (flush0_2 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_2, outsAt0_B m c t (by omega) hl hl]
  frame_out
  rw [pay3_at, pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u + v) (Fin.sum_fin_congr fun x => ?_) (Fin.sum_fin_congr fun x => ?_)
  · blk_point [iblk, V, e0, e1]
  · blk_point [iblk, V, e0, e1]
end Cert.DownWIdeal.Sums
end
-- ==== Proof.MlpDownX.lean ====
module

public import proofs.«01_k».proof.Proof.Gen.DownXIdeal.Value
public import proofs.«01_k».proof.Proof.Gen.DownXReferenceIdeal.Read
public import proofs.«01_k».proof.Proof.Gen.DownXReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.DownXIdeal.Sums
open Idealize.ShloMosaic Idealize.ShloMosaic.TcCoe Idealize.SL.Sem
open Cert.DownXIdeal Cert.DownXIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![0, t.val % 2] ∧ win0_1.index t = ![t.val / 2, t.val % 2]
    ∧ win0_2.index t = ![0, t.val / 2] ∧ win0_3.index t = ![0, t.val / 2] := (by decide +kernel : ∀ t : Fin grid0.N, _)

/-- The constant of the kernel's last step is the number two. -/
theorem two_bits : Ideal.ofBits .f32 0x40000000#32 = 2 := by
  rw [show (2 : EReal) = ((2 : ℝ) : EReal) by norm_cast]
  simp [Ideal.ofBits, Ideal.ieee, -EReal.coe_mul]; norm_num

/-- Twice a product with a non-negative factor is the product added to itself, for extended reals too. -/
theorem twice (s r : EReal) (hr : 0 ≤ r) : r * s + s * r = s * (2 * r) := by
  rw [← one_add_one_eq_two, EReal.right_distrib_of_nonneg zero_le_one zero_le_one, one_mul,
    EReal.left_distrib_of_nonneg hr hr, mul_comm r s]

/-- The first block stored into the accumulator: the products of one pair of blocks, summed over the contracted rows or columns. -/
theorem pay1_at (a : Vec Ideal S2048x1024 .bf16) (b : Vec Ideal S1024x1024 .bf16) (j : S2048x1024.Idx) :
    k0_pay1 a b j = ∑ x : Fin 1024, a (ix2 (j 0) x) * b (ix2 (j 1) x) := by
  pointwise [k0_pay1]

/-- A later step adds the products of its pair of blocks to what the accumulator held. -/
theorem pay2_at (v : Vec Ideal S2048x1024 .f32) (a : Vec Ideal S2048x1024 .bf16) (b : Vec Ideal S1024x1024 .bf16)
    (j : S2048x1024.Idx) :
    k0_pay2 v a b j = v j + ∑ x : Fin 1024, a (ix2 (j 0) x) * b (ix2 (j 1) x) := by
  pointwise [k0_pay2]

/-- The last step multiplies the accumulator by twice the positive part of the hidden values. -/
theorem pay3_at (v : Vec Ideal S2048x1024 .f32) (p : Vec Ideal S2048x1024 .bf16) (j : S2048x1024.Idx) :
    k0_pay3 v p j = v j * (2 * max (p j) 0) := by
  pointwise [k0_pay3]
  rw [two_bits]

/-- The plain reference at an index: the incoming gradient times the transposed second weight, times twice the positive part of the hidden values, as one sum. -/
theorem ref_at (pre : FVec Ideal S2048x8192 .f32) (w2 : FVec Ideal S8192x2048 .f32) (du : FVec Ideal S2048x2048 .f32)
    (i : S2048x8192.Idx) :
    Cert.DownXReferenceIdeal.Read.val_main_v12 (F := Ideal) pre w2 du i
      = (∑ k : Fin 2048, du (ix2 (i 0) k) * w2 (ix2 (i 1) k)) * (2 * max (pre i) 0) := by
  rw [← Cert.DownXReferenceIdeal.Read.val_main_v12_eq]
  pointwise
  generalize (∑ k : Fin 2048, du (ix2 (i 0) k) * w2 (ix2 (i 1) k)) = s
  split_ifs with hp
  · exact twice _ _ (le_max_right _ _)
  · rw [max_eq_right (not_lt.mp hp), mul_zero, mul_zero]

/-- When the call has ended, its result array is the reference's: the incoming gradient times the transposed second weight, times twice the positive part of the hidden values. -/
theorem final (c : Dev nD) : (dats m 0 c).arrAt 3 cfg0.N
    = Cert.DownXReferenceIdeal.Read.val_main_v12 (m ((c : Thread nD τ).loc main_arg0)) (m ((c : Thread nD τ).loc main_arg1))
      (m ((c : Thread nD τ).loc main_arg2)) := by
  refine (dats m 0 c).arrAt_eq_of_covers 3 _ (by decide +kernel) fun t hf y => ?_
  have hl : t.val % 2 = 1 := (flush0_3 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_3, outsAt0_B m c t (by omega) hl hl]
  frame_out
  rw [pay3_at, pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u * (2 * max v 0)) (congrArg₂ (fun u v : EReal => u + v)
    (Fin.sum_fin_congr fun x => ?_) (Fin.sum_fin_congr fun x => ?_)) ?_
  · blk_point [iblk, V, e0, e1]
  · blk_point [iblk, V, e0, e1]
  · blk_point [iblk, V, e0, e1]
end Cert.DownXIdeal.Sums
end
-- ==== Proof.MlpUpW.lean ====
module

public import proofs.«01_k».proof.Proof.Gen.UpWIdeal.Value
public import proofs.«01_k».proof.Proof.Gen.UpWReferenceIdeal.Read
public import proofs.«01_k».proof.Proof.Gen.UpWReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.UpWIdeal.Sums
open Idealize.ShloMosaic Idealize.ShloMosaic.TcCoe Idealize.SL.Sem
open Cert.UpWIdeal Cert.UpWIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val % 2, 0] ∧ win0_1.index t = ![t.val % 2, t.val / 2]
    ∧ win0_2.index t = ![t.val / 2, 0, 0] := (by decide +kernel : ∀ t : Fin grid0.N, _)

/-- The first block stored into the accumulator: the products of one pair of blocks, summed over the contracted rows or columns. -/
theorem pay1_at (a : Vec Ideal S1024x2048 .bf16) (b : Vec Ideal S1024x1024 .bf16) (j : S2048x1024.Idx) :
    k0_pay1 a b j = ∑ x : Fin 1024, a (ix2 x (j 0)) * b (ix2 x (j 1)) := by
  pointwise [k0_pay1]

/-- A later step adds the products of its pair of blocks to what the accumulator held. -/
theorem pay2_at (v : Vec Ideal S2048x1024 .f32) (a : Vec Ideal S1024x2048 .bf16) (b : Vec Ideal S1024x1024 .bf16)
    (j : S2048x1024.Idx) :
    k0_pay2 v a b j = v j + ∑ x : Fin 1024, a (ix2 x (j 0)) * b (ix2 x (j 1)) := by
  pointwise [k0_pay2]

/-- The last step stores the accumulator as one slot of the result. -/
theorem pay3_at (v : Vec Ideal S2048x1024 .f32) (j : S1x2048x1024.Idx) : k0_pay3 v j = v (ix2 (j 1) (j 2)) := by
  pointwise [k0_pay3]

/-- The plain reference at an index: the transposed input times the gradient of the hidden values, one column block per slot, as one sum. -/
theorem ref_at (y1 : FVec Ideal S2048x2048 .f32) (dpre : FVec Ideal S2048x8192 .f32) (i : S8x2048x1024.Idx) :
    Cert.UpWReferenceIdeal.Read.val_main_v6 (F := Ideal) y1 dpre i
      = ∑ k : Fin 2048, y1 (ix2 k (i 1)) * dpre (ix2 k ⟨(i 0).val * 1024 + (i 2).val, by
        have h0 : (i 0).val < 8 := (i 0).isLt; have h2 : (i 2).val < 1024 := (i 2).isLt; omega⟩) := by
  rw [← Cert.UpWReferenceIdeal.Read.val_main_v6_eq]
  pointwise
  exact Finset.sum_congr rfl fun x _ => mul_comm _ _

/-- When the call has ended, its result array is the reference's: the transposed input times the gradient of the hidden values, one column block per slot. -/
theorem final (c : Dev nD) : (dats m 0 c).arrAt 2 cfg0.N
    = Cert.UpWReferenceIdeal.Read.val_main_v6 (m ((c : Thread nD τ).loc main_arg0)) (m ((c : Thread nD τ).loc main_arg1)) := by
  refine (dats m 0 c).arrAt_eq_of_covers 2 _ (by decide +kernel) fun t hf y => ?_
  have hl : t.val % 2 = 1 := (flush0_2 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_2, outsAt0_B m c t (by omega) hl hl]
  frame_out
  rw [pay3_at, pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u + v) (Fin.sum_fin_congr fun x => ?_) (Fin.sum_fin_congr fun x => ?_)
  · blk_point [iblk, V, e0, e1]
  · blk_point [iblk, V, e0, e1]
end Cert.UpWIdeal.Sums
end
-- ==== Proof.MlpUpX.lean ====
module

public import proofs.«01_k».proof.Proof.Gen.UpXIdeal.Value
public import proofs.«01_k».proof.Proof.Gen.UpXReferenceIdeal.Read
public import proofs.«01_k».proof.Proof.Gen.UpXReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.UpXIdeal.Sums
open Idealize.ShloMosaic Idealize.ShloMosaic.TcCoe Idealize.SL.Sem
open Cert.UpXIdeal Cert.UpXIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val / 16, t.val % 8]
    ∧ win0_1.index t = ![t.val % 8, t.val / 8 % 2, 0] ∧ win0_2.index t = ![t.val / 16, t.val / 8 % 2]
    ∧ win0_3.index t = ![t.val / 16, t.val / 8 % 2] := (by decide +kernel : ∀ t : Fin grid0.N, _)

/-- The first block stored into the accumulator: the products of one pair of blocks, summed over the contracted rows or columns. -/
theorem pay1_at (a : Vec Ideal S1024x1024 .bf16) (b : Vec Ideal S1x1024x1024 .bf16) (j : S1024x1024.Idx) :
    k0_pay1 a b j = 0 + ∑ x : Fin 1024, a (ix2 (j 0) x) * b (ix3 0 (j 1) x) := by
  rw [zero_add]
  pointwise [k0_pay1]

/-- A later step adds the products of its pair of blocks to what the accumulator held. -/
theorem pay2_at (v : Vec Ideal S1024x1024 .f32) (a : Vec Ideal S1024x1024 .bf16) (b : Vec Ideal S1x1024x1024 .bf16)
    (j : S1024x1024.Idx) :
    k0_pay2 v a b j = v j + ∑ x : Fin 1024, a (ix2 (j 0) x) * b (ix3 0 (j 1) x) := by
  pointwise [k0_pay2]

/-- The last step adds the scaled residual gradient to the accumulator. -/
theorem pay3_at (v : Vec Ideal S1024x1024 .f32) (p : Vec Ideal S1024x1024 .f32) (j : S1024x1024.Idx) :
    k0_pay3 v p j = Ideal.ofBits .f32 0x3FB504F3#32 * p j + v j := by
  pointwise [k0_pay3]

/-- The plain reference at an index: the gradient of the hidden values times the transposed first weight, plus the scaled residual gradient, as one sum. -/
theorem ref_at (dpre : FVec Ideal S2048x8192 .f32) (w1 : FVec Ideal S2048x8192 .f32) (du : FVec Ideal S2048x2048 .f32)
    (i : S2048x2048.Idx) :
    Cert.UpXReferenceIdeal.Read.val_main_v7 (F := Ideal) dpre w1 du i
      = Ideal.ofBits .f32 0x3FB504F3#32 * du i + ∑ k : Fin 8192, dpre (ix2 (i 0) k) * w1 (ix2 (i 1) k) := by
  rw [← Cert.UpXReferenceIdeal.Read.val_main_v7_eq]
  pointwise

/-- When the call has ended, its result array is the reference's: the gradient of the hidden values times the transposed first weight, plus the scaled residual gradient. -/
theorem final (c : Dev nD) : (dats m 0 c).arrAt 3 cfg0.N
    = Cert.UpXReferenceIdeal.Read.val_main_v7 (m ((c : Thread nD τ).loc main_arg0)) (m ((c : Thread nD τ).loc main_arg1))
      (m ((c : Thread nD τ).loc main_arg2)) := by
  refine (dats m 0 c).arrAt_eq_of_covers 3 _ (by decide +kernel) fun t hf y => ?_
  have hl : t.val % 8 = 7 := (flush0_3 t).mp hf
  have last (j) : (outsAt0 m c t.val t.isLt).1 j = k0_pay3 (F := Ideal) (outsAt0 m c t.val t.isLt).2 (iblk m c 2 t) j := by
    rw [outsAt0_C m c t (by omega) (by omega) hl]
    frame_out
  blk_simp
  rw [after0_3, last, pay3_at, Pipeline.eq_sum_fin_of_reset_step_apply_of_flush (fun n h => (outsAt0 m c n h).2) 8 (fun _ => 0) _
    (fun t h j => by rw [outsAt0_A m c t h (by omega) (by omega)]; frame_out; rw [pay1_at])
    (fun t h j => by
      by_cases h7 : t.val % 8 = 7
      · rw [outsAt0_C m c t h (by omega) h7]; frame_out; rw [pay2_at, read_unread_whole]
      · rw [outsAt0_B m c t h (by omega) h7]; frame_out; rw [pay2_at, read_unread_whole])
    t hl _, zero_add, ref_at]
  refine congrArg₂ (fun u v : EReal => u + v) ?_ (Fin.sum_mul_add_congr fun s k hk => ?_)
  · blk_point [iblk, V, index_val t]
  · blk_point [iblk, V, index_val t, index_val ⟨_, Pipeline.run_point_lt_of_flush t hl s⟩]
end Cert.UpXIdeal.Sums
end
-- ==== Proof.ProdOutW.lean ====
module

public import proofs.«01_k».proof.Proof.Gen.OutWIdeal.Value
public import proofs.«01_k».proof.Proof.Gen.OutWReferenceIdeal.Read
public import proofs.«01_k».proof.Proof.Gen.OutWReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.OutWIdeal.Sums
open Idealize.ShloMosaic Idealize.ShloMosaic.TcCoe Idealize.SL.Sem
open Cert.OutWIdeal Cert.OutWIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val % 2, t.val / 2] ∧ win0_1.index t = ![t.val % 2, 0]
    ∧ win0_2.index t = ![t.val / 2, 0] := (by decide +kernel : ∀ t : Fin grid0.N, _)

/-- The first block stored into the accumulator: the products of one pair of blocks, summed over the contracted rows or columns. -/
theorem pay1_at (a : Vec Ideal S1024x1024 .bf16) (b : Vec Ideal S1024x2048 .bf16) (j : S1024x2048.Idx) :
    k0_pay1 a b j = ∑ x : Fin 1024, a (ix2 x (j 0)) * b (ix2 x (j 1)) := by
  pointwise [k0_pay1]

/-- A later step adds the products of its pair of blocks to what the accumulator held. -/
theorem pay2_at (v : Vec Ideal S1024x2048 .f32) (a : Vec Ideal S1024x1024 .bf16) (b : Vec Ideal S1024x2048 .bf16)
    (j : S1024x2048.Idx) :
    k0_pay2 v a b j = v j + ∑ x : Fin 1024, a (ix2 x (j 0)) * b (ix2 x (j 1)) := by
  pointwise [k0_pay2]

/-- The last step stores the accumulator itself as the result block. -/
theorem pay3_at (v : Vec Ideal S1024x2048 .f32) (j : S1024x2048.Idx) :
    k0_pay3 v j = v j := by
  pointwise [k0_pay3]

/-- The plain reference at an index: the gated scan output, transposed, times the incoming gradient, as one sum. -/
theorem ref_at (y : FVec Ideal S2048x4096 .f32) (du : FVec Ideal S2048x2048 .f32)
    (i : S4096x2048.Idx) :
    Cert.OutWReferenceIdeal.Read.val_main_v4 (F := Ideal) y du i
      = ∑ k : Fin 2048, y (ix2 k (i 0)) * du (ix2 k (i 1)) := by
  rw [← Cert.OutWReferenceIdeal.Read.val_main_v4_eq]
  pointwise
  exact Finset.sum_congr rfl fun x _ => mul_comm _ _

/-- When the call has ended, its result array is the reference's: the gated scan output, transposed, times the incoming gradient. -/
theorem final (c : Dev nD) : (dats m 0 c).arrAt 2 cfg0.N
    = Cert.OutWReferenceIdeal.Read.val_main_v4 (m ((c : Thread nD τ).loc main_arg0)) (m ((c : Thread nD τ).loc main_arg1)) := by
  refine (dats m 0 c).arrAt_eq_of_covers 2 _ (by decide +kernel) fun t hf y => ?_
  have hl : t.val % 2 = 1 := (flush0_2 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_2, outsAt0_B m c t (by omega) hl hl]
  frame_out
  rw [pay3_at, pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u + v) (Fin.sum_fin_congr fun x => ?_) (Fin.sum_fin_congr fun x => ?_)
  · blk_point [iblk, V, e0, e1]
  · blk_point [iblk, V, e0, e1]
end Cert.OutWIdeal.Sums
end
-- ==== Proof.ProdOutX.lean ====
module

public import proofs.«01_k».proof.Proof.Gen.OutXIdeal.Value
public import proofs.«01_k».proof.Proof.Gen.OutXReferenceIdeal.Read
public import proofs.«01_k».proof.Proof.Gen.OutXReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.OutXIdeal.Sums
open Idealize.ShloMosaic Idealize.ShloMosaic.TcCoe Idealize.SL.Sem
open Cert.OutXIdeal Cert.OutXIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![0, t.val % 2] ∧ win0_1.index t = ![t.val / 2, t.val % 2]
    ∧ win0_2.index t = ![0, t.val / 2] := (by decide +kernel : ∀ t : Fin grid0.N, _)

/-- The first block stored into the accumulator: the products of one pair of blocks, summed over the contracted rows or columns. -/
theorem pay1_at (a : Vec Ideal S2048x1024 .bf16) (b : Vec Ideal S1024x1024 .bf16) (j : S2048x1024.Idx) :
    k0_pay1 a b j = ∑ x : Fin 1024, a (ix2 (j 0) x) * b (ix2 (j 1) x) := by
  pointwise [k0_pay1]

/-- A later step adds the products of its pair of blocks to what the accumulator held. -/
theorem pay2_at (v : Vec Ideal S2048x1024 .f32) (a : Vec Ideal S2048x1024 .bf16) (b : Vec Ideal S1024x1024 .bf16)
    (j : S2048x1024.Idx) :
    k0_pay2 v a b j = v j + ∑ x : Fin 1024, a (ix2 (j 0) x) * b (ix2 (j 1) x) := by
  pointwise [k0_pay2]

/-- The plain reference at an index: the incoming gradient times the transposed output projection, as one sum. -/
theorem ref_at (du : FVec Ideal S2048x2048 .f32) (w : FVec Ideal S4096x2048 .f32)
    (i : S2048x4096.Idx) :
    Cert.OutXReferenceIdeal.Read.val_main_v2 (F := Ideal) du w i
      = ∑ k : Fin 2048, du (ix2 (i 0) k) * w (ix2 (i 1) k) := by
  rw [← Cert.OutXReferenceIdeal.Read.val_main_v2_eq]
  pointwise

/-- When the call has ended, its result array is the reference's: the incoming gradient times the transposed output projection. -/
theorem final (c : Dev nD) : (dats m 0 c).arrAt 2 cfg0.N
    = Cert.OutXReferenceIdeal.Read.val_main_v2 (m ((c : Thread nD τ).loc main_arg0)) (m ((c : Thread nD τ).loc main_arg1)) := by
  refine (dats m 0 c).arrAt_eq_of_covers 2 _ (by decide +kernel) fun t hf y => ?_
  have hl : t.val % 2 = 1 := (flush0_2 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_2, outsAt0_B m c t (by omega) hl hl]
  frame_out
  rw [pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u + v) (Fin.sum_fin_congr fun x => ?_) (Fin.sum_fin_congr fun x => ?_)
  · blk_point [iblk, V, e0, e1]
  · blk_point [iblk, V, e0, e1]
end Cert.OutXIdeal.Sums
end
-- ==== Proof.ProdInX.lean ====
module

public import proofs.«01_k».proof.Proof.Gen.InXIdeal.Value
public import proofs.«01_k».proof.Proof.Gen.InXReferenceIdeal.Read
public import proofs.«01_k».proof.Proof.Gen.InXReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.InXIdeal.Sums
open Idealize.ShloMosaic Idealize.ShloMosaic.TcCoe Idealize.SL.Sem
open Cert.InXIdeal Cert.InXIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val / 20, t.val % 10] ∧ win0_1.index t = ![t.val % 10, t.val / 10 % 2]
    ∧ win0_2.index t = ![t.val / 20, t.val / 10 % 2] ∧ win0_3.index t = ![t.val / 20, t.val / 10 % 2] := (by decide +kernel : ∀ t : Fin grid0.N, _)

/-- The weight as the call receives it is the weight transposed. -/
theorem weight_at (c : Dev nD) (i : S10304x2048.Idx) :
    V m c main_v1 i = m ((c : Thread nD τ).loc main_arg1) (ix2 (i 1) (i 0)) := by
  entry_read
  pointwise

/-- The window's blocks never reach past the weight's end, so what it holds is a block of the transposed weight, element for element. -/
theorem block_at (c : Dev nD) (t : Fin cfg0.N) (j : S1024x1024.Idx) : X0_1 m c t j
    = m ((c : Thread nD τ).loc main_arg1) (ix2
      (((cfg0.win 1).blk t).view.emb (fun a => ⟨(j a).val, ((cfg0.win 1).moved_iff _ j).mp (moved0_1 t j) a⟩) 1)
      (((cfg0.win 1).blk t).view.emb (fun a => ⟨(j a).val, ((cfg0.win 1).moved_iff _ j).mp (moved0_1 t j) a⟩) 0)) := by
  unfold X0_1 Pipeline.Window.fill
  rw [dif_pos (moved0_1 t j)]
  exact weight_at m c _

/-- The first block stored into the accumulator: the products of one pair of blocks, summed over the contracted rows or columns. -/
theorem pay1_at (a : Vec Ideal S1024x1024 .bf16) (b : Vec Ideal S1024x1024 .bf16) (j : S1024x1024.Idx) :
    k0_pay1 a b j = 0 + ∑ x : Fin 1024, a (ix2 (j 0) x) * b (ix2 x (j 1)) := by
  rw [zero_add]
  pointwise [k0_pay1]

/-- A later step adds the products of its pair of blocks to what the accumulator held. -/
theorem pay2_at (v : Vec Ideal S1024x1024 .f32) (a : Vec Ideal S1024x1024 .bf16) (b : Vec Ideal S1024x1024 .bf16)
    (j : S1024x1024.Idx) :
    k0_pay2 v a b j = v j + ∑ x : Fin 1024, a (ix2 (j 0) x) * b (ix2 x (j 1)) := by
  pointwise [k0_pay2]

/-- The last step adds the residual gradient to the accumulator. -/
theorem pay3_at (v : Vec Ideal S1024x1024 .f32) (p : Vec Ideal S1024x1024 .f32) (j : S1024x1024.Idx) :
    k0_pay3 v p j = p j + v j := by
  pointwise [k0_pay3]

/-- The plain reference at an index: the gradient of the projected columns times the transposed input projection, plus the residual gradient, as one sum. -/
theorem ref_at (dz : FVec Ideal S2048x10240 .f32) (w : FVec Ideal S2048x10304 .f32) (du : FVec Ideal S2048x2048 .f32)
    (i : S2048x2048.Idx) :
    Cert.InXReferenceIdeal.Read.val_main_v4 (F := Ideal) dz w du i
      = du i + ∑ k : Fin 10240, dz (ix2 (i 0) k) * w (ix2 (i 1) ⟨k.val, by omega⟩) := by
  rw [← Cert.InXReferenceIdeal.Read.val_main_v4_eq]
  pointwise

/-- When the call has ended, its result array is the reference's: the gradient of the projected columns times the transposed input projection, plus the residual gradient. -/
theorem final (c : Dev nD) : (dats m 0 c).arrAt 3 cfg0.N
    = Cert.InXReferenceIdeal.Read.val_main_v4 (m ((c : Thread nD τ).loc main_arg0)) (m ((c : Thread nD τ).loc main_arg1))
      (m ((c : Thread nD τ).loc main_arg2)) := by
  refine (dats m 0 c).arrAt_eq_of_covers 3 _ (by decide +kernel) fun t hf y => ?_
  have hl : t.val % 10 = 9 := (flush0_3 t).mp hf
  have last (j) : (outsAt0 m c t.val t.isLt).1 j = k0_pay3 (F := Ideal) (outsAt0 m c t.val t.isLt).2 (iblk m c 2 t) j := by
    rw [outsAt0_C m c t (by omega) (by omega) hl]
    frame_out
  blk_simp
  rw [after0_3, last, pay3_at, Pipeline.eq_sum_fin_of_reset_step_apply_of_flush (fun n h => (outsAt0 m c n h).2) 10 (fun _ => 0) _
    (fun t h j => by rw [outsAt0_A m c t h (by omega) (by omega)]; frame_out; rw [pay1_at])
    (fun t h j => by
      by_cases h' : t.val % 10 = 9
      · rw [outsAt0_C m c t h (by omega) h']; frame_out; rw [pay2_at, read_unread_whole]
      · rw [outsAt0_B m c t h (by omega) h']; frame_out; rw [pay2_at, read_unread_whole])
    t hl _, zero_add, ref_at]
  refine congrArg₂ (fun u v : EReal => u + v) ?_ (Fin.sum_mul_add_congr fun s k hk => ?_)
  · blk_point [iblk, V, index_val t]
  · rw [block_at]
    blk_point [iblk, V, index_val t, index_val ⟨_, Pipeline.run_point_lt_of_flush t hl s⟩]
end Cert.InXIdeal.Sums
end
-- ==== Proof.ProdGateW.lean ====
module

public import proofs.«01_k».proof.Proof.Gen.GateWIdeal.Value
public import proofs.«01_k».proof.Proof.Gen.GateWReferenceIdeal.Read
public import proofs.«01_k».proof.Proof.Gen.GateWReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.GateWIdeal.Sums
open Idealize.ShloMosaic Idealize.ShloMosaic.TcCoe Idealize.SL.Sem
open Cert.GateWIdeal Cert.GateWIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val % 2, t.val / 2] ∧ win0_1.index t = ![t.val % 2, 0]
    ∧ win0_2.index t = ![t.val / 2, 0] := (by decide +kernel : ∀ t : Fin grid0.N, _)

/-- The first block stored into the accumulator: the products of one pair of blocks, summed over the contracted rows or columns. -/
theorem pay1_at (a : Vec Ideal S1024x1024 .bf16) (b : Vec Ideal S1024x2048 .bf16) (j : S1024x2048.Idx) :
    k0_pay1 a b j = ∑ x : Fin 1024, a (ix2 x (j 0)) * b (ix2 x (j 1)) := by
  pointwise [k0_pay1]

/-- A later step adds the products of its pair of blocks to what the accumulator held. -/
theorem pay2_at (v : Vec Ideal S1024x2048 .f32) (a : Vec Ideal S1024x1024 .bf16) (b : Vec Ideal S1024x2048 .bf16)
    (j : S1024x2048.Idx) :
    k0_pay2 v a b j = v j + ∑ x : Fin 1024, a (ix2 x (j 0)) * b (ix2 x (j 1)) := by
  pointwise [k0_pay2]

/-- The last step stores the accumulator itself as the result block. -/
theorem pay3_at (v : Vec Ideal S1024x2048 .f32) (j : S1024x2048.Idx) :
    k0_pay3 v j = v j := by
  pointwise [k0_pay3]

/-- The plain reference at an index: the normalised stream, transposed, times the gradient of the gate, as one sum. -/
theorem ref_at (h : FVec Ideal S2048x2048 .f32) (dg : FVec Ideal S2048x2048 .f32)
    (i : S2048x2048.Idx) :
    Cert.GateWReferenceIdeal.Read.val_main_v4 (F := Ideal) h dg i
      = ∑ k : Fin 2048, h (ix2 k (i 0)) * dg (ix2 k (i 1)) := by
  rw [← Cert.GateWReferenceIdeal.Read.val_main_v4_eq]
  pointwise
  exact Finset.sum_congr rfl fun x _ => mul_comm _ _

/-- When the call has ended, its result array is the reference's: the normalised stream, transposed, times the gradient of the gate. -/
theorem final (c : Dev nD) : (dats m 0 c).arrAt 2 cfg0.N
    = Cert.GateWReferenceIdeal.Read.val_main_v4 (m ((c : Thread nD τ).loc main_arg0)) (m ((c : Thread nD τ).loc main_arg1)) := by
  refine (dats m 0 c).arrAt_eq_of_covers 2 _ (by decide +kernel) fun t hf y => ?_
  have hl : t.val % 2 = 1 := (flush0_2 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_2, outsAt0_B m c t (by omega) hl hl]
  frame_out
  rw [pay3_at, pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u + v) (Fin.sum_fin_congr fun x => ?_) (Fin.sum_fin_congr fun x => ?_)
  · blk_point [iblk, V, e0, e1]
  · blk_point [iblk, V, e0, e1]
end Cert.GateWIdeal.Sums
end
-- ==== Proof.ProdGateX.lean ====
module

public import proofs.«01_k».proof.Proof.Gen.GateXIdeal.Value
public import proofs.«01_k».proof.Proof.Gen.GateXReferenceIdeal.Read
public import proofs.«01_k».proof.Proof.Gen.GateXReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.GateXIdeal.Sums
open Idealize.ShloMosaic Idealize.ShloMosaic.TcCoe Idealize.SL.Sem
open Cert.GateXIdeal Cert.GateXIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val / 4, t.val % 2] ∧ win0_1.index t = ![t.val / 2 % 2, t.val % 2]
    ∧ win0_2.index t = ![t.val / 4, t.val / 2 % 2] ∧ win0_3.index t = ![t.val / 4, t.val / 2 % 2] := (by decide +kernel : ∀ t : Fin grid0.N, _)

/-- The first block stored into the accumulator: the products of one pair of blocks, summed over the contracted rows or columns. -/
theorem pay1_at (a : Vec Ideal S1024x1024 .bf16) (b : Vec Ideal S1024x1024 .bf16) (j : S1024x1024.Idx) :
    k0_pay1 a b j = ∑ x : Fin 1024, a (ix2 (j 0) x) * b (ix2 (j 1) x) := by
  pointwise [k0_pay1]

/-- A later step adds the products of its pair of blocks to what the accumulator held. -/
theorem pay2_at (v : Vec Ideal S1024x1024 .f32) (a : Vec Ideal S1024x1024 .bf16) (b : Vec Ideal S1024x1024 .bf16)
    (j : S1024x1024.Idx) :
    k0_pay2 v a b j = v j + ∑ x : Fin 1024, a (ix2 (j 0) x) * b (ix2 (j 1) x) := by
  pointwise [k0_pay2]

/-- The last step adds the residual gradient to the accumulator. -/
theorem pay3_at (v : Vec Ideal S1024x1024 .f32) (p : Vec Ideal S1024x1024 .f32) (j : S1024x1024.Idx) :
    k0_pay3 v p j = p j + v j := by
  pointwise [k0_pay3]

/-- The plain reference at an index: the gradient of the gate times the transposed gate weight, plus the residual gradient, as one sum. -/
theorem ref_at (dg : FVec Ideal S2048x2048 .f32) (w : FVec Ideal S2048x2048 .f32) (du : FVec Ideal S2048x2048 .f32)
    (i : S2048x2048.Idx) :
    Cert.GateXReferenceIdeal.Read.val_main_v3 (F := Ideal) dg w du i
      = du i + ∑ k : Fin 2048, dg (ix2 (i 0) k) * w (ix2 (i 1) k) := by
  rw [← Cert.GateXReferenceIdeal.Read.val_main_v3_eq]
  pointwise

/-- When the call has ended, its result array is the reference's: the gradient of the gate times the transposed gate weight, plus the residual gradient. -/
theorem final (c : Dev nD) : (dats m 0 c).arrAt 3 cfg0.N
    = Cert.GateXReferenceIdeal.Read.val_main_v3 (m ((c : Thread nD τ).loc main_arg0)) (m ((c : Thread nD τ).loc main_arg1))
      (m ((c : Thread nD τ).loc main_arg2)) := by
  refine (dats m 0 c).arrAt_eq_of_covers 3 _ (by decide +kernel) fun t hf y => ?_
  have hl : t.val % 2 = 1 := (flush0_3 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_3, outsAt0_B m c t (by omega) hl hl]
  frame_out
  rw [pay3_at, pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 4 = t.val / 4 by omega,
    show (t.val - 1) / 2 = t.val / 2 by omega] at e1
  rw [hl] at e0
  refine congrArg₂ (fun u v : EReal => u + v) ?_ (congrArg₂ (fun u v : EReal => u + v)
    (Fin.sum_fin_congr fun x => ?_) (Fin.sum_fin_congr fun x => ?_))
  · blk_point [iblk, V, e0, e1]
  · blk_point [iblk, V, e0, e1]
  · blk_point [iblk, V, e0, e1]
end Cert.GateXIdeal.Sums
end
-- ==== Proof.ProdUp.lean ====
module

public import proofs.«01_k».proof.Proof.Gen.UpIdeal.Value
public import proofs.«01_k».proof.Proof.Gen.UpReferenceIdeal.Read
public import proofs.«01_k».proof.Proof.Gen.UpReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.UpIdeal.Sums
open Idealize.ShloMosaic Idealize.ShloMosaic.TcCoe Idealize.SL.Sem
open Cert.UpIdeal Cert.UpIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![0, t.val % 2] ∧ win0_1.index t = ![t.val / 2, t.val % 2, 0]
    ∧ win0_2.index t = ![0, t.val / 2] := (by decide +kernel : ∀ t : Fin grid0.N, _)

/-- The first block stored into the accumulator: the products of one pair of blocks, summed over the contracted rows or columns. -/
theorem pay1_at (a : Vec Ideal S2048x1024 .bf16) (b : Vec Ideal S1x1024x1024 .bf16) (j : S2048x1024.Idx) :
    k0_pay1 a b j = ∑ x : Fin 1024, a (ix2 (j 0) x) * b (ix3 0 x (j 1)) := by
  pointwise [k0_pay1]

/-- A later step adds the products of its pair of blocks to what the accumulator held. -/
theorem pay2_at (v : Vec Ideal S2048x1024 .f32) (a : Vec Ideal S2048x1024 .bf16) (b : Vec Ideal S1x1024x1024 .bf16)
    (j : S2048x1024.Idx) :
    k0_pay2 v a b j = v j + ∑ x : Fin 1024, a (ix2 (j 0) x) * b (ix3 0 x (j 1)) := by
  pointwise [k0_pay2]

/-- The last step stores the accumulator itself as the result block. -/
theorem pay3_at (v : Vec Ideal S2048x1024 .f32) (j : S2048x1024.Idx) :
    k0_pay3 v j = v j := by
  pointwise [k0_pay3]

/-- The plain reference at an index: the normalised stream times the first weight, as one sum. -/
theorem ref_at (h : FVec Ideal S2048x2048 .f32) (w1 : FVec Ideal S2048x8192 .f32)
    (i : S2048x8192.Idx) :
    Cert.UpReferenceIdeal.Read.val_main_v1 (F := Ideal) h w1 i
      = ∑ k : Fin 2048, h (ix2 (i 0) k) * w1 (ix2 k (i 1)) := by
  rw [← Cert.UpReferenceIdeal.Read.val_main_v1_eq]
  pointwise

/-- When the call has ended, its result array is the reference's: the normalised stream times the first weight. -/
theorem final (c : Dev nD) : (dats m 0 c).arrAt 2 cfg0.N
    = Cert.UpReferenceIdeal.Read.val_main_v1 (m ((c : Thread nD τ).loc main_arg0)) (m ((c : Thread nD τ).loc main_arg1)) := by
  refine (dats m 0 c).arrAt_eq_of_covers 2 _ (by decide +kernel) fun t hf y => ?_
  have hl : t.val % 2 = 1 := (flush0_2 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_2, outsAt0_B m c t (by omega) hl hl]
  frame_out
  rw [pay3_at, pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u + v) (Fin.sum_fin_congr fun x => ?_) (Fin.sum_fin_congr fun x => ?_)
  · blk_point [iblk, V, e0, e1]
  · blk_point [iblk, V, e0, e1]
end Cert.UpIdeal.Sums
end
-- ==== Proof.ProdDown.lean ====
module

public import proofs.«01_k».proof.Proof.Gen.DownIdeal.Value
public import proofs.«01_k».proof.Proof.Gen.DownReferenceIdeal.Read
public import proofs.«01_k».proof.Proof.Gen.DownReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.DownIdeal.Sums
open Idealize.ShloMosaic Idealize.ShloMosaic.TcCoe Idealize.SL.Sem
open Cert.DownIdeal Cert.DownIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val / 16, t.val % 8] ∧ win0_1.index t = ![t.val % 8, t.val / 8 % 2]
    ∧ win0_2.index t = ![t.val / 16, t.val / 8 % 2] ∧ win0_3.index t = ![t.val / 16, t.val / 8 % 2] := (by decide +kernel : ∀ t : Fin grid0.N, _)

/-- The first block stored into the accumulator: the products of one pair of blocks, summed over the contracted rows or columns. -/
theorem pay1_at (a : Vec Ideal S1024x1024 .bf16) (b : Vec Ideal S1024x1024 .bf16) (j : S1024x1024.Idx) :
    k0_pay1 a b j = 0 + ∑ x : Fin 1024, max (a (ix2 (j 0) x)) 0 * max (a (ix2 (j 0) x)) 0 * b (ix2 x (j 1)) := by
  rw [zero_add]
  pointwise [k0_pay1]

/-- A later step adds the products of its pair of blocks to what the accumulator held. -/
theorem pay2_at (v : Vec Ideal S1024x1024 .f32) (a : Vec Ideal S1024x1024 .bf16) (b : Vec Ideal S1024x1024 .bf16)
    (j : S1024x1024.Idx) :
    k0_pay2 v a b j = v j + ∑ x : Fin 1024, max (a (ix2 (j 0) x)) 0 * max (a (ix2 (j 0) x)) 0 * b (ix2 x (j 1)) := by
  pointwise [k0_pay2]

/-- The last step adds the scaled residual stream to the accumulator. -/
theorem pay3_at (v : Vec Ideal S1024x1024 .f32) (p : Vec Ideal S1024x1024 .f32) (j : S1024x1024.Idx) :
    k0_pay3 v p j = Ideal.ofBits .f32 0x3FB504F3#32 * p j + v j := by
  pointwise [k0_pay3]

/-- The plain reference at an index: the squared positive part of the hidden values times the second weight, plus the scaled residual stream, as one sum. -/
theorem ref_at (pre : FVec Ideal S2048x8192 .f32) (w2 : FVec Ideal S8192x2048 .f32) (u : FVec Ideal S2048x2048 .f32)
    (i : S2048x2048.Idx) :
    Cert.DownReferenceIdeal.Read.val_main_v5 (F := Ideal) pre w2 u i
      = Ideal.ofBits .f32 0x3FB504F3#32 * u i + ∑ k : Fin 8192, max (pre (ix2 (i 0) k)) 0 * max (pre (ix2 (i 0) k)) 0 * w2 (ix2 k (i 1)) := by
  rw [← Cert.DownReferenceIdeal.Read.val_main_v5_eq]
  pointwise

/-- When the call has ended, its result array is the reference's: the squared positive part of the hidden values times the second weight, plus the scaled residual stream. -/
theorem final (c : Dev nD) : (dats m 0 c).arrAt 3 cfg0.N
    = Cert.DownReferenceIdeal.Read.val_main_v5 (m ((c : Thread nD τ).loc main_arg0)) (m ((c : Thread nD τ).loc main_arg1))
      (m ((c : Thread nD τ).loc main_arg2)) := by
  refine (dats m 0 c).arrAt_eq_of_covers 3 _ (by decide +kernel) fun t hf y => ?_
  have hl : t.val % 8 = 7 := (flush0_3 t).mp hf
  have last (j) : (outsAt0 m c t.val t.isLt).1 j = k0_pay3 (F := Ideal) (outsAt0 m c t.val t.isLt).2 (iblk m c 2 t) j := by
    rw [outsAt0_C m c t (by omega) (by omega) hl]
    frame_out
  blk_simp
  rw [after0_3, last, pay3_at, Pipeline.eq_sum_fin_of_reset_step_apply_of_flush (fun n h => (outsAt0 m c n h).2) 8 (fun _ => 0) _
    (fun t h j => by rw [outsAt0_A m c t h (by omega) (by omega)]; frame_out; rw [pay1_at])
    (fun t h j => by
      by_cases h' : t.val % 8 = 7
      · rw [outsAt0_C m c t h (by omega) h']; frame_out; rw [pay2_at, read_unread_whole]
      · rw [outsAt0_B m c t h (by omega) h']; frame_out; rw [pay2_at, read_unread_whole])
    t hl _, zero_add, ref_at]
  refine congrArg₂ (fun u v : EReal => u + v) ?_ (Fin.sum_mul_add_congr fun s k hk => ?_)
  · blk_point [iblk, V, index_val t]
  · blk_point [iblk, V, index_val t, index_val ⟨_, Pipeline.run_point_lt_of_flush t hl s⟩]
end Cert.DownIdeal.Sums
end
-- ==== Proof.ProdIn.lean ====
module

public import proofs.«01_k».proof.Proof.Gen.InIdeal.Value
public import proofs.«01_k».proof.Proof.Gen.InReferenceIdeal.Read
public import proofs.«01_k».proof.Proof.Gen.InReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.InIdeal.Sums
open Idealize.ShloMosaic Idealize.ShloMosaic.TcCoe Idealize.SL.Sem
open Cert.InIdeal Cert.InIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![0, t.val % 2] ∧ win0_1.index t = ![t.val / 2, t.val % 2]
    ∧ win0_2.index t = ![0, t.val / 2] := (by decide +kernel : ∀ t : Fin grid0.N, _)

/-- The weight as the call receives it is the weight transposed. -/
theorem weight_at (c : Dev nD) (i : S10304x2048.Idx) :
    V m c main_v1 i = m ((c : Thread nD τ).loc main_arg1) (ix2 (i 1) (i 0)) := by
  entry_read
  pointwise

/-- The window's blocks never reach past the weight's end, so what it holds is a block of the transposed weight, element for element. -/
theorem block_at (c : Dev nD) (t : Fin cfg0.N) (j : S1024x1024.Idx) : X0_1 m c t j
    = m ((c : Thread nD τ).loc main_arg1) (ix2
      (((cfg0.win 1).blk t).view.emb (fun a => ⟨(j a).val, ((cfg0.win 1).moved_iff _ j).mp (moved0_1 t j) a⟩) 1)
      (((cfg0.win 1).blk t).view.emb (fun a => ⟨(j a).val, ((cfg0.win 1).moved_iff _ j).mp (moved0_1 t j) a⟩) 0)) := by
  unfold X0_1 Pipeline.Window.fill
  rw [dif_pos (moved0_1 t j)]
  exact weight_at m c _

/-- The first block stored into the accumulator: the products of one pair of blocks, summed over the contracted rows or columns. -/
theorem pay1_at (a : Vec Ideal S2048x1024 .bf16) (b : Vec Ideal S1024x1024 .bf16) (j : S2048x1024.Idx) :
    k0_pay1 a b j = ∑ x : Fin 1024, a (ix2 (j 0) x) * b (ix2 (j 1) x) := by
  pointwise [k0_pay1]

/-- A later step adds the products of its pair of blocks to what the accumulator held. -/
theorem pay2_at (v : Vec Ideal S2048x1024 .f32) (a : Vec Ideal S2048x1024 .bf16) (b : Vec Ideal S1024x1024 .bf16)
    (j : S2048x1024.Idx) :
    k0_pay2 v a b j = v j + ∑ x : Fin 1024, a (ix2 (j 0) x) * b (ix2 (j 1) x) := by
  pointwise [k0_pay2]

/-- The plain reference at an index: the normalised stream times the input projection, its first columns, as one sum. -/
theorem ref_at (h : FVec Ideal S2048x2048 .f32) (w : FVec Ideal S2048x10304 .f32)
    (i : S2048x10240.Idx) :
    Cert.InReferenceIdeal.Read.val_main_v1 (F := Ideal) h w i
      = ∑ k : Fin 2048, h (ix2 (i 0) k) * w (ix2 k ⟨(i 1).val, lt_trans (i 1).isLt (by decide)⟩) := by
  rw [← Cert.InReferenceIdeal.Read.val_main_v1_eq]
  pointwise

/-- When the call has ended, its result array is the reference's: the normalised stream times the input projection, its first columns. -/
theorem final (c : Dev nD) : (dats m 0 c).arrAt 2 cfg0.N
    = Cert.InReferenceIdeal.Read.val_main_v1 (m ((c : Thread nD τ).loc main_arg0)) (m ((c : Thread nD τ).loc main_arg1)) := by
  refine (dats m 0 c).arrAt_eq_of_covers 2 _ (by decide +kernel) fun t hf y => ?_
  have hl : t.val % 2 = 1 := (flush0_2 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (X0_1 m c ⟨t.val - 1, hb⟩) j := by
    rw [outsAt0_A m c ⟨t.val - 1, hb⟩ (by dsimp only; omega) (by dsimp only; omega) (by dsimp only; omega)]
    frame_out
  blk_simp
  rw [after0_2, outsAt0_B m c t (by omega) hl hl]
  frame_out
  rw [pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u + v) (Fin.sum_fin_congr fun x => ?_) (Fin.sum_fin_congr fun x => ?_)
  · rw [block_at]
    blk_point [iblk, V, e0, e1]
  · rw [block_at]
    blk_point [iblk, V, e0, e1]
end Cert.InIdeal.Sums
end
-- ==== Proof.ProdOut.lean ====
module

public import proofs.«01_k».proof.Proof.Gen.OutIdeal.Value
public import proofs.«01_k».proof.Proof.Gen.OutReferenceIdeal.Read
public import proofs.«01_k».proof.Proof.Gen.OutReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.OutIdeal.Sums
open Idealize.ShloMosaic Idealize.ShloMosaic.TcCoe Idealize.SL.Sem
open Cert.OutIdeal Cert.OutIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] := (by decide +kernel : ∀ t : Fin grid0.N, _)

/-- The first block stored into the accumulator: the products of one pair of blocks, summed over the contracted rows or columns. -/
theorem pay1_at (a : Vec Ideal S1024x1024 .bf16) (b : Vec Ideal S1024x1024 .bf16) (j : S1024x1024.Idx) :
    k0_pay1 a b j = 0 + ∑ x : Fin 1024, a (ix2 (j 0) x) * b (ix2 x (j 1)) := by
  rw [zero_add]
  pointwise [k0_pay1]

/-- A later step adds the products of its pair of blocks to what the accumulator held. -/
theorem pay2_at (v : Vec Ideal S1024x1024 .f32) (a : Vec Ideal S1024x1024 .bf16) (b : Vec Ideal S1024x1024 .bf16)
    (j : S1024x1024.Idx) :
    k0_pay2 v a b j = v j + ∑ x : Fin 1024, a (ix2 (j 0) x) * b (ix2 x (j 1)) := by
  pointwise [k0_pay2]

/-- The last step adds the scaled residual stream to the accumulator. -/
theorem pay3_at (v : Vec Ideal S1024x1024 .f32) (p : Vec Ideal S1024x1024 .f32) (j : S1024x1024.Idx) :
    k0_pay3 v p j = Ideal.ofBits .f32 0x3FB504F3#32 * p j + v j := by
  pointwise [k0_pay3]

/-- The plain reference at an index: the gated scan output times the output projection, plus the scaled residual stream, as one sum. -/
theorem ref_at (y : FVec Ideal S2048x4096 .f32) (w : FVec Ideal S4096x2048 .f32) (u : FVec Ideal S2048x2048 .f32)
    (i : S2048x2048.Idx) :
    Cert.OutReferenceIdeal.Read.val_main_v3 (F := Ideal) y w u i
      = Ideal.ofBits .f32 0x3FB504F3#32 * u i + ∑ k : Fin 4096, y (ix2 (i 0) k) * w (ix2 k (i 1)) := by
  rw [← Cert.OutReferenceIdeal.Read.val_main_v3_eq]
  pointwise

/-- When the call has ended, its result array is the reference's: the gated scan output times the output projection, plus the scaled residual stream. -/
theorem final (c : Dev nD) : (dats m 0 c).arrAt 3 cfg0.N
    = Cert.OutReferenceIdeal.Read.val_main_v3 (m ((c : Thread nD τ).loc main_arg0)) (m ((c : Thread nD τ).loc main_arg1))
      (m ((c : Thread nD τ).loc main_arg2)) := by
  refine (dats m 0 c).arrAt_eq_of_covers 3 _ (by decide +kernel) fun t hf y => ?_
  have hl : t.val % 4 = 3 := (flush0_3 t).mp hf
  have last (j) : (outsAt0 m c t.val t.isLt).1 j = k0_pay3 (F := Ideal) (outsAt0 m c t.val t.isLt).2 (iblk m c 2 t) j := by
    rw [outsAt0_C m c t (by omega) (by omega) hl]
    frame_out
  blk_simp
  rw [after0_3, last, pay3_at, Pipeline.eq_sum_fin_of_reset_step_apply_of_flush (fun n h => (outsAt0 m c n h).2) 4 (fun _ => 0) _
    (fun t h j => by rw [outsAt0_A m c t h (by omega) (by omega)]; frame_out; rw [pay1_at])
    (fun t h j => by
      by_cases h' : t.val % 4 = 3
      · rw [outsAt0_C m c t h (by omega) h']; frame_out; rw [pay2_at, read_unread_whole]
      · rw [outsAt0_B m c t h (by omega) h']; frame_out; rw [pay2_at, read_unread_whole])
    t hl _, zero_add, ref_at]
  refine congrArg₂ (fun u v : EReal => u + v) ?_ (Fin.sum_mul_add_congr fun s k hk => ?_)
  · blk_point [iblk, V, index_val t]
  · blk_point [iblk, V, index_val t, index_val ⟨_, Pipeline.run_point_lt_of_flush t hl s⟩]
end Cert.OutIdeal.Sums
end
-- ==== Proof.ProdGate.lean ====
module

public import proofs.«01_k».proof.Proof.Gen.GateIdeal.Value
public import proofs.«01_k».proof.Proof.Gen.GateReferenceIdeal.Read
public import proofs.«01_k».proof.Proof.Gen.GateReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.GateIdeal.Sums
open Idealize.ShloMosaic Idealize.ShloMosaic.TcCoe Idealize.SL.Sem
open Cert.GateIdeal Cert.GateIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2]
    ∧ win0_4.index t = ![t.val / 4, t.val / 2 % 2] ∧ win0_5.index t = ![t.val / 4, t.val / 2 % 2]
    ∧ win0_6.index t = ![t.val / 4, t.val / 2 % 2] := (by decide +kernel : ∀ t : Fin grid0.N, _)

/-- The first block stored into the accumulator: the products of one pair of blocks, summed over the contracted rows or columns. -/
theorem pay1_at (a : Vec Ideal S512x1024 .bf16) (b : Vec Ideal S1024x1024 .bf16) (j : S512x1024.Idx) :
    k0_pay1 a b j = ∑ x : Fin 1024, a (ix2 (j 0) x) * b (ix2 x (j 1)) := by
  pointwise [k0_pay1]

/-- A later step adds the products of its pair of blocks to what the accumulator held. -/
theorem pay2_at (v : Vec Ideal S512x1024 .f32) (a : Vec Ideal S512x1024 .bf16) (b : Vec Ideal S1024x1024 .bf16)
    (j : S512x1024.Idx) :
    k0_pay2 v a b j = v j + ∑ x : Fin 1024, a (ix2 (j 0) x) * b (ix2 x (j 1)) := by
  pointwise [k0_pay2]

/-- The gate: the logistic function of the accumulator. -/
theorem pay3_at (v : Vec Ideal S512x1024 .f32) (j : S512x1024.Idx) :
    k0_pay3 v j = Ideal.div 1 (1 + Ideal.exp (-v j)) := by
  pointwise [k0_pay3]
  rw [zero_sub]

/-- The new stream: the stream plus the gate times the layer's input embedding. -/
theorem pay4_at (v y e : Vec Ideal S512x1024 .f32) (j : S512x1024.Idx) :
    k0_pay4 v y e j = y j + Ideal.div 1 (1 + Ideal.exp (-v j)) * e j := by
  pointwise [k0_pay4]
  rw [pay3_at]

/-- The rounded copy of the new stream holds the same numbers. -/
theorem pay5_at (v y e : Vec Ideal S512x1024 .f32) (j : S512x1024.Idx) :
    k0_pay5 v y e j = y j + Ideal.div 1 (1 + Ideal.exp (-v j)) * e j := by
  pointwise [k0_pay5]
  rw [pay4_at]

/-- One row of the first array times one column of the second. -/
def dot (y w : FVec Ideal S2048x2048 .f32) (i : S2048x2048.Idx) : EReal := ∑ k : Fin 2048, y (ix2 (i 0) k) * w (ix2 k (i 1))

/-- The reference's new stream at an index. -/
theorem ref8_at (y w e : FVec Ideal S2048x2048 .f32) (i : S2048x2048.Idx) :
    Cert.GateReferenceIdeal.Read.val_main_v8 (F := Ideal) y w e i
      = y i + Ideal.div 1 (1 + Ideal.exp (-dot y w i)) * e i := by
  rw [← Cert.GateReferenceIdeal.Read.val_main_v8_eq]
  pointwise [dot]

/-- The reference's gate at an index. -/
theorem ref6_at (y w : FVec Ideal S2048x2048 .f32) (i : S2048x2048.Idx) :
    Cert.GateReferenceIdeal.Read.val_main_v6 (F := Ideal) y w i
      = Ideal.div 1 (1 + Ideal.exp (-dot y w i)) := by
  rw [← Cert.GateReferenceIdeal.Read.val_main_v6_eq]
  pointwise [dot]

/-- The reference's rounded copy of the new stream at an index. -/
theorem ref9_at (y w e : FVec Ideal S2048x2048 .f32) (i : S2048x2048.Idx) :
    Cert.GateReferenceIdeal.Read.val_main_v9 (F := Ideal) y w e i
      = y i + Ideal.div 1 (1 + Ideal.exp (-dot y w i)) * e i := by
  rw [← Cert.GateReferenceIdeal.Read.val_main_v9_eq]
  pointwise [dot]

/-- The two steps of a block sum the products over all contracted columns. -/
theorem sum_at (c : Dev nD) (t : Fin cfg0.N) (hl : t.val % 2 = 1) (hb : t.val - 1 < cfg0.N) (y : S512x1024.Idx)
    (i : S2048x2048.Idx) (h0 : (i 0).val = t.val / 4 * 512 + (y 0).val) (h1 : (i 1).val = t.val / 2 % 2 * 1024 + (y 1).val) :
    k0_pay2 (F := Ideal) (k0_pay1 (F := Ideal) (iblk m c 0 ⟨t.val - 1, hb⟩) (iblk m c 1 ⟨t.val - 1, hb⟩)) (iblk m c 0 t) (iblk m c 1 t) y
      = dot (m ((c : Thread nD τ).loc main_arg0)) (m ((c : Thread nD τ).loc main_arg1)) i := by
  rw [pay2_at, pay1_at, dot]
  rw [Fin.sum_univ_two_halves 1024 1024 rfl]
  have e0 := index_val t
  have e1 := index_val ⟨t.val - 1, hb⟩
  dsimp only at e1
  rw [show (t.val - 1) % 2 = 0 by omega, show (t.val - 1) / 4 = t.val / 4 by omega,
    show (t.val - 1) / 2 = t.val / 2 by omega] at e1
  rw [hl] at e0
  refine congrArg₂ (fun u v : EReal => u + v) (Fin.sum_fin_congr fun x => ?_) (Fin.sum_fin_congr fun x => ?_)
  · blk_point [iblk, V, e0, e1]
  · blk_point [iblk, V, e0, e1]

/-- When the call has ended, its first result is the new stream. -/
theorem final_stream (c : Dev nD) : (dats m 0 c).arrAt 4 cfg0.N
    = Cert.GateReferenceIdeal.Read.val_main_v8 (m ((c : Thread nD τ).loc main_arg0)) (m ((c : Thread nD τ).loc main_arg1))
      (m ((c : Thread nD τ).loc main_arg2)) := by
  refine (dats m 0 c).arrAt_eq_of_covers 4 _ (by decide +kernel) fun t hf y => ?_
  have hl : t.val % 2 = 1 := (flush0_4 t).mp hf
  have hb : t.val - 1 < cfg0.N := Nat.lt_of_le_of_lt (Nat.sub_le _ _) t.isLt
  have first (j) : (outsAt0 m c (t.val - 1) hb).2.2.2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_4, outsAt0_B m c t (by omega) hl hl]
  frame_out
  have total := sum_at m c t hl hb y (((View.whole main_v4_0).slice (win0_4.rect t)).emb y) (by blk_simp [index_val t]) (by blk_simp [index_val t])
  rw [pay2_at, pay1_at] at total
  rw [pay4_at, pay2_at, read_unread_whole, first, pay1_at, ref8_at,
    total]
  blk_point [iblk, V, index_val t]

/-- When the call has ended, its second result is the gate. -/
theorem final_gate (c : Dev nD) : (dats m 0 c).arrAt 5 cfg0.N
    = Cert.GateReferenceIdeal.Read.val_main_v6 (m ((c : Thread nD τ).loc main_arg0)) (m ((c : Thread nD τ).loc main_arg1)) := by
  refine (dats m 0 c).arrAt_eq_of_covers 5 _ (by decide +kernel) fun t hf y => ?_
  have hl : t.val % 2 = 1 := (flush0_5 t).mp hf
  have hb : t.val - 1 < cfg0.N := Nat.lt_of_le_of_lt (Nat.sub_le _ _) t.isLt
  have first (j) : (outsAt0 m c (t.val - 1) hb).2.2.2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_5, outsAt0_B m c t (by omega) hl hl]
  frame_out
  have total := sum_at m c t hl hb y (((View.whole main_v4_1).slice (win0_5.rect t)).emb y) (by blk_simp [index_val t]) (by blk_simp [index_val t])
  rw [pay2_at, pay1_at] at total
  rw [pay3_at, pay2_at, read_unread_whole, first, pay1_at, ref6_at,
    total]

/-- When the call has ended, its third result is the rounded copy of the new stream. -/
theorem final_rounded (c : Dev nD) : (dats m 0 c).arrAt 6 cfg0.N
    = Cert.GateReferenceIdeal.Read.val_main_v9 (m ((c : Thread nD τ).loc main_arg0)) (m ((c : Thread nD τ).loc main_arg1))
      (m ((c : Thread nD τ).loc main_arg2)) := by
  refine (dats m 0 c).arrAt_eq_of_covers 6 _ (by decide +kernel) fun t hf y => ?_
  have hl : t.val % 2 = 1 := (flush0_6 t).mp hf
  have hb : t.val - 1 < cfg0.N := Nat.lt_of_le_of_lt (Nat.sub_le _ _) t.isLt
  have first (j) : (outsAt0 m c (t.val - 1) hb).2.2.2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_6, outsAt0_B m c t (by omega) hl hl]
  frame_out
  have total := sum_at m c t hl hb y (((View.whole main_v4_2).slice (win0_6.rect t)).emb y) (by blk_simp [index_val t]) (by blk_simp [index_val t])
  rw [pay2_at, pay1_at] at total
  rw [pay5_at, pay2_at, read_unread_whole, first, pay1_at, ref9_at,
    total]
  blk_point [iblk, V, index_val t]
end Cert.GateIdeal.Sums
end
-- ==== Proof.ProdPle.lean ====
module

public import proofs.«01_k».proof.Proof.Gen.PleIdeal.Value
public import proofs.«01_k».proof.Proof.Gen.PleReferenceIdeal.Read
public import proofs.«01_k».proof.Proof.Gen.PleReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.PleIdeal.Sums
open Idealize.ShloMosaic Idealize.ShloMosaic.TcCoe Idealize.SL.Sem
open Cert.PleIdeal Cert.PleIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![0, 0] ∧ win0_1.index t = ![t.val, 0, 0]
    ∧ win0_2.index t = ![0, t.val] := (by decide +kernel : ∀ t : Fin grid0.N, _)

/-- The block a step stores: the products of its pair of blocks, summed. -/
theorem pay1_at (a : Vec Ideal S2048x256 .bf16) (b : Vec Ideal S1x256x256 .bf16) (j : S2048x256.Idx) :
    k0_pay1 a b j = ∑ x : Fin 256, a (ix2 (j 0) x) * b (ix3 0 x (j 1)) := by
  pointwise [k0_pay1]

/-- The plain reference at an index: the layer input times its projection, as one sum. -/
theorem ref_at (p : FVec Ideal S2048x256 .f32) (w : FVec Ideal S256x2048 .f32) (i : S2048x2048.Idx) :
    Cert.PleReferenceIdeal.Read.val_main_v0 (F := Ideal) p w i = ∑ k : Fin 256, p (ix2 (i 0) k) * w (ix2 k (i 1)) := by
  rw [← Cert.PleReferenceIdeal.Read.val_main_v0_eq]
  pointwise

/-- When the call has ended, its result array is the reference's: the layer input times its projection. -/
theorem final (c : Dev nD) : (dats m 0 c).arrAt 2 cfg0.N
    = Cert.PleReferenceIdeal.Read.val_main_v0 (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay1_at, ref_at]
  refine Fin.sum_fin_congr fun x => ?_
  blk_point [iblk, V, index_val t]
end Cert.PleIdeal.Sums
end
-- ==== Proof.ProdPleW.lean ====
module

public import proofs.«01_k».proof.Proof.Gen.PleWIdeal.Value
public import proofs.«01_k».proof.Proof.Gen.PleWReferenceIdeal.Read
public import proofs.«01_k».proof.Proof.Gen.PleWReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.PleWIdeal.Sums
open Idealize.ShloMosaic Idealize.ShloMosaic.TcCoe Idealize.SL.Sem
open Cert.PleWIdeal Cert.PleWIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val % 2, 0] ∧ win0_1.index t = ![t.val % 2, t.val / 2]
    ∧ win0_2.index t = ![t.val / 2, 0, 0] := (by decide +kernel : ∀ t : Fin grid0.N, _)

/-- The first block stored into the accumulator: the products of one pair of blocks, summed over the contracted rows. -/
theorem pay1_at (a : Vec Ideal S1024x256 .bf16) (b : Vec Ideal S1024x256 .bf16) (j : S256x256.Idx) :
    k0_pay1 a b j = ∑ x : Fin 1024, a (ix2 x (j 0)) * b (ix2 x (j 1)) := by
  pointwise [k0_pay1]

/-- A later step adds the products of its pair of blocks to what the accumulator held. -/
theorem pay2_at (v : Vec Ideal S256x256 .f32) (a : Vec Ideal S1024x256 .bf16) (b : Vec Ideal S1024x256 .bf16)
    (j : S256x256.Idx) :
    k0_pay2 v a b j = v j + ∑ x : Fin 1024, a (ix2 x (j 0)) * b (ix2 x (j 1)) := by
  pointwise [k0_pay2]

/-- The last step stores the accumulator as one slot of the result. -/
theorem pay3_at (v : Vec Ideal S256x256 .f32) (j : S1x256x256.Idx) : k0_pay3 v j = v (ix2 (j 1) (j 2)) := by
  pointwise [k0_pay3]

/-- The plain reference at an index: the transposed layer input times the gradient of its projection, one column block per slot, as one sum. -/
theorem ref_at (p : FVec Ideal S2048x256 .f32) (de : FVec Ideal S2048x2048 .f32) (i : S8x256x256.Idx) :
    Cert.PleWReferenceIdeal.Read.val_main_v6 (F := Ideal) p de i
      = ∑ k : Fin 2048, p (ix2 k (i 1)) * de (ix2 k ⟨(i 0).val * 256 + (i 2).val, by
        have h0 : (i 0).val < 8 := (i 0).isLt; have h2 : (i 2).val < 256 := (i 2).isLt; omega⟩) := by
  rw [← Cert.PleWReferenceIdeal.Read.val_main_v6_eq]
  pointwise
  exact Finset.sum_congr rfl fun x _ => mul_comm _ _

/-- When the call has ended, its result array is the reference's: the transposed layer input times the gradient of its projection, one column block per slot. -/
theorem final (c : Dev nD) : (dats m 0 c).arrAt 2 cfg0.N
    = Cert.PleWReferenceIdeal.Read.val_main_v6 (m ((c : Thread nD τ).loc main_arg0)) (m ((c : Thread nD τ).loc main_arg1)) := by
  refine (dats m 0 c).arrAt_eq_of_covers 2 _ (by decide +kernel) fun t hf y => ?_
  have hl : t.val % 2 = 1 := (flush0_2 t).mp hf
  have hb : t.val - 1 < cfg0.N := Nat.lt_of_le_of_lt (Nat.sub_le _ _) t.isLt
  have first (j) : (outsAt0 m c (t.val - 1) hb).2 j
      = k0_pay1 (F := Ideal) (iblk m c 0 ⟨t.val - 1, hb⟩) (iblk m c 1 ⟨t.val - 1, hb⟩) j := by
    rw [outsAt0_A m c ⟨t.val - 1, hb⟩ (by dsimp only; omega) (by dsimp only; omega) (by dsimp only; omega)]
    frame_out
  blk_simp
  rw [after0_2, outsAt0_B m c t (by omega) hl hl]
  frame_out
  rw [pay3_at, pay2_at, read_unread_whole, first, pay1_at, ref_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u + v) (Fin.sum_fin_congr fun x => ?_) (Fin.sum_fin_congr fun x => ?_)
  · blk_point [iblk, V, e0, e1]
  · blk_point [iblk, V, e0, e1]
end Cert.PleWIdeal.Sums
end
-- ==== Proof.ProdPool.lean ====
module

public import proofs.«01_k».proof.Proof.Gen.PoolIdeal.Value
public import proofs.«01_k».proof.Proof.Gen.PoolReferenceIdeal.Read
public import proofs.«01_k».proof.Proof.Gen.PoolReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.PoolIdeal.Sums
open Idealize.ShloMosaic Idealize.ShloMosaic.TcCoe Idealize.SL.Sem
open Cert.PoolIdeal Cert.PoolIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val % 2, t.val / 2] ∧ win0_1.index t = ![t.val / 2, 0, 0]
    ∧ win0_2.index t = ![0, t.val / 2] ∧ win0_3.index t = ![t.val % 2, t.val / 2] ∧ win0_4.index t = ![t.val % 2, t.val / 2]
    ∧ win0_5.index t = ![t.val % 2, t.val / 2] := (by decide +kernel : ∀ t : Fin grid0.N, _)

/-- The block of one group: the products of the pooled values and the group's map, summed. -/
theorem pay1_at (a : Vec Ideal S1024x512 .bf16) (b : Vec Ideal S1x512x512 .bf16) (j : S1024x512.Idx) :
    k0_pay1 a b j = ∑ x : Fin 512, a (ix2 (j 0) x) * b (ix3 0 x (j 1)) := by
  pointwise [k0_pay1]

/-- The mixed block: the scaled stream plus the mapped values times the channel's scale. -/
theorem pay2_at (a : Vec Ideal S1024x512 .bf16) (b : Vec Ideal S1x512x512 .bf16) (x : Vec Ideal S1024x512 .f32)
    (s : Vec Ideal S1x512 .f32) (j : S1024x512.Idx) :
    k0_pay2 a b x s j = Ideal.ofBits .f32 0x3FB504F3#32 * x j
      + (∑ x : Fin 512, a (ix2 (j 0) x) * b (ix3 0 x (j 1))) * s (ix2 0 (j 1)) := by
  pointwise [k0_pay2]
  rw [pay1_at]

/-- The reference's mapped values, for a row and a column of one group. -/
theorem ref3_at (q : FVec Ideal S2048x2048 .f32) (w : FVec Ideal S4x512x512 .f32) (i : S2048x2048.Idx) (g : Fin 4)
    (d : Fin 512) (h : (i 1).val = g.val * 512 + d.val) :
    Cert.PoolReferenceIdeal.Read.val_main_v3 (F := Ideal) q w i
      = ∑ x : Fin 512, q (ix2 (i 0) ⟨g.val * 512 + x.val, by omega⟩) * w (ix3 g x d) := by
  rw [← Cert.PoolReferenceIdeal.Read.val_main_v3_eq]
  pointwise
  have hg : (i 1).val / 512 = g.val := by omega
  have hd : (i 1).val % 512 = d.val := by omega
  refine Finset.sum_congr rfl fun x _ => ?_
  simp only [hg, hd]
  exact mul_comm _ _

/-- The reference's mixed stream, for a row and a column of one group. -/
theorem ref8_at (q : FVec Ideal S2048x2048 .f32) (w : FVec Ideal S4x512x512 .f32) (s : FVec Ideal S1x2048 .f32)
    (x : FVec Ideal S2048x2048 .f32) (i : S2048x2048.Idx) (g : Fin 4) (d : Fin 512) (h : (i 1).val = g.val * 512 + d.val) :
    Cert.PoolReferenceIdeal.Read.val_main_v8 (F := Ideal) q w s x i = Ideal.ofBits .f32 0x3FB504F3#32 * x i
      + (∑ x : Fin 512, q (ix2 (i 0) ⟨g.val * 512 + x.val, by omega⟩) * w (ix3 g x d)) * s (ix2 0 (i 1)) := by
  rw [← ref3_at q w i g d h, ← Cert.PoolReferenceIdeal.Read.val_main_v3_eq, ← Cert.PoolReferenceIdeal.Read.val_main_v8_eq]
  pointwise

/-- When the call has ended, its first result is the mixed stream. -/
theorem final_stream (c : Dev nD) : (dats m 0 c).arrAt 4 cfg0.N
    = Cert.PoolReferenceIdeal.Read.val_main_v8 (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have ht : t.val / 2 < 4 := by have : t.val < 8 := t.isLt; omega
  blk_simp
  rw [after0_4]
  frame_out
  rw [pay2_at, ref8_at _ _ _ _ _ ⟨t.val / 2, ht⟩ (y 1) (by blk_simp [index_val t])]
  refine congrArg₂ (fun u v : EReal => u + v) ?_ (congrArg₂ (fun u v : EReal => u * v) (Fin.sum_fin_congr fun x => ?_) ?_)
  · blk_point [iblk, V, index_val t]
  · blk_point [iblk, V, index_val t]
  · blk_point [iblk, V, index_val t]

/-- When the call has ended, its second result is the mapped values. -/
theorem final_mapped (c : Dev nD) : (dats m 0 c).arrAt 5 cfg0.N
    = Cert.PoolReferenceIdeal.Read.val_main_v3 (m ((c : Thread nD τ).loc main_arg0)) (m ((c : Thread nD τ).loc main_arg1)) := by
  refine (dats m 0 c).arrAt_eq_of_covers 5 _ (by decide +kernel) fun t hf y => ?_
  have ht : t.val / 2 < 4 := by have : t.val < 8 := t.isLt; omega
  blk_simp
  rw [after0_5]
  frame_out
  rw [pay1_at, ref3_at _ _ _ ⟨t.val / 2, ht⟩ (y 1) (by blk_simp [index_val t])]
  refine Fin.sum_fin_congr fun x => ?_
  blk_point [iblk, V, index_val t]
end Cert.PoolIdeal.Sums
end
-- ==== Proof.ProdPoolX.lean ====
module

public import proofs.«01_k».proof.Proof.Gen.PoolXIdeal.Value
public import proofs.«01_k».proof.Proof.Gen.PoolXReferenceIdeal.Read
public import proofs.«01_k».proof.Proof.Gen.PoolXReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.PoolXIdeal.Sums
open Idealize.ShloMosaic Idealize.ShloMosaic.TcCoe Idealize.SL.Sem
open Cert.PoolXIdeal Cert.PoolXIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val % 2, t.val / 2] ∧ win0_1.index t = ![t.val % 2, t.val / 2]
    ∧ win0_2.index t = ![t.val / 2, 0, 0] ∧ win0_3.index t = ![0, t.val / 2] ∧ win0_4.index t = ![t.val % 2, t.val / 2]
    ∧ win0_5.index t = ![t.val % 2, t.val / 2] ∧ win0_6.index t = ![0, t.val / 2] := (by decide +kernel : ∀ t : Fin grid0.N, _)

/-- The gradient of the scale begins at zero. -/
theorem pay1_at (j : S1x512.Idx) : k0_pay1 (F := Ideal) j = 0 := by
  pointwise [k0_pay1]

/-- A step adds to the gradient of the scale the products of the incoming gradient and the mapped values, summed over its rows. -/
theorem pay2_at (a : Vec Ideal S1024x512 .f32) (s : Vec Ideal S1x512 .f32) (h : Vec Ideal S1024x512 .f32) (j : S1x512.Idx) :
    k0_pay2 a s h j = s j + ∑ x : Fin 1024, a (ix2 x (j 1)) * h (ix2 x (j 1)) := by
  pointwise [k0_pay2]

/-- The gradient of the mapped values: the incoming gradient times the channel's scale. -/
theorem pay3_at (a : Vec Ideal S1024x512 .f32) (s : Vec Ideal S1x512 .f32) (j : S1024x512.Idx) :
    k0_pay3 a s j = a j * s (ix2 0 (j 1)) := by
  pointwise [k0_pay3]

/-- The gradient of the pooled values: the gradient of the mapped values times the group's transposed map. -/
theorem pay4_at (a : Vec Ideal S1024x512 .f32) (s : Vec Ideal S1x512 .f32) (b : Vec Ideal S1x512x512 .bf16)
    (j : S1024x512.Idx) :
    k0_pay4 a s b j = ∑ x : Fin 512, a (ix2 (j 0) x) * s (ix2 0 x) * b (ix3 0 (j 1) x) := by
  pointwise [k0_pay4]
  exact Finset.sum_congr rfl fun x _ => by rw [pay3_at]; rfl

/-- The reference's gradient of the mapped values at an index. -/
theorem ref17_at (u : FVec Ideal S2048x2048 .f32) (s : FVec Ideal S1x2048 .f32) (i : S2048x2048.Idx) :
    Cert.PoolXReferenceIdeal.Read.val_main_v17 (F := Ideal) u s i = u i * s (ix2 0 (i 1)) := by
  rw [← Cert.PoolXReferenceIdeal.Read.val_main_v17_eq]
  pointwise

/-- The reference's gradient of the pooled values, for a row and a column of one group. -/
theorem ref16_at (u : FVec Ideal S2048x2048 .f32) (w : FVec Ideal S4x512x512 .f32) (s : FVec Ideal S1x2048 .f32)
    (i : S2048x2048.Idx) (g : Fin 4) (d : Fin 512) (h : (i 1).val = g.val * 512 + d.val) :
    Cert.PoolXReferenceIdeal.Read.val_main_v16 (F := Ideal) u w s i
      = ∑ x : Fin 512, u (ix2 (i 0) ⟨g.val * 512 + x.val, by omega⟩) * s (ix2 0 ⟨g.val * 512 + x.val, by omega⟩) * w (ix3 g d x) := by
  rw [← Cert.PoolXReferenceIdeal.Read.val_main_v16_eq]
  pointwise
  have hg : (i 1).val / 512 = g.val := by omega
  have hd : (i 1).val % 512 = d.val := by omega
  refine Finset.sum_congr rfl fun x _ => ?_
  simp only [hg, hd]

/-- The reference's gradient of the scale at an index. -/
theorem ref4_at (u h : FVec Ideal S2048x2048 .f32) (i : S1x2048.Idx) :
    Cert.PoolXReferenceIdeal.Read.val_main_v4 (F := Ideal) u h i = ∑ x : Fin 2048, u (ix2 x (i 1)) * h (ix2 x (i 1)) := by
  rw [← Cert.PoolXReferenceIdeal.Read.val_main_v4_eq]
  pointwise
  exact Finset.sum_congr rfl fun x _ => mul_comm _ _

/-- At every grid point the call leaves the gradients of its block's mapped and pooled values. -/
theorem left_at (c : Dev nD) (t : Fin cfg0.N) :
    (∀ j, (outsAt0 m c t.val t.isLt).1 j = k0_pay3 (F := Ideal) (iblk m c 0 t) (iblk m c 3 t) j)
    ∧ ∀ j, (outsAt0 m c t.val t.isLt).2.1 j = k0_pay4 (F := Ideal) (iblk m c 0 t) (iblk m c 3 t) (iblk m c 2 t) j := by
  by_cases h : t.val % 2 = 0
  · rw [outsAt0_A m c t h]
    constructor <;> intro j <;> frame_out
  · rw [outsAt0_B m c t h]
    constructor <;> intro j <;> frame_out

/-- When the call has ended, its first result is the gradient of the mapped values. -/
theorem final_mapped (c : Dev nD) : (dats m 0 c).arrAt 4 cfg0.N
    = Cert.PoolXReferenceIdeal.Read.val_main_v17 (m ((c : Thread nD τ).loc main_arg0)) (m ((c : Thread nD τ).loc main_arg3)) := by
  refine (dats m 0 c).arrAt_eq_of_covers 4 _ (by decide +kernel) fun t hf y => ?_
  blk_simp
  rw [after0_4, (left_at m c t).1, pay3_at, ref17_at]
  blk_point [iblk, V, index_val t]

/-- When the call has ended, its second result is the gradient of the pooled values. -/
theorem final_pooled (c : Dev nD) : (dats m 0 c).arrAt 5 cfg0.N
    = Cert.PoolXReferenceIdeal.Read.val_main_v16 (m ((c : Thread nD τ).loc main_arg0)) (m ((c : Thread nD τ).loc main_arg2))
      (m ((c : Thread nD τ).loc main_arg3)) := by
  refine (dats m 0 c).arrAt_eq_of_covers 5 _ (by decide +kernel) fun t hf y => ?_
  have ht : t.val / 2 < 4 := by have : t.val < 8 := t.isLt; omega
  blk_simp
  rw [after0_5, (left_at m c t).2, pay4_at, ref16_at _ _ _ _ ⟨t.val / 2, ht⟩ (y 1) (by blk_simp [index_val t])]
  refine Fin.sum_fin_congr fun x => ?_
  blk_point [iblk, V, index_val t]

/-- When the call has ended, its third result is the gradient of the scale. -/
theorem final_scale (c : Dev nD) : (dats m 0 c).arrAt 6 cfg0.N
    = Cert.PoolXReferenceIdeal.Read.val_main_v4 (m ((c : Thread nD τ).loc main_arg0)) (m ((c : Thread nD τ).loc main_arg1)) := by
  refine (dats m 0 c).arrAt_eq_of_covers 6 _ (by decide +kernel) fun t hf y => ?_
  have hl : t.val % 2 = 1 := (flush0_6 t).mp hf
  have hb : t.val - 1 < cfg0.N := Nat.lt_of_le_of_lt (Nat.sub_le _ _) t.isLt
  have first (j) : (outsAt0 m c (t.val - 1) hb).2.2 j
      = k0_pay2 (F := Ideal) (iblk m c 0 ⟨t.val - 1, hb⟩) (k0_pay1 (F := Ideal)) (iblk m c 1 ⟨t.val - 1, hb⟩) j := by
    rw [outsAt0_A m c ⟨t.val - 1, hb⟩ (by dsimp only; omega)]
    frame_out
  blk_simp
  rw [after0_6, outsAt0_B m c t (by omega)]
  frame_out
  rw [pay2_at, first, pay2_at, pay1_at, zero_add, ref4_at, Fin.sum_univ_two_halves 1024 1024 rfl]
  have e0 := index_val t
  have e1 := index_val ⟨t.val - 1, hb⟩
  dsimp only at e1
  rw [show (t.val - 1) % 2 = 0 by omega, show (t.val - 1) / 2 = t.val / 2 by omega] at e1
  rw [hl] at e0
  refine congrArg₂ (fun u v : EReal => u + v) (Fin.sum_fin_congr fun x => ?_) (Fin.sum_fin_congr fun x => ?_)
  · blk_point [iblk, V, e0, e1]
  · blk_point [iblk, V, e0, e1]
end Cert.PoolXIdeal.Sums
end
-- ==== Proof.MeansSums.lean ====
module

public import proofs.«01_k».proof.Proof.Gen.MeansXReferenceIdeal.Read
public import Idealize.ShloMosaic.Lib.Pointwise
public import Idealize.ShloMosaic.Lib.Pipeline.ValueKit
public import Idealize.ShloMosaic.Lib.KernelVsHost
public import Idealize.ShloMosaic.Lib.Routing.OpsOne

@[expose] public section

set_option maxRecDepth 16384

noncomputable section

/-! The gradient of the pooling by windows: the plain reference at an index, for finite arguments. -/
namespace Means
open Idealize.ShloMosaic.Routing (shape0 shape2 symm_col numel_col)
open Idealize.ShloMosaic

/-- The sum of the `w` entries that begin at a row. -/
def ahead (f : ℕ → ℝ) (w r : ℕ) : ℝ := ∑ i ∈ Finset.range w, f (r + i)

/-- The sum over twice as many rows is the sum of two sums. -/
theorem ahead_double (f : ℕ → ℝ) (w r : ℕ) : ahead f w r + ahead f w (r + w) = ahead f (w + w) r := by
  unfold ahead
  rw [Finset.sum_range_add]
  simp only [Nat.add_assoc]

/-- A sequence that vanishes from a row on has no entries ahead from there on. -/
theorem ahead_zero (f : ℕ → ℝ) (N : ℕ) (h : ∀ s, N ≤ s → f s = 0) (w r : ℕ) (hr : N ≤ r) : ahead f w r = 0 :=
  Finset.sum_eq_zero fun i _ => h _ (by omega)

/-- The differences at a distance of `w` rows, summed from a row to the end, leave the `w` entries that begin at that row. -/
theorem tail_sum (f : ℕ → ℝ) (N : ℕ) (h : ∀ s, N ≤ s → f s = 0) (w r : ℕ) :
    (∑ n ∈ Finset.range N, if r + n < N then f (r + n) - f (r + n + w) else 0) = ahead f w r := by
  have e : ∀ n ∈ Finset.range N, (if r + n < N then f (r + n) - f (r + n + w) else 0) = f (r + n) - f (r + (w + n)) := fun n _ => by
    rw [show r + (w + n) = r + n + w by omega]
    split
    · rfl
    · rw [h (r + n) (by omega), h (r + n + w) (by omega), sub_zero]
  rw [Finset.sum_congr rfl e, Finset.sum_sub_distrib, sub_eq_iff_eq_add]
  have a := Finset.sum_range_add (fun n => f (r + n)) N w
  have b := Finset.sum_range_add (fun n => f (r + n)) w N
  rw [Nat.add_comm w N] at b
  rw [show ∑ x ∈ Finset.range w, f (r + (N + x)) = 0 from Finset.sum_eq_zero fun i _ => h _ (by omega), add_zero] at a
  exact a.symm.trans b

/-- Real numbers added one after the other to a real number. -/
theorem fold_add {ι : Type} (l : List ι) (G : ι → EReal) (g : ι → ℝ) (hg : ∀ n, G n = (g n : EReal)) (v : EReal) (z : ℝ)
    (hv : v = (z : EReal)) : l.foldl (fun r n => r + G n) v = ((z + (l.map g).sum : ℝ) : EReal) := by
  induction l generalizing v z with
  | nil => simpa using hv
  | cons n l ih =>
    rw [List.foldl_cons, ih (v + G n) (z + g n) (by rw [hv, hg]; norm_cast), List.map_cons, List.sum_cons, add_assoc]

open Cert.MeansXReferenceIdeal

/-- The sums from every row to the last one, of an array of real numbers. -/
theorem rows_from {R L C : ℕ} (hR : L + 1 = R) (x : FVec Ideal (shape2 R C) .f32) (g : ℕ → ℕ → ℝ)
    (hx : ∀ (i : Fin R) (c : Fin C), x (ix2 i c) = ((g i c : ℝ) : EReal)) (init : FVec Ideal shape0 .f32) (hi : ∀ j, init j = 0)
    (h : (shape2 R C).ReduceWindows ![R, 1] ![1, 1] ![0, 0] ![L, 0] (shape2 R C)) (hu : 0 < shape0.numel) (r : Fin R) (c : Fin C) :
    Host.reduceWindowAdd ![R, 1] ![1, 1] ![0, 0] ![L, 0] x init h hu (ix2 r c)
      = ((∑ n ∈ Finset.range R, if r.val + n < R then g (r.val + n) c.val else 0 : ℝ) : EReal) := by
  have hr := r.isLt
  have hc := c.isLt
  rw [show Host.reduceWindowAdd ![R, 1] ![1, 1] ![0, 0] ![L, 0] x init h hu (ix2 r c)
    = Host.reduceWindow (α := EReal) (· + ·) ![R, 1] ![1, 1] ![0, 0] ![L, 0] x (fun _ : shape0.Idx => init (Shape.Idx.first hu)) h (by decide) (ix2 r c) from rfl]
  unfold Host.reduceWindow
  refine (fold_add (List.finRange (shape2 R 1).numel) _ (fun n => if r.val + n.val < R then g (r.val + n.val) c.val else 0) (fun n => ?_)
    _ 0 (hi _)).trans ?_
  · have w0 : ((shape2 R 1).rowMajor.symm n 0).val = n.val := by rw [symm_col]; rfl
    have w1 : ((shape2 R 1).rowMajor.symm n 1).val = 0 := by rw [symm_col]; rfl
    dsimp only
    split
    · next hin =>
      have h0 := (hin 0).2
      change r.val * 1 + ((shape2 R 1).rowMajor.symm n 0).val - 0 < R at h0
      rw [w0] at h0
      rw [if_pos (by omega)]
      refine (congrArg x (funext fun a => Fin.ext ?_)).trans (hx ⟨r.val + n.val, by omega⟩ c)
      match a with
      | ⟨0, _⟩ =>
        show r.val * 1 + ((shape2 R 1).rowMajor.symm n 0).val - 0 = r.val + n.val
        rw [w0]; omega
      | ⟨1, _⟩ =>
        show c.val * 1 + ((shape2 R 1).rowMajor.symm n 1).val - 0 = c.val
        rw [w1]; omega
    · next hin =>
      rw [if_neg fun hle => hin fun a => by
        match a with
        | ⟨0, _⟩ =>
          show 0 ≤ r.val * 1 + ((shape2 R 1).rowMajor.symm n 0).val ∧ r.val * 1 + ((shape2 R 1).rowMajor.symm n 0).val - 0 < R
          rw [w0]; omega
        | ⟨1, _⟩ =>
          show 0 ≤ c.val * 1 + ((shape2 R 1).rowMajor.symm n 1).val ∧ c.val * 1 + ((shape2 R 1).rowMajor.symm n 1).val - 0 < C
          rw [w1]; omega]
      exact hi _
  · rw [zero_add, ← Fin.sum_univ_def,
      Fin.sum_univ_eq_sum_range (fun n => if r.val + n < R then g (r.val + n) c.val else 0) (shape2 R 1).numel, numel_col]

/-- A group of columns put into an array of zeros: inside the group the group's entry, outside zero. -/
theorem placed (lo hi : ℕ) (y : FVec Ideal S2048x512 .f32) (v : FVec Ideal S_ .f32) (hv : ∀ j, v j = 0)
    (h : S2048x512.Pads ![0, lo] ![0, hi] ![0, 0] S2048x2048) (hu : 0 < S_.numel) (r c : Fin 2048) :
    pad S2048x2048 ![0, lo] ![0, hi] ![0, 0] y v h hu (ix2 r c)
      = if w : lo ≤ c.val ∧ c.val - lo < 512 then y (ix2 r ⟨c.val - lo, w.2⟩) else 0 := by
  split
  · next w =>
    refine pad_apply_of_inside _ _ _ y v h hu _ (ix2 r ⟨c.val - lo, w.2⟩) fun a => ?_
    match a with
    | ⟨0, _⟩ => show r.val = 0 + r.val * (0 + 1); omega
    | ⟨1, _⟩ => show c.val = lo + (c.val - lo) * (0 + 1); omega
  · next w =>
    rw [pad_apply_of_not_inside _ _ _ y v h hu _ 1 fun k => w ?_, hv]
    have k0 : lo ≤ c.val := k.1
    have k2 : (c.val - lo) / (0 + 1) < 512 := k.2.2
    exact ⟨k0, by omega⟩

/-- An array moved up by `w` rows, with zeros below. -/
theorem raised (n w : ℕ) (hn : n + w = 2048) (y : FVec Ideal S2048x512 .f32) (v : FVec Ideal S_ .f32) (hv : ∀ j, v j = 0)
    (hs : S2048x512.Slices ![w, 0] ⟨2, ![n, 512]⟩) (h : (⟨2, ![n, 512]⟩ : Shape).Pads ![0, 0] ![w, 0] ![0, 0] S2048x512) (hu : 0 < S_.numel)
    (r : Fin 2048) (c : Fin 512) :
    pad S2048x512 ![0, 0] ![w, 0] ![0, 0] (extractStridedSlice ⟨2, ![n, 512]⟩ ![w, 0] y hs) v h hu (ix2 r c)
      = if l : r.val + w < 2048 then y (ix2 ⟨r.val + w, l⟩ c) else 0 := by
  split
  · next l =>
    refine (pad_apply_of_inside _ _ _ _ v h hu _ (ix2 ⟨r.val, by omega⟩ c) fun a => ?_).trans
      (extractStridedSlice_apply _ y hs _ (ix2 ⟨r.val + w, l⟩ c) fun a => ?_)
    · match a with
      | ⟨0, _⟩ => show r.val = 0 + r.val * (0 + 1); omega
      | ⟨1, _⟩ => show c.val = 0 + c.val * (0 + 1); omega
    · match a with
      | ⟨0, _⟩ => show r.val + w = w + r.val; omega
      | ⟨1, _⟩ => show c.val = 0 + c.val; omega
  · next l =>
    rw [pad_apply_of_not_inside _ _ _ _ v h hu _ 0 fun k => l ?_, hv]
    have k2 : (r.val - 0) / (0 + 1) < n := k.2.2
    omega

/-- How many rows a window of `w` rows that ends at a row holds. -/
def count (w : BitVec 32) (r : ℕ) : ℝ := ((IntOp.minsi (IntOp.addi (BitVec.ofNat 32 r) 1#32) w).toInt : ℝ)

/-- A window holds at least one row. -/
theorem count_ne (k : Fin 4) (r : Fin 2048) : count (2#32 <<< k.val) r ≠ 0 :=
  Int.cast_ne_zero.2 ((by decide +kernel : ∀ (k : Fin 4) (r : Fin 2048),
    (IntOp.minsi (IntOp.addi (BitVec.ofNat 32 r) 1#32) (2#32 <<< k.val)).toInt ≠ 0) k r)

/-- A column divided by the rows' counts, zero below the last row. -/
def share (w : BitVec 32) (Y : ℕ → ℝ) (s : ℕ) : ℝ := if s < 2048 then Y s * (1 / count w s) else 0

/-- Below the last row there is nothing. -/
theorem share_zero (w : BitVec 32) (Y : ℕ → ℝ) (s : ℕ) (h : 2048 ≤ s) : share w Y s = 0 := if_neg (by omega)

/-- A real number divided by a row's count. -/
theorem div_count (k : Fin 4) (Y : ℕ → ℝ) (r : Fin 2048) (a b : EReal) (ha : a = ((Y r : ℝ) : EReal))
    (hb : b = ((count (2#32 <<< k.val) r : ℝ) : EReal)) : Ideal.div a b = ((share (2#32 <<< k.val) Y r : ℝ) : EReal) := by
  rw [ha, hb, Ideal.div_coe (count_ne k r), share, if_pos r.isLt, EReal.coe_mul]

/-- What one group of columns leaves for the running sum: a row's share less the share one window further down. -/
theorem part_at (n w : ℕ) (hn : n + w = 2048) (k : Fin 4) (y d : FVec Ideal S2048x512 .f32) (v : FVec Ideal S_ .f32) (hv : ∀ j, v j = 0)
    (hs : S2048x512.Slices ![w, 0] ⟨2, ![n, 512]⟩) (h : (⟨2, ![n, 512]⟩ : Shape).Pads ![0, 0] ![w, 0] ![0, 0] S2048x512) (hu : 0 < S_.numel)
    (c : Fin 512) (Y : ℕ → ℝ) (hy : ∀ r : Fin 2048, y (ix2 r c) = ((Y r : ℝ) : EReal))
    (hd : ∀ r : Fin 2048, d (ix2 r c) = ((count (2#32 <<< k.val) r : ℝ) : EReal)) (r : Fin 2048) :
    addf (Host.divf y d) (pad S2048x512 ![0, 0] ![w, 0] ![0, 0]
      (extractStridedSlice ⟨2, ![n, 512]⟩ ![w, 0] (Host.negf (Host.divf y d)) hs) v h hu) (ix2 r c)
      = ((share (2#32 <<< k.val) Y r - share (2#32 <<< k.val) Y (r + w) : ℝ) : EReal) := by
  show Ideal.div (y (ix2 r c)) (d (ix2 r c)) + pad S2048x512 ![0, 0] ![w, 0] ![0, 0]
      (extractStridedSlice ⟨2, ![n, 512]⟩ ![w, 0] (Host.negf (Host.divf y d)) hs) v h hu (ix2 r c) = _
  rw [div_count k Y r _ _ (hy r) (hd r), raised n w hn _ v hv hs h hu]
  split
  · next l =>
    show _ + -Ideal.div (y (ix2 ⟨r.val + w, l⟩ c)) (d (ix2 ⟨r.val + w, l⟩ c)) = _
    rw [div_count k Y ⟨r.val + w, l⟩ _ _ (hy _) (hd _), ← EReal.coe_neg, ← EReal.coe_add, sub_eq_add_neg]
  · next l => rw [share_zero _ _ (r.val + w) (by omega), add_zero, sub_zero]

variable (x : FVec Ideal S2048x2048 .f32) (X : ℕ → ℕ → ℝ) (hx : ∀ i c : Fin 2048, x (ix2 i c) = ((X i c : ℝ) : EReal))

/-- The columns from `lo` on, at an index. -/
theorem columns (lo : ℕ) (hl : S2048x2048.Slices ![0, lo] S2048x512) (r : Fin 2048) (c : Fin 512) (b : lo + c.val < 2048) :
    extractStridedSlice S2048x512 ![0, lo] x hl (ix2 r c) = x (ix2 r ⟨lo + c.val, b⟩) :=
  extractStridedSlice_apply _ x hl _ (ix2 r ⟨lo + c.val, b⟩) fun a => by
    match a with
    | ⟨0, _⟩ => show r.val = 0 + r.val; omega
    | ⟨1, _⟩ => rfl

/-- A group of columns, negated and put in its place. -/
theorem own_at (lo hi : ℕ) (hl : S2048x2048.Slices ![0, lo] S2048x512) (v : FVec Ideal S_ .f32) (hv : ∀ j, v j = 0)
    (h : S2048x512.Pads ![0, lo] ![0, hi] ![0, 0] S2048x2048) (hu : 0 < S_.numel) (r c : Fin 2048) :
    pad S2048x2048 ![0, lo] ![0, hi] ![0, 0] (Host.negf (extractStridedSlice S2048x512 ![0, lo] x hl)) v h hu (ix2 r c)
      = if lo ≤ c.val ∧ c.val - lo < 512 then -x (ix2 r c) else 0 := by
  rw [placed lo hi _ v hv h hu]
  split
  · next w =>
    show -extractStridedSlice S2048x512 ![0, lo] x hl (ix2 r ⟨c.val - lo, w.2⟩) = _
    rw [columns x lo hl r ⟨c.val - lo, w.2⟩ (by dsimp only; omega)]
    exact congrArg (fun q => -x (ix2 r q)) (Fin.ext (by dsimp only; omega))
  · rfl

include hx in
/-- A group of columns, as its part for the running sum, put in its place. -/
theorem group_at (lo hi n w : ℕ) (hn : n + w = 2048) (k : Fin 4) (hl : S2048x2048.Slices ![0, lo] S2048x512)
    (d : FVec Ideal S2048x512 .f32) (hd : ∀ (r : Fin 2048) (c : Fin 512), d (ix2 r c) = ((count (2#32 <<< k.val) r : ℝ) : EReal))
    (v v' : FVec Ideal S_ .f32) (hv : ∀ j, v j = 0) (hv' : ∀ j, v' j = 0)
    (hs : S2048x512.Slices ![w, 0] ⟨2, ![n, 512]⟩) (h : (⟨2, ![n, 512]⟩ : Shape).Pads ![0, 0] ![w, 0] ![0, 0] S2048x512) (hu : 0 < S_.numel)
    (h' : S2048x512.Pads ![0, lo] ![0, hi] ![0, 0] S2048x2048) (r c : Fin 2048) :
    pad S2048x2048 ![0, lo] ![0, hi] ![0, 0] (addf (Host.divf (extractStridedSlice S2048x512 ![0, lo] x hl) d)
      (pad S2048x512 ![0, 0] ![w, 0] ![0, 0] (extractStridedSlice ⟨2, ![n, 512]⟩ ![w, 0]
        (Host.negf (Host.divf (extractStridedSlice S2048x512 ![0, lo] x hl) d)) hs) v h hu)) v' h' hu (ix2 r c)
      = if lo ≤ c.val ∧ c.val - lo < 512 then
          ((share (2#32 <<< k.val) (fun s => X s c) r - share (2#32 <<< k.val) (fun s => X s c) (r + w) : ℝ) : EReal) else 0 := by
  rw [placed lo hi _ v' hv' h' hu]
  split
  · next i =>
    refine part_at n w hn k _ d v hv hs h hu ⟨c.val - lo, i.2⟩ (fun s => X s c) (fun s => ?_) (fun s => hd s _) r
    rw [columns x lo hl s ⟨c.val - lo, i.2⟩ (by dsimp only; omega), hx]
    exact congrArg (fun q => ((X s q : ℝ) : EReal)) (by dsimp only; omega)
  · rfl

open Cert.MeansXReferenceIdeal.Read

/-- The group of a column. -/
def group (c : Fin 2048) : Fin 4 := ⟨c.val / 512, by omega⟩

/-- A column lies in a group's columns exactly if that is its group. -/
theorem group_iff (c : Fin 2048) (k : Fin 4) (lo : ℕ) (h : lo = 512 * k.val) : (lo ≤ c.val ∧ c.val - lo < 512) ↔ group c = k := by
  rw [Fin.ext_iff]
  show _ ↔ c.val / 512 = k.val
  omega

include hx in
/-- The array whose running sum the reference takes: every column by its group's window. -/
theorem ref122_at (r c : Fin 2048) : val_main_v122 (F := Ideal) x (ix2 r c)
    = ((share (2#32 <<< (group c).val) (fun s => X s c) r
      - share (2#32 <<< (group c).val) (fun s => X s c) (r + 2 ^ ((group c).val + 1)) : ℝ) : EReal) := by
  have z : ∀ j : S_.Idx, constant (F := Ideal) S_ .f32 0x00000000#32 j = 0 := fun j => by pointwise
  have e0 : val_main_v121 (F := Ideal) x (ix2 r c) = _ := group_at x X hx 0 1536 2046 2 rfl 0 _ _ (fun _ _ => rfl) _ _ z z _ _ _ _ r c
  have e1 : val_main_v109 (F := Ideal) x (ix2 r c) = _ := group_at x X hx 512 1024 2044 4 rfl 1 _ _ (fun _ _ => rfl) _ _ z z _ _ _ _ r c
  have e2 : val_main_v97 (F := Ideal) x (ix2 r c) = _ := group_at x X hx 1024 512 2040 8 rfl 2 _ _ (fun _ _ => rfl) _ _ z z _ _ _ _ r c
  have e3 : val_main_v86 (F := Ideal) x (ix2 r c) = _ := group_at x X hx 1536 0 2032 16 rfl 3 _ _ (fun _ _ => rfl) _ _ z z _ _ _ _ r c
  rw [val_main_v122_apply, val_main_v110_apply, val_main_v98_apply, e0, e1, e2, e3]
  simp only [group_iff c 0 0 rfl, group_iff c 1 512 rfl, group_iff c 2 1024 rfl, group_iff c 3 1536 rfl]
  generalize group c = g
  fin_cases g <;> simp

include hx in
/-- The plain reference at an index: the scaled incoming gradient, less the gradient of the pooled values, plus the shares of the rows ahead. -/
theorem ref_at (u : FVec Ideal S2048x2048 .f32) (r c : Fin 2048) : val_main_v124 (F := Ideal) x u (ix2 r c)
    = FloatOps.ofBits (F := Ideal) .f32 0x3FB504F3#32 * u (ix2 r c) + -x (ix2 r c)
      + ((ahead (share (2#32 <<< (group c).val) (fun s => X s c)) (2 ^ ((group c).val + 1)) r : ℝ) : EReal) := by
  have z : ∀ j : S_.Idx, constant (F := Ideal) S_ .f32 0x00000000#32 j = 0 := fun j => by pointwise
  have e0 : val_main_v112 (F := Ideal) x (ix2 r c) = _ := own_at x 0 1536 _ _ z _ _ r c
  have e1 : val_main_v100 (F := Ideal) x (ix2 r c) = _ := own_at x 512 1024 _ _ z _ _ r c
  have e2 : val_main_v88 (F := Ideal) x (ix2 r c) = _ := own_at x 1024 512 _ _ z _ _ r c
  have e3 : val_main_v77 (F := Ideal) x (ix2 r c) = _ := own_at x 1536 0 _ _ z _ _ r c
  have t : val_main_v123 (F := Ideal) x (ix2 r c) = _ := rows_from (R := 2048) (L := 2047) (C := 2048) rfl (val_main_v122 (F := Ideal) x) (fun i c => if b : c < 2048 then share (2#32 <<< (group ⟨c, b⟩).val) (fun s => X s c) i
      - share (2#32 <<< (group ⟨c, b⟩).val) (fun s => X s c) (i + 2 ^ ((group ⟨c, b⟩).val + 1)) else 0)
    (fun i c => by rw [ref122_at x X hx, dif_pos c.isLt]) (val_main_call1_call0_v0 (F := Ideal)) (fun j => by rw [val_main_call1_call0_v0_apply, val_main_call1_call0_cst_apply]; simp) _ _ r c
  simp only [c.isLt, dite_true] at t
  rw [tail_sum _ 2048 (share_zero _ _)] at t
  rw [val_main_v124_apply, val_main_v113_apply, val_main_v101_apply, val_main_v89_apply, val_main_v78_apply, val_main_v71_apply,
    val_main_v70_apply, val_main_cst_16_apply, e0, e1, e2, e3, t]
  simp only [group_iff c 0 0 rfl, group_iff c 1 512 rfl, group_iff c 2 1024 rfl, group_iff c 3 1536 rfl]
  generalize ahead _ _ _ = a
  generalize group c = g
  fin_cases g <;> simp

include hx in
/-- The plain reference at any index whose row and column are known. -/
theorem ref_idx (u : FVec Ideal S2048x2048 .f32) (i : S2048x2048.Idx) (k : Fin 4) (r c : ℕ) (h0 : (i 0).val = r) (h1 : (i 1).val = c) (hk : c / 512 = k.val) :
    val_main_v124 (F := Ideal) x u i = FloatOps.ofBits (F := Ideal) .f32 0x3FB504F3#32 * u i + -x i
      + ((ahead (share (2#32 <<< k.val) (fun s => X s c)) (2 ^ (k.val + 1)) r : ℝ) : EReal) := by
  subst h0 h1
  have e := ref_at x X hx u (i 0) (i 1)
  rw [show group (i 1) = k from Fin.ext hk] at e
  rwa [← eq_ix2 i] at e

end Means
end
-- ==== Proof.ProdMeansX.lean ====
module

public import proofs.«01_k».proof.Proof.Gen.MeansXIdeal.Value
public import proofs.«01_k».proof.Proof.MeansSums
public import Idealize.ShloMosaic.Lib.Pipeline.ReadBack
public import Idealize.ShloMosaic.Lib.Pointwise
public import Idealize.ShloMosaic.Lib.Pipeline.ValueKit

@[expose] public section

set_option maxRecDepth 16384

noncomputable section
namespace Cert.MeansXIdeal.Sums
open Idealize.ShloMosaic Idealize.ShloMosaic.TcCoe Idealize.SL.Sem
open Cert.MeansXIdeal Cert.MeansXIdeal.Gen
open Idealize.ShloMosaic.Pipeline (Dat)
open Means (ahead ahead_double ahead_zero share share_zero count count_ne group div_count)
variable (m : (ℓ : Loc nD τ sig) → Buf (Elt Ideal) ℓ)

/-- At every grid point, which block of its array each window holds. -/
theorem index_val : ∀ t : Fin cfg0.N, win0_0.index t = ![0, t.val] ∧ win0_1.index t = ![0, t.val] ∧ win0_2.index t = ![0, t.val] :=
  (by decide +kernel : ∀ t : Fin grid0.N, _)

/-- A block of columns turned so that it begins `2048 - b` rows further down, zero where the turn brings back rows from the top. -/
def raise (b : BitVec 32) (y : FVec Ideal S2048x128 .f32) : FVec Ideal S2048x128 .f32 :=
  select (broadcastTo S2048x128 (shapeCast S2048x1 (cmpi .slt (iota .tc S2048x1 32 [0] iota_S2048x1_d0_w32) (broadcast S2048x1 b))
      shapeCasts_S2048x1_S2048x1) broadcasts_S2048x1_S2048x128)
    (dynamicRotate 0 b none y rotates_S2048x128_d0) (broadcast S2048x128 (Scalar.ofBits (F := Ideal) .f32 0x00000000#32))

/-- A block of columns moved up by `k` rows, with zeros below. -/
theorem raise_at (b : BitVec 32) (k : ℕ) (hb : b.toNat + k = 2048) (hk : 0 < k) (y : FVec Ideal S2048x128 .f32) (r : Fin 2048) (c : Fin 128) :
    raise b y (ix2 r c) = if l : r.val + k < 2048 then y (ix2 ⟨r.val + k, l⟩ c) else 0 := by
  have hi : b.toInt = b.toNat := BitVec.toInt_eq_toNat_of_lt (by omega)
  have hr : (BitVec.ofNat 32 r.val).toInt = r.val := by
    rw [BitVec.toInt_eq_toNat_of_lt (by rw [BitVec.toNat_ofNat]; omega), BitVec.toNat_ofNat, Nat.mod_eq_of_lt (by omega)]
  have hc : IntOp.cmpi .slt (BitVec.ofNat 32 r.val) b = BitVec.ofBool (decide (r.val + k < 2048)) := by
    show BitVec.ofBool ((BitVec.ofNat 32 r.val).slt b) = _
    rw [BitVec.slt, hr, hi]
    exact congrArg BitVec.ofBool (decide_eq_decide.2 (by omega))
  unfold raise
  pointwise
  rw [hc]
  by_cases l : r.val + k < 2048
  · rw [dif_pos l, decide_eq_true l]
    exact congrArg (fun q => y (ix2 q c)) (Fin.ext (by dsimp only; omega))
  · rw [dif_neg l, decide_eq_false l]
    rfl

/-- The word that names a grid point's group. -/
theorem group_word : ∀ t : Fin 16, Scalar.select (Scalar.andi (Scalar.cmpi .ne (Scalar.subi (Scalar.extui (Scalar.cmpi .sgt (BitVec.ofNat 32 t.val) 0#32)) (Scalar.extui (Scalar.cmpi .slt (BitVec.ofNat 32 t.val) 0#32))) (Scalar.subi (Scalar.extui (Scalar.cmpi .sgt 4#32 0#32)) (Scalar.extui (Scalar.cmpi .slt 4#32 0#32)))) (Scalar.cmpi .ne (Scalar.remsi (BitVec.ofNat 32 t.val) 4#32) 0#32)) (Scalar.subi (Scalar.divsi (BitVec.ofNat 32 t.val) 4#32) 1#32) (Scalar.divsi (BitVec.ofNat 32 t.val) 4#32)
    = BitVec.ofNat 32 (t.val / 4) := by
  decide +kernel

/-- The number of rows of a group's window, as a shifted word. -/
theorem window_word : ∀ g : Fin 4, Scalar.shli 2#32 (BitVec.ofNat 32 g.val) = 2#32 <<< g.val := by decide +kernel

/-- The sum over two windows that lie one after the other. -/
theorem add_ahead (f : ℕ → ℝ) (hf : ∀ s, 2048 ≤ s → f s = 0) (b : BitVec 32) (w : ℕ) (hb : b.toNat + w = 2048) (hw : 0 < w)
    (y : FVec Ideal S2048x128 .f32) (c : Fin 128) (hy : ∀ r : Fin 2048, y (ix2 r c) = ((ahead f w r : ℝ) : EReal)) (r : Fin 2048) :
    addf y (raise b y) (ix2 r c) = ((ahead f (w + w) r : ℝ) : EReal) := by
  show y (ix2 r c) + raise b y (ix2 r c) = _
  rw [raise_at b w hb hw, hy r, ← ahead_double]
  split
  · next l => rw [hy ⟨_, l⟩, ← EReal.coe_add]
  · next l => rw [ahead_zero f 2048 hf w (r.val + w) (by omega), add_zero, add_zero]

/-- The shares of a block's rows, each with the row after it. -/
theorem pay2_at (t : Fin 16) (i : grid0.Coords) (hi : (i 0).val = t.val) (g : Fin 4) (hg : t.val / 4 = g.val) (x : Vec Ideal S2048x128 .f32)
    (X : ℕ → ℝ) (c : Fin 128) (hx : ∀ r : Fin 2048, x (ix2 r c) = ((X r : ℝ) : EReal)) (r : Fin 2048) :
    k0_pay2 i x (ix2 r c) = ((ahead (share (2#32 <<< g.val) X) 2 r : ℝ) : EReal) := by
  unfold k0_pay2
  dsimp only
  rw [hi, group_word t, hg, window_word g]
  refine add_ahead _ (share_zero _ _) 2047#32 1 rfl Nat.one_pos _ c (fun s => ?_) r
  refine (div_count g X s _ _ (hx s) ?_).trans (by simp [ahead])
  pointwise
  rfl

/-- What a grid point stores: the scaled incoming gradient plus the shares ahead, as many as its group's window has rows, less the gradient of the pooled values. -/
theorem stored_at (t : Fin 16) (i : grid0.Coords) (hi : (i 0).val = t.val) (g : Fin 4) (hg : t.val / 4 = g.val) (x u : Vec Ideal S2048x128 .f32)
    (X : ℕ → ℝ) (c : Fin 128) (hx : ∀ r : Fin 2048, x (ix2 r c) = ((X r : ℝ) : EReal)) (r : Fin 2048) :
    k0_pay1 (BitVec.ofNat 32 (t.val / 4)) x (iota .tc S2048x1 32 [0] iota_S2048x1_d0_w32) (k0_pay2 i x) (k0_pay3 i x) u (ix2 r c)
      = FloatOps.ofBits (F := Ideal) .f32 0x3FB504F3#32 * u (ix2 r c) + ((ahead (share (2#32 <<< g.val) X) (2 ^ (g.val + 1)) r : ℝ) : EReal)
        - x (ix2 r c) := by
  have z := share_zero (2#32 <<< g.val) X
  have h2 := pay2_at t i hi g hg x X c hx
  have h4 := add_ahead _ z 2046#32 2 rfl (by decide) _ c h2
  have h8 := add_ahead _ z 2044#32 4 rfl (by decide) _ c h4
  have h16 := add_ahead _ z 2040#32 8 rfl (by decide) _ c h8
  rw [show k0_pay3 i x = raise 2046#32 (k0_pay2 i x) from rfl]
  generalize k0_pay2 i x = y at *
  rw [show k0_pay1 (BitVec.ofNat 32 (t.val / 4)) x (iota .tc S2048x1 32 [0] iota_S2048x1_d0_w32) y (raise 2046#32 y) u
    = fun j => FloatOps.ofBits (F := Ideal) .f32 0x3FB504F3#32 * u j + Scalar.select (Scalar.cmpi .eq (BitVec.ofNat 32 (t.val / 4)) 0#32) y
      (Scalar.select (Scalar.cmpi .eq (BitVec.ofNat 32 (t.val / 4)) 1#32) (addf y (raise 2046#32 y))
        (Scalar.select (Scalar.cmpi .eq (BitVec.ofNat 32 (t.val / 4)) 2#32)
          (addf (addf y (raise 2046#32 y)) (raise 2044#32 (addf y (raise 2046#32 y))))
          (addf (addf (addf y (raise 2046#32 y)) (raise 2044#32 (addf y (raise 2046#32 y))))
            (raise 2040#32 (addf (addf y (raise 2046#32 y)) (raise 2044#32 (addf y (raise 2046#32 y)))))))) j - x j from rfl]
  dsimp only
  rw [hg]
  refine congrArg (fun q : EReal => FloatOps.ofBits (F := Ideal) .f32 0x3FB504F3#32 * u (ix2 r c) + q - x (ix2 r c)) ?_
  clear hg hi
  fin_cases g
  · exact h2 r
  · exact h4 r
  · exact h8 r
  · exact h16 r

/-- A subtraction before an addition instead of after it. -/
theorem swap (a b c : EReal) : a + b - c = a + -c + b := (sub_eq_add_neg _ _).trans (add_right_comm _ _ _)

/-- A grid point's coordinate is its number. -/
theorem coord_val : ∀ t : Fin grid0.N, (grid0.coords t 0).val = t.val := by decide +kernel

/-- Arguments of real numbers: when the call has ended, its result is the plain reference's. -/
theorem final (c : Dev nD) (X : ℕ → ℕ → ℝ) (hx : ∀ i k : Fin 2048, m ((c : Thread nD τ).loc main_arg0) (ix2 i k) = ((X i k : ℝ) : EReal)) :
    (dats m 0 c).arrAt 2 cfg0.N = Cert.MeansXReferenceIdeal.Read.val_main_v124 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have ht : t.val < 16 := t.isLt
  have hc : (grid0.coords t 0).val = t.val := coord_val t
  have y1 : (y 1).val < 128 := (y 1).isLt
  rw [hc, group_word ⟨t.val, ht⟩, Means.ref_idx _ X hx _ _ ⟨t.val / 4, by omega⟩ (y 0).val (t.val * 128 + (y 1).val) (by blk_simp [index_val t])
    (by blk_simp [index_val t]) (by dsimp only; omega)]
  have e := stored_at ⟨t.val, ht⟩ (grid0.coords t) hc ⟨t.val / 4, by omega⟩ rfl (iblk m c 0 t) (iblk m c 1 t) (fun s => X s (t.val * 128 + (y 1).val)) (y 1)
    (fun r => (by blk_point [iblk, V, index_val t] : _ = m ((c : Thread nD τ).loc main_arg0) (ix2 r ⟨t.val * 128 + (y 1).val, by omega⟩)).trans (hx _ _)) (y 0)
  rw [← eq_ix2 y] at e
  have b0 : iblk m c 0 t y = m ((c : Thread nD τ).loc main_arg0) (((View.whole main_v0).slice (win0_2.rect t)).emb y) := by
    blk_point [iblk, V, index_val t]
  have b1 : iblk m c 1 t y = m ((c : Thread nD τ).loc main_arg1) (((View.whole main_v0).slice (win0_2.rect t)).emb y) := by
    blk_point [iblk, V, index_val t]
  rw [e, b0, b1]
  exact swap _ _ _

end Cert.MeansXIdeal.Sums
end
-- ==== Proof.ProdPoolW.lean ====
module

public import proofs.«01_k».proof.Proof.Gen.PoolWIdeal.Value
public import proofs.«01_k».proof.Proof.Gen.PoolWReferenceIdeal.Read
public import proofs.«01_k».proof.Proof.Gen.PoolWReferenceIdeal.Run
public import Idealize.ShloMosaic.Lib.Pipeline.ReadBack
public import Idealize.ShloMosaic.Lib.Pointwise
public import Idealize.ShloMosaic.Lib.Pipeline.ValueKit

@[expose] public section

set_option maxRecDepth 16384

noncomputable section
namespace Cert.PoolWIdeal.Sums
open Idealize.ShloMosaic Idealize.ShloMosaic.TcCoe Idealize.SL.Sem
open Cert.PoolWIdeal Cert.PoolWIdeal.Gen
open Idealize.ShloMosaic.Pipeline (Dat)
variable (m : (ℓ : Loc nD τ sig) → Buf (Elt Ideal) ℓ)

/-- At every grid point, which block of its array each window holds. -/
theorem index_val : ∀ t : Fin cfg0.N, win0_0.index t = ![t.val % 4, t.val / 4] ∧ win0_1.index t = ![t.val % 4, t.val / 4]
    ∧ win0_2.index t = ![t.val / 4, 0, 0] := (by decide +kernel : ∀ t : Fin grid0.N, _)

/-- The accumulator begins at zero. -/
theorem pay1_at (j : S512x512.Idx) : k0_pay1 (F := Ideal) j = 0 := by
  pointwise [k0_pay1]

/-- A step adds the products of its pair of blocks, summed over its rows, to what the accumulator held. -/
theorem pay2_at (v : Vec Ideal S512x512 .f32) (a b : Vec Ideal S512x512 .bf16) (j : S512x512.Idx) :
    k0_pay2 v a b j = v j + ∑ x : Fin 512, a (ix2 x (j 0)) * b (ix2 x (j 1)) := by
  pointwise [k0_pay2]

/-- The last step stores the accumulator as the gradient of its group's map. -/
theorem pay3_at (v : Vec Ideal S512x512 .f32) (j : S1x512x512.Idx) : k0_pay3 v j = v (ix2 (j 1) (j 2)) := by
  pointwise [k0_pay3]

/-- The plain reference at an index: the transposed pooled values times the gradient of the mapped values, group by group, as one sum. -/
theorem ref_at (q d : FVec Ideal S2048x2048 .f32) (i : S4x512x512.Idx) :
    Cert.PoolWReferenceIdeal.Read.val_main_v9 (F := Ideal) q d i
      = ∑ k : Fin 2048, q (ix2 k ⟨(i 0).val * 512 + (i 1).val, by
          have h0 : (i 0).val < 4 := (i 0).isLt; have h1 : (i 1).val < 512 := (i 1).isLt; omega⟩)
        * d (ix2 k ⟨(i 0).val * 512 + (i 2).val, by
          have h0 : (i 0).val < 4 := (i 0).isLt; have h2 : (i 2).val < 512 := (i 2).isLt; omega⟩) := by
  rw [← Cert.PoolWReferenceIdeal.Read.val_main_v9_eq]
  pointwise
  exact Finset.sum_congr rfl fun x _ => mul_comm _ _

/-- When the call has ended, its result array is the reference's: the transposed pooled values times the gradient of the mapped values, group by group. -/
theorem final (c : Dev nD) : (dats m 0 c).arrAt 2 cfg0.N
    = Cert.PoolWReferenceIdeal.Read.val_main_v9 (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  have last (j) : (outsAt0 m c t.val t.isLt).1 j = k0_pay3 (F := Ideal) (outsAt0 m c t.val t.isLt).2 j := by
    rw [outsAt0_C m c t (by omega) hl]
    frame_out
  blk_simp
  rw [after0_2, last, pay3_at, Pipeline.eq_sum_fin_of_reset_step_apply_of_flush (fun n h => (outsAt0 m c n h).2) 4 (fun _ => 0) _
    (fun t h j => by rw [outsAt0_A m c t h (by omega)]; frame_out; rw [pay2_at, pay1_at])
    (fun t h j => by
      by_cases h' : t.val % 4 = 3
      · rw [outsAt0_C m c t h h']; frame_out; rw [pay2_at, read_unread_whole]
      · rw [outsAt0_B m c t h h']; frame_out; rw [pay2_at, read_unread_whole])
    t hl _, zero_add, ref_at]
  refine Fin.sum_mul_add_congr fun s k hk => ?_
  blk_point [iblk, V, index_val t, index_val ⟨_, Pipeline.run_point_lt_of_flush t hl s⟩]
end Cert.PoolWIdeal.Sums
end
-- ==== Proof.Adam.lean ====
module

public import Idealize.ShloMosaic.Lib.Pointwise

@[expose] public section

noncomputable section
namespace Cert.Adam
open Idealize.ShloMosaic

/-- The running mean of the gradient after the step, from its old value and the gradient. -/
def mean (m g : EReal) : EReal := Ideal.ofBits .f32 0x3F666666#32 * m + Ideal.ofBits .f32 0x3DCCCCCD#32 * g

/-- The running mean of the gradient's square after the step, from its old value and the gradient. -/
def square (v g : EReal) : EReal := Ideal.ofBits .f32 0x3F7FBE77#32 * v + Ideal.ofBits .f32 0x3A83126F#32 * (g * g)

/-- The change of a weight, from the weight, its old running means and its gradient. -/
def delta (w m v g : EReal) : EReal := Ideal.ofBits .f32 0xBA83126F#32
  * (Ideal.div (Ideal.div (mean m g) (Ideal.ofBits .f32 0x3F26BD02#32))
      (Ideal.sqrt (Ideal.div (square v g) (Ideal.ofBits .f32 0x3C231ACC#32)) + Ideal.ofBits .f32 0x322BCC77#32)
    + Ideal.ofBits .f32 0x3C23D70A#32 * w)
end Cert.Adam
end
-- ==== Proof.ProdAdamPool.lean ====
module

public import proofs.«01_k».proof.Proof.Gen.AdamPoolIdeal.Frame
public import proofs.«01_k».proof.Proof.Gen.AdamPoolReferenceIdeal.Read
public import proofs.«01_k».proof.Proof.Gen.AdamPoolReferenceIdeal.Run
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Value

@[expose] public section

set_option maxRecDepth 16384

noncomputable section
namespace Cert.AdamPoolIdeal.Sums
open Idealize.ShloMosaic Idealize.ShloMosaic.TcCoe Idealize.SL.Sem
open Cert.AdamPoolIdeal Cert.AdamPoolIdeal.Gen
open Idealize.ShloMosaic.Pipeline (Dat)
section
variable {F : FTy → Type} [FloatOps F] (m : (ℓ : Loc nD τ sig) → Buf (Elt F) ℓ)

/-- The table the call reads its first part's place from holds zero. -/
theorem table_eq (i) : tbl m 0 i = 0#32 := by
  show V m (0 : Dev nD) main_v4 i = 0#32
  entry_read
  rfl

/-- With that table, the first part's block is the block of part zero. -/
theorem own_map (i : grid0.Coords) : cc0_transform_3 inb_S1_S1_0 numel1_S1 (tbl m) i = cc0_transform_4 i := by
  unfold cc0_transform_3 cc0_transform_4 Pipeline.Prefetch.Contents.at
  rw [table_eq]

/-- That block lies inside the array of parts. -/
theorem own_inb : ∀ (i : grid0.Coords) a, (cc0_transform_4 i a + 1) * S1x256x512.size a ≤ S4x256x512.size a := by
  decide +kernel

/-- That block is whole words of memory. -/
theorem own_words : ∀ i : grid0.Coords, EltTy.bits .bf16 = 32
    ∨ (Rect.block (s := S4x256x512) S1x256x512.size (cc0_transform_4 i) (own_inb i)).WholeWords (EltTy.packing .bf16) :=
  fun _ => .inr (Affine.block_words_dvd (of_decide_eq_true rfl) (by decide))

/-- The table the program fills is one the call accepts. -/
theorem ok : Ok m := by
  intro i
  rw [own_map]
  exact ⟨own_inb i, own_words i⟩
end

/-- The pipeline's table, of a memory of zeros. -/
def zeros : (pcfg0 (F := Ideal)).Adm := adm (fun _ _ => default) (ok _)

variable (m : (ℓ : Loc nD τ sig) → Buf (Elt Ideal) ℓ)

/-- The blocks of each result cover it. -/
theorem covers : ((cfgM m (ok m)).win 7).Covers
    ∧ ((cfgM m (ok m)).win 8).Covers
    ∧ ((cfgM m (ok m)).win 9).Covers
    ∧ ((cfgM m (ok m)).win 10).Covers :=
  (by decide +kernel : ((cfg0 zeros).win 7).Covers
    ∧ ((cfg0 zeros).win 8).Covers
    ∧ ((cfg0 zeros).win 9).Covers
    ∧ ((cfg0 zeros).win 10).Covers)

/-- At every grid point, which block of its array each window holds. -/
theorem index_val (t : Fin (cfgM m (ok m)).N) : ((cfgM m (ok m)).win 0).index t = ![0, t.val, 0]
    ∧ ((cfgM m (ok m)).win 1).index t = ![0, t.val, 0]
    ∧ ((cfgM m (ok m)).win 2).index t = ![0, t.val, 0]
    ∧ ((cfgM m (ok m)).win 4).index t = ![0, t.val, 0]
    ∧ ((cfgM m (ok m)).win 5).index t = ![1, t.val, 0]
    ∧ ((cfgM m (ok m)).win 6).index t = ![2, t.val, 0]
    ∧ ((cfgM m (ok m)).win 7).index t = ![0, t.val, 0]
    ∧ ((cfgM m (ok m)).win 8).index t = ![0, t.val, 0]
    ∧ ((cfgM m (ok m)).win 9).index t = ![0, t.val, 0]
    ∧ ((cfgM m (ok m)).win 10).index t = ![0, t.val, 0] :=
  (by decide +kernel : ∀ t : Fin (cfg0 zeros).N, ((cfg0 zeros).win 0).index t = ![0, t.val, 0]
    ∧ ((cfg0 zeros).win 1).index t = ![0, t.val, 0]
    ∧ ((cfg0 zeros).win 2).index t = ![0, t.val, 0]
    ∧ ((cfg0 zeros).win 4).index t = ![0, t.val, 0]
    ∧ ((cfg0 zeros).win 5).index t = ![1, t.val, 0]
    ∧ ((cfg0 zeros).win 6).index t = ![2, t.val, 0]
    ∧ ((cfg0 zeros).win 7).index t = ![0, t.val, 0]
    ∧ ((cfg0 zeros).win 8).index t = ![0, t.val, 0]
    ∧ ((cfg0 zeros).win 9).index t = ![0, t.val, 0]
    ∧ ((cfg0 zeros).win 10).index t = ![0, t.val, 0]) t

/-- At every grid point, which block of the first part its window holds. -/
theorem index_own (t : Fin (cfgM m (ok m)).N) : ((cfgM m (ok m)).win 3).index t = ![0, t.val, 0] :=
  (own_map m _).trans ((by decide +kernel : ∀ t : Fin grid0.N, cc0_transform_4 (grid0.coords t) = ![0, t.val, 0]) t)

/-- The four parts of the gradient, added, for a row and a column. -/
def parts (x3 : FVec Ideal S4x256x512 .f32) (x4 : FVec Ideal S3x256x512 .f32) (r : Fin 256) (k : Fin 512) : EReal :=
  x3 (ix3 0 r k) + x4 (ix3 0 r k) + x4 (ix3 1 r k) + x4 (ix3 2 r k)

/-- The reference's gradient: the four parts, added. -/
theorem ref_g (x3 : FVec Ideal S4x256x512 .f32) (x4 : FVec Ideal S3x256x512 .f32) (i : S1x256x512.Idx) :
    Cert.AdamPoolReferenceIdeal.Read.val_main_v11 (F := Ideal) x3 x4 i = parts x3 x4 (i 1) (i 2) := by
  rw [← Cert.AdamPoolReferenceIdeal.Read.val_main_v11_eq]
  pointwise [parts]

/-- The reference's new running mean. -/
theorem ref_m (x1 : FVec Ideal S1x256x512 .f32) (x3 : FVec Ideal S4x256x512 .f32) (x4 : FVec Ideal S3x256x512 .f32)
    (i : S1x256x512.Idx) : Cert.AdamPoolReferenceIdeal.Read.val_main_v16 (F := Ideal) x1 x3 x4 i
      = Adam.mean (x1 i) (parts x3 x4 (i 1) (i 2)) := by
  rw [← ref_g, ← Cert.AdamPoolReferenceIdeal.Read.val_main_v16_eq, ← Cert.AdamPoolReferenceIdeal.Read.val_main_v11_eq]
  pointwise [Adam.mean]

/-- The reference's new running mean of squares. -/
theorem ref_v (x2 : FVec Ideal S1x256x512 .f32) (x3 : FVec Ideal S4x256x512 .f32) (x4 : FVec Ideal S3x256x512 .f32)
    (i : S1x256x512.Idx) : Cert.AdamPoolReferenceIdeal.Read.val_main_v22 (F := Ideal) x2 x3 x4 i
      = Adam.square (x2 i) (parts x3 x4 (i 1) (i 2)) := by
  rw [← ref_g, ← Cert.AdamPoolReferenceIdeal.Read.val_main_v22_eq, ← Cert.AdamPoolReferenceIdeal.Read.val_main_v11_eq]
  pointwise [Adam.square]

/-- The reference's change of the weight. -/
theorem ref_d (x0 x1 x2 : FVec Ideal S1x256x512 .f32) (x3 : FVec Ideal S4x256x512 .f32)
    (x4 : FVec Ideal S3x256x512 .f32) (i : S1x256x512.Idx) :
    Cert.AdamPoolReferenceIdeal.Read.val_main_v35 (F := Ideal) x0 x1 x2 x3 x4 i
      = Adam.delta (x0 i) (x1 i) (x2 i) (parts x3 x4 (i 1) (i 2)) := by
  unfold Adam.delta
  rw [← ref_m, ← ref_v, ← Cert.AdamPoolReferenceIdeal.Read.val_main_v35_eq, ← Cert.AdamPoolReferenceIdeal.Read.val_main_v16_eq,
    ← Cert.AdamPoolReferenceIdeal.Read.val_main_v22_eq]
  pointwise

/-- The gradient's block: its four parts, added. -/
theorem pay1_at (a b c d : Vec Ideal S1x256x512 .bf16) (j : S1x256x512.Idx) : k0_pay1 (k0_pay5 a b c d) j
    = a j + b j + c j + d j := by
  pointwise [k0_pay1, k0_pay5]

/-- The running mean's block. -/
theorem pay3_at (a b c d : Vec Ideal S1x256x512 .bf16) (x : Vec Ideal S1x256x512 .f32) (j : S1x256x512.Idx) :
    k0_pay3 (k0_pay6 a b c d x) j = Adam.mean (x j) (k0_pay1 (k0_pay5 a b c d) j) := by
  pointwise [k0_pay3, k0_pay1, k0_pay6, Adam.mean]

/-- The block of the running mean of squares. -/
theorem pay4_at (a b c d : Vec Ideal S1x256x512 .bf16) (x : Vec Ideal S1x256x512 .f32) (j : S1x256x512.Idx) :
    k0_pay4 (k0_pay7 a b c d x) j = Adam.square (x j) (k0_pay1 (k0_pay5 a b c d) j) := by
  pointwise [k0_pay4, k0_pay1, k0_pay7, Adam.square]

/-- The block of the weight's change. -/
theorem pay2_at (a b c d : Vec Ideal S1x256x512 .bf16) (w x y : Vec Ideal S1x256x512 .f32) (j : S1x256x512.Idx) :
    k0_pay2 (k0_pay8 a b c d x) (k0_pay9 a b c d y) w j
      = Adam.delta (w j) (x j) (y j) (k0_pay1 (k0_pay5 a b c d) j) := by
  unfold Adam.delta
  rw [← pay3_at, ← pay4_at]
  pointwise [k0_pay2, k0_pay8, k0_pay9, k0_pay3, k0_pay4]

/-- What the body leaves in the gradient's window. -/
theorem out_g (c : Dev nD) (t : Fin (cfgM m (ok m)).N) : (outsAt0 m (ok m) c t).1
    = k0_pay1 (k0_pay5 (F := Ideal) (iblk m (ok m) c 3 t) (iblk m (ok m) c 4 t)
      (iblk m (ok m) c 5 t) (iblk m (ok m) c 6 t)) := by
  unfold outsAt0
  frame_out
  refine congrArg k0_pay1 ?_
  congr 1
  · exact (hs0_3 m _ t).read_unread _
  · exact (hs0_4 m _ t).read_unread _
  · exact (hs0_5 m _ t).read_unread _
  · exact (hs0_6 m _ t).read_unread _

/-- What the body leaves in the running mean's window. -/
theorem out_m (c : Dev nD) (t : Fin (cfgM m (ok m)).N) : (outsAt0 m (ok m) c t).2.2.1
    = k0_pay3 (k0_pay6 (F := Ideal) (iblk m (ok m) c 3 t) (iblk m (ok m) c 4 t)
      (iblk m (ok m) c 5 t) (iblk m (ok m) c 6 t) (iblk m (ok m) c 1 t)) := by
  unfold outsAt0
  frame_out
  refine congrArg k0_pay3 ?_
  congr 1
  · exact (hs0_3 m _ t).read_unread _
  · exact (hs0_4 m _ t).read_unread _
  · exact (hs0_5 m _ t).read_unread _
  · exact (hs0_6 m _ t).read_unread _
  · exact (hs0_1 m _ t).read_unread _

/-- What the body leaves in the window of the running mean of squares. -/
theorem out_v (c : Dev nD) (t : Fin (cfgM m (ok m)).N) : (outsAt0 m (ok m) c t).2.2.2
    = k0_pay4 (k0_pay7 (F := Ideal) (iblk m (ok m) c 3 t) (iblk m (ok m) c 4 t)
      (iblk m (ok m) c 5 t) (iblk m (ok m) c 6 t) (iblk m (ok m) c 2 t)) := by
  unfold outsAt0
  frame_out
  refine congrArg k0_pay4 ?_
  congr 1
  · exact (hs0_3 m _ t).read_unread _
  · exact (hs0_4 m _ t).read_unread _
  · exact (hs0_5 m _ t).read_unread _
  · exact (hs0_6 m _ t).read_unread _
  · exact (hs0_2 m _ t).read_unread _

set_option maxHeartbeats 1000000 in
/-- What the body leaves in the window of the weight's change. -/
theorem out_d (c : Dev nD) (t : Fin (cfgM m (ok m)).N) : (outsAt0 m (ok m) c t).2.1
    = k0_pay2 (k0_pay8 (F := Ideal) (iblk m (ok m) c 3 t) (iblk m (ok m) c 4 t)
      (iblk m (ok m) c 5 t) (iblk m (ok m) c 6 t) (iblk m (ok m) c 1 t))
      (k0_pay9 (F := Ideal) (iblk m (ok m) c 3 t) (iblk m (ok m) c 4 t)
      (iblk m (ok m) c 5 t) (iblk m (ok m) c 6 t) (iblk m (ok m) c 2 t)) (iblk m (ok m) c 0 t) := by
  unfold outsAt0
  frame_out
  refine congr (congr (congrArg k0_pay2 ?_) ?_) ?_
  · congr 1
    · exact (hs0_3 m _ t).read_unread _
    · exact (hs0_4 m _ t).read_unread _
    · exact (hs0_5 m _ t).read_unread _
    · exact (hs0_6 m _ t).read_unread _
    · exact (hs0_1 m _ t).read_unread _
  · congr 1
    · exact (hs0_3 m _ t).read_unread _
    · exact (hs0_4 m _ t).read_unread _
    · exact (hs0_5 m _ t).read_unread _
    · exact (hs0_6 m _ t).read_unread _
    · exact (hs0_2 m _ t).read_unread _
  · exact (hs0_0 m _ t).read_unread _

/-- The row of the array that a row of the block is. -/
def place (t : Fin (cfgM m (ok m)).N) (r : Fin 256) : Fin 256 :=
  ⟨t.val * 256 + r.val, by have : t.val < 1 := t.isLt; omega⟩

/-- The four parts of the gradient, in the block of one grid point. -/
theorem parts_at (c : Dev nD) (t : Fin (cfgM m (ok m)).N) (y : S1x256x512.Idx) :
    (iblk m (ok m) c 3 t : Vec Ideal S1x256x512 .bf16) y
      = (m ((c : Thread nD τ).loc main_arg3) : FVec Ideal S4x256x512 .f32) (ix3 0 (place m t (y 1)) (y 2))
    ∧ (iblk m (ok m) c 4 t : Vec Ideal S1x256x512 .bf16) y
      = (m ((c : Thread nD τ).loc main_arg4) : FVec Ideal S3x256x512 .f32) (ix3 0 (place m t (y 1)) (y 2))
    ∧ (iblk m (ok m) c 5 t : Vec Ideal S1x256x512 .bf16) y
      = (m ((c : Thread nD τ).loc main_arg4) : FVec Ideal S3x256x512 .f32) (ix3 1 (place m t (y 1)) (y 2))
    ∧ (iblk m (ok m) c 6 t : Vec Ideal S1x256x512 .bf16) y
      = (m ((c : Thread nD τ).loc main_arg4) : FVec Ideal S3x256x512 .f32) (ix3 2 (place m t (y 1)) (y 2)) := by
  refine ⟨?_, ?_, ?_, ?_⟩
  · blk_point [iblk, V, index_own m t, place]
  · blk_point [iblk, V, index_val m t, place]
  · blk_point [iblk, V, index_val m t, place]
  · blk_point [iblk, V, index_val m t, place]

/-- The weight and its two running means, in the block of one grid point. -/
theorem state_at (c : Dev nD) (t : Fin (cfgM m (ok m)).N) (y : S1x256x512.Idx) :
    (iblk m (ok m) c 0 t : Vec Ideal S1x256x512 .f32) y = (m ((c : Thread nD τ).loc main_arg0) : FVec Ideal S1x256x512 .f32) (ix3 0 (place m t (y 1)) (y 2))
    ∧ (iblk m (ok m) c 1 t : Vec Ideal S1x256x512 .f32) y = (m ((c : Thread nD τ).loc main_arg1) : FVec Ideal S1x256x512 .f32) (ix3 0 (place m t (y 1)) (y 2))
    ∧ (iblk m (ok m) c 2 t : Vec Ideal S1x256x512 .f32) y = (m ((c : Thread nD τ).loc main_arg2) : FVec Ideal S1x256x512 .f32) (ix3 0 (place m t (y 1)) (y 2)) := by
  refine ⟨?_, ?_, ?_⟩
  · blk_point [iblk, V, index_val m t, place]
  · blk_point [iblk, V, index_val m t, place]
  · blk_point [iblk, V, index_val m t, place]

/-- The place in the array that a place of a result's block is. -/
theorem emb_at (t : Fin (cfgM m (ok m)).N) (y : S1x256x512.Idx) :
    ((((cfgM m (ok m)).win 7).blk t).view.emb y : S1x256x512.Idx) = ix3 0 (place m t (y 1)) (y 2) := by
  blk_point [index_val m t, place]

/-- The gradient's block, at one of its places. -/
theorem grad_at (c : Dev nD) (t : Fin (cfgM m (ok m)).N) (y : S1x256x512.Idx) : k0_pay1 (k0_pay5 (F := Ideal) (iblk m (ok m) c 3 t) (iblk m (ok m) c 4 t)
      (iblk m (ok m) c 5 t) (iblk m (ok m) c 6 t)) y
    = parts (m ((c : Thread nD τ).loc main_arg3)) (m ((c : Thread nD τ).loc main_arg4)) (place m t (y 1)) (y 2) := by
  obtain ⟨h3, h4, h5, h6⟩ := parts_at m c t y
  refine (pay1_at _ _ _ _ y).trans ?_
  exact congrArg₂ (fun u v : EReal => u + v)
    (congrArg₂ (fun u v : EReal => u + v) (congrArg₂ (fun u v : EReal => u + v) h3 h4) h5) h6

/-- The running mean's block, at one of its places. -/
theorem mean_at (c : Dev nD) (t : Fin (cfgM m (ok m)).N) (y : S1x256x512.Idx) : (outsAt0 m (ok m) c t).2.2.1 y
    = Adam.mean ((m ((c : Thread nD τ).loc main_arg1) : FVec Ideal S1x256x512 .f32) (ix3 0 (place m t (y 1)) (y 2)))
      (parts (m ((c : Thread nD τ).loc main_arg3)) (m ((c : Thread nD τ).loc main_arg4)) (place m t (y 1)) (y 2)) := by
  rw [out_m]
  exact (pay3_at _ _ _ _ _ y).trans (congrArg₂ Adam.mean (state_at m c t y).2.1 (grad_at m c t y))

/-- The block of the running mean of squares, at one of its places. -/
theorem square_at (c : Dev nD) (t : Fin (cfgM m (ok m)).N) (y : S1x256x512.Idx) : (outsAt0 m (ok m) c t).2.2.2 y
    = Adam.square ((m ((c : Thread nD τ).loc main_arg2) : FVec Ideal S1x256x512 .f32) (ix3 0 (place m t (y 1)) (y 2)))
      (parts (m ((c : Thread nD τ).loc main_arg3)) (m ((c : Thread nD τ).loc main_arg4)) (place m t (y 1)) (y 2)) := by
  rw [out_v]
  exact (pay4_at _ _ _ _ _ y).trans (congrArg₂ Adam.square (state_at m c t y).2.2 (grad_at m c t y))

/-- The block of the weight's change, at one of its places. -/
theorem delta_at (c : Dev nD) (t : Fin (cfgM m (ok m)).N) (y : S1x256x512.Idx) : (outsAt0 m (ok m) c t).2.1 y
    = Adam.delta ((m ((c : Thread nD τ).loc main_arg0) : FVec Ideal S1x256x512 .f32) (ix3 0 (place m t (y 1)) (y 2)))
      ((m ((c : Thread nD τ).loc main_arg1) : FVec Ideal S1x256x512 .f32) (ix3 0 (place m t (y 1)) (y 2)))
      ((m ((c : Thread nD τ).loc main_arg2) : FVec Ideal S1x256x512 .f32) (ix3 0 (place m t (y 1)) (y 2)))
      (parts (m ((c : Thread nD τ).loc main_arg3)) (m ((c : Thread nD τ).loc main_arg4)) (place m t (y 1)) (y 2)) := by
  rw [out_d]
  refine (pay2_at _ _ _ _ _ _ _ y).trans ?_
  obtain ⟨h0, h1, h2⟩ := state_at m c t y
  exact congr (congr (congrArg₂ Adam.delta h0 h1) h2) (grad_at m c t y)

/-- When the call has ended, its array 0 of results is the reference's gradient. -/
theorem final_g (c : Dev nD) : (dats m (ok m) 0 c).arrAt 7 (cfgM m (ok m)).N
    = Cert.AdamPoolReferenceIdeal.Read.val_main_v11 (m ((c : Thread nD τ).loc main_arg3)) (m ((c : Thread nD τ).loc main_arg4)) := by
  refine (dats m (ok m) 0 c).arrAt_eq_of_covers 7 _ (covers m).1 fun t hf y => ?_
  blk_simp
  rw [after0_7]
  exact ((congrFun (out_g m c t) y).trans (grad_at m c t y)).trans ((ref_g _ _ _ ).symm.trans (congrArg _ (emb_at m t y).symm))

/-- When the call has ended, its array 1 of results is the reference's weight's change. -/
theorem final_d (c : Dev nD) : (dats m (ok m) 0 c).arrAt 8 (cfgM m (ok m)).N
    = Cert.AdamPoolReferenceIdeal.Read.val_main_v35 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 8 _ (covers m).2.1 fun t hf y => ?_
  blk_simp
  rw [after0_8]
  exact (delta_at m c t y).trans ((ref_d _ _ _ _ _ _ ).symm.trans (congrArg _ (emb_at m t y).symm))

/-- When the call has ended, its array 2 of results is the reference's new running mean. -/
theorem final_m (c : Dev nD) : (dats m (ok m) 0 c).arrAt 9 (cfgM m (ok m)).N
    = Cert.AdamPoolReferenceIdeal.Read.val_main_v16 (m ((c : Thread nD τ).loc main_arg1)) (m ((c : Thread nD τ).loc main_arg3)) (m ((c : Thread nD τ).loc main_arg4)) := by
  refine (dats m (ok m) 0 c).arrAt_eq_of_covers 9 _ (covers m).2.2.1 fun t hf y => ?_
  blk_simp
  rw [after0_9]
  exact (mean_at m c t y).trans ((ref_m _ _ _ _ ).symm.trans (congrArg _ (emb_at m t y).symm))

/-- When the call has ended, its array 3 of results is the reference's new running mean of squares. -/
theorem final_v (c : Dev nD) : (dats m (ok m) 0 c).arrAt 10 (cfgM m (ok m)).N
    = Cert.AdamPoolReferenceIdeal.Read.val_main_v22 (m ((c : Thread nD τ).loc main_arg2)) (m ((c : Thread nD τ).loc main_arg3)) (m ((c : Thread nD τ).loc main_arg4)) := by
  refine (dats m (ok m) 0 c).arrAt_eq_of_covers 10 _ (covers m).2.2.2 fun t hf y => ?_
  blk_simp
  rw [after0_10]
  exact (square_at m c t y).trans ((ref_v _ _ _ _ ).symm.trans (congrArg _ (emb_at m t y).symm))

end Cert.AdamPoolIdeal.Sums
end
-- ==== Proof.ProdAdamOut.lean ====
module

public import proofs.«01_k».proof.Proof.Gen.AdamOutIdeal.Frame
public import proofs.«01_k».proof.Proof.Gen.AdamOutReferenceIdeal.Read
public import proofs.«01_k».proof.Proof.Gen.AdamOutReferenceIdeal.Run
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Value

@[expose] public section

set_option maxRecDepth 16384

noncomputable section
namespace Cert.AdamOutIdeal.Sums
open Idealize.ShloMosaic Idealize.ShloMosaic.TcCoe Idealize.SL.Sem
open Cert.AdamOutIdeal Cert.AdamOutIdeal.Gen
open Idealize.ShloMosaic.Pipeline (Dat)
section
variable {F : FTy → Type} [FloatOps F] (m : (ℓ : Loc nD τ sig) → Buf (Elt F) ℓ)

/-- The table the call reads its first part's place from holds zero. -/
theorem table_eq (i) : tbl m 0 i = 0#32 := by
  show V m (0 : Dev nD) main_v4 i = 0#32
  entry_read
  rfl

/-- With that table, the first part's block is the block of part zero. -/
theorem own_map (i : grid0.Coords) : cc0_transform_3 inb_S1_S1_0 numel1_S1 (tbl m) i = cc0_transform_4 i := by
  unfold cc0_transform_3 cc0_transform_4 Pipeline.Prefetch.Contents.at
  rw [table_eq]

/-- That block lies inside the array of parts. -/
theorem own_inb : ∀ (i : grid0.Coords) a, (cc0_transform_4 i a + 1) * S1x128x2048.size a ≤ S4x512x2048.size a := by
  decide +kernel

/-- That block is whole words of memory. -/
theorem own_words : ∀ i : grid0.Coords, EltTy.bits .bf16 = 32
    ∨ (Rect.block (s := S4x512x2048) S1x128x2048.size (cc0_transform_4 i) (own_inb i)).WholeWords (EltTy.packing .bf16) :=
  fun _ => .inr (Affine.block_words_dvd (of_decide_eq_true rfl) (by decide))

/-- The table the program fills is one the call accepts. -/
theorem ok : Ok m := by
  intro i
  rw [own_map]
  exact ⟨own_inb i, own_words i⟩
end

/-- The pipeline's table, of a memory of zeros. -/
def zeros : (pcfg0 (F := Ideal)).Adm := adm (fun _ _ => default) (ok _)

variable (m : (ℓ : Loc nD τ sig) → Buf (Elt Ideal) ℓ)

/-- The blocks of each result cover it. -/
theorem covers : ((cfgM m (ok m)).win 7).Covers
    ∧ ((cfgM m (ok m)).win 8).Covers
    ∧ ((cfgM m (ok m)).win 9).Covers
    ∧ ((cfgM m (ok m)).win 10).Covers :=
  (by decide +kernel : ((cfg0 zeros).win 7).Covers
    ∧ ((cfg0 zeros).win 8).Covers
    ∧ ((cfg0 zeros).win 9).Covers
    ∧ ((cfg0 zeros).win 10).Covers)

/-- At every grid point, which block of its array each window holds. -/
theorem index_val (t : Fin (cfgM m (ok m)).N) : ((cfgM m (ok m)).win 0).index t = ![0, t.val, 0]
    ∧ ((cfgM m (ok m)).win 1).index t = ![0, t.val, 0]
    ∧ ((cfgM m (ok m)).win 2).index t = ![0, t.val, 0]
    ∧ ((cfgM m (ok m)).win 4).index t = ![0, t.val, 0]
    ∧ ((cfgM m (ok m)).win 5).index t = ![1, t.val, 0]
    ∧ ((cfgM m (ok m)).win 6).index t = ![2, t.val, 0]
    ∧ ((cfgM m (ok m)).win 7).index t = ![0, t.val, 0]
    ∧ ((cfgM m (ok m)).win 8).index t = ![0, t.val, 0]
    ∧ ((cfgM m (ok m)).win 9).index t = ![0, t.val, 0]
    ∧ ((cfgM m (ok m)).win 10).index t = ![0, t.val, 0] :=
  (by decide +kernel : ∀ t : Fin (cfg0 zeros).N, ((cfg0 zeros).win 0).index t = ![0, t.val, 0]
    ∧ ((cfg0 zeros).win 1).index t = ![0, t.val, 0]
    ∧ ((cfg0 zeros).win 2).index t = ![0, t.val, 0]
    ∧ ((cfg0 zeros).win 4).index t = ![0, t.val, 0]
    ∧ ((cfg0 zeros).win 5).index t = ![1, t.val, 0]
    ∧ ((cfg0 zeros).win 6).index t = ![2, t.val, 0]
    ∧ ((cfg0 zeros).win 7).index t = ![0, t.val, 0]
    ∧ ((cfg0 zeros).win 8).index t = ![0, t.val, 0]
    ∧ ((cfg0 zeros).win 9).index t = ![0, t.val, 0]
    ∧ ((cfg0 zeros).win 10).index t = ![0, t.val, 0]) t

/-- At every grid point, which block of the first part its window holds. -/
theorem index_own (t : Fin (cfgM m (ok m)).N) : ((cfgM m (ok m)).win 3).index t = ![0, t.val, 0] :=
  (own_map m _).trans ((by decide +kernel : ∀ t : Fin grid0.N, cc0_transform_4 (grid0.coords t) = ![0, t.val, 0]) t)

/-- The four parts of the gradient, added, for a row and a column. -/
def parts (x3 : FVec Ideal S4x512x2048 .f32) (x4 : FVec Ideal S3x512x2048 .f32) (r : Fin 512) (k : Fin 2048) : EReal :=
  x3 (ix3 0 r k) + x4 (ix3 0 r k) + x4 (ix3 1 r k) + x4 (ix3 2 r k)

/-- The reference's gradient: the four parts, added. -/
theorem ref_g (x3 : FVec Ideal S4x512x2048 .f32) (x4 : FVec Ideal S3x512x2048 .f32) (i : S1x512x2048.Idx) :
    Cert.AdamOutReferenceIdeal.Read.val_main_v11 (F := Ideal) x3 x4 i = parts x3 x4 (i 1) (i 2) := by
  rw [← Cert.AdamOutReferenceIdeal.Read.val_main_v11_eq]
  pointwise [parts]

/-- The reference's new running mean. -/
theorem ref_m (x1 : FVec Ideal S1x512x2048 .f32) (x3 : FVec Ideal S4x512x2048 .f32) (x4 : FVec Ideal S3x512x2048 .f32)
    (i : S1x512x2048.Idx) : Cert.AdamOutReferenceIdeal.Read.val_main_v16 (F := Ideal) x1 x3 x4 i
      = Adam.mean (x1 i) (parts x3 x4 (i 1) (i 2)) := by
  rw [← ref_g, ← Cert.AdamOutReferenceIdeal.Read.val_main_v16_eq, ← Cert.AdamOutReferenceIdeal.Read.val_main_v11_eq]
  pointwise [Adam.mean]

/-- The reference's new running mean of squares. -/
theorem ref_v (x2 : FVec Ideal S1x512x2048 .f32) (x3 : FVec Ideal S4x512x2048 .f32) (x4 : FVec Ideal S3x512x2048 .f32)
    (i : S1x512x2048.Idx) : Cert.AdamOutReferenceIdeal.Read.val_main_v22 (F := Ideal) x2 x3 x4 i
      = Adam.square (x2 i) (parts x3 x4 (i 1) (i 2)) := by
  rw [← ref_g, ← Cert.AdamOutReferenceIdeal.Read.val_main_v22_eq, ← Cert.AdamOutReferenceIdeal.Read.val_main_v11_eq]
  pointwise [Adam.square]

/-- The reference's change of the weight. -/
theorem ref_d (x0 x1 x2 : FVec Ideal S1x512x2048 .f32) (x3 : FVec Ideal S4x512x2048 .f32)
    (x4 : FVec Ideal S3x512x2048 .f32) (i : S1x512x2048.Idx) :
    Cert.AdamOutReferenceIdeal.Read.val_main_v35 (F := Ideal) x0 x1 x2 x3 x4 i
      = Adam.delta (x0 i) (x1 i) (x2 i) (parts x3 x4 (i 1) (i 2)) := by
  unfold Adam.delta
  rw [← ref_m, ← ref_v, ← Cert.AdamOutReferenceIdeal.Read.val_main_v35_eq, ← Cert.AdamOutReferenceIdeal.Read.val_main_v16_eq,
    ← Cert.AdamOutReferenceIdeal.Read.val_main_v22_eq]
  pointwise

/-- The gradient's block: its four parts, added. -/
theorem pay1_at (a b c d : Vec Ideal S1x128x2048 .bf16) (j : S1x128x2048.Idx) : k0_pay1 (k0_pay5 a b c d) j
    = a j + b j + c j + d j := by
  pointwise [k0_pay1, k0_pay5]

/-- The running mean's block. -/
theorem pay3_at (a b c d : Vec Ideal S1x128x2048 .bf16) (x : Vec Ideal S1x128x2048 .f32) (j : S1x128x2048.Idx) :
    k0_pay3 (k0_pay6 a b c d x) j = Adam.mean (x j) (k0_pay1 (k0_pay5 a b c d) j) := by
  pointwise [k0_pay3, k0_pay1, k0_pay6, Adam.mean]

/-- The block of the running mean of squares. -/
theorem pay4_at (a b c d : Vec Ideal S1x128x2048 .bf16) (x : Vec Ideal S1x128x2048 .f32) (j : S1x128x2048.Idx) :
    k0_pay4 (k0_pay7 a b c d x) j = Adam.square (x j) (k0_pay1 (k0_pay5 a b c d) j) := by
  pointwise [k0_pay4, k0_pay1, k0_pay7, Adam.square]

/-- The block of the weight's change. -/
theorem pay2_at (a b c d : Vec Ideal S1x128x2048 .bf16) (w x y : Vec Ideal S1x128x2048 .f32) (j : S1x128x2048.Idx) :
    k0_pay2 (k0_pay8 a b c d x) (k0_pay9 a b c d y) w j
      = Adam.delta (w j) (x j) (y j) (k0_pay1 (k0_pay5 a b c d) j) := by
  unfold Adam.delta
  rw [← pay3_at, ← pay4_at]
  pointwise [k0_pay2, k0_pay8, k0_pay9, k0_pay3, k0_pay4]

/-- What the body leaves in the gradient's window. -/
theorem out_g (c : Dev nD) (t : Fin (cfgM m (ok m)).N) : (outsAt0 m (ok m) c t).1
    = k0_pay1 (k0_pay5 (F := Ideal) (iblk m (ok m) c 3 t) (iblk m (ok m) c 4 t)
      (iblk m (ok m) c 5 t) (iblk m (ok m) c 6 t)) := by
  unfold outsAt0
  frame_out
  refine congrArg k0_pay1 ?_
  congr 1
  · exact (hs0_3 m _ t).read_unread _
  · exact (hs0_4 m _ t).read_unread _
  · exact (hs0_5 m _ t).read_unread _
  · exact (hs0_6 m _ t).read_unread _

/-- What the body leaves in the running mean's window. -/
theorem out_m (c : Dev nD) (t : Fin (cfgM m (ok m)).N) : (outsAt0 m (ok m) c t).2.2.1
    = k0_pay3 (k0_pay6 (F := Ideal) (iblk m (ok m) c 3 t) (iblk m (ok m) c 4 t)
      (iblk m (ok m) c 5 t) (iblk m (ok m) c 6 t) (iblk m (ok m) c 1 t)) := by
  unfold outsAt0
  frame_out
  refine congrArg k0_pay3 ?_
  congr 1
  · exact (hs0_3 m _ t).read_unread _
  · exact (hs0_4 m _ t).read_unread _
  · exact (hs0_5 m _ t).read_unread _
  · exact (hs0_6 m _ t).read_unread _
  · exact (hs0_1 m _ t).read_unread _

/-- What the body leaves in the window of the running mean of squares. -/
theorem out_v (c : Dev nD) (t : Fin (cfgM m (ok m)).N) : (outsAt0 m (ok m) c t).2.2.2
    = k0_pay4 (k0_pay7 (F := Ideal) (iblk m (ok m) c 3 t) (iblk m (ok m) c 4 t)
      (iblk m (ok m) c 5 t) (iblk m (ok m) c 6 t) (iblk m (ok m) c 2 t)) := by
  unfold outsAt0
  frame_out
  refine congrArg k0_pay4 ?_
  congr 1
  · exact (hs0_3 m _ t).read_unread _
  · exact (hs0_4 m _ t).read_unread _
  · exact (hs0_5 m _ t).read_unread _
  · exact (hs0_6 m _ t).read_unread _
  · exact (hs0_2 m _ t).read_unread _

set_option maxHeartbeats 1000000 in
/-- What the body leaves in the window of the weight's change. -/
theorem out_d (c : Dev nD) (t : Fin (cfgM m (ok m)).N) : (outsAt0 m (ok m) c t).2.1
    = k0_pay2 (k0_pay8 (F := Ideal) (iblk m (ok m) c 3 t) (iblk m (ok m) c 4 t)
      (iblk m (ok m) c 5 t) (iblk m (ok m) c 6 t) (iblk m (ok m) c 1 t))
      (k0_pay9 (F := Ideal) (iblk m (ok m) c 3 t) (iblk m (ok m) c 4 t)
      (iblk m (ok m) c 5 t) (iblk m (ok m) c 6 t) (iblk m (ok m) c 2 t)) (iblk m (ok m) c 0 t) := by
  unfold outsAt0
  frame_out
  refine congr (congr (congrArg k0_pay2 ?_) ?_) ?_
  · congr 1
    · exact (hs0_3 m _ t).read_unread _
    · exact (hs0_4 m _ t).read_unread _
    · exact (hs0_5 m _ t).read_unread _
    · exact (hs0_6 m _ t).read_unread _
    · exact (hs0_1 m _ t).read_unread _
  · congr 1
    · exact (hs0_3 m _ t).read_unread _
    · exact (hs0_4 m _ t).read_unread _
    · exact (hs0_5 m _ t).read_unread _
    · exact (hs0_6 m _ t).read_unread _
    · exact (hs0_2 m _ t).read_unread _
  · exact (hs0_0 m _ t).read_unread _

/-- The row of the array that a row of the block is. -/
def place (t : Fin (cfgM m (ok m)).N) (r : Fin 128) : Fin 512 :=
  ⟨t.val * 128 + r.val, by have : t.val < 4 := t.isLt; omega⟩

/-- The four parts of the gradient, in the block of one grid point. -/
theorem parts_at (c : Dev nD) (t : Fin (cfgM m (ok m)).N) (y : S1x128x2048.Idx) :
    (iblk m (ok m) c 3 t : Vec Ideal S1x128x2048 .bf16) y
      = (m ((c : Thread nD τ).loc main_arg3) : FVec Ideal S4x512x2048 .f32) (ix3 0 (place m t (y 1)) (y 2))
    ∧ (iblk m (ok m) c 4 t : Vec Ideal S1x128x2048 .bf16) y
      = (m ((c : Thread nD τ).loc main_arg4) : FVec Ideal S3x512x2048 .f32) (ix3 0 (place m t (y 1)) (y 2))
    ∧ (iblk m (ok m) c 5 t : Vec Ideal S1x128x2048 .bf16) y
      = (m ((c : Thread nD τ).loc main_arg4) : FVec Ideal S3x512x2048 .f32) (ix3 1 (place m t (y 1)) (y 2))
    ∧ (iblk m (ok m) c 6 t : Vec Ideal S1x128x2048 .bf16) y
      = (m ((c : Thread nD τ).loc main_arg4) : FVec Ideal S3x512x2048 .f32) (ix3 2 (place m t (y 1)) (y 2)) := by
  refine ⟨?_, ?_, ?_, ?_⟩
  · blk_point [iblk, V, index_own m t, place]
  · blk_point [iblk, V, index_val m t, place]
  · blk_point [iblk, V, index_val m t, place]
  · blk_point [iblk, V, index_val m t, place]

/-- The weight and its two running means, in the block of one grid point. -/
theorem state_at (c : Dev nD) (t : Fin (cfgM m (ok m)).N) (y : S1x128x2048.Idx) :
    (iblk m (ok m) c 0 t : Vec Ideal S1x128x2048 .f32) y = (m ((c : Thread nD τ).loc main_arg0) : FVec Ideal S1x512x2048 .f32) (ix3 0 (place m t (y 1)) (y 2))
    ∧ (iblk m (ok m) c 1 t : Vec Ideal S1x128x2048 .f32) y = (m ((c : Thread nD τ).loc main_arg1) : FVec Ideal S1x512x2048 .f32) (ix3 0 (place m t (y 1)) (y 2))
    ∧ (iblk m (ok m) c 2 t : Vec Ideal S1x128x2048 .f32) y = (m ((c : Thread nD τ).loc main_arg2) : FVec Ideal S1x512x2048 .f32) (ix3 0 (place m t (y 1)) (y 2)) := by
  refine ⟨?_, ?_, ?_⟩
  · blk_point [iblk, V, index_val m t, place]
  · blk_point [iblk, V, index_val m t, place]
  · blk_point [iblk, V, index_val m t, place]

/-- The place in the array that a place of a result's block is. -/
theorem emb_at (t : Fin (cfgM m (ok m)).N) (y : S1x128x2048.Idx) :
    ((((cfgM m (ok m)).win 7).blk t).view.emb y : S1x512x2048.Idx) = ix3 0 (place m t (y 1)) (y 2) := by
  blk_point [index_val m t, place]

/-- The gradient's block, at one of its places. -/
theorem grad_at (c : Dev nD) (t : Fin (cfgM m (ok m)).N) (y : S1x128x2048.Idx) : k0_pay1 (k0_pay5 (F := Ideal) (iblk m (ok m) c 3 t) (iblk m (ok m) c 4 t)
      (iblk m (ok m) c 5 t) (iblk m (ok m) c 6 t)) y
    = parts (m ((c : Thread nD τ).loc main_arg3)) (m ((c : Thread nD τ).loc main_arg4)) (place m t (y 1)) (y 2) := by
  obtain ⟨h3, h4, h5, h6⟩ := parts_at m c t y
  refine (pay1_at _ _ _ _ y).trans ?_
  exact congrArg₂ (fun u v : EReal => u + v)
    (congrArg₂ (fun u v : EReal => u + v) (congrArg₂ (fun u v : EReal => u + v) h3 h4) h5) h6

/-- The running mean's block, at one of its places. -/
theorem mean_at (c : Dev nD) (t : Fin (cfgM m (ok m)).N) (y : S1x128x2048.Idx) : (outsAt0 m (ok m) c t).2.2.1 y
    = Adam.mean ((m ((c : Thread nD τ).loc main_arg1) : FVec Ideal S1x512x2048 .f32) (ix3 0 (place m t (y 1)) (y 2)))
      (parts (m ((c : Thread nD τ).loc main_arg3)) (m ((c : Thread nD τ).loc main_arg4)) (place m t (y 1)) (y 2)) := by
  rw [out_m]
  exact (pay3_at _ _ _ _ _ y).trans (congrArg₂ Adam.mean (state_at m c t y).2.1 (grad_at m c t y))

/-- The block of the running mean of squares, at one of its places. -/
theorem square_at (c : Dev nD) (t : Fin (cfgM m (ok m)).N) (y : S1x128x2048.Idx) : (outsAt0 m (ok m) c t).2.2.2 y
    = Adam.square ((m ((c : Thread nD τ).loc main_arg2) : FVec Ideal S1x512x2048 .f32) (ix3 0 (place m t (y 1)) (y 2)))
      (parts (m ((c : Thread nD τ).loc main_arg3)) (m ((c : Thread nD τ).loc main_arg4)) (place m t (y 1)) (y 2)) := by
  rw [out_v]
  exact (pay4_at _ _ _ _ _ y).trans (congrArg₂ Adam.square (state_at m c t y).2.2 (grad_at m c t y))

/-- The block of the weight's change, at one of its places. -/
theorem delta_at (c : Dev nD) (t : Fin (cfgM m (ok m)).N) (y : S1x128x2048.Idx) : (outsAt0 m (ok m) c t).2.1 y
    = Adam.delta ((m ((c : Thread nD τ).loc main_arg0) : FVec Ideal S1x512x2048 .f32) (ix3 0 (place m t (y 1)) (y 2)))
      ((m ((c : Thread nD τ).loc main_arg1) : FVec Ideal S1x512x2048 .f32) (ix3 0 (place m t (y 1)) (y 2)))
      ((m ((c : Thread nD τ).loc main_arg2) : FVec Ideal S1x512x2048 .f32) (ix3 0 (place m t (y 1)) (y 2)))
      (parts (m ((c : Thread nD τ).loc main_arg3)) (m ((c : Thread nD τ).loc main_arg4)) (place m t (y 1)) (y 2)) := by
  rw [out_d]
  refine (pay2_at _ _ _ _ _ _ _ y).trans ?_
  obtain ⟨h0, h1, h2⟩ := state_at m c t y
  exact congr (congr (congrArg₂ Adam.delta h0 h1) h2) (grad_at m c t y)

/-- When the call has ended, its array 0 of results is the reference's gradient. -/
theorem final_g (c : Dev nD) : (dats m (ok m) 0 c).arrAt 7 (cfgM m (ok m)).N
    = Cert.AdamOutReferenceIdeal.Read.val_main_v11 (m ((c : Thread nD τ).loc main_arg3)) (m ((c : Thread nD τ).loc main_arg4)) := by
  refine (dats m (ok m) 0 c).arrAt_eq_of_covers 7 _ (covers m).1 fun t hf y => ?_
  blk_simp
  rw [after0_7]
  exact ((congrFun (out_g m c t) y).trans (grad_at m c t y)).trans ((ref_g _ _ _ ).symm.trans (congrArg _ (emb_at m t y).symm))

/-- When the call has ended, its array 1 of results is the reference's weight's change. -/
theorem final_d (c : Dev nD) : (dats m (ok m) 0 c).arrAt 8 (cfgM m (ok m)).N
    = Cert.AdamOutReferenceIdeal.Read.val_main_v35 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 8 _ (covers m).2.1 fun t hf y => ?_
  blk_simp
  rw [after0_8]
  exact (delta_at m c t y).trans ((ref_d _ _ _ _ _ _ ).symm.trans (congrArg _ (emb_at m t y).symm))

/-- When the call has ended, its array 2 of results is the reference's new running mean. -/
theorem final_m (c : Dev nD) : (dats m (ok m) 0 c).arrAt 9 (cfgM m (ok m)).N
    = Cert.AdamOutReferenceIdeal.Read.val_main_v16 (m ((c : Thread nD τ).loc main_arg1)) (m ((c : Thread nD τ).loc main_arg3)) (m ((c : Thread nD τ).loc main_arg4)) := by
  refine (dats m (ok m) 0 c).arrAt_eq_of_covers 9 _ (covers m).2.2.1 fun t hf y => ?_
  blk_simp
  rw [after0_9]
  exact (mean_at m c t y).trans ((ref_m _ _ _ _ ).symm.trans (congrArg _ (emb_at m t y).symm))

/-- When the call has ended, its array 3 of results is the reference's new running mean of squares. -/
theorem final_v (c : Dev nD) : (dats m (ok m) 0 c).arrAt 10 (cfgM m (ok m)).N
    = Cert.AdamOutReferenceIdeal.Read.val_main_v22 (m ((c : Thread nD τ).loc main_arg2)) (m ((c : Thread nD τ).loc main_arg3)) (m ((c : Thread nD τ).loc main_arg4)) := by
  refine (dats m (ok m) 0 c).arrAt_eq_of_covers 10 _ (covers m).2.2.2 fun t hf y => ?_
  blk_simp
  rw [after0_10]
  exact (square_at m c t y).trans ((ref_v _ _ _ _ ).symm.trans (congrArg _ (emb_at m t y).symm))

end Cert.AdamOutIdeal.Sums
end
-- ==== Proof.ProdAdamIn.lean ====
module

public import proofs.«01_k».proof.Proof.Gen.AdamInIdeal.Frame
public import proofs.«01_k».proof.Proof.Gen.AdamInReferenceIdeal.Read
public import proofs.«01_k».proof.Proof.Gen.AdamInReferenceIdeal.Run
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Value

@[expose] public section

set_option maxRecDepth 16384

noncomputable section
namespace Cert.AdamInIdeal.Sums
open Idealize.ShloMosaic Idealize.ShloMosaic.TcCoe Idealize.SL.Sem
open Cert.AdamInIdeal Cert.AdamInIdeal.Gen
open Idealize.ShloMosaic.Pipeline (Dat)
section
variable {F : FTy → Type} [FloatOps F] (m : (ℓ : Loc nD τ sig) → Buf (Elt F) ℓ)

/-- The table the call reads its first part's place from holds zero. -/
theorem table_eq (i) : tbl m 0 i = 0#32 := by
  show V m (0 : Dev nD) main_v4 i = 0#32
  entry_read
  rfl

/-- With that table, the first part's block is the block of part zero. -/
theorem own_map (i : grid0.Coords) : cc0_transform_3 inb_S1_S1_0 numel1_S1 (tbl m) i = cc0_transform_4 i := by
  unfold cc0_transform_3 cc0_transform_4 Pipeline.Prefetch.Contents.at
  rw [table_eq]

/-- That block lies inside the array of parts. -/
theorem own_inb : ∀ (i : grid0.Coords) a, (cc0_transform_4 i a + 1) * S1x1288x256.size a ≤ S4x1288x2048.size a := by
  decide +kernel

/-- That block is whole words of memory. -/
theorem own_words : ∀ i : grid0.Coords, EltTy.bits .bf16 = 32
    ∨ (Rect.block (s := S4x1288x2048) S1x1288x256.size (cc0_transform_4 i) (own_inb i)).WholeWords (EltTy.packing .bf16) :=
  fun _ => .inr (Affine.block_words_dvd (of_decide_eq_true rfl) (by decide))

/-- The table the program fills is one the call accepts. -/
theorem ok : Ok m := by
  intro i
  rw [own_map]
  exact ⟨own_inb i, own_words i⟩
end

/-- The pipeline's table, of a memory of zeros. -/
def zeros : (pcfg0 (F := Ideal)).Adm := adm (fun _ _ => default) (ok _)

variable (m : (ℓ : Loc nD τ sig) → Buf (Elt Ideal) ℓ)

/-- The blocks of each result cover it. -/
theorem covers : ((cfgM m (ok m)).win 7).Covers
    ∧ ((cfgM m (ok m)).win 8).Covers
    ∧ ((cfgM m (ok m)).win 9).Covers
    ∧ ((cfgM m (ok m)).win 10).Covers :=
  (by decide +kernel : ((cfg0 zeros).win 7).Covers
    ∧ ((cfg0 zeros).win 8).Covers
    ∧ ((cfg0 zeros).win 9).Covers
    ∧ ((cfg0 zeros).win 10).Covers)

/-- At every grid point, which block of its array each window holds. -/
theorem index_val (t : Fin (cfgM m (ok m)).N) : ((cfgM m (ok m)).win 0).index t = ![0, 0, t.val]
    ∧ ((cfgM m (ok m)).win 1).index t = ![0, 0, t.val]
    ∧ ((cfgM m (ok m)).win 2).index t = ![0, 0, t.val]
    ∧ ((cfgM m (ok m)).win 4).index t = ![0, 0, t.val]
    ∧ ((cfgM m (ok m)).win 5).index t = ![1, 0, t.val]
    ∧ ((cfgM m (ok m)).win 6).index t = ![2, 0, t.val]
    ∧ ((cfgM m (ok m)).win 7).index t = ![0, 0, t.val]
    ∧ ((cfgM m (ok m)).win 8).index t = ![0, 0, t.val]
    ∧ ((cfgM m (ok m)).win 9).index t = ![0, 0, t.val]
    ∧ ((cfgM m (ok m)).win 10).index t = ![0, 0, t.val] :=
  (by decide +kernel : ∀ t : Fin (cfg0 zeros).N, ((cfg0 zeros).win 0).index t = ![0, 0, t.val]
    ∧ ((cfg0 zeros).win 1).index t = ![0, 0, t.val]
    ∧ ((cfg0 zeros).win 2).index t = ![0, 0, t.val]
    ∧ ((cfg0 zeros).win 4).index t = ![0, 0, t.val]
    ∧ ((cfg0 zeros).win 5).index t = ![1, 0, t.val]
    ∧ ((cfg0 zeros).win 6).index t = ![2, 0, t.val]
    ∧ ((cfg0 zeros).win 7).index t = ![0, 0, t.val]
    ∧ ((cfg0 zeros).win 8).index t = ![0, 0, t.val]
    ∧ ((cfg0 zeros).win 9).index t = ![0, 0, t.val]
    ∧ ((cfg0 zeros).win 10).index t = ![0, 0, t.val]) t

/-- At every grid point, which block of the first part its window holds. -/
theorem index_own (t : Fin (cfgM m (ok m)).N) : ((cfgM m (ok m)).win 3).index t = ![0, 0, t.val] :=
  (own_map m _).trans ((by decide +kernel : ∀ t : Fin grid0.N, cc0_transform_4 (grid0.coords t) = ![0, 0, t.val]) t)

/-- The four parts of the gradient, added, for a row and a column. -/
def parts (x3 : FVec Ideal S4x1288x2048 .f32) (x4 : FVec Ideal S3x1288x2048 .f32) (r : Fin 1288) (k : Fin 2048) : EReal :=
  x3 (ix3 0 r k) + x4 (ix3 0 r k) + x4 (ix3 1 r k) + x4 (ix3 2 r k)

/-- The reference's gradient: the four parts, added. -/
theorem ref_g (x3 : FVec Ideal S4x1288x2048 .f32) (x4 : FVec Ideal S3x1288x2048 .f32) (i : S1x1288x2048.Idx) :
    Cert.AdamInReferenceIdeal.Read.val_main_v11 (F := Ideal) x3 x4 i = parts x3 x4 (i 1) (i 2) := by
  rw [← Cert.AdamInReferenceIdeal.Read.val_main_v11_eq]
  pointwise [parts]

/-- The reference's new running mean. -/
theorem ref_m (x1 : FVec Ideal S1x1288x2048 .f32) (x3 : FVec Ideal S4x1288x2048 .f32) (x4 : FVec Ideal S3x1288x2048 .f32)
    (i : S1x1288x2048.Idx) : Cert.AdamInReferenceIdeal.Read.val_main_v16 (F := Ideal) x1 x3 x4 i
      = Adam.mean (x1 i) (parts x3 x4 (i 1) (i 2)) := by
  rw [← ref_g, ← Cert.AdamInReferenceIdeal.Read.val_main_v16_eq, ← Cert.AdamInReferenceIdeal.Read.val_main_v11_eq]
  pointwise [Adam.mean]

/-- The reference's new running mean of squares. -/
theorem ref_v (x2 : FVec Ideal S1x1288x2048 .f32) (x3 : FVec Ideal S4x1288x2048 .f32) (x4 : FVec Ideal S3x1288x2048 .f32)
    (i : S1x1288x2048.Idx) : Cert.AdamInReferenceIdeal.Read.val_main_v22 (F := Ideal) x2 x3 x4 i
      = Adam.square (x2 i) (parts x3 x4 (i 1) (i 2)) := by
  rw [← ref_g, ← Cert.AdamInReferenceIdeal.Read.val_main_v22_eq, ← Cert.AdamInReferenceIdeal.Read.val_main_v11_eq]
  pointwise [Adam.square]

/-- The reference's change of the weight. -/
theorem ref_d (x0 x1 x2 : FVec Ideal S1x1288x2048 .f32) (x3 : FVec Ideal S4x1288x2048 .f32)
    (x4 : FVec Ideal S3x1288x2048 .f32) (i : S1x1288x2048.Idx) :
    Cert.AdamInReferenceIdeal.Read.val_main_v35 (F := Ideal) x0 x1 x2 x3 x4 i
      = Adam.delta (x0 i) (x1 i) (x2 i) (parts x3 x4 (i 1) (i 2)) := by
  unfold Adam.delta
  rw [← ref_m, ← ref_v, ← Cert.AdamInReferenceIdeal.Read.val_main_v35_eq, ← Cert.AdamInReferenceIdeal.Read.val_main_v16_eq,
    ← Cert.AdamInReferenceIdeal.Read.val_main_v22_eq]
  pointwise

/-- The gradient's block: its four parts, added. -/
theorem pay1_at (a b c d : Vec Ideal S1x1288x256 .bf16) (j : S1x1288x256.Idx) : k0_pay1 (k0_pay5 a b c d) j
    = a j + b j + c j + d j := by
  pointwise [k0_pay1, k0_pay5]

/-- The running mean's block. -/
theorem pay3_at (a b c d : Vec Ideal S1x1288x256 .bf16) (x : Vec Ideal S1x1288x256 .f32) (j : S1x1288x256.Idx) :
    k0_pay3 (k0_pay6 a b c d x) j = Adam.mean (x j) (k0_pay1 (k0_pay5 a b c d) j) := by
  pointwise [k0_pay3, k0_pay1, k0_pay6, Adam.mean]

/-- The block of the running mean of squares. -/
theorem pay4_at (a b c d : Vec Ideal S1x1288x256 .bf16) (x : Vec Ideal S1x1288x256 .f32) (j : S1x1288x256.Idx) :
    k0_pay4 (k0_pay7 a b c d x) j = Adam.square (x j) (k0_pay1 (k0_pay5 a b c d) j) := by
  pointwise [k0_pay4, k0_pay1, k0_pay7, Adam.square]

/-- The block of the weight's change. -/
theorem pay2_at (a b c d : Vec Ideal S1x1288x256 .bf16) (w x y : Vec Ideal S1x1288x256 .f32) (j : S1x1288x256.Idx) :
    k0_pay2 (k0_pay8 a b c d x) (k0_pay9 a b c d y) w j
      = Adam.delta (w j) (x j) (y j) (k0_pay1 (k0_pay5 a b c d) j) := by
  unfold Adam.delta
  rw [← pay3_at, ← pay4_at]
  pointwise [k0_pay2, k0_pay8, k0_pay9, k0_pay3, k0_pay4]

/-- What the body leaves in the gradient's window. -/
theorem out_g (c : Dev nD) (t : Fin (cfgM m (ok m)).N) : (outsAt0 m (ok m) c t).1
    = k0_pay1 (k0_pay5 (F := Ideal) (iblk m (ok m) c 3 t) (iblk m (ok m) c 4 t)
      (iblk m (ok m) c 5 t) (iblk m (ok m) c 6 t)) := by
  unfold outsAt0
  frame_out
  refine congrArg k0_pay1 ?_
  congr 1
  · exact (hs0_3 m _ t).read_unread _
  · exact (hs0_4 m _ t).read_unread _
  · exact (hs0_5 m _ t).read_unread _
  · exact (hs0_6 m _ t).read_unread _

/-- What the body leaves in the running mean's window. -/
theorem out_m (c : Dev nD) (t : Fin (cfgM m (ok m)).N) : (outsAt0 m (ok m) c t).2.2.1
    = k0_pay3 (k0_pay6 (F := Ideal) (iblk m (ok m) c 3 t) (iblk m (ok m) c 4 t)
      (iblk m (ok m) c 5 t) (iblk m (ok m) c 6 t) (iblk m (ok m) c 1 t)) := by
  unfold outsAt0
  frame_out
  refine congrArg k0_pay3 ?_
  congr 1
  · exact (hs0_3 m _ t).read_unread _
  · exact (hs0_4 m _ t).read_unread _
  · exact (hs0_5 m _ t).read_unread _
  · exact (hs0_6 m _ t).read_unread _
  · exact (hs0_1 m _ t).read_unread _

/-- What the body leaves in the window of the running mean of squares. -/
theorem out_v (c : Dev nD) (t : Fin (cfgM m (ok m)).N) : (outsAt0 m (ok m) c t).2.2.2
    = k0_pay4 (k0_pay7 (F := Ideal) (iblk m (ok m) c 3 t) (iblk m (ok m) c 4 t)
      (iblk m (ok m) c 5 t) (iblk m (ok m) c 6 t) (iblk m (ok m) c 2 t)) := by
  unfold outsAt0
  frame_out
  refine congrArg k0_pay4 ?_
  congr 1
  · exact (hs0_3 m _ t).read_unread _
  · exact (hs0_4 m _ t).read_unread _
  · exact (hs0_5 m _ t).read_unread _
  · exact (hs0_6 m _ t).read_unread _
  · exact (hs0_2 m _ t).read_unread _

set_option maxHeartbeats 1000000 in
/-- What the body leaves in the window of the weight's change. -/
theorem out_d (c : Dev nD) (t : Fin (cfgM m (ok m)).N) : (outsAt0 m (ok m) c t).2.1
    = k0_pay2 (k0_pay8 (F := Ideal) (iblk m (ok m) c 3 t) (iblk m (ok m) c 4 t)
      (iblk m (ok m) c 5 t) (iblk m (ok m) c 6 t) (iblk m (ok m) c 1 t))
      (k0_pay9 (F := Ideal) (iblk m (ok m) c 3 t) (iblk m (ok m) c 4 t)
      (iblk m (ok m) c 5 t) (iblk m (ok m) c 6 t) (iblk m (ok m) c 2 t)) (iblk m (ok m) c 0 t) := by
  unfold outsAt0
  frame_out
  refine congr (congr (congrArg k0_pay2 ?_) ?_) ?_
  · congr 1
    · exact (hs0_3 m _ t).read_unread _
    · exact (hs0_4 m _ t).read_unread _
    · exact (hs0_5 m _ t).read_unread _
    · exact (hs0_6 m _ t).read_unread _
    · exact (hs0_1 m _ t).read_unread _
  · congr 1
    · exact (hs0_3 m _ t).read_unread _
    · exact (hs0_4 m _ t).read_unread _
    · exact (hs0_5 m _ t).read_unread _
    · exact (hs0_6 m _ t).read_unread _
    · exact (hs0_2 m _ t).read_unread _
  · exact (hs0_0 m _ t).read_unread _

/-- The column of the array that a column of the block is. -/
def place (t : Fin (cfgM m (ok m)).N) (k : Fin 256) : Fin 2048 :=
  ⟨t.val * 256 + k.val, by have : t.val < 8 := t.isLt; omega⟩

/-- The four parts of the gradient, in the block of one grid point. -/
theorem parts_at (c : Dev nD) (t : Fin (cfgM m (ok m)).N) (y : S1x1288x256.Idx) :
    (iblk m (ok m) c 3 t : Vec Ideal S1x1288x256 .bf16) y
      = (m ((c : Thread nD τ).loc main_arg3) : FVec Ideal S4x1288x2048 .f32) (ix3 0 (y 1) (place m t (y 2)))
    ∧ (iblk m (ok m) c 4 t : Vec Ideal S1x1288x256 .bf16) y
      = (m ((c : Thread nD τ).loc main_arg4) : FVec Ideal S3x1288x2048 .f32) (ix3 0 (y 1) (place m t (y 2)))
    ∧ (iblk m (ok m) c 5 t : Vec Ideal S1x1288x256 .bf16) y
      = (m ((c : Thread nD τ).loc main_arg4) : FVec Ideal S3x1288x2048 .f32) (ix3 1 (y 1) (place m t (y 2)))
    ∧ (iblk m (ok m) c 6 t : Vec Ideal S1x1288x256 .bf16) y
      = (m ((c : Thread nD τ).loc main_arg4) : FVec Ideal S3x1288x2048 .f32) (ix3 2 (y 1) (place m t (y 2))) := by
  refine ⟨?_, ?_, ?_, ?_⟩
  · blk_point [iblk, V, index_own m t, place]
  · blk_point [iblk, V, index_val m t, place]
  · blk_point [iblk, V, index_val m t, place]
  · blk_point [iblk, V, index_val m t, place]

/-- The weight and its two running means, in the block of one grid point. -/
theorem state_at (c : Dev nD) (t : Fin (cfgM m (ok m)).N) (y : S1x1288x256.Idx) :
    (iblk m (ok m) c 0 t : Vec Ideal S1x1288x256 .f32) y = (m ((c : Thread nD τ).loc main_arg0) : FVec Ideal S1x1288x2048 .f32) (ix3 0 (y 1) (place m t (y 2)))
    ∧ (iblk m (ok m) c 1 t : Vec Ideal S1x1288x256 .f32) y = (m ((c : Thread nD τ).loc main_arg1) : FVec Ideal S1x1288x2048 .f32) (ix3 0 (y 1) (place m t (y 2)))
    ∧ (iblk m (ok m) c 2 t : Vec Ideal S1x1288x256 .f32) y = (m ((c : Thread nD τ).loc main_arg2) : FVec Ideal S1x1288x2048 .f32) (ix3 0 (y 1) (place m t (y 2))) := by
  refine ⟨?_, ?_, ?_⟩
  · blk_point [iblk, V, index_val m t, place]
  · blk_point [iblk, V, index_val m t, place]
  · blk_point [iblk, V, index_val m t, place]

/-- The place in the array that a place of a result's block is. -/
theorem emb_at (t : Fin (cfgM m (ok m)).N) (y : S1x1288x256.Idx) :
    ((((cfgM m (ok m)).win 7).blk t).view.emb y : S1x1288x2048.Idx) = ix3 0 (y 1) (place m t (y 2)) := by
  blk_point [index_val m t, place]

/-- The gradient's block, at one of its places. -/
theorem grad_at (c : Dev nD) (t : Fin (cfgM m (ok m)).N) (y : S1x1288x256.Idx) : k0_pay1 (k0_pay5 (F := Ideal) (iblk m (ok m) c 3 t) (iblk m (ok m) c 4 t)
      (iblk m (ok m) c 5 t) (iblk m (ok m) c 6 t)) y
    = parts (m ((c : Thread nD τ).loc main_arg3)) (m ((c : Thread nD τ).loc main_arg4)) (y 1) (place m t (y 2)) := by
  obtain ⟨h3, h4, h5, h6⟩ := parts_at m c t y
  refine (pay1_at _ _ _ _ y).trans ?_
  exact congrArg₂ (fun u v : EReal => u + v)
    (congrArg₂ (fun u v : EReal => u + v) (congrArg₂ (fun u v : EReal => u + v) h3 h4) h5) h6

/-- The running mean's block, at one of its places. -/
theorem mean_at (c : Dev nD) (t : Fin (cfgM m (ok m)).N) (y : S1x1288x256.Idx) : (outsAt0 m (ok m) c t).2.2.1 y
    = Adam.mean ((m ((c : Thread nD τ).loc main_arg1) : FVec Ideal S1x1288x2048 .f32) (ix3 0 (y 1) (place m t (y 2))))
      (parts (m ((c : Thread nD τ).loc main_arg3)) (m ((c : Thread nD τ).loc main_arg4)) (y 1) (place m t (y 2))) := by
  rw [out_m]
  exact (pay3_at _ _ _ _ _ y).trans (congrArg₂ Adam.mean (state_at m c t y).2.1 (grad_at m c t y))

/-- The block of the running mean of squares, at one of its places. -/
theorem square_at (c : Dev nD) (t : Fin (cfgM m (ok m)).N) (y : S1x1288x256.Idx) : (outsAt0 m (ok m) c t).2.2.2 y
    = Adam.square ((m ((c : Thread nD τ).loc main_arg2) : FVec Ideal S1x1288x2048 .f32) (ix3 0 (y 1) (place m t (y 2))))
      (parts (m ((c : Thread nD τ).loc main_arg3)) (m ((c : Thread nD τ).loc main_arg4)) (y 1) (place m t (y 2))) := by
  rw [out_v]
  exact (pay4_at _ _ _ _ _ y).trans (congrArg₂ Adam.square (state_at m c t y).2.2 (grad_at m c t y))

/-- The block of the weight's change, at one of its places. -/
theorem delta_at (c : Dev nD) (t : Fin (cfgM m (ok m)).N) (y : S1x1288x256.Idx) : (outsAt0 m (ok m) c t).2.1 y
    = Adam.delta ((m ((c : Thread nD τ).loc main_arg0) : FVec Ideal S1x1288x2048 .f32) (ix3 0 (y 1) (place m t (y 2))))
      ((m ((c : Thread nD τ).loc main_arg1) : FVec Ideal S1x1288x2048 .f32) (ix3 0 (y 1) (place m t (y 2))))
      ((m ((c : Thread nD τ).loc main_arg2) : FVec Ideal S1x1288x2048 .f32) (ix3 0 (y 1) (place m t (y 2))))
      (parts (m ((c : Thread nD τ).loc main_arg3)) (m ((c : Thread nD τ).loc main_arg4)) (y 1) (place m t (y 2))) := by
  rw [out_d]
  refine (pay2_at _ _ _ _ _ _ _ y).trans ?_
  obtain ⟨h0, h1, h2⟩ := state_at m c t y
  exact congr (congr (congrArg₂ Adam.delta h0 h1) h2) (grad_at m c t y)

/-- When the call has ended, its array 0 of results is the reference's gradient. -/
theorem final_g (c : Dev nD) : (dats m (ok m) 0 c).arrAt 7 (cfgM m (ok m)).N
    = Cert.AdamInReferenceIdeal.Read.val_main_v11 (m ((c : Thread nD τ).loc main_arg3)) (m ((c : Thread nD τ).loc main_arg4)) := by
  refine (dats m (ok m) 0 c).arrAt_eq_of_covers 7 _ (covers m).1 fun t hf y => ?_
  blk_simp
  rw [after0_7]
  exact ((congrFun (out_g m c t) y).trans (grad_at m c t y)).trans ((ref_g _ _ _ ).symm.trans (congrArg _ (emb_at m t y).symm))

/-- When the call has ended, its array 1 of results is the reference's weight's change. -/
theorem final_d (c : Dev nD) : (dats m (ok m) 0 c).arrAt 8 (cfgM m (ok m)).N
    = Cert.AdamInReferenceIdeal.Read.val_main_v35 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 8 _ (covers m).2.1 fun t hf y => ?_
  blk_simp
  rw [after0_8]
  exact (delta_at m c t y).trans ((ref_d _ _ _ _ _ _ ).symm.trans (congrArg _ (emb_at m t y).symm))

/-- When the call has ended, its array 2 of results is the reference's new running mean. -/
theorem final_m (c : Dev nD) : (dats m (ok m) 0 c).arrAt 9 (cfgM m (ok m)).N
    = Cert.AdamInReferenceIdeal.Read.val_main_v16 (m ((c : Thread nD τ).loc main_arg1)) (m ((c : Thread nD τ).loc main_arg3)) (m ((c : Thread nD τ).loc main_arg4)) := by
  refine (dats m (ok m) 0 c).arrAt_eq_of_covers 9 _ (covers m).2.2.1 fun t hf y => ?_
  blk_simp
  rw [after0_9]
  exact (mean_at m c t y).trans ((ref_m _ _ _ _ ).symm.trans (congrArg _ (emb_at m t y).symm))

/-- When the call has ended, its array 3 of results is the reference's new running mean of squares. -/
theorem final_v (c : Dev nD) : (dats m (ok m) 0 c).arrAt 10 (cfgM m (ok m)).N
    = Cert.AdamInReferenceIdeal.Read.val_main_v22 (m ((c : Thread nD τ).loc main_arg2)) (m ((c : Thread nD τ).loc main_arg3)) (m ((c : Thread nD τ).loc main_arg4)) := by
  refine (dats m (ok m) 0 c).arrAt_eq_of_covers 10 _ (covers m).2.2.2 fun t hf y => ?_
  blk_simp
  rw [after0_10]
  exact (square_at m c t y).trans ((ref_v _ _ _ _ ).symm.trans (congrArg _ (emb_at m t y).symm))

end Cert.AdamInIdeal.Sums
end
-- ==== Proof.ProdAdamUp.lean ====
module

public import proofs.«01_k».proof.Proof.Gen.AdamUpIdeal.Frame
public import proofs.«01_k».proof.Proof.Gen.AdamUpReferenceIdeal.Read
public import proofs.«01_k».proof.Proof.Gen.AdamUpReferenceIdeal.Run
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Value

@[expose] public section

set_option maxRecDepth 16384

noncomputable section
namespace Cert.AdamUpIdeal.Sums
open Idealize.ShloMosaic Idealize.ShloMosaic.TcCoe Idealize.SL.Sem
open Cert.AdamUpIdeal Cert.AdamUpIdeal.Gen
open Idealize.ShloMosaic.Pipeline (Dat)
section
variable {F : FTy → Type} [FloatOps F] (m : (ℓ : Loc nD τ sig) → Buf (Elt F) ℓ)

/-- The table the call reads its first part's place from holds zero. -/
theorem table_eq (i) : tbl m 0 i = 0#32 := by
  show V m (0 : Dev nD) main_v4 i = 0#32
  entry_read
  rfl

/-- With that table, the first part's block is the block of part zero. -/
theorem own_map (i : grid0.Coords) : cc0_transform_3 inb_S1_S1_0 numel1_S1 (tbl m) i = cc0_transform_4 i := by
  unfold cc0_transform_3 cc0_transform_4 Pipeline.Prefetch.Contents.at
  rw [table_eq]

/-- That block lies inside the array of parts. -/
theorem own_inb : ∀ (i : grid0.Coords) a, (cc0_transform_4 i a + 1) * S1x256x1024.size a ≤ S4x2048x1024.size a := by
  decide +kernel

/-- That block is whole words of memory. -/
theorem own_words : ∀ i : grid0.Coords, EltTy.bits .bf16 = 32
    ∨ (Rect.block (s := S4x2048x1024) S1x256x1024.size (cc0_transform_4 i) (own_inb i)).WholeWords (EltTy.packing .bf16) :=
  fun _ => .inr (Affine.block_words_dvd (of_decide_eq_true rfl) (by decide))

/-- The table the program fills is one the call accepts. -/
theorem ok : Ok m := by
  intro i
  rw [own_map]
  exact ⟨own_inb i, own_words i⟩
end

/-- The pipeline's table, of a memory of zeros. -/
def zeros : (pcfg0 (F := Ideal)).Adm := adm (fun _ _ => default) (ok _)

variable (m : (ℓ : Loc nD τ sig) → Buf (Elt Ideal) ℓ)

/-- The blocks of each result are the blocks of its layer zero. -/
theorem covers : ((cfgM m (ok m)).win 7).CoversWhere (fun β => β (0 : Fin 3) = 0)
    ∧ ((cfgM m (ok m)).win 8).CoversWhere (fun β => β (0 : Fin 3) = 0)
    ∧ ((cfgM m (ok m)).win 9).CoversWhere (fun β => β (0 : Fin 3) = 0)
    ∧ ((cfgM m (ok m)).win 10).CoversWhere (fun β => β (0 : Fin 3) = 0) :=
  (by decide +kernel : ((cfg0 zeros).win 7).CoversWhere (fun β => β (0 : Fin 3) = 0)
    ∧ ((cfg0 zeros).win 8).CoversWhere (fun β => β (0 : Fin 3) = 0)
    ∧ ((cfg0 zeros).win 9).CoversWhere (fun β => β (0 : Fin 3) = 0)
    ∧ ((cfg0 zeros).win 10).CoversWhere (fun β => β (0 : Fin 3) = 0))

/-- At every grid point, which block of its array each window holds. -/
theorem index_val (t : Fin (cfgM m (ok m)).N) : ((cfgM m (ok m)).win 0).index t = ![0, t.val, 0]
    ∧ ((cfgM m (ok m)).win 1).index t = ![0, t.val, 0]
    ∧ ((cfgM m (ok m)).win 2).index t = ![0, t.val, 0]
    ∧ ((cfgM m (ok m)).win 4).index t = ![0, t.val, 0]
    ∧ ((cfgM m (ok m)).win 5).index t = ![1, t.val, 0]
    ∧ ((cfgM m (ok m)).win 6).index t = ![2, t.val, 0]
    ∧ ((cfgM m (ok m)).win 7).index t = ![0, t.val, 0]
    ∧ ((cfgM m (ok m)).win 8).index t = ![0, t.val, 0]
    ∧ ((cfgM m (ok m)).win 9).index t = ![0, t.val, 0]
    ∧ ((cfgM m (ok m)).win 10).index t = ![0, t.val, 0] :=
  (by decide +kernel : ∀ t : Fin (cfg0 zeros).N, ((cfg0 zeros).win 0).index t = ![0, t.val, 0]
    ∧ ((cfg0 zeros).win 1).index t = ![0, t.val, 0]
    ∧ ((cfg0 zeros).win 2).index t = ![0, t.val, 0]
    ∧ ((cfg0 zeros).win 4).index t = ![0, t.val, 0]
    ∧ ((cfg0 zeros).win 5).index t = ![1, t.val, 0]
    ∧ ((cfg0 zeros).win 6).index t = ![2, t.val, 0]
    ∧ ((cfg0 zeros).win 7).index t = ![0, t.val, 0]
    ∧ ((cfg0 zeros).win 8).index t = ![0, t.val, 0]
    ∧ ((cfg0 zeros).win 9).index t = ![0, t.val, 0]
    ∧ ((cfg0 zeros).win 10).index t = ![0, t.val, 0]) t

/-- At every grid point, which block of the first part its window holds. -/
theorem index_own (t : Fin (cfgM m (ok m)).N) : ((cfgM m (ok m)).win 3).index t = ![0, t.val, 0] :=
  (own_map m _).trans ((by decide +kernel : ∀ t : Fin grid0.N, cc0_transform_4 (grid0.coords t) = ![0, t.val, 0]) t)

/-- The four parts of the gradient, added, for a row and a column. -/
def parts (x3 : FVec Ideal S4x2048x1024 .f32) (x4 : FVec Ideal S3x2048x1024 .f32) (r : Fin 2048) (k : Fin 1024) : EReal :=
  x3 (ix3 0 r k) + x4 (ix3 0 r k) + x4 (ix3 1 r k) + x4 (ix3 2 r k)

/-- One layer's array under the second layer of another, at each of the two layers. -/
theorem stack_at (a : FVec Ideal Cert.AdamUpReferenceIdeal.S2048x1024 .f32) (x : FVec Ideal S2x2048x1024 .f32) (i : S2x2048x1024.Idx) :
    concatenate S2x2048x1024 0 [⟨Cert.AdamUpReferenceIdeal.S1x2048x1024, broadcastInDim Cert.AdamUpReferenceIdeal.S1x2048x1024 ![1, 2] Cert.AdamUpReferenceIdeal.Gen.bcast_S2048x1024_S1x2048x1024_1_2 a⟩,
      ⟨Cert.AdamUpReferenceIdeal.S1x2048x1024, broadcastInDim Cert.AdamUpReferenceIdeal.S1x2048x1024 ![1, 2] Cert.AdamUpReferenceIdeal.Gen.bcast_S2048x1024_S1x2048x1024_1_2 (shapeCast Cert.AdamUpReferenceIdeal.S2048x1024
        (extractStridedSlice Cert.AdamUpReferenceIdeal.S1x2048x1024 ![1, 0, 0] x Cert.AdamUpReferenceIdeal.Gen.slices_S2x2048x1024_S1x2048x1024_1_0_0) Cert.AdamUpReferenceIdeal.Gen.shapeCasts_S1x2048x1024_S2048x1024)⟩]
      Cert.AdamUpReferenceIdeal.Gen.concatenates_S1x2048x1024_S1x2048x1024_S2x2048x1024_d0 i
      = if (i 0).val = 0 then a (ix2 (i 1) (i 2)) else x i := by
  pointwise
  by_cases h : (i 0).val = 0
  · rw [if_pos h, dif_pos (by omega)]
  · have h1 : (i 0).val < 2 := (i 0).isLt
    rw [if_neg h, dif_neg (by omega)]
    refine congrArg x (funext fun b => Fin.ext ?_)
    match b with
    | ⟨0, _⟩ => show 1 = (i 0).val; omega
    | ⟨1, _⟩ => rfl
    | ⟨2, _⟩ => rfl

/-- The reference's gradient: the four parts, added. -/
theorem ref_g (x3 : FVec Ideal S4x2048x1024 .f32) (x4 : FVec Ideal S3x2048x1024 .f32) (i : Cert.AdamUpReferenceIdeal.S2048x1024.Idx) :
    Cert.AdamUpReferenceIdeal.Read.val_main_v10 (F := Ideal) x3 x4 i = parts x3 x4 (i 0) (i 1) := by
  pointwise [parts, Cert.AdamUpReferenceIdeal.Read.val_main_v0, Cert.AdamUpReferenceIdeal.Read.val_main_v1, Cert.AdamUpReferenceIdeal.Read.val_main_v2, Cert.AdamUpReferenceIdeal.Read.val_main_v3, Cert.AdamUpReferenceIdeal.Read.val_main_v4, Cert.AdamUpReferenceIdeal.Read.val_main_v5, Cert.AdamUpReferenceIdeal.Read.val_main_v6, Cert.AdamUpReferenceIdeal.Read.val_main_v7, Cert.AdamUpReferenceIdeal.Read.val_main_v8, Cert.AdamUpReferenceIdeal.Read.val_main_v9, Cert.AdamUpReferenceIdeal.Read.val_main_v10]

/-- The reference's new running mean. -/
theorem ref_m (x1 : FVec Ideal S2x2048x1024 .f32) (x3 : FVec Ideal S4x2048x1024 .f32) (x4 : FVec Ideal S3x2048x1024 .f32)
    (i : Cert.AdamUpReferenceIdeal.S2048x1024.Idx) : Cert.AdamUpReferenceIdeal.Read.val_main_v21 (F := Ideal) x1 x3 x4 i
      = Adam.mean (x1 (ix3 0 (i 0) (i 1))) (parts x3 x4 (i 0) (i 1)) := by
  rw [← ref_g]
  pointwise [Adam.mean, Cert.AdamUpReferenceIdeal.Read.val_main_v13, Cert.AdamUpReferenceIdeal.Read.val_main_v14, Cert.AdamUpReferenceIdeal.Read.val_main_cst, Cert.AdamUpReferenceIdeal.Read.val_main_v17, Cert.AdamUpReferenceIdeal.Read.val_main_v18, Cert.AdamUpReferenceIdeal.Read.val_main_cst_0, Cert.AdamUpReferenceIdeal.Read.val_main_v19, Cert.AdamUpReferenceIdeal.Read.val_main_v20, Cert.AdamUpReferenceIdeal.Read.val_main_v21]

/-- The reference's new running mean of squares. -/
theorem ref_v (x2 : FVec Ideal S2x2048x1024 .f32) (x3 : FVec Ideal S4x2048x1024 .f32) (x4 : FVec Ideal S3x2048x1024 .f32)
    (i : Cert.AdamUpReferenceIdeal.S2048x1024.Idx) : Cert.AdamUpReferenceIdeal.Read.val_main_v27 (F := Ideal) x2 x3 x4 i
      = Adam.square (x2 (ix3 0 (i 0) (i 1))) (parts x3 x4 (i 0) (i 1)) := by
  rw [← ref_g]
  pointwise [Adam.square, Cert.AdamUpReferenceIdeal.Read.val_main_v15, Cert.AdamUpReferenceIdeal.Read.val_main_v16, Cert.AdamUpReferenceIdeal.Read.val_main_cst_1, Cert.AdamUpReferenceIdeal.Read.val_main_v22, Cert.AdamUpReferenceIdeal.Read.val_main_v23, Cert.AdamUpReferenceIdeal.Read.val_main_v24, Cert.AdamUpReferenceIdeal.Read.val_main_cst_2, Cert.AdamUpReferenceIdeal.Read.val_main_v25, Cert.AdamUpReferenceIdeal.Read.val_main_v26, Cert.AdamUpReferenceIdeal.Read.val_main_v27]

/-- The reference's change of the weight. -/
theorem ref_d (x0 x1 x2 : FVec Ideal S2x2048x1024 .f32) (x3 : FVec Ideal S4x2048x1024 .f32)
    (x4 : FVec Ideal S3x2048x1024 .f32) (i : Cert.AdamUpReferenceIdeal.S2048x1024.Idx) :
    Cert.AdamUpReferenceIdeal.Read.val_main_v40 (F := Ideal) x0 x1 x2 x3 x4 i
      = Adam.delta (x0 (ix3 0 (i 0) (i 1))) (x1 (ix3 0 (i 0) (i 1))) (x2 (ix3 0 (i 0) (i 1))) (parts x3 x4 (i 0) (i 1)) := by
  unfold Adam.delta
  rw [← ref_m, ← ref_v]
  pointwise [Cert.AdamUpReferenceIdeal.Read.val_main_v11, Cert.AdamUpReferenceIdeal.Read.val_main_v12, Cert.AdamUpReferenceIdeal.Read.val_main_cst_3, Cert.AdamUpReferenceIdeal.Read.val_main_v28, Cert.AdamUpReferenceIdeal.Read.val_main_v29, Cert.AdamUpReferenceIdeal.Read.val_main_cst_4, Cert.AdamUpReferenceIdeal.Read.val_main_v30, Cert.AdamUpReferenceIdeal.Read.val_main_v31, Cert.AdamUpReferenceIdeal.Read.val_main_v32, Cert.AdamUpReferenceIdeal.Read.val_main_cst_5, Cert.AdamUpReferenceIdeal.Read.val_main_v33, Cert.AdamUpReferenceIdeal.Read.val_main_v34, Cert.AdamUpReferenceIdeal.Read.val_main_v35, Cert.AdamUpReferenceIdeal.Read.val_main_cst_6, Cert.AdamUpReferenceIdeal.Read.val_main_v36, Cert.AdamUpReferenceIdeal.Read.val_main_v37, Cert.AdamUpReferenceIdeal.Read.val_main_v38, Cert.AdamUpReferenceIdeal.Read.val_main_cst_7, Cert.AdamUpReferenceIdeal.Read.val_main_v39, Cert.AdamUpReferenceIdeal.Read.val_main_v40]

/-- The gradient's block: its four parts, added. -/
theorem pay1_at (a b c d : Vec Ideal S1x256x1024 .bf16) (j : S1x256x1024.Idx) : k0_pay1 (k0_pay5 a b c d) j
    = a j + b j + c j + d j := by
  pointwise [k0_pay1, k0_pay5]

/-- The running mean's block. -/
theorem pay3_at (a b c d : Vec Ideal S1x256x1024 .bf16) (x : Vec Ideal S1x256x1024 .f32) (j : S1x256x1024.Idx) :
    k0_pay3 (k0_pay6 a b c d x) j = Adam.mean (x j) (k0_pay1 (k0_pay5 a b c d) j) := by
  pointwise [k0_pay3, k0_pay1, k0_pay6, Adam.mean]

/-- The block of the running mean of squares. -/
theorem pay4_at (a b c d : Vec Ideal S1x256x1024 .bf16) (x : Vec Ideal S1x256x1024 .f32) (j : S1x256x1024.Idx) :
    k0_pay4 (k0_pay7 a b c d x) j = Adam.square (x j) (k0_pay1 (k0_pay5 a b c d) j) := by
  pointwise [k0_pay4, k0_pay1, k0_pay7, Adam.square]

/-- The block of the weight's change. -/
theorem pay2_at (a b c d : Vec Ideal S1x256x1024 .bf16) (w x y : Vec Ideal S1x256x1024 .f32) (j : S1x256x1024.Idx) :
    k0_pay2 (k0_pay8 a b c d x) (k0_pay9 a b c d y) w j
      = Adam.delta (w j) (x j) (y j) (k0_pay1 (k0_pay5 a b c d) j) := by
  unfold Adam.delta
  rw [← pay3_at, ← pay4_at]
  pointwise [k0_pay2, k0_pay8, k0_pay9, k0_pay3, k0_pay4]

/-- What the body leaves in the gradient's window. -/
theorem out_g (c : Dev nD) (t : Fin (cfgM m (ok m)).N) : (outsAt0 m (ok m) c t).1
    = k0_pay1 (k0_pay5 (F := Ideal) (iblk m (ok m) c 3 t) (iblk m (ok m) c 4 t)
      (iblk m (ok m) c 5 t) (iblk m (ok m) c 6 t)) := by
  unfold outsAt0
  frame_out
  refine congrArg k0_pay1 ?_
  congr 1
  · exact (hs0_3 m _ t).read_unread _
  · exact (hs0_4 m _ t).read_unread _
  · exact (hs0_5 m _ t).read_unread _
  · exact (hs0_6 m _ t).read_unread _

/-- What the body leaves in the running mean's window. -/
theorem out_m (c : Dev nD) (t : Fin (cfgM m (ok m)).N) : (outsAt0 m (ok m) c t).2.2.1
    = k0_pay3 (k0_pay6 (F := Ideal) (iblk m (ok m) c 3 t) (iblk m (ok m) c 4 t)
      (iblk m (ok m) c 5 t) (iblk m (ok m) c 6 t) (iblk m (ok m) c 1 t)) := by
  unfold outsAt0
  frame_out
  refine congrArg k0_pay3 ?_
  congr 1
  · exact (hs0_3 m _ t).read_unread _
  · exact (hs0_4 m _ t).read_unread _
  · exact (hs0_5 m _ t).read_unread _
  · exact (hs0_6 m _ t).read_unread _
  · exact (hs0_1 m _ t).read_unread _

/-- What the body leaves in the window of the running mean of squares. -/
theorem out_v (c : Dev nD) (t : Fin (cfgM m (ok m)).N) : (outsAt0 m (ok m) c t).2.2.2
    = k0_pay4 (k0_pay7 (F := Ideal) (iblk m (ok m) c 3 t) (iblk m (ok m) c 4 t)
      (iblk m (ok m) c 5 t) (iblk m (ok m) c 6 t) (iblk m (ok m) c 2 t)) := by
  unfold outsAt0
  frame_out
  refine congrArg k0_pay4 ?_
  congr 1
  · exact (hs0_3 m _ t).read_unread _
  · exact (hs0_4 m _ t).read_unread _
  · exact (hs0_5 m _ t).read_unread _
  · exact (hs0_6 m _ t).read_unread _
  · exact (hs0_2 m _ t).read_unread _

set_option maxHeartbeats 1000000 in
/-- What the body leaves in the window of the weight's change. -/
theorem out_d (c : Dev nD) (t : Fin (cfgM m (ok m)).N) : (outsAt0 m (ok m) c t).2.1
    = k0_pay2 (k0_pay8 (F := Ideal) (iblk m (ok m) c 3 t) (iblk m (ok m) c 4 t)
      (iblk m (ok m) c 5 t) (iblk m (ok m) c 6 t) (iblk m (ok m) c 1 t))
      (k0_pay9 (F := Ideal) (iblk m (ok m) c 3 t) (iblk m (ok m) c 4 t)
      (iblk m (ok m) c 5 t) (iblk m (ok m) c 6 t) (iblk m (ok m) c 2 t)) (iblk m (ok m) c 0 t) := by
  unfold outsAt0
  frame_out
  refine congr (congr (congrArg k0_pay2 ?_) ?_) ?_
  · congr 1
    · exact (hs0_3 m _ t).read_unread _
    · exact (hs0_4 m _ t).read_unread _
    · exact (hs0_5 m _ t).read_unread _
    · exact (hs0_6 m _ t).read_unread _
    · exact (hs0_1 m _ t).read_unread _
  · congr 1
    · exact (hs0_3 m _ t).read_unread _
    · exact (hs0_4 m _ t).read_unread _
    · exact (hs0_5 m _ t).read_unread _
    · exact (hs0_6 m _ t).read_unread _
    · exact (hs0_2 m _ t).read_unread _
  · exact (hs0_0 m _ t).read_unread _

/-- The row of the array that a row of the block is. -/
def place (t : Fin (cfgM m (ok m)).N) (r : Fin 256) : Fin 2048 :=
  ⟨t.val * 256 + r.val, by have : t.val < 8 := t.isLt; omega⟩

/-- The four parts of the gradient, in the block of one grid point. -/
theorem parts_at (c : Dev nD) (t : Fin (cfgM m (ok m)).N) (y : S1x256x1024.Idx) :
    (iblk m (ok m) c 3 t : Vec Ideal S1x256x1024 .bf16) y
      = (m ((c : Thread nD τ).loc main_arg3) : FVec Ideal S4x2048x1024 .f32) (ix3 0 (place m t (y 1)) (y 2))
    ∧ (iblk m (ok m) c 4 t : Vec Ideal S1x256x1024 .bf16) y
      = (m ((c : Thread nD τ).loc main_arg4) : FVec Ideal S3x2048x1024 .f32) (ix3 0 (place m t (y 1)) (y 2))
    ∧ (iblk m (ok m) c 5 t : Vec Ideal S1x256x1024 .bf16) y
      = (m ((c : Thread nD τ).loc main_arg4) : FVec Ideal S3x2048x1024 .f32) (ix3 1 (place m t (y 1)) (y 2))
    ∧ (iblk m (ok m) c 6 t : Vec Ideal S1x256x1024 .bf16) y
      = (m ((c : Thread nD τ).loc main_arg4) : FVec Ideal S3x2048x1024 .f32) (ix3 2 (place m t (y 1)) (y 2)) := by
  refine ⟨?_, ?_, ?_, ?_⟩
  · blk_point [iblk, V, index_own m t, place]
  · blk_point [iblk, V, index_val m t, place]
  · blk_point [iblk, V, index_val m t, place]
  · blk_point [iblk, V, index_val m t, place]

/-- The weight and its two running means, in the block of one grid point. -/
theorem state_at (c : Dev nD) (t : Fin (cfgM m (ok m)).N) (y : S1x256x1024.Idx) :
    (iblk m (ok m) c 0 t : Vec Ideal S1x256x1024 .f32) y = (m ((c : Thread nD τ).loc main_arg0) : FVec Ideal S2x2048x1024 .f32) (ix3 0 (place m t (y 1)) (y 2))
    ∧ (iblk m (ok m) c 1 t : Vec Ideal S1x256x1024 .f32) y = (m ((c : Thread nD τ).loc main_arg1) : FVec Ideal S2x2048x1024 .f32) (ix3 0 (place m t (y 1)) (y 2))
    ∧ (iblk m (ok m) c 2 t : Vec Ideal S1x256x1024 .f32) y = (m ((c : Thread nD τ).loc main_arg2) : FVec Ideal S2x2048x1024 .f32) (ix3 0 (place m t (y 1)) (y 2)) := by
  refine ⟨?_, ?_, ?_⟩
  · blk_point [iblk, V, index_val m t, place]
  · blk_point [iblk, V, index_val m t, place]
  · blk_point [iblk, V, index_val m t, place]

/-- The place in the array that a place of a result's block is. -/
theorem emb_at (t : Fin (cfgM m (ok m)).N) (y : S1x256x1024.Idx) :
    ((((cfgM m (ok m)).win 7).blk t).view.emb y : S2x2048x1024.Idx) = ix3 0 (place m t (y 1)) (y 2) := by
  blk_point [index_val m t, place]

/-- The gradient's block, at one of its places. -/
theorem grad_at (c : Dev nD) (t : Fin (cfgM m (ok m)).N) (y : S1x256x1024.Idx) : k0_pay1 (k0_pay5 (F := Ideal) (iblk m (ok m) c 3 t) (iblk m (ok m) c 4 t)
      (iblk m (ok m) c 5 t) (iblk m (ok m) c 6 t)) y
    = parts (m ((c : Thread nD τ).loc main_arg3)) (m ((c : Thread nD τ).loc main_arg4)) (place m t (y 1)) (y 2) := by
  obtain ⟨h3, h4, h5, h6⟩ := parts_at m c t y
  refine (pay1_at _ _ _ _ y).trans ?_
  exact congrArg₂ (fun u v : EReal => u + v)
    (congrArg₂ (fun u v : EReal => u + v) (congrArg₂ (fun u v : EReal => u + v) h3 h4) h5) h6

/-- The running mean's block, at one of its places. -/
theorem mean_at (c : Dev nD) (t : Fin (cfgM m (ok m)).N) (y : S1x256x1024.Idx) : (outsAt0 m (ok m) c t).2.2.1 y
    = Adam.mean ((m ((c : Thread nD τ).loc main_arg1) : FVec Ideal S2x2048x1024 .f32) (ix3 0 (place m t (y 1)) (y 2)))
      (parts (m ((c : Thread nD τ).loc main_arg3)) (m ((c : Thread nD τ).loc main_arg4)) (place m t (y 1)) (y 2)) := by
  rw [out_m]
  exact (pay3_at _ _ _ _ _ y).trans (congrArg₂ Adam.mean (state_at m c t y).2.1 (grad_at m c t y))

/-- The block of the running mean of squares, at one of its places. -/
theorem square_at (c : Dev nD) (t : Fin (cfgM m (ok m)).N) (y : S1x256x1024.Idx) : (outsAt0 m (ok m) c t).2.2.2 y
    = Adam.square ((m ((c : Thread nD τ).loc main_arg2) : FVec Ideal S2x2048x1024 .f32) (ix3 0 (place m t (y 1)) (y 2)))
      (parts (m ((c : Thread nD τ).loc main_arg3)) (m ((c : Thread nD τ).loc main_arg4)) (place m t (y 1)) (y 2)) := by
  rw [out_v]
  exact (pay4_at _ _ _ _ _ y).trans (congrArg₂ Adam.square (state_at m c t y).2.2 (grad_at m c t y))

/-- The block of the weight's change, at one of its places. -/
theorem delta_at (c : Dev nD) (t : Fin (cfgM m (ok m)).N) (y : S1x256x1024.Idx) : (outsAt0 m (ok m) c t).2.1 y
    = Adam.delta ((m ((c : Thread nD τ).loc main_arg0) : FVec Ideal S2x2048x1024 .f32) (ix3 0 (place m t (y 1)) (y 2)))
      ((m ((c : Thread nD τ).loc main_arg1) : FVec Ideal S2x2048x1024 .f32) (ix3 0 (place m t (y 1)) (y 2)))
      ((m ((c : Thread nD τ).loc main_arg2) : FVec Ideal S2x2048x1024 .f32) (ix3 0 (place m t (y 1)) (y 2)))
      (parts (m ((c : Thread nD τ).loc main_arg3)) (m ((c : Thread nD τ).loc main_arg4)) (place m t (y 1)) (y 2)) := by
  rw [out_d]
  refine (pay2_at _ _ _ _ _ _ _ y).trans ?_
  obtain ⟨h0, h1, h2⟩ := state_at m c t y
  exact congr (congr (congrArg₂ Adam.delta h0 h1) h2) (grad_at m c t y)

/-- The reference's gradient, at each of the two layers. -/
theorem all_g (x3 : FVec Ideal S4x2048x1024 .f32) (x4 : FVec Ideal S3x2048x1024 .f32) (x5 : FVec Ideal S2x2048x1024 .f32) (i : S2x2048x1024.Idx) :
    Cert.AdamUpReferenceIdeal.Read.val_main_v45 (F := Ideal) x3 x4 x5 i
      = if (i 0).val = 0 then parts x3 x4 (i 1) (i 2) else x5 i := by
  refine (stack_at (Cert.AdamUpReferenceIdeal.Read.val_main_v10 (F := Ideal) x3 x4) x5 i).trans ?_
  rw [ref_g]
  rfl

/-- The reference's gradient, at a place of the block of one grid point. -/
theorem new_g (x3 : FVec Ideal S4x2048x1024 .f32) (x4 : FVec Ideal S3x2048x1024 .f32) (x5 : FVec Ideal S2x2048x1024 .f32) (t : Fin (cfgM m (ok m)).N) (y : S1x256x1024.Idx) :
    Cert.AdamUpReferenceIdeal.Read.val_main_v45 (F := Ideal) x3 x4 x5 (((cfgM m (ok m)).win 7).blk t |>.view.emb y)
      = parts x3 x4 (place m t (y 1)) (y 2) :=
  (congrArg _ (emb_at m t y)).trans ((all_g x3 x4 x5 (ix3 0 (place m t (y 1)) (y 2))).trans (if_pos rfl))

/-- The buffer of this result holds the previous call's result when the call begins. -/
theorem entry_g (c : Dev nD) : V m c main_v5_0 = (m ((c : Thread nD τ).loc main_arg5)) := by
  entry_read
  rfl

/-- When the call has ended, its array 0 of results is the reference's gradient. -/
theorem final_g (c : Dev nD) : (dats m (ok m) 0 c).arrAt 7 (cfgM m (ok m)).N
    = Cert.AdamUpReferenceIdeal.Read.val_main_v45 (m ((c : Thread nD τ).loc main_arg3)) (m ((c : Thread nD τ).loc main_arg4)) (m ((c : Thread nD τ).loc main_arg5)) := by
  refine (dats m (ok m) 0 c).arrAt_eq_of_coversWhere_of_agree 7 _ (fun β => β (0 : Fin 3) = 0) (covers m).1
    (fun t hf y => ?_) fun j hj => ?_
  · blk_simp
    rw [after0_7]
    exact ((congrFun (out_g m c t) y).trans (grad_at m c t y)).trans (new_g m _ _ _ t y).symm
  · have h : ¬ (j (0 : Fin 3)).val = 0 := fun h => hj (by show (j (0 : Fin 3)).val / 1 = 0; omega)
    exact (congrFun (entry_g m c) j).trans (((all_g _ _ _ j).trans (if_neg h)).symm)

/-- The reference's weight's change, at each of the two layers. -/
theorem all_d (x0 : FVec Ideal S2x2048x1024 .f32) (x1 : FVec Ideal S2x2048x1024 .f32) (x2 : FVec Ideal S2x2048x1024 .f32) (x3 : FVec Ideal S4x2048x1024 .f32) (x4 : FVec Ideal S3x2048x1024 .f32) (x6 : FVec Ideal S2x2048x1024 .f32) (i : S2x2048x1024.Idx) :
    Cert.AdamUpReferenceIdeal.Read.val_main_v50 (F := Ideal) x0 x1 x2 x3 x4 x6 i
      = if (i 0).val = 0 then Adam.delta (x0 (ix3 0 (i 1) (i 2))) (x1 (ix3 0 (i 1) (i 2))) (x2 (ix3 0 (i 1) (i 2))) (parts x3 x4 (i 1) (i 2)) else x6 i := by
  refine (stack_at (Cert.AdamUpReferenceIdeal.Read.val_main_v40 (F := Ideal) x0 x1 x2 x3 x4) x6 i).trans ?_
  rw [ref_d]
  rfl

/-- The reference's weight's change, at a place of the block of one grid point. -/
theorem new_d (x0 : FVec Ideal S2x2048x1024 .f32) (x1 : FVec Ideal S2x2048x1024 .f32) (x2 : FVec Ideal S2x2048x1024 .f32) (x3 : FVec Ideal S4x2048x1024 .f32) (x4 : FVec Ideal S3x2048x1024 .f32) (x6 : FVec Ideal S2x2048x1024 .f32) (t : Fin (cfgM m (ok m)).N) (y : S1x256x1024.Idx) :
    Cert.AdamUpReferenceIdeal.Read.val_main_v50 (F := Ideal) x0 x1 x2 x3 x4 x6 (((cfgM m (ok m)).win 7).blk t |>.view.emb y)
      = Adam.delta (x0 (ix3 0 (place m t (y 1)) (y 2))) (x1 (ix3 0 (place m t (y 1)) (y 2))) (x2 (ix3 0 (place m t (y 1)) (y 2))) (parts x3 x4 (place m t (y 1)) (y 2)) :=
  (congrArg _ (emb_at m t y)).trans ((all_d x0 x1 x2 x3 x4 x6 (ix3 0 (place m t (y 1)) (y 2))).trans (if_pos rfl))

/-- The buffer of this result holds the previous call's result when the call begins. -/
theorem entry_d (c : Dev nD) : V m c main_v5_1 = (m ((c : Thread nD τ).loc main_arg6)) := by
  entry_read
  rfl

/-- When the call has ended, its array 1 of results is the reference's weight's change. -/
theorem final_d (c : Dev nD) : (dats m (ok m) 0 c).arrAt 8 (cfgM m (ok m)).N
    = Cert.AdamUpReferenceIdeal.Read.val_main_v50 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m (ok m) 0 c).arrAt_eq_of_coversWhere_of_agree 8 _ (fun β => β (0 : Fin 3) = 0) (covers m).2.1
    (fun t hf y => ?_) fun j hj => ?_
  · blk_simp
    rw [after0_8]
    exact (delta_at m c t y).trans (new_d m _ _ _ _ _ _ t y).symm
  · have h : ¬ (j (0 : Fin 3)).val = 0 := fun h => hj (by show (j (0 : Fin 3)).val / 1 = 0; omega)
    exact (congrFun (entry_d m c) j).trans (((all_d _ _ _ _ _ _ j).trans (if_neg h)).symm)

/-- The reference's new running mean, at each of the two layers. -/
theorem all_m (x1 : FVec Ideal S2x2048x1024 .f32) (x3 : FVec Ideal S4x2048x1024 .f32) (x4 : FVec Ideal S3x2048x1024 .f32) (x7 : FVec Ideal S2x2048x1024 .f32) (i : S2x2048x1024.Idx) :
    Cert.AdamUpReferenceIdeal.Read.val_main_v55 (F := Ideal) x1 x3 x4 x7 i
      = if (i 0).val = 0 then Adam.mean (x1 (ix3 0 (i 1) (i 2))) (parts x3 x4 (i 1) (i 2)) else x7 i := by
  refine (stack_at (Cert.AdamUpReferenceIdeal.Read.val_main_v21 (F := Ideal) x1 x3 x4) x7 i).trans ?_
  rw [ref_m]
  rfl

/-- The reference's new running mean, at a place of the block of one grid point. -/
theorem new_m (x1 : FVec Ideal S2x2048x1024 .f32) (x3 : FVec Ideal S4x2048x1024 .f32) (x4 : FVec Ideal S3x2048x1024 .f32) (x7 : FVec Ideal S2x2048x1024 .f32) (t : Fin (cfgM m (ok m)).N) (y : S1x256x1024.Idx) :
    Cert.AdamUpReferenceIdeal.Read.val_main_v55 (F := Ideal) x1 x3 x4 x7 (((cfgM m (ok m)).win 7).blk t |>.view.emb y)
      = Adam.mean (x1 (ix3 0 (place m t (y 1)) (y 2))) (parts x3 x4 (place m t (y 1)) (y 2)) :=
  (congrArg _ (emb_at m t y)).trans ((all_m x1 x3 x4 x7 (ix3 0 (place m t (y 1)) (y 2))).trans (if_pos rfl))

/-- The buffer of this result holds the previous call's result when the call begins. -/
theorem entry_m (c : Dev nD) : V m c main_v5_2 = (m ((c : Thread nD τ).loc main_arg7)) := by
  entry_read
  rfl

/-- When the call has ended, its array 2 of results is the reference's new running mean. -/
theorem final_m (c : Dev nD) : (dats m (ok m) 0 c).arrAt 9 (cfgM m (ok m)).N
    = Cert.AdamUpReferenceIdeal.Read.val_main_v55 (m ((c : Thread nD τ).loc main_arg1)) (m ((c : Thread nD τ).loc main_arg3)) (m ((c : Thread nD τ).loc main_arg4)) (m ((c : Thread nD τ).loc main_arg7)) := by
  refine (dats m (ok m) 0 c).arrAt_eq_of_coversWhere_of_agree 9 _ (fun β => β (0 : Fin 3) = 0) (covers m).2.2.1
    (fun t hf y => ?_) fun j hj => ?_
  · blk_simp
    rw [after0_9]
    exact (mean_at m c t y).trans (new_m m _ _ _ _ t y).symm
  · have h : ¬ (j (0 : Fin 3)).val = 0 := fun h => hj (by show (j (0 : Fin 3)).val / 1 = 0; omega)
    exact (congrFun (entry_m m c) j).trans (((all_m _ _ _ _ j).trans (if_neg h)).symm)

/-- The reference's new running mean of squares, at each of the two layers. -/
theorem all_v (x2 : FVec Ideal S2x2048x1024 .f32) (x3 : FVec Ideal S4x2048x1024 .f32) (x4 : FVec Ideal S3x2048x1024 .f32) (x8 : FVec Ideal S2x2048x1024 .f32) (i : S2x2048x1024.Idx) :
    Cert.AdamUpReferenceIdeal.Read.val_main_v60 (F := Ideal) x2 x3 x4 x8 i
      = if (i 0).val = 0 then Adam.square (x2 (ix3 0 (i 1) (i 2))) (parts x3 x4 (i 1) (i 2)) else x8 i := by
  refine (stack_at (Cert.AdamUpReferenceIdeal.Read.val_main_v27 (F := Ideal) x2 x3 x4) x8 i).trans ?_
  rw [ref_v]
  rfl

/-- The reference's new running mean of squares, at a place of the block of one grid point. -/
theorem new_v (x2 : FVec Ideal S2x2048x1024 .f32) (x3 : FVec Ideal S4x2048x1024 .f32) (x4 : FVec Ideal S3x2048x1024 .f32) (x8 : FVec Ideal S2x2048x1024 .f32) (t : Fin (cfgM m (ok m)).N) (y : S1x256x1024.Idx) :
    Cert.AdamUpReferenceIdeal.Read.val_main_v60 (F := Ideal) x2 x3 x4 x8 (((cfgM m (ok m)).win 7).blk t |>.view.emb y)
      = Adam.square (x2 (ix3 0 (place m t (y 1)) (y 2))) (parts x3 x4 (place m t (y 1)) (y 2)) :=
  (congrArg _ (emb_at m t y)).trans ((all_v x2 x3 x4 x8 (ix3 0 (place m t (y 1)) (y 2))).trans (if_pos rfl))

/-- The buffer of this result holds the previous call's result when the call begins. -/
theorem entry_v (c : Dev nD) : V m c main_v5_3 = (m ((c : Thread nD τ).loc main_arg8)) := by
  entry_read
  rfl

/-- When the call has ended, its array 3 of results is the reference's new running mean of squares. -/
theorem final_v (c : Dev nD) : (dats m (ok m) 0 c).arrAt 10 (cfgM m (ok m)).N
    = Cert.AdamUpReferenceIdeal.Read.val_main_v60 (m ((c : Thread nD τ).loc main_arg2)) (m ((c : Thread nD τ).loc main_arg3)) (m ((c : Thread nD τ).loc main_arg4)) (m ((c : Thread nD τ).loc main_arg8)) := by
  refine (dats m (ok m) 0 c).arrAt_eq_of_coversWhere_of_agree 10 _ (fun β => β (0 : Fin 3) = 0) (covers m).2.2.2
    (fun t hf y => ?_) fun j hj => ?_
  · blk_simp
    rw [after0_10]
    exact (square_at m c t y).trans (new_v m _ _ _ _ t y).symm
  · have h : ¬ (j (0 : Fin 3)).val = 0 := fun h => hj (by show (j (0 : Fin 3)).val / 1 = 0; omega)
    exact (congrFun (entry_v m c) j).trans (((all_v _ _ _ _ j).trans (if_neg h)).symm)

end Cert.AdamUpIdeal.Sums
end
-- ==== Proof.ProdAdamDown.lean ====
module

public import proofs.«01_k».proof.Proof.Gen.AdamDownIdeal.Frame
public import proofs.«01_k».proof.Proof.Gen.AdamDownReferenceIdeal.Read
public import proofs.«01_k».proof.Proof.Gen.AdamDownReferenceIdeal.Run
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Value

@[expose] public section

set_option maxRecDepth 16384

noncomputable section
namespace Cert.AdamDownIdeal.Sums
open Idealize.ShloMosaic Idealize.ShloMosaic.TcCoe Idealize.SL.Sem
open Cert.AdamDownIdeal Cert.AdamDownIdeal.Gen
open Idealize.ShloMosaic.Pipeline (Dat)
section
variable {F : FTy → Type} [FloatOps F] (m : (ℓ : Loc nD τ sig) → Buf (Elt F) ℓ)

/-- The table the call reads its first part's place from holds zero. -/
theorem table_eq (i) : tbl m 0 i = 0#32 := by
  show V m (0 : Dev nD) main_v4 i = 0#32
  entry_read
  rfl

/-- With that table, the first part's block is the block of part zero. -/
theorem own_map (i : grid0.Coords) : cc0_transform_3 inb_S1_S1_0 numel1_S1 (tbl m) i = cc0_transform_4 i := by
  unfold cc0_transform_3 cc0_transform_4 Pipeline.Prefetch.Contents.at
  rw [table_eq]

/-- That block lies inside the array of parts. -/
theorem own_inb : ∀ (i : grid0.Coords) a, (cc0_transform_4 i a + 1) * S1x128x2048.size a ≤ S4x1024x2048.size a := by
  decide +kernel

/-- That block is whole words of memory. -/
theorem own_words : ∀ i : grid0.Coords, EltTy.bits .bf16 = 32
    ∨ (Rect.block (s := S4x1024x2048) S1x128x2048.size (cc0_transform_4 i) (own_inb i)).WholeWords (EltTy.packing .bf16) :=
  fun _ => .inr (Affine.block_words_dvd (of_decide_eq_true rfl) (by decide))

/-- The table the program fills is one the call accepts. -/
theorem ok : Ok m := by
  intro i
  rw [own_map]
  exact ⟨own_inb i, own_words i⟩
end

/-- The pipeline's table, of a memory of zeros. -/
def zeros : (pcfg0 (F := Ideal)).Adm := adm (fun _ _ => default) (ok _)

variable (m : (ℓ : Loc nD τ sig) → Buf (Elt Ideal) ℓ)

/-- The blocks of each result are the blocks of its layer zero. -/
theorem covers : ((cfgM m (ok m)).win 7).CoversWhere (fun β => β (0 : Fin 3) = 0)
    ∧ ((cfgM m (ok m)).win 8).CoversWhere (fun β => β (0 : Fin 3) = 0)
    ∧ ((cfgM m (ok m)).win 9).CoversWhere (fun β => β (0 : Fin 3) = 0)
    ∧ ((cfgM m (ok m)).win 10).CoversWhere (fun β => β (0 : Fin 3) = 0) :=
  (by decide +kernel : ((cfg0 zeros).win 7).CoversWhere (fun β => β (0 : Fin 3) = 0)
    ∧ ((cfg0 zeros).win 8).CoversWhere (fun β => β (0 : Fin 3) = 0)
    ∧ ((cfg0 zeros).win 9).CoversWhere (fun β => β (0 : Fin 3) = 0)
    ∧ ((cfg0 zeros).win 10).CoversWhere (fun β => β (0 : Fin 3) = 0))

/-- At every grid point, which block of its array each window holds. -/
theorem index_val (t : Fin (cfgM m (ok m)).N) : ((cfgM m (ok m)).win 0).index t = ![0, t.val, 0]
    ∧ ((cfgM m (ok m)).win 1).index t = ![0, t.val, 0]
    ∧ ((cfgM m (ok m)).win 2).index t = ![0, t.val, 0]
    ∧ ((cfgM m (ok m)).win 4).index t = ![0, t.val, 0]
    ∧ ((cfgM m (ok m)).win 5).index t = ![1, t.val, 0]
    ∧ ((cfgM m (ok m)).win 6).index t = ![2, t.val, 0]
    ∧ ((cfgM m (ok m)).win 7).index t = ![0, t.val, 0]
    ∧ ((cfgM m (ok m)).win 8).index t = ![0, t.val, 0]
    ∧ ((cfgM m (ok m)).win 9).index t = ![0, t.val, 0]
    ∧ ((cfgM m (ok m)).win 10).index t = ![0, t.val, 0] :=
  (by decide +kernel : ∀ t : Fin (cfg0 zeros).N, ((cfg0 zeros).win 0).index t = ![0, t.val, 0]
    ∧ ((cfg0 zeros).win 1).index t = ![0, t.val, 0]
    ∧ ((cfg0 zeros).win 2).index t = ![0, t.val, 0]
    ∧ ((cfg0 zeros).win 4).index t = ![0, t.val, 0]
    ∧ ((cfg0 zeros).win 5).index t = ![1, t.val, 0]
    ∧ ((cfg0 zeros).win 6).index t = ![2, t.val, 0]
    ∧ ((cfg0 zeros).win 7).index t = ![0, t.val, 0]
    ∧ ((cfg0 zeros).win 8).index t = ![0, t.val, 0]
    ∧ ((cfg0 zeros).win 9).index t = ![0, t.val, 0]
    ∧ ((cfg0 zeros).win 10).index t = ![0, t.val, 0]) t

/-- At every grid point, which block of the first part its window holds. -/
theorem index_own (t : Fin (cfgM m (ok m)).N) : ((cfgM m (ok m)).win 3).index t = ![0, t.val, 0] :=
  (own_map m _).trans ((by decide +kernel : ∀ t : Fin grid0.N, cc0_transform_4 (grid0.coords t) = ![0, t.val, 0]) t)

/-- The four parts of the gradient, added, for a row and a column. -/
def parts (x3 : FVec Ideal S4x1024x2048 .f32) (x4 : FVec Ideal S3x1024x2048 .f32) (r : Fin 1024) (k : Fin 2048) : EReal :=
  x3 (ix3 0 r k) + x4 (ix3 0 r k) + x4 (ix3 1 r k) + x4 (ix3 2 r k)

/-- One layer's array under the second layer of another, at each of the two layers. -/
theorem stack_at (a : FVec Ideal Cert.AdamDownReferenceIdeal.S1024x2048 .f32) (x : FVec Ideal S2x1024x2048 .f32) (i : S2x1024x2048.Idx) :
    concatenate S2x1024x2048 0 [⟨Cert.AdamDownReferenceIdeal.S1x1024x2048, broadcastInDim Cert.AdamDownReferenceIdeal.S1x1024x2048 ![1, 2] Cert.AdamDownReferenceIdeal.Gen.bcast_S1024x2048_S1x1024x2048_1_2 a⟩,
      ⟨Cert.AdamDownReferenceIdeal.S1x1024x2048, broadcastInDim Cert.AdamDownReferenceIdeal.S1x1024x2048 ![1, 2] Cert.AdamDownReferenceIdeal.Gen.bcast_S1024x2048_S1x1024x2048_1_2 (shapeCast Cert.AdamDownReferenceIdeal.S1024x2048
        (extractStridedSlice Cert.AdamDownReferenceIdeal.S1x1024x2048 ![1, 0, 0] x Cert.AdamDownReferenceIdeal.Gen.slices_S2x1024x2048_S1x1024x2048_1_0_0) Cert.AdamDownReferenceIdeal.Gen.shapeCasts_S1x1024x2048_S1024x2048)⟩]
      Cert.AdamDownReferenceIdeal.Gen.concatenates_S1x1024x2048_S1x1024x2048_S2x1024x2048_d0 i
      = if (i 0).val = 0 then a (ix2 (i 1) (i 2)) else x i := by
  pointwise
  by_cases h : (i 0).val = 0
  · rw [if_pos h, dif_pos (by omega)]
  · have h1 : (i 0).val < 2 := (i 0).isLt
    rw [if_neg h, dif_neg (by omega)]
    refine congrArg x (funext fun b => Fin.ext ?_)
    match b with
    | ⟨0, _⟩ => show 1 = (i 0).val; omega
    | ⟨1, _⟩ => rfl
    | ⟨2, _⟩ => rfl

/-- The reference's gradient: the four parts, added. -/
theorem ref_g (x3 : FVec Ideal S4x1024x2048 .f32) (x4 : FVec Ideal S3x1024x2048 .f32) (i : Cert.AdamDownReferenceIdeal.S1024x2048.Idx) :
    Cert.AdamDownReferenceIdeal.Read.val_main_v10 (F := Ideal) x3 x4 i = parts x3 x4 (i 0) (i 1) := by
  pointwise [parts, Cert.AdamDownReferenceIdeal.Read.val_main_v0, Cert.AdamDownReferenceIdeal.Read.val_main_v1, Cert.AdamDownReferenceIdeal.Read.val_main_v2, Cert.AdamDownReferenceIdeal.Read.val_main_v3, Cert.AdamDownReferenceIdeal.Read.val_main_v4, Cert.AdamDownReferenceIdeal.Read.val_main_v5, Cert.AdamDownReferenceIdeal.Read.val_main_v6, Cert.AdamDownReferenceIdeal.Read.val_main_v7, Cert.AdamDownReferenceIdeal.Read.val_main_v8, Cert.AdamDownReferenceIdeal.Read.val_main_v9, Cert.AdamDownReferenceIdeal.Read.val_main_v10]

/-- The reference's new running mean. -/
theorem ref_m (x1 : FVec Ideal S2x1024x2048 .f32) (x3 : FVec Ideal S4x1024x2048 .f32) (x4 : FVec Ideal S3x1024x2048 .f32)
    (i : Cert.AdamDownReferenceIdeal.S1024x2048.Idx) : Cert.AdamDownReferenceIdeal.Read.val_main_v21 (F := Ideal) x1 x3 x4 i
      = Adam.mean (x1 (ix3 0 (i 0) (i 1))) (parts x3 x4 (i 0) (i 1)) := by
  rw [← ref_g]
  pointwise [Adam.mean, Cert.AdamDownReferenceIdeal.Read.val_main_v13, Cert.AdamDownReferenceIdeal.Read.val_main_v14, Cert.AdamDownReferenceIdeal.Read.val_main_cst, Cert.AdamDownReferenceIdeal.Read.val_main_v17, Cert.AdamDownReferenceIdeal.Read.val_main_v18, Cert.AdamDownReferenceIdeal.Read.val_main_cst_0, Cert.AdamDownReferenceIdeal.Read.val_main_v19, Cert.AdamDownReferenceIdeal.Read.val_main_v20, Cert.AdamDownReferenceIdeal.Read.val_main_v21]

/-- The reference's new running mean of squares. -/
theorem ref_v (x2 : FVec Ideal S2x1024x2048 .f32) (x3 : FVec Ideal S4x1024x2048 .f32) (x4 : FVec Ideal S3x1024x2048 .f32)
    (i : Cert.AdamDownReferenceIdeal.S1024x2048.Idx) : Cert.AdamDownReferenceIdeal.Read.val_main_v27 (F := Ideal) x2 x3 x4 i
      = Adam.square (x2 (ix3 0 (i 0) (i 1))) (parts x3 x4 (i 0) (i 1)) := by
  rw [← ref_g]
  pointwise [Adam.square, Cert.AdamDownReferenceIdeal.Read.val_main_v15, Cert.AdamDownReferenceIdeal.Read.val_main_v16, Cert.AdamDownReferenceIdeal.Read.val_main_cst_1, Cert.AdamDownReferenceIdeal.Read.val_main_v22, Cert.AdamDownReferenceIdeal.Read.val_main_v23, Cert.AdamDownReferenceIdeal.Read.val_main_v24, Cert.AdamDownReferenceIdeal.Read.val_main_cst_2, Cert.AdamDownReferenceIdeal.Read.val_main_v25, Cert.AdamDownReferenceIdeal.Read.val_main_v26, Cert.AdamDownReferenceIdeal.Read.val_main_v27]

/-- The reference's change of the weight. -/
theorem ref_d (x0 x1 x2 : FVec Ideal S2x1024x2048 .f32) (x3 : FVec Ideal S4x1024x2048 .f32)
    (x4 : FVec Ideal S3x1024x2048 .f32) (i : Cert.AdamDownReferenceIdeal.S1024x2048.Idx) :
    Cert.AdamDownReferenceIdeal.Read.val_main_v40 (F := Ideal) x0 x1 x2 x3 x4 i
      = Adam.delta (x0 (ix3 0 (i 0) (i 1))) (x1 (ix3 0 (i 0) (i 1))) (x2 (ix3 0 (i 0) (i 1))) (parts x3 x4 (i 0) (i 1)) := by
  unfold Adam.delta
  rw [← ref_m, ← ref_v]
  pointwise [Cert.AdamDownReferenceIdeal.Read.val_main_v11, Cert.AdamDownReferenceIdeal.Read.val_main_v12, Cert.AdamDownReferenceIdeal.Read.val_main_cst_3, Cert.AdamDownReferenceIdeal.Read.val_main_v28, Cert.AdamDownReferenceIdeal.Read.val_main_v29, Cert.AdamDownReferenceIdeal.Read.val_main_cst_4, Cert.AdamDownReferenceIdeal.Read.val_main_v30, Cert.AdamDownReferenceIdeal.Read.val_main_v31, Cert.AdamDownReferenceIdeal.Read.val_main_v32, Cert.AdamDownReferenceIdeal.Read.val_main_cst_5, Cert.AdamDownReferenceIdeal.Read.val_main_v33, Cert.AdamDownReferenceIdeal.Read.val_main_v34, Cert.AdamDownReferenceIdeal.Read.val_main_v35, Cert.AdamDownReferenceIdeal.Read.val_main_cst_6, Cert.AdamDownReferenceIdeal.Read.val_main_v36, Cert.AdamDownReferenceIdeal.Read.val_main_v37, Cert.AdamDownReferenceIdeal.Read.val_main_v38, Cert.AdamDownReferenceIdeal.Read.val_main_cst_7, Cert.AdamDownReferenceIdeal.Read.val_main_v39, Cert.AdamDownReferenceIdeal.Read.val_main_v40]

/-- The gradient's block: its four parts, added. -/
theorem pay1_at (a b c d : Vec Ideal S1x128x2048 .bf16) (j : S1x128x2048.Idx) : k0_pay1 (k0_pay5 a b c d) j
    = a j + b j + c j + d j := by
  pointwise [k0_pay1, k0_pay5]

/-- The running mean's block. -/
theorem pay3_at (a b c d : Vec Ideal S1x128x2048 .bf16) (x : Vec Ideal S1x128x2048 .f32) (j : S1x128x2048.Idx) :
    k0_pay3 (k0_pay6 a b c d x) j = Adam.mean (x j) (k0_pay1 (k0_pay5 a b c d) j) := by
  pointwise [k0_pay3, k0_pay1, k0_pay6, Adam.mean]

/-- The block of the running mean of squares. -/
theorem pay4_at (a b c d : Vec Ideal S1x128x2048 .bf16) (x : Vec Ideal S1x128x2048 .f32) (j : S1x128x2048.Idx) :
    k0_pay4 (k0_pay7 a b c d x) j = Adam.square (x j) (k0_pay1 (k0_pay5 a b c d) j) := by
  pointwise [k0_pay4, k0_pay1, k0_pay7, Adam.square]

/-- The block of the weight's change. -/
theorem pay2_at (a b c d : Vec Ideal S1x128x2048 .bf16) (w x y : Vec Ideal S1x128x2048 .f32) (j : S1x128x2048.Idx) :
    k0_pay2 (k0_pay8 a b c d x) (k0_pay9 a b c d y) w j
      = Adam.delta (w j) (x j) (y j) (k0_pay1 (k0_pay5 a b c d) j) := by
  unfold Adam.delta
  rw [← pay3_at, ← pay4_at]
  pointwise [k0_pay2, k0_pay8, k0_pay9, k0_pay3, k0_pay4]

/-- What the body leaves in the gradient's window. -/
theorem out_g (c : Dev nD) (t : Fin (cfgM m (ok m)).N) : (outsAt0 m (ok m) c t).1
    = k0_pay1 (k0_pay5 (F := Ideal) (iblk m (ok m) c 3 t) (iblk m (ok m) c 4 t)
      (iblk m (ok m) c 5 t) (iblk m (ok m) c 6 t)) := by
  unfold outsAt0
  frame_out
  refine congrArg k0_pay1 ?_
  congr 1
  · exact (hs0_3 m _ t).read_unread _
  · exact (hs0_4 m _ t).read_unread _
  · exact (hs0_5 m _ t).read_unread _
  · exact (hs0_6 m _ t).read_unread _

/-- What the body leaves in the running mean's window. -/
theorem out_m (c : Dev nD) (t : Fin (cfgM m (ok m)).N) : (outsAt0 m (ok m) c t).2.2.1
    = k0_pay3 (k0_pay6 (F := Ideal) (iblk m (ok m) c 3 t) (iblk m (ok m) c 4 t)
      (iblk m (ok m) c 5 t) (iblk m (ok m) c 6 t) (iblk m (ok m) c 1 t)) := by
  unfold outsAt0
  frame_out
  refine congrArg k0_pay3 ?_
  congr 1
  · exact (hs0_3 m _ t).read_unread _
  · exact (hs0_4 m _ t).read_unread _
  · exact (hs0_5 m _ t).read_unread _
  · exact (hs0_6 m _ t).read_unread _
  · exact (hs0_1 m _ t).read_unread _

/-- What the body leaves in the window of the running mean of squares. -/
theorem out_v (c : Dev nD) (t : Fin (cfgM m (ok m)).N) : (outsAt0 m (ok m) c t).2.2.2
    = k0_pay4 (k0_pay7 (F := Ideal) (iblk m (ok m) c 3 t) (iblk m (ok m) c 4 t)
      (iblk m (ok m) c 5 t) (iblk m (ok m) c 6 t) (iblk m (ok m) c 2 t)) := by
  unfold outsAt0
  frame_out
  refine congrArg k0_pay4 ?_
  congr 1
  · exact (hs0_3 m _ t).read_unread _
  · exact (hs0_4 m _ t).read_unread _
  · exact (hs0_5 m _ t).read_unread _
  · exact (hs0_6 m _ t).read_unread _
  · exact (hs0_2 m _ t).read_unread _

set_option maxHeartbeats 1000000 in
/-- What the body leaves in the window of the weight's change. -/
theorem out_d (c : Dev nD) (t : Fin (cfgM m (ok m)).N) : (outsAt0 m (ok m) c t).2.1
    = k0_pay2 (k0_pay8 (F := Ideal) (iblk m (ok m) c 3 t) (iblk m (ok m) c 4 t)
      (iblk m (ok m) c 5 t) (iblk m (ok m) c 6 t) (iblk m (ok m) c 1 t))
      (k0_pay9 (F := Ideal) (iblk m (ok m) c 3 t) (iblk m (ok m) c 4 t)
      (iblk m (ok m) c 5 t) (iblk m (ok m) c 6 t) (iblk m (ok m) c 2 t)) (iblk m (ok m) c 0 t) := by
  unfold outsAt0
  frame_out
  refine congr (congr (congrArg k0_pay2 ?_) ?_) ?_
  · congr 1
    · exact (hs0_3 m _ t).read_unread _
    · exact (hs0_4 m _ t).read_unread _
    · exact (hs0_5 m _ t).read_unread _
    · exact (hs0_6 m _ t).read_unread _
    · exact (hs0_1 m _ t).read_unread _
  · congr 1
    · exact (hs0_3 m _ t).read_unread _
    · exact (hs0_4 m _ t).read_unread _
    · exact (hs0_5 m _ t).read_unread _
    · exact (hs0_6 m _ t).read_unread _
    · exact (hs0_2 m _ t).read_unread _
  · exact (hs0_0 m _ t).read_unread _

/-- The row of the array that a row of the block is. -/
def place (t : Fin (cfgM m (ok m)).N) (r : Fin 128) : Fin 1024 :=
  ⟨t.val * 128 + r.val, by have : t.val < 8 := t.isLt; omega⟩

/-- The four parts of the gradient, in the block of one grid point. -/
theorem parts_at (c : Dev nD) (t : Fin (cfgM m (ok m)).N) (y : S1x128x2048.Idx) :
    (iblk m (ok m) c 3 t : Vec Ideal S1x128x2048 .bf16) y
      = (m ((c : Thread nD τ).loc main_arg3) : FVec Ideal S4x1024x2048 .f32) (ix3 0 (place m t (y 1)) (y 2))
    ∧ (iblk m (ok m) c 4 t : Vec Ideal S1x128x2048 .bf16) y
      = (m ((c : Thread nD τ).loc main_arg4) : FVec Ideal S3x1024x2048 .f32) (ix3 0 (place m t (y 1)) (y 2))
    ∧ (iblk m (ok m) c 5 t : Vec Ideal S1x128x2048 .bf16) y
      = (m ((c : Thread nD τ).loc main_arg4) : FVec Ideal S3x1024x2048 .f32) (ix3 1 (place m t (y 1)) (y 2))
    ∧ (iblk m (ok m) c 6 t : Vec Ideal S1x128x2048 .bf16) y
      = (m ((c : Thread nD τ).loc main_arg4) : FVec Ideal S3x1024x2048 .f32) (ix3 2 (place m t (y 1)) (y 2)) := by
  refine ⟨?_, ?_, ?_, ?_⟩
  · blk_point [iblk, V, index_own m t, place]
  · blk_point [iblk, V, index_val m t, place]
  · blk_point [iblk, V, index_val m t, place]
  · blk_point [iblk, V, index_val m t, place]

/-- The weight and its two running means, in the block of one grid point. -/
theorem state_at (c : Dev nD) (t : Fin (cfgM m (ok m)).N) (y : S1x128x2048.Idx) :
    (iblk m (ok m) c 0 t : Vec Ideal S1x128x2048 .f32) y = (m ((c : Thread nD τ).loc main_arg0) : FVec Ideal S2x1024x2048 .f32) (ix3 0 (place m t (y 1)) (y 2))
    ∧ (iblk m (ok m) c 1 t : Vec Ideal S1x128x2048 .f32) y = (m ((c : Thread nD τ).loc main_arg1) : FVec Ideal S2x1024x2048 .f32) (ix3 0 (place m t (y 1)) (y 2))
    ∧ (iblk m (ok m) c 2 t : Vec Ideal S1x128x2048 .f32) y = (m ((c : Thread nD τ).loc main_arg2) : FVec Ideal S2x1024x2048 .f32) (ix3 0 (place m t (y 1)) (y 2)) := by
  refine ⟨?_, ?_, ?_⟩
  · blk_point [iblk, V, index_val m t, place]
  · blk_point [iblk, V, index_val m t, place]
  · blk_point [iblk, V, index_val m t, place]

/-- The place in the array that a place of a result's block is. -/
theorem emb_at (t : Fin (cfgM m (ok m)).N) (y : S1x128x2048.Idx) :
    ((((cfgM m (ok m)).win 7).blk t).view.emb y : S2x1024x2048.Idx) = ix3 0 (place m t (y 1)) (y 2) := by
  blk_point [index_val m t, place]

/-- The gradient's block, at one of its places. -/
theorem grad_at (c : Dev nD) (t : Fin (cfgM m (ok m)).N) (y : S1x128x2048.Idx) : k0_pay1 (k0_pay5 (F := Ideal) (iblk m (ok m) c 3 t) (iblk m (ok m) c 4 t)
      (iblk m (ok m) c 5 t) (iblk m (ok m) c 6 t)) y
    = parts (m ((c : Thread nD τ).loc main_arg3)) (m ((c : Thread nD τ).loc main_arg4)) (place m t (y 1)) (y 2) := by
  obtain ⟨h3, h4, h5, h6⟩ := parts_at m c t y
  refine (pay1_at _ _ _ _ y).trans ?_
  exact congrArg₂ (fun u v : EReal => u + v)
    (congrArg₂ (fun u v : EReal => u + v) (congrArg₂ (fun u v : EReal => u + v) h3 h4) h5) h6

/-- The running mean's block, at one of its places. -/
theorem mean_at (c : Dev nD) (t : Fin (cfgM m (ok m)).N) (y : S1x128x2048.Idx) : (outsAt0 m (ok m) c t).2.2.1 y
    = Adam.mean ((m ((c : Thread nD τ).loc main_arg1) : FVec Ideal S2x1024x2048 .f32) (ix3 0 (place m t (y 1)) (y 2)))
      (parts (m ((c : Thread nD τ).loc main_arg3)) (m ((c : Thread nD τ).loc main_arg4)) (place m t (y 1)) (y 2)) := by
  rw [out_m]
  exact (pay3_at _ _ _ _ _ y).trans (congrArg₂ Adam.mean (state_at m c t y).2.1 (grad_at m c t y))

/-- The block of the running mean of squares, at one of its places. -/
theorem square_at (c : Dev nD) (t : Fin (cfgM m (ok m)).N) (y : S1x128x2048.Idx) : (outsAt0 m (ok m) c t).2.2.2 y
    = Adam.square ((m ((c : Thread nD τ).loc main_arg2) : FVec Ideal S2x1024x2048 .f32) (ix3 0 (place m t (y 1)) (y 2)))
      (parts (m ((c : Thread nD τ).loc main_arg3)) (m ((c : Thread nD τ).loc main_arg4)) (place m t (y 1)) (y 2)) := by
  rw [out_v]
  exact (pay4_at _ _ _ _ _ y).trans (congrArg₂ Adam.square (state_at m c t y).2.2 (grad_at m c t y))

/-- The block of the weight's change, at one of its places. -/
theorem delta_at (c : Dev nD) (t : Fin (cfgM m (ok m)).N) (y : S1x128x2048.Idx) : (outsAt0 m (ok m) c t).2.1 y
    = Adam.delta ((m ((c : Thread nD τ).loc main_arg0) : FVec Ideal S2x1024x2048 .f32) (ix3 0 (place m t (y 1)) (y 2)))
      ((m ((c : Thread nD τ).loc main_arg1) : FVec Ideal S2x1024x2048 .f32) (ix3 0 (place m t (y 1)) (y 2)))
      ((m ((c : Thread nD τ).loc main_arg2) : FVec Ideal S2x1024x2048 .f32) (ix3 0 (place m t (y 1)) (y 2)))
      (parts (m ((c : Thread nD τ).loc main_arg3)) (m ((c : Thread nD τ).loc main_arg4)) (place m t (y 1)) (y 2)) := by
  rw [out_d]
  refine (pay2_at _ _ _ _ _ _ _ y).trans ?_
  obtain ⟨h0, h1, h2⟩ := state_at m c t y
  exact congr (congr (congrArg₂ Adam.delta h0 h1) h2) (grad_at m c t y)

/-- The reference's gradient, at each of the two layers. -/
theorem all_g (x3 : FVec Ideal S4x1024x2048 .f32) (x4 : FVec Ideal S3x1024x2048 .f32) (x5 : FVec Ideal S2x1024x2048 .f32) (i : S2x1024x2048.Idx) :
    Cert.AdamDownReferenceIdeal.Read.val_main_v45 (F := Ideal) x3 x4 x5 i
      = if (i 0).val = 0 then parts x3 x4 (i 1) (i 2) else x5 i := by
  refine (stack_at (Cert.AdamDownReferenceIdeal.Read.val_main_v10 (F := Ideal) x3 x4) x5 i).trans ?_
  rw [ref_g]
  rfl

/-- The reference's gradient, at a place of the block of one grid point. -/
theorem new_g (x3 : FVec Ideal S4x1024x2048 .f32) (x4 : FVec Ideal S3x1024x2048 .f32) (x5 : FVec Ideal S2x1024x2048 .f32) (t : Fin (cfgM m (ok m)).N) (y : S1x128x2048.Idx) :
    Cert.AdamDownReferenceIdeal.Read.val_main_v45 (F := Ideal) x3 x4 x5 (((cfgM m (ok m)).win 7).blk t |>.view.emb y)
      = parts x3 x4 (place m t (y 1)) (y 2) :=
  (congrArg _ (emb_at m t y)).trans ((all_g x3 x4 x5 (ix3 0 (place m t (y 1)) (y 2))).trans (if_pos rfl))

/-- The buffer of this result holds the previous call's result when the call begins. -/
theorem entry_g (c : Dev nD) : V m c main_v5_0 = (m ((c : Thread nD τ).loc main_arg5)) := by
  entry_read
  rfl

/-- When the call has ended, its array 0 of results is the reference's gradient. -/
theorem final_g (c : Dev nD) : (dats m (ok m) 0 c).arrAt 7 (cfgM m (ok m)).N
    = Cert.AdamDownReferenceIdeal.Read.val_main_v45 (m ((c : Thread nD τ).loc main_arg3)) (m ((c : Thread nD τ).loc main_arg4)) (m ((c : Thread nD τ).loc main_arg5)) := by
  refine (dats m (ok m) 0 c).arrAt_eq_of_coversWhere_of_agree 7 _ (fun β => β (0 : Fin 3) = 0) (covers m).1
    (fun t hf y => ?_) fun j hj => ?_
  · blk_simp
    rw [after0_7]
    exact ((congrFun (out_g m c t) y).trans (grad_at m c t y)).trans (new_g m _ _ _ t y).symm
  · have h : ¬ (j (0 : Fin 3)).val = 0 := fun h => hj (by show (j (0 : Fin 3)).val / 1 = 0; omega)
    exact (congrFun (entry_g m c) j).trans (((all_g _ _ _ j).trans (if_neg h)).symm)

/-- The reference's weight's change, at each of the two layers. -/
theorem all_d (x0 : FVec Ideal S2x1024x2048 .f32) (x1 : FVec Ideal S2x1024x2048 .f32) (x2 : FVec Ideal S2x1024x2048 .f32) (x3 : FVec Ideal S4x1024x2048 .f32) (x4 : FVec Ideal S3x1024x2048 .f32) (x6 : FVec Ideal S2x1024x2048 .f32) (i : S2x1024x2048.Idx) :
    Cert.AdamDownReferenceIdeal.Read.val_main_v50 (F := Ideal) x0 x1 x2 x3 x4 x6 i
      = if (i 0).val = 0 then Adam.delta (x0 (ix3 0 (i 1) (i 2))) (x1 (ix3 0 (i 1) (i 2))) (x2 (ix3 0 (i 1) (i 2))) (parts x3 x4 (i 1) (i 2)) else x6 i := by
  refine (stack_at (Cert.AdamDownReferenceIdeal.Read.val_main_v40 (F := Ideal) x0 x1 x2 x3 x4) x6 i).trans ?_
  rw [ref_d]
  rfl

/-- The reference's weight's change, at a place of the block of one grid point. -/
theorem new_d (x0 : FVec Ideal S2x1024x2048 .f32) (x1 : FVec Ideal S2x1024x2048 .f32) (x2 : FVec Ideal S2x1024x2048 .f32) (x3 : FVec Ideal S4x1024x2048 .f32) (x4 : FVec Ideal S3x1024x2048 .f32) (x6 : FVec Ideal S2x1024x2048 .f32) (t : Fin (cfgM m (ok m)).N) (y : S1x128x2048.Idx) :
    Cert.AdamDownReferenceIdeal.Read.val_main_v50 (F := Ideal) x0 x1 x2 x3 x4 x6 (((cfgM m (ok m)).win 7).blk t |>.view.emb y)
      = Adam.delta (x0 (ix3 0 (place m t (y 1)) (y 2))) (x1 (ix3 0 (place m t (y 1)) (y 2))) (x2 (ix3 0 (place m t (y 1)) (y 2))) (parts x3 x4 (place m t (y 1)) (y 2)) :=
  (congrArg _ (emb_at m t y)).trans ((all_d x0 x1 x2 x3 x4 x6 (ix3 0 (place m t (y 1)) (y 2))).trans (if_pos rfl))

/-- The buffer of this result holds the previous call's result when the call begins. -/
theorem entry_d (c : Dev nD) : V m c main_v5_1 = (m ((c : Thread nD τ).loc main_arg6)) := by
  entry_read
  rfl

/-- When the call has ended, its array 1 of results is the reference's weight's change. -/
theorem final_d (c : Dev nD) : (dats m (ok m) 0 c).arrAt 8 (cfgM m (ok m)).N
    = Cert.AdamDownReferenceIdeal.Read.val_main_v50 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m (ok m) 0 c).arrAt_eq_of_coversWhere_of_agree 8 _ (fun β => β (0 : Fin 3) = 0) (covers m).2.1
    (fun t hf y => ?_) fun j hj => ?_
  · blk_simp
    rw [after0_8]
    exact (delta_at m c t y).trans (new_d m _ _ _ _ _ _ t y).symm
  · have h : ¬ (j (0 : Fin 3)).val = 0 := fun h => hj (by show (j (0 : Fin 3)).val / 1 = 0; omega)
    exact (congrFun (entry_d m c) j).trans (((all_d _ _ _ _ _ _ j).trans (if_neg h)).symm)

/-- The reference's new running mean, at each of the two layers. -/
theorem all_m (x1 : FVec Ideal S2x1024x2048 .f32) (x3 : FVec Ideal S4x1024x2048 .f32) (x4 : FVec Ideal S3x1024x2048 .f32) (x7 : FVec Ideal S2x1024x2048 .f32) (i : S2x1024x2048.Idx) :
    Cert.AdamDownReferenceIdeal.Read.val_main_v55 (F := Ideal) x1 x3 x4 x7 i
      = if (i 0).val = 0 then Adam.mean (x1 (ix3 0 (i 1) (i 2))) (parts x3 x4 (i 1) (i 2)) else x7 i := by
  refine (stack_at (Cert.AdamDownReferenceIdeal.Read.val_main_v21 (F := Ideal) x1 x3 x4) x7 i).trans ?_
  rw [ref_m]
  rfl

/-- The reference's new running mean, at a place of the block of one grid point. -/
theorem new_m (x1 : FVec Ideal S2x1024x2048 .f32) (x3 : FVec Ideal S4x1024x2048 .f32) (x4 : FVec Ideal S3x1024x2048 .f32) (x7 : FVec Ideal S2x1024x2048 .f32) (t : Fin (cfgM m (ok m)).N) (y : S1x128x2048.Idx) :
    Cert.AdamDownReferenceIdeal.Read.val_main_v55 (F := Ideal) x1 x3 x4 x7 (((cfgM m (ok m)).win 7).blk t |>.view.emb y)
      = Adam.mean (x1 (ix3 0 (place m t (y 1)) (y 2))) (parts x3 x4 (place m t (y 1)) (y 2)) :=
  (congrArg _ (emb_at m t y)).trans ((all_m x1 x3 x4 x7 (ix3 0 (place m t (y 1)) (y 2))).trans (if_pos rfl))

/-- The buffer of this result holds the previous call's result when the call begins. -/
theorem entry_m (c : Dev nD) : V m c main_v5_2 = (m ((c : Thread nD τ).loc main_arg7)) := by
  entry_read
  rfl

/-- When the call has ended, its array 2 of results is the reference's new running mean. -/
theorem final_m (c : Dev nD) : (dats m (ok m) 0 c).arrAt 9 (cfgM m (ok m)).N
    = Cert.AdamDownReferenceIdeal.Read.val_main_v55 (m ((c : Thread nD τ).loc main_arg1)) (m ((c : Thread nD τ).loc main_arg3)) (m ((c : Thread nD τ).loc main_arg4)) (m ((c : Thread nD τ).loc main_arg7)) := by
  refine (dats m (ok m) 0 c).arrAt_eq_of_coversWhere_of_agree 9 _ (fun β => β (0 : Fin 3) = 0) (covers m).2.2.1
    (fun t hf y => ?_) fun j hj => ?_
  · blk_simp
    rw [after0_9]
    exact (mean_at m c t y).trans (new_m m _ _ _ _ t y).symm
  · have h : ¬ (j (0 : Fin 3)).val = 0 := fun h => hj (by show (j (0 : Fin 3)).val / 1 = 0; omega)
    exact (congrFun (entry_m m c) j).trans (((all_m _ _ _ _ j).trans (if_neg h)).symm)

/-- The reference's new running mean of squares, at each of the two layers. -/
theorem all_v (x2 : FVec Ideal S2x1024x2048 .f32) (x3 : FVec Ideal S4x1024x2048 .f32) (x4 : FVec Ideal S3x1024x2048 .f32) (x8 : FVec Ideal S2x1024x2048 .f32) (i : S2x1024x2048.Idx) :
    Cert.AdamDownReferenceIdeal.Read.val_main_v60 (F := Ideal) x2 x3 x4 x8 i
      = if (i 0).val = 0 then Adam.square (x2 (ix3 0 (i 1) (i 2))) (parts x3 x4 (i 1) (i 2)) else x8 i := by
  refine (stack_at (Cert.AdamDownReferenceIdeal.Read.val_main_v27 (F := Ideal) x2 x3 x4) x8 i).trans ?_
  rw [ref_v]
  rfl

/-- The reference's new running mean of squares, at a place of the block of one grid point. -/
theorem new_v (x2 : FVec Ideal S2x1024x2048 .f32) (x3 : FVec Ideal S4x1024x2048 .f32) (x4 : FVec Ideal S3x1024x2048 .f32) (x8 : FVec Ideal S2x1024x2048 .f32) (t : Fin (cfgM m (ok m)).N) (y : S1x128x2048.Idx) :
    Cert.AdamDownReferenceIdeal.Read.val_main_v60 (F := Ideal) x2 x3 x4 x8 (((cfgM m (ok m)).win 7).blk t |>.view.emb y)
      = Adam.square (x2 (ix3 0 (place m t (y 1)) (y 2))) (parts x3 x4 (place m t (y 1)) (y 2)) :=
  (congrArg _ (emb_at m t y)).trans ((all_v x2 x3 x4 x8 (ix3 0 (place m t (y 1)) (y 2))).trans (if_pos rfl))

/-- The buffer of this result holds the previous call's result when the call begins. -/
theorem entry_v (c : Dev nD) : V m c main_v5_3 = (m ((c : Thread nD τ).loc main_arg8)) := by
  entry_read
  rfl

/-- When the call has ended, its array 3 of results is the reference's new running mean of squares. -/
theorem final_v (c : Dev nD) : (dats m (ok m) 0 c).arrAt 10 (cfgM m (ok m)).N
    = Cert.AdamDownReferenceIdeal.Read.val_main_v60 (m ((c : Thread nD τ).loc main_arg2)) (m ((c : Thread nD τ).loc main_arg3)) (m ((c : Thread nD τ).loc main_arg4)) (m ((c : Thread nD τ).loc main_arg8)) := by
  refine (dats m (ok m) 0 c).arrAt_eq_of_coversWhere_of_agree 10 _ (fun β => β (0 : Fin 3) = 0) (covers m).2.2.2
    (fun t hf y => ?_) fun j hj => ?_
  · blk_simp
    rw [after0_10]
    exact (square_at m c t y).trans (new_v m _ _ _ _ t y).symm
  · have h : ¬ (j (0 : Fin 3)).val = 0 := fun h => hj (by show (j (0 : Fin 3)).val / 1 = 0; omega)
    exact (congrFun (entry_v m c) j).trans (((all_v _ _ _ _ j).trans (if_neg h)).symm)

end Cert.AdamDownIdeal.Sums
end
-- ==== Proof.ProdAdamPle.lean ====
module

public import proofs.«01_k».proof.Proof.Gen.AdamPleIdeal.Frame
public import proofs.«01_k».proof.Proof.Gen.AdamPleReferenceIdeal.Read
public import proofs.«01_k».proof.Proof.Gen.AdamPleReferenceIdeal.Run
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Value

@[expose] public section

set_option maxRecDepth 16384

noncomputable section
namespace Cert.AdamPleIdeal.Sums
open Idealize.ShloMosaic Idealize.ShloMosaic.TcCoe Idealize.SL.Sem
open Cert.AdamPleIdeal Cert.AdamPleIdeal.Gen
open Idealize.ShloMosaic.Pipeline (Dat)
section
variable {F : FTy → Type} [FloatOps F] (m : (ℓ : Loc nD τ sig) → Buf (Elt F) ℓ)

/-- The table the call reads its first part's place from holds zero. -/
theorem table_eq (i) : tbl m 0 i = 0#32 := by
  show V m (0 : Dev nD) main_v4 i = 0#32
  entry_read
  rfl

/-- With that table, the first part's block is the block of part zero. -/
theorem own_map (i : grid0.Coords) : cc0_transform_3 inb_S1_S1_0 numel1_S1 (tbl m) i = cc0_transform_4 i := by
  unfold cc0_transform_3 cc0_transform_4 Pipeline.Prefetch.Contents.at
  rw [table_eq]

/-- That block lies inside the array of parts. -/
theorem own_inb : ∀ (i : grid0.Coords) a, (cc0_transform_4 i a + 1) * S1x256x256.size a ≤ S4x256x256.size a := by
  decide +kernel

/-- That block is whole words of memory. -/
theorem own_words : ∀ i : grid0.Coords, EltTy.bits .bf16 = 32
    ∨ (Rect.block (s := S4x256x256) S1x256x256.size (cc0_transform_4 i) (own_inb i)).WholeWords (EltTy.packing .bf16) :=
  fun _ => .inr (Affine.block_words_dvd (of_decide_eq_true rfl) (by decide))

/-- The table the program fills is one the call accepts. -/
theorem ok : Ok m := by
  intro i
  rw [own_map]
  exact ⟨own_inb i, own_words i⟩
end

/-- The pipeline's table, of a memory of zeros. -/
def zeros : (pcfg0 (F := Ideal)).Adm := adm (fun _ _ => default) (ok _)

variable (m : (ℓ : Loc nD τ sig) → Buf (Elt Ideal) ℓ)

/-- The blocks of each result are the blocks of its layer zero. -/
theorem covers : ((cfgM m (ok m)).win 7).CoversWhere (fun β => β (0 : Fin 3) = 0)
    ∧ ((cfgM m (ok m)).win 8).CoversWhere (fun β => β (0 : Fin 3) = 0)
    ∧ ((cfgM m (ok m)).win 9).CoversWhere (fun β => β (0 : Fin 3) = 0)
    ∧ ((cfgM m (ok m)).win 10).CoversWhere (fun β => β (0 : Fin 3) = 0) :=
  (by decide +kernel : ((cfg0 zeros).win 7).CoversWhere (fun β => β (0 : Fin 3) = 0)
    ∧ ((cfg0 zeros).win 8).CoversWhere (fun β => β (0 : Fin 3) = 0)
    ∧ ((cfg0 zeros).win 9).CoversWhere (fun β => β (0 : Fin 3) = 0)
    ∧ ((cfg0 zeros).win 10).CoversWhere (fun β => β (0 : Fin 3) = 0))

/-- At every grid point, which block of its array each window holds. -/
theorem index_val (t : Fin (cfgM m (ok m)).N) : ((cfgM m (ok m)).win 0).index t = ![0, t.val, 0]
    ∧ ((cfgM m (ok m)).win 1).index t = ![0, t.val, 0]
    ∧ ((cfgM m (ok m)).win 2).index t = ![0, t.val, 0]
    ∧ ((cfgM m (ok m)).win 4).index t = ![0, t.val, 0]
    ∧ ((cfgM m (ok m)).win 5).index t = ![1, t.val, 0]
    ∧ ((cfgM m (ok m)).win 6).index t = ![2, t.val, 0]
    ∧ ((cfgM m (ok m)).win 7).index t = ![0, t.val, 0]
    ∧ ((cfgM m (ok m)).win 8).index t = ![0, t.val, 0]
    ∧ ((cfgM m (ok m)).win 9).index t = ![0, t.val, 0]
    ∧ ((cfgM m (ok m)).win 10).index t = ![0, t.val, 0] :=
  (by decide +kernel : ∀ t : Fin (cfg0 zeros).N, ((cfg0 zeros).win 0).index t = ![0, t.val, 0]
    ∧ ((cfg0 zeros).win 1).index t = ![0, t.val, 0]
    ∧ ((cfg0 zeros).win 2).index t = ![0, t.val, 0]
    ∧ ((cfg0 zeros).win 4).index t = ![0, t.val, 0]
    ∧ ((cfg0 zeros).win 5).index t = ![1, t.val, 0]
    ∧ ((cfg0 zeros).win 6).index t = ![2, t.val, 0]
    ∧ ((cfg0 zeros).win 7).index t = ![0, t.val, 0]
    ∧ ((cfg0 zeros).win 8).index t = ![0, t.val, 0]
    ∧ ((cfg0 zeros).win 9).index t = ![0, t.val, 0]
    ∧ ((cfg0 zeros).win 10).index t = ![0, t.val, 0]) t

/-- At every grid point, which block of the first part its window holds. -/
theorem index_own (t : Fin (cfgM m (ok m)).N) : ((cfgM m (ok m)).win 3).index t = ![0, t.val, 0] :=
  (own_map m _).trans ((by decide +kernel : ∀ t : Fin grid0.N, cc0_transform_4 (grid0.coords t) = ![0, t.val, 0]) t)

/-- The four parts of the gradient, added, for a row and a column. -/
def parts (x3 : FVec Ideal S4x256x256 .f32) (x4 : FVec Ideal S3x256x256 .f32) (r : Fin 256) (k : Fin 256) : EReal :=
  x3 (ix3 0 r k) + x4 (ix3 0 r k) + x4 (ix3 1 r k) + x4 (ix3 2 r k)

/-- One layer's array under the second layer of another, at each of the two layers. -/
theorem stack_at (a : FVec Ideal Cert.AdamPleReferenceIdeal.S256x256 .f32) (x : FVec Ideal S2x256x256 .f32) (i : S2x256x256.Idx) :
    concatenate S2x256x256 0 [⟨Cert.AdamPleReferenceIdeal.S1x256x256, broadcastInDim Cert.AdamPleReferenceIdeal.S1x256x256 ![1, 2] Cert.AdamPleReferenceIdeal.Gen.bcast_S256x256_S1x256x256_1_2 a⟩,
      ⟨Cert.AdamPleReferenceIdeal.S1x256x256, broadcastInDim Cert.AdamPleReferenceIdeal.S1x256x256 ![1, 2] Cert.AdamPleReferenceIdeal.Gen.bcast_S256x256_S1x256x256_1_2 (shapeCast Cert.AdamPleReferenceIdeal.S256x256
        (extractStridedSlice Cert.AdamPleReferenceIdeal.S1x256x256 ![1, 0, 0] x Cert.AdamPleReferenceIdeal.Gen.slices_S2x256x256_S1x256x256_1_0_0) Cert.AdamPleReferenceIdeal.Gen.shapeCasts_S1x256x256_S256x256)⟩]
      Cert.AdamPleReferenceIdeal.Gen.concatenates_S1x256x256_S1x256x256_S2x256x256_d0 i
      = if (i 0).val = 0 then a (ix2 (i 1) (i 2)) else x i := by
  pointwise
  by_cases h : (i 0).val = 0
  · rw [if_pos h, dif_pos (by omega)]
  · have h1 : (i 0).val < 2 := (i 0).isLt
    rw [if_neg h, dif_neg (by omega)]
    refine congrArg x (funext fun b => Fin.ext ?_)
    match b with
    | ⟨0, _⟩ => show 1 = (i 0).val; omega
    | ⟨1, _⟩ => rfl
    | ⟨2, _⟩ => rfl

/-- The reference's gradient: the four parts, added. -/
theorem ref_g (x3 : FVec Ideal S4x256x256 .f32) (x4 : FVec Ideal S3x256x256 .f32) (i : Cert.AdamPleReferenceIdeal.S256x256.Idx) :
    Cert.AdamPleReferenceIdeal.Read.val_main_v10 (F := Ideal) x3 x4 i = parts x3 x4 (i 0) (i 1) := by
  pointwise [parts, Cert.AdamPleReferenceIdeal.Read.val_main_v0, Cert.AdamPleReferenceIdeal.Read.val_main_v1, Cert.AdamPleReferenceIdeal.Read.val_main_v2, Cert.AdamPleReferenceIdeal.Read.val_main_v3, Cert.AdamPleReferenceIdeal.Read.val_main_v4, Cert.AdamPleReferenceIdeal.Read.val_main_v5, Cert.AdamPleReferenceIdeal.Read.val_main_v6, Cert.AdamPleReferenceIdeal.Read.val_main_v7, Cert.AdamPleReferenceIdeal.Read.val_main_v8, Cert.AdamPleReferenceIdeal.Read.val_main_v9, Cert.AdamPleReferenceIdeal.Read.val_main_v10]

/-- The reference's new running mean. -/
theorem ref_m (x1 : FVec Ideal S2x256x256 .f32) (x3 : FVec Ideal S4x256x256 .f32) (x4 : FVec Ideal S3x256x256 .f32)
    (i : Cert.AdamPleReferenceIdeal.S256x256.Idx) : Cert.AdamPleReferenceIdeal.Read.val_main_v21 (F := Ideal) x1 x3 x4 i
      = Adam.mean (x1 (ix3 0 (i 0) (i 1))) (parts x3 x4 (i 0) (i 1)) := by
  rw [← ref_g]
  pointwise [Adam.mean, Cert.AdamPleReferenceIdeal.Read.val_main_v13, Cert.AdamPleReferenceIdeal.Read.val_main_v14, Cert.AdamPleReferenceIdeal.Read.val_main_cst, Cert.AdamPleReferenceIdeal.Read.val_main_v17, Cert.AdamPleReferenceIdeal.Read.val_main_v18, Cert.AdamPleReferenceIdeal.Read.val_main_cst_0, Cert.AdamPleReferenceIdeal.Read.val_main_v19, Cert.AdamPleReferenceIdeal.Read.val_main_v20, Cert.AdamPleReferenceIdeal.Read.val_main_v21]

/-- The reference's new running mean of squares. -/
theorem ref_v (x2 : FVec Ideal S2x256x256 .f32) (x3 : FVec Ideal S4x256x256 .f32) (x4 : FVec Ideal S3x256x256 .f32)
    (i : Cert.AdamPleReferenceIdeal.S256x256.Idx) : Cert.AdamPleReferenceIdeal.Read.val_main_v27 (F := Ideal) x2 x3 x4 i
      = Adam.square (x2 (ix3 0 (i 0) (i 1))) (parts x3 x4 (i 0) (i 1)) := by
  rw [← ref_g]
  pointwise [Adam.square, Cert.AdamPleReferenceIdeal.Read.val_main_v15, Cert.AdamPleReferenceIdeal.Read.val_main_v16, Cert.AdamPleReferenceIdeal.Read.val_main_cst_1, Cert.AdamPleReferenceIdeal.Read.val_main_v22, Cert.AdamPleReferenceIdeal.Read.val_main_v23, Cert.AdamPleReferenceIdeal.Read.val_main_v24, Cert.AdamPleReferenceIdeal.Read.val_main_cst_2, Cert.AdamPleReferenceIdeal.Read.val_main_v25, Cert.AdamPleReferenceIdeal.Read.val_main_v26, Cert.AdamPleReferenceIdeal.Read.val_main_v27]

/-- The reference's change of the weight. -/
theorem ref_d (x0 x1 x2 : FVec Ideal S2x256x256 .f32) (x3 : FVec Ideal S4x256x256 .f32)
    (x4 : FVec Ideal S3x256x256 .f32) (i : Cert.AdamPleReferenceIdeal.S256x256.Idx) :
    Cert.AdamPleReferenceIdeal.Read.val_main_v40 (F := Ideal) x0 x1 x2 x3 x4 i
      = Adam.delta (x0 (ix3 0 (i 0) (i 1))) (x1 (ix3 0 (i 0) (i 1))) (x2 (ix3 0 (i 0) (i 1))) (parts x3 x4 (i 0) (i 1)) := by
  unfold Adam.delta
  rw [← ref_m, ← ref_v]
  pointwise [Cert.AdamPleReferenceIdeal.Read.val_main_v11, Cert.AdamPleReferenceIdeal.Read.val_main_v12, Cert.AdamPleReferenceIdeal.Read.val_main_cst_3, Cert.AdamPleReferenceIdeal.Read.val_main_v28, Cert.AdamPleReferenceIdeal.Read.val_main_v29, Cert.AdamPleReferenceIdeal.Read.val_main_cst_4, Cert.AdamPleReferenceIdeal.Read.val_main_v30, Cert.AdamPleReferenceIdeal.Read.val_main_v31, Cert.AdamPleReferenceIdeal.Read.val_main_v32, Cert.AdamPleReferenceIdeal.Read.val_main_cst_5, Cert.AdamPleReferenceIdeal.Read.val_main_v33, Cert.AdamPleReferenceIdeal.Read.val_main_v34, Cert.AdamPleReferenceIdeal.Read.val_main_v35, Cert.AdamPleReferenceIdeal.Read.val_main_cst_6, Cert.AdamPleReferenceIdeal.Read.val_main_v36, Cert.AdamPleReferenceIdeal.Read.val_main_v37, Cert.AdamPleReferenceIdeal.Read.val_main_v38, Cert.AdamPleReferenceIdeal.Read.val_main_cst_7, Cert.AdamPleReferenceIdeal.Read.val_main_v39, Cert.AdamPleReferenceIdeal.Read.val_main_v40]

/-- The gradient's block: its four parts, added. -/
theorem pay1_at (a b c d : Vec Ideal S1x256x256 .bf16) (j : S1x256x256.Idx) : k0_pay1 (k0_pay5 a b c d) j
    = a j + b j + c j + d j := by
  pointwise [k0_pay1, k0_pay5]

/-- The running mean's block. -/
theorem pay3_at (a b c d : Vec Ideal S1x256x256 .bf16) (x : Vec Ideal S1x256x256 .f32) (j : S1x256x256.Idx) :
    k0_pay3 (k0_pay6 a b c d x) j = Adam.mean (x j) (k0_pay1 (k0_pay5 a b c d) j) := by
  pointwise [k0_pay3, k0_pay1, k0_pay6, Adam.mean]

/-- The block of the running mean of squares. -/
theorem pay4_at (a b c d : Vec Ideal S1x256x256 .bf16) (x : Vec Ideal S1x256x256 .f32) (j : S1x256x256.Idx) :
    k0_pay4 (k0_pay7 a b c d x) j = Adam.square (x j) (k0_pay1 (k0_pay5 a b c d) j) := by
  pointwise [k0_pay4, k0_pay1, k0_pay7, Adam.square]

/-- The block of the weight's change. -/
theorem pay2_at (a b c d : Vec Ideal S1x256x256 .bf16) (w x y : Vec Ideal S1x256x256 .f32) (j : S1x256x256.Idx) :
    k0_pay2 (k0_pay8 a b c d x) (k0_pay9 a b c d y) w j
      = Adam.delta (w j) (x j) (y j) (k0_pay1 (k0_pay5 a b c d) j) := by
  unfold Adam.delta
  rw [← pay3_at, ← pay4_at]
  pointwise [k0_pay2, k0_pay8, k0_pay9, k0_pay3, k0_pay4]

/-- What the body leaves in the gradient's window. -/
theorem out_g (c : Dev nD) (t : Fin (cfgM m (ok m)).N) : (outsAt0 m (ok m) c t).1
    = k0_pay1 (k0_pay5 (F := Ideal) (iblk m (ok m) c 3 t) (iblk m (ok m) c 4 t)
      (iblk m (ok m) c 5 t) (iblk m (ok m) c 6 t)) := by
  unfold outsAt0
  frame_out
  refine congrArg k0_pay1 ?_
  congr 1
  · exact (hs0_3 m _ t).read_unread _
  · exact (hs0_4 m _ t).read_unread _
  · exact (hs0_5 m _ t).read_unread _
  · exact (hs0_6 m _ t).read_unread _

/-- What the body leaves in the running mean's window. -/
theorem out_m (c : Dev nD) (t : Fin (cfgM m (ok m)).N) : (outsAt0 m (ok m) c t).2.2.1
    = k0_pay3 (k0_pay6 (F := Ideal) (iblk m (ok m) c 3 t) (iblk m (ok m) c 4 t)
      (iblk m (ok m) c 5 t) (iblk m (ok m) c 6 t) (iblk m (ok m) c 1 t)) := by
  unfold outsAt0
  frame_out
  refine congrArg k0_pay3 ?_
  congr 1
  · exact (hs0_3 m _ t).read_unread _
  · exact (hs0_4 m _ t).read_unread _
  · exact (hs0_5 m _ t).read_unread _
  · exact (hs0_6 m _ t).read_unread _
  · exact (hs0_1 m _ t).read_unread _

/-- What the body leaves in the window of the running mean of squares. -/
theorem out_v (c : Dev nD) (t : Fin (cfgM m (ok m)).N) : (outsAt0 m (ok m) c t).2.2.2
    = k0_pay4 (k0_pay7 (F := Ideal) (iblk m (ok m) c 3 t) (iblk m (ok m) c 4 t)
      (iblk m (ok m) c 5 t) (iblk m (ok m) c 6 t) (iblk m (ok m) c 2 t)) := by
  unfold outsAt0
  frame_out
  refine congrArg k0_pay4 ?_
  congr 1
  · exact (hs0_3 m _ t).read_unread _
  · exact (hs0_4 m _ t).read_unread _
  · exact (hs0_5 m _ t).read_unread _
  · exact (hs0_6 m _ t).read_unread _
  · exact (hs0_2 m _ t).read_unread _

set_option maxHeartbeats 1000000 in
/-- What the body leaves in the window of the weight's change. -/
theorem out_d (c : Dev nD) (t : Fin (cfgM m (ok m)).N) : (outsAt0 m (ok m) c t).2.1
    = k0_pay2 (k0_pay8 (F := Ideal) (iblk m (ok m) c 3 t) (iblk m (ok m) c 4 t)
      (iblk m (ok m) c 5 t) (iblk m (ok m) c 6 t) (iblk m (ok m) c 1 t))
      (k0_pay9 (F := Ideal) (iblk m (ok m) c 3 t) (iblk m (ok m) c 4 t)
      (iblk m (ok m) c 5 t) (iblk m (ok m) c 6 t) (iblk m (ok m) c 2 t)) (iblk m (ok m) c 0 t) := by
  unfold outsAt0
  frame_out
  refine congr (congr (congrArg k0_pay2 ?_) ?_) ?_
  · congr 1
    · exact (hs0_3 m _ t).read_unread _
    · exact (hs0_4 m _ t).read_unread _
    · exact (hs0_5 m _ t).read_unread _
    · exact (hs0_6 m _ t).read_unread _
    · exact (hs0_1 m _ t).read_unread _
  · congr 1
    · exact (hs0_3 m _ t).read_unread _
    · exact (hs0_4 m _ t).read_unread _
    · exact (hs0_5 m _ t).read_unread _
    · exact (hs0_6 m _ t).read_unread _
    · exact (hs0_2 m _ t).read_unread _
  · exact (hs0_0 m _ t).read_unread _

/-- The row of the array that a row of the block is. -/
def place (t : Fin (cfgM m (ok m)).N) (r : Fin 256) : Fin 256 :=
  ⟨t.val * 256 + r.val, by have : t.val < 1 := t.isLt; omega⟩

/-- The four parts of the gradient, in the block of one grid point. -/
theorem parts_at (c : Dev nD) (t : Fin (cfgM m (ok m)).N) (y : S1x256x256.Idx) :
    (iblk m (ok m) c 3 t : Vec Ideal S1x256x256 .bf16) y
      = (m ((c : Thread nD τ).loc main_arg3) : FVec Ideal S4x256x256 .f32) (ix3 0 (place m t (y 1)) (y 2))
    ∧ (iblk m (ok m) c 4 t : Vec Ideal S1x256x256 .bf16) y
      = (m ((c : Thread nD τ).loc main_arg4) : FVec Ideal S3x256x256 .f32) (ix3 0 (place m t (y 1)) (y 2))
    ∧ (iblk m (ok m) c 5 t : Vec Ideal S1x256x256 .bf16) y
      = (m ((c : Thread nD τ).loc main_arg4) : FVec Ideal S3x256x256 .f32) (ix3 1 (place m t (y 1)) (y 2))
    ∧ (iblk m (ok m) c 6 t : Vec Ideal S1x256x256 .bf16) y
      = (m ((c : Thread nD τ).loc main_arg4) : FVec Ideal S3x256x256 .f32) (ix3 2 (place m t (y 1)) (y 2)) := by
  refine ⟨?_, ?_, ?_, ?_⟩
  · blk_point [iblk, V, index_own m t, place]
  · blk_point [iblk, V, index_val m t, place]
  · blk_point [iblk, V, index_val m t, place]
  · blk_point [iblk, V, index_val m t, place]

/-- The weight and its two running means, in the block of one grid point. -/
theorem state_at (c : Dev nD) (t : Fin (cfgM m (ok m)).N) (y : S1x256x256.Idx) :
    (iblk m (ok m) c 0 t : Vec Ideal S1x256x256 .f32) y = (m ((c : Thread nD τ).loc main_arg0) : FVec Ideal S2x256x256 .f32) (ix3 0 (place m t (y 1)) (y 2))
    ∧ (iblk m (ok m) c 1 t : Vec Ideal S1x256x256 .f32) y = (m ((c : Thread nD τ).loc main_arg1) : FVec Ideal S2x256x256 .f32) (ix3 0 (place m t (y 1)) (y 2))
    ∧ (iblk m (ok m) c 2 t : Vec Ideal S1x256x256 .f32) y = (m ((c : Thread nD τ).loc main_arg2) : FVec Ideal S2x256x256 .f32) (ix3 0 (place m t (y 1)) (y 2)) := by
  refine ⟨?_, ?_, ?_⟩
  · blk_point [iblk, V, index_val m t, place]
  · blk_point [iblk, V, index_val m t, place]
  · blk_point [iblk, V, index_val m t, place]

/-- The place in the array that a place of a result's block is. -/
theorem emb_at (t : Fin (cfgM m (ok m)).N) (y : S1x256x256.Idx) :
    ((((cfgM m (ok m)).win 7).blk t).view.emb y : S2x256x256.Idx) = ix3 0 (place m t (y 1)) (y 2) := by
  blk_point [index_val m t, place]

/-- The gradient's block, at one of its places. -/
theorem grad_at (c : Dev nD) (t : Fin (cfgM m (ok m)).N) (y : S1x256x256.Idx) : k0_pay1 (k0_pay5 (F := Ideal) (iblk m (ok m) c 3 t) (iblk m (ok m) c 4 t)
      (iblk m (ok m) c 5 t) (iblk m (ok m) c 6 t)) y
    = parts (m ((c : Thread nD τ).loc main_arg3)) (m ((c : Thread nD τ).loc main_arg4)) (place m t (y 1)) (y 2) := by
  obtain ⟨h3, h4, h5, h6⟩ := parts_at m c t y
  refine (pay1_at _ _ _ _ y).trans ?_
  exact congrArg₂ (fun u v : EReal => u + v)
    (congrArg₂ (fun u v : EReal => u + v) (congrArg₂ (fun u v : EReal => u + v) h3 h4) h5) h6

/-- The running mean's block, at one of its places. -/
theorem mean_at (c : Dev nD) (t : Fin (cfgM m (ok m)).N) (y : S1x256x256.Idx) : (outsAt0 m (ok m) c t).2.2.1 y
    = Adam.mean ((m ((c : Thread nD τ).loc main_arg1) : FVec Ideal S2x256x256 .f32) (ix3 0 (place m t (y 1)) (y 2)))
      (parts (m ((c : Thread nD τ).loc main_arg3)) (m ((c : Thread nD τ).loc main_arg4)) (place m t (y 1)) (y 2)) := by
  rw [out_m]
  exact (pay3_at _ _ _ _ _ y).trans (congrArg₂ Adam.mean (state_at m c t y).2.1 (grad_at m c t y))

/-- The block of the running mean of squares, at one of its places. -/
theorem square_at (c : Dev nD) (t : Fin (cfgM m (ok m)).N) (y : S1x256x256.Idx) : (outsAt0 m (ok m) c t).2.2.2 y
    = Adam.square ((m ((c : Thread nD τ).loc main_arg2) : FVec Ideal S2x256x256 .f32) (ix3 0 (place m t (y 1)) (y 2)))
      (parts (m ((c : Thread nD τ).loc main_arg3)) (m ((c : Thread nD τ).loc main_arg4)) (place m t (y 1)) (y 2)) := by
  rw [out_v]
  exact (pay4_at _ _ _ _ _ y).trans (congrArg₂ Adam.square (state_at m c t y).2.2 (grad_at m c t y))

/-- The block of the weight's change, at one of its places. -/
theorem delta_at (c : Dev nD) (t : Fin (cfgM m (ok m)).N) (y : S1x256x256.Idx) : (outsAt0 m (ok m) c t).2.1 y
    = Adam.delta ((m ((c : Thread nD τ).loc main_arg0) : FVec Ideal S2x256x256 .f32) (ix3 0 (place m t (y 1)) (y 2)))
      ((m ((c : Thread nD τ).loc main_arg1) : FVec Ideal S2x256x256 .f32) (ix3 0 (place m t (y 1)) (y 2)))
      ((m ((c : Thread nD τ).loc main_arg2) : FVec Ideal S2x256x256 .f32) (ix3 0 (place m t (y 1)) (y 2)))
      (parts (m ((c : Thread nD τ).loc main_arg3)) (m ((c : Thread nD τ).loc main_arg4)) (place m t (y 1)) (y 2)) := by
  rw [out_d]
  refine (pay2_at _ _ _ _ _ _ _ y).trans ?_
  obtain ⟨h0, h1, h2⟩ := state_at m c t y
  exact congr (congr (congrArg₂ Adam.delta h0 h1) h2) (grad_at m c t y)

/-- The reference's gradient, at each of the two layers. -/
theorem all_g (x3 : FVec Ideal S4x256x256 .f32) (x4 : FVec Ideal S3x256x256 .f32) (x5 : FVec Ideal S2x256x256 .f32) (i : S2x256x256.Idx) :
    Cert.AdamPleReferenceIdeal.Read.val_main_v45 (F := Ideal) x3 x4 x5 i
      = if (i 0).val = 0 then parts x3 x4 (i 1) (i 2) else x5 i := by
  refine (stack_at (Cert.AdamPleReferenceIdeal.Read.val_main_v10 (F := Ideal) x3 x4) x5 i).trans ?_
  rw [ref_g]
  rfl

/-- The reference's gradient, at a place of the block of one grid point. -/
theorem new_g (x3 : FVec Ideal S4x256x256 .f32) (x4 : FVec Ideal S3x256x256 .f32) (x5 : FVec Ideal S2x256x256 .f32) (t : Fin (cfgM m (ok m)).N) (y : S1x256x256.Idx) :
    Cert.AdamPleReferenceIdeal.Read.val_main_v45 (F := Ideal) x3 x4 x5 (((cfgM m (ok m)).win 7).blk t |>.view.emb y)
      = parts x3 x4 (place m t (y 1)) (y 2) :=
  (congrArg _ (emb_at m t y)).trans ((all_g x3 x4 x5 (ix3 0 (place m t (y 1)) (y 2))).trans (if_pos rfl))

/-- The buffer of this result holds the previous call's result when the call begins. -/
theorem entry_g (c : Dev nD) : V m c main_v5_0 = (m ((c : Thread nD τ).loc main_arg5)) := by
  entry_read
  rfl

/-- When the call has ended, its array 0 of results is the reference's gradient. -/
theorem final_g (c : Dev nD) : (dats m (ok m) 0 c).arrAt 7 (cfgM m (ok m)).N
    = Cert.AdamPleReferenceIdeal.Read.val_main_v45 (m ((c : Thread nD τ).loc main_arg3)) (m ((c : Thread nD τ).loc main_arg4)) (m ((c : Thread nD τ).loc main_arg5)) := by
  refine (dats m (ok m) 0 c).arrAt_eq_of_coversWhere_of_agree 7 _ (fun β => β (0 : Fin 3) = 0) (covers m).1
    (fun t hf y => ?_) fun j hj => ?_
  · blk_simp
    rw [after0_7]
    exact ((congrFun (out_g m c t) y).trans (grad_at m c t y)).trans (new_g m _ _ _ t y).symm
  · have h : ¬ (j (0 : Fin 3)).val = 0 := fun h => hj (by show (j (0 : Fin 3)).val / 1 = 0; omega)
    exact (congrFun (entry_g m c) j).trans (((all_g _ _ _ j).trans (if_neg h)).symm)

/-- The reference's weight's change, at each of the two layers. -/
theorem all_d (x0 : FVec Ideal S2x256x256 .f32) (x1 : FVec Ideal S2x256x256 .f32) (x2 : FVec Ideal S2x256x256 .f32) (x3 : FVec Ideal S4x256x256 .f32) (x4 : FVec Ideal S3x256x256 .f32) (x6 : FVec Ideal S2x256x256 .f32) (i : S2x256x256.Idx) :
    Cert.AdamPleReferenceIdeal.Read.val_main_v50 (F := Ideal) x0 x1 x2 x3 x4 x6 i
      = if (i 0).val = 0 then Adam.delta (x0 (ix3 0 (i 1) (i 2))) (x1 (ix3 0 (i 1) (i 2))) (x2 (ix3 0 (i 1) (i 2))) (parts x3 x4 (i 1) (i 2)) else x6 i := by
  refine (stack_at (Cert.AdamPleReferenceIdeal.Read.val_main_v40 (F := Ideal) x0 x1 x2 x3 x4) x6 i).trans ?_
  rw [ref_d]
  rfl

/-- The reference's weight's change, at a place of the block of one grid point. -/
theorem new_d (x0 : FVec Ideal S2x256x256 .f32) (x1 : FVec Ideal S2x256x256 .f32) (x2 : FVec Ideal S2x256x256 .f32) (x3 : FVec Ideal S4x256x256 .f32) (x4 : FVec Ideal S3x256x256 .f32) (x6 : FVec Ideal S2x256x256 .f32) (t : Fin (cfgM m (ok m)).N) (y : S1x256x256.Idx) :
    Cert.AdamPleReferenceIdeal.Read.val_main_v50 (F := Ideal) x0 x1 x2 x3 x4 x6 (((cfgM m (ok m)).win 7).blk t |>.view.emb y)
      = Adam.delta (x0 (ix3 0 (place m t (y 1)) (y 2))) (x1 (ix3 0 (place m t (y 1)) (y 2))) (x2 (ix3 0 (place m t (y 1)) (y 2))) (parts x3 x4 (place m t (y 1)) (y 2)) :=
  (congrArg _ (emb_at m t y)).trans ((all_d x0 x1 x2 x3 x4 x6 (ix3 0 (place m t (y 1)) (y 2))).trans (if_pos rfl))

/-- The buffer of this result holds the previous call's result when the call begins. -/
theorem entry_d (c : Dev nD) : V m c main_v5_1 = (m ((c : Thread nD τ).loc main_arg6)) := by
  entry_read
  rfl

/-- When the call has ended, its array 1 of results is the reference's weight's change. -/
theorem final_d (c : Dev nD) : (dats m (ok m) 0 c).arrAt 8 (cfgM m (ok m)).N
    = Cert.AdamPleReferenceIdeal.Read.val_main_v50 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m (ok m) 0 c).arrAt_eq_of_coversWhere_of_agree 8 _ (fun β => β (0 : Fin 3) = 0) (covers m).2.1
    (fun t hf y => ?_) fun j hj => ?_
  · blk_simp
    rw [after0_8]
    exact (delta_at m c t y).trans (new_d m _ _ _ _ _ _ t y).symm
  · have h : ¬ (j (0 : Fin 3)).val = 0 := fun h => hj (by show (j (0 : Fin 3)).val / 1 = 0; omega)
    exact (congrFun (entry_d m c) j).trans (((all_d _ _ _ _ _ _ j).trans (if_neg h)).symm)

/-- The reference's new running mean, at each of the two layers. -/
theorem all_m (x1 : FVec Ideal S2x256x256 .f32) (x3 : FVec Ideal S4x256x256 .f32) (x4 : FVec Ideal S3x256x256 .f32) (x7 : FVec Ideal S2x256x256 .f32) (i : S2x256x256.Idx) :
    Cert.AdamPleReferenceIdeal.Read.val_main_v55 (F := Ideal) x1 x3 x4 x7 i
      = if (i 0).val = 0 then Adam.mean (x1 (ix3 0 (i 1) (i 2))) (parts x3 x4 (i 1) (i 2)) else x7 i := by
  refine (stack_at (Cert.AdamPleReferenceIdeal.Read.val_main_v21 (F := Ideal) x1 x3 x4) x7 i).trans ?_
  rw [ref_m]
  rfl

/-- The reference's new running mean, at a place of the block of one grid point. -/
theorem new_m (x1 : FVec Ideal S2x256x256 .f32) (x3 : FVec Ideal S4x256x256 .f32) (x4 : FVec Ideal S3x256x256 .f32) (x7 : FVec Ideal S2x256x256 .f32) (t : Fin (cfgM m (ok m)).N) (y : S1x256x256.Idx) :
    Cert.AdamPleReferenceIdeal.Read.val_main_v55 (F := Ideal) x1 x3 x4 x7 (((cfgM m (ok m)).win 7).blk t |>.view.emb y)
      = Adam.mean (x1 (ix3 0 (place m t (y 1)) (y 2))) (parts x3 x4 (place m t (y 1)) (y 2)) :=
  (congrArg _ (emb_at m t y)).trans ((all_m x1 x3 x4 x7 (ix3 0 (place m t (y 1)) (y 2))).trans (if_pos rfl))

/-- The buffer of this result holds the previous call's result when the call begins. -/
theorem entry_m (c : Dev nD) : V m c main_v5_2 = (m ((c : Thread nD τ).loc main_arg7)) := by
  entry_read
  rfl

/-- When the call has ended, its array 2 of results is the reference's new running mean. -/
theorem final_m (c : Dev nD) : (dats m (ok m) 0 c).arrAt 9 (cfgM m (ok m)).N
    = Cert.AdamPleReferenceIdeal.Read.val_main_v55 (m ((c : Thread nD τ).loc main_arg1)) (m ((c : Thread nD τ).loc main_arg3)) (m ((c : Thread nD τ).loc main_arg4)) (m ((c : Thread nD τ).loc main_arg7)) := by
  refine (dats m (ok m) 0 c).arrAt_eq_of_coversWhere_of_agree 9 _ (fun β => β (0 : Fin 3) = 0) (covers m).2.2.1
    (fun t hf y => ?_) fun j hj => ?_
  · blk_simp
    rw [after0_9]
    exact (mean_at m c t y).trans (new_m m _ _ _ _ t y).symm
  · have h : ¬ (j (0 : Fin 3)).val = 0 := fun h => hj (by show (j (0 : Fin 3)).val / 1 = 0; omega)
    exact (congrFun (entry_m m c) j).trans (((all_m _ _ _ _ j).trans (if_neg h)).symm)

/-- The reference's new running mean of squares, at each of the two layers. -/
theorem all_v (x2 : FVec Ideal S2x256x256 .f32) (x3 : FVec Ideal S4x256x256 .f32) (x4 : FVec Ideal S3x256x256 .f32) (x8 : FVec Ideal S2x256x256 .f32) (i : S2x256x256.Idx) :
    Cert.AdamPleReferenceIdeal.Read.val_main_v60 (F := Ideal) x2 x3 x4 x8 i
      = if (i 0).val = 0 then Adam.square (x2 (ix3 0 (i 1) (i 2))) (parts x3 x4 (i 1) (i 2)) else x8 i := by
  refine (stack_at (Cert.AdamPleReferenceIdeal.Read.val_main_v27 (F := Ideal) x2 x3 x4) x8 i).trans ?_
  rw [ref_v]
  rfl

/-- The reference's new running mean of squares, at a place of the block of one grid point. -/
theorem new_v (x2 : FVec Ideal S2x256x256 .f32) (x3 : FVec Ideal S4x256x256 .f32) (x4 : FVec Ideal S3x256x256 .f32) (x8 : FVec Ideal S2x256x256 .f32) (t : Fin (cfgM m (ok m)).N) (y : S1x256x256.Idx) :
    Cert.AdamPleReferenceIdeal.Read.val_main_v60 (F := Ideal) x2 x3 x4 x8 (((cfgM m (ok m)).win 7).blk t |>.view.emb y)
      = Adam.square (x2 (ix3 0 (place m t (y 1)) (y 2))) (parts x3 x4 (place m t (y 1)) (y 2)) :=
  (congrArg _ (emb_at m t y)).trans ((all_v x2 x3 x4 x8 (ix3 0 (place m t (y 1)) (y 2))).trans (if_pos rfl))

/-- The buffer of this result holds the previous call's result when the call begins. -/
theorem entry_v (c : Dev nD) : V m c main_v5_3 = (m ((c : Thread nD τ).loc main_arg8)) := by
  entry_read
  rfl

/-- When the call has ended, its array 3 of results is the reference's new running mean of squares. -/
theorem final_v (c : Dev nD) : (dats m (ok m) 0 c).arrAt 10 (cfgM m (ok m)).N
    = Cert.AdamPleReferenceIdeal.Read.val_main_v60 (m ((c : Thread nD τ).loc main_arg2)) (m ((c : Thread nD τ).loc main_arg3)) (m ((c : Thread nD τ).loc main_arg4)) (m ((c : Thread nD τ).loc main_arg8)) := by
  refine (dats m (ok m) 0 c).arrAt_eq_of_coversWhere_of_agree 10 _ (fun β => β (0 : Fin 3) = 0) (covers m).2.2.2
    (fun t hf y => ?_) fun j hj => ?_
  · blk_simp
    rw [after0_10]
    exact (square_at m c t y).trans (new_v m _ _ _ _ t y).symm
  · have h : ¬ (j (0 : Fin 3)).val = 0 := fun h => hj (by show (j (0 : Fin 3)).val / 1 = 0; omega)
    exact (congrFun (entry_v m c) j).trans (((all_v _ _ _ _ j).trans (if_neg h)).symm)

end Cert.AdamPleIdeal.Sums
end
-- ==== Proof.ProdAdamGate.lean ====
module

public import proofs.«01_k».proof.Proof.Gen.AdamGateIdeal.Frame
public import proofs.«01_k».proof.Proof.Gen.AdamGateReferenceIdeal.Read
public import proofs.«01_k».proof.Proof.Gen.AdamGateReferenceIdeal.Run
public import proofs.«01_k».proof.Proof.Adam
public import Idealize.ShloMosaic.Lib.Pipeline.ReadBack
public import Idealize.ShloMosaic.Lib.Pointwise
public import Idealize.ShloMosaic.Lib.Pipeline.ValueKit
public import Idealize.ShloMosaic.Lib.Pipeline.Value

@[expose] public section

set_option maxRecDepth 16384

noncomputable section
namespace Cert.AdamGateIdeal.Sums
open Idealize.ShloMosaic Idealize.ShloMosaic.TcCoe Idealize.SL.Sem
open Cert.AdamGateIdeal Cert.AdamGateIdeal.Gen
open Idealize.ShloMosaic.Pipeline (Dat)
section
variable {F : FTy → Type} [FloatOps F] (m : (ℓ : Loc nD τ sig) → Buf (Elt F) ℓ)

/-- The table the call reads its first part's place from holds zero. -/
theorem table_eq (i) : tbl m 0 i = 0#32 := by
  show V m (0 : Dev nD) main_v4 i = 0#32
  entry_read
  rfl

/-- With that table, the first part's block is the block of part zero. -/
theorem own_map (i : grid0.Coords) : cc0_transform_3 inb_S1_S1_0 numel1_S1 (tbl m) i = cc0_transform_4 i := by
  unfold cc0_transform_3 cc0_transform_4 Pipeline.Prefetch.Contents.at
  rw [table_eq]

/-- That block lies inside the array of parts. -/
theorem own_inb : ∀ (i : grid0.Coords) a, (cc0_transform_4 i a + 1) * S1x128x2048.size a ≤ S4x256x2048.size a := by
  decide +kernel

/-- That block is whole words of memory. -/
theorem own_words : ∀ i : grid0.Coords, EltTy.bits .bf16 = 32
    ∨ (Rect.block (s := S4x256x2048) S1x128x2048.size (cc0_transform_4 i) (own_inb i)).WholeWords (EltTy.packing .bf16) :=
  fun _ => .inr (Affine.block_words_dvd (of_decide_eq_true rfl) (by decide))

/-- The table the program fills is one the call accepts. -/
theorem ok : Ok m := by
  intro i
  rw [own_map]
  exact ⟨own_inb i, own_words i⟩
end

/-- The pipeline's table, of a memory of zeros. -/
def zeros : (pcfg0 (F := Ideal)).Adm := adm (fun _ _ => default) (ok _)

variable (m : (ℓ : Loc nD τ sig) → Buf (Elt Ideal) ℓ)

/-- The blocks of each result are the blocks of its layer zero. -/
theorem covers : ((cfgM m (ok m)).win 7).CoversWhere (fun β => β (0 : Fin 3) = 0)
    ∧ ((cfgM m (ok m)).win 8).CoversWhere (fun β => β (0 : Fin 3) = 0)
    ∧ ((cfgM m (ok m)).win 9).CoversWhere (fun β => β (0 : Fin 3) = 0)
    ∧ ((cfgM m (ok m)).win 10).CoversWhere (fun β => β (0 : Fin 3) = 0) :=
  (by decide +kernel : ((cfg0 zeros).win 7).CoversWhere (fun β => β (0 : Fin 3) = 0)
    ∧ ((cfg0 zeros).win 8).CoversWhere (fun β => β (0 : Fin 3) = 0)
    ∧ ((cfg0 zeros).win 9).CoversWhere (fun β => β (0 : Fin 3) = 0)
    ∧ ((cfg0 zeros).win 10).CoversWhere (fun β => β (0 : Fin 3) = 0))

/-- At every grid point, which block of its array each window holds. -/
theorem index_val (t : Fin (cfgM m (ok m)).N) : ((cfgM m (ok m)).win 0).index t = ![0, t.val, 0]
    ∧ ((cfgM m (ok m)).win 1).index t = ![0, t.val, 0]
    ∧ ((cfgM m (ok m)).win 2).index t = ![0, t.val, 0]
    ∧ ((cfgM m (ok m)).win 4).index t = ![0, t.val, 0]
    ∧ ((cfgM m (ok m)).win 5).index t = ![1, t.val, 0]
    ∧ ((cfgM m (ok m)).win 6).index t = ![2, t.val, 0]
    ∧ ((cfgM m (ok m)).win 7).index t = ![0, t.val, 0]
    ∧ ((cfgM m (ok m)).win 8).index t = ![0, t.val, 0]
    ∧ ((cfgM m (ok m)).win 9).index t = ![0, t.val, 0]
    ∧ ((cfgM m (ok m)).win 10).index t = ![0, t.val, 0] :=
  (by decide +kernel : ∀ t : Fin (cfg0 zeros).N, ((cfg0 zeros).win 0).index t = ![0, t.val, 0]
    ∧ ((cfg0 zeros).win 1).index t = ![0, t.val, 0]
    ∧ ((cfg0 zeros).win 2).index t = ![0, t.val, 0]
    ∧ ((cfg0 zeros).win 4).index t = ![0, t.val, 0]
    ∧ ((cfg0 zeros).win 5).index t = ![1, t.val, 0]
    ∧ ((cfg0 zeros).win 6).index t = ![2, t.val, 0]
    ∧ ((cfg0 zeros).win 7).index t = ![0, t.val, 0]
    ∧ ((cfg0 zeros).win 8).index t = ![0, t.val, 0]
    ∧ ((cfg0 zeros).win 9).index t = ![0, t.val, 0]
    ∧ ((cfg0 zeros).win 10).index t = ![0, t.val, 0]) t

/-- At every grid point, which block of the first part its window holds. -/
theorem index_own (t : Fin (cfgM m (ok m)).N) : ((cfgM m (ok m)).win 3).index t = ![0, t.val, 0] :=
  (own_map m _).trans ((by decide +kernel : ∀ t : Fin grid0.N, cc0_transform_4 (grid0.coords t) = ![0, t.val, 0]) t)

/-- The four parts of the gradient, added, for a row and a column. -/
def parts (x3 : FVec Ideal S4x256x2048 .f32) (x4 : FVec Ideal S3x256x2048 .f32) (r : Fin 256) (k : Fin 2048) : EReal :=
  x3 (ix3 0 r k) + x4 (ix3 0 r k) + x4 (ix3 1 r k) + x4 (ix3 2 r k)

/-- One layer's array under the second layer of another, at each of the two layers. -/
theorem stack_at (a : FVec Ideal Cert.AdamGateReferenceIdeal.S256x2048 .f32) (x : FVec Ideal S2x256x2048 .f32) (i : S2x256x2048.Idx) :
    concatenate S2x256x2048 0 [⟨Cert.AdamGateReferenceIdeal.S1x256x2048, broadcastInDim Cert.AdamGateReferenceIdeal.S1x256x2048 ![1, 2] Cert.AdamGateReferenceIdeal.Gen.bcast_S256x2048_S1x256x2048_1_2 a⟩,
      ⟨Cert.AdamGateReferenceIdeal.S1x256x2048, broadcastInDim Cert.AdamGateReferenceIdeal.S1x256x2048 ![1, 2] Cert.AdamGateReferenceIdeal.Gen.bcast_S256x2048_S1x256x2048_1_2 (shapeCast Cert.AdamGateReferenceIdeal.S256x2048
        (extractStridedSlice Cert.AdamGateReferenceIdeal.S1x256x2048 ![1, 0, 0] x Cert.AdamGateReferenceIdeal.Gen.slices_S2x256x2048_S1x256x2048_1_0_0) Cert.AdamGateReferenceIdeal.Gen.shapeCasts_S1x256x2048_S256x2048)⟩]
      Cert.AdamGateReferenceIdeal.Gen.concatenates_S1x256x2048_S1x256x2048_S2x256x2048_d0 i
      = if (i 0).val = 0 then a (ix2 (i 1) (i 2)) else x i := by
  pointwise
  by_cases h : (i 0).val = 0
  · rw [if_pos h, dif_pos (by omega)]
  · have h1 : (i 0).val < 2 := (i 0).isLt
    rw [if_neg h, dif_neg (by omega)]
    refine congrArg x (funext fun b => Fin.ext ?_)
    match b with
    | ⟨0, _⟩ => show 1 = (i 0).val; omega
    | ⟨1, _⟩ => rfl
    | ⟨2, _⟩ => rfl

/-- The reference's gradient: the four parts, added. -/
theorem ref_g (x3 : FVec Ideal S4x256x2048 .f32) (x4 : FVec Ideal S3x256x2048 .f32) (i : Cert.AdamGateReferenceIdeal.S256x2048.Idx) :
    Cert.AdamGateReferenceIdeal.Read.val_main_v10 (F := Ideal) x3 x4 i = parts x3 x4 (i 0) (i 1) := by
  pointwise [parts, Cert.AdamGateReferenceIdeal.Read.val_main_v0, Cert.AdamGateReferenceIdeal.Read.val_main_v1, Cert.AdamGateReferenceIdeal.Read.val_main_v2, Cert.AdamGateReferenceIdeal.Read.val_main_v3, Cert.AdamGateReferenceIdeal.Read.val_main_v4, Cert.AdamGateReferenceIdeal.Read.val_main_v5, Cert.AdamGateReferenceIdeal.Read.val_main_v6, Cert.AdamGateReferenceIdeal.Read.val_main_v7, Cert.AdamGateReferenceIdeal.Read.val_main_v8, Cert.AdamGateReferenceIdeal.Read.val_main_v9, Cert.AdamGateReferenceIdeal.Read.val_main_v10]

/-- The reference's new running mean. -/
theorem ref_m (x1 : FVec Ideal S2x256x2048 .f32) (x3 : FVec Ideal S4x256x2048 .f32) (x4 : FVec Ideal S3x256x2048 .f32)
    (i : Cert.AdamGateReferenceIdeal.S256x2048.Idx) : Cert.AdamGateReferenceIdeal.Read.val_main_v21 (F := Ideal) x1 x3 x4 i
      = Adam.mean (x1 (ix3 0 (i 0) (i 1))) (parts x3 x4 (i 0) (i 1)) := by
  rw [← ref_g]
  pointwise [Adam.mean, Cert.AdamGateReferenceIdeal.Read.val_main_v13, Cert.AdamGateReferenceIdeal.Read.val_main_v14, Cert.AdamGateReferenceIdeal.Read.val_main_cst, Cert.AdamGateReferenceIdeal.Read.val_main_v17, Cert.AdamGateReferenceIdeal.Read.val_main_v18, Cert.AdamGateReferenceIdeal.Read.val_main_cst_0, Cert.AdamGateReferenceIdeal.Read.val_main_v19, Cert.AdamGateReferenceIdeal.Read.val_main_v20, Cert.AdamGateReferenceIdeal.Read.val_main_v21]

/-- The reference's new running mean of squares. -/
theorem ref_v (x2 : FVec Ideal S2x256x2048 .f32) (x3 : FVec Ideal S4x256x2048 .f32) (x4 : FVec Ideal S3x256x2048 .f32)
    (i : Cert.AdamGateReferenceIdeal.S256x2048.Idx) : Cert.AdamGateReferenceIdeal.Read.val_main_v27 (F := Ideal) x2 x3 x4 i
      = Adam.square (x2 (ix3 0 (i 0) (i 1))) (parts x3 x4 (i 0) (i 1)) := by
  rw [← ref_g]
  pointwise [Adam.square, Cert.AdamGateReferenceIdeal.Read.val_main_v15, Cert.AdamGateReferenceIdeal.Read.val_main_v16, Cert.AdamGateReferenceIdeal.Read.val_main_cst_1, Cert.AdamGateReferenceIdeal.Read.val_main_v22, Cert.AdamGateReferenceIdeal.Read.val_main_v23, Cert.AdamGateReferenceIdeal.Read.val_main_v24, Cert.AdamGateReferenceIdeal.Read.val_main_cst_2, Cert.AdamGateReferenceIdeal.Read.val_main_v25, Cert.AdamGateReferenceIdeal.Read.val_main_v26, Cert.AdamGateReferenceIdeal.Read.val_main_v27]

/-- The reference's change of the weight. -/
theorem ref_d (x0 x1 x2 : FVec Ideal S2x256x2048 .f32) (x3 : FVec Ideal S4x256x2048 .f32)
    (x4 : FVec Ideal S3x256x2048 .f32) (i : Cert.AdamGateReferenceIdeal.S256x2048.Idx) :
    Cert.AdamGateReferenceIdeal.Read.val_main_v40 (F := Ideal) x0 x1 x2 x3 x4 i
      = Adam.delta (x0 (ix3 0 (i 0) (i 1))) (x1 (ix3 0 (i 0) (i 1))) (x2 (ix3 0 (i 0) (i 1))) (parts x3 x4 (i 0) (i 1)) := by
  unfold Adam.delta
  rw [← ref_m, ← ref_v]
  pointwise [Cert.AdamGateReferenceIdeal.Read.val_main_v11, Cert.AdamGateReferenceIdeal.Read.val_main_v12, Cert.AdamGateReferenceIdeal.Read.val_main_cst_3, Cert.AdamGateReferenceIdeal.Read.val_main_v28, Cert.AdamGateReferenceIdeal.Read.val_main_v29, Cert.AdamGateReferenceIdeal.Read.val_main_cst_4, Cert.AdamGateReferenceIdeal.Read.val_main_v30, Cert.AdamGateReferenceIdeal.Read.val_main_v31, Cert.AdamGateReferenceIdeal.Read.val_main_v32, Cert.AdamGateReferenceIdeal.Read.val_main_cst_5, Cert.AdamGateReferenceIdeal.Read.val_main_v33, Cert.AdamGateReferenceIdeal.Read.val_main_v34, Cert.AdamGateReferenceIdeal.Read.val_main_v35, Cert.AdamGateReferenceIdeal.Read.val_main_cst_6, Cert.AdamGateReferenceIdeal.Read.val_main_v36, Cert.AdamGateReferenceIdeal.Read.val_main_v37, Cert.AdamGateReferenceIdeal.Read.val_main_v38, Cert.AdamGateReferenceIdeal.Read.val_main_cst_7, Cert.AdamGateReferenceIdeal.Read.val_main_v39, Cert.AdamGateReferenceIdeal.Read.val_main_v40]

/-- The gradient's block: its four parts, added. -/
theorem pay1_at (a b c d : Vec Ideal S1x128x2048 .bf16) (j : S1x128x2048.Idx) : k0_pay1 (k0_pay5 a b c d) j
    = a j + b j + c j + d j := by
  pointwise [k0_pay1, k0_pay5]

/-- The running mean's block. -/
theorem pay3_at (a b c d : Vec Ideal S1x128x2048 .bf16) (x : Vec Ideal S1x128x2048 .f32) (j : S1x128x2048.Idx) :
    k0_pay3 (k0_pay6 a b c d x) j = Adam.mean (x j) (k0_pay1 (k0_pay5 a b c d) j) := by
  pointwise [k0_pay3, k0_pay1, k0_pay6, Adam.mean]

/-- The block of the running mean of squares. -/
theorem pay4_at (a b c d : Vec Ideal S1x128x2048 .bf16) (x : Vec Ideal S1x128x2048 .f32) (j : S1x128x2048.Idx) :
    k0_pay4 (k0_pay7 a b c d x) j = Adam.square (x j) (k0_pay1 (k0_pay5 a b c d) j) := by
  pointwise [k0_pay4, k0_pay1, k0_pay7, Adam.square]

/-- The block of the weight's change. -/
theorem pay2_at (a b c d : Vec Ideal S1x128x2048 .bf16) (w x y : Vec Ideal S1x128x2048 .f32) (j : S1x128x2048.Idx) :
    k0_pay2 (k0_pay8 a b c d x) (k0_pay9 a b c d y) w j
      = Adam.delta (w j) (x j) (y j) (k0_pay1 (k0_pay5 a b c d) j) := by
  unfold Adam.delta
  rw [← pay3_at, ← pay4_at]
  pointwise [k0_pay2, k0_pay8, k0_pay9, k0_pay3, k0_pay4]

/-- What the body leaves in the gradient's window. -/
theorem out_g (c : Dev nD) (t : Fin (cfgM m (ok m)).N) : (outsAt0 m (ok m) c t).1
    = k0_pay1 (k0_pay5 (F := Ideal) (iblk m (ok m) c 3 t) (iblk m (ok m) c 4 t)
      (iblk m (ok m) c 5 t) (iblk m (ok m) c 6 t)) := by
  unfold outsAt0
  frame_out
  refine congrArg k0_pay1 ?_
  congr 1
  · exact (hs0_3 m _ t).read_unread _
  · exact (hs0_4 m _ t).read_unread _
  · exact (hs0_5 m _ t).read_unread _
  · exact (hs0_6 m _ t).read_unread _

/-- What the body leaves in the running mean's window. -/
theorem out_m (c : Dev nD) (t : Fin (cfgM m (ok m)).N) : (outsAt0 m (ok m) c t).2.2.1
    = k0_pay3 (k0_pay6 (F := Ideal) (iblk m (ok m) c 3 t) (iblk m (ok m) c 4 t)
      (iblk m (ok m) c 5 t) (iblk m (ok m) c 6 t) (iblk m (ok m) c 1 t)) := by
  unfold outsAt0
  frame_out
  refine congrArg k0_pay3 ?_
  congr 1
  · exact (hs0_3 m _ t).read_unread _
  · exact (hs0_4 m _ t).read_unread _
  · exact (hs0_5 m _ t).read_unread _
  · exact (hs0_6 m _ t).read_unread _
  · exact (hs0_1 m _ t).read_unread _

/-- What the body leaves in the window of the running mean of squares. -/
theorem out_v (c : Dev nD) (t : Fin (cfgM m (ok m)).N) : (outsAt0 m (ok m) c t).2.2.2
    = k0_pay4 (k0_pay7 (F := Ideal) (iblk m (ok m) c 3 t) (iblk m (ok m) c 4 t)
      (iblk m (ok m) c 5 t) (iblk m (ok m) c 6 t) (iblk m (ok m) c 2 t)) := by
  unfold outsAt0
  frame_out
  refine congrArg k0_pay4 ?_
  congr 1
  · exact (hs0_3 m _ t).read_unread _
  · exact (hs0_4 m _ t).read_unread _
  · exact (hs0_5 m _ t).read_unread _
  · exact (hs0_6 m _ t).read_unread _
  · exact (hs0_2 m _ t).read_unread _

set_option maxHeartbeats 1000000 in
/-- What the body leaves in the window of the weight's change. -/
theorem out_d (c : Dev nD) (t : Fin (cfgM m (ok m)).N) : (outsAt0 m (ok m) c t).2.1
    = k0_pay2 (k0_pay8 (F := Ideal) (iblk m (ok m) c 3 t) (iblk m (ok m) c 4 t)
      (iblk m (ok m) c 5 t) (iblk m (ok m) c 6 t) (iblk m (ok m) c 1 t))
      (k0_pay9 (F := Ideal) (iblk m (ok m) c 3 t) (iblk m (ok m) c 4 t)
      (iblk m (ok m) c 5 t) (iblk m (ok m) c 6 t) (iblk m (ok m) c 2 t)) (iblk m (ok m) c 0 t) := by
  unfold outsAt0
  frame_out
  refine congr (congr (congrArg k0_pay2 ?_) ?_) ?_
  · congr 1
    · exact (hs0_3 m _ t).read_unread _
    · exact (hs0_4 m _ t).read_unread _
    · exact (hs0_5 m _ t).read_unread _
    · exact (hs0_6 m _ t).read_unread _
    · exact (hs0_1 m _ t).read_unread _
  · congr 1
    · exact (hs0_3 m _ t).read_unread _
    · exact (hs0_4 m _ t).read_unread _
    · exact (hs0_5 m _ t).read_unread _
    · exact (hs0_6 m _ t).read_unread _
    · exact (hs0_2 m _ t).read_unread _
  · exact (hs0_0 m _ t).read_unread _

/-- The row of the array that a row of the block is. -/
def place (t : Fin (cfgM m (ok m)).N) (r : Fin 128) : Fin 256 :=
  ⟨t.val * 128 + r.val, by have : t.val < 2 := t.isLt; omega⟩

/-- The four parts of the gradient, in the block of one grid point. -/
theorem parts_at (c : Dev nD) (t : Fin (cfgM m (ok m)).N) (y : S1x128x2048.Idx) :
    (iblk m (ok m) c 3 t : Vec Ideal S1x128x2048 .bf16) y
      = (m ((c : Thread nD τ).loc main_arg3) : FVec Ideal S4x256x2048 .f32) (ix3 0 (place m t (y 1)) (y 2))
    ∧ (iblk m (ok m) c 4 t : Vec Ideal S1x128x2048 .bf16) y
      = (m ((c : Thread nD τ).loc main_arg4) : FVec Ideal S3x256x2048 .f32) (ix3 0 (place m t (y 1)) (y 2))
    ∧ (iblk m (ok m) c 5 t : Vec Ideal S1x128x2048 .bf16) y
      = (m ((c : Thread nD τ).loc main_arg4) : FVec Ideal S3x256x2048 .f32) (ix3 1 (place m t (y 1)) (y 2))
    ∧ (iblk m (ok m) c 6 t : Vec Ideal S1x128x2048 .bf16) y
      = (m ((c : Thread nD τ).loc main_arg4) : FVec Ideal S3x256x2048 .f32) (ix3 2 (place m t (y 1)) (y 2)) := by
  refine ⟨?_, ?_, ?_, ?_⟩
  · blk_point [iblk, V, index_own m t, place]
  · blk_point [iblk, V, index_val m t, place]
  · blk_point [iblk, V, index_val m t, place]
  · blk_point [iblk, V, index_val m t, place]

/-- The weight and its two running means, in the block of one grid point. -/
theorem state_at (c : Dev nD) (t : Fin (cfgM m (ok m)).N) (y : S1x128x2048.Idx) :
    (iblk m (ok m) c 0 t : Vec Ideal S1x128x2048 .f32) y = (m ((c : Thread nD τ).loc main_arg0) : FVec Ideal S2x256x2048 .f32) (ix3 0 (place m t (y 1)) (y 2))
    ∧ (iblk m (ok m) c 1 t : Vec Ideal S1x128x2048 .f32) y = (m ((c : Thread nD τ).loc main_arg1) : FVec Ideal S2x256x2048 .f32) (ix3 0 (place m t (y 1)) (y 2))
    ∧ (iblk m (ok m) c 2 t : Vec Ideal S1x128x2048 .f32) y = (m ((c : Thread nD τ).loc main_arg2) : FVec Ideal S2x256x2048 .f32) (ix3 0 (place m t (y 1)) (y 2)) := by
  refine ⟨?_, ?_, ?_⟩
  · blk_point [iblk, V, index_val m t, place]
  · blk_point [iblk, V, index_val m t, place]
  · blk_point [iblk, V, index_val m t, place]

/-- The place in the array that a place of a result's block is. -/
theorem emb_at (t : Fin (cfgM m (ok m)).N) (y : S1x128x2048.Idx) :
    ((((cfgM m (ok m)).win 7).blk t).view.emb y : S2x256x2048.Idx) = ix3 0 (place m t (y 1)) (y 2) := by
  blk_point [index_val m t, place]

/-- The gradient's block, at one of its places. -/
theorem grad_at (c : Dev nD) (t : Fin (cfgM m (ok m)).N) (y : S1x128x2048.Idx) : k0_pay1 (k0_pay5 (F := Ideal) (iblk m (ok m) c 3 t) (iblk m (ok m) c 4 t)
      (iblk m (ok m) c 5 t) (iblk m (ok m) c 6 t)) y
    = parts (m ((c : Thread nD τ).loc main_arg3)) (m ((c : Thread nD τ).loc main_arg4)) (place m t (y 1)) (y 2) := by
  obtain ⟨h3, h4, h5, h6⟩ := parts_at m c t y
  refine (pay1_at _ _ _ _ y).trans ?_
  exact congrArg₂ (fun u v : EReal => u + v)
    (congrArg₂ (fun u v : EReal => u + v) (congrArg₂ (fun u v : EReal => u + v) h3 h4) h5) h6

/-- The running mean's block, at one of its places. -/
theorem mean_at (c : Dev nD) (t : Fin (cfgM m (ok m)).N) (y : S1x128x2048.Idx) : (outsAt0 m (ok m) c t).2.2.1 y
    = Adam.mean ((m ((c : Thread nD τ).loc main_arg1) : FVec Ideal S2x256x2048 .f32) (ix3 0 (place m t (y 1)) (y 2)))
      (parts (m ((c : Thread nD τ).loc main_arg3)) (m ((c : Thread nD τ).loc main_arg4)) (place m t (y 1)) (y 2)) := by
  rw [out_m]
  exact (pay3_at _ _ _ _ _ y).trans (congrArg₂ Adam.mean (state_at m c t y).2.1 (grad_at m c t y))

/-- The block of the running mean of squares, at one of its places. -/
theorem square_at (c : Dev nD) (t : Fin (cfgM m (ok m)).N) (y : S1x128x2048.Idx) : (outsAt0 m (ok m) c t).2.2.2 y
    = Adam.square ((m ((c : Thread nD τ).loc main_arg2) : FVec Ideal S2x256x2048 .f32) (ix3 0 (place m t (y 1)) (y 2)))
      (parts (m ((c : Thread nD τ).loc main_arg3)) (m ((c : Thread nD τ).loc main_arg4)) (place m t (y 1)) (y 2)) := by
  rw [out_v]
  exact (pay4_at _ _ _ _ _ y).trans (congrArg₂ Adam.square (state_at m c t y).2.2 (grad_at m c t y))

/-- The block of the weight's change, at one of its places. -/
theorem delta_at (c : Dev nD) (t : Fin (cfgM m (ok m)).N) (y : S1x128x2048.Idx) : (outsAt0 m (ok m) c t).2.1 y
    = Adam.delta ((m ((c : Thread nD τ).loc main_arg0) : FVec Ideal S2x256x2048 .f32) (ix3 0 (place m t (y 1)) (y 2)))
      ((m ((c : Thread nD τ).loc main_arg1) : FVec Ideal S2x256x2048 .f32) (ix3 0 (place m t (y 1)) (y 2)))
      ((m ((c : Thread nD τ).loc main_arg2) : FVec Ideal S2x256x2048 .f32) (ix3 0 (place m t (y 1)) (y 2)))
      (parts (m ((c : Thread nD τ).loc main_arg3)) (m ((c : Thread nD τ).loc main_arg4)) (place m t (y 1)) (y 2)) := by
  rw [out_d]
  refine (pay2_at _ _ _ _ _ _ _ y).trans ?_
  obtain ⟨h0, h1, h2⟩ := state_at m c t y
  exact congr (congr (congrArg₂ Adam.delta h0 h1) h2) (grad_at m c t y)

/-- The reference's gradient, at each of the two layers. -/
theorem all_g (x3 : FVec Ideal S4x256x2048 .f32) (x4 : FVec Ideal S3x256x2048 .f32) (x5 : FVec Ideal S2x256x2048 .f32) (i : S2x256x2048.Idx) :
    Cert.AdamGateReferenceIdeal.Read.val_main_v45 (F := Ideal) x3 x4 x5 i
      = if (i 0).val = 0 then parts x3 x4 (i 1) (i 2) else x5 i := by
  refine (stack_at (Cert.AdamGateReferenceIdeal.Read.val_main_v10 (F := Ideal) x3 x4) x5 i).trans ?_
  rw [ref_g]
  rfl

/-- The reference's gradient, at a place of the block of one grid point. -/
theorem new_g (x3 : FVec Ideal S4x256x2048 .f32) (x4 : FVec Ideal S3x256x2048 .f32) (x5 : FVec Ideal S2x256x2048 .f32) (t : Fin (cfgM m (ok m)).N) (y : S1x128x2048.Idx) :
    Cert.AdamGateReferenceIdeal.Read.val_main_v45 (F := Ideal) x3 x4 x5 (((cfgM m (ok m)).win 7).blk t |>.view.emb y)
      = parts x3 x4 (place m t (y 1)) (y 2) :=
  (congrArg _ (emb_at m t y)).trans ((all_g x3 x4 x5 (ix3 0 (place m t (y 1)) (y 2))).trans (if_pos rfl))

/-- The buffer of this result holds the previous call's result when the call begins. -/
theorem entry_g (c : Dev nD) : V m c main_v5_0 = (m ((c : Thread nD τ).loc main_arg5)) := by
  entry_read
  rfl

/-- When the call has ended, its array 0 of results is the reference's gradient. -/
theorem final_g (c : Dev nD) : (dats m (ok m) 0 c).arrAt 7 (cfgM m (ok m)).N
    = Cert.AdamGateReferenceIdeal.Read.val_main_v45 (m ((c : Thread nD τ).loc main_arg3)) (m ((c : Thread nD τ).loc main_arg4)) (m ((c : Thread nD τ).loc main_arg5)) := by
  refine (dats m (ok m) 0 c).arrAt_eq_of_coversWhere_of_agree 7 _ (fun β => β (0 : Fin 3) = 0) (covers m).1
    (fun t hf y => ?_) fun j hj => ?_
  · blk_simp
    rw [after0_7]
    exact ((congrFun (out_g m c t) y).trans (grad_at m c t y)).trans (new_g m _ _ _ t y).symm
  · have h : ¬ (j (0 : Fin 3)).val = 0 := fun h => hj (by show (j (0 : Fin 3)).val / 1 = 0; omega)
    exact (congrFun (entry_g m c) j).trans (((all_g _ _ _ j).trans (if_neg h)).symm)

/-- The reference's weight's change, at each of the two layers. -/
theorem all_d (x0 : FVec Ideal S2x256x2048 .f32) (x1 : FVec Ideal S2x256x2048 .f32) (x2 : FVec Ideal S2x256x2048 .f32) (x3 : FVec Ideal S4x256x2048 .f32) (x4 : FVec Ideal S3x256x2048 .f32) (x6 : FVec Ideal S2x256x2048 .f32) (i : S2x256x2048.Idx) :
    Cert.AdamGateReferenceIdeal.Read.val_main_v50 (F := Ideal) x0 x1 x2 x3 x4 x6 i
      = if (i 0).val = 0 then Adam.delta (x0 (ix3 0 (i 1) (i 2))) (x1 (ix3 0 (i 1) (i 2))) (x2 (ix3 0 (i 1) (i 2))) (parts x3 x4 (i 1) (i 2)) else x6 i := by
  refine (stack_at (Cert.AdamGateReferenceIdeal.Read.val_main_v40 (F := Ideal) x0 x1 x2 x3 x4) x6 i).trans ?_
  rw [ref_d]
  rfl

/-- The reference's weight's change, at a place of the block of one grid point. -/
theorem new_d (x0 : FVec Ideal S2x256x2048 .f32) (x1 : FVec Ideal S2x256x2048 .f32) (x2 : FVec Ideal S2x256x2048 .f32) (x3 : FVec Ideal S4x256x2048 .f32) (x4 : FVec Ideal S3x256x2048 .f32) (x6 : FVec Ideal S2x256x2048 .f32) (t : Fin (cfgM m (ok m)).N) (y : S1x128x2048.Idx) :
    Cert.AdamGateReferenceIdeal.Read.val_main_v50 (F := Ideal) x0 x1 x2 x3 x4 x6 (((cfgM m (ok m)).win 7).blk t |>.view.emb y)
      = Adam.delta (x0 (ix3 0 (place m t (y 1)) (y 2))) (x1 (ix3 0 (place m t (y 1)) (y 2))) (x2 (ix3 0 (place m t (y 1)) (y 2))) (parts x3 x4 (place m t (y 1)) (y 2)) :=
  (congrArg _ (emb_at m t y)).trans ((all_d x0 x1 x2 x3 x4 x6 (ix3 0 (place m t (y 1)) (y 2))).trans (if_pos rfl))

/-- The buffer of this result holds the previous call's result when the call begins. -/
theorem entry_d (c : Dev nD) : V m c main_v5_1 = (m ((c : Thread nD τ).loc main_arg6)) := by
  entry_read
  rfl

/-- When the call has ended, its array 1 of results is the reference's weight's change. -/
theorem final_d (c : Dev nD) : (dats m (ok m) 0 c).arrAt 8 (cfgM m (ok m)).N
    = Cert.AdamGateReferenceIdeal.Read.val_main_v50 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m (ok m) 0 c).arrAt_eq_of_coversWhere_of_agree 8 _ (fun β => β (0 : Fin 3) = 0) (covers m).2.1
    (fun t hf y => ?_) fun j hj => ?_
  · blk_simp
    rw [after0_8]
    exact (delta_at m c t y).trans (new_d m _ _ _ _ _ _ t y).symm
  · have h : ¬ (j (0 : Fin 3)).val = 0 := fun h => hj (by show (j (0 : Fin 3)).val / 1 = 0; omega)
    exact (congrFun (entry_d m c) j).trans (((all_d _ _ _ _ _ _ j).trans (if_neg h)).symm)

/-- The reference's new running mean, at each of the two layers. -/
theorem all_m (x1 : FVec Ideal S2x256x2048 .f32) (x3 : FVec Ideal S4x256x2048 .f32) (x4 : FVec Ideal S3x256x2048 .f32) (x7 : FVec Ideal S2x256x2048 .f32) (i : S2x256x2048.Idx) :
    Cert.AdamGateReferenceIdeal.Read.val_main_v55 (F := Ideal) x1 x3 x4 x7 i
      = if (i 0).val = 0 then Adam.mean (x1 (ix3 0 (i 1) (i 2))) (parts x3 x4 (i 1) (i 2)) else x7 i := by
  refine (stack_at (Cert.AdamGateReferenceIdeal.Read.val_main_v21 (F := Ideal) x1 x3 x4) x7 i).trans ?_
  rw [ref_m]
  rfl

/-- The reference's new running mean, at a place of the block of one grid point. -/
theorem new_m (x1 : FVec Ideal S2x256x2048 .f32) (x3 : FVec Ideal S4x256x2048 .f32) (x4 : FVec Ideal S3x256x2048 .f32) (x7 : FVec Ideal S2x256x2048 .f32) (t : Fin (cfgM m (ok m)).N) (y : S1x128x2048.Idx) :
    Cert.AdamGateReferenceIdeal.Read.val_main_v55 (F := Ideal) x1 x3 x4 x7 (((cfgM m (ok m)).win 7).blk t |>.view.emb y)
      = Adam.mean (x1 (ix3 0 (place m t (y 1)) (y 2))) (parts x3 x4 (place m t (y 1)) (y 2)) :=
  (congrArg _ (emb_at m t y)).trans ((all_m x1 x3 x4 x7 (ix3 0 (place m t (y 1)) (y 2))).trans (if_pos rfl))

/-- The buffer of this result holds the previous call's result when the call begins. -/
theorem entry_m (c : Dev nD) : V m c main_v5_2 = (m ((c : Thread nD τ).loc main_arg7)) := by
  entry_read
  rfl

/-- When the call has ended, its array 2 of results is the reference's new running mean. -/
theorem final_m (c : Dev nD) : (dats m (ok m) 0 c).arrAt 9 (cfgM m (ok m)).N
    = Cert.AdamGateReferenceIdeal.Read.val_main_v55 (m ((c : Thread nD τ).loc main_arg1)) (m ((c : Thread nD τ).loc main_arg3)) (m ((c : Thread nD τ).loc main_arg4)) (m ((c : Thread nD τ).loc main_arg7)) := by
  refine (dats m (ok m) 0 c).arrAt_eq_of_coversWhere_of_agree 9 _ (fun β => β (0 : Fin 3) = 0) (covers m).2.2.1
    (fun t hf y => ?_) fun j hj => ?_
  · blk_simp
    rw [after0_9]
    exact (mean_at m c t y).trans (new_m m _ _ _ _ t y).symm
  · have h : ¬ (j (0 : Fin 3)).val = 0 := fun h => hj (by show (j (0 : Fin 3)).val / 1 = 0; omega)
    exact (congrFun (entry_m m c) j).trans (((all_m _ _ _ _ j).trans (if_neg h)).symm)

/-- The reference's new running mean of squares, at each of the two layers. -/
theorem all_v (x2 : FVec Ideal S2x256x2048 .f32) (x3 : FVec Ideal S4x256x2048 .f32) (x4 : FVec Ideal S3x256x2048 .f32) (x8 : FVec Ideal S2x256x2048 .f32) (i : S2x256x2048.Idx) :
    Cert.AdamGateReferenceIdeal.Read.val_main_v60 (F := Ideal) x2 x3 x4 x8 i
      = if (i 0).val = 0 then Adam.square (x2 (ix3 0 (i 1) (i 2))) (parts x3 x4 (i 1) (i 2)) else x8 i := by
  refine (stack_at (Cert.AdamGateReferenceIdeal.Read.val_main_v27 (F := Ideal) x2 x3 x4) x8 i).trans ?_
  rw [ref_v]
  rfl

/-- The reference's new running mean of squares, at a place of the block of one grid point. -/
theorem new_v (x2 : FVec Ideal S2x256x2048 .f32) (x3 : FVec Ideal S4x256x2048 .f32) (x4 : FVec Ideal S3x256x2048 .f32) (x8 : FVec Ideal S2x256x2048 .f32) (t : Fin (cfgM m (ok m)).N) (y : S1x128x2048.Idx) :
    Cert.AdamGateReferenceIdeal.Read.val_main_v60 (F := Ideal) x2 x3 x4 x8 (((cfgM m (ok m)).win 7).blk t |>.view.emb y)
      = Adam.square (x2 (ix3 0 (place m t (y 1)) (y 2))) (parts x3 x4 (place m t (y 1)) (y 2)) :=
  (congrArg _ (emb_at m t y)).trans ((all_v x2 x3 x4 x8 (ix3 0 (place m t (y 1)) (y 2))).trans (if_pos rfl))

/-- The buffer of this result holds the previous call's result when the call begins. -/
theorem entry_v (c : Dev nD) : V m c main_v5_3 = (m ((c : Thread nD τ).loc main_arg8)) := by
  entry_read
  rfl

/-- When the call has ended, its array 3 of results is the reference's new running mean of squares. -/
theorem final_v (c : Dev nD) : (dats m (ok m) 0 c).arrAt 10 (cfgM m (ok m)).N
    = Cert.AdamGateReferenceIdeal.Read.val_main_v60 (m ((c : Thread nD τ).loc main_arg2)) (m ((c : Thread nD τ).loc main_arg3)) (m ((c : Thread nD τ).loc main_arg4)) (m ((c : Thread nD τ).loc main_arg8)) := by
  refine (dats m (ok m) 0 c).arrAt_eq_of_coversWhere_of_agree 10 _ (fun β => β (0 : Fin 3) = 0) (covers m).2.2.2
    (fun t hf y => ?_) fun j hj => ?_
  · blk_simp
    rw [after0_10]
    exact (square_at m c t y).trans (new_v m _ _ _ _ t y).symm
  · have h : ¬ (j (0 : Fin 3)).val = 0 := fun h => hj (by show (j (0 : Fin 3)).val / 1 = 0; omega)
    exact (congrFun (entry_v m c) j).trans (((all_v _ _ _ _ j).trans (if_neg h)).symm)

end Cert.AdamGateIdeal.Sums
end
-- ==== Proof.AdamTables.lean ====
module

public import proofs.«01_k».proof.Proof.Gen.AdamPool.Frame
public import proofs.«01_k».proof.Proof.Gen.AdamOut.Frame
public import proofs.«01_k».proof.Proof.Gen.AdamIn.Frame
public import proofs.«01_k».proof.Proof.Gen.AdamUp.Frame
public import proofs.«01_k».proof.Proof.Gen.AdamDown.Frame
public import proofs.«01_k».proof.Proof.Gen.AdamPle.Frame
public import proofs.«01_k».proof.Proof.Gen.AdamGate.Frame

@[expose] public section

set_option maxRecDepth 16384

noncomputable section
namespace Cert.AdamTables
open Idealize.ShloMosaic Idealize.ShloMosaic.TcCoe Idealize.SL.Sem
variable {F : FTy → Type} [FloatOps F]

/-- The block of part zero lies inside the array of parts, at every grid point. -/
theorem inside_AdamPool : ∀ (i : Cert.AdamPool.grid0.Coords) a,
    (Cert.AdamPool.cc0_transform_4 i a + 1) * Cert.AdamPool.S1x256x512.size a ≤ Cert.AdamPool.S4x256x512.size a := by
  decide +kernel

/-- The table of zeros that the program fills is one its optimiser call accepts. -/
theorem ok_AdamPool (m : (ℓ : Loc Cert.AdamPool.nD Cert.AdamPool.τ Cert.AdamPool.sig) → Buf (Elt F) ℓ) : Cert.AdamPool.Gen.Ok m := by
  intro i
  have zero : ∀ j, Cert.AdamPool.Gen.tbl m 0 j = 0#32 := fun j => by
    show Cert.AdamPool.Gen.V m (0 : Dev Cert.AdamPool.nD) Cert.AdamPool.main_v4 j = 0#32
    entry_read
    rfl
  have same : Cert.AdamPool.cc0_transform_3 Cert.AdamPool.Gen.inb_S1_S1_0 Cert.AdamPool.Gen.numel1_S1 (Cert.AdamPool.Gen.tbl m) i
      = Cert.AdamPool.cc0_transform_4 i := by
    unfold Cert.AdamPool.cc0_transform_3 Cert.AdamPool.cc0_transform_4 Pipeline.Prefetch.Contents.at
    rw [zero]
  rw [same]
  exact ⟨inside_AdamPool i, .inr (Affine.block_words_dvd (of_decide_eq_true rfl) (by decide))⟩

/-- The block of part zero lies inside the array of parts, at every grid point. -/
theorem inside_AdamOut : ∀ (i : Cert.AdamOut.grid0.Coords) a,
    (Cert.AdamOut.cc0_transform_4 i a + 1) * Cert.AdamOut.S1x128x2048.size a ≤ Cert.AdamOut.S4x512x2048.size a := by
  decide +kernel

/-- The table of zeros that the program fills is one its optimiser call accepts. -/
theorem ok_AdamOut (m : (ℓ : Loc Cert.AdamOut.nD Cert.AdamOut.τ Cert.AdamOut.sig) → Buf (Elt F) ℓ) : Cert.AdamOut.Gen.Ok m := by
  intro i
  have zero : ∀ j, Cert.AdamOut.Gen.tbl m 0 j = 0#32 := fun j => by
    show Cert.AdamOut.Gen.V m (0 : Dev Cert.AdamOut.nD) Cert.AdamOut.main_v4 j = 0#32
    entry_read
    rfl
  have same : Cert.AdamOut.cc0_transform_3 Cert.AdamOut.Gen.inb_S1_S1_0 Cert.AdamOut.Gen.numel1_S1 (Cert.AdamOut.Gen.tbl m) i
      = Cert.AdamOut.cc0_transform_4 i := by
    unfold Cert.AdamOut.cc0_transform_3 Cert.AdamOut.cc0_transform_4 Pipeline.Prefetch.Contents.at
    rw [zero]
  rw [same]
  exact ⟨inside_AdamOut i, .inr (Affine.block_words_dvd (of_decide_eq_true rfl) (by decide))⟩

/-- The block of part zero lies inside the array of parts, at every grid point. -/
theorem inside_AdamIn : ∀ (i : Cert.AdamIn.grid0.Coords) a,
    (Cert.AdamIn.cc0_transform_4 i a + 1) * Cert.AdamIn.S1x1288x256.size a ≤ Cert.AdamIn.S4x1288x2048.size a := by
  decide +kernel

/-- The table of zeros that the program fills is one its optimiser call accepts. -/
theorem ok_AdamIn (m : (ℓ : Loc Cert.AdamIn.nD Cert.AdamIn.τ Cert.AdamIn.sig) → Buf (Elt F) ℓ) : Cert.AdamIn.Gen.Ok m := by
  intro i
  have zero : ∀ j, Cert.AdamIn.Gen.tbl m 0 j = 0#32 := fun j => by
    show Cert.AdamIn.Gen.V m (0 : Dev Cert.AdamIn.nD) Cert.AdamIn.main_v4 j = 0#32
    entry_read
    rfl
  have same : Cert.AdamIn.cc0_transform_3 Cert.AdamIn.Gen.inb_S1_S1_0 Cert.AdamIn.Gen.numel1_S1 (Cert.AdamIn.Gen.tbl m) i
      = Cert.AdamIn.cc0_transform_4 i := by
    unfold Cert.AdamIn.cc0_transform_3 Cert.AdamIn.cc0_transform_4 Pipeline.Prefetch.Contents.at
    rw [zero]
  rw [same]
  exact ⟨inside_AdamIn i, .inr (Affine.block_words_dvd (of_decide_eq_true rfl) (by decide))⟩

/-- The block of part zero lies inside the array of parts, at every grid point. -/
theorem inside_AdamUp : ∀ (i : Cert.AdamUp.grid0.Coords) a,
    (Cert.AdamUp.cc0_transform_4 i a + 1) * Cert.AdamUp.S1x256x1024.size a ≤ Cert.AdamUp.S4x2048x1024.size a := by
  decide +kernel

/-- The table of zeros that the program fills is one its optimiser call accepts. -/
theorem ok_AdamUp (m : (ℓ : Loc Cert.AdamUp.nD Cert.AdamUp.τ Cert.AdamUp.sig) → Buf (Elt F) ℓ) : Cert.AdamUp.Gen.Ok m := by
  intro i
  have zero : ∀ j, Cert.AdamUp.Gen.tbl m 0 j = 0#32 := fun j => by
    show Cert.AdamUp.Gen.V m (0 : Dev Cert.AdamUp.nD) Cert.AdamUp.main_v4 j = 0#32
    entry_read
    rfl
  have same : Cert.AdamUp.cc0_transform_3 Cert.AdamUp.Gen.inb_S1_S1_0 Cert.AdamUp.Gen.numel1_S1 (Cert.AdamUp.Gen.tbl m) i
      = Cert.AdamUp.cc0_transform_4 i := by
    unfold Cert.AdamUp.cc0_transform_3 Cert.AdamUp.cc0_transform_4 Pipeline.Prefetch.Contents.at
    rw [zero]
  rw [same]
  exact ⟨inside_AdamUp i, .inr (Affine.block_words_dvd (of_decide_eq_true rfl) (by decide))⟩

/-- The block of part zero lies inside the array of parts, at every grid point. -/
theorem inside_AdamDown : ∀ (i : Cert.AdamDown.grid0.Coords) a,
    (Cert.AdamDown.cc0_transform_4 i a + 1) * Cert.AdamDown.S1x128x2048.size a ≤ Cert.AdamDown.S4x1024x2048.size a := by
  decide +kernel

/-- The table of zeros that the program fills is one its optimiser call accepts. -/
theorem ok_AdamDown (m : (ℓ : Loc Cert.AdamDown.nD Cert.AdamDown.τ Cert.AdamDown.sig) → Buf (Elt F) ℓ) : Cert.AdamDown.Gen.Ok m := by
  intro i
  have zero : ∀ j, Cert.AdamDown.Gen.tbl m 0 j = 0#32 := fun j => by
    show Cert.AdamDown.Gen.V m (0 : Dev Cert.AdamDown.nD) Cert.AdamDown.main_v4 j = 0#32
    entry_read
    rfl
  have same : Cert.AdamDown.cc0_transform_3 Cert.AdamDown.Gen.inb_S1_S1_0 Cert.AdamDown.Gen.numel1_S1 (Cert.AdamDown.Gen.tbl m) i
      = Cert.AdamDown.cc0_transform_4 i := by
    unfold Cert.AdamDown.cc0_transform_3 Cert.AdamDown.cc0_transform_4 Pipeline.Prefetch.Contents.at
    rw [zero]
  rw [same]
  exact ⟨inside_AdamDown i, .inr (Affine.block_words_dvd (of_decide_eq_true rfl) (by decide))⟩

/-- The block of part zero lies inside the array of parts, at every grid point. -/
theorem inside_AdamPle : ∀ (i : Cert.AdamPle.grid0.Coords) a,
    (Cert.AdamPle.cc0_transform_4 i a + 1) * Cert.AdamPle.S1x256x256.size a ≤ Cert.AdamPle.S4x256x256.size a := by
  decide +kernel

/-- The table of zeros that the program fills is one its optimiser call accepts. -/
theorem ok_AdamPle (m : (ℓ : Loc Cert.AdamPle.nD Cert.AdamPle.τ Cert.AdamPle.sig) → Buf (Elt F) ℓ) : Cert.AdamPle.Gen.Ok m := by
  intro i
  have zero : ∀ j, Cert.AdamPle.Gen.tbl m 0 j = 0#32 := fun j => by
    show Cert.AdamPle.Gen.V m (0 : Dev Cert.AdamPle.nD) Cert.AdamPle.main_v4 j = 0#32
    entry_read
    rfl
  have same : Cert.AdamPle.cc0_transform_3 Cert.AdamPle.Gen.inb_S1_S1_0 Cert.AdamPle.Gen.numel1_S1 (Cert.AdamPle.Gen.tbl m) i
      = Cert.AdamPle.cc0_transform_4 i := by
    unfold Cert.AdamPle.cc0_transform_3 Cert.AdamPle.cc0_transform_4 Pipeline.Prefetch.Contents.at
    rw [zero]
  rw [same]
  exact ⟨inside_AdamPle i, .inr (Affine.block_words_dvd (of_decide_eq_true rfl) (by decide))⟩

/-- The block of part zero lies inside the array of parts, at every grid point. -/
theorem inside_AdamGate : ∀ (i : Cert.AdamGate.grid0.Coords) a,
    (Cert.AdamGate.cc0_transform_4 i a + 1) * Cert.AdamGate.S1x128x2048.size a ≤ Cert.AdamGate.S4x256x2048.size a := by
  decide +kernel

/-- The table of zeros that the program fills is one its optimiser call accepts. -/
theorem ok_AdamGate (m : (ℓ : Loc Cert.AdamGate.nD Cert.AdamGate.τ Cert.AdamGate.sig) → Buf (Elt F) ℓ) : Cert.AdamGate.Gen.Ok m := by
  intro i
  have zero : ∀ j, Cert.AdamGate.Gen.tbl m 0 j = 0#32 := fun j => by
    show Cert.AdamGate.Gen.V m (0 : Dev Cert.AdamGate.nD) Cert.AdamGate.main_v4 j = 0#32
    entry_read
    rfl
  have same : Cert.AdamGate.cc0_transform_3 Cert.AdamGate.Gen.inb_S1_S1_0 Cert.AdamGate.Gen.numel1_S1 (Cert.AdamGate.Gen.tbl m) i
      = Cert.AdamGate.cc0_transform_4 i := by
    unfold Cert.AdamGate.cc0_transform_3 Cert.AdamGate.cc0_transform_4 Pipeline.Prefetch.Contents.at
    rw [zero]
  rw [same]
  exact ⟨inside_AdamGate i, .inr (Affine.block_words_dvd (of_decide_eq_true rfl) (by decide))⟩
end Cert.AdamTables
end
-- ==== Proof.lean ====
/- The proof of the claims: the backward call of the state-space scan and the product calls of the step, forward and backward,
   run safely to their end with the values of their plain references. The work is in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DownW
public import proofs.«01_k».proof.Proof.Gen.DownW.Skeleton
public import proofs.«01_k».proof.Proof.Gen.DownW.Launch
public import proofs.«01_k».proof.Proof.Gen.DownW.Points
public import proofs.«01_k».proof.Proof.Gen.DownW.Frame
public import proofs.«01_k».proof.Proof.Gen.DownWIdeal
public import proofs.«01_k».proof.Proof.Gen.DownWIdeal.Skeleton
public import proofs.«01_k».proof.Proof.Gen.DownWIdeal.Launch
public import proofs.«01_k».proof.Proof.Gen.DownWIdeal.Points
public import proofs.«01_k».proof.Proof.Gen.DownWIdeal.Frame
public import proofs.«01_k».proof.Proof.Gen.DownWIdeal.Value
public import proofs.«01_k».proof.Proof.Gen.DownWReferenceIdeal.Run
public import proofs.«01_k».proof.Proof.Gen.DownWReferenceIdeal.Read
public import proofs.«01_k».proof.Proof.Gen.DownX
public import proofs.«01_k».proof.Proof.Gen.DownX.Skeleton
public import proofs.«01_k».proof.Proof.Gen.DownX.Launch
public import proofs.«01_k».proof.Proof.Gen.DownX.Points
public import proofs.«01_k».proof.Proof.Gen.DownX.Frame
public import proofs.«01_k».proof.Proof.Gen.DownXIdeal
public import proofs.«01_k».proof.Proof.Gen.DownXIdeal.Skeleton
public import proofs.«01_k».proof.Proof.Gen.DownXIdeal.Launch
public import proofs.«01_k».proof.Proof.Gen.DownXIdeal.Points
public import proofs.«01_k».proof.Proof.Gen.DownXIdeal.Frame
public import proofs.«01_k».proof.Proof.Gen.DownXIdeal.Value
public import proofs.«01_k».proof.Proof.Gen.DownXReferenceIdeal.Run
public import proofs.«01_k».proof.Proof.Gen.DownXReferenceIdeal.Read
public import proofs.«01_k».proof.Proof.Gen.UpW
public import proofs.«01_k».proof.Proof.Gen.UpW.Skeleton
public import proofs.«01_k».proof.Proof.Gen.UpW.Launch
public import proofs.«01_k».proof.Proof.Gen.UpW.Points
public import proofs.«01_k».proof.Proof.Gen.UpW.Frame
public import proofs.«01_k».proof.Proof.Gen.UpWIdeal
public import proofs.«01_k».proof.Proof.Gen.UpWIdeal.Skeleton
public import proofs.«01_k».proof.Proof.Gen.UpWIdeal.Launch
public import proofs.«01_k».proof.Proof.Gen.UpWIdeal.Points
public import proofs.«01_k».proof.Proof.Gen.UpWIdeal.Frame
public import proofs.«01_k».proof.Proof.Gen.UpWIdeal.Value
public import proofs.«01_k».proof.Proof.Gen.UpWReferenceIdeal.Run
public import proofs.«01_k».proof.Proof.Gen.UpWReferenceIdeal.Read
public import proofs.«01_k».proof.Proof.Gen.UpX
public import proofs.«01_k».proof.Proof.Gen.UpX.Skeleton
public import proofs.«01_k».proof.Proof.Gen.UpX.Launch
public import proofs.«01_k».proof.Proof.Gen.UpX.Points
public import proofs.«01_k».proof.Proof.Gen.UpX.Frame
public import proofs.«01_k».proof.Proof.Gen.UpXIdeal
public import proofs.«01_k».proof.Proof.Gen.UpXIdeal.Skeleton
public import proofs.«01_k».proof.Proof.Gen.UpXIdeal.Launch
public import proofs.«01_k».proof.Proof.Gen.UpXIdeal.Points
public import proofs.«01_k».proof.Proof.Gen.UpXIdeal.Frame
public import proofs.«01_k».proof.Proof.Gen.UpXIdeal.Value
public import proofs.«01_k».proof.Proof.Gen.UpXReferenceIdeal.Run
public import proofs.«01_k».proof.Proof.Gen.UpXReferenceIdeal.Read
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWIdeal.Value
public import proofs.«01_k».proof.Proof.Gen.OutWReferenceIdeal.Run
public import proofs.«01_k».proof.Proof.Gen.OutWReferenceIdeal.Read
public import proofs.«01_k».proof.Proof.Gen.OutX
public import proofs.«01_k».proof.Proof.Gen.OutX.Skeleton
public import proofs.«01_k».proof.Proof.Gen.OutX.Launch
public import proofs.«01_k».proof.Proof.Gen.OutX.Points
public import proofs.«01_k».proof.Proof.Gen.OutX.Frame
public import proofs.«01_k».proof.Proof.Gen.OutXIdeal
public import proofs.«01_k».proof.Proof.Gen.OutXIdeal.Skeleton
public import proofs.«01_k».proof.Proof.Gen.OutXIdeal.Launch
public import proofs.«01_k».proof.Proof.Gen.OutXIdeal.Points
public import proofs.«01_k».proof.Proof.Gen.OutXIdeal.Frame
public import proofs.«01_k».proof.Proof.Gen.OutXIdeal.Value
public import proofs.«01_k».proof.Proof.Gen.OutXReferenceIdeal.Run
public import proofs.«01_k».proof.Proof.Gen.OutXReferenceIdeal.Read
public import proofs.«01_k».proof.Proof.Gen.InX
public import proofs.«01_k».proof.Proof.Gen.InX.Skeleton
public import proofs.«01_k».proof.Proof.Gen.InX.Launch
public import proofs.«01_k».proof.Proof.Gen.InX.Points
public import proofs.«01_k».proof.Proof.Gen.InX.Frame
public import proofs.«01_k».proof.Proof.Gen.InXIdeal
public import proofs.«01_k».proof.Proof.Gen.InXIdeal.Skeleton
public import proofs.«01_k».proof.Proof.Gen.InXIdeal.Launch
public import proofs.«01_k».proof.Proof.Gen.InXIdeal.Points
public import proofs.«01_k».proof.Proof.Gen.InXIdeal.Frame
public import proofs.«01_k».proof.Proof.Gen.InXIdeal.Value
public import proofs.«01_k».proof.Proof.Gen.InXReferenceIdeal.Run
public import proofs.«01_k».proof.Proof.Gen.InXReferenceIdeal.Read
public import proofs.«01_k».proof.Proof.Gen.GateW
public import proofs.«01_k».proof.Proof.Gen.GateW.Skeleton
public import proofs.«01_k».proof.Proof.Gen.GateW.Launch
public import proofs.«01_k».proof.Proof.Gen.GateW.Points
public import proofs.«01_k».proof.Proof.Gen.GateW.Frame
public import proofs.«01_k».proof.Proof.Gen.GateWIdeal
public import proofs.«01_k».proof.Proof.Gen.GateWIdeal.Skeleton
public import proofs.«01_k».proof.Proof.Gen.GateWIdeal.Launch
public import proofs.«01_k».proof.Proof.Gen.GateWIdeal.Points
public import proofs.«01_k».proof.Proof.Gen.GateWIdeal.Frame
public import proofs.«01_k».proof.Proof.Gen.GateWIdeal.Value
public import proofs.«01_k».proof.Proof.Gen.GateWReferenceIdeal.Run
public import proofs.«01_k».proof.Proof.Gen.GateWReferenceIdeal.Read
public import proofs.«01_k».proof.Proof.Gen.GateX
public import proofs.«01_k».proof.Proof.Gen.GateX.Skeleton
public import proofs.«01_k».proof.Proof.Gen.GateX.Launch
public import proofs.«01_k».proof.Proof.Gen.GateX.Points
public import proofs.«01_k».proof.Proof.Gen.GateX.Frame
public import proofs.«01_k».proof.Proof.Gen.GateXIdeal
public import proofs.«01_k».proof.Proof.Gen.GateXIdeal.Skeleton
public import proofs.«01_k».proof.Proof.Gen.GateXIdeal.Launch
public import proofs.«01_k».proof.Proof.Gen.GateXIdeal.Points
public import proofs.«01_k».proof.Proof.Gen.GateXIdeal.Frame
public import proofs.«01_k».proof.Proof.Gen.GateXIdeal.Value
public import proofs.«01_k».proof.Proof.Gen.GateXReferenceIdeal.Run
public import proofs.«01_k».proof.Proof.Gen.GateXReferenceIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal.Run
public import proofs.«01_k».proof.Proof.Gen.UpReferenceIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InReferenceIdeal.Run
public import proofs.«01_k».proof.Proof.Gen.InReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal.Run
public import proofs.«01_k».proof.Proof.Gen.OutReferenceIdeal.Read
public import proofs.«01_k».proof.Proof.ScanClaim
public import proofs.«01_k».proof.Proof.MlpDownW
public import proofs.«01_k».proof.Proof.MlpDownX
public import proofs.«01_k».proof.Proof.MlpUpW
public import proofs.«01_k».proof.Proof.MlpUpX
public import proofs.«01_k».proof.Proof.ProdOutW
public import proofs.«01_k».proof.Proof.ProdOutX
public import proofs.«01_k».proof.Proof.ProdInX
public import proofs.«01_k».proof.Proof.ProdGateW
public import proofs.«01_k».proof.Proof.ProdGateX
public import proofs.«01_k».proof.Proof.ProdUp
public import proofs.«01_k».proof.Proof.ProdDown
public import proofs.«01_k».proof.Proof.ProdIn
public import proofs.«01_k».proof.Proof.ProdOut
public import Idealize.ShloMosaic.Adequacy
public import Idealize.ShloMosaic.Init
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateReferenceIdeal.Run
public import proofs.«01_k».proof.Proof.Gen.GateReferenceIdeal.Read
public import proofs.«01_k».proof.Proof.ProdGate
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleReferenceIdeal.Run
public import proofs.«01_k».proof.Proof.Gen.PleReferenceIdeal.Read
public import proofs.«01_k».proof.Proof.ProdPle
public import proofs.«01_k».proof.Proof.Gen.PleW
public import proofs.«01_k».proof.Proof.Gen.PleW.Skeleton
public import proofs.«01_k».proof.Proof.Gen.PleW.Launch
public import proofs.«01_k».proof.Proof.Gen.PleW.Points
public import proofs.«01_k».proof.Proof.Gen.PleW.Frame
public import proofs.«01_k».proof.Proof.Gen.PleWIdeal
public import proofs.«01_k».proof.Proof.Gen.PleWIdeal.Skeleton
public import proofs.«01_k».proof.Proof.Gen.PleWIdeal.Launch
public import proofs.«01_k».proof.Proof.Gen.PleWIdeal.Points
public import proofs.«01_k».proof.Proof.Gen.PleWIdeal.Frame
public import proofs.«01_k».proof.Proof.Gen.PleWIdeal.Value
public import proofs.«01_k».proof.Proof.Gen.PleWReferenceIdeal.Run
public import proofs.«01_k».proof.Proof.Gen.PleWReferenceIdeal.Read
public import proofs.«01_k».proof.Proof.ProdPleW
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolReferenceIdeal.Run
public import proofs.«01_k».proof.Proof.Gen.PoolReferenceIdeal.Read
public import proofs.«01_k».proof.Proof.ProdPool
public import proofs.«01_k».proof.Proof.Gen.PoolX
public import proofs.«01_k».proof.Proof.Gen.PoolX.Skeleton
public import proofs.«01_k».proof.Proof.Gen.PoolX.Launch
public import proofs.«01_k».proof.Proof.Gen.PoolX.Points
public import proofs.«01_k».proof.Proof.Gen.PoolX.Frame
public import proofs.«01_k».proof.Proof.Gen.PoolXIdeal
public import proofs.«01_k».proof.Proof.Gen.PoolXIdeal.Skeleton
public import proofs.«01_k».proof.Proof.Gen.PoolXIdeal.Launch
public import proofs.«01_k».proof.Proof.Gen.PoolXIdeal.Points
public import proofs.«01_k».proof.Proof.Gen.PoolXIdeal.Frame
public import proofs.«01_k».proof.Proof.Gen.PoolXIdeal.Value
public import proofs.«01_k».proof.Proof.Gen.PoolXReferenceIdeal.Run
public import proofs.«01_k».proof.Proof.Gen.PoolXReferenceIdeal.Read
public import proofs.«01_k».proof.Proof.Gen.MeansX
public import proofs.«01_k».proof.Proof.Gen.MeansX.Skeleton
public import proofs.«01_k».proof.Proof.Gen.MeansX.Launch
public import proofs.«01_k».proof.Proof.Gen.MeansX.Points
public import proofs.«01_k».proof.Proof.Gen.MeansX.Frame
public import proofs.«01_k».proof.Proof.Gen.MeansXIdeal
public import proofs.«01_k».proof.Proof.Gen.MeansXIdeal.Skeleton
public import proofs.«01_k».proof.Proof.Gen.MeansXIdeal.Launch
public import proofs.«01_k».proof.Proof.Gen.MeansXIdeal.Points
public import proofs.«01_k».proof.Proof.Gen.MeansXIdeal.Frame
public import proofs.«01_k».proof.Proof.Gen.MeansXIdeal.Value
public import proofs.«01_k».proof.Proof.Gen.MeansXReferenceIdeal.Run
public import proofs.«01_k».proof.Proof.Gen.MeansXReferenceIdeal.Read
public import proofs.«01_k».proof.Proof.ProdPoolX
public import proofs.«01_k».proof.Proof.ProdMeansX
public import proofs.«01_k».proof.Proof.Gen.PoolW
public import proofs.«01_k».proof.Proof.Gen.PoolW.Skeleton
public import proofs.«01_k».proof.Proof.Gen.PoolW.Launch
public import proofs.«01_k».proof.Proof.Gen.PoolW.Points
public import proofs.«01_k».proof.Proof.Gen.PoolW.Frame
public import proofs.«01_k».proof.Proof.Gen.PoolWIdeal
public import proofs.«01_k».proof.Proof.Gen.PoolWIdeal.Skeleton
public import proofs.«01_k».proof.Proof.Gen.PoolWIdeal.Launch
public import proofs.«01_k».proof.Proof.Gen.PoolWIdeal.Points
public import proofs.«01_k».proof.Proof.Gen.PoolWIdeal.Frame
public import proofs.«01_k».proof.Proof.Gen.PoolWIdeal.Value
public import proofs.«01_k».proof.Proof.Gen.PoolWReferenceIdeal.Run
public import proofs.«01_k».proof.Proof.Gen.PoolWReferenceIdeal.Read
public import proofs.«01_k».proof.Proof.ProdPoolW
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolReferenceIdeal.Run
public import proofs.«01_k».proof.Proof.Gen.AdamPoolReferenceIdeal.Read
public import proofs.«01_k».proof.Proof.ProdAdamPool
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutReferenceIdeal.Run
public import proofs.«01_k».proof.Proof.Gen.AdamOutReferenceIdeal.Read
public import proofs.«01_k».proof.Proof.ProdAdamOut
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInReferenceIdeal.Run
public import proofs.«01_k».proof.Proof.Gen.AdamInReferenceIdeal.Read
public import proofs.«01_k».proof.Proof.ProdAdamIn
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpReferenceIdeal.Run
public import proofs.«01_k».proof.Proof.Gen.AdamUpReferenceIdeal.Read
public import proofs.«01_k».proof.Proof.ProdAdamUp
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownReferenceIdeal.Run
public import proofs.«01_k».proof.Proof.Gen.AdamDownReferenceIdeal.Read
public import proofs.«01_k».proof.Proof.ProdAdamDown
public import proofs.«01_k».proof.Proof.Gen.AdamPle
public import proofs.«01_k».proof.Proof.Gen.AdamPle.Skeleton
public import proofs.«01_k».proof.Proof.Gen.AdamPle.Launch
public import proofs.«01_k».proof.Proof.Gen.AdamPle.Points
public import proofs.«01_k».proof.Proof.Gen.AdamPle.Frame
public import proofs.«01_k».proof.Proof.Gen.AdamPleIdeal
public import proofs.«01_k».proof.Proof.Gen.AdamPleIdeal.Skeleton
public import proofs.«01_k».proof.Proof.Gen.AdamPleIdeal.Launch
public import proofs.«01_k».proof.Proof.Gen.AdamPleIdeal.Points
public import proofs.«01_k».proof.Proof.Gen.AdamPleIdeal.Frame
public import proofs.«01_k».proof.Proof.Gen.AdamPleReferenceIdeal.Run
public import proofs.«01_k».proof.Proof.Gen.AdamPleReferenceIdeal.Read
public import proofs.«01_k».proof.Proof.ProdAdamPle
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateReferenceIdeal.Run
public import proofs.«01_k».proof.Proof.Gen.AdamGateReferenceIdeal.Read
public import proofs.«01_k».proof.Proof.ProdAdamGate
public import proofs.«01_k».proof.Proof.AdamTables

@[expose] public section

noncomputable section

namespace Cert.Proof

open Idealize.ShloMosaic Idealize.SL.Sem

/-- The product call of the gradient with respect to the second weight of the feed-forward block ends, for every input, with the values of its plain reference. -/
theorem value_DownW : Cert.algebraic_DownWIdeal_DownWReferenceIdeal := by
  pair_intro
  · run_from Cert.DownWIdeal.Gen.run_main m g
  · run_from Cert.DownWReferenceIdeal.Value.run m' g'
    exact (Cert.DownWReferenceIdeal.Read.val_main_v6_eq _ _).trans (Cert.DownWIdeal.Sums.final m c).symm

/-- The plain reference of the gradient with respect to the second weight runs safely to its end. -/
theorem safe_DownWReference : Cert.quiescent_DownWReferenceIdeal := fun m g _ =>
  (θ_run _ _ _).mono (fun _ h => ⟨fun c => (h c).2, sem_eq_zero_of_no_sems rfl _⟩)
    (Cert.DownWReferenceIdeal.Value.run m g)

/-- The product call of the gradient with respect to the hidden values of the feed-forward block ends, for every input, with the values of its plain reference. -/
theorem value_DownX : Cert.algebraic_DownXIdeal_DownXReferenceIdeal := by
  pair_intro
  · run_from Cert.DownXIdeal.Gen.run_main m g
  · run_from Cert.DownXReferenceIdeal.Value.run m' g'
    exact (Cert.DownXReferenceIdeal.Read.val_main_v12_eq _ _ _).trans (Cert.DownXIdeal.Sums.final m c).symm

/-- The plain reference of the gradient with respect to the hidden values runs safely to its end. -/
theorem safe_DownXReference : Cert.quiescent_DownXReferenceIdeal := fun m g _ =>
  (θ_run _ _ _).mono (fun _ h => ⟨fun c => (h c).2, sem_eq_zero_of_no_sems rfl _⟩)
    (Cert.DownXReferenceIdeal.Value.run m g)

/-- The product call of the gradient with respect to the first weight of the feed-forward block ends, for every input, with the values of its plain reference. -/
theorem value_UpW : Cert.algebraic_UpWIdeal_UpWReferenceIdeal := by
  pair_intro
  · run_from Cert.UpWIdeal.Gen.run_main m g
  · run_from Cert.UpWReferenceIdeal.Value.run m' g'
    exact (Cert.UpWReferenceIdeal.Read.val_main_v6_eq _ _).trans (Cert.UpWIdeal.Sums.final m c).symm

/-- The plain reference of the gradient with respect to the first weight runs safely to its end. -/
theorem safe_UpWReference : Cert.quiescent_UpWReferenceIdeal := fun m g _ =>
  (θ_run _ _ _).mono (fun _ h => ⟨fun c => (h c).2, sem_eq_zero_of_no_sems rfl _⟩)
    (Cert.UpWReferenceIdeal.Value.run m g)

/-- The product call of the gradient with respect to the input of the feed-forward block ends, for every input, with the values of its plain reference. -/
theorem value_UpX : Cert.algebraic_UpXIdeal_UpXReferenceIdeal := by
  pair_intro
  · run_from Cert.UpXIdeal.Gen.run_main m g
  · run_from Cert.UpXReferenceIdeal.Value.run m' g'
    exact (Cert.UpXReferenceIdeal.Read.val_main_v7_eq _ _ _).trans (Cert.UpXIdeal.Sums.final m c).symm

/-- The plain reference of the gradient with respect to the input runs safely to its end. -/
theorem safe_UpXReference : Cert.quiescent_UpXReferenceIdeal := fun m g _ =>
  (θ_run _ _ _).mono (fun _ h => ⟨fun c => (h c).2, sem_eq_zero_of_no_sems rfl _⟩)
    (Cert.UpXReferenceIdeal.Value.run m g)

/-- The product call of the gradient with respect to the output projection ends, for every input, with the values of its plain reference. -/
theorem value_OutW : Cert.algebraic_OutWIdeal_OutWReferenceIdeal := by
  pair_intro
  · run_from Cert.OutWIdeal.Gen.run_main m g
  · run_from Cert.OutWReferenceIdeal.Value.run m' g'
    exact (Cert.OutWReferenceIdeal.Read.val_main_v4_eq _ _).trans (Cert.OutWIdeal.Sums.final m c).symm

/-- The plain reference of the gradient with respect to the output projection runs safely to its end. -/
theorem safe_OutWReference : Cert.quiescent_OutWReferenceIdeal := fun m g _ =>
  (θ_run _ _ _).mono (fun _ h => ⟨fun c => (h c).2, sem_eq_zero_of_no_sems rfl _⟩)
    (Cert.OutWReferenceIdeal.Value.run m g)

/-- The product call of the gradient with respect to the input of the output projection ends, for every input, with the values of its plain reference. -/
theorem value_OutX : Cert.algebraic_OutXIdeal_OutXReferenceIdeal := by
  pair_intro
  · run_from Cert.OutXIdeal.Gen.run_main m g
  · run_from Cert.OutXReferenceIdeal.Value.run m' g'
    exact (Cert.OutXReferenceIdeal.Read.val_main_v2_eq _ _).trans (Cert.OutXIdeal.Sums.final m c).symm

/-- The plain reference of the gradient with respect to the input of the output projection runs safely to its end. -/
theorem safe_OutXReference : Cert.quiescent_OutXReferenceIdeal := fun m g _ =>
  (θ_run _ _ _).mono (fun _ h => ⟨fun c => (h c).2, sem_eq_zero_of_no_sems rfl _⟩)
    (Cert.OutXReferenceIdeal.Value.run m g)

/-- The product call of the gradient with respect to the input of the input projection ends, for every input, with the values of its plain reference. -/
theorem value_InX : Cert.algebraic_InXIdeal_InXReferenceIdeal := by
  pair_intro
  · run_from Cert.InXIdeal.Gen.run_main m g
  · run_from Cert.InXReferenceIdeal.Value.run m' g'
    exact (Cert.InXReferenceIdeal.Read.val_main_v4_eq _ _ _).trans (Cert.InXIdeal.Sums.final m c).symm

/-- The plain reference of the gradient with respect to the input of the input projection runs safely to its end. -/
theorem safe_InXReference : Cert.quiescent_InXReferenceIdeal := fun m g _ =>
  (θ_run _ _ _).mono (fun _ h => ⟨fun c => (h c).2, sem_eq_zero_of_no_sems rfl _⟩)
    (Cert.InXReferenceIdeal.Value.run m g)

/-- The product call of the gradient with respect to the gate weight ends, for every input, with the values of its plain reference. -/
theorem value_GateW : Cert.algebraic_GateWIdeal_GateWReferenceIdeal := by
  pair_intro
  · run_from Cert.GateWIdeal.Gen.run_main m g
  · run_from Cert.GateWReferenceIdeal.Value.run m' g'
    exact (Cert.GateWReferenceIdeal.Read.val_main_v4_eq _ _).trans (Cert.GateWIdeal.Sums.final m c).symm

/-- The plain reference of the gradient with respect to the gate weight runs safely to its end. -/
theorem safe_GateWReference : Cert.quiescent_GateWReferenceIdeal := fun m g _ =>
  (θ_run _ _ _).mono (fun _ h => ⟨fun c => (h c).2, sem_eq_zero_of_no_sems rfl _⟩)
    (Cert.GateWReferenceIdeal.Value.run m g)

/-- The product call of the gradient with respect to the input of the gate ends, for every input, with the values of its plain reference. -/
theorem value_GateX : Cert.algebraic_GateXIdeal_GateXReferenceIdeal := by
  pair_intro
  · run_from Cert.GateXIdeal.Gen.run_main m g
  · run_from Cert.GateXReferenceIdeal.Value.run m' g'
    exact (Cert.GateXReferenceIdeal.Read.val_main_v3_eq _ _ _).trans (Cert.GateXIdeal.Sums.final m c).symm

/-- The plain reference of the gradient with respect to the input of the gate runs safely to its end. -/
theorem safe_GateXReference : Cert.quiescent_GateXReferenceIdeal := fun m g _ =>
  (θ_run _ _ _).mono (fun _ h => ⟨fun c => (h c).2, sem_eq_zero_of_no_sems rfl _⟩)
    (Cert.GateXReferenceIdeal.Value.run m g)

/-- The product call of the first product of the feed-forward block ends, for every input, with the values of its plain reference. -/
theorem value_Up : Cert.algebraic_UpIdeal_UpReferenceIdeal := by
  pair_intro
  · run_from Cert.UpIdeal.Gen.run_main m g
  · run_from Cert.UpReferenceIdeal.Value.run m' g'
    exact (Cert.UpReferenceIdeal.Read.val_main_v1_eq _ _).trans (Cert.UpIdeal.Sums.final m c).symm

/-- The plain reference of the first product of the feed-forward block runs safely to its end. -/
theorem safe_UpReference : Cert.quiescent_UpReferenceIdeal := fun m g _ =>
  (θ_run _ _ _).mono (fun _ h => ⟨fun c => (h c).2, sem_eq_zero_of_no_sems rfl _⟩)
    (Cert.UpReferenceIdeal.Value.run m g)

/-- The product call of the second product of the feed-forward block ends, for every input, with the values of its plain reference. -/
theorem value_Down : Cert.algebraic_DownIdeal_DownReferenceIdeal := by
  pair_intro
  · run_from Cert.DownIdeal.Gen.run_main m g
  · run_from Cert.DownReferenceIdeal.Value.run m' g'
    exact (Cert.DownReferenceIdeal.Read.val_main_v5_eq _ _ _).trans (Cert.DownIdeal.Sums.final m c).symm

/-- The plain reference of the second product of the feed-forward block runs safely to its end. -/
theorem safe_DownReference : Cert.quiescent_DownReferenceIdeal := fun m g _ =>
  (θ_run _ _ _).mono (fun _ h => ⟨fun c => (h c).2, sem_eq_zero_of_no_sems rfl _⟩)
    (Cert.DownReferenceIdeal.Value.run m g)

/-- The product call of the input projection ends, for every input, with the values of its plain reference. -/
theorem value_In : Cert.algebraic_InIdeal_InReferenceIdeal := by
  pair_intro
  · run_from Cert.InIdeal.Gen.run_main m g
  · run_from Cert.InReferenceIdeal.Value.run m' g'
    exact (Cert.InReferenceIdeal.Read.val_main_v1_eq _ _).trans (Cert.InIdeal.Sums.final m c).symm

/-- The plain reference of the input projection runs safely to its end. -/
theorem safe_InReference : Cert.quiescent_InReferenceIdeal := fun m g _ =>
  (θ_run _ _ _).mono (fun _ h => ⟨fun c => (h c).2, sem_eq_zero_of_no_sems rfl _⟩)
    (Cert.InReferenceIdeal.Value.run m g)

/-- The product call of the output projection ends, for every input, with the values of its plain reference. -/
theorem value_Out : Cert.algebraic_OutIdeal_OutReferenceIdeal := by
  pair_intro
  · run_from Cert.OutIdeal.Gen.run_main m g
  · run_from Cert.OutReferenceIdeal.Value.run m' g'
    exact (Cert.OutReferenceIdeal.Read.val_main_v3_eq _ _ _).trans (Cert.OutIdeal.Sums.final m c).symm

/-- The plain reference of the output projection runs safely to its end. -/
theorem safe_OutReference : Cert.quiescent_OutReferenceIdeal := fun m g _ =>
  (θ_run _ _ _).mono (fun _ h => ⟨fun c => (h c).2, sem_eq_zero_of_no_sems rfl _⟩)
    (Cert.OutReferenceIdeal.Value.run m g)

/-- The optimiser call of the pooling's map ends, for every input, with the values of its plain reference. -/
theorem value_AdamPool : Cert.algebraic_AdamPoolIdeal_AdamPoolReferenceIdeal := by
  intro m g m' g' hpre hagree
  refine ⟨fun c => (Cert.AdamPoolIdeal.Gen.dats m (Cert.AdamPoolIdeal.Sums.ok m) 0 c).arrAt 7 (Cert.AdamPoolIdeal.Gen.cfgM m (Cert.AdamPoolIdeal.Sums.ok m)).N,
    fun c => (Cert.AdamPoolIdeal.Gen.dats m (Cert.AdamPoolIdeal.Sums.ok m) 0 c).arrAt 8 (Cert.AdamPoolIdeal.Gen.cfgM m (Cert.AdamPoolIdeal.Sums.ok m)).N,
    fun c => (Cert.AdamPoolIdeal.Gen.dats m (Cert.AdamPoolIdeal.Sums.ok m) 0 c).arrAt 9 (Cert.AdamPoolIdeal.Gen.cfgM m (Cert.AdamPoolIdeal.Sums.ok m)).N,
    fun c => (Cert.AdamPoolIdeal.Gen.dats m (Cert.AdamPoolIdeal.Sums.ok m) 0 c).arrAt 10 (Cert.AdamPoolIdeal.Gen.cfgM m (Cert.AdamPoolIdeal.Sums.ok m)).N, ?_, ?_⟩
  · exact (θ_run _ _ _).mono (fun _ h c => ⟨(h.1 c).1 7, (h.1 c).1 8, (h.1 c).1 9, (h.1 c).1 10, h.2 c⟩)
      (θ_run_and (Cert.AdamPoolIdeal.Gen.run_main m g (Cert.AdamPoolIdeal.Sums.ok m)) (Cert.AdamPoolIdeal.Gen.unchanged m g (Cert.AdamPoolIdeal.Sums.ok m)))
  · refine (θ_run _ _ _).mono (fun _ h c => ⟨(h c).1.trans ?_, (h c).2.1.trans ?_, (h c).2.2.1.trans ?_,
      (h c).2.2.2.1.trans ?_, (h c).2.2.2.2⟩) (Cert.AdamPoolReferenceIdeal.Value.run m' g')
    · rw [(hagree c).2.2.2.1, (hagree c).2.2.2.2]
      exact (Cert.AdamPoolReferenceIdeal.Read.val_main_v11_eq _ _).trans (Cert.AdamPoolIdeal.Sums.final_g m c).symm
    · rw [(hagree c).1, (hagree c).2.1, (hagree c).2.2.1, (hagree c).2.2.2.1, (hagree c).2.2.2.2]
      exact (Cert.AdamPoolReferenceIdeal.Read.val_main_v35_eq _ _ _ _ _).trans (Cert.AdamPoolIdeal.Sums.final_d m c).symm
    · rw [(hagree c).2.1, (hagree c).2.2.2.1, (hagree c).2.2.2.2]
      exact (Cert.AdamPoolReferenceIdeal.Read.val_main_v16_eq _ _ _).trans (Cert.AdamPoolIdeal.Sums.final_m m c).symm
    · rw [(hagree c).2.2.1, (hagree c).2.2.2.1, (hagree c).2.2.2.2]
      exact (Cert.AdamPoolReferenceIdeal.Read.val_main_v22_eq _ _ _).trans (Cert.AdamPoolIdeal.Sums.final_v m c).symm

/-- The plain reference of the optimiser call of the pooling's map runs safely to its end. -/
theorem safe_AdamPoolReference : Cert.quiescent_AdamPoolReferenceIdeal := fun m g _ =>
  (θ_run _ _ _).mono (fun _ h => ⟨fun c => (h c).2.2.2.2, sem_eq_zero_of_no_sems rfl _⟩)
    (Cert.AdamPoolReferenceIdeal.Value.run m g)

/-- The optimiser call of the output projection's weight ends, for every input, with the values of its plain reference. -/
theorem value_AdamOut : Cert.algebraic_AdamOutIdeal_AdamOutReferenceIdeal := by
  intro m g m' g' hpre hagree
  refine ⟨fun c => (Cert.AdamOutIdeal.Gen.dats m (Cert.AdamOutIdeal.Sums.ok m) 0 c).arrAt 7 (Cert.AdamOutIdeal.Gen.cfgM m (Cert.AdamOutIdeal.Sums.ok m)).N,
    fun c => (Cert.AdamOutIdeal.Gen.dats m (Cert.AdamOutIdeal.Sums.ok m) 0 c).arrAt 8 (Cert.AdamOutIdeal.Gen.cfgM m (Cert.AdamOutIdeal.Sums.ok m)).N,
    fun c => (Cert.AdamOutIdeal.Gen.dats m (Cert.AdamOutIdeal.Sums.ok m) 0 c).arrAt 9 (Cert.AdamOutIdeal.Gen.cfgM m (Cert.AdamOutIdeal.Sums.ok m)).N,
    fun c => (Cert.AdamOutIdeal.Gen.dats m (Cert.AdamOutIdeal.Sums.ok m) 0 c).arrAt 10 (Cert.AdamOutIdeal.Gen.cfgM m (Cert.AdamOutIdeal.Sums.ok m)).N, ?_, ?_⟩
  · exact (θ_run _ _ _).mono (fun _ h c => ⟨(h.1 c).1 7, (h.1 c).1 8, (h.1 c).1 9, (h.1 c).1 10, h.2 c⟩)
      (θ_run_and (Cert.AdamOutIdeal.Gen.run_main m g (Cert.AdamOutIdeal.Sums.ok m)) (Cert.AdamOutIdeal.Gen.unchanged m g (Cert.AdamOutIdeal.Sums.ok m)))
  · refine (θ_run _ _ _).mono (fun _ h c => ⟨(h c).1.trans ?_, (h c).2.1.trans ?_, (h c).2.2.1.trans ?_,
      (h c).2.2.2.1.trans ?_, (h c).2.2.2.2⟩) (Cert.AdamOutReferenceIdeal.Value.run m' g')
    · rw [(hagree c).2.2.2.1, (hagree c).2.2.2.2]
      exact (Cert.AdamOutReferenceIdeal.Read.val_main_v11_eq _ _).trans (Cert.AdamOutIdeal.Sums.final_g m c).symm
    · rw [(hagree c).1, (hagree c).2.1, (hagree c).2.2.1, (hagree c).2.2.2.1, (hagree c).2.2.2.2]
      exact (Cert.AdamOutReferenceIdeal.Read.val_main_v35_eq _ _ _ _ _).trans (Cert.AdamOutIdeal.Sums.final_d m c).symm
    · rw [(hagree c).2.1, (hagree c).2.2.2.1, (hagree c).2.2.2.2]
      exact (Cert.AdamOutReferenceIdeal.Read.val_main_v16_eq _ _ _).trans (Cert.AdamOutIdeal.Sums.final_m m c).symm
    · rw [(hagree c).2.2.1, (hagree c).2.2.2.1, (hagree c).2.2.2.2]
      exact (Cert.AdamOutReferenceIdeal.Read.val_main_v22_eq _ _ _).trans (Cert.AdamOutIdeal.Sums.final_v m c).symm

/-- The plain reference of the optimiser call of the output projection's weight runs safely to its end. -/
theorem safe_AdamOutReference : Cert.quiescent_AdamOutReferenceIdeal := fun m g _ =>
  (θ_run _ _ _).mono (fun _ h => ⟨fun c => (h c).2.2.2.2, sem_eq_zero_of_no_sems rfl _⟩)
    (Cert.AdamOutReferenceIdeal.Value.run m g)

/-- The optimiser call of the input projection's weight ends, for every input, with the values of its plain reference. -/
theorem value_AdamIn : Cert.algebraic_AdamInIdeal_AdamInReferenceIdeal := by
  intro m g m' g' hpre hagree
  refine ⟨fun c => (Cert.AdamInIdeal.Gen.dats m (Cert.AdamInIdeal.Sums.ok m) 0 c).arrAt 7 (Cert.AdamInIdeal.Gen.cfgM m (Cert.AdamInIdeal.Sums.ok m)).N,
    fun c => (Cert.AdamInIdeal.Gen.dats m (Cert.AdamInIdeal.Sums.ok m) 0 c).arrAt 8 (Cert.AdamInIdeal.Gen.cfgM m (Cert.AdamInIdeal.Sums.ok m)).N,
    fun c => (Cert.AdamInIdeal.Gen.dats m (Cert.AdamInIdeal.Sums.ok m) 0 c).arrAt 9 (Cert.AdamInIdeal.Gen.cfgM m (Cert.AdamInIdeal.Sums.ok m)).N,
    fun c => (Cert.AdamInIdeal.Gen.dats m (Cert.AdamInIdeal.Sums.ok m) 0 c).arrAt 10 (Cert.AdamInIdeal.Gen.cfgM m (Cert.AdamInIdeal.Sums.ok m)).N, ?_, ?_⟩
  · exact (θ_run _ _ _).mono (fun _ h c => ⟨(h.1 c).1 7, (h.1 c).1 8, (h.1 c).1 9, (h.1 c).1 10, h.2 c⟩)
      (θ_run_and (Cert.AdamInIdeal.Gen.run_main m g (Cert.AdamInIdeal.Sums.ok m)) (Cert.AdamInIdeal.Gen.unchanged m g (Cert.AdamInIdeal.Sums.ok m)))
  · refine (θ_run _ _ _).mono (fun _ h c => ⟨(h c).1.trans ?_, (h c).2.1.trans ?_, (h c).2.2.1.trans ?_,
      (h c).2.2.2.1.trans ?_, (h c).2.2.2.2⟩) (Cert.AdamInReferenceIdeal.Value.run m' g')
    · rw [(hagree c).2.2.2.1, (hagree c).2.2.2.2]
      exact (Cert.AdamInReferenceIdeal.Read.val_main_v11_eq _ _).trans (Cert.AdamInIdeal.Sums.final_g m c).symm
    · rw [(hagree c).1, (hagree c).2.1, (hagree c).2.2.1, (hagree c).2.2.2.1, (hagree c).2.2.2.2]
      exact (Cert.AdamInReferenceIdeal.Read.val_main_v35_eq _ _ _ _ _).trans (Cert.AdamInIdeal.Sums.final_d m c).symm
    · rw [(hagree c).2.1, (hagree c).2.2.2.1, (hagree c).2.2.2.2]
      exact (Cert.AdamInReferenceIdeal.Read.val_main_v16_eq _ _ _).trans (Cert.AdamInIdeal.Sums.final_m m c).symm
    · rw [(hagree c).2.2.1, (hagree c).2.2.2.1, (hagree c).2.2.2.2]
      exact (Cert.AdamInReferenceIdeal.Read.val_main_v22_eq _ _ _).trans (Cert.AdamInIdeal.Sums.final_v m c).symm

/-- The plain reference of the optimiser call of the input projection's weight runs safely to its end. -/
theorem safe_AdamInReference : Cert.quiescent_AdamInReferenceIdeal := fun m g _ =>
  (θ_run _ _ _).mono (fun _ h => ⟨fun c => (h c).2.2.2.2, sem_eq_zero_of_no_sems rfl _⟩)
    (Cert.AdamInReferenceIdeal.Value.run m g)

/-- The first layer's optimiser call of the weight into the feed-forward block ends, for every input, with the values of its plain reference. -/
theorem value_AdamUp : Cert.algebraic_AdamUpIdeal_AdamUpReferenceIdeal := by
  intro m g m' g' hpre hagree
  refine ⟨fun c => (Cert.AdamUpIdeal.Gen.dats m (Cert.AdamUpIdeal.Sums.ok m) 0 c).arrAt 7 (Cert.AdamUpIdeal.Gen.cfgM m (Cert.AdamUpIdeal.Sums.ok m)).N,
    fun c => (Cert.AdamUpIdeal.Gen.dats m (Cert.AdamUpIdeal.Sums.ok m) 0 c).arrAt 8 (Cert.AdamUpIdeal.Gen.cfgM m (Cert.AdamUpIdeal.Sums.ok m)).N,
    fun c => (Cert.AdamUpIdeal.Gen.dats m (Cert.AdamUpIdeal.Sums.ok m) 0 c).arrAt 9 (Cert.AdamUpIdeal.Gen.cfgM m (Cert.AdamUpIdeal.Sums.ok m)).N,
    fun c => (Cert.AdamUpIdeal.Gen.dats m (Cert.AdamUpIdeal.Sums.ok m) 0 c).arrAt 10 (Cert.AdamUpIdeal.Gen.cfgM m (Cert.AdamUpIdeal.Sums.ok m)).N, ?_, ?_⟩
  · exact (θ_run _ _ _).mono (fun _ h c => ⟨(h.1 c).1 7, (h.1 c).1 8, (h.1 c).1 9, (h.1 c).1 10, h.2 c⟩)
      (θ_run_and (Cert.AdamUpIdeal.Gen.run_main m g (Cert.AdamUpIdeal.Sums.ok m)) (Cert.AdamUpIdeal.Gen.unchanged m g (Cert.AdamUpIdeal.Sums.ok m)))
  · refine (θ_run _ _ _).mono (fun _ h c => ⟨(h c).1.trans ?_, (h c).2.1.trans ?_, (h c).2.2.1.trans ?_,
      (h c).2.2.2.1.trans ?_, (h c).2.2.2.2⟩) (Cert.AdamUpReferenceIdeal.Value.run m' g')
    · rw [(hagree c).2.2.2.1, (hagree c).2.2.2.2.1, (hagree c).2.2.2.2.2.1]
      exact (Cert.AdamUpReferenceIdeal.Read.val_main_v45_eq _ _ _).trans (Cert.AdamUpIdeal.Sums.final_g m c).symm
    · refine (Cert.AdamUpReferenceIdeal.Read.val_main_v50_eq m' c).trans ?_
      rw [(hagree c).1, (hagree c).2.1, (hagree c).2.2.1, (hagree c).2.2.2.1, (hagree c).2.2.2.2.1, (hagree c).2.2.2.2.2.2.1]
      exact (Cert.AdamUpIdeal.Sums.final_d m c).symm
    · rw [(hagree c).2.1, (hagree c).2.2.2.1, (hagree c).2.2.2.2.1, (hagree c).2.2.2.2.2.2.2.1]
      exact (Cert.AdamUpReferenceIdeal.Read.val_main_v55_eq _ _ _ _).trans (Cert.AdamUpIdeal.Sums.final_m m c).symm
    · rw [(hagree c).2.2.1, (hagree c).2.2.2.1, (hagree c).2.2.2.2.1, (hagree c).2.2.2.2.2.2.2.2]
      exact (Cert.AdamUpReferenceIdeal.Read.val_main_v60_eq _ _ _ _).trans (Cert.AdamUpIdeal.Sums.final_v m c).symm

/-- The plain reference of the first layer's optimiser call of the weight into the feed-forward block runs safely to its end. -/
theorem safe_AdamUpReference : Cert.quiescent_AdamUpReferenceIdeal := fun m g _ =>
  (θ_run _ _ _).mono (fun _ h => ⟨fun c => (h c).2.2.2.2, sem_eq_zero_of_no_sems rfl _⟩)
    (Cert.AdamUpReferenceIdeal.Value.run m g)

/-- The first layer's optimiser call of the weight out of the feed-forward block ends, for every input, with the values of its plain reference. -/
theorem value_AdamDown : Cert.algebraic_AdamDownIdeal_AdamDownReferenceIdeal := by
  intro m g m' g' hpre hagree
  refine ⟨fun c => (Cert.AdamDownIdeal.Gen.dats m (Cert.AdamDownIdeal.Sums.ok m) 0 c).arrAt 7 (Cert.AdamDownIdeal.Gen.cfgM m (Cert.AdamDownIdeal.Sums.ok m)).N,
    fun c => (Cert.AdamDownIdeal.Gen.dats m (Cert.AdamDownIdeal.Sums.ok m) 0 c).arrAt 8 (Cert.AdamDownIdeal.Gen.cfgM m (Cert.AdamDownIdeal.Sums.ok m)).N,
    fun c => (Cert.AdamDownIdeal.Gen.dats m (Cert.AdamDownIdeal.Sums.ok m) 0 c).arrAt 9 (Cert.AdamDownIdeal.Gen.cfgM m (Cert.AdamDownIdeal.Sums.ok m)).N,
    fun c => (Cert.AdamDownIdeal.Gen.dats m (Cert.AdamDownIdeal.Sums.ok m) 0 c).arrAt 10 (Cert.AdamDownIdeal.Gen.cfgM m (Cert.AdamDownIdeal.Sums.ok m)).N, ?_, ?_⟩
  · exact (θ_run _ _ _).mono (fun _ h c => ⟨(h.1 c).1 7, (h.1 c).1 8, (h.1 c).1 9, (h.1 c).1 10, h.2 c⟩)
      (θ_run_and (Cert.AdamDownIdeal.Gen.run_main m g (Cert.AdamDownIdeal.Sums.ok m)) (Cert.AdamDownIdeal.Gen.unchanged m g (Cert.AdamDownIdeal.Sums.ok m)))
  · refine (θ_run _ _ _).mono (fun _ h c => ⟨(h c).1.trans ?_, (h c).2.1.trans ?_, (h c).2.2.1.trans ?_,
      (h c).2.2.2.1.trans ?_, (h c).2.2.2.2⟩) (Cert.AdamDownReferenceIdeal.Value.run m' g')
    · rw [(hagree c).2.2.2.1, (hagree c).2.2.2.2.1, (hagree c).2.2.2.2.2.1]
      exact (Cert.AdamDownReferenceIdeal.Read.val_main_v45_eq _ _ _).trans (Cert.AdamDownIdeal.Sums.final_g m c).symm
    · refine (Cert.AdamDownReferenceIdeal.Read.val_main_v50_eq m' c).trans ?_
      rw [(hagree c).1, (hagree c).2.1, (hagree c).2.2.1, (hagree c).2.2.2.1, (hagree c).2.2.2.2.1, (hagree c).2.2.2.2.2.2.1]
      exact (Cert.AdamDownIdeal.Sums.final_d m c).symm
    · rw [(hagree c).2.1, (hagree c).2.2.2.1, (hagree c).2.2.2.2.1, (hagree c).2.2.2.2.2.2.2.1]
      exact (Cert.AdamDownReferenceIdeal.Read.val_main_v55_eq _ _ _ _).trans (Cert.AdamDownIdeal.Sums.final_m m c).symm
    · rw [(hagree c).2.2.1, (hagree c).2.2.2.1, (hagree c).2.2.2.2.1, (hagree c).2.2.2.2.2.2.2.2]
      exact (Cert.AdamDownReferenceIdeal.Read.val_main_v60_eq _ _ _ _).trans (Cert.AdamDownIdeal.Sums.final_v m c).symm

/-- The plain reference of the first layer's optimiser call of the weight out of the feed-forward block runs safely to its end. -/
theorem safe_AdamDownReference : Cert.quiescent_AdamDownReferenceIdeal := fun m g _ =>
  (θ_run _ _ _).mono (fun _ h => ⟨fun c => (h c).2.2.2.2, sem_eq_zero_of_no_sems rfl _⟩)
    (Cert.AdamDownReferenceIdeal.Value.run m g)

/-- The first layer's optimiser call of the layer input's weight ends, for every input, with the values of its plain reference. -/
theorem value_AdamPle : Cert.algebraic_AdamPleIdeal_AdamPleReferenceIdeal := by
  intro m g m' g' hpre hagree
  refine ⟨fun c => (Cert.AdamPleIdeal.Gen.dats m (Cert.AdamPleIdeal.Sums.ok m) 0 c).arrAt 7 (Cert.AdamPleIdeal.Gen.cfgM m (Cert.AdamPleIdeal.Sums.ok m)).N,
    fun c => (Cert.AdamPleIdeal.Gen.dats m (Cert.AdamPleIdeal.Sums.ok m) 0 c).arrAt 8 (Cert.AdamPleIdeal.Gen.cfgM m (Cert.AdamPleIdeal.Sums.ok m)).N,
    fun c => (Cert.AdamPleIdeal.Gen.dats m (Cert.AdamPleIdeal.Sums.ok m) 0 c).arrAt 9 (Cert.AdamPleIdeal.Gen.cfgM m (Cert.AdamPleIdeal.Sums.ok m)).N,
    fun c => (Cert.AdamPleIdeal.Gen.dats m (Cert.AdamPleIdeal.Sums.ok m) 0 c).arrAt 10 (Cert.AdamPleIdeal.Gen.cfgM m (Cert.AdamPleIdeal.Sums.ok m)).N, ?_, ?_⟩
  · exact (θ_run _ _ _).mono (fun _ h c => ⟨(h.1 c).1 7, (h.1 c).1 8, (h.1 c).1 9, (h.1 c).1 10, h.2 c⟩)
      (θ_run_and (Cert.AdamPleIdeal.Gen.run_main m g (Cert.AdamPleIdeal.Sums.ok m)) (Cert.AdamPleIdeal.Gen.unchanged m g (Cert.AdamPleIdeal.Sums.ok m)))
  · refine (θ_run _ _ _).mono (fun _ h c => ⟨(h c).1.trans ?_, (h c).2.1.trans ?_, (h c).2.2.1.trans ?_,
      (h c).2.2.2.1.trans ?_, (h c).2.2.2.2⟩) (Cert.AdamPleReferenceIdeal.Value.run m' g')
    · rw [(hagree c).2.2.2.1, (hagree c).2.2.2.2.1, (hagree c).2.2.2.2.2.1]
      exact (Cert.AdamPleReferenceIdeal.Read.val_main_v45_eq _ _ _).trans (Cert.AdamPleIdeal.Sums.final_g m c).symm
    · rw [(hagree c).1, (hagree c).2.1, (hagree c).2.2.1, (hagree c).2.2.2.1, (hagree c).2.2.2.2.1, (hagree c).2.2.2.2.2.2.1]
      exact (Cert.AdamPleReferenceIdeal.Read.val_main_v50_eq _ _ _ _ _ _).trans (Cert.AdamPleIdeal.Sums.final_d m c).symm
    · rw [(hagree c).2.1, (hagree c).2.2.2.1, (hagree c).2.2.2.2.1, (hagree c).2.2.2.2.2.2.2.1]
      exact (Cert.AdamPleReferenceIdeal.Read.val_main_v55_eq _ _ _ _).trans (Cert.AdamPleIdeal.Sums.final_m m c).symm
    · rw [(hagree c).2.2.1, (hagree c).2.2.2.1, (hagree c).2.2.2.2.1, (hagree c).2.2.2.2.2.2.2.2]
      exact (Cert.AdamPleReferenceIdeal.Read.val_main_v60_eq _ _ _ _).trans (Cert.AdamPleIdeal.Sums.final_v m c).symm

/-- The plain reference of the first layer's optimiser call of the layer input's weight runs safely to its end. -/
theorem safe_AdamPleReference : Cert.quiescent_AdamPleReferenceIdeal := fun m g _ =>
  (θ_run _ _ _).mono (fun _ h => ⟨fun c => (h c).2.2.2.2, sem_eq_zero_of_no_sems rfl _⟩)
    (Cert.AdamPleReferenceIdeal.Value.run m g)

/-- The first layer's optimiser call of the gate's weight ends, for every input, with the values of its plain reference. -/
theorem value_AdamGate : Cert.algebraic_AdamGateIdeal_AdamGateReferenceIdeal := by
  intro m g m' g' hpre hagree
  refine ⟨fun c => (Cert.AdamGateIdeal.Gen.dats m (Cert.AdamGateIdeal.Sums.ok m) 0 c).arrAt 7 (Cert.AdamGateIdeal.Gen.cfgM m (Cert.AdamGateIdeal.Sums.ok m)).N,
    fun c => (Cert.AdamGateIdeal.Gen.dats m (Cert.AdamGateIdeal.Sums.ok m) 0 c).arrAt 8 (Cert.AdamGateIdeal.Gen.cfgM m (Cert.AdamGateIdeal.Sums.ok m)).N,
    fun c => (Cert.AdamGateIdeal.Gen.dats m (Cert.AdamGateIdeal.Sums.ok m) 0 c).arrAt 9 (Cert.AdamGateIdeal.Gen.cfgM m (Cert.AdamGateIdeal.Sums.ok m)).N,
    fun c => (Cert.AdamGateIdeal.Gen.dats m (Cert.AdamGateIdeal.Sums.ok m) 0 c).arrAt 10 (Cert.AdamGateIdeal.Gen.cfgM m (Cert.AdamGateIdeal.Sums.ok m)).N, ?_, ?_⟩
  · exact (θ_run _ _ _).mono (fun _ h c => ⟨(h.1 c).1 7, (h.1 c).1 8, (h.1 c).1 9, (h.1 c).1 10, h.2 c⟩)
      (θ_run_and (Cert.AdamGateIdeal.Gen.run_main m g (Cert.AdamGateIdeal.Sums.ok m)) (Cert.AdamGateIdeal.Gen.unchanged m g (Cert.AdamGateIdeal.Sums.ok m)))
  · refine (θ_run _ _ _).mono (fun _ h c => ⟨(h c).1.trans ?_, (h c).2.1.trans ?_, (h c).2.2.1.trans ?_,
      (h c).2.2.2.1.trans ?_, (h c).2.2.2.2⟩) (Cert.AdamGateReferenceIdeal.Value.run m' g')
    · rw [(hagree c).2.2.2.1, (hagree c).2.2.2.2.1, (hagree c).2.2.2.2.2.1]
      exact (Cert.AdamGateReferenceIdeal.Read.val_main_v45_eq _ _ _).trans (Cert.AdamGateIdeal.Sums.final_g m c).symm
    · rw [(hagree c).1, (hagree c).2.1, (hagree c).2.2.1, (hagree c).2.2.2.1, (hagree c).2.2.2.2.1, (hagree c).2.2.2.2.2.2.1]
      exact (Cert.AdamGateReferenceIdeal.Read.val_main_v50_eq _ _ _ _ _ _).trans (Cert.AdamGateIdeal.Sums.final_d m c).symm
    · rw [(hagree c).2.1, (hagree c).2.2.2.1, (hagree c).2.2.2.2.1, (hagree c).2.2.2.2.2.2.2.1]
      exact (Cert.AdamGateReferenceIdeal.Read.val_main_v55_eq _ _ _ _).trans (Cert.AdamGateIdeal.Sums.final_m m c).symm
    · rw [(hagree c).2.2.1, (hagree c).2.2.2.1, (hagree c).2.2.2.2.1, (hagree c).2.2.2.2.2.2.2.2]
      exact (Cert.AdamGateReferenceIdeal.Read.val_main_v60_eq _ _ _ _).trans (Cert.AdamGateIdeal.Sums.final_v m c).symm

/-- The plain reference of the first layer's optimiser call of the gate's weight runs safely to its end. -/
theorem safe_AdamGateReference : Cert.quiescent_AdamGateReferenceIdeal := fun m g _ =>
  (θ_run _ _ _).mono (fun _ h => ⟨fun c => (h c).2.2.2.2, sem_eq_zero_of_no_sems rfl _⟩)
    (Cert.AdamGateReferenceIdeal.Value.run m g)

/-- The call of the gate of the layer input ends, for every input, with the values of its plain reference. -/
theorem value_Gate : Cert.algebraic_GateIdeal_GateReferenceIdeal := by
  pair_intro
  · run_from Cert.GateIdeal.Gen.run_main m g
  · run_from Cert.GateReferenceIdeal.Value.run m' g'
    · exact (Cert.GateReferenceIdeal.Read.val_main_v8_eq _ _ _).trans (Cert.GateIdeal.Sums.final_stream m c).symm
    · exact (Cert.GateReferenceIdeal.Read.val_main_v6_eq _ _).trans (Cert.GateIdeal.Sums.final_gate m c).symm
    · exact (Cert.GateReferenceIdeal.Read.val_main_v9_eq _ _ _).trans (Cert.GateIdeal.Sums.final_rounded m c).symm

/-- The plain reference of the gate of the layer input runs safely to its end. -/
theorem safe_GateReference : Cert.quiescent_GateReferenceIdeal := fun m g _ =>
  (θ_run _ _ _).mono (fun _ h => ⟨fun c => (h c).2.2.2, sem_eq_zero_of_no_sems rfl _⟩)
    (Cert.GateReferenceIdeal.Value.run m g)

/-- The call of the product of the layer input and its projection ends, for every input, with the values of its plain reference. -/
theorem value_Ple : Cert.algebraic_PleIdeal_PleReferenceIdeal := by
  pair_intro
  · run_from Cert.PleIdeal.Gen.run_main m g
  · run_from Cert.PleReferenceIdeal.Value.run m' g'
    exact (Cert.PleReferenceIdeal.Read.val_main_v0_eq _ _).trans (Cert.PleIdeal.Sums.final m c).symm

/-- The plain reference of the product of the layer input and its projection runs safely to its end. -/
theorem safe_PleReference : Cert.quiescent_PleReferenceIdeal := fun m g _ =>
  (θ_run _ _ _).mono (fun _ h => ⟨fun c => (h c).2, sem_eq_zero_of_no_sems rfl _⟩)
    (Cert.PleReferenceIdeal.Value.run m g)

/-- The call of the product of the gradient of that projection's weight ends, for every input, with the values of its plain reference. -/
theorem value_PleW : Cert.algebraic_PleWIdeal_PleWReferenceIdeal := by
  pair_intro
  · run_from Cert.PleWIdeal.Gen.run_main m g
  · run_from Cert.PleWReferenceIdeal.Value.run m' g'
    exact (Cert.PleWReferenceIdeal.Read.val_main_v6_eq _ _).trans (Cert.PleWIdeal.Sums.final m c).symm

/-- The plain reference of the product of the gradient of that projection's weight runs safely to its end. -/
theorem safe_PleWReference : Cert.quiescent_PleWReferenceIdeal := fun m g _ =>
  (θ_run _ _ _).mono (fun _ h => ⟨fun c => (h c).2, sem_eq_zero_of_no_sems rfl _⟩)
    (Cert.PleWReferenceIdeal.Value.run m g)

/-- The call of the mapping of the pooled values ends, for every input, with the values of its plain reference. -/
theorem value_Pool : Cert.algebraic_PoolIdeal_PoolReferenceIdeal := by
  pair_intro
  · run_from Cert.PoolIdeal.Gen.run_main m g
  · run_from Cert.PoolReferenceIdeal.Value.run m' g'
    · exact (Cert.PoolReferenceIdeal.Read.val_main_v8_eq _ _ _ _).trans (Cert.PoolIdeal.Sums.final_stream m c).symm
    · exact (Cert.PoolReferenceIdeal.Read.val_main_v3_eq _ _).trans (Cert.PoolIdeal.Sums.final_mapped m c).symm

/-- The plain reference of the mapping of the pooled values runs safely to its end. -/
theorem safe_PoolReference : Cert.quiescent_PoolReferenceIdeal := fun m g _ =>
  (θ_run _ _ _).mono (fun _ h => ⟨fun c => (h c).2.2, sem_eq_zero_of_no_sems rfl _⟩)
    (Cert.PoolReferenceIdeal.Value.run m g)

/-- The call of the gradients of the mapping of the pooled values ends, for every input, with the values of its plain reference. -/
theorem value_PoolX : Cert.algebraic_PoolXIdeal_PoolXReferenceIdeal := by
  pair_intro
  · run_from Cert.PoolXIdeal.Gen.run_main m g
  · refine (θ_run _ _ _).mono (fun _ h c => ⟨(h c).1.trans ?_, (h c).2.1.trans ?_, (h c).2.2.1.trans ?_, (h c).2.2.2⟩)
      (Cert.PoolXReferenceIdeal.Value.run m' g')
    · rw [(hagree c).1, (hagree c).2.2.2]
      exact (Cert.PoolXReferenceIdeal.Read.val_main_v17_eq _ _).trans (Cert.PoolXIdeal.Sums.final_mapped m c).symm
    · rw [(hagree c).1, (hagree c).2.2.1, (hagree c).2.2.2]
      exact (Cert.PoolXReferenceIdeal.Read.val_main_v16_eq _ _ _).trans (Cert.PoolXIdeal.Sums.final_pooled m c).symm
    · rw [(hagree c).1, (hagree c).2.1]
      exact (Cert.PoolXReferenceIdeal.Read.val_main_v4_eq _ _).trans (Cert.PoolXIdeal.Sums.final_scale m c).symm

/-- The plain reference of the gradients of the mapping of the pooled values runs safely to its end. -/
theorem safe_PoolXReference : Cert.quiescent_PoolXReferenceIdeal := fun m g _ =>
  (θ_run _ _ _).mono (fun _ h => ⟨fun c => (h c).2.2.2, sem_eq_zero_of_no_sems rfl _⟩)
    (Cert.PoolXReferenceIdeal.Value.run m g)

/-- The call of the gradient of that mapping's weights ends, for every input, with the values of its plain reference. -/
theorem value_PoolW : Cert.algebraic_PoolWIdeal_PoolWReferenceIdeal := by
  pair_intro
  · run_from Cert.PoolWIdeal.Gen.run_main m g
  · run_from Cert.PoolWReferenceIdeal.Value.run m' g'
    exact (Cert.PoolWReferenceIdeal.Read.val_main_v9_eq _ _).trans (Cert.PoolWIdeal.Sums.final m c).symm

/-- The plain reference of the gradient of that mapping's weights runs safely to its end. -/
theorem safe_PoolWReference : Cert.quiescent_PoolWReferenceIdeal := fun m g _ =>
  (θ_run _ _ _).mono (fun _ h => ⟨fun c => (h c).2, sem_eq_zero_of_no_sems rfl _⟩)
    (Cert.PoolWReferenceIdeal.Value.run m g)

/-- The precondition of the pooling's gradient: its shapes fit. -/
theorem facts_numbers : Cert.Pre_numbers.Facts where
  bcast_S_S2048x2048 := by decide
  reducesTo_S2048x2048_S_d0_1 := by decide
  h_S_ := by decide

/-- The call of the gradient of the pooling by windows ends, where the gradient of the pooled values is finite, with the values of its plain reference. -/
theorem value_MeansX [Cert.Pre_numbers.Facts] : Cert.algebraic_MeansXIdeal_MeansXReferenceIdeal_pre_numbers := by
  intro m g m' g' hpre hagree
  have hx (c : Dev Cert.MeansXIdeal.nD) (i k : Fin 2048) :
      m ((c.tc : Thread Cert.MeansXIdeal.nD Cert.MeansXIdeal.τ).loc Cert.MeansXIdeal.main_arg0) (ix2 i k)
        = ((Cert.Pre_finite.Scan.entry (m ((c.tc : Thread Cert.MeansXIdeal.nD Cert.MeansXIdeal.τ).loc Cert.MeansXIdeal.main_arg0)) i k : ℝ) : EReal) :=
    (Cert.Pre_finite.Scan.real_of_finite _ _ _ _ ix0 (congrFun (hpre c) ix0) (ix2 i k)).trans
      (congrArg _ (Cert.Pre_finite.Scan.entry_eq _ i k).symm)
  refine ⟨fun c => (Cert.MeansXIdeal.Gen.dats m 0 c).arrAt 2 Cert.MeansXIdeal.cfg0.N, ?_, ?_⟩
  · exact (θ_run _ _ _).mono (fun _ h c => ⟨(h.1 c).1 2, h.2 c⟩) (θ_run_and (Cert.MeansXIdeal.Gen.run_main m g) (Cert.MeansXIdeal.Gen.unchanged m g))
  · refine (θ_run _ _ _).mono (fun _ h c => ⟨(h c).1.trans ?_, (h c).2⟩) (Cert.MeansXReferenceIdeal.Value.run m' g')
    refine (Cert.MeansXReferenceIdeal.Read.val_main_v124_eq _ _).trans ?_
    rw [(hagree c).1, (hagree c).2]
    exact (Cert.MeansXIdeal.Sums.final m c _ (hx c)).symm

/-- The plain reference of the gradient of the pooling by windows runs safely to its end. -/
theorem safe_MeansXReference : Cert.quiescent_MeansXReferenceIdeal := fun m g _ =>
  (θ_run _ _ _).mono (fun _ h => ⟨fun c => (h c).2, sem_eq_zero_of_no_sems rfl _⟩)
    (Cert.MeansXReferenceIdeal.Value.run m g)

/-- The backward call of the state-space scan, for finite arguments, and the four product calls of the feed-forward block's
backward pass, for every input, run safely to their end with the values of their plain references. -/
theorem claim : Cert.Claim := ⟨Cert.Kernel.Gen.facts, Cert.KernelIdeal.Gen.facts, Cert.ReferenceIdeal.Gen.facts, Cert.DownW.Gen.facts, Cert.DownWIdeal.Gen.facts, Cert.DownWReferenceIdeal.Gen.facts, Cert.DownX.Gen.facts, Cert.DownXIdeal.Gen.facts, Cert.DownXReferenceIdeal.Gen.facts, Cert.UpW.Gen.facts, Cert.UpWIdeal.Gen.facts, Cert.UpWReferenceIdeal.Gen.facts, Cert.UpX.Gen.facts, Cert.UpXIdeal.Gen.facts, Cert.UpXReferenceIdeal.Gen.facts, Cert.OutW.Gen.facts, Cert.OutWIdeal.Gen.facts, Cert.OutWReferenceIdeal.Gen.facts, Cert.OutX.Gen.facts, Cert.OutXIdeal.Gen.facts, Cert.OutXReferenceIdeal.Gen.facts, Cert.InX.Gen.facts, Cert.InXIdeal.Gen.facts, Cert.InXReferenceIdeal.Gen.facts, Cert.GateW.Gen.facts, Cert.GateWIdeal.Gen.facts, Cert.GateWReferenceIdeal.Gen.facts, Cert.GateX.Gen.facts, Cert.GateXIdeal.Gen.facts, Cert.GateXReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.In.Gen.facts, Cert.InIdeal.Gen.facts, Cert.InReferenceIdeal.Gen.facts, Cert.Out.Gen.facts, Cert.OutIdeal.Gen.facts, Cert.OutReferenceIdeal.Gen.facts, Cert.Gate.Gen.facts, Cert.GateIdeal.Gen.facts, Cert.GateReferenceIdeal.Gen.facts, Cert.Ple.Gen.facts, Cert.PleIdeal.Gen.facts, Cert.PleReferenceIdeal.Gen.facts, Cert.PleW.Gen.facts, Cert.PleWIdeal.Gen.facts, Cert.PleWReferenceIdeal.Gen.facts, Cert.Pool.Gen.facts, Cert.PoolIdeal.Gen.facts, Cert.PoolReferenceIdeal.Gen.facts, Cert.PoolX.Gen.facts, Cert.PoolXIdeal.Gen.facts, Cert.PoolXReferenceIdeal.Gen.facts, Cert.PoolW.Gen.facts, Cert.PoolWIdeal.Gen.facts, Cert.PoolWReferenceIdeal.Gen.facts, Cert.MeansX.Gen.facts, Cert.MeansXIdeal.Gen.facts, Cert.MeansXReferenceIdeal.Gen.facts, Cert.AdamPool.Gen.facts, Cert.AdamPoolIdeal.Gen.facts, Cert.AdamPoolReferenceIdeal.Gen.facts, Cert.AdamOut.Gen.facts, Cert.AdamOutIdeal.Gen.facts, Cert.AdamOutReferenceIdeal.Gen.facts, Cert.AdamIn.Gen.facts, Cert.AdamInIdeal.Gen.facts, Cert.AdamInReferenceIdeal.Gen.facts, Cert.AdamUp.Gen.facts, Cert.AdamUpIdeal.Gen.facts, Cert.AdamUpReferenceIdeal.Gen.facts, Cert.AdamDown.Gen.facts, Cert.AdamDownIdeal.Gen.facts, Cert.AdamDownReferenceIdeal.Gen.facts, Cert.AdamPle.Gen.facts, Cert.AdamPleIdeal.Gen.facts, Cert.AdamPleReferenceIdeal.Gen.facts, Cert.AdamGate.Gen.facts, Cert.AdamGateIdeal.Gen.facts, Cert.AdamGateReferenceIdeal.Gen.facts, Cert.Pre_finite.Scan.facts, facts_numbers,
  fun m ρ _ => Cert.Kernel.Gen.frame m ρ,
  fun m ρ _ => Cert.KernelIdeal.Gen.frame m ρ,
  fun m ρ _ => Cert.KernelIdeal.Gen.frame m ρ,
  safe_Reference,
  fun m ρ _ => safe_Reference m ρ trivial,
  fun m ρ _ => Cert.DownW.Gen.frame m ρ,
  fun m ρ _ => Cert.DownWIdeal.Gen.frame m ρ,
  safe_DownWReference,
  fun m ρ _ => Cert.DownX.Gen.frame m ρ,
  fun m ρ _ => Cert.DownXIdeal.Gen.frame m ρ,
  safe_DownXReference,
  fun m ρ _ => Cert.UpW.Gen.frame m ρ,
  fun m ρ _ => Cert.UpWIdeal.Gen.frame m ρ,
  safe_UpWReference,
  fun m ρ _ => Cert.UpX.Gen.frame m ρ,
  fun m ρ _ => Cert.UpXIdeal.Gen.frame m ρ,
  safe_UpXReference,
  fun m ρ _ => Cert.OutW.Gen.frame m ρ,
  fun m ρ _ => Cert.OutWIdeal.Gen.frame m ρ,
  safe_OutWReference,
  fun m ρ _ => Cert.OutX.Gen.frame m ρ,
  fun m ρ _ => Cert.OutXIdeal.Gen.frame m ρ,
  safe_OutXReference,
  fun m ρ _ => Cert.InX.Gen.frame m ρ,
  fun m ρ _ => Cert.InXIdeal.Gen.frame m ρ,
  safe_InXReference,
  fun m ρ _ => Cert.GateW.Gen.frame m ρ,
  fun m ρ _ => Cert.GateWIdeal.Gen.frame m ρ,
  safe_GateWReference,
  fun m ρ _ => Cert.GateX.Gen.frame m ρ,
  fun m ρ _ => Cert.GateXIdeal.Gen.frame m ρ,
  safe_GateXReference,
  fun m ρ _ => Cert.Up.Gen.frame m ρ,
  fun m ρ _ => Cert.UpIdeal.Gen.frame m ρ,
  safe_UpReference,
  fun m ρ _ => Cert.Down.Gen.frame m ρ,
  fun m ρ _ => Cert.DownIdeal.Gen.frame m ρ,
  safe_DownReference,
  fun m ρ _ => Cert.In.Gen.frame m ρ,
  fun m ρ _ => Cert.InIdeal.Gen.frame m ρ,
  safe_InReference,
  fun m ρ _ => Cert.Out.Gen.frame m ρ,
  fun m ρ _ => Cert.OutIdeal.Gen.frame m ρ,
  safe_OutReference,
  fun m ρ _ => Cert.Gate.Gen.frame m ρ,
  fun m ρ _ => Cert.GateIdeal.Gen.frame m ρ,
  safe_GateReference,
  fun m ρ _ => Cert.Ple.Gen.frame m ρ,
  fun m ρ _ => Cert.PleIdeal.Gen.frame m ρ,
  safe_PleReference,
  fun m ρ _ => Cert.PleW.Gen.frame m ρ,
  fun m ρ _ => Cert.PleWIdeal.Gen.frame m ρ,
  safe_PleWReference,
  fun m ρ _ => Cert.Pool.Gen.frame m ρ,
  fun m ρ _ => Cert.PoolIdeal.Gen.frame m ρ,
  safe_PoolReference,
  fun m ρ _ => Cert.PoolX.Gen.frame m ρ,
  fun m ρ _ => Cert.PoolXIdeal.Gen.frame m ρ,
  safe_PoolXReference,
  fun m ρ _ => Cert.PoolW.Gen.frame m ρ,
  fun m ρ _ => Cert.PoolWIdeal.Gen.frame m ρ,
  safe_PoolWReference,
  fun m ρ _ => Cert.MeansX.Gen.frame m ρ,
  fun m ρ _ => Cert.MeansXIdeal.Gen.frame m ρ,
  fun m ρ _ => Cert.MeansXIdeal.Gen.frame m ρ,
  safe_MeansXReference,
  fun m ρ _ => safe_MeansXReference m ρ trivial,
  fun m ρ _ => Cert.AdamPool.Gen.frame m ρ (Cert.AdamTables.ok_AdamPool m),
  fun m ρ _ => Cert.AdamPoolIdeal.Gen.frame m ρ (Cert.AdamPoolIdeal.Sums.ok m),
  safe_AdamPoolReference,
  fun m ρ _ => Cert.AdamOut.Gen.frame m ρ (Cert.AdamTables.ok_AdamOut m),
  fun m ρ _ => Cert.AdamOutIdeal.Gen.frame m ρ (Cert.AdamOutIdeal.Sums.ok m),
  safe_AdamOutReference,
  fun m ρ _ => Cert.AdamIn.Gen.frame m ρ (Cert.AdamTables.ok_AdamIn m),
  fun m ρ _ => Cert.AdamInIdeal.Gen.frame m ρ (Cert.AdamInIdeal.Sums.ok m),
  safe_AdamInReference,
  fun m ρ _ => Cert.AdamUp.Gen.frame m ρ (Cert.AdamTables.ok_AdamUp m),
  fun m ρ _ => Cert.AdamUpIdeal.Gen.frame m ρ (Cert.AdamUpIdeal.Sums.ok m),
  safe_AdamUpReference,
  fun m ρ _ => Cert.AdamDown.Gen.frame m ρ (Cert.AdamTables.ok_AdamDown m),
  fun m ρ _ => Cert.AdamDownIdeal.Gen.frame m ρ (Cert.AdamDownIdeal.Sums.ok m),
  safe_AdamDownReference,
  fun m ρ _ => Cert.AdamPle.Gen.frame m ρ (Cert.AdamTables.ok_AdamPle m),
  fun m ρ _ => Cert.AdamPleIdeal.Gen.frame m ρ (Cert.AdamPleIdeal.Sums.ok m),
  safe_AdamPleReference,
  fun m ρ _ => Cert.AdamGate.Gen.frame m ρ (Cert.AdamTables.ok_AdamGate m),
  fun m ρ _ => Cert.AdamGateIdeal.Gen.frame m ρ (Cert.AdamGateIdeal.Sums.ok m),
  safe_AdamGateReference,
  trivial, @value_Scan Cert.Pre_finite.Scan.facts, trivial, value_DownW, trivial, value_DownX, trivial, value_UpW, trivial, value_UpX, trivial, value_OutW, trivial, value_OutX, trivial, value_InX, trivial, value_GateW, trivial, value_GateX, trivial, value_Up, trivial, value_Down, trivial, value_In, trivial, value_Out, trivial, value_Gate, trivial, value_Ple, trivial, value_PleW, trivial, value_Pool, trivial, value_PoolX, trivial, value_PoolW, trivial, @value_MeansX facts_numbers, trivial, value_AdamPool, trivial, value_AdamOut, trivial, value_AdamIn, trivial, value_AdamUp, trivial, value_AdamDown, trivial, value_AdamPle, trivial, value_AdamGate⟩

end Cert.Proof

end
